-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Reference42Ideal (m : (ℓ : Loc Cert.Reference42Ideal.nD Cert.Reference42Ideal.τ Cert.Reference42Ideal.sig) → Buf (Elt Ideal) ℓ) : Prop :=
  True

def Pre_Kernel43 (m : (ℓ : Loc Cert.Kernel43.nD Cert.Kernel43.τ Cert.Kernel43.sig) → Buf (Elt Bits) ℓ) : Prop :=
  True

def Pre_Kernel43Ideal (m : (ℓ : Loc Cert.Kernel43Ideal.nD Cert.Kernel43Ideal.τ Cert.Kernel43Ideal.sig) → Buf (Elt Ideal) ℓ) : Prop :=
  True

def Pre_Reference43Ideal (m : (ℓ : Loc Cert.Reference43Ideal.nD Cert.Reference43Ideal.τ Cert.Reference43Ideal.sig) → Buf (Elt Ideal) ℓ) : Prop :=
  True

def Pre_Kernel44 (m : (ℓ : Loc Cert.Kernel44.nD Cert.Kernel44.τ Cert.Kernel44.sig) → Buf (Elt Bits) ℓ) : Prop :=
  True

def Pre_Kernel44Ideal (m : (ℓ : Loc Cert.Kernel44Ideal.nD Cert.Kernel44Ideal.τ Cert.Kernel44Ideal.sig) → Buf (Elt Ideal) ℓ) : Prop :=
  True

def Pre_Reference44Ideal (m : (ℓ : Loc Cert.Reference44Ideal.nD Cert.Reference44Ideal.τ Cert.Reference44Ideal.sig) → Buf (Elt Ideal) ℓ) : Prop :=
  True

def Pre_Kernel45 (m : (ℓ : Loc Cert.Kernel45.nD Cert.Kernel45.τ Cert.Kernel45.sig) → Buf (Elt Bits) ℓ) : Prop :=
  True

def Pre_Kernel45Ideal (m : (ℓ : Loc Cert.Kernel45Ideal.nD Cert.Kernel45Ideal.τ Cert.Kernel45Ideal.sig) → Buf (Elt Ideal) ℓ) : Prop :=
  True

def Pre_Reference45Ideal (m : (ℓ : Loc Cert.Reference45Ideal.nD Cert.Reference45Ideal.τ Cert.Reference45Ideal.sig) → Buf (Elt Ideal) ℓ) : Prop :=
  True

def Pre_Kernel46 (m : (ℓ : Loc Cert.Kernel46.nD Cert.Kernel46.τ Cert.Kernel46.sig) → Buf (Elt Bits) ℓ) : Prop :=
  True

def Pre_Kernel46Ideal (m : (ℓ : Loc Cert.Kernel46Ideal.nD Cert.Kernel46Ideal.τ Cert.Kernel46Ideal.sig) → Buf (Elt Ideal) ℓ) : Prop :=
  True

def Pre_Reference46Ideal (m : (ℓ : Loc Cert.Reference46Ideal.nD Cert.Reference46Ideal.τ Cert.Reference46Ideal.sig) → Buf (Elt Ideal) ℓ) : Prop :=
  True

def Pre_Kernel47 (m : (ℓ : Loc Cert.Kernel47.nD Cert.Kernel47.τ Cert.Kernel47.sig) → Buf (Elt Bits) ℓ) : Prop :=
  True

def Pre_Kernel47Ideal (m : (ℓ : Loc Cert.Kernel47Ideal.nD Cert.Kernel47Ideal.τ Cert.Kernel47Ideal.sig) → Buf (Elt Ideal) ℓ) : Prop :=
  True

def Pre_Reference47Ideal (m : (ℓ : Loc Cert.Reference47Ideal.nD Cert.Reference47Ideal.τ Cert.Reference47Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2)
      ∧ r.2.mem ((c.tc : Thread Cert.Kernel40.nD Cert.Kernel40.τ).loc Cert.Kernel40.main_arg3) = m ((c.tc : Thread Cert.Kernel40.nD Cert.Kernel40.τ).loc Cert.Kernel40.main_arg3)
      ∧ r.2.mem ((c.tc : Thread Cert.Kernel40.nD Cert.Kernel40.τ).loc Cert.Kernel40.main_arg4) = m ((c.tc : Thread Cert.Kernel40.nD Cert.Kernel40.τ).loc Cert.Kernel40.main_arg4)
      ∧ r.2.mem ((c.tc : Thread Cert.Kernel40.nD Cert.Kernel40.τ).loc Cert.Kernel40.main_arg5) = m ((c.tc : Thread Cert.Kernel40.nD Cert.Kernel40.τ).loc Cert.Kernel40.main_arg5))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
      ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3)
      ∧ r.2.mem ((c.tc : Thread Cert.Kernel40Ideal.nD Cert.Kernel40Ideal.τ).loc Cert.Kernel40Ideal.main_arg4) = m ((c.tc : Thread Cert.Kernel40Ideal.nD Cert.Kernel40Ideal.τ).loc Cert.Kernel40Ideal.main_arg4)
      ∧ r.2.mem ((c.tc : Thread Cert.Kernel40Ideal.nD Cert.Kernel40Ideal.τ).loc Cert.Kernel40Ideal.main_arg5) = m ((c.tc : Thread Cert.Kernel40Ideal.nD Cert.Kernel40Ideal.τ).loc Cert.Kernel40Ideal.main_arg5))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2)
      ∧ r.2.mem ((c.tc : Thread Cert.Reference40Ideal.nD Cert.Reference40Ideal.τ).loc Cert.Reference40Ideal.main_arg3) = m ((c.tc : Thread Cert.Reference40Ideal.nD Cert.Reference40Ideal.τ).loc Cert.Reference40Ideal.main_arg3)
      ∧ r.2.mem ((c.tc : Thread Cert.Reference40Ideal.nD Cert.Reference40Ideal.τ).loc Cert.Reference40Ideal.main_arg4) = m ((c.tc : Thread Cert.Reference40Ideal.nD Cert.Reference40Ideal.τ).loc Cert.Reference40Ideal.main_arg4)
      ∧ r.2.mem ((c.tc : Thread Cert.Reference40Ideal.nD Cert.Reference40Ideal.τ).loc Cert.Reference40Ideal.main_arg5) = m ((c.tc : Thread Cert.Reference40Ideal.nD Cert.Reference40Ideal.τ).loc Cert.Reference40Ideal.main_arg5))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1)
      ∧ r.2.mem ((c.tc : Thread Cert.Kernel41.nD Cert.Kernel41.τ).loc Cert.Kernel41.main_arg2) = m ((c.tc : Thread Cert.Kernel41.nD Cert.Kernel41.τ).loc Cert.Kernel41.main_arg2)
      ∧ r.2.mem ((c.tc : Thread Cert.Kernel41.nD Cert.Kernel41.τ).loc Cert.Kernel41.main_arg3) = m ((c.tc : Thread Cert.Kernel41.nD Cert.Kernel41.τ).loc Cert.Kernel41.main_arg3))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
      ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
      ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1)
      ∧ r.2.mem ((c.tc : Thread Cert.Reference41Ideal.nD Cert.Reference41Ideal.τ).loc Cert.Reference41Ideal.main_arg2) = m ((c.tc : Thread Cert.Reference41Ideal.nD Cert.Reference41Ideal.τ).loc Cert.Reference41Ideal.main_arg2)
      ∧ r.2.mem ((c.tc : Thread Cert.Reference41Ideal.nD Cert.Reference41Ideal.τ).loc Cert.Reference41Ideal.main_arg3) = m ((c.tc : Thread Cert.Reference41Ideal.nD Cert.Reference41Ideal.τ).loc Cert.Reference41Ideal.main_arg3))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1))
      ∧ r.2.sem = fun _ => 0)

def quiescent_Kernel43 [hKernel43 : Cert.Kernel43.Facts] : Prop :=
  ∀ (m : (ℓ : Loc Cert.Kernel43.nD Cert.Kernel43.τ Cert.Kernel43.sig) → Buf (Elt Bits) ℓ) (g : Dev Cert.Kernel43.nD → PrngReg), Pre_Kernel43 m →
    θ_run (Cert.Kernel43.defs (F := Bits)) (onTc (τ := Cert.Kernel43.τ) (Cert.Kernel43.main (F := Bits))) ⟨m, fun _ => 0, g⟩ (fun r => (∀ c : Dev Cert.Kernel43.nD,
      r.2.mem ((c.tc : Thread Cert.Kernel43.nD Cert.Kernel43.τ).loc Cert.Kernel43.main_arg0) = m ((c.tc : Thread Cert.Kernel43.nD Cert.Kernel43.τ).loc Cert.Kernel43.main_arg0))
      ∧ r.2.sem = fun _ => 0)

def quiescent_Kernel43Ideal [hKernel43Ideal : Cert.Kernel43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg), Pre_Kernel43Ideal m →
    θ_run (Cert.Kernel43Ideal.defs (F := Ideal)) (onTc (τ := Cert.Kernel43Ideal.τ) (Cert.Kernel43Ideal.main (F := Ideal))) ⟨m, fun _ => 0, g⟩ (fun r => (∀ c : Dev Cert.Kernel43Ideal.nD,
      r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0))
      ∧ r.2.sem = fun _ => 0)

def quiescent_Reference43Ideal [hReference43Ideal : Cert.Reference43Ideal.Facts] : Prop :=
  ∀ (m : (ℓ : Loc Cert.Reference43Ideal.nD Cert.Reference43Ideal.τ Cert.Reference43Ideal.sig) → Buf (Elt Ideal) ℓ) (g : Dev Cert.Reference43Ideal.nD → PrngReg), Pre_Reference43Ideal m →
    θ_run (Cert.Reference43Ideal.defs (F := Ideal)) (onTc (τ := Cert.Reference43Ideal.τ) (Cert.Reference43Ideal.main (F := Ideal))) ⟨m, fun _ => 0, g⟩ (fun r => (∀ c : Dev Cert.Reference43Ideal.nD,
      r.2.mem ((c.tc : Thread Cert.Reference43Ideal.nD Cert.Reference43Ideal.τ).loc Cert.Reference43Ideal.main_arg0) = m ((c.tc : Thread Cert.Reference43Ideal.nD Cert.Reference43Ideal.τ).loc Cert.Reference43Ideal.main_arg0))
      ∧ r.2.sem = fun _ => 0)

def quiescent_Kernel44 [hKernel44 : Cert.Kernel44.Facts] : Prop :=
  ∀ (m : (ℓ : Loc Cert.Kernel44.nD Cert.Kernel44.τ Cert.Kernel44.sig) → Buf (Elt Bits) ℓ) (g : Dev Cert.Kernel44.nD → PrngReg), Pre_Kernel44 m →
    θ_run (Cert.Kernel44.defs (F := Bits)) (onTc (τ := Cert.Kernel44.τ) (Cert.Kernel44.main (F := Bits))) ⟨m, fun _ => 0, g⟩ (fun r => (∀ c : Dev Cert.Kernel44.nD,
      r.2.mem ((c.tc : Thread Cert.Kernel44.nD Cert.Kernel44.τ).loc Cert.Kernel44.main_arg0) = m ((c.tc : Thread Cert.Kernel44.nD Cert.Kernel44.τ).loc Cert.Kernel44.main_arg0))
      ∧ r.2.sem = fun _ => 0)

def quiescent_Kernel44Ideal [hKernel44Ideal : Cert.Kernel44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg), Pre_Kernel44Ideal m →
    θ_run (Cert.Kernel44Ideal.defs (F := Ideal)) (onTc (τ := Cert.Kernel44Ideal.τ) (Cert.Kernel44Ideal.main (F := Ideal))) ⟨m, fun _ => 0, g⟩ (fun r => (∀ c : Dev Cert.Kernel44Ideal.nD,
      r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0))
      ∧ r.2.sem = fun _ => 0)

def quiescent_Reference44Ideal [hReference44Ideal : Cert.Reference44Ideal.Facts] : Prop :=
  ∀ (m : (ℓ : Loc Cert.Reference44Ideal.nD Cert.Reference44Ideal.τ Cert.Reference44Ideal.sig) → Buf (Elt Ideal) ℓ) (g : Dev Cert.Reference44Ideal.nD → PrngReg), Pre_Reference44Ideal m →
    θ_run (Cert.Reference44Ideal.defs (F := Ideal)) (onTc (τ := Cert.Reference44Ideal.τ) (Cert.Reference44Ideal.main (F := Ideal))) ⟨m, fun _ => 0, g⟩ (fun r => (∀ c : Dev Cert.Reference44Ideal.nD,
      r.2.mem ((c.tc : Thread Cert.Reference44Ideal.nD Cert.Reference44Ideal.τ).loc Cert.Reference44Ideal.main_arg0) = m ((c.tc : Thread Cert.Reference44Ideal.nD Cert.Reference44Ideal.τ).loc Cert.Reference44Ideal.main_arg0))
      ∧ r.2.sem = fun _ => 0)

def quiescent_Kernel45 [hKernel45 : Cert.Kernel45.Facts] : Prop :=
  ∀ (m : (ℓ : Loc Cert.Kernel45.nD Cert.Kernel45.τ Cert.Kernel45.sig) → Buf (Elt Bits) ℓ) (g : Dev Cert.Kernel45.nD → PrngReg), Pre_Kernel45 m →
    θ_run (Cert.Kernel45.defs (F := Bits)) (onTc (τ := Cert.Kernel45.τ) (Cert.Kernel45.main (F := Bits))) ⟨m, fun _ => 0, g⟩ (fun r => (∀ c : Dev Cert.Kernel45.nD,
      r.2.mem ((c.tc : Thread Cert.Kernel45.nD Cert.Kernel45.τ).loc Cert.Kernel45.main_arg0) = m ((c.tc : Thread Cert.Kernel45.nD Cert.Kernel45.τ).loc Cert.Kernel45.main_arg0)
      ∧ r.2.mem ((c.tc : Thread Cert.Kernel45.nD Cert.Kernel45.τ).loc Cert.Kernel45.main_arg1) = m ((c.tc : Thread Cert.Kernel45.nD Cert.Kernel45.τ).loc Cert.Kernel45.main_arg1)
      ∧ r.2.mem ((c.tc : Thread Cert.Kernel45.nD Cert.Kernel45.τ).loc Cert.Kernel45.main_arg2) = m ((c.tc : Thread Cert.Kernel45.nD Cert.Kernel45.τ).loc Cert.Kernel45.main_arg2))
      ∧ r.2.sem = fun _ => 0)

def quiescent_Kernel45Ideal [hKernel45Ideal : Cert.Kernel45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg), Pre_Kernel45Ideal m →
    θ_run (Cert.Kernel45Ideal.defs (F := Ideal)) (onTc (τ := Cert.Kernel45Ideal.τ) (Cert.Kernel45Ideal.main (F := Ideal))) ⟨m, fun _ => 0, g⟩ (fun r => (∀ c : Dev Cert.Kernel45Ideal.nD,
      r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
      ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1)
      ∧ r.2.mem ((c.tc : Thread Cert.Kernel45Ideal.nD Cert.Kernel45Ideal.τ).loc Cert.Kernel45Ideal.main_arg2) = m ((c.tc : Thread Cert.Kernel45Ideal.nD Cert.Kernel45Ideal.τ).loc Cert.Kernel45Ideal.main_arg2))
      ∧ r.2.sem = fun _ => 0)

def quiescent_Reference45Ideal [hReference45Ideal : Cert.Reference45Ideal.Facts] : Prop :=
  ∀ (m : (ℓ : Loc Cert.Reference45Ideal.nD Cert.Reference45Ideal.τ Cert.Reference45Ideal.sig) → Buf (Elt Ideal) ℓ) (g : Dev Cert.Reference45Ideal.nD → PrngReg), Pre_Reference45Ideal m →
    θ_run (Cert.Reference45Ideal.defs (F := Ideal)) (onTc (τ := Cert.Reference45Ideal.τ) (Cert.Reference45Ideal.main (F := Ideal))) ⟨m, fun _ => 0, g⟩ (fun r => (∀ c : Dev Cert.Reference45Ideal.nD,
      r.2.mem ((c.tc : Thread Cert.Reference45Ideal.nD Cert.Reference45Ideal.τ).loc Cert.Reference45Ideal.main_arg0) = m ((c.tc : Thread Cert.Reference45Ideal.nD Cert.Reference45Ideal.τ).loc Cert.Reference45Ideal.main_arg0)
      ∧ r.2.mem ((c.tc : Thread Cert.Reference45Ideal.nD Cert.Reference45Ideal.τ).loc Cert.Reference45Ideal.main_arg1) = m ((c.tc : Thread Cert.Reference45Ideal.nD Cert.Reference45Ideal.τ).loc Cert.Reference45Ideal.main_arg1)
      ∧ r.2.mem ((c.tc : Thread Cert.Reference45Ideal.nD Cert.Reference45Ideal.τ).loc Cert.Reference45Ideal.main_arg2) = m ((c.tc : Thread Cert.Reference45Ideal.nD Cert.Reference45Ideal.τ).loc Cert.Reference45Ideal.main_arg2))
      ∧ r.2.sem = fun _ => 0)

def quiescent_Kernel46 [hKernel46 : Cert.Kernel46.Facts] : Prop :=
  ∀ (m : (ℓ : Loc Cert.Kernel46.nD Cert.Kernel46.τ Cert.Kernel46.sig) → Buf (Elt Bits) ℓ) (g : Dev Cert.Kernel46.nD → PrngReg), Pre_Kernel46 m →
    θ_run (Cert.Kernel46.defs (F := Bits)) (onTc (τ := Cert.Kernel46.τ) (Cert.Kernel46.main (F := Bits))) ⟨m, fun _ => 0, g⟩ (fun r => (∀ c : Dev Cert.Kernel46.nD,
      r.2.mem ((c.tc : Thread Cert.Kernel46.nD Cert.Kernel46.τ).loc Cert.Kernel46.main_arg0) = m ((c.tc : Thread Cert.Kernel46.nD Cert.Kernel46.τ).loc Cert.Kernel46.main_arg0)
      ∧ r.2.mem ((c.tc : Thread Cert.Kernel46.nD Cert.Kernel46.τ).loc Cert.Kernel46.main_arg1) = m ((c.tc : Thread Cert.Kernel46.nD Cert.Kernel46.τ).loc Cert.Kernel46.main_arg1)
      ∧ r.2.mem ((c.tc : Thread Cert.Kernel46.nD Cert.Kernel46.τ).loc Cert.Kernel46.main_arg2) = m ((c.tc : Thread Cert.Kernel46.nD Cert.Kernel46.τ).loc Cert.Kernel46.main_arg2))
      ∧ r.2.sem = fun _ => 0)

def quiescent_Kernel46Ideal [hKernel46Ideal : Cert.Kernel46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg), Pre_Kernel46Ideal m →
    θ_run (Cert.Kernel46Ideal.defs (F := Ideal)) (onTc (τ := Cert.Kernel46Ideal.τ) (Cert.Kernel46Ideal.main (F := Ideal))) ⟨m, fun _ => 0, g⟩ (fun r => (∀ c : Dev Cert.Kernel46Ideal.nD,
      r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
      ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1)
      ∧ r.2.mem ((c.tc : Thread Cert.Kernel46Ideal.nD Cert.Kernel46Ideal.τ).loc Cert.Kernel46Ideal.main_arg2) = m ((c.tc : Thread Cert.Kernel46Ideal.nD Cert.Kernel46Ideal.τ).loc Cert.Kernel46Ideal.main_arg2))
      ∧ r.2.sem = fun _ => 0)

def quiescent_Reference46Ideal [hReference46Ideal : Cert.Reference46Ideal.Facts] : Prop :=
  ∀ (m : (ℓ : Loc Cert.Reference46Ideal.nD Cert.Reference46Ideal.τ Cert.Reference46Ideal.sig) → Buf (Elt Ideal) ℓ) (g : Dev Cert.Reference46Ideal.nD → PrngReg), Pre_Reference46Ideal m →
    θ_run (Cert.Reference46Ideal.defs (F := Ideal)) (onTc (τ := Cert.Reference46Ideal.τ) (Cert.Reference46Ideal.main (F := Ideal))) ⟨m, fun _ => 0, g⟩ (fun r => (∀ c : Dev Cert.Reference46Ideal.nD,
      r.2.mem ((c.tc : Thread Cert.Reference46Ideal.nD Cert.Reference46Ideal.τ).loc Cert.Reference46Ideal.main_arg0) = m ((c.tc : Thread Cert.Reference46Ideal.nD Cert.Reference46Ideal.τ).loc Cert.Reference46Ideal.main_arg0)
      ∧ r.2.mem ((c.tc : Thread Cert.Reference46Ideal.nD Cert.Reference46Ideal.τ).loc Cert.Reference46Ideal.main_arg1) = m ((c.tc : Thread Cert.Reference46Ideal.nD Cert.Reference46Ideal.τ).loc Cert.Reference46Ideal.main_arg1)
      ∧ r.2.mem ((c.tc : Thread Cert.Reference46Ideal.nD Cert.Reference46Ideal.τ).loc Cert.Reference46Ideal.main_arg2) = m ((c.tc : Thread Cert.Reference46Ideal.nD Cert.Reference46Ideal.τ).loc Cert.Reference46Ideal.main_arg2))
      ∧ r.2.sem = fun _ => 0)

def quiescent_Kernel47 [hKernel47 : Cert.Kernel47.Facts] : Prop :=
  ∀ (m : (ℓ : Loc Cert.Kernel47.nD Cert.Kernel47.τ Cert.Kernel47.sig) → Buf (Elt Bits) ℓ) (g : Dev Cert.Kernel47.nD → PrngReg), Pre_Kernel47 m →
    θ_run (Cert.Kernel47.defs (F := Bits)) (onTc (τ := Cert.Kernel47.τ) (Cert.Kernel47.main (F := Bits))) ⟨m, fun _ => 0, g⟩ (fun r => (∀ c : Dev Cert.Kernel47.nD,
      r.2.mem ((c.tc : Thread Cert.Kernel47.nD Cert.Kernel47.τ).loc Cert.Kernel47.main_arg0) = m ((c.tc : Thread Cert.Kernel47.nD Cert.Kernel47.τ).loc Cert.Kernel47.main_arg0)
      ∧ r.2.mem ((c.tc : Thread Cert.Kernel47.nD Cert.Kernel47.τ).loc Cert.Kernel47.main_arg1) = m ((c.tc : Thread Cert.Kernel47.nD Cert.Kernel47.τ).loc Cert.Kernel47.main_arg1)
      ∧ r.2.mem ((c.tc : Thread Cert.Kernel47.nD Cert.Kernel47.τ).loc Cert.Kernel47.main_arg2) = m ((c.tc : Thread Cert.Kernel47.nD Cert.Kernel47.τ).loc Cert.Kernel47.main_arg2))
      ∧ r.2.sem = fun _ => 0)

def quiescent_Kernel47Ideal [hKernel47Ideal : Cert.Kernel47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg), Pre_Kernel47Ideal m →
    θ_run (Cert.Kernel47Ideal.defs (F := Ideal)) (onTc (τ := Cert.Kernel47Ideal.τ) (Cert.Kernel47Ideal.main (F := Ideal))) ⟨m, fun _ => 0, g⟩ (fun r => (∀ c : Dev Cert.Kernel47Ideal.nD,
      r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0)
      ∧ r.2.mem ((c.tc : Thread Cert.Kernel47Ideal.nD Cert.Kernel47Ideal.τ).loc Cert.Kernel47Ideal.main_arg1) = m ((c.tc : Thread Cert.Kernel47Ideal.nD Cert.Kernel47Ideal.τ).loc Cert.Kernel47Ideal.main_arg1)
      ∧ r.2.mem ((c.tc : Thread Cert.Kernel47Ideal.nD Cert.Kernel47Ideal.τ).loc Cert.Kernel47Ideal.main_arg2) = m ((c.tc : Thread Cert.Kernel47Ideal.nD Cert.Kernel47Ideal.τ).loc Cert.Kernel47Ideal.main_arg2))
      ∧ r.2.sem = fun _ => 0)

def quiescent_Reference47Ideal [hReference47Ideal : Cert.Reference47Ideal.Facts] : Prop :=
  ∀ (m : (ℓ : Loc Cert.Reference47Ideal.nD Cert.Reference47Ideal.τ Cert.Reference47Ideal.sig) → Buf (Elt Ideal) ℓ) (g : Dev Cert.Reference47Ideal.nD → PrngReg), Pre_Reference47Ideal m →
    θ_run (Cert.Reference47Ideal.defs (F := Ideal)) (onTc (τ := Cert.Reference47Ideal.τ) (Cert.Reference47Ideal.main (F := Ideal))) ⟨m, fun _ => 0, g⟩ (fun r => (∀ c : Dev Cert.Reference47Ideal.nD,
      r.2.mem ((c.tc : Thread Cert.Reference47Ideal.nD Cert.Reference47Ideal.τ).loc Cert.Reference47Ideal.main_arg0) = m ((c.tc : Thread Cert.Reference47Ideal.nD Cert.Reference47Ideal.τ).loc Cert.Reference47Ideal.main_arg0)
      ∧ r.2.mem ((c.tc : Thread Cert.Reference47Ideal.nD Cert.Reference47Ideal.τ).loc Cert.Reference47Ideal.main_arg1) = m ((c.tc : Thread Cert.Reference47Ideal.nD Cert.Reference47Ideal.τ).loc Cert.Reference47Ideal.main_arg1)
      ∧ r.2.mem ((c.tc : Thread Cert.Reference47Ideal.nD Cert.Reference47Ideal.τ).loc Cert.Reference47Ideal.main_arg2) = m ((c.tc : Thread Cert.Reference47Ideal.nD Cert.Reference47Ideal.τ).loc Cert.Reference47Ideal.main_arg2))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v9) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v14) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v14) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v9) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v5) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v6) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v6) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v5) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v5) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v5) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v4) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v9) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v5) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v9) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v3) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v3) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v5) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v9) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v8) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v3) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v25) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)) →
    ∃ (v0 : (c : Dev Cert.Kernel35Ideal.nD) → Buf (Elt Ideal) ((c.tc : Thread Cert.Kernel35Ideal.nD Cert.Kernel35Ideal.τ).loc Cert.Kernel35Ideal.main_v1)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v1) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v13) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)) →
    ∃ (v0 : (c : Dev Cert.Kernel36Ideal.nD) → Buf (Elt Ideal) ((c.tc : Thread Cert.Kernel36Ideal.nD Cert.Kernel36Ideal.τ).loc Cert.Kernel36Ideal.main_v1)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v1) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v13) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)) →
    ∃ (v0 : (c : Dev Cert.Kernel37Ideal.nD) → Buf (Elt Ideal) ((c.tc : Thread Cert.Kernel37Ideal.nD Cert.Kernel37Ideal.τ).loc Cert.Kernel37Ideal.main_v2_0)) (v1 : (c : Dev Cert.Kernel37Ideal.nD) → Buf (Elt Ideal) ((c.tc : Thread Cert.Kernel37Ideal.nD Cert.Kernel37Ideal.τ).loc Cert.Kernel37Ideal.main_v2_1)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v2_0) = v0 c
          ∧ r.2.mem ((c.tc : Thread Cert.Kernel37Ideal.nD Cert.Kernel37Ideal.τ).loc Cert.Kernel37Ideal.main_v2_1) = v1 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v14) = v0 c
          ∧ r.2.mem ((c.tc : Thread Cert.Reference37Ideal.nD Cert.Reference37Ideal.τ).loc Cert.Reference37Ideal.main_v28) = v1 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)) →
    ∃ (v0 : (c : Dev Cert.Kernel38Ideal.nD) → Buf (Elt Ideal) ((c.tc : Thread Cert.Kernel38Ideal.nD Cert.Kernel38Ideal.τ).loc Cert.Kernel38Ideal.main_v1_0)) (v1 : (c : Dev Cert.Kernel38Ideal.nD) → Buf (Elt Ideal) ((c.tc : Thread Cert.Kernel38Ideal.nD Cert.Kernel38Ideal.τ).loc Cert.Kernel38Ideal.main_v1_1)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v1_0) = v0 c
          ∧ r.2.mem ((c.tc : Thread Cert.Kernel38Ideal.nD Cert.Kernel38Ideal.τ).loc Cert.Kernel38Ideal.main_v1_1) = v1 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v29) = v0 c
          ∧ r.2.mem ((c.tc : Thread Cert.Reference38Ideal.nD Cert.Reference38Ideal.τ).loc Cert.Reference38Ideal.main_v30) = v1 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)) →
    ∃ (v0 : (c : Dev Cert.Kernel39Ideal.nD) → Buf (Elt Ideal) ((c.tc : Thread Cert.Kernel39Ideal.nD Cert.Kernel39Ideal.τ).loc Cert.Kernel39Ideal.main_v1_0)) (v1 : (c : Dev Cert.Kernel39Ideal.nD) → Buf (Elt Ideal) ((c.tc : Thread Cert.Kernel39Ideal.nD Cert.Kernel39Ideal.τ).loc Cert.Kernel39Ideal.main_v1_1)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v1_0) = v0 c
          ∧ r.2.mem ((c.tc : Thread Cert.Kernel39Ideal.nD Cert.Kernel39Ideal.τ).loc Cert.Kernel39Ideal.main_v1_1) = v1 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v37) = v0 c
          ∧ r.2.mem ((c.tc : Thread Cert.Reference39Ideal.nD Cert.Reference39Ideal.τ).loc Cert.Reference39Ideal.main_v38) = v1 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)
      ∧ m' ((c.tc : Thread Cert.Reference40Ideal.nD Cert.Reference40Ideal.τ).loc Cert.Reference40Ideal.main_arg3) = m ((c.tc : Thread Cert.Kernel40Ideal.nD Cert.Kernel40Ideal.τ).loc Cert.Kernel40Ideal.main_arg3)
      ∧ m' ((c.tc : Thread Cert.Reference40Ideal.nD Cert.Reference40Ideal.τ).loc Cert.Reference40Ideal.main_arg4) = m ((c.tc : Thread Cert.Kernel40Ideal.nD Cert.Kernel40Ideal.τ).loc Cert.Kernel40Ideal.main_arg4)
      ∧ m' ((c.tc : Thread Cert.Reference40Ideal.nD Cert.Reference40Ideal.τ).loc Cert.Reference40Ideal.main_arg5) = m ((c.tc : Thread Cert.Kernel40Ideal.nD Cert.Kernel40Ideal.τ).loc Cert.Kernel40Ideal.main_arg5)) →
    ∃ (v0 : (c : Dev Cert.Kernel40Ideal.nD) → Buf (Elt Ideal) ((c.tc : Thread Cert.Kernel40Ideal.nD Cert.Kernel40Ideal.τ).loc Cert.Kernel40Ideal.main_v2_0)) (v1 : (c : Dev Cert.Kernel40Ideal.nD) → Buf (Elt Ideal) ((c.tc : Thread Cert.Kernel40Ideal.nD Cert.Kernel40Ideal.τ).loc Cert.Kernel40Ideal.main_v2_1)) (v2 : (c : Dev Cert.Kernel40Ideal.nD) → Buf (Elt Ideal) ((c.tc : Thread Cert.Kernel40Ideal.nD Cert.Kernel40Ideal.τ).loc Cert.Kernel40Ideal.main_v2_2)) (v3 : (c : Dev Cert.Kernel40Ideal.nD) → Buf (Elt Ideal) ((c.tc : Thread Cert.Kernel40Ideal.nD Cert.Kernel40Ideal.τ).loc Cert.Kernel40Ideal.main_v2_3)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v2_0) = v0 c
          ∧ r.2.mem ((c.tc : Thread Cert.Kernel40Ideal.nD Cert.Kernel40Ideal.τ).loc Cert.Kernel40Ideal.main_v2_1) = v1 c
          ∧ r.2.mem ((c.tc : Thread Cert.Kernel40Ideal.nD Cert.Kernel40Ideal.τ).loc Cert.Kernel40Ideal.main_v2_2) = v2 c
          ∧ r.2.mem ((c.tc : Thread Cert.Kernel40Ideal.nD Cert.Kernel40Ideal.τ).loc Cert.Kernel40Ideal.main_v2_3) = v3 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
          ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3)
          ∧ r.2.mem ((c.tc : Thread Cert.Kernel40Ideal.nD Cert.Kernel40Ideal.τ).loc Cert.Kernel40Ideal.main_arg4) = m ((c.tc : Thread Cert.Kernel40Ideal.nD Cert.Kernel40Ideal.τ).loc Cert.Kernel40Ideal.main_arg4)
          ∧ r.2.mem ((c.tc : Thread Cert.Kernel40Ideal.nD Cert.Kernel40Ideal.τ).loc Cert.Kernel40Ideal.main_arg5) = m ((c.tc : Thread Cert.Kernel40Ideal.nD Cert.Kernel40Ideal.τ).loc Cert.Kernel40Ideal.main_arg5))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v37) = v0 c
          ∧ r.2.mem ((c.tc : Thread Cert.Reference40Ideal.nD Cert.Reference40Ideal.τ).loc Cert.Reference40Ideal.main_v75) = v1 c
          ∧ r.2.mem ((c.tc : Thread Cert.Reference40Ideal.nD Cert.Reference40Ideal.τ).loc Cert.Reference40Ideal.main_v76) = v2 c
          ∧ r.2.mem ((c.tc : Thread Cert.Reference40Ideal.nD Cert.Reference40Ideal.τ).loc Cert.Reference40Ideal.main_v77) = v3 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2)
          ∧ r.2.mem ((c.tc : Thread Cert.Reference40Ideal.nD Cert.Reference40Ideal.τ).loc Cert.Reference40Ideal.main_arg3) = m' ((c.tc : Thread Cert.Reference40Ideal.nD Cert.Reference40Ideal.τ).loc Cert.Reference40Ideal.main_arg3)
          ∧ r.2.mem ((c.tc : Thread Cert.Reference40Ideal.nD Cert.Reference40Ideal.τ).loc Cert.Reference40Ideal.main_arg4) = m' ((c.tc : Thread Cert.Reference40Ideal.nD Cert.Reference40Ideal.τ).loc Cert.Reference40Ideal.main_arg4)
          ∧ r.2.mem ((c.tc : Thread Cert.Reference40Ideal.nD Cert.Reference40Ideal.τ).loc Cert.Reference40Ideal.main_arg5) = m' ((c.tc : Thread Cert.Reference40Ideal.nD Cert.Reference40Ideal.τ).loc Cert.Reference40Ideal.main_arg5))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)
      ∧ m' ((c.tc : Thread Cert.Reference41Ideal.nD Cert.Reference41Ideal.τ).loc Cert.Reference41Ideal.main_arg2) = m ((c.tc : Thread Cert.Kernel41Ideal.nD Cert.Kernel41Ideal.τ).loc Cert.Kernel41Ideal.main_arg2)
      ∧ m' ((c.tc : Thread Cert.Reference41Ideal.nD Cert.Reference41Ideal.τ).loc Cert.Reference41Ideal.main_arg3) = m ((c.tc : Thread Cert.Kernel41Ideal.nD Cert.Kernel41Ideal.τ).loc Cert.Kernel41Ideal.main_arg3)) →
    ∃ (v0 : (c : Dev Cert.Kernel41Ideal.nD) → Buf (Elt Ideal) ((c.tc : Thread Cert.Kernel41Ideal.nD Cert.Kernel41Ideal.τ).loc Cert.Kernel41Ideal.main_v1_0)) (v1 : (c : Dev Cert.Kernel41Ideal.nD) → Buf (Elt Ideal) ((c.tc : Thread Cert.Kernel41Ideal.nD Cert.Kernel41Ideal.τ).loc Cert.Kernel41Ideal.main_v1_1)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v1_0) = v0 c
          ∧ r.2.mem ((c.tc : Thread Cert.Kernel41Ideal.nD Cert.Kernel41Ideal.τ).loc Cert.Kernel41Ideal.main_v1_1) = v1 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
          ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
          ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v37) = v0 c
          ∧ r.2.mem ((c.tc : Thread Cert.Reference41Ideal.nD Cert.Reference41Ideal.τ).loc Cert.Reference41Ideal.main_v38) = v1 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1)
          ∧ r.2.mem ((c.tc : Thread Cert.Reference41Ideal.nD Cert.Reference41Ideal.τ).loc Cert.Reference41Ideal.main_arg2) = m' ((c.tc : Thread Cert.Reference41Ideal.nD Cert.Reference41Ideal.τ).loc Cert.Reference41Ideal.main_arg2)
          ∧ r.2.mem ((c.tc : Thread Cert.Reference41Ideal.nD Cert.Reference41Ideal.τ).loc Cert.Reference41Ideal.main_arg3) = m' ((c.tc : Thread Cert.Reference41Ideal.nD Cert.Reference41Ideal.τ).loc Cert.Reference41Ideal.main_arg3))

def preserves_Kernel42_Kernel42Ideal : Prop :=
  True

def algebraic_Kernel42Ideal_Reference42Ideal [hKernel42Ideal : Cert.Kernel42Ideal.Facts] [hReference42Ideal : Cert.Reference42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)
      ∧ m' ((c.tc : Thread Cert.Reference42Ideal.nD Cert.Reference42Ideal.τ).loc Cert.Reference42Ideal.main_arg1) = m ((c.tc : Thread Cert.Kernel42Ideal.nD Cert.Kernel42Ideal.τ).loc Cert.Kernel42Ideal.main_arg1)) →
    ∃ (v0 : (c : Dev Cert.Kernel42Ideal.nD) → Buf (Elt Ideal) ((c.tc : Thread Cert.Kernel42Ideal.nD Cert.Kernel42Ideal.τ).loc Cert.Kernel42Ideal.main_v0)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v0) = v0 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
          ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v18) = v0 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0)
          ∧ r.2.mem ((c.tc : Thread Cert.Reference42Ideal.nD Cert.Reference42Ideal.τ).loc Cert.Reference42Ideal.main_arg1) = m' ((c.tc : Thread Cert.Reference42Ideal.nD Cert.Reference42Ideal.τ).loc Cert.Reference42Ideal.main_arg1))

def preserves_Kernel43_Kernel43Ideal : Prop :=
  True

def algebraic_Kernel43Ideal_Reference43Ideal [hKernel43Ideal : Cert.Kernel43Ideal.Facts] [hReference43Ideal : Cert.Reference43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg)
    (m' : (ℓ : Loc Cert.Reference43Ideal.nD Cert.Reference43Ideal.τ Cert.Reference43Ideal.sig) → Buf (Elt Ideal) ℓ) (g' : Dev Cert.Reference43Ideal.nD → PrngReg), Pre_Kernel43Ideal m →
    (∀ c : Dev Cert.Kernel43Ideal.nD,
      m' ((c.tc : Thread Cert.Reference43Ideal.nD Cert.Reference43Ideal.τ).loc Cert.Reference43Ideal.main_arg0) = m ((c.tc : Thread Cert.Kernel43Ideal.nD Cert.Kernel43Ideal.τ).loc Cert.Kernel43Ideal.main_arg0)) →
    ∃ (v0 : (c : Dev Cert.Kernel43Ideal.nD) → Buf (Elt Ideal) ((c.tc : Thread Cert.Kernel43Ideal.nD Cert.Kernel43Ideal.τ).loc Cert.Kernel43Ideal.main_v0)),
      θ_run (Cert.Kernel43Ideal.defs (F := Ideal)) (onTc (τ := Cert.Kernel43Ideal.τ) (Cert.Kernel43Ideal.main (F := Ideal))) ⟨m, fun _ => 0, g⟩ (fun r => ∀ c : Dev Cert.Kernel43Ideal.nD,
          r.2.mem ((c.tc : Thread Cert.Kernel43Ideal.nD Cert.Kernel43Ideal.τ).loc Cert.Kernel43Ideal.main_v0) = v0 c
          ∧ r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0))
      ∧ θ_run (Cert.Reference43Ideal.defs (F := Ideal)) (onTc (τ := Cert.Reference43Ideal.τ) (Cert.Reference43Ideal.main (F := Ideal))) ⟨m', fun _ => 0, g'⟩ (fun r => ∀ c : Dev Cert.Reference43Ideal.nD,
          r.2.mem ((c.tc : Thread Cert.Reference43Ideal.nD Cert.Reference43Ideal.τ).loc Cert.Reference43Ideal.main_v6) = v0 c
          ∧ r.2.mem ((c.tc : Thread Cert.Reference43Ideal.nD Cert.Reference43Ideal.τ).loc Cert.Reference43Ideal.main_arg0) = m' ((c.tc : Thread Cert.Reference43Ideal.nD Cert.Reference43Ideal.τ).loc Cert.Reference43Ideal.main_arg0))

def preserves_Kernel44_Kernel44Ideal : Prop :=
  True

def algebraic_Kernel44Ideal_Reference44Ideal [hKernel44Ideal : Cert.Kernel44Ideal.Facts] [hReference44Ideal : Cert.Reference44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg)
    (m' : (ℓ : Loc Cert.Reference44Ideal.nD Cert.Reference44Ideal.τ Cert.Reference44Ideal.sig) → Buf (Elt Ideal) ℓ) (g' : Dev Cert.Reference44Ideal.nD → PrngReg), Pre_Kernel44Ideal m →
    (∀ c : Dev Cert.Kernel44Ideal.nD,
      m' ((c.tc : Thread Cert.Reference44Ideal.nD Cert.Reference44Ideal.τ).loc Cert.Reference44Ideal.main_arg0) = m ((c.tc : Thread Cert.Kernel44Ideal.nD Cert.Kernel44Ideal.τ).loc Cert.Kernel44Ideal.main_arg0)) →
    ∃ (v0 : (c : Dev Cert.Kernel44Ideal.nD) → Buf (Elt Ideal) ((c.tc : Thread Cert.Kernel44Ideal.nD Cert.Kernel44Ideal.τ).loc Cert.Kernel44Ideal.main_v0)),
      θ_run (Cert.Kernel44Ideal.defs (F := Ideal)) (onTc (τ := Cert.Kernel44Ideal.τ) (Cert.Kernel44Ideal.main (F := Ideal))) ⟨m, fun _ => 0, g⟩ (fun r => ∀ c : Dev Cert.Kernel44Ideal.nD,
          r.2.mem ((c.tc : Thread Cert.Kernel44Ideal.nD Cert.Kernel44Ideal.τ).loc Cert.Kernel44Ideal.main_v0) = v0 c
          ∧ r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0))
      ∧ θ_run (Cert.Reference44Ideal.defs (F := Ideal)) (onTc (τ := Cert.Reference44Ideal.τ) (Cert.Reference44Ideal.main (F := Ideal))) ⟨m', fun _ => 0, g'⟩ (fun r => ∀ c : Dev Cert.Reference44Ideal.nD,
          r.2.mem ((c.tc : Thread Cert.Reference44Ideal.nD Cert.Reference44Ideal.τ).loc Cert.Reference44Ideal.main_v6) = v0 c
          ∧ r.2.mem ((c.tc : Thread Cert.Reference44Ideal.nD Cert.Reference44Ideal.τ).loc Cert.Reference44Ideal.main_arg0) = m' ((c.tc : Thread Cert.Reference44Ideal.nD Cert.Reference44Ideal.τ).loc Cert.Reference44Ideal.main_arg0))

def preserves_Kernel45_Kernel45Ideal : Prop :=
  True

def algebraic_Kernel45Ideal_Reference45Ideal [hKernel45Ideal : Cert.Kernel45Ideal.Facts] [hReference45Ideal : Cert.Reference45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg)
    (m' : (ℓ : Loc Cert.Reference45Ideal.nD Cert.Reference45Ideal.τ Cert.Reference45Ideal.sig) → Buf (Elt Ideal) ℓ) (g' : Dev Cert.Reference45Ideal.nD → PrngReg), Pre_Kernel45Ideal m →
    (∀ c : Dev Cert.Kernel45Ideal.nD,
      m' ((c.tc : Thread Cert.Reference45Ideal.nD Cert.Reference45Ideal.τ).loc Cert.Reference45Ideal.main_arg0) = m ((c.tc : Thread Cert.Kernel45Ideal.nD Cert.Kernel45Ideal.τ).loc Cert.Kernel45Ideal.main_arg0)
      ∧ m' ((c.tc : Thread Cert.Reference45Ideal.nD Cert.Reference45Ideal.τ).loc Cert.Reference45Ideal.main_arg1) = m ((c.tc : Thread Cert.Kernel45Ideal.nD Cert.Kernel45Ideal.τ).loc Cert.Kernel45Ideal.main_arg1)
      ∧ m' ((c.tc : Thread Cert.Reference45Ideal.nD Cert.Reference45Ideal.τ).loc Cert.Reference45Ideal.main_arg2) = m ((c.tc : Thread Cert.Kernel45Ideal.nD Cert.Kernel45Ideal.τ).loc Cert.Kernel45Ideal.main_arg2)) →
    ∃ (v0 : (c : Dev Cert.Kernel45Ideal.nD) → Buf (Elt Ideal) ((c.tc : Thread Cert.Kernel45Ideal.nD Cert.Kernel45Ideal.τ).loc Cert.Kernel45Ideal.main_v0_0)) (v1 : (c : Dev Cert.Kernel45Ideal.nD) → Buf (Elt Ideal) ((c.tc : Thread Cert.Kernel45Ideal.nD Cert.Kernel45Ideal.τ).loc Cert.Kernel45Ideal.main_v0_1)),
      θ_run (Cert.Kernel45Ideal.defs (F := Ideal)) (onTc (τ := Cert.Kernel45Ideal.τ) (Cert.Kernel45Ideal.main (F := Ideal))) ⟨m, fun _ => 0, g⟩ (fun r => ∀ c : Dev Cert.Kernel45Ideal.nD,
          r.2.mem ((c.tc : Thread Cert.Kernel45Ideal.nD Cert.Kernel45Ideal.τ).loc Cert.Kernel45Ideal.main_v0_0) = v0 c
          ∧ r.2.mem ((c.tc : Thread Cert.Kernel45Ideal.nD Cert.Kernel45Ideal.τ).loc Cert.Kernel45Ideal.main_v0_1) = v1 c
          ∧ r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
          ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1)
          ∧ r.2.mem ((c.tc : Thread Cert.Kernel45Ideal.nD Cert.Kernel45Ideal.τ).loc Cert.Kernel45Ideal.main_arg2) = m ((c.tc : Thread Cert.Kernel45Ideal.nD Cert.Kernel45Ideal.τ).loc Cert.Kernel45Ideal.main_arg2))
      ∧ θ_run (Cert.Reference45Ideal.defs (F := Ideal)) (onTc (τ := Cert.Reference45Ideal.τ) (Cert.Reference45Ideal.main (F := Ideal))) ⟨m', fun _ => 0, g'⟩ (fun r => ∀ c : Dev Cert.Reference45Ideal.nD,
          r.2.mem ((c.tc : Thread Cert.Reference45Ideal.nD Cert.Reference45Ideal.τ).loc Cert.Reference45Ideal.main_v33) = v0 c
          ∧ r.2.mem ((c.tc : Thread Cert.Reference45Ideal.nD Cert.Reference45Ideal.τ).loc Cert.Reference45Ideal.main_v34) = v1 c
          ∧ r.2.mem ((c.tc : Thread Cert.Reference45Ideal.nD Cert.Reference45Ideal.τ).loc Cert.Reference45Ideal.main_arg0) = m' ((c.tc : Thread Cert.Reference45Ideal.nD Cert.Reference45Ideal.τ).loc Cert.Reference45Ideal.main_arg0)
          ∧ r.2.mem ((c.tc : Thread Cert.Reference45Ideal.nD Cert.Reference45Ideal.τ).loc Cert.Reference45Ideal.main_arg1) = m' ((c.tc : Thread Cert.Reference45Ideal.nD Cert.Reference45Ideal.τ).loc Cert.Reference45Ideal.main_arg1)
          ∧ r.2.mem ((c.tc : Thread Cert.Reference45Ideal.nD Cert.Reference45Ideal.τ).loc Cert.Reference45Ideal.main_arg2) = m' ((c.tc : Thread Cert.Reference45Ideal.nD Cert.Reference45Ideal.τ).loc Cert.Reference45Ideal.main_arg2))

def preserves_Kernel46_Kernel46Ideal : Prop :=
  True

def algebraic_Kernel46Ideal_Reference46Ideal [hKernel46Ideal : Cert.Kernel46Ideal.Facts] [hReference46Ideal : Cert.Reference46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg)
    (m' : (ℓ : Loc Cert.Reference46Ideal.nD Cert.Reference46Ideal.τ Cert.Reference46Ideal.sig) → Buf (Elt Ideal) ℓ) (g' : Dev Cert.Reference46Ideal.nD → PrngReg), Pre_Kernel46Ideal m →
    (∀ c : Dev Cert.Kernel46Ideal.nD,
      m' ((c.tc : Thread Cert.Reference46Ideal.nD Cert.Reference46Ideal.τ).loc Cert.Reference46Ideal.main_arg0) = m ((c.tc : Thread Cert.Kernel46Ideal.nD Cert.Kernel46Ideal.τ).loc Cert.Kernel46Ideal.main_arg0)
      ∧ m' ((c.tc : Thread Cert.Reference46Ideal.nD Cert.Reference46Ideal.τ).loc Cert.Reference46Ideal.main_arg1) = m ((c.tc : Thread Cert.Kernel46Ideal.nD Cert.Kernel46Ideal.τ).loc Cert.Kernel46Ideal.main_arg1)
      ∧ m' ((c.tc : Thread Cert.Reference46Ideal.nD Cert.Reference46Ideal.τ).loc Cert.Reference46Ideal.main_arg2) = m ((c.tc : Thread Cert.Kernel46Ideal.nD Cert.Kernel46Ideal.τ).loc Cert.Kernel46Ideal.main_arg2)) →
    ∃ (v0 : (c : Dev Cert.Kernel46Ideal.nD) → Buf (Elt Ideal) ((c.tc : Thread Cert.Kernel46Ideal.nD Cert.Kernel46Ideal.τ).loc Cert.Kernel46Ideal.main_v0_0)) (v1 : (c : Dev Cert.Kernel46Ideal.nD) → Buf (Elt Ideal) ((c.tc : Thread Cert.Kernel46Ideal.nD Cert.Kernel46Ideal.τ).loc Cert.Kernel46Ideal.main_v0_1)),
      θ_run (Cert.Kernel46Ideal.defs (F := Ideal)) (onTc (τ := Cert.Kernel46Ideal.τ) (Cert.Kernel46Ideal.main (F := Ideal))) ⟨m, fun _ => 0, g⟩ (fun r => ∀ c : Dev Cert.Kernel46Ideal.nD,
          r.2.mem ((c.tc : Thread Cert.Kernel46Ideal.nD Cert.Kernel46Ideal.τ).loc Cert.Kernel46Ideal.main_v0_0) = v0 c
          ∧ r.2.mem ((c.tc : Thread Cert.Kernel46Ideal.nD Cert.Kernel46Ideal.τ).loc Cert.Kernel46Ideal.main_v0_1) = v1 c
          ∧ r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
          ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1)
          ∧ r.2.mem ((c.tc : Thread Cert.Kernel46Ideal.nD Cert.Kernel46Ideal.τ).loc Cert.Kernel46Ideal.main_arg2) = m ((c.tc : Thread Cert.Kernel46Ideal.nD Cert.Kernel46Ideal.τ).loc Cert.Kernel46Ideal.main_arg2))
      ∧ θ_run (Cert.Reference46Ideal.defs (F := Ideal)) (onTc (τ := Cert.Reference46Ideal.τ) (Cert.Reference46Ideal.main (F := Ideal))) ⟨m', fun _ => 0, g'⟩ (fun r => ∀ c : Dev Cert.Reference46Ideal.nD,
          r.2.mem ((c.tc : Thread Cert.Reference46Ideal.nD Cert.Reference46Ideal.τ).loc Cert.Reference46Ideal.main_v34) = v0 c
          ∧ r.2.mem ((c.tc : Thread Cert.Reference46Ideal.nD Cert.Reference46Ideal.τ).loc Cert.Reference46Ideal.main_v35) = v1 c
          ∧ r.2.mem ((c.tc : Thread Cert.Reference46Ideal.nD Cert.Reference46Ideal.τ).loc Cert.Reference46Ideal.main_arg0) = m' ((c.tc : Thread Cert.Reference46Ideal.nD Cert.Reference46Ideal.τ).loc Cert.Reference46Ideal.main_arg0)
          ∧ r.2.mem ((c.tc : Thread Cert.Reference46Ideal.nD Cert.Reference46Ideal.τ).loc Cert.Reference46Ideal.main_arg1) = m' ((c.tc : Thread Cert.Reference46Ideal.nD Cert.Reference46Ideal.τ).loc Cert.Reference46Ideal.main_arg1)
          ∧ r.2.mem ((c.tc : Thread Cert.Reference46Ideal.nD Cert.Reference46Ideal.τ).loc Cert.Reference46Ideal.main_arg2) = m' ((c.tc : Thread Cert.Reference46Ideal.nD Cert.Reference46Ideal.τ).loc Cert.Reference46Ideal.main_arg2))

def preserves_Kernel47_Kernel47Ideal : Prop :=
  True

def algebraic_Kernel47Ideal_Reference47Ideal [hKernel47Ideal : Cert.Kernel47Ideal.Facts] [hReference47Ideal : Cert.Reference47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg)
    (m' : (ℓ : Loc Cert.Reference47Ideal.nD Cert.Reference47Ideal.τ Cert.Reference47Ideal.sig) → Buf (Elt Ideal) ℓ) (g' : Dev Cert.Reference47Ideal.nD → PrngReg), Pre_Kernel47Ideal m →
    (∀ c : Dev Cert.Kernel47Ideal.nD,
      m' ((c.tc : Thread Cert.Reference47Ideal.nD Cert.Reference47Ideal.τ).loc Cert.Reference47Ideal.main_arg0) = m ((c.tc : Thread Cert.Kernel47Ideal.nD Cert.Kernel47Ideal.τ).loc Cert.Kernel47Ideal.main_arg0)
      ∧ m' ((c.tc : Thread Cert.Reference47Ideal.nD Cert.Reference47Ideal.τ).loc Cert.Reference47Ideal.main_arg1) = m ((c.tc : Thread Cert.Kernel47Ideal.nD Cert.Kernel47Ideal.τ).loc Cert.Kernel47Ideal.main_arg1)
      ∧ m' ((c.tc : Thread Cert.Reference47Ideal.nD Cert.Reference47Ideal.τ).loc Cert.Reference47Ideal.main_arg2) = m ((c.tc : Thread Cert.Kernel47Ideal.nD Cert.Kernel47Ideal.τ).loc Cert.Kernel47Ideal.main_arg2)) →
    ∃ (v0 : (c : Dev Cert.Kernel47Ideal.nD) → Buf (Elt Ideal) ((c.tc : Thread Cert.Kernel47Ideal.nD Cert.Kernel47Ideal.τ).loc Cert.Kernel47Ideal.main_v0_0)) (v1 : (c : Dev Cert.Kernel47Ideal.nD) → Buf (Elt Ideal) ((c.tc : Thread Cert.Kernel47Ideal.nD Cert.Kernel47Ideal.τ).loc Cert.Kernel47Ideal.main_v0_1)),
      θ_run (Cert.Kernel47Ideal.defs (F := Ideal)) (onTc (τ := Cert.Kernel47Ideal.τ) (Cert.Kernel47Ideal.main (F := Ideal))) ⟨m, fun _ => 0, g⟩ (fun r => ∀ c : Dev Cert.Kernel47Ideal.nD,
          r.2.mem ((c.tc : Thread Cert.Kernel47Ideal.nD Cert.Kernel47Ideal.τ).loc Cert.Kernel47Ideal.main_v0_0) = v0 c
          ∧ r.2.mem ((c.tc : Thread Cert.Kernel47Ideal.nD Cert.Kernel47Ideal.τ).loc Cert.Kernel47Ideal.main_v0_1) = v1 c
          ∧ r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0)
          ∧ r.2.mem ((c.tc : Thread Cert.Kernel47Ideal.nD Cert.Kernel47Ideal.τ).loc Cert.Kernel47Ideal.main_arg1) = m ((c.tc : Thread Cert.Kernel47Ideal.nD Cert.Kernel47Ideal.τ).loc Cert.Kernel47Ideal.main_arg1)
          ∧ r.2.mem ((c.tc : Thread Cert.Kernel47Ideal.nD Cert.Kernel47Ideal.τ).loc Cert.Kernel47Ideal.main_arg2) = m ((c.tc : Thread Cert.Kernel47Ideal.nD Cert.Kernel47Ideal.τ).loc Cert.Kernel47Ideal.main_arg2))
      ∧ θ_run (Cert.Reference47Ideal.defs (F := Ideal)) (onTc (τ := Cert.Reference47Ideal.τ) (Cert.Reference47Ideal.main (F := Ideal))) ⟨m', fun _ => 0, g'⟩ (fun r => ∀ c : Dev Cert.Reference47Ideal.nD,
          r.2.mem ((c.tc : Thread Cert.Reference47Ideal.nD Cert.Reference47Ideal.τ).loc Cert.Reference47Ideal.main_v28) = v0 c
          ∧ r.2.mem ((c.tc : Thread Cert.Reference47Ideal.nD Cert.Reference47Ideal.τ).loc Cert.Reference47Ideal.main_v32) = v1 c
          ∧ r.2.mem ((c.tc : Thread Cert.Reference47Ideal.nD Cert.Reference47Ideal.τ).loc Cert.Reference47Ideal.main_arg0) = m' ((c.tc : Thread Cert.Reference47Ideal.nD Cert.Reference47Ideal.τ).loc Cert.Reference47Ideal.main_arg0)
          ∧ r.2.mem ((c.tc : Thread Cert.Reference47Ideal.nD Cert.Reference47Ideal.τ).loc Cert.Reference47Ideal.main_arg1) = m' ((c.tc : Thread Cert.Reference47Ideal.nD Cert.Reference47Ideal.τ).loc Cert.Reference47Ideal.main_arg1)
          ∧ r.2.mem ((c.tc : Thread Cert.Reference47Ideal.nD Cert.Reference47Ideal.τ).loc Cert.Reference47Ideal.main_arg2) = m' ((c.tc : Thread Cert.Reference47Ideal.nD Cert.Reference47Ideal.τ).loc Cert.Reference47Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hKernel43 : Cert.Kernel43.Facts) (hKernel43Ideal : Cert.Kernel43Ideal.Facts) (hReference43Ideal : Cert.Reference43Ideal.Facts) (hKernel44 : Cert.Kernel44.Facts) (hKernel44Ideal : Cert.Kernel44Ideal.Facts) (hReference44Ideal : Cert.Reference44Ideal.Facts) (hKernel45 : Cert.Kernel45.Facts) (hKernel45Ideal : Cert.Kernel45Ideal.Facts) (hReference45Ideal : Cert.Reference45Ideal.Facts) (hKernel46 : Cert.Kernel46.Facts) (hKernel46Ideal : Cert.Kernel46Ideal.Facts) (hReference46Ideal : Cert.Reference46Ideal.Facts) (hKernel47 : Cert.Kernel47.Facts) (hKernel47Ideal : Cert.Kernel47Ideal.Facts) (hReference47Ideal : Cert.Reference47Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ quiescent_Kernel42 (hKernel42 := hKernel42)
    ∧ quiescent_Kernel42Ideal (hKernel42Ideal := hKernel42Ideal)
    ∧ quiescent_Reference42Ideal (hReference42Ideal := hReference42Ideal)
    ∧ quiescent_Kernel43 (hKernel43 := hKernel43)
    ∧ quiescent_Kernel43Ideal (hKernel43Ideal := hKernel43Ideal)
    ∧ quiescent_Reference43Ideal (hReference43Ideal := hReference43Ideal)
    ∧ quiescent_Kernel44 (hKernel44 := hKernel44)
    ∧ quiescent_Kernel44Ideal (hKernel44Ideal := hKernel44Ideal)
    ∧ quiescent_Reference44Ideal (hReference44Ideal := hReference44Ideal)
    ∧ quiescent_Kernel45 (hKernel45 := hKernel45)
    ∧ quiescent_Kernel45Ideal (hKernel45Ideal := hKernel45Ideal)
    ∧ quiescent_Reference45Ideal (hReference45Ideal := hReference45Ideal)
    ∧ quiescent_Kernel46 (hKernel46 := hKernel46)
    ∧ quiescent_Kernel46Ideal (hKernel46Ideal := hKernel46Ideal)
    ∧ quiescent_Reference46Ideal (hReference46Ideal := hReference46Ideal)
    ∧ quiescent_Kernel47 (hKernel47 := hKernel47)
    ∧ quiescent_Kernel47Ideal (hKernel47Ideal := hKernel47Ideal)
    ∧ quiescent_Reference47Ideal (hReference47Ideal := hReference47Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
    ∧ preserves_Kernel42_Kernel42Ideal
    ∧ algebraic_Kernel42Ideal_Reference42Ideal (hKernel42Ideal := hKernel42Ideal) (hReference42Ideal := hReference42Ideal)
    ∧ preserves_Kernel43_Kernel43Ideal
    ∧ algebraic_Kernel43Ideal_Reference43Ideal (hKernel43Ideal := hKernel43Ideal) (hReference43Ideal := hReference43Ideal)
    ∧ preserves_Kernel44_Kernel44Ideal
    ∧ algebraic_Kernel44Ideal_Reference44Ideal (hKernel44Ideal := hKernel44Ideal) (hReference44Ideal := hReference44Ideal)
    ∧ preserves_Kernel45_Kernel45Ideal
    ∧ algebraic_Kernel45Ideal_Reference45Ideal (hKernel45Ideal := hKernel45Ideal) (hReference45Ideal := hReference45Ideal)
    ∧ preserves_Kernel46_Kernel46Ideal
    ∧ algebraic_Kernel46Ideal_Reference46Ideal (hKernel46Ideal := hKernel46Ideal) (hReference46Ideal := hReference46Ideal)
    ∧ preserves_Kernel47_Kernel47Ideal
    ∧ algebraic_Kernel47Ideal_Reference47Ideal (hKernel47Ideal := hKernel47Ideal) (hReference47Ideal := hReference47Ideal)
-- ==== Pre_finite_scores.lean ====
abbrev S4096x1024 : Shape := ⟨2, ![4096, 1024]⟩
abbrev S256x2048 : Shape := ⟨2, ![256, 2048]⟩
abbrev S_ : Shape := ⟨0, ![]⟩
abbrev S256x1024 : Shape := ⟨2, ![256, 1024]⟩

class Facts : Prop where
  bitsLt_bf16_f32 : FTy.bits .bf16 < FTy.bits .f32
  bcast_S_S4096x1024 : S_.BroadcastsInDim S4096x1024 (![] : Fin 0 → Fin S4096x1024.rank)
  slices_S256x2048_S256x1024_0_0 : S256x2048.Slices ![0, 0] S256x1024
  bcast_S_S256x1024 : S_.BroadcastsInDim S256x1024 (![] : Fin 0 → Fin S256x1024.rank)

variable [Facts]

def fn {F : FTy → Type} [FloatOps F] (main_arg0 : FVec F S4096x1024 .bf16) (main_arg1 : FVec F S256x2048 .bf16) (main_arg2 : FVec F S4096x1024 .bf16) : IVec S4096x1024 1 × IVec S256x1024 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S256x1024 .bf16 := (extractStridedSlice S256x1024 ![0, 0] · slices_S256x2048_S256x1024_0_0) main_arg1
  let main_v5 : FVec F S256x1024 .f32 := (extf .f32 · bitsLt_bf16_f32) main_v4
  let main_v6 : FVec F S256x1024 .f32 := Host.absf main_v5
  let main_cst_0 : FVec F S_ .f32 := constant S_ .f32 0x7F800000#32
  let main_v7 : FVec F S256x1024 .f32 := broadcastInDim S256x1024 ![] bcast_S_S256x1024 main_cst_0
  let main_v8 : IVec S256x1024 1 := cmpf .olt main_v6 main_v7
  (main_v3, main_v8)
-- ==== Kernel.lean ====
abbrev S4096x1024 : Shape := ⟨2, ![4096, 1024]⟩
abbrev S256x2048 : Shape := ⟨2, ![256, 2048]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .bf16⟩
  | .hbm, ⟨3, _⟩ => ⟨S4096x1024, .bf16⟩
  | .hbm, ⟨4, _⟩ => ⟨S256x2048, .f32⟩
  | .local _ .vmem, ⟨0, _⟩ => ⟨S512x1024, .bf16⟩
  | .local _ .vmem, ⟨1, _⟩ => ⟨S512x1024, .bf16⟩
  | .local _ .vmem, ⟨2, _⟩ => ⟨S256x2048, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S256x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S4096x1024 : Shape := ⟨2, ![4096, 1024]⟩
abbrev S256x2048 : Shape := ⟨2, ![256, 2048]⟩
abbrev S1x4096x4x256 : Shape := ⟨4, ![1, 4096, 4, 256]⟩
abbrev S1x256x2048 : Shape := ⟨3, ![1, 256, 2048]⟩
abbrev S1x256x1024 : Shape := ⟨3, ![1, 256, 1024]⟩
abbrev S1x256x4x256 : Shape := ⟨4, ![1, 256, 4, 256]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x256x4096 : Shape := ⟨4, ![1, 4, 256, 4096]⟩
abbrev S1x4x256x256 : Shape := ⟨4, ![1, 4, 256, 256]⟩
abbrev S4x4096 : Shape := ⟨2, ![4, 4096]⟩

abbrev nBuf : Space → Nat
  | .hbm => 90
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .bf16⟩
  | .hbm, ⟨3, _⟩ => ⟨S4096x1024, .f32⟩
  | .hbm, ⟨4, _⟩ => ⟨S256x2048, .f32⟩
  | .hbm, ⟨5, _⟩ => ⟨S1x4096x4x256, .f32⟩
  | .hbm, ⟨6, _⟩ => ⟨S1x256x2048, .f32⟩
  | .hbm, ⟨7, _⟩ => ⟨S1x256x1024, .f32⟩
  | .hbm, ⟨8, _⟩ => ⟨S1x256x1024, .f32⟩
  | .hbm, ⟨9, _⟩ => ⟨S1x256x4x256, .f32⟩
  | .hbm, ⟨10, _⟩ => ⟨S1x256x4x256, .f32⟩
  | .hbm, ⟨11, _⟩ => ⟨S1x4x4096x256, .f32⟩
  | .hbm, ⟨12, _⟩ => ⟨S_, .f32⟩
  | .hbm, ⟨13, _⟩ => ⟨S1x4x4096x256, .f32⟩
  | .hbm, ⟨14, _⟩ => ⟨S1x4x4096x256, .f32⟩
  | .hbm, ⟨15, _⟩ => ⟨S_, .f32⟩
  | .hbm, ⟨16, _⟩ => ⟨S1x4x4096, .f32⟩
  | .hbm, ⟨17, _⟩ => ⟨S1x4x4096x1, .f32⟩
  | .hbm, ⟨18, _⟩ => ⟨S1x4x4096x256, .f32⟩
  | .hbm, ⟨19, _⟩ => ⟨S1x4x4096x256, .i1⟩
  | .hbm, ⟨20, _⟩ => ⟨S1x4x4096x256, .f32⟩
  | .hbm, ⟨21, _⟩ => ⟨S_, .f32⟩
  | .hbm, ⟨22, _⟩ => ⟨S1x4x4096, .f32⟩
  | .hbm, ⟨23, _⟩ => ⟨S_, .f32⟩
  | .hbm, ⟨24, _⟩ => ⟨S1x4x4096, .f32⟩
  | .hbm, ⟨25, _⟩ => ⟨S1x4x4096, .f32⟩
  | .hbm, ⟨26, _⟩ => ⟨S_, .f32⟩
  | .hbm, ⟨27, _⟩ => ⟨S1x4x4096, .f32⟩
  | .hbm, ⟨28, _⟩ => ⟨S1x4x4096, .i1⟩
  | .hbm, ⟨29, _⟩ => ⟨S_, .f32⟩
  | .hbm, ⟨30, _⟩ => ⟨S1x4x4096, .f32⟩
  | .hbm, ⟨31, _⟩ => ⟨S1x4x4096, .i1⟩
  | .hbm, ⟨32, _⟩ => ⟨S_, .f32⟩
  | .hbm, ⟨33, _⟩ => ⟨S1x4x4096, .f32⟩
  | .hbm, ⟨34, _⟩ => ⟨S_, .f32⟩
  | .hbm, ⟨35, _⟩ => ⟨S1x4x4096, .f32⟩
  | .hbm, ⟨36, _⟩ => ⟨S_, .f32⟩
  | .hbm, ⟨37, _⟩ => ⟨S1x4x4096, .f32⟩
  | .hbm, ⟨38, _⟩ => ⟨S1x4x4096, .f32⟩
  | .hbm, ⟨39, _⟩ => ⟨S1x4x4096, .f32⟩
  | .hbm, ⟨40, _⟩ => ⟨S1x4x4096x1, .f32⟩
  | .hbm, ⟨41, _⟩ => ⟨S1x4x4096x256, .f32⟩
  | .hbm, ⟨42, _⟩ => ⟨S1x4x4096x256, .f32⟩
  | .hbm, ⟨43, _⟩ => ⟨S1x4x4096x256, .f32⟩
  | .hbm, ⟨44, _⟩ => ⟨S_, .f32⟩
  | .hbm, ⟨45, _⟩ => ⟨S1x4x4096, .f32⟩
  | .hbm, ⟨46, _⟩ => ⟨S1x4x4096x1, .f32⟩
  | .hbm, ⟨47, _⟩ => ⟨S1x4x4096x256, .f32⟩
  | .hbm, ⟨48, _⟩ => ⟨S1x4x4096x256, .f32⟩
  | .hbm, ⟨49, _⟩ => ⟨S1x4x4096x1, .f32⟩
  | .hbm, ⟨50, _⟩ => ⟨S_, .f32⟩
  | .hbm, ⟨51, _⟩ => ⟨S1x4x4096x1, .f32⟩
  | .hbm, ⟨52, _⟩ => ⟨S1x4x4096x1, .f32⟩
  | .hbm, ⟨53, _⟩ => ⟨S1x4x256x4096, .f32⟩
  | .hbm, ⟨54, _⟩ => ⟨S1x4096x4x256, .f32⟩
  | .hbm, ⟨55, _⟩ => ⟨S4096x1024, .f32⟩
  | .hbm, ⟨56, _⟩ => ⟨S4096x1024, .f32⟩
  | .hbm, ⟨57, _⟩ => ⟨S1x4096x4x256, .f32⟩
  | .hbm, ⟨58, _⟩ => ⟨S1x4x256x4096, .f32⟩
  | .hbm, ⟨59, _⟩ => ⟨S1x4x4096x256, .f32⟩
  | .hbm, ⟨60, _⟩ => ⟨S1x4x256x256, .f32⟩
  | .hbm, ⟨61, _⟩ => ⟨S1x256x4x256, .f32⟩
  | .hbm, ⟨62, _⟩ => ⟨S1x4x4096x256, .f32⟩
  | .hbm, ⟨63, _⟩ => ⟨S1x4x4096x256, .f32⟩
  | .hbm, ⟨64, _⟩ => ⟨S1x4x4096x256, .f32⟩
  | .hbm, ⟨65, _⟩ => ⟨S_, .f32⟩
  | .hbm, ⟨66, _⟩ => ⟨S1x4x4096, .f32⟩
  | .hbm, ⟨67, _⟩ => ⟨S1x4x4096x1, .f32⟩
  | .hbm, ⟨68, _⟩ => ⟨S1x4x4096x1, .f32⟩
  | .hbm, ⟨69, _⟩ => ⟨S1x4x4096x256, .f32⟩
  | .hbm, ⟨70, _⟩ => ⟨S1x4x4096x256, .f32⟩
  | .hbm, ⟨71, _⟩ => ⟨S_, .f32⟩
  | .hbm, ⟨72, _⟩ => ⟨S4x4096, .f32⟩
  | .hbm, ⟨73, _⟩ => ⟨S1x4x4096, .f32⟩
  | .hbm, ⟨74, _⟩ => ⟨S1x4x4096x256, .f32⟩
  | .hbm, ⟨75, _⟩ => ⟨S1x4x4096x256, .f32⟩
  | .hbm, ⟨76, _⟩ => ⟨S1x4x4096x256, .f32⟩
  | .hbm, ⟨77, _⟩ => ⟨S_, .f32⟩
  | .hbm, ⟨78, _⟩ => ⟨S1x4x4096x256, .f32⟩
  | .hbm, ⟨79, _⟩ => ⟨S1x4x4096x256, .f32⟩
  | .hbm, ⟨80, _⟩ => ⟨S1x4x256x256, .f32⟩
  | .hbm, ⟨81, _⟩ => ⟨S1x256x4x256, .f32⟩
  | .hbm, ⟨82, _⟩ => ⟨S1x4x4096x256, .f32⟩
  | .hbm, ⟨83, _⟩ => ⟨S1x4096x4x256, .f32⟩
  | .hbm, ⟨84, _⟩ => ⟨S1x256x1024, .f32⟩
  | .hbm, ⟨85, _⟩ => ⟨S1x256x1024, .f32⟩
  | .hbm, ⟨86, _⟩ => ⟨S1x256x2048, .f32⟩
  | .hbm, ⟨87, _⟩ => ⟨S256x2048, .f32⟩
  | .hbm, ⟨88, _⟩ => ⟨S4096x1024, .f32⟩
  | .hbm, ⟨89, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_10 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_11 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_12 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩

abbrev nD : Nat := 1
abbrev τ : Topo := Topo.v7x

variable {F : FTy → Type} [FloatOps F]
-- ==== Kernel2.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S_, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S4096x2816, .f32⟩
  | .hbm, ⟨8, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S4096x2816 : Shape := ⟨2, ![4096, 2816]⟩
abbrev S4096x1024 : Shape := ⟨2, ![4096, 1024]⟩
abbrev S4x2816x1024 : Shape := ⟨3, ![4, 2816, 1024]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4x2816x1024, .bf16⟩
  | .hbm, ⟨3, _⟩ => ⟨S4x2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, arg0.toNat, v0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2816 : Shape := ⟨2, ![4096, 2816]⟩
abbrev S4096x1024 : Shape := ⟨2, ![4096, 1024]⟩
abbrev S4x2816x1024 : Shape := ⟨3, ![4, 2816, 1024]⟩
abbrev S_ : Shape := ⟨0, ![]⟩
abbrev S2816x1024 : Shape := ⟨2, ![2816, 1024]⟩
abbrev S1024x2816 : Shape := ⟨2, ![1024, 2816]⟩
abbrev S1x2816x1024 : Shape := ⟨3, ![1, 2816, 1024]⟩
abbrev S3x2816x1024 : Shape := ⟨3, ![3, 2816, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4x2816x1024, .bf16⟩
  | .hbm, ⟨3, _⟩ => ⟨S_, .f32⟩
  | .hbm, ⟨4, _⟩ => ⟨S2816x1024, .f32⟩
  | .hbm, ⟨5, _⟩ => ⟨S4096x2816, .f32⟩
  | .hbm, ⟨6, _⟩ => ⟨S4096x1024, .f32⟩
  | .hbm, ⟨7, _⟩ => ⟨S4096x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | .hbm, ⟨11, _⟩ => ⟨S1x2816x1024, .bf16⟩
  | .hbm, ⟨12, _⟩ => ⟨S3x2816x1024, .bf16⟩
  | .hbm, ⟨13, _⟩ => ⟨S4x2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel4.lean ====
abbrev S4096x1024 : Shape := ⟨2, ![4096, 1024]⟩
abbrev S1024x5632 : Shape := ⟨2, ![1024, 5632]⟩
abbrev S4096x5632 : Shape := ⟨2, ![4096, 5632]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | .hbm, ⟨5, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S4096x2816 : Shape := ⟨2, ![4096, 2816]⟩
abbrev S2816x1024 : Shape := ⟨2, ![2816, 1024]⟩
abbrev S4096x1024 : Shape := ⟨2, ![4096, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x2816, .f32⟩
  | .hbm, ⟨3, _⟩ => ⟨S2816x1024, .f32⟩
  | .hbm, ⟨4, _⟩ => ⟨S4096x1024, .f32⟩
  | .hbm, ⟨5, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel6.lean ====
abbrev S2x4096x2816 : Shape := ⟨3, ![2, 4096, 2816]⟩
abbrev S1024x5632 : Shape := ⟨2, ![1024, 5632]⟩
abbrev S4096x1024 : Shape := ⟨2, ![4096, 1024]⟩
abbrev S1x1024x1408 : Shape := ⟨3, ![1, 1024, 1408]⟩
abbrev S1024x1408 : Shape := ⟨2, ![1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2x4096x2816, .bf16⟩
  | .hbm, ⟨1, _⟩ => ⟨S1024x5632, .bf16⟩
  | .hbm, ⟨2, _⟩ => ⟨S4096x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2x4096x2816 : Shape := ⟨3, ![2, 4096, 2816]⟩
abbrev S1024x5632 : Shape := ⟨2, ![1024, 5632]⟩
abbrev S_ : Shape := ⟨0, ![]⟩
abbrev S4096x1024 : Shape := ⟨2, ![4096, 1024]⟩
abbrev S1024x2816 : Shape := ⟨2, ![1024, 2816]⟩
abbrev S4096x2816 : Shape := ⟨2, ![4096, 2816]⟩
abbrev S1x4096x2816 : Shape := ⟨3, ![1, 4096, 2816]⟩

abbrev nBuf : Space → Nat
  | .hbm => 11
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S1024x5632, .bf16⟩
  | .hbm, ⟨2, _⟩ => ⟨S_, .f32⟩
  | .hbm, ⟨3, _⟩ => ⟨S4096x1024, .f32⟩
  | .hbm, ⟨4, _⟩ => ⟨S1024x2816, .bf16⟩
  | .hbm, ⟨5, _⟩ => ⟨S1024x2816, .f32⟩
  | .hbm, ⟨6, _⟩ => ⟨S4096x2816, .f32⟩
  | .hbm, ⟨7, _⟩ => ⟨S1x4096x2816, .bf16⟩
  | .hbm, ⟨8, _⟩ => ⟨S4096x2816, .bf16⟩
  | .hbm, ⟨9, _⟩ => ⟨S4096x2816, .f32⟩
  | .hbm, ⟨10, _⟩ => ⟨S4096x1024, .f32⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S2x4096x2816 : Shape := ⟨3, ![2, 4096, 2816]⟩
abbrev S1024x5632 : Shape := ⟨2, ![1024, 5632]⟩
abbrev S4096x1024 : Shape := ⟨2, ![4096, 1024]⟩
abbrev S1x1024x1408 : Shape := ⟨3, ![1, 1024, 1408]⟩
abbrev S1024x1408 : Shape := ⟨2, ![1024, 1408]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2x4096x2816, .bf16⟩
  | .hbm, ⟨1, _⟩ => ⟨S1024x5632, .bf16⟩
  | .hbm, ⟨2, _⟩ => ⟨S4096x1024, .f32⟩
  | .hbm, ⟨3, _⟩ => ⟨S4096x1024, .bf16⟩
  | .local _ .vmem, ⟨0, _⟩ => ⟨S1x1024x1408, .bf16⟩
  | .local _ .vmem, ⟨1, _⟩ => ⟨S1x1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S2x4096x2816 : Shape := ⟨3, ![2, 4096, 2816]⟩
abbrev S1024x5632 : Shape := ⟨2, ![1024, 5632]⟩
abbrev S4096x1024 : Shape := ⟨2, ![4096, 1024]⟩
abbrev S_ : Shape := ⟨0, ![]⟩
abbrev S1024x2816 : Shape := ⟨2, ![1024, 2816]⟩
abbrev S4096x2816 : Shape := ⟨2, ![4096, 2816]⟩
abbrev S1x4096x2816 : Shape := ⟨3, ![1, 4096, 2816]⟩

abbrev nBuf : Space → Nat
  | .hbm => 14
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S1024x5632, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S1024x2816, .bf16⟩
  | .hbm, ⟨6, _⟩ => ⟨S1024x2816, .f32⟩
  | .hbm, ⟨7, _⟩ => ⟨S4096x2816, .f32⟩
  | .hbm, ⟨8, _⟩ => ⟨S1x4096x2816, .bf16⟩
  | .hbm, ⟨9, _⟩ => ⟨S4096x2816, .bf16⟩
  | .hbm, ⟨10, _⟩ => ⟨S4096x2816, .f32⟩
  | .hbm, ⟨11, _⟩ => ⟨S4096x1024, .f32⟩
  | .hbm, ⟨12, _⟩ => ⟨S4096x1024, .f32⟩
  | .hbm, ⟨13, _⟩ => ⟨S4096x1024, .bf16⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel8.lean ====
abbrev S4096x1024 : Shape := ⟨2, ![4096, 1024]⟩
abbrev S2x4096x2816 : Shape := ⟨3, ![2, 4096, 2816]⟩
abbrev S4x1024x5632 : Shape := ⟨3, ![4, 1024, 5632]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S1024x1408 : Shape := ⟨2, ![1024, 1408]⟩
abbrev S2048x1408 : Shape := ⟨2, ![2048, 1408]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S4x1024x5632, .bf16⟩
  | .hbm, ⟨3, _⟩ => ⟨S4x1024x5632, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let c0_i32_1 : BitVec 32 := 0#32
  ![c0_i32_0.toNat, v0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S2x4096x2816 : Shape := ⟨3, ![2, 4096, 2816]⟩
abbrev S4x1024x5632 : Shape := ⟨3, ![4, 1024, 5632]⟩
abbrev S_ : Shape := ⟨0, ![]⟩
abbrev S1024x2816 : Shape := ⟨2, ![1024, 2816]⟩
abbrev S4096x2816 : Shape := ⟨2, ![4096, 2816]⟩
abbrev S1x4096x2816 : Shape := ⟨3, ![1, 4096, 2816]⟩
abbrev S2816x1024 : Shape := ⟨2, ![2816, 1024]⟩
abbrev S1x1024x2816 : Shape := ⟨3, ![1, 1024, 2816]⟩
abbrev S1024x5632 : Shape := ⟨2, ![1024, 5632]⟩
abbrev S1x1024x5632 : Shape := ⟨3, ![1, 1024, 5632]⟩
abbrev S3x1024x5632 : Shape := ⟨3, ![3, 1024, 5632]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S4x1024x5632, .bf16⟩
  | .hbm, ⟨3, _⟩ => ⟨S_, .f32⟩
  | .hbm, ⟨4, _⟩ => ⟨S1024x2816, .f32⟩
  | .hbm, ⟨5, _⟩ => ⟨S4096x1024, .f32⟩
  | .hbm, ⟨6, _⟩ => ⟨S4096x2816, .f32⟩
  | .hbm, ⟨7, _⟩ => ⟨S1x4096x2816, .bf16⟩
  | .hbm, ⟨8, _⟩ => ⟨S4096x2816, .bf16⟩
  | .hbm, ⟨9, _⟩ => ⟨S4096x2816, .f32⟩
  | .hbm, ⟨10, _⟩ => ⟨S2816x1024, .f32⟩
  | .hbm, ⟨11, _⟩ => ⟨S1024x2816, .f32⟩
  | .hbm, ⟨12, _⟩ => ⟨S1024x2816, .bf16⟩
  | .hbm, ⟨13, _⟩ => ⟨S1x1024x2816, .bf16⟩
  | .hbm, ⟨14, _⟩ => ⟨S1024x2816, .bf16⟩
  | .hbm, ⟨15, _⟩ => ⟨S1024x5632, .bf16⟩
  | .hbm, ⟨16, _⟩ => ⟨S1x1024x5632, .bf16⟩
  | .hbm, ⟨17, _⟩ => ⟨S3x1024x5632, .bf16⟩
  | .hbm, ⟨18, _⟩ => ⟨S4x1024x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Kernel9.lean ====
abbrev S4096x1024 : Shape := ⟨2, ![4096, 1024]⟩
abbrev S2x4096x2816 : Shape := ⟨3, ![2, 4096, 2816]⟩
abbrev S4x1024x5632 : Shape := ⟨3, ![4, 1024, 5632]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S1024x1408 : Shape := ⟨2, ![1024, 1408]⟩
abbrev S2048x1408 : Shape := ⟨2, ![2048, 1408]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S4x1024x5632, .bf16⟩
  | .hbm, ⟨3, _⟩ => ⟨S4x1024x5632, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c1_i32 : BitVec 32 := 1#32
  let c0_i32_0 : BitVec 32 := 0#32
  ![c1_i32.toNat, v0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  let c0_i32_0 : BitVec 32 := 0#32
  ![c0_i32.toNat, arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S2x4096x2816 : Shape := ⟨3, ![2, 4096, 2816]⟩
abbrev S4x1024x5632 : Shape := ⟨3, ![4, 1024, 5632]⟩
abbrev S_ : Shape := ⟨0, ![]⟩
abbrev S1024x2816 : Shape := ⟨2, ![1024, 2816]⟩
abbrev S4096x2816 : Shape := ⟨2, ![4096, 2816]⟩
abbrev S1x4096x2816 : Shape := ⟨3, ![1, 4096, 2816]⟩
abbrev S2816x1024 : Shape := ⟨2, ![2816, 1024]⟩
abbrev S1x1024x2816 : Shape := ⟨3, ![1, 1024, 2816]⟩
abbrev S1024x5632 : Shape := ⟨2, ![1024, 5632]⟩
abbrev S1x1024x5632 : Shape := ⟨3, ![1, 1024, 5632]⟩
abbrev S3x1024x5632 : Shape := ⟨3, ![3, 1024, 5632]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S4x1024x5632, .bf16⟩
  | .hbm, ⟨3, _⟩ => ⟨S_, .f32⟩
  | .hbm, ⟨4, _⟩ => ⟨S1024x2816, .f32⟩
  | .hbm, ⟨5, _⟩ => ⟨S4096x1024, .f32⟩
  | .hbm, ⟨6, _⟩ => ⟨S4096x2816, .f32⟩
  | .hbm, ⟨7, _⟩ => ⟨S1x4096x2816, .bf16⟩
  | .hbm, ⟨8, _⟩ => ⟨S4096x2816, .bf16⟩
  | .hbm, ⟨9, _⟩ => ⟨S4096x2816, .f32⟩
  | .hbm, ⟨10, _⟩ => ⟨S2816x1024, .f32⟩
  | .hbm, ⟨11, _⟩ => ⟨S1024x2816, .f32⟩
  | .hbm, ⟨12, _⟩ => ⟨S1024x2816, .bf16⟩
  | .hbm, ⟨13, _⟩ => ⟨S1x1024x2816, .bf16⟩
  | .hbm, ⟨14, _⟩ => ⟨S1024x2816, .bf16⟩
  | .hbm, ⟨15, _⟩ => ⟨S1024x5632, .bf16⟩
  | .hbm, ⟨16, _⟩ => ⟨S1x1024x5632, .bf16⟩
  | .hbm, ⟨17, _⟩ => ⟨S3x1024x5632, .bf16⟩
  | .hbm, ⟨18, _⟩ => ⟨S4x1024x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Kernel10.lean ====
abbrev S4096x1024 : Shape := ⟨2, ![4096, 1024]⟩
abbrev S1024x5152 : Shape := ⟨2, ![1024, 5152]⟩
abbrev S4096x5120 : Shape := ⟨2, ![4096, 5120]⟩
abbrev S1024x1024 : Shape := ⟨2, ![1024, 1024]⟩
abbrev S1024x1280 : Shape := ⟨2, ![1024, 1280]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5152, .bf16⟩
  | .hbm, ⟨2, _⟩ => ⟨S4096x5120, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1280, .bf16⟩
  | .local _ .vmem, ⟨3, _⟩ => ⟨S1024x1280, .bf16⟩
  | .local _ .vmem, ⟨4, _⟩ => ⟨S1024x1280, .bf16⟩
  | .local _ .vmem, ⟨5, _⟩ => ⟨S1024x1280, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S1024x5152 : Shape := ⟨2, ![1024, 5152]⟩
abbrev S1024x5120 : Shape := ⟨2, ![1024, 5120]⟩
abbrev S4096x5120 : Shape := ⟨2, ![4096, 5120]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5152, .bf16⟩
  | .hbm, ⟨2, _⟩ => ⟨S4096x1024, .f32⟩
  | .hbm, ⟨3, _⟩ => ⟨S1024x5120, .bf16⟩
  | .hbm, ⟨4, _⟩ => ⟨S1024x5120, .f32⟩
  | .hbm, ⟨5, _⟩ => ⟨S4096x5120, .f32⟩
  | .hbm, ⟨6, _⟩ => ⟨S4096x5120, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel11.lean ====
abbrev S4096x1024 : Shape := ⟨2, ![4096, 1024]⟩
abbrev S1024x128 : Shape := ⟨2, ![1024, 128]⟩
abbrev S4096x128 : Shape := ⟨2, ![4096, 128]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x128, .bf16⟩
  | .hbm, ⟨2, _⟩ => ⟨S4096x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S1024x128 : Shape := ⟨2, ![1024, 128]⟩
abbrev S4096x128 : Shape := ⟨2, ![4096, 128]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x128, .bf16⟩
  | .hbm, ⟨2, _⟩ => ⟨S4096x1024, .f32⟩
  | .hbm, ⟨3, _⟩ => ⟨S1024x128, .f32⟩
  | .hbm, ⟨4, _⟩ => ⟨S4096x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x2048, .f32⟩
  | .hbm, ⟨3, _⟩ => ⟨S2048x1024, .f32⟩
  | .hbm, ⟨4, _⟩ => ⟨S4096x1024, .f32⟩
  | .hbm, ⟨5, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel13.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S_, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x1024, .f32⟩
  | .hbm, ⟨7, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S4096x2048 : Shape := ⟨2, ![4096, 2048]⟩
abbrev S4096x1024 : Shape := ⟨2, ![4096, 1024]⟩
abbrev S2x2048x1024 : Shape := ⟨3, ![2, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2x2048x1024, .bf16⟩
  | .hbm, ⟨3, _⟩ => ⟨S2x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x2048 : Shape := ⟨2, ![4096, 2048]⟩
abbrev S4096x1024 : Shape := ⟨2, ![4096, 1024]⟩
abbrev S2x2048x1024 : Shape := ⟨3, ![2, 2048, 1024]⟩
abbrev S_ : Shape := ⟨0, ![]⟩
abbrev S2048x1024 : Shape := ⟨2, ![2048, 1024]⟩
abbrev S1024x2048 : Shape := ⟨2, ![1024, 2048]⟩
abbrev S1x2048x1024 : Shape := ⟨3, ![1, 2048, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2x2048x1024, .bf16⟩
  | .hbm, ⟨3, _⟩ => ⟨S_, .f32⟩
  | .hbm, ⟨4, _⟩ => ⟨S2048x1024, .f32⟩
  | .hbm, ⟨5, _⟩ => ⟨S4096x2048, .f32⟩
  | .hbm, ⟨6, _⟩ => ⟨S4096x1024, .f32⟩
  | .hbm, ⟨7, _⟩ => ⟨S4096x1024, .f32⟩
  | .hbm, ⟨8, _⟩ => ⟨S1024x2048, .f32⟩
  | .hbm, ⟨9, _⟩ => ⟨S2048x1024, .f32⟩
  | .hbm, ⟨10, _⟩ => ⟨S2048x1024, .bf16⟩
  | .hbm, ⟨11, _⟩ => ⟨S1x2048x1024, .bf16⟩
  | .hbm, ⟨12, _⟩ => ⟨S1x2048x1024, .bf16⟩
  | .hbm, ⟨13, _⟩ => ⟨S2x2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel15.lean ====
abbrev S4096x1024 : Shape := ⟨2, ![4096, 1024]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel16.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel17.lean ====
abbrev S4096x1024 : Shape := ⟨2, ![4096, 1024]⟩
abbrev S4096x128 : Shape := ⟨2, ![4096, 128]⟩
abbrev S1024x128 : Shape := ⟨2, ![1024, 128]⟩
abbrev S2048x1024 : Shape := ⟨2, ![2048, 1024]⟩
abbrev S2048x128 : Shape := ⟨2, ![2048, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x128, .f32⟩
  | .hbm, ⟨2, _⟩ => ⟨S1024x128, .bf16⟩
  | .local _ .vmem, ⟨0, _⟩ => ⟨S2048x1024, .bf16⟩
  | .local _ .vmem, ⟨1, _⟩ => ⟨S2048x1024, .bf16⟩
  | .local _ .vmem, ⟨2, _⟩ => ⟨S2048x128, .f32⟩
  | .local _ .vmem, ⟨3, _⟩ => ⟨S2048x128, .f32⟩
  | .local _ .vmem, ⟨4, _⟩ => ⟨S1024x128, .bf16⟩
  | .local _ .vmem, ⟨5, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference17Ideal.lean ====
abbrev S4096x1024 : Shape := ⟨2, ![4096, 1024]⟩
abbrev S4096x128 : Shape := ⟨2, ![4096, 128]⟩
abbrev S_ : Shape := ⟨0, ![]⟩
abbrev S1024x128 : Shape := ⟨2, ![1024, 128]⟩
abbrev S128x1024 : Shape := ⟨2, ![128, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x128, .f32⟩
  | .hbm, ⟨2, _⟩ => ⟨S_, .f32⟩
  | .hbm, ⟨3, _⟩ => ⟨S1024x128, .f32⟩
  | .hbm, ⟨4, _⟩ => ⟨S4096x1024, .f32⟩
  | .hbm, ⟨5, _⟩ => ⟨S4096x128, .f32⟩
  | .hbm, ⟨6, _⟩ => ⟨S128x1024, .f32⟩
  | .hbm, ⟨7, _⟩ => ⟨S1024x128, .f32⟩
  | .hbm, ⟨8, _⟩ => ⟨S1024x128, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel18.lean ====
abbrev S4096x2048 : Shape := ⟨2, ![4096, 2048]⟩
abbrev S1024x5152 : Shape := ⟨2, ![1024, 5152]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S1024x5152, .bf16⟩
  | .hbm, ⟨2, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x2048 : Shape := ⟨2, ![4096, 2048]⟩
abbrev S1024x5152 : Shape := ⟨2, ![1024, 5152]⟩
abbrev S_ : Shape := ⟨0, ![]⟩
abbrev S4096x1024 : Shape := ⟨2, ![4096, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x5152, .bf16⟩
  | .hbm, ⟨2, _⟩ => ⟨S_, .f32⟩
  | .hbm, ⟨3, _⟩ => ⟨S4096x1024, .f32⟩
  | .hbm, ⟨4, _⟩ => ⟨S1024x2048, .bf16⟩
  | .hbm, ⟨5, _⟩ => ⟨S1024x2048, .f32⟩
  | .hbm, ⟨6, _⟩ => ⟨S4096x2048, .f32⟩
  | .hbm, ⟨7, _⟩ => ⟨S4096x2048, .f32⟩
  | .hbm, ⟨8, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel19.lean ====
abbrev S4096x2048 : Shape := ⟨2, ![4096, 2048]⟩
abbrev S1024x5152 : Shape := ⟨2, ![1024, 5152]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S1024x5152, .bf16⟩
  | .hbm, ⟨2, _⟩ => ⟨S4096x1024, .f32⟩
  | .hbm, ⟨3, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference19Ideal.lean ====
abbrev S4096x2048 : Shape := ⟨2, ![4096, 2048]⟩
abbrev S1024x5152 : Shape := ⟨2, ![1024, 5152]⟩
abbrev S4096x1024 : Shape := ⟨2, ![4096, 1024]⟩
abbrev S_ : Shape := ⟨0, ![]⟩
abbrev S1024x2048 : Shape := ⟨2, ![1024, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x5152, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S1024x2048, .bf16⟩
  | .hbm, ⟨6, _⟩ => ⟨S1024x2048, .f32⟩
  | .hbm, ⟨7, _⟩ => ⟨S4096x2048, .f32⟩
  | .hbm, ⟨8, _⟩ => ⟨S4096x2048, .f32⟩
  | .hbm, ⟨9, _⟩ => ⟨S4096x1024, .f32⟩
  | .hbm, ⟨10, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel20.lean ====
abbrev S4096x1024 : Shape := ⟨2, ![4096, 1024]⟩
abbrev S1024x5152 : Shape := ⟨2, ![1024, 5152]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x5152, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg2 c4_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference20Ideal.lean ====
abbrev S4096x1024 : Shape := ⟨2, ![4096, 1024]⟩
abbrev S1024x5152 : Shape := ⟨2, ![1024, 5152]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5152, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S1024x1024, .bf16⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel21.lean ====
abbrev S4096x128 : Shape := ⟨2, ![4096, 128]⟩
abbrev S1024x128 : Shape := ⟨2, ![1024, 128]⟩
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x128, .f32⟩
  | .hbm, ⟨1, _⟩ => ⟨S1024x128, .bf16⟩
  | .hbm, ⟨2, _⟩ => ⟨S4096x1024, .f32⟩
  | .hbm, ⟨3, _⟩ => ⟨S4096x1024, .bf16⟩
  | .local _ .vmem, ⟨0, _⟩ => ⟨S1024x128, .f32⟩
  | .local _ .vmem, ⟨1, _⟩ => ⟨S1024x128, .f32⟩
  | .local _ .vmem, ⟨2, _⟩ => ⟨S1024x128, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .bf16⟩
  | .local _ .vmem, ⟨6, _⟩ => ⟨S1024x1024, .bf16⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference21Ideal.lean ====
abbrev S4096x128 : Shape := ⟨2, ![4096, 128]⟩
abbrev S1024x128 : Shape := ⟨2, ![1024, 128]⟩
abbrev S4096x1024 : Shape := ⟨2, ![4096, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S1024x128, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S1024x128, .f32⟩
  | .hbm, ⟨6, _⟩ => ⟨S4096x128, .f32⟩
  | .hbm, ⟨7, _⟩ => ⟨S4096x1024, .f32⟩
  | .hbm, ⟨8, _⟩ => ⟨S4096x1024, .f32⟩
  | .hbm, ⟨9, _⟩ => ⟨S4096x1024, .bf16⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel22.lean ====
abbrev S4096x1024 : Shape := ⟨2, ![4096, 1024]⟩
abbrev S1024x2048 : Shape := ⟨2, ![1024, 2048]⟩
abbrev S1x2048 : Shape := ⟨2, ![1, 2048]⟩
abbrev S4096x2048 : Shape := ⟨2, ![4096, 2048]⟩
abbrev S1024x1024 : Shape := ⟨2, ![1024, 1024]⟩
abbrev S1x1024 : Shape := ⟨2, ![1, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S1x2048, .f32⟩
  | .hbm, ⟨3, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference22Ideal.lean ====
abbrev S4096x1024 : Shape := ⟨2, ![4096, 1024]⟩
abbrev S1024x2048 : Shape := ⟨2, ![1024, 2048]⟩
abbrev S1x2048 : Shape := ⟨2, ![1, 2048]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S1x2048, .f32⟩
  | .hbm, ⟨3, _⟩ => ⟨S4096x1024, .f32⟩
  | .hbm, ⟨4, _⟩ => ⟨S1024x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel23.lean ====
abbrev S4096x1024 : Shape := ⟨2, ![4096, 1024]⟩
abbrev S1024x1024 : Shape := ⟨2, ![1024, 1024]⟩
abbrev S1x1024 : Shape := ⟨2, ![1, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1x1024, .f32⟩
  | .hbm, ⟨3, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference23Ideal.lean ====
abbrev S4096x1024 : Shape := ⟨2, ![4096, 1024]⟩
abbrev S1024x1024 : Shape := ⟨2, ![1024, 1024]⟩
abbrev S1x1024 : Shape := ⟨2, ![1, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel24.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel25.lean ====
abbrev S4096x1024 : Shape := ⟨2, ![4096, 1024]⟩
abbrev S2x1024x1024 : Shape := ⟨3, ![2, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S2x1024x1024, .bf16⟩
  | .hbm, ⟨3, _⟩ => ⟨S2x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference25Ideal.lean ====
abbrev S4096x1024 : Shape := ⟨2, ![4096, 1024]⟩
abbrev S2x1024x1024 : Shape := ⟨3, ![2, 1024, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S2x1024x1024, .bf16⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | .hbm, ⟨11, _⟩ => ⟨S1x1024x1024, .bf16⟩
  | .hbm, ⟨12, _⟩ => ⟨S1x1024x1024, .bf16⟩
  | .hbm, ⟨13, _⟩ => ⟨S2x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel26.lean ====
abbrev S4096x2048 : Shape := ⟨2, ![4096, 2048]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .bf16⟩
  | .local _ .vmem, ⟨4, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference26Ideal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S_, .f32⟩
  | .hbm, ⟨3, _⟩ => ⟨S4096x1024, .f32⟩
  | .hbm, ⟨4, _⟩ => ⟨S1024x2048, .f32⟩
  | .hbm, ⟨5, _⟩ => ⟨S4096x2048, .f32⟩
  | .hbm, ⟨6, _⟩ => ⟨S4096x2048, .f32⟩
  | .hbm, ⟨7, _⟩ => ⟨S4096x1024, .f32⟩
  | .hbm, ⟨8, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel27.lean ====
abbrev S4096x1024 : Shape := ⟨2, ![4096, 1024]⟩
abbrev S4096x2048 : Shape := ⟨2, ![4096, 2048]⟩
abbrev S2x1024x2048 : Shape := ⟨3, ![2, 1024, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S2x1024x2048, .bf16⟩
  | .hbm, ⟨3, _⟩ => ⟨S2x1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference27Ideal.lean ====
abbrev S4096x1024 : Shape := ⟨2, ![4096, 1024]⟩
abbrev S4096x2048 : Shape := ⟨2, ![4096, 2048]⟩
abbrev S2x1024x2048 : Shape := ⟨3, ![2, 1024, 2048]⟩
abbrev S_ : Shape := ⟨0, ![]⟩
abbrev S1024x2048 : Shape := ⟨2, ![1024, 2048]⟩
abbrev S2048x1024 : Shape := ⟨2, ![2048, 1024]⟩
abbrev S1x1024x2048 : Shape := ⟨3, ![1, 1024, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S2x1024x2048, .bf16⟩
  | .hbm, ⟨3, _⟩ => ⟨S_, .f32⟩
  | .hbm, ⟨4, _⟩ => ⟨S1024x2048, .f32⟩
  | .hbm, ⟨5, _⟩ => ⟨S4096x1024, .f32⟩
  | .hbm, ⟨6, _⟩ => ⟨S4096x2048, .f32⟩
  | .hbm, ⟨7, _⟩ => ⟨S4096x2048, .f32⟩
  | .hbm, ⟨8, _⟩ => ⟨S2048x1024, .f32⟩
  | .hbm, ⟨9, _⟩ => ⟨S1024x2048, .f32⟩
  | .hbm, ⟨10, _⟩ => ⟨S1024x2048, .bf16⟩
  | .hbm, ⟨11, _⟩ => ⟨S1x1024x2048, .bf16⟩
  | .hbm, ⟨12, _⟩ => ⟨S1x1024x2048, .bf16⟩
  | .hbm, ⟨13, _⟩ => ⟨S2x1024x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel28.lean ====
abbrev S256x1024 : Shape := ⟨2, ![256, 1024]⟩
abbrev S1024x2048 : Shape := ⟨2, ![1024, 2048]⟩
abbrev S256x2048 : Shape := ⟨2, ![256, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .bf16⟩
  | .hbm, ⟨1, _⟩ => ⟨S1024x2048, .bf16⟩
  | .hbm, ⟨2, _⟩ => ⟨S256x2048, .bf16⟩
  | .local _ .vmem, ⟨0, _⟩ => ⟨S256x1024, .bf16⟩
  | .local _ .vmem, ⟨1, _⟩ => ⟨S1024x1024, .bf16⟩
  | .local _ .vmem, ⟨2, _⟩ => ⟨S1024x1024, .bf16⟩
  | .local _ .vmem, ⟨3, _⟩ => ⟨S256x1024, .bf16⟩
  | .local _ .vmem, ⟨4, _⟩ => ⟨S256x1024, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference28Ideal.lean ====
abbrev S256x1024 : Shape := ⟨2, ![256, 1024]⟩
abbrev S1024x2048 : Shape := ⟨2, ![1024, 2048]⟩
abbrev S256x2048 : Shape := ⟨2, ![256, 2048]⟩

abbrev nBuf : Space → Nat
  | .hbm => 6
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x2048, .bf16⟩
  | .hbm, ⟨2, _⟩ => ⟨S256x1024, .f32⟩
  | .hbm, ⟨3, _⟩ => ⟨S1024x2048, .f32⟩
  | .hbm, ⟨4, _⟩ => ⟨S256x2048, .f32⟩
  | .hbm, ⟨5, _⟩ => ⟨S256x2048, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel29.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference29Ideal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel30.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference30Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel31.lean ====
abbrev S4096x1024 : Shape := ⟨2, ![4096, 1024]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4x1024x1024, .bf16⟩
  | .hbm, ⟨3, _⟩ => ⟨S4x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference31Ideal.lean ====
abbrev S4096x1024 : Shape := ⟨2, ![4096, 1024]⟩
abbrev S4x1024x1024 : Shape := ⟨3, ![4, 1024, 1024]⟩
abbrev S_ : Shape := ⟨0, ![]⟩
abbrev S1024x1024 : Shape := ⟨2, ![1024, 1024]⟩
abbrev S1x1024x1024 : Shape := ⟨3, ![1, 1024, 1024]⟩
abbrev S3x1024x1024 : Shape := ⟨3, ![3, 1024, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4x1024x1024, .bf16⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | .hbm, ⟨11, _⟩ => ⟨S1x1024x1024, .bf16⟩
  | .hbm, ⟨12, _⟩ => ⟨S3x1024x1024, .bf16⟩
  | .hbm, ⟨13, _⟩ => ⟨S4x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel32.lean ====
abbrev S256x1024 : Shape := ⟨2, ![256, 1024]⟩
abbrev S256x2048 : Shape := ⟨2, ![256, 2048]⟩
abbrev S4x1024x2048 : Shape := ⟨3, ![4, 1024, 2048]⟩
abbrev S1x1024x1024 : Shape := ⟨3, ![1, 1024, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S256x1024, .bf16⟩
  | .hbm, ⟨1, _⟩ => ⟨S256x2048, .f32⟩
  | .hbm, ⟨2, _⟩ => ⟨S4x1024x2048, .bf16⟩
  | .hbm, ⟨3, _⟩ => ⟨S4x1024x2048, .bf16⟩
  | .local _ .vmem, ⟨0, _⟩ => ⟨S256x1024, .bf16⟩
  | .local _ .vmem, ⟨1, _⟩ => ⟨S256x1024, .f32⟩
  | .local _ .vmem, ⟨2, _⟩ => ⟨S256x1024, .f32⟩
  | .local _ .vmem, ⟨3, _⟩ => ⟨S1x1024x1024, .bf16⟩
  | .local _ .vmem, ⟨4, _⟩ => ⟨S1x1024x1024, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, arg0.toNat, v0.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference32Ideal.lean ====
abbrev S256x1024 : Shape := ⟨2, ![256, 1024]⟩
abbrev S256x2048 : Shape := ⟨2, ![256, 2048]⟩
abbrev S4x1024x2048 : Shape := ⟨3, ![4, 1024, 2048]⟩
abbrev S_ : Shape := ⟨0, ![]⟩
abbrev S1024x2048 : Shape := ⟨2, ![1024, 2048]⟩
abbrev S2048x1024 : Shape := ⟨2, ![2048, 1024]⟩
abbrev S1x1024x2048 : Shape := ⟨3, ![1, 1024, 2048]⟩
abbrev S3x1024x2048 : Shape := ⟨3, ![3, 1024, 2048]⟩

abbrev nBuf : Space → Nat
  | .hbm => 13
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x2048, .f32⟩
  | .hbm, ⟨2, _⟩ => ⟨S4x1024x2048, .bf16⟩
  | .hbm, ⟨3, _⟩ => ⟨S_, .f32⟩
  | .hbm, ⟨4, _⟩ => ⟨S1024x2048, .f32⟩
  | .hbm, ⟨5, _⟩ => ⟨S256x1024, .f32⟩
  | .hbm, ⟨6, _⟩ => ⟨S256x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | .hbm, ⟨10, _⟩ => ⟨S1x1024x2048, .bf16⟩
  | .hbm, ⟨11, _⟩ => ⟨S3x1024x2048, .bf16⟩
  | .hbm, ⟨12, _⟩ => ⟨S4x1024x2048, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel33.lean ====
abbrev S256x2048 : Shape := ⟨2, ![256, 2048]⟩
abbrev S1024x2048 : Shape := ⟨2, ![1024, 2048]⟩
abbrev S256x1024 : Shape := ⟨2, ![256, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S1024x2048, .bf16⟩
  | .hbm, ⟨2, _⟩ => ⟨S256x1024, .f32⟩
  | .local _ .vmem, ⟨0, _⟩ => ⟨S256x2048, .f32⟩
  | .local _ .vmem, ⟨1, _⟩ => ⟨S1024x2048, .bf16⟩
  | .local _ .vmem, ⟨2, _⟩ => ⟨S256x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference33Ideal.lean ====
abbrev S256x2048 : Shape := ⟨2, ![256, 2048]⟩
abbrev S1024x2048 : Shape := ⟨2, ![1024, 2048]⟩
abbrev S_ : Shape := ⟨0, ![]⟩
abbrev S256x1024 : Shape := ⟨2, ![256, 1024]⟩

abbrev nBuf : Space → Nat
  | .hbm => 7
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1024x2048, .bf16⟩
  | .hbm, ⟨2, _⟩ => ⟨S_, .f32⟩
  | .hbm, ⟨3, _⟩ => ⟨S256x1024, .f32⟩
  | .hbm, ⟨4, _⟩ => ⟨S1024x2048, .f32⟩
  | .hbm, ⟨5, _⟩ => ⟨S256x2048, .f32⟩
  | .hbm, ⟨6, _⟩ => ⟨S256x1024, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel34.lean ====
abbrev S4096x1024 : Shape := ⟨2, ![4096, 1024]⟩
abbrev S256x2048 : Shape := ⟨2, ![256, 2048]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S256x2048, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference34Ideal.lean ====
abbrev S4096x1024 : Shape := ⟨2, ![4096, 1024]⟩
abbrev S256x2048 : Shape := ⟨2, ![256, 2048]⟩
abbrev S1x4096x4x256 : Shape := ⟨4, ![1, 4096, 4, 256]⟩
abbrev S1x256x2048 : Shape := ⟨3, ![1, 256, 2048]⟩
abbrev S1x256x1024 : Shape := ⟨3, ![1, 256, 1024]⟩
abbrev S1x256x4x256 : Shape := ⟨4, ![1, 256, 4, 256]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x256x4096 : Shape := ⟨4, ![1, 4, 256, 4096]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .f32⟩
  | .hbm, ⟨3, _⟩ => ⟨S256x2048, .f32⟩
  | .hbm, ⟨4, _⟩ => ⟨S1x4096x4x256, .f32⟩
  | .hbm, ⟨5, _⟩ => ⟨S1x256x2048, .f32⟩
  | .hbm, ⟨6, _⟩ => ⟨S1x256x1024, .f32⟩
  | .hbm, ⟨7, _⟩ => ⟨S1x256x1024, .f32⟩
  | .hbm, ⟨8, _⟩ => ⟨S1x256x4x256, .f32⟩
  | .hbm, ⟨9, _⟩ => ⟨S1x256x4x256, .f32⟩
  | .hbm, ⟨10, _⟩ => ⟨S1x4x4096x256, .f32⟩
  | .hbm, ⟨11, _⟩ => ⟨S_, .f32⟩
  | .hbm, ⟨12, _⟩ => ⟨S1x4x4096x256, .f32⟩
  | .hbm, ⟨13, _⟩ => ⟨S1x4x4096x256, .f32⟩
  | .hbm, ⟨14, _⟩ => ⟨S_, .f32⟩
  | .hbm, ⟨15, _⟩ => ⟨S1x4x4096, .f32⟩
  | .hbm, ⟨16, _⟩ => ⟨S_, .f32⟩
  | .hbm, ⟨17, _⟩ => ⟨S1x4x4096, .f32⟩
  | .hbm, ⟨18, _⟩ => ⟨S1x4x4096, .f32⟩
  | .hbm, ⟨19, _⟩ => ⟨S1x4x4096x1, .f32⟩
  | .hbm, ⟨20, _⟩ => ⟨S1x4x4096x256, .f32⟩
  | .hbm, ⟨21, _⟩ => ⟨S1x4x4096x256, .f32⟩
  | .hbm, ⟨22, _⟩ => ⟨S1x4x4096x256, .f32⟩
  | .hbm, ⟨23, _⟩ => ⟨S_, .f32⟩
  | .hbm, ⟨24, _⟩ => ⟨S1x4x4096, .f32⟩
  | .hbm, ⟨25, _⟩ => ⟨S1x4x4096x1, .f32⟩
  | .hbm, ⟨26, _⟩ => ⟨S1x4x4096x256, .f32⟩
  | .hbm, ⟨27, _⟩ => ⟨S1x4x4096x256, .f32⟩
  | .hbm, ⟨28, _⟩ => ⟨S1x4x256x4096, .f32⟩
  | .hbm, ⟨29, _⟩ => ⟨S1x4096x4x256, .f32⟩
  | .hbm, ⟨30, _⟩ => ⟨S4096x1024, .f32⟩
  | .hbm, ⟨31, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== Kernel35.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference35Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel36.lean ====
abbrev S256x1024 : Shape := ⟨2, ![256, 1024]⟩
abbrev S1024 : Shape := ⟨1, ![1024]⟩
abbrev S1x1024 : Shape := ⟨2, ![1, 1024]⟩
abbrev S256 : Shape := ⟨1, ![256]⟩
abbrev S256x1 : Shape := ⟨2, ![256, 1]⟩

abbrev nBuf : Space → Nat
  | .hbm => 4
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1x1024, .f32⟩
  | .hbm, ⟨3, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference36Ideal.lean ====
abbrev S256x1024 : Shape := ⟨2, ![256, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x1024, .f32⟩
  | .hbm, ⟨14, _⟩ => ⟨S256x1024, .f32⟩
  | .hbm, ⟨15, _⟩ => ⟨S1x1024, .f32⟩
  | .hbm, ⟨16, _⟩ => ⟨S256x1024, .f32⟩
  | .hbm, ⟨17, _⟩ => ⟨S256x1024, .f32⟩
  | .hbm, ⟨18, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel37.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference37Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Kernel38.lean ====
abbrev S4096x1024 : Shape := ⟨2, ![4096, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1x1x1024 : Shape := ⟨3, ![1, 1, 1024]⟩
abbrev S1 : Shape := ⟨1, ![1]⟩
abbrev S1x1x1 : Shape := ⟨3, ![1, 1, 1]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x128, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v34 : BitVec 1 := Scalar.cmpi .eq arg0 c7_i32
  let v35 : BitVec 32 := Scalar.extui v34
  let c0_i32_18 : BitVec 32 := 0#32
  let v36 : BitVec 1 := Scalar.cmpi .ne v35 c0_i32_18
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference38Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x128 : Shape := ⟨2, ![1, 128]⟩

abbrev nBuf : Space → Nat
  | .hbm => 46
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x1024, .f32⟩
  | .hbm, ⟨44, _⟩ => ⟨S4096x1024, .f32⟩
  | .hbm, ⟨45, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_cst_9 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]
-- ==== Kernel39.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024, .f32⟩
  | .hbm, ⟨3, _⟩ => ⟨S1x1024, .f32⟩
  | .hbm, ⟨4, _⟩ => ⟨S4096x1024, .bf16⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference39Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .bf16⟩
  | .hbm, ⟨50, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Kernel40.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .bf16⟩
  | .hbm, ⟨4, _⟩ => ⟨S4096x1024, .bf16⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S1x1024, .f32⟩
  | .hbm, ⟨10, _⟩ => ⟨S4096x1024, .bf16⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference40Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 102
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .bf16⟩
  | .hbm, ⟨4, _⟩ => ⟨S4096x1024, .bf16⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S4096x1024, .f32⟩
  | .hbm, ⟨70, _⟩ => ⟨S4096x1024, .f32⟩
  | .hbm, ⟨71, _⟩ => ⟨S1x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S4096x1024, .f32⟩
  | .hbm, ⟨79, _⟩ => ⟨S4096x1024, .f32⟩
  | .hbm, ⟨80, _⟩ => ⟨S_, .f32⟩
  | .hbm, ⟨81, _⟩ => ⟨S1024, .f32⟩
  | .hbm, ⟨82, _⟩ => ⟨S4096x1024, .f32⟩
  | .hbm, ⟨83, _⟩ => ⟨S_, .f32⟩
  | .hbm, ⟨84, _⟩ => ⟨S4096, .f32⟩
  | .hbm, ⟨85, _⟩ => ⟨S4096x1, .f32⟩
  | .hbm, ⟨86, _⟩ => ⟨S4096x1024, .f32⟩
  | .hbm, ⟨87, _⟩ => ⟨S4096x1024, .f32⟩
  | .hbm, ⟨88, _⟩ => ⟨S4096x1, .f32⟩
  | .hbm, ⟨89, _⟩ => ⟨S_, .f32⟩
  | .hbm, ⟨90, _⟩ => ⟨S4096x1, .f32⟩
  | .hbm, ⟨91, _⟩ => ⟨S4096x1, .f32⟩
  | .hbm, ⟨92, _⟩ => ⟨S_, .f32⟩
  | .hbm, ⟨93, _⟩ => ⟨S4096, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S1x1024, .f32⟩
  | .hbm, ⟨100, _⟩ => ⟨S4096x1024, .bf16⟩
  | .hbm, ⟨101, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_13 : Ref sig .tc := ⟨.hbm, 80, rfl⟩
abbrev main_v60 : Ref sig .tc := ⟨.hbm, 81, rfl⟩
abbrev main_v61 : Ref sig .tc := ⟨.hbm, 82, rfl⟩
abbrev main_cst_14 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_15 : Ref sig .tc := ⟨.hbm, 89, rfl⟩
abbrev main_v67 : Ref sig .tc := ⟨.hbm, 90, rfl⟩
abbrev main_v68 : Ref sig .tc := ⟨.hbm, 91, rfl⟩
abbrev main_cst_16 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩

abbrev nD : Nat := 1
abbrev τ : Topo := Topo.v7x

variable {F : FTy → Type} [FloatOps F]
-- ==== Kernel41.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .bf16⟩
  | .hbm, ⟨4, _⟩ => ⟨S1x1024, .f32⟩
  | .hbm, ⟨5, _⟩ => ⟨S4096x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference41Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .bf16⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel42.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference42Ideal.lean ====
abbrev S256x1024 : Shape := ⟨2, ![256, 1024]⟩
abbrev S_ : Shape := ⟨0, ![]⟩
abbrev S1024 : Shape := ⟨1, ![1024]⟩
abbrev S256 : Shape := ⟨1, ![256]⟩
abbrev S256x1 : Shape := ⟨2, ![256, 1]⟩
abbrev S1x1024 : Shape := ⟨2, ![1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S_, .f32⟩
  | .hbm, ⟨3, _⟩ => ⟨S1024, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S1x1024, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S_, .f32⟩
  | .hbm, ⟨22, _⟩ => ⟨S1024, .f32⟩
  | .hbm, ⟨23, _⟩ => ⟨S1x1024, .f32⟩
  | .hbm, ⟨24, _⟩ => ⟨S_, .f32⟩
  | .hbm, ⟨25, _⟩ => ⟨S1024, .f32⟩
  | .hbm, ⟨26, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel43.lean ====
abbrev S4096x1024 : Shape := ⟨2, ![4096, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 2
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]
-- ==== Reference43Ideal.lean ====
abbrev S4096x1024 : Shape := ⟨2, ![4096, 1024]⟩
abbrev S_ : Shape := ⟨0, ![]⟩
abbrev S1x1024 : Shape := ⟨2, ![1, 1024]⟩
abbrev S1024 : Shape := ⟨1, ![1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S_, .f32⟩
  | .hbm, ⟨2, _⟩ => ⟨S1x1024, .f32⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S1024, .f32⟩
  | .hbm, ⟨10, _⟩ => ⟨S1x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel44.lean ====
abbrev S4096x2048 : Shape := ⟨2, ![4096, 2048]⟩
abbrev S1x2048 : Shape := ⟨2, ![1, 2048]⟩
abbrev S512x1024 : Shape := ⟨2, ![512, 1024]⟩
abbrev S1x1024 : Shape := ⟨2, ![1, 1024]⟩
abbrev S1024 : Shape := ⟨1, ![1024]⟩

abbrev nBuf : Space → Nat
  | .hbm => 2
  | .vmem => 4
  | .smem => 0
  | _ => 0

abbrev bufTy : (tb : Table) → Fin (tcTables nBuf tb) → BufTy
  | .hbm, ⟨0, _⟩ => ⟨S4096x2048, .bf16⟩
  | .hbm, ⟨1, _⟩ => ⟨S1x2048, .f32⟩
  | .local _ .vmem, ⟨0, _⟩ => ⟨S512x1024, .bf16⟩
  | .local _ .vmem, ⟨1, _⟩ => ⟨S512x1024, .bf16⟩
  | .local _ .vmem, ⟨2, _⟩ => ⟨S1x1024, .f32⟩
  | .local _ .vmem, ⟨3, _⟩ => ⟨S1x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]
-- ==== Reference44Ideal.lean ====
abbrev S4096x2048 : Shape := ⟨2, ![4096, 2048]⟩
abbrev S_ : Shape := ⟨0, ![]⟩
abbrev S1x2048 : Shape := ⟨2, ![1, 2048]⟩
abbrev S2048 : Shape := ⟨1, ![2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S_, .f32⟩
  | .hbm, ⟨2, _⟩ => ⟨S1x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S2048, .f32⟩
  | .hbm, ⟨10, _⟩ => ⟨S1x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel45.lean ====
abbrev S4096x5120 : Shape := ⟨2, ![4096, 5120]⟩
abbrev S4x3072 : Shape := ⟨2, ![4, 3072]⟩
abbrev S1x3072 : Shape := ⟨2, ![1, 3072]⟩
abbrev S4096x2048 : Shape := ⟨2, ![4096, 2048]⟩
abbrev S512x1024 : Shape := ⟨2, ![512, 1024]⟩
abbrev S32x1024 : Shape := ⟨2, ![32, 1024]⟩
abbrev S4x1024 : Shape := ⟨2, ![4, 1024]⟩
abbrev S1x1024 : Shape := ⟨2, ![1, 1024]⟩
abbrev S544x1024 : Shape := ⟨2, ![544, 1024]⟩

abbrev nBuf : Space → Nat
  | .hbm => 5
  | .vmem => 13
  | .smem => 0
  | _ => 0

abbrev bufTy : (tb : Table) → Fin (tcTables nBuf tb) → BufTy
  | .hbm, ⟨0, _⟩ => ⟨S4096x5120, .bf16⟩
  | .hbm, ⟨1, _⟩ => ⟨S4x3072, .f32⟩
  | .hbm, ⟨2, _⟩ => ⟨S1x3072, .f32⟩
  | .hbm, ⟨3, _⟩ => ⟨S4096x2048, .f32⟩
  | .hbm, ⟨4, _⟩ => ⟨S4096x2048, .bf16⟩
  | .local _ .vmem, ⟨0, _⟩ => ⟨S512x1024, .bf16⟩
  | .local _ .vmem, ⟨1, _⟩ => ⟨S512x1024, .bf16⟩
  | .local _ .vmem, ⟨2, _⟩ => ⟨S32x1024, .bf16⟩
  | .local _ .vmem, ⟨3, _⟩ => ⟨S32x1024, .bf16⟩
  | .local _ .vmem, ⟨4, _⟩ => ⟨S4x1024, .f32⟩
  | .local _ .vmem, ⟨5, _⟩ => ⟨S4x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S544x1024, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi arg0 c2_i32
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference45Ideal.lean ====
abbrev S4096x5120 : Shape := ⟨2, ![4096, 5120]⟩
abbrev S4x3072 : Shape := ⟨2, ![4, 3072]⟩
abbrev S1x3072 : Shape := ⟨2, ![1, 3072]⟩
abbrev S4096x3072 : Shape := ⟨2, ![4096, 3072]⟩
abbrev S_ : Shape := ⟨0, ![]⟩
abbrev S4099x3072 : Shape := ⟨2, ![4099, 3072]⟩
abbrev S3072 : Shape := ⟨1, ![3072]⟩
abbrev S4096x2048 : Shape := ⟨2, ![4096, 2048]⟩

abbrev nBuf : Space → Nat
  | .hbm => 48
  | .vmem => 0
  | .smem => 0
  | _ => 0

abbrev bufTy : (tb : Table) → Fin (tcTables nBuf tb) → BufTy
  | .hbm, ⟨0, _⟩ => ⟨S4096x5120, .bf16⟩
  | .hbm, ⟨1, _⟩ => ⟨S4x3072, .f32⟩
  | .hbm, ⟨2, _⟩ => ⟨S1x3072, .f32⟩
  | .hbm, ⟨3, _⟩ => ⟨S4096x3072, .bf16⟩
  | .hbm, ⟨4, _⟩ => ⟨S4096x3072, .f32⟩
  | .hbm, ⟨5, _⟩ => ⟨S_, .i32⟩
  | .hbm, ⟨6, _⟩ => ⟨S_, .f32⟩
  | .hbm, ⟨7, _⟩ => ⟨S4099x3072, .f32⟩
  | .hbm, ⟨8, _⟩ => ⟨S4096x3072, .f32⟩
  | .hbm, ⟨9, _⟩ => ⟨S1x3072, .f32⟩
  | .hbm, ⟨10, _⟩ => ⟨S3072, .f32⟩
  | .hbm, ⟨11, _⟩ => ⟨S1x3072, .f32⟩
  | .hbm, ⟨12, _⟩ => ⟨S4096x3072, .f32⟩
  | .hbm, ⟨13, _⟩ => ⟨S4096x3072, .f32⟩
  | .hbm, ⟨14, _⟩ => ⟨S4096x3072, .f32⟩
  | .hbm, ⟨15, _⟩ => ⟨S1x3072, .f32⟩
  | .hbm, ⟨16, _⟩ => ⟨S3072, .f32⟩
  | .hbm, ⟨17, _⟩ => ⟨S1x3072, .f32⟩
  | .hbm, ⟨18, _⟩ => ⟨S4096x3072, .f32⟩
  | .hbm, ⟨19, _⟩ => ⟨S4096x3072, .f32⟩
  | .hbm, ⟨20, _⟩ => ⟨S4096x3072, .f32⟩
  | .hbm, ⟨21, _⟩ => ⟨S4096x3072, .f32⟩
  | .hbm, ⟨22, _⟩ => ⟨S1x3072, .f32⟩
  | .hbm, ⟨23, _⟩ => ⟨S3072, .f32⟩
  | .hbm, ⟨24, _⟩ => ⟨S1x3072, .f32⟩
  | .hbm, ⟨25, _⟩ => ⟨S4096x3072, .f32⟩
  | .hbm, ⟨26, _⟩ => ⟨S4096x3072, .f32⟩
  | .hbm, ⟨27, _⟩ => ⟨S4096x3072, .f32⟩
  | .hbm, ⟨28, _⟩ => ⟨S4096x3072, .f32⟩
  | .hbm, ⟨29, _⟩ => ⟨S1x3072, .f32⟩
  | .hbm, ⟨30, _⟩ => ⟨S3072, .f32⟩
  | .hbm, ⟨31, _⟩ => ⟨S1x3072, .f32⟩
  | .hbm, ⟨32, _⟩ => ⟨S4096x3072, .f32⟩
  | .hbm, ⟨33, _⟩ => ⟨S4096x3072, .f32⟩
  | .hbm, ⟨34, _⟩ => ⟨S4096x3072, .f32⟩
  | .hbm, ⟨35, _⟩ => ⟨S4096x3072, .f32⟩
  | .hbm, ⟨36, _⟩ => ⟨S4096x3072, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .bf16⟩
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Kernel46.lean ====
abbrev S4096x5120 : Shape := ⟨2, ![4096, 5120]⟩
abbrev S4x3072 : Shape := ⟨2, ![4, 3072]⟩
abbrev S1x3072 : Shape := ⟨2, ![1, 3072]⟩
abbrev S4096x1024 : Shape := ⟨2, ![4096, 1024]⟩
abbrev S512x1024 : Shape := ⟨2, ![512, 1024]⟩
abbrev S32x1024 : Shape := ⟨2, ![32, 1024]⟩
abbrev S4x1024 : Shape := ⟨2, ![4, 1024]⟩
abbrev S1x1024 : Shape := ⟨2, ![1, 1024]⟩
abbrev S544x1024 : Shape := ⟨2, ![544, 1024]⟩

abbrev nBuf : Space → Nat
  | .hbm => 5
  | .vmem => 11
  | .smem => 0
  | _ => 0

abbrev bufTy : (tb : Table) → Fin (tcTables nBuf tb) → BufTy
  | .hbm, ⟨0, _⟩ => ⟨S4096x5120, .bf16⟩
  | .hbm, ⟨1, _⟩ => ⟨S4x3072, .f32⟩
  | .hbm, ⟨2, _⟩ => ⟨S1x3072, .f32⟩
  | .hbm, ⟨3, _⟩ => ⟨S4096x1024, .bf16⟩
  | .hbm, ⟨4, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S32x1024, .bf16⟩
  | .local _ .vmem, ⟨3, _⟩ => ⟨S32x1024, .bf16⟩
  | .local _ .vmem, ⟨4, _⟩ => ⟨S4x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S544x1024, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi arg0 c4_i32
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference46Ideal.lean ====
abbrev S4096x5120 : Shape := ⟨2, ![4096, 5120]⟩
abbrev S4x3072 : Shape := ⟨2, ![4, 3072]⟩
abbrev S1x3072 : Shape := ⟨2, ![1, 3072]⟩
abbrev S4096x3072 : Shape := ⟨2, ![4096, 3072]⟩
abbrev S_ : Shape := ⟨0, ![]⟩
abbrev S4099x3072 : Shape := ⟨2, ![4099, 3072]⟩
abbrev S3072 : Shape := ⟨1, ![3072]⟩
abbrev S4096x1024 : Shape := ⟨2, ![4096, 1024]⟩

abbrev nBuf : Space → Nat
  | .hbm => 49
  | .vmem => 0
  | .smem => 0
  | _ => 0

abbrev bufTy : (tb : Table) → Fin (tcTables nBuf tb) → BufTy
  | .hbm, ⟨0, _⟩ => ⟨S4096x5120, .bf16⟩
  | .hbm, ⟨1, _⟩ => ⟨S4x3072, .f32⟩
  | .hbm, ⟨2, _⟩ => ⟨S1x3072, .f32⟩
  | .hbm, ⟨3, _⟩ => ⟨S4096x3072, .bf16⟩
  | .hbm, ⟨4, _⟩ => ⟨S4096x3072, .f32⟩
  | .hbm, ⟨5, _⟩ => ⟨S_, .i32⟩
  | .hbm, ⟨6, _⟩ => ⟨S_, .f32⟩
  | .hbm, ⟨7, _⟩ => ⟨S4099x3072, .f32⟩
  | .hbm, ⟨8, _⟩ => ⟨S4096x3072, .f32⟩
  | .hbm, ⟨9, _⟩ => ⟨S1x3072, .f32⟩
  | .hbm, ⟨10, _⟩ => ⟨S3072, .f32⟩
  | .hbm, ⟨11, _⟩ => ⟨S1x3072, .f32⟩
  | .hbm, ⟨12, _⟩ => ⟨S4096x3072, .f32⟩
  | .hbm, ⟨13, _⟩ => ⟨S4096x3072, .f32⟩
  | .hbm, ⟨14, _⟩ => ⟨S4096x3072, .f32⟩
  | .hbm, ⟨15, _⟩ => ⟨S1x3072, .f32⟩
  | .hbm, ⟨16, _⟩ => ⟨S3072, .f32⟩
  | .hbm, ⟨17, _⟩ => ⟨S1x3072, .f32⟩
  | .hbm, ⟨18, _⟩ => ⟨S4096x3072, .f32⟩
  | .hbm, ⟨19, _⟩ => ⟨S4096x3072, .f32⟩
  | .hbm, ⟨20, _⟩ => ⟨S4096x3072, .f32⟩
  | .hbm, ⟨21, _⟩ => ⟨S4096x3072, .f32⟩
  | .hbm, ⟨22, _⟩ => ⟨S1x3072, .f32⟩
  | .hbm, ⟨23, _⟩ => ⟨S3072, .f32⟩
  | .hbm, ⟨24, _⟩ => ⟨S1x3072, .f32⟩
  | .hbm, ⟨25, _⟩ => ⟨S4096x3072, .f32⟩
  | .hbm, ⟨26, _⟩ => ⟨S4096x3072, .f32⟩
  | .hbm, ⟨27, _⟩ => ⟨S4096x3072, .f32⟩
  | .hbm, ⟨28, _⟩ => ⟨S4096x3072, .f32⟩
  | .hbm, ⟨29, _⟩ => ⟨S1x3072, .f32⟩
  | .hbm, ⟨30, _⟩ => ⟨S3072, .f32⟩
  | .hbm, ⟨31, _⟩ => ⟨S1x3072, .f32⟩
  | .hbm, ⟨32, _⟩ => ⟨S4096x3072, .f32⟩
  | .hbm, ⟨33, _⟩ => ⟨S4096x3072, .f32⟩
  | .hbm, ⟨34, _⟩ => ⟨S4096x3072, .f32⟩
  | .hbm, ⟨35, _⟩ => ⟨S4096x3072, .f32⟩
  | .hbm, ⟨36, _⟩ => ⟨S4096x3072, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .bf16⟩
  | .hbm, ⟨48, _⟩ => ⟨S4096x1024, .bf16⟩
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Kernel47.lean ====
abbrev S4096x5632 : Shape := ⟨2, ![4096, 5632]⟩
abbrev S3x5632 : Shape := ⟨2, ![3, 5632]⟩
abbrev S1x5632 : Shape := ⟨2, ![1, 5632]⟩
abbrev S4096x2816 : Shape := ⟨2, ![4096, 2816]⟩
abbrev S2x4096x2816 : Shape := ⟨3, ![2, 4096, 2816]⟩
abbrev S256x1408 : Shape := ⟨2, ![256, 1408]⟩
abbrev S32x1408 : Shape := ⟨2, ![32, 1408]⟩
abbrev S3x1408 : Shape := ⟨2, ![3, 1408]⟩
abbrev S1x1408 : Shape := ⟨2, ![1, 1408]⟩
abbrev S2x256x1408 : Shape := ⟨3, ![2, 256, 1408]⟩
abbrev S288x1408 : Shape := ⟨2, ![288, 1408]⟩
abbrev S1x256x1408 : Shape := ⟨3, ![1, 256, 1408]⟩

abbrev nBuf : Space → Nat
  | .hbm => 5
  | .vmem => 22
  | .smem => 0
  | _ => 0

abbrev bufTy : (tb : Table) → Fin (tcTables nBuf tb) → BufTy
  | .hbm, ⟨0, _⟩ => ⟨S4096x5632, .bf16⟩
  | .hbm, ⟨1, _⟩ => ⟨S3x5632, .f32⟩
  | .hbm, ⟨2, _⟩ => ⟨S1x5632, .f32⟩
  | .hbm, ⟨3, _⟩ => ⟨S4096x2816, .bf16⟩
  | .hbm, ⟨4, _⟩ => ⟨S2x4096x2816, .bf16⟩
  | .local _ .vmem, ⟨0, _⟩ => ⟨S256x1408, .bf16⟩
  | .local _ .vmem, ⟨1, _⟩ => ⟨S256x1408, .bf16⟩
  | .local _ .vmem, ⟨2, _⟩ => ⟨S32x1408, .bf16⟩
  | .local _ .vmem, ⟨3, _⟩ => ⟨S32x1408, .bf16⟩
  | .local _ .vmem, ⟨4, _⟩ => ⟨S256x1408, .bf16⟩
  | .local _ .vmem, ⟨5, _⟩ => ⟨S256x1408, .bf16⟩
  | .local _ .vmem, ⟨6, _⟩ => ⟨S32x1408, .bf16⟩
  | .local _ .vmem, ⟨7, _⟩ => ⟨S32x1408, .bf16⟩
  | .local _ .vmem, ⟨8, _⟩ => ⟨S3x1408, .f32⟩
  | .local _ .vmem, ⟨9, _⟩ => ⟨S3x1408, .f32⟩
  | .local _ .vmem, ⟨10, _⟩ => ⟨S3x1408, .f32⟩
  | .local _ .vmem, ⟨11, _⟩ => ⟨S3x1408, .f32⟩
  | .local _ .vmem, ⟨12, _⟩ => ⟨S1x1408, .f32⟩
  | .local _ .vmem, ⟨13, _⟩ => ⟨S1x1408, .f32⟩
  | .local _ .vmem, ⟨14, _⟩ => ⟨S1x1408, .f32⟩
  | .local _ .vmem, ⟨15, _⟩ => ⟨S1x1408, .f32⟩
  | .local _ .vmem, ⟨16, _⟩ => ⟨S256x1408, .bf16⟩
  | .local _ .vmem, ⟨17, _⟩ => ⟨S256x1408, .bf16⟩
  | .local _ .vmem, ⟨18, _⟩ => ⟨S2x256x1408, .bf16⟩
  | .local _ .vmem, ⟨19, _⟩ => ⟨S2x256x1408, .bf16⟩
  | .local _ .vmem, ⟨20, _⟩ => ⟨S288x1408, .f32⟩
  | .local _ .vmem, ⟨21, _⟩ => ⟨S288x1408, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi arg0 c2_i32
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x256x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference47Ideal.lean ====
abbrev S4096x5632 : Shape := ⟨2, ![4096, 5632]⟩
abbrev S3x5632 : Shape := ⟨2, ![3, 5632]⟩
abbrev S1x5632 : Shape := ⟨2, ![1, 5632]⟩
abbrev S_ : Shape := ⟨0, ![]⟩
abbrev S4098x5632 : Shape := ⟨2, ![4098, 5632]⟩
abbrev S5632 : Shape := ⟨1, ![5632]⟩
abbrev S4096x2816 : Shape := ⟨2, ![4096, 2816]⟩
abbrev S1x4096x2816 : Shape := ⟨3, ![1, 4096, 2816]⟩
abbrev S2x4096x2816 : Shape := ⟨3, ![2, 4096, 2816]⟩

abbrev nBuf : Space → Nat
  | .hbm => 46
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S3x5632, .f32⟩
  | .hbm, ⟨2, _⟩ => ⟨S1x5632, .f32⟩
  | .hbm, ⟨3, _⟩ => ⟨S4096x5632, .f32⟩
  | .hbm, ⟨4, _⟩ => ⟨S_, .i32⟩
  | .hbm, ⟨5, _⟩ => ⟨S_, .f32⟩
  | .hbm, ⟨6, _⟩ => ⟨S4098x5632, .f32⟩
  | .hbm, ⟨7, _⟩ => ⟨S4096x5632, .f32⟩
  | .hbm, ⟨8, _⟩ => ⟨S1x5632, .f32⟩
  | .hbm, ⟨9, _⟩ => ⟨S5632, .f32⟩
  | .hbm, ⟨10, _⟩ => ⟨S1x5632, .f32⟩
  | .hbm, ⟨11, _⟩ => ⟨S4096x5632, .f32⟩
  | .hbm, ⟨12, _⟩ => ⟨S4096x5632, .f32⟩
  | .hbm, ⟨13, _⟩ => ⟨S4096x5632, .f32⟩
  | .hbm, ⟨14, _⟩ => ⟨S1x5632, .f32⟩
  | .hbm, ⟨15, _⟩ => ⟨S5632, .f32⟩
  | .hbm, ⟨16, _⟩ => ⟨S1x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S1x5632, .f32⟩
  | .hbm, ⟨22, _⟩ => ⟨S5632, .f32⟩
  | .hbm, ⟨23, _⟩ => ⟨S1x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .bf16⟩
  | .hbm, ⟨42, _⟩ => ⟨S1x4096x2816, .f32⟩
  | .hbm, ⟨43, _⟩ => ⟨S1x4096x2816, .f32⟩
  | .hbm, ⟨44, _⟩ => ⟨S2x4096x2816, .f32⟩
  | .hbm, ⟨45, _⟩ => ⟨S2x4096x2816, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_call1_v0 : Ref sig .tc := ⟨.hbm, 31, rfl⟩
abbrev main_call1_v1 : Ref sig .tc := ⟨.hbm, 32, rfl⟩
abbrev main_call1_cst : Ref sig .tc := ⟨.hbm, 33, rfl⟩
abbrev main_call1_v2 : Ref sig .tc := ⟨.hbm, 34, rfl⟩
abbrev main_call1_v3 : Ref sig .tc := ⟨.hbm, 35, rfl⟩
abbrev main_call1_cst_0 : Ref sig .tc := ⟨.hbm, 36, rfl⟩
abbrev main_call1_v4 : Ref sig .tc := ⟨.hbm, 37, rfl⟩
abbrev main_call1_v5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Proof.Attn.Row.lean ====
/-
  The mathematics of one row of the attention's backward pass, over the extended reals and with no program in sight.

  A row of scores `s` becomes the row of probabilities `soft s`; `g` is the gradient that reaches those probabilities.
  `gradK` is the gradient of the scores in its usual form, `p · (g − Σ g p)`, and `gradR` is the form that the chain rule
  gives when it is applied to `exp (s − max) / Σ exp (s − max)` one operation at a time. They agree when the scores are
  real numbers (`gradR_eq_gradK`), whatever `g` is.
-/
module

public import Idealize.ShloMosaic.Lib.Pointwise

@[expose] public section

noncomputable section

namespace Attn

open Idealize.ShloMosaic

variable {n : ℕ}

/-- The largest score of a row. -/
def rowMax (s : Fin n → EReal) : EReal := (Finset.univ : Finset (Fin n)).fold max ⊥ s

/-- The exponential of a score, taken after the largest one is subtracted. -/
def ex (s : Fin n → EReal) (m : Fin n) : EReal := Ideal.exp (s m - rowMax s)

/-- The sum of a row's exponentials. -/
def nrm (s : Fin n → EReal) : EReal := ∑ m, ex s m

/-- The probabilities of a row. -/
def soft (s : Fin n → EReal) (m : Fin n) : EReal := Ideal.div (ex s m) (nrm s)

/-- The gradient of the scores in its usual form, scaled by `c`. -/
def gradK (c : EReal) (s g : Fin n → EReal) (m : Fin n) : EReal :=
  (soft s m * (g m - ∑ j, g j * soft s j)) * c

/-- The gradient of the scores as the chain rule gives it operation by operation, scaled by `c`. -/
def gradR (c : EReal) (s g : Fin n → EReal) (m : Fin n) : EReal :=
  ((Ideal.div (g m) (nrm s) + -(∑ j, (g j * Ideal.div 1 (nrm s * nrm s)) * ex s j)) * ex s m) * c

/-- Multiplication by a real number that is not negative goes through a finite sum. -/
theorem sum_mul_coe {ι : Type*} (t : Finset ι) (f : ι → EReal) {a : ℝ} (ha : 0 ≤ a) :
    ∑ j ∈ t, f j * (a : EReal) = (∑ j ∈ t, f j) * (a : EReal) := by
  classical
  induction t using Finset.induction_on with
  | empty => simp
  | insert i t hi ih =>
    rw [Finset.sum_insert hi, Finset.sum_insert hi, ih, mul_comm (f i + _),
      EReal.left_distrib_of_nonneg_of_ne_top (EReal.coe_nonneg.mpr ha) (EReal.coe_ne_top a),
      mul_comm (f i), mul_comm (∑ j ∈ t, f j)]

/-- A finite sum of real numbers is a real number. -/
theorem sum_coe {ι : Type*} (t : Finset ι) (f : ι → ℝ) : ∑ j ∈ t, (f j : EReal) = ((∑ j ∈ t, f j : ℝ) : EReal) := by
  classical
  induction t using Finset.induction_on with
  | empty => simp
  | insert i t hi ih => rw [Finset.sum_insert hi, Finset.sum_insert hi, ih, EReal.coe_add]

/-- The largest of finitely many (and at least one) real scores is a real number. -/
theorem rowMax_real (hn : 0 < n) (r : Fin n → ℝ) : ∃ M : ℝ, rowMax (fun j => (r j : EReal)) = (M : EReal) := by
  haveI : Nonempty (Fin n) := ⟨⟨0, hn⟩⟩
  obtain ⟨j, -, hj⟩ := Finset.exists_mem_eq_sup (Finset.univ : Finset (Fin n)) Finset.univ_nonempty
    (fun j => (r j : EReal))
  exact ⟨r j, hj⟩

/-- Of a row of real scores the exponentials are positive reals, and so is their sum. -/
theorem ex_real (hn : 0 < n) (r : Fin n → ℝ) : ∃ e : Fin n → ℝ, (∀ m, 0 < e m) ∧
    (∀ m, ex (fun j => (r j : EReal)) m = (e m : EReal)) ∧
    nrm (fun j => (r j : EReal)) = ((∑ m, e m : ℝ) : EReal) ∧ 0 < ∑ m, e m := by
  obtain ⟨M, hM⟩ := rowMax_real hn r
  haveI : Nonempty (Fin n) := ⟨⟨0, hn⟩⟩
  have he : ∀ m, ex (fun j => (r j : EReal)) m = ((Real.exp (r m - M) : ℝ) : EReal) := by
    intro m
    unfold ex
    rw [hM, ← EReal.coe_sub]
    rfl
  refine ⟨fun m => Real.exp (r m - M), fun m => Real.exp_pos _, he, ?_, ?_⟩
  · unfold nrm
    rw [← sum_coe]
    exact Finset.sum_congr rfl fun m _ => he m
  · exact Finset.sum_pos (fun m _ => Real.exp_pos _) Finset.univ_nonempty

/-- The two forms of the scores' gradient agree on a row of real scores. -/
theorem gradR_eq_gradK (hn : 0 < n) (c : EReal) (r : Fin n → ℝ) (g : Fin n → EReal) (m : Fin n) :
    gradR c (fun j => (r j : EReal)) g m = gradK c (fun j => (r j : EReal)) g m := by
  obtain ⟨e, he, hex, hZ, hpos⟩ := ex_real hn r
  set z : ℝ := ∑ m, e m with hz
  have hz0 : z ≠ 0 := hpos.ne'
  have hi : (0 : ℝ) ≤ 1 / z := (one_div_pos.mpr hpos).le
  have hsoft : ∀ j, soft (fun j => (r j : EReal)) j = ((e j * (1 / z) : ℝ) : EReal) := by
    intro j
    unfold soft
    rw [hex, hZ, Ideal.div_coe hz0, ← EReal.coe_mul]
  unfold gradR gradK
  congr 1
  simp only [hsoft, hex, hZ]
  rw [← EReal.coe_mul, Ideal.div_coe hz0, Ideal.div_coe (mul_ne_zero hz0 hz0), one_mul]
  have hs : ∑ j, (g j * ((1 / (z * z) : ℝ) : EReal)) * (e j : EReal)
      = (∑ j, g j * ((e j * (1 / z) : ℝ) : EReal)) * ((1 / z : ℝ) : EReal) := by
    rw [← sum_mul_coe _ _ hi]
    refine Finset.sum_congr rfl fun j _ => ?_
    rw [mul_assoc, mul_assoc, ← EReal.coe_mul, ← EReal.coe_mul]
    congr 2
    field_simp
  rw [hs, ← EReal.neg_mul, sub_eq_add_neg]
  generalize (∑ j, g j * ((e j * (1 / z) : ℝ) : EReal)) = T
  rw [mul_comm (g m), mul_comm (-T), ← EReal.left_distrib_of_nonneg_of_ne_top (EReal.coe_nonneg.mpr hi) (EReal.coe_ne_top _),
    mul_comm, ← mul_assoc, ← EReal.coe_mul]

end Attn
-- ==== Proof.Attn.Payloads.lean ====
/-
  What the attention kernel's body computes for one head, element by element: the probabilities, the gradient of the
  scores, the gradient of the queries, and the two terms that are added to the gradients of the keys and of the values.
  The four heads run the same formulas, so the lemmas are proved for the first head and the others are reduced to it.
-/
module

public import proofs.«01_k».proof.Proof.Gen.KernelIdeal.Value
public import proofs.«01_k».proof.Proof.Attn.Row
public import Idealize.ShloMosaic.Lib.Pointwise

@[expose] public section

noncomputable section

namespace Cert.KernelIdeal.AttnValue

open KernelIdeal KernelIdeal.Gen Idealize.ShloMosaic Attn

/-- The scale 1/16 of the scores, as the programs spell it. -/
def c16 : EReal := Ideal.ofBits .f32 0x3D800000#32

/-- The pattern of the row maximum's starting value is −∞. -/
theorem ofBits_neg_inf : Ideal.ofBits .f32 0xFF800000#32 = ⊥ := by
  simp [Ideal.ofBits, Ideal.ieee]

/-- The scores of row `r` of a head's block. -/
def hs (q : Vec Ideal S512x256 .bf16) (k : Vec Ideal S256x256 .bf16) (r : Fin 512) (m : Fin 256) : EReal :=
  (∑ d : Fin 256, q (ix2 r d) * k (ix2 m d)) * c16

/-- The gradient that reaches the probabilities of row `r` of a head's block. -/
def hg (g : Vec Ideal S512x256 .bf16) (v : Vec Ideal S256x256 .bf16) (r : Fin 512) (m : Fin 256) : EReal :=
  ∑ d : Fin 256, g (ix2 r d) * v (ix2 m d)

/-- The scores. -/
theorem pay24_apply (q : Vec Ideal S512x256 .bf16) (k : Vec Ideal S256x256 .bf16) (r : Fin 512) (m : Fin 256) :
    k0_pay24 q k (ix2 r m) = hs q k r m := by
  unfold k0_pay24
  simp only [pointwise, zero_add]
  rfl

/-- The probabilities from the scores and their row maxima. -/
theorem pay1_apply (s : FVec Ideal S512x256 .f32) (M : FVec Ideal S512x1 .f32) (r : Fin 512) (m : Fin 256) :
    k0_pay1 s M (ix2 r m) = Ideal.div (Ideal.exp (s (ix2 r m) - M (ix2 r 0)))
      (∑ j : Fin 256, Ideal.exp (s (ix2 r j) - M (ix2 r 0))) := by
  unfold k0_pay1
  simp only [pointwise]
  rfl

/-- The row maxima. -/
theorem pay25_apply (q : Vec Ideal S512x256 .bf16) (k : Vec Ideal S256x256 .bf16) (r : Fin 512) :
    k0_pay25 q k (ix2 r 0) = rowMax (hs q k r) := by
  unfold k0_pay25
  generalize hS : k0_pay24 q k = S
  simp only [pointwise, ofBits_neg_inf]
  unfold rowMax
  congr 1
  funext m
  rw [← hS]
  exact pay24_apply q k r m

/-- The probabilities. -/
theorem pay7_apply (q : Vec Ideal S512x256 .bf16) (k : Vec Ideal S256x256 .bf16) (r : Fin 512) (m : Fin 256) :
    k0_pay7 q k (ix2 r m) = soft (hs q k r) m := by
  have h : k0_pay7 q k = k0_pay1 (k0_pay24 q k) (k0_pay25 q k) := rfl
  rw [h, pay1_apply, pay25_apply, pay24_apply]
  simp only [pay24_apply]
  rfl

/-- The gradient that reaches the probabilities. -/
theorem pay13_apply (v : Vec Ideal S256x256 .bf16) (g : Vec Ideal S512x256 .bf16) (r : Fin 512) (m : Fin 256) :
    k0_pay13 v g (ix2 r m) = hg g v r m := by
  unfold k0_pay13
  simp only [pointwise, zero_add]
  rfl

/-- The gradient of the scores, from the probabilities and the gradient that reaches them. -/
theorem pay15_apply (p g : FVec Ideal S512x256 .f32) (r : Fin 512) (m : Fin 256) :
    k0_pay15 p g (ix2 r m)
      = (p (ix2 r m) * (g (ix2 r m) - ∑ j : Fin 256, g (ix2 r j) * p (ix2 r j))) * c16 := by
  unfold k0_pay15
  simp only [pointwise]
  rfl

/-- The gradient of the scores. -/
theorem pay9_apply (q : Vec Ideal S512x256 .bf16) (k v : Vec Ideal S256x256 .bf16) (g : Vec Ideal S512x256 .bf16)
    (r : Fin 512) (m : Fin 256) :
    k0_pay9 q k v g (ix2 r m) = gradK c16 (hs q k r) (hg g v r) m := by
  have h : k0_pay9 q k v g = k0_pay15 (k0_pay7 q k) (k0_pay13 v g) := rfl
  rw [h, pay15_apply]
  simp only [pay7_apply, pay13_apply]
  rfl

/-- The gradient of the queries. -/
theorem pay10_apply (q : Vec Ideal S512x256 .bf16) (k v : Vec Ideal S256x256 .bf16) (g : Vec Ideal S512x256 .bf16)
    (r : Fin 512) (d : Fin 256) :
    k0_pay10 k (k0_pay9 q k v g) (ix2 r d) = ∑ m : Fin 256, gradK c16 (hs q k r) (hg g v r) m * k (ix2 m d) := by
  simp only [← pay9_apply]
  generalize k0_pay9 q k v g = D
  unfold k0_pay10
  simp only [pointwise, zero_add]

/-- The term of the keys' gradient. -/
theorem pay11_apply (q : Vec Ideal S512x256 .bf16) (k v : Vec Ideal S256x256 .bf16) (g : Vec Ideal S512x256 .bf16)
    (acc : Vec Ideal S256x256 .f32) (m d : Fin 256) :
    k0_pay11 q (k0_pay9 q k v g) acc (ix2 m d)
      = acc (ix2 m d) + ∑ r : Fin 512, gradK c16 (hs q k r) (hg g v r) m * q (ix2 r d) := by
  simp only [← pay9_apply]
  generalize k0_pay9 q k v g = D
  unfold k0_pay11
  simp only [pointwise, zero_add]

/-- The term of the values' gradient. -/
theorem pay8_apply (q : Vec Ideal S512x256 .bf16) (k : Vec Ideal S256x256 .bf16) (g : Vec Ideal S512x256 .bf16)
    (acc : Vec Ideal S256x256 .f32) (m d : Fin 256) :
    k0_pay8 q k g acc (ix2 m d) = acc (ix2 m d) + ∑ r : Fin 512, soft (hs q k r) m * g (ix2 r d) := by
  simp only [← pay7_apply]
  unfold k0_pay8
  generalize k0_pay7 q k = D
  simp only [pointwise, zero_add]

/-! The other heads' formulas are the first head's. -/

section Heads
variable (q g : Vec Ideal S512x256 .bf16) (k v : Vec Ideal S256x256 .bf16) (acc : Vec Ideal S256x256 .f32)

theorem head1_q : k0_pay16 k (k0_pay12 q k) (k0_pay13 v g) = k0_pay10 k (k0_pay9 q k v g) := rfl
theorem head1_k : k0_pay17 q (k0_pay12 q k) (k0_pay13 v g) acc = k0_pay11 q (k0_pay9 q k v g) acc := rfl
theorem head1_v : k0_pay14 q k g acc = k0_pay8 q k g acc := rfl
theorem head2_q : k0_pay22 k (k0_pay18 q k) (k0_pay19 v g) = k0_pay10 k (k0_pay9 q k v g) := rfl
theorem head2_k : k0_pay23 q (k0_pay18 q k) (k0_pay19 v g) acc = k0_pay11 q (k0_pay9 q k v g) acc := rfl
theorem head2_v : k0_pay20 g (k0_pay18 q k) acc = k0_pay8 q k g acc := rfl
theorem head3_q : k0_pay4 k v g (k0_pay24 q k) (k0_pay25 q k) = k0_pay10 k (k0_pay9 q k v g) := rfl
theorem head3_k : k0_pay5 q v g (k0_pay24 q k) (k0_pay25 q k) acc = k0_pay11 q (k0_pay9 q k v g) acc := rfl
theorem head3_v : k0_pay2 g (k0_pay24 q k) (k0_pay25 q k) acc = k0_pay8 q k g acc := rfl

end Heads

end Cert.KernelIdeal.AttnValue
-- ==== Proof.Attn.Block.lean ====
/-
  What one grid point of the attention kernel leaves in its two output blocks, element by element: the rows of the
  queries' gradient, and the accumulated gradient of the keys and values with this point's 512 rows added.
-/
module

public import proofs.«01_k».proof.Proof.Attn.Payloads
public import Idealize.ShloMosaic.Lib.Pipeline.ReadBack
public import Idealize.ShloMosaic.Lib.Tactic

@[expose] public section

noncomputable section

namespace Cert.KernelIdeal.AttnValue

open KernelIdeal KernelIdeal.Gen Idealize ShloMosaic ShloMosaic.TcCoe SL.Sem Attn

/-! ## The gradient of one row of queries, all heads together -/

/-- Column `d` of head `h` in a row of queries. -/
def hix (h : Fin 4) (d : Fin 256) : Fin 1024 := ⟨256 * h.val + d.val, by omega⟩
/-- Column `d` of head `h` among the keys. -/
def kix (h : Fin 4) (d : Fin 256) : Fin 2048 := ⟨256 * h.val + d.val, by omega⟩
/-- Column `d` of head `h` among the values. -/
def vix (h : Fin 4) (d : Fin 256) : Fin 2048 := ⟨1024 + 256 * h.val + d.val, by omega⟩

/-- The scores of a row of queries against the memory, in head `h`. -/
def sc (q : Fin 1024 → EReal) (kv : Vec Ideal S256x2048 .bf16) (h : Fin 4) (m : Fin 256) : EReal :=
  (∑ d : Fin 256, q (hix h d) * kv (ix2 m (kix h d))) * c16
/-- The gradient that reaches the probabilities of a row, in head `h`. -/
def gr (g : Fin 1024 → EReal) (kv : Vec Ideal S256x2048 .bf16) (h : Fin 4) (m : Fin 256) : EReal :=
  ∑ d : Fin 256, g (hix h d) * kv (ix2 m (vix h d))
/-- The gradient of a row's scores, in head `h`. -/
def dS (q g : Fin 1024 → EReal) (kv : Vec Ideal S256x2048 .bf16) (h : Fin 4) (m : Fin 256) : EReal :=
  gradK c16 (sc q kv h) (gr g kv h) m
/-- The gradient of a row of queries, at column `d` of head `h`. -/
def dQ (q g : Fin 1024 → EReal) (kv : Vec Ideal S256x2048 .bf16) (h : Fin 4) (d : Fin 256) : EReal :=
  ∑ m : Fin 256, dS q g kv h m * kv (ix2 m (kix h d))
/-- What a row adds to the gradient of the keys. -/
def tK (q g : Fin 1024 → EReal) (kv : Vec Ideal S256x2048 .bf16) (m : Fin 256) (h : Fin 4) (d : Fin 256) : EReal :=
  dS q g kv h m * q (hix h d)
/-- What a row adds to the gradient of the values. -/
def tV (q g : Fin 1024 → EReal) (kv : Vec Ideal S256x2048 .bf16) (m : Fin 256) (h : Fin 4) (d : Fin 256) : EReal :=
  soft (sc q kv h) m * g (hix h d)
/-- What a row adds to the gradient of the keys and values, at column `c`. -/
def tKV (q g : Fin 1024 → EReal) (kv : Vec Ideal S256x2048 .bf16) (m : Fin 256) (c : Fin 2048) : EReal :=
  if c.val < 1024 then tK q g kv m ⟨c.val / 256 % 4, by omega⟩ ⟨c.val % 256, by omega⟩
  else tV q g kv m ⟨(c.val - 1024) / 256 % 4, by omega⟩ ⟨c.val % 256, by omega⟩
/-- The gradient of a row of queries, at column `c`. -/
def dQc (q g : Fin 1024 → EReal) (kv : Vec Ideal S256x2048 .bf16) (c : Fin 1024) : EReal :=
  dQ q g kv ⟨c.val / 256 % 4, by omega⟩ ⟨c.val % 256, by omega⟩

theorem tKV_k (q g : Fin 1024 → EReal) (kv : Vec Ideal S256x2048 .bf16) (m : Fin 256) (h : Fin 4) (d : Fin 256) :
    tKV q g kv m (kix h d) = tK q g kv m h d := by
  have e1 : (⟨(kix h d).val / 256 % 4, by omega⟩ : Fin 4) = h := Fin.ext (by simp only [kix]; omega)
  have e2 : (⟨(kix h d).val % 256, by omega⟩ : Fin 256) = d := Fin.ext (by simp only [kix]; omega)
  unfold tKV
  rw [if_pos (by simp only [kix]; omega), e1, e2]

theorem tKV_v (q g : Fin 1024 → EReal) (kv : Vec Ideal S256x2048 .bf16) (m : Fin 256) (h : Fin 4) (d : Fin 256) :
    tKV q g kv m (vix h d) = tV q g kv m h d := by
  have e1 : (⟨((vix h d).val - 1024) / 256 % 4, by omega⟩ : Fin 4) = h := Fin.ext (by simp only [vix]; omega)
  have e2 : (⟨(vix h d).val % 256, by omega⟩ : Fin 256) = d := Fin.ext (by simp only [vix]; omega)
  unfold tKV
  rw [if_neg (by simp only [vix]; omega), e1, e2]

theorem dQc_h (q g : Fin 1024 → EReal) (kv : Vec Ideal S256x2048 .bf16) (h : Fin 4) (d : Fin 256) :
    dQc q g kv (hix h d) = dQ q g kv h d := by
  have e1 : (⟨(hix h d).val / 256 % 4, by omega⟩ : Fin 4) = h := Fin.ext (by simp only [hix]; omega)
  have e2 : (⟨(hix h d).val % 256, by omega⟩ : Fin 256) = d := Fin.ext (by simp only [hix]; omega)
  unfold dQc
  rw [e1, e2]

/-- Every column of a row of queries is a column of a head. -/
theorem exists_hix (c : Fin 1024) : ∃ h d, c = hix h d :=
  ⟨⟨c.val / 256, by omega⟩, ⟨c.val % 256, by omega⟩, Fin.ext (by simp only [hix]; omega)⟩

/-- Every column of the keys and values is a column of a head of the keys or of the values. -/
theorem exists_kix_vix (c : Fin 2048) : (∃ h d, c = kix h d) ∨ ∃ h d, c = vix h d := by
  by_cases hc : c.val < 1024
  · exact .inl ⟨⟨c.val / 256, by omega⟩, ⟨c.val % 256, by omega⟩, Fin.ext (by simp only [kix]; omega)⟩
  · exact .inr ⟨⟨(c.val - 1024) / 256, by omega⟩, ⟨c.val % 256, by omega⟩, Fin.ext (by simp only [vix]; omega)⟩

/-! ## The pieces the body loads and stores -/

/-- A load of the columns from `o` on reads those columns. -/
theorem ld_cols {a n w : ℕ} {e : EltTy} (X : Vec Ideal ⟨2, ![a, n]⟩ e) (o : ℕ)
    (inb : ∀ x, (![0, o] : Fin 2 → ℕ) x + (![a, w] : Fin 2 → ℕ) x ≤ (⟨2, ![a, n]⟩ : Shape).size x) (r : Fin a) (d : Fin w) (c : Fin n)
    (hc : c.val = o + d.val) :
    View.ld X (Rect.unit (s := ⟨2, ![a, n]⟩) ![0, o] ![a, w] inb) (ix2 r d) = X (ix2 r c) :=
  congrArg X (funext fun x => Fin.ext (by
    match x with
    | ⟨0, _⟩ => show 0 + 1 * r.val = r.val; omega
    | ⟨1, _⟩ => show o + 1 * d.val = c.val; omega))

/-- An element of a stored piece lies in the columns from `o` on. -/
theorem emb_cols {a n w : ℕ} (o : ℕ)
    (inb : ∀ x, (![0, o] : Fin 2 → ℕ) x + (![a, w] : Fin 2 → ℕ) x ≤ (⟨2, ![a, n]⟩ : Shape).size x) (r : Fin a) (d : Fin w) (c : Fin n)
    (hc : c.val = o + d.val) :
    (Rect.unit (s := ⟨2, ![a, n]⟩) ![0, o] ![a, w] inb).emb (ix2 r d) = ix2 r c :=
  funext fun x => Fin.ext (by
    match x with
    | ⟨0, _⟩ => show 0 + 1 * r.val = r.val; omega
    | ⟨1, _⟩ => show o + 1 * d.val = c.val; omega)

/-- The columns from `o` on hold every element there. -/
theorem mem_cols {a n w : ℕ} (o : ℕ)
    (inb : ∀ x, (![0, o] : Fin 2 → ℕ) x + (![a, w] : Fin 2 → ℕ) x ≤ (⟨2, ![a, n]⟩ : Shape).size x) (r : Fin a) (d : Fin w) (c : Fin n)
    (hc : c.val = o + d.val) :
    (ix2 r c : (⟨2, ![a, n]⟩ : Shape).Idx) ∈ (Rect.unit (s := ⟨2, ![a, n]⟩) ![0, o] ![a, w] inb).set := by
  rw [← emb_cols o inb r d c hc]
  exact (Rect.unit (s := ⟨2, ![a, n]⟩) ![0, o] ![a, w] inb).idx_mem _

/-! ### One head -/

section Head
variable (h : Fin 4) (x0 : Vec Ideal S512x1024 .bf16) (x1 : Vec Ideal S256x2048 .bf16) (x2 : Vec Ideal S512x1024 .bf16)
  (q g : Vec Ideal S512x256 .bf16) (k v : Vec Ideal S256x256 .bf16)

/-- Row `r` of a block of rows. -/
def row (x : Vec Ideal S512x1024 .bf16) (r : Fin 512) : Fin 1024 → EReal := fun c => x (ix2 r c)

theorem hs_eq (hq : ∀ r d, q (ix2 r d) = x0 (ix2 r (hix h d))) (hk : ∀ m d, k (ix2 m d) = x1 (ix2 m (kix h d)))
    (r : Fin 512) : hs q k r = sc (row x0 r) x1 h := by
  funext m
  unfold hs sc row
  simp only [hq, hk]

theorem hg_eq (hg' : ∀ r d, g (ix2 r d) = x2 (ix2 r (hix h d))) (hv : ∀ m d, v (ix2 m d) = x1 (ix2 m (vix h d)))
    (r : Fin 512) : hg g v r = gr (row x2 r) x1 h := by
  funext m
  unfold hg gr row
  simp only [hg', hv]

theorem head_q (hq : ∀ r d, q (ix2 r d) = x0 (ix2 r (hix h d))) (hk : ∀ m d, k (ix2 m d) = x1 (ix2 m (kix h d)))
    (hg' : ∀ r d, g (ix2 r d) = x2 (ix2 r (hix h d))) (hv : ∀ m d, v (ix2 m d) = x1 (ix2 m (vix h d))) (r : Fin 512) (d : Fin 256) :
    k0_pay10 k (k0_pay9 q k v g) (ix2 r d) = dQc (row x0 r) (row x2 r) x1 (hix h d) := by
  rw [pay10_apply, dQc_h, hs_eq h x0 x1 q k hq hk, hg_eq h x1 x2 g v hg' hv]
  simp only [hk]
  rfl

theorem head_k (acc : Vec Ideal S256x256 .f32) (xo : Vec Ideal S256x2048 .f32)
    (hq : ∀ r d, q (ix2 r d) = x0 (ix2 r (hix h d))) (hk : ∀ m d, k (ix2 m d) = x1 (ix2 m (kix h d)))
    (hg' : ∀ r d, g (ix2 r d) = x2 (ix2 r (hix h d))) (hv : ∀ m d, v (ix2 m d) = x1 (ix2 m (vix h d)))
    (ha : ∀ m d, acc (ix2 m d) = xo (ix2 m (kix h d))) (m d : Fin 256) :
    k0_pay11 q (k0_pay9 q k v g) acc (ix2 m d)
      = xo (ix2 m (kix h d)) + ∑ r : Fin 512, tKV (row x0 r) (row x2 r) x1 m (kix h d) := by
  rw [pay11_apply, ha]
  congr 1
  refine Finset.sum_congr rfl fun r _ => ?_
  rw [tKV_k, hs_eq h x0 x1 q k hq hk, hg_eq h x1 x2 g v hg' hv, hq]
  rfl

theorem head_v (acc : Vec Ideal S256x256 .f32) (xo : Vec Ideal S256x2048 .f32)
    (hq : ∀ r d, q (ix2 r d) = x0 (ix2 r (hix h d))) (hk : ∀ m d, k (ix2 m d) = x1 (ix2 m (kix h d)))
    (hg' : ∀ r d, g (ix2 r d) = x2 (ix2 r (hix h d)))
    (ha : ∀ m d, acc (ix2 m d) = xo (ix2 m (vix h d))) (m d : Fin 256) :
    k0_pay8 q k g acc (ix2 m d)
      = xo (ix2 m (vix h d)) + ∑ r : Fin 512, tKV (row x0 r) (row x2 r) x1 m (vix h d) := by
  rw [pay8_apply, ha]
  congr 1
  refine Finset.sum_congr rfl fun r _ => ?_
  rw [tKV_v, hs_eq h x0 x1 q k hq hk, hg']
  rfl

end Head

/-! ### All heads -/

/-- The gradient of the keys and values after a block of 512 rows, from what it was before. -/
def kvG (x0 : Vec Ideal S512x1024 .bf16) (x1 : Vec Ideal S256x2048 .bf16) (x2 : Vec Ideal S512x1024 .bf16)
    (xo : Vec Ideal S256x2048 .f32) : Vec Ideal S256x2048 .f32 :=
  fun y => xo y + ∑ r : Fin 512, tKV (row x0 r) (row x2 r) x1 ⟨(y 0).val, (y 0).isLt⟩ ⟨(y 1).val, (y 1).isLt⟩

/-- The gradient of a block of queries. -/
def qG (x0 : Vec Ideal S512x1024 .bf16) (x1 : Vec Ideal S256x2048 .bf16) (x2 : Vec Ideal S512x1024 .bf16) :
    Vec Ideal S512x1024 .bf16 :=
  fun y => dQc (row x0 ⟨(y 0).val, (y 0).isLt⟩) (row x2 ⟨(y 0).val, (y 0).isLt⟩) x1 ⟨(y 1).val, (y 1).isLt⟩

/-- The body's eight stores into the gradient of the keys and values, last first. -/
def kvPieces (x0 : Vec Ideal S512x1024 .bf16) (x1 : Vec Ideal S256x2048 .bf16) (x2 : Vec Ideal S512x1024 .bf16)
    (xo : Vec Ideal S256x2048 .f32) : List (View.Piece (Elt Ideal) S256x2048 .f32) :=
  [⟨Rect.unit ![0, 768] ![256, 256] inb_S256x2048_S256x256_0_768,
    k0_pay5 (View.ld x0 (Rect.unit ![0, 768] ![512, 256] inb_S512x1024_S512x256_0_768))
      (View.ld x1 (Rect.unit ![0, 1792] ![256, 256] inb_S256x2048_S256x256_0_1792))
      (View.ld x2 (Rect.unit ![0, 768] ![512, 256] inb_S512x1024_S512x256_0_768))
      (k0_pay24 (View.ld x0 (Rect.unit ![0, 768] ![512, 256] inb_S512x1024_S512x256_0_768))
        (View.ld x1 (Rect.unit ![0, 768] ![256, 256] inb_S256x2048_S256x256_0_768)))
      (k0_pay25 (View.ld x0 (Rect.unit ![0, 768] ![512, 256] inb_S512x1024_S512x256_0_768))
        (View.ld x1 (Rect.unit ![0, 768] ![256, 256] inb_S256x2048_S256x256_0_768)))
      (View.ld xo (Rect.unit ![0, 768] ![256, 256] inb_S256x2048_S256x256_0_768))⟩,
  ⟨Rect.unit ![0, 1792] ![256, 256] inb_S256x2048_S256x256_0_1792,
    k0_pay2 (View.ld x2 (Rect.unit ![0, 768] ![512, 256] inb_S512x1024_S512x256_0_768))
      (k0_pay24 (View.ld x0 (Rect.unit ![0, 768] ![512, 256] inb_S512x1024_S512x256_0_768))
        (View.ld x1 (Rect.unit ![0, 768] ![256, 256] inb_S256x2048_S256x256_0_768)))
      (k0_pay25 (View.ld x0 (Rect.unit ![0, 768] ![512, 256] inb_S512x1024_S512x256_0_768))
        (View.ld x1 (Rect.unit ![0, 768] ![256, 256] inb_S256x2048_S256x256_0_768)))
      (View.ld xo (Rect.unit ![0, 1792] ![256, 256] inb_S256x2048_S256x256_0_1792))⟩,
  ⟨Rect.unit ![0, 512] ![256, 256] inb_S256x2048_S256x256_0_512,
    k0_pay23 (View.ld x0 (Rect.unit ![0, 512] ![512, 256] inb_S512x1024_S512x256_0_512))
      (k0_pay18 (View.ld x0 (Rect.unit ![0, 512] ![512, 256] inb_S512x1024_S512x256_0_512))
        (View.ld x1 (Rect.unit ![0, 512] ![256, 256] inb_S256x2048_S256x256_0_512)))
      (k0_pay19 (View.ld x1 (Rect.unit ![0, 1536] ![256, 256] inb_S256x2048_S256x256_0_1536))
        (View.ld x2 (Rect.unit ![0, 512] ![512, 256] inb_S512x1024_S512x256_0_512)))
      (View.ld xo (Rect.unit ![0, 512] ![256, 256] inb_S256x2048_S256x256_0_512))⟩,
  ⟨Rect.unit ![0, 1536] ![256, 256] inb_S256x2048_S256x256_0_1536,
    k0_pay20 (View.ld x2 (Rect.unit ![0, 512] ![512, 256] inb_S512x1024_S512x256_0_512))
      (k0_pay18 (View.ld x0 (Rect.unit ![0, 512] ![512, 256] inb_S512x1024_S512x256_0_512))
        (View.ld x1 (Rect.unit ![0, 512] ![256, 256] inb_S256x2048_S256x256_0_512)))
      (View.ld xo (Rect.unit ![0, 1536] ![256, 256] inb_S256x2048_S256x256_0_1536))⟩,
  ⟨Rect.unit ![0, 256] ![256, 256] inb_S256x2048_S256x256_0_256,
    k0_pay17 (View.ld x0 (Rect.unit ![0, 256] ![512, 256] inb_S512x1024_S512x256_0_256))
      (k0_pay12 (View.ld x0 (Rect.unit ![0, 256] ![512, 256] inb_S512x1024_S512x256_0_256))
        (View.ld x1 (Rect.unit ![0, 256] ![256, 256] inb_S256x2048_S256x256_0_256)))
      (k0_pay13 (View.ld x1 (Rect.unit ![0, 1280] ![256, 256] inb_S256x2048_S256x256_0_1280))
        (View.ld x2 (Rect.unit ![0, 256] ![512, 256] inb_S512x1024_S512x256_0_256)))
      (View.ld xo (Rect.unit ![0, 256] ![256, 256] inb_S256x2048_S256x256_0_256))⟩,
  ⟨Rect.unit ![0, 1280] ![256, 256] inb_S256x2048_S256x256_0_1280,
    k0_pay14 (View.ld x0 (Rect.unit ![0, 256] ![512, 256] inb_S512x1024_S512x256_0_256))
      (View.ld x1 (Rect.unit ![0, 256] ![256, 256] inb_S256x2048_S256x256_0_256))
      (View.ld x2 (Rect.unit ![0, 256] ![512, 256] inb_S512x1024_S512x256_0_256))
      (View.ld xo (Rect.unit ![0, 1280] ![256, 256] inb_S256x2048_S256x256_0_1280))⟩,
  ⟨Rect.unit ![0, 0] ![256, 256] inb_S256x2048_S256x256_0_0,
    k0_pay11 (View.ld x0 (Rect.unit ![0, 0] ![512, 256] inb_S512x1024_S512x256_0_0))
      (k0_pay9 (View.ld x0 (Rect.unit ![0, 0] ![512, 256] inb_S512x1024_S512x256_0_0))
        (View.ld x1 (Rect.unit ![0, 0] ![256, 256] inb_S256x2048_S256x256_0_0))
        (View.ld x1 (Rect.unit ![0, 1024] ![256, 256] inb_S256x2048_S256x256_0_1024))
        (View.ld x2 (Rect.unit ![0, 0] ![512, 256] inb_S512x1024_S512x256_0_0)))
      (View.ld xo (Rect.unit ![0, 0] ![256, 256] inb_S256x2048_S256x256_0_0))⟩,
  ⟨Rect.unit ![0, 1024] ![256, 256] inb_S256x2048_S256x256_0_1024,
    k0_pay8 (View.ld x0 (Rect.unit ![0, 0] ![512, 256] inb_S512x1024_S512x256_0_0))
      (View.ld x1 (Rect.unit ![0, 0] ![256, 256] inb_S256x2048_S256x256_0_0))
      (View.ld x2 (Rect.unit ![0, 0] ![512, 256] inb_S512x1024_S512x256_0_0))
      (View.ld xo (Rect.unit ![0, 1024] ![256, 256] inb_S256x2048_S256x256_0_1024))⟩]

section All
variable (x0 : Vec Ideal S512x1024 .bf16) (x1 : Vec Ideal S256x2048 .bf16) (x2 : Vec Ideal S512x1024 .bf16)
  (xo : Vec Ideal S256x2048 .f32)

/-- A stored piece of the keys' gradient is a piece of `kvG`. -/
theorem piece_k (h : Fin 4) (o o' : ℕ) (ho : o = 256 * h.val) (ho' : o' = 1024 + 256 * h.val)
    (iq : ∀ x, (![0, o] : Fin 2 → ℕ) x + (![512, 256] : Fin 2 → ℕ) x ≤ S512x1024.size x)
    (ik : ∀ x, (![0, o] : Fin 2 → ℕ) x + (![256, 256] : Fin 2 → ℕ) x ≤ S256x2048.size x)
    (iv : ∀ x, (![0, o'] : Fin 2 → ℕ) x + (![256, 256] : Fin 2 → ℕ) x ≤ S256x2048.size x)
    (x : (Rect.unit (s := S256x2048) ![0, o] ![256, 256] ik).shape.Idx) :
    k0_pay11 (View.ld x0 (Rect.unit (s := S512x1024) ![0, o] ![512, 256] iq))
      (k0_pay9 (View.ld x0 (Rect.unit (s := S512x1024) ![0, o] ![512, 256] iq))
        (View.ld x1 (Rect.unit (s := S256x2048) ![0, o] ![256, 256] ik))
        (View.ld x1 (Rect.unit (s := S256x2048) ![0, o'] ![256, 256] iv))
        (View.ld x2 (Rect.unit (s := S512x1024) ![0, o] ![512, 256] iq)))
      (View.ld xo (Rect.unit (s := S256x2048) ![0, o] ![256, 256] ik)) x
      = kvG x0 x1 x2 xo ((Rect.unit (s := S256x2048) ![0, o] ![256, 256] ik).emb x) := by
  obtain ⟨m, d, rfl⟩ : ∃ m d : Fin 256, x = ix2 m d := ⟨x 0, x 1, ValueIdx.eq_ix2 x⟩
  have e := emb_cols o ik m d (kix h d) (by simp only [kix]; omega)
  refine (head_k h x0 x1 x2 _ _ _ _ _ xo
    (fun r d => ld_cols x0 o iq r d (hix h d) (by simp only [hix]; omega))
    (fun r d => ld_cols x1 o ik r d (kix h d) (by simp only [kix]; omega))
    (fun r d => ld_cols x2 o iq r d (hix h d) (by simp only [hix]; omega))
    (fun r d => ld_cols x1 o' iv r d (vix h d) (by simp only [vix]; omega))
    (fun r d => ld_cols xo o ik r d (kix h d) (by simp only [kix]; omega)) m d).trans ?_
  rw [show (Rect.unit (s := S256x2048) ![0, o] ![256, 256] ik).emb (ix2 m d) = ix2 m (kix h d) from e]
  rfl

/-- A stored piece of the values' gradient is a piece of `kvG`. -/
theorem piece_v (h : Fin 4) (o o' : ℕ) (ho : o = 256 * h.val) (ho' : o' = 1024 + 256 * h.val)
    (iq : ∀ x, (![0, o] : Fin 2 → ℕ) x + (![512, 256] : Fin 2 → ℕ) x ≤ S512x1024.size x)
    (ik : ∀ x, (![0, o] : Fin 2 → ℕ) x + (![256, 256] : Fin 2 → ℕ) x ≤ S256x2048.size x)
    (iv : ∀ x, (![0, o'] : Fin 2 → ℕ) x + (![256, 256] : Fin 2 → ℕ) x ≤ S256x2048.size x)
    (x : (Rect.unit (s := S256x2048) ![0, o'] ![256, 256] iv).shape.Idx) :
    k0_pay8 (View.ld x0 (Rect.unit (s := S512x1024) ![0, o] ![512, 256] iq))
        (View.ld x1 (Rect.unit (s := S256x2048) ![0, o] ![256, 256] ik))
        (View.ld x2 (Rect.unit (s := S512x1024) ![0, o] ![512, 256] iq))
      (View.ld xo (Rect.unit (s := S256x2048) ![0, o'] ![256, 256] iv)) x
      = kvG x0 x1 x2 xo ((Rect.unit (s := S256x2048) ![0, o'] ![256, 256] iv).emb x) := by
  obtain ⟨m, d, rfl⟩ : ∃ m d : Fin 256, x = ix2 m d := ⟨x 0, x 1, ValueIdx.eq_ix2 x⟩
  have e := emb_cols o' iv m d (vix h d) (by simp only [vix]; omega)
  refine (head_v h x0 x1 x2 _ _ _ _ xo
    (fun r d => ld_cols x0 o iq r d (hix h d) (by simp only [hix]; omega))
    (fun r d => ld_cols x1 o ik r d (kix h d) (by simp only [kix]; omega))
    (fun r d => ld_cols x2 o iq r d (hix h d) (by simp only [hix]; omega))
    (fun r d => ld_cols xo o' iv r d (vix h d) (by simp only [vix]; omega)) m d).trans ?_
  rw [show (Rect.unit (s := S256x2048) ![0, o'] ![256, 256] iv).emb (ix2 m d) = ix2 m (vix h d) from e]
  rfl

/-- A stored piece of the queries' gradient is a piece of `qG`. -/
theorem piece_q (h : Fin 4) (o o' : ℕ) (ho : o = 256 * h.val) (ho' : o' = 1024 + 256 * h.val)
    (iq : ∀ x, (![0, o] : Fin 2 → ℕ) x + (![512, 256] : Fin 2 → ℕ) x ≤ S512x1024.size x)
    (ik : ∀ x, (![0, o] : Fin 2 → ℕ) x + (![256, 256] : Fin 2 → ℕ) x ≤ S256x2048.size x)
    (iv : ∀ x, (![0, o'] : Fin 2 → ℕ) x + (![256, 256] : Fin 2 → ℕ) x ≤ S256x2048.size x)
    (x : (Rect.unit (s := S512x1024) ![0, o] ![512, 256] iq).shape.Idx) :
    k0_pay10 (View.ld x1 (Rect.unit (s := S256x2048) ![0, o] ![256, 256] ik))
      (k0_pay9 (View.ld x0 (Rect.unit (s := S512x1024) ![0, o] ![512, 256] iq))
        (View.ld x1 (Rect.unit (s := S256x2048) ![0, o] ![256, 256] ik))
        (View.ld x1 (Rect.unit (s := S256x2048) ![0, o'] ![256, 256] iv))
        (View.ld x2 (Rect.unit (s := S512x1024) ![0, o] ![512, 256] iq))) x
      = qG x0 x1 x2 ((Rect.unit (s := S512x1024) ![0, o] ![512, 256] iq).emb x) := by
  obtain ⟨m, d, rfl⟩ : ∃ (m : Fin 512) (d : Fin 256), x = ix2 m d := ⟨x 0, x 1, ValueIdx.eq_ix2 x⟩
  have e := emb_cols o iq m d (hix h d) (by simp only [hix]; omega)
  refine (head_q h x0 x1 x2 _ _ _ _
    (fun r d => ld_cols x0 o iq r d (hix h d) (by simp only [hix]; omega))
    (fun r d => ld_cols x1 o ik r d (kix h d) (by simp only [kix]; omega))
    (fun r d => ld_cols x2 o iq r d (hix h d) (by simp only [hix]; omega))
    (fun r d => ld_cols x1 o' iv r d (vix h d) (by simp only [vix]; omega)) m d).trans ?_
  rw [show (Rect.unit (s := S512x1024) ![0, o] ![512, 256] iq).emb (ix2 m d) = ix2 m (hix h d) from e]
  rfl

/-- The eight stores leave `kvG`, whatever was stored before. -/
theorem canon_kvPieces (L : List (View.Piece (Elt Ideal) S256x2048 .f32)) :
    View.canon (kvPieces x0 x1 x2 xo ++ L) = kvG x0 x1 x2 xo := by
  funext y
  refine View.canon_append_of_piecesOf (kvG x0 x1 x2 xo) L (kvPieces x0 x1 x2 xo) ?_ y ?_
  · exact ⟨piece_k x0 x1 x2 xo 3 768 1792 rfl rfl _ _ _, piece_v x0 x1 x2 xo 3 768 1792 rfl rfl _ _ _,
      piece_k x0 x1 x2 xo 2 512 1536 rfl rfl _ _ _, piece_v x0 x1 x2 xo 2 512 1536 rfl rfl _ _ _,
      piece_k x0 x1 x2 xo 1 256 1280 rfl rfl _ _ _, piece_v x0 x1 x2 xo 1 256 1280 rfl rfl _ _ _,
      piece_k x0 x1 x2 xo 0 0 1024 rfl rfl _ _ _, piece_v x0 x1 x2 xo 0 0 1024 rfl rfl _ _ _, trivial⟩
  · obtain ⟨m, c, rfl⟩ : ∃ (m : Fin 256) (c : Fin 2048), y = ix2 m c := ⟨y 0, y 1, ValueIdx.eq_ix2 y⟩
    rcases exists_kix_vix c with ⟨h, d, rfl⟩ | ⟨h, d, rfl⟩
    · match h with
      | 0 => exact ⟨_, List.mem_of_getElem? (i := 6) rfl, mem_cols 0 inb_S256x2048_S256x256_0_0 m d _ rfl⟩
      | 1 => exact ⟨_, List.mem_of_getElem? (i := 4) rfl, mem_cols 256 inb_S256x2048_S256x256_0_256 m d _ rfl⟩
      | 2 => exact ⟨_, List.mem_of_getElem? (i := 2) rfl, mem_cols 512 inb_S256x2048_S256x256_0_512 m d _ rfl⟩
      | 3 => exact ⟨_, List.mem_of_getElem? (i := 0) rfl, mem_cols 768 inb_S256x2048_S256x256_0_768 m d _ rfl⟩
    · match h with
      | 0 => exact ⟨_, List.mem_of_getElem? (i := 7) rfl, mem_cols 1024 inb_S256x2048_S256x256_0_1024 m d _ rfl⟩
      | 1 => exact ⟨_, List.mem_of_getElem? (i := 5) rfl, mem_cols 1280 inb_S256x2048_S256x256_0_1280 m d _ rfl⟩
      | 2 => exact ⟨_, List.mem_of_getElem? (i := 3) rfl, mem_cols 1536 inb_S256x2048_S256x256_0_1536 m d _ rfl⟩
      | 3 => exact ⟨_, List.mem_of_getElem? (i := 1) rfl, mem_cols 1792 inb_S256x2048_S256x256_0_1792 m d _ rfl⟩

end All

/-! ## The two cases of the body -/

section Cases
variable (c : Dev nD) (i : grid0.Coords) (arg1 : Memref sig .tc .vmem S512x1024 .bf16) (harg1 : arg1.IsWhole) (arg2 : Memref sig .tc .vmem S256x2048 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S256x2048 .f32) (harg5 : arg5.IsWhole) (xo : Vec Ideal S256x2048 .f32)
    (x0 : Vec Ideal S512x1024 .bf16) (x1 : Vec Ideal S256x2048 .bf16) (x2 : Vec Ideal S512x1024 .bf16)

/-- At the first grid point the accumulation starts from zero. -/
theorem out_A_4 (hc0 : cond0_0 i) :
    out0_A_4 c i arg1 harg1 arg2 harg2 arg3 harg3 arg4 harg4 arg5 harg5 hc0 x0 x1 x2 = kvG x0 x1 x2 (k0_pay6 (F := Ideal)) := by
  unfold out0_A_4
  rw [View.read_writes_eq_canon _ _ _ (fun _ => cover0_A_4 ..)]
  unfold kernelRun0_A
  dsimp only
  sl_unfold_words
  simp only [View.readAt_eq_ld, Memref.IsWhole.read_unread]
  simp (disch := decide) only [↓View.readCov_skip]
  simp (disch := decide) only [View.readCov_fill]
  exact canon_kvPieces x0 x1 x2 (k0_pay6 (F := Ideal)) [_]

/-- At a later grid point it goes on from what the point before left. -/
theorem out_B_4 (hc0 : ¬ cond0_0 i) :
    out0_B_4 c i arg1 harg1 arg2 harg2 arg3 harg3 arg4 harg4 arg5 harg5 hc0 x0 x1 x2 xo = kvG x0 x1 x2 xo := by
  unfold out0_B_4
  rw [View.read_writes_eq_canon _ _ _ (fun _ => cover0_B_4 ..)]
  unfold kernelRun0_B
  dsimp only
  sl_unfold_words
  simp only [View.readAt_eq_ld, Memref.IsWhole.read_unread]
  exact canon_kvPieces x0 x1 x2 xo []

theorem out_A_3 (hc0 : cond0_0 i) :
    out0_A_3 c i arg1 harg1 arg2 harg2 arg3 harg3 arg4 harg4 arg5 harg5 hc0 x0 x1 x2 = qG x0 x1 x2 := by
  unfold out0_A_3
  rw [View.read_writes_eq_canon _ _ _ (fun _ => cover0_A_3 ..)]
  funext y
  refine View.canon_apply_of_pieces (qG x0 x1 x2) _ ?_ y (cover0_A_3 c i arg1 harg1 arg2 harg2 arg3 harg3 arg4 harg4 arg5 harg5 hc0 x0 x1 x2 y)
  unfold kernelRun0_A
  dsimp only
  sl_unfold_words
  simp only [View.readAt_eq_ld, Memref.IsWhole.read_unread]
  exact View.PiecesOf.mem ⟨piece_q x0 x1 x2 3 768 1792 rfl rfl _ _ _, piece_q x0 x1 x2 2 512 1536 rfl rfl _ _ _,
    piece_q x0 x1 x2 1 256 1280 rfl rfl _ _ _, piece_q x0 x1 x2 0 0 1024 rfl rfl _ _ _, trivial⟩

theorem out_B_3 (hc0 : ¬ cond0_0 i) :
    out0_B_3 c i arg1 harg1 arg2 harg2 arg3 harg3 arg4 harg4 arg5 harg5 hc0 x0 x1 x2 xo = qG x0 x1 x2 := by
  unfold out0_B_3
  rw [View.read_writes_eq_canon _ _ _ (fun _ => cover0_B_3 ..)]
  funext y
  refine View.canon_apply_of_pieces (qG x0 x1 x2) _ ?_ y (cover0_B_3 c i arg1 harg1 arg2 harg2 arg3 harg3 arg4 harg4 arg5 harg5 hc0 x0 x1 x2 xo y)
  unfold kernelRun0_B
  dsimp only
  sl_unfold_words
  simp only [View.readAt_eq_ld, Memref.IsWhole.read_unread]
  exact View.PiecesOf.mem ⟨piece_q x0 x1 x2 3 768 1792 rfl rfl _ _ _, piece_q x0 x1 x2 2 512 1536 rfl rfl _ _ _,
    piece_q x0 x1 x2 1 256 1280 rfl rfl _ _ _, piece_q x0 x1 x2 0 0 1024 rfl rfl _ _ _, trivial⟩

end Cases

end Cert.KernelIdeal.AttnValue
-- ==== Proof.Attn.Arrays.lean ====
/-
  What the attention kernel leaves in its two result arrays, as functions of its arguments: the gradient of the queries
  row by row, and the gradient of the keys and values as a sum over all 4096 rows.
-/
module

public import proofs.«01_k».proof.Proof.Attn.Block

@[expose] public section

noncomputable section

namespace Cert.KernelIdeal.AttnValue

open KernelIdeal KernelIdeal.Gen Idealize ShloMosaic ShloMosaic.TcCoe SL.Sem Attn

/-- Row `l` of a [4096, 1024] array. -/
def arow (X : Vec Ideal S4096x1024 .bf16) (l : Fin 4096) : Fin 1024 → EReal := fun c => X (ix2 l c)

/-- The gradient of the queries. -/
def attnQ (Q : Vec Ideal S4096x1024 .bf16) (KV : Vec Ideal S256x2048 .bf16) (G : Vec Ideal S4096x1024 .bf16) :
    Vec Ideal S4096x1024 .bf16 :=
  fun i => dQc (arow Q ⟨(i 0).val, (i 0).isLt⟩) (arow G ⟨(i 0).val, (i 0).isLt⟩) KV ⟨(i 1).val, (i 1).isLt⟩

/-- The gradient of the keys and values. -/
def attnKV (Q : Vec Ideal S4096x1024 .bf16) (KV : Vec Ideal S256x2048 .bf16) (G : Vec Ideal S4096x1024 .bf16) :
    Vec Ideal S256x2048 .f32 :=
  fun i => ∑ l : Fin 4096, tKV (arow Q l) (arow G l) KV ⟨(i 0).val, (i 0).isLt⟩ ⟨(i 1).val, (i 1).isLt⟩

/-- The term of row number `l`, zero past the last row. -/
def term (Q : Vec Ideal S4096x1024 .bf16) (KV : Vec Ideal S256x2048 .bf16) (G : Vec Ideal S4096x1024 .bf16)
    (y : S256x2048.Idx) (l : ℕ) : EReal :=
  if h : l < 4096 then tKV (arow Q ⟨l, h⟩) (arow G ⟨l, h⟩) KV ⟨(y 0).val, (y 0).isLt⟩ ⟨(y 1).val, (y 1).isLt⟩ else 0

/-- The sum over the first `512 * (n + 1)` rows. -/
def partialKV (Q : Vec Ideal S4096x1024 .bf16) (KV : Vec Ideal S256x2048 .bf16) (G : Vec Ideal S4096x1024 .bf16) (n : ℕ) :
    Vec Ideal S256x2048 .f32 :=
  fun y => ∑ l ∈ Finset.range (512 * (n + 1)), term Q KV G y l

theorem partialKV_last (Q : Vec Ideal S4096x1024 .bf16) (KV : Vec Ideal S256x2048 .bf16) (G : Vec Ideal S4096x1024 .bf16) :
    partialKV Q KV G 7 = attnKV Q KV G := by
  funext y
  show ∑ l ∈ Finset.range 4096, term Q KV G y l = _
  rw [Finset.sum_range]
  refine Finset.sum_congr rfl fun l _ => ?_
  unfold term
  rw [dif_pos l.isLt]

variable (m : (ℓ : Loc nD τ sig) → Buf (Elt Ideal) ℓ)

/-- The arguments on a device. -/
abbrev aQ (c : Dev nD) : Vec Ideal S4096x1024 .bf16 := m ((c : Thread nD τ).loc main_arg0)
abbrev aKV (c : Dev nD) : Vec Ideal S256x2048 .bf16 := m ((c : Thread nD τ).loc main_arg1)
abbrev aG (c : Dev nD) : Vec Ideal S4096x1024 .bf16 := m ((c : Thread nD τ).loc main_arg2)

theorem idx_facts (t : Fin grid0.N) : win0_0.index t 0 = t.val ∧ win0_0.index t 1 = 0 ∧ win0_1.index t 0 = 0 ∧ win0_1.index t 1 = 0 ∧ win0_2.index t 0 = t.val ∧ win0_2.index t 1 = 0 ∧ win0_3.index t 0 = t.val ∧ win0_3.index t 1 = 0 ∧ win0_4.index t 0 = 0 ∧ win0_4.index t 1 = 0 := by
  rcases fin_N0 t with rfl | rfl | rfl | rfl | rfl | rfl | rfl | rfl <;> decide +kernel

theorem row_iblk0 (c : Dev nD) (t : Fin cfg0.N) (r : Fin 512) (l : Fin 4096) (hl : l.val = 512 * t.val + r.val) :
    row (iblk m c 0 t) r = arow (aQ m c) l := by
  have hi := idx_facts t
  funext d
  unfold row arow iblk
  rw [View.read_apply]
  show V m c main_arg0 _ = m (c.tc.loc main_arg0) _
  unfold V
  congr 1
  funext a
  apply Fin.ext
  match a with
  | ⟨0, _⟩ => show win0_0.index t 0 * 512 + 1 * r.val = l.val; rw [hi.1]; omega
  | ⟨1, _⟩ => show win0_0.index t 1 * 1024 + 1 * d.val = d.val; rw [hi.2.1]; omega

theorem row_iblk2 (c : Dev nD) (t : Fin cfg0.N) (r : Fin 512) (l : Fin 4096) (hl : l.val = 512 * t.val + r.val) :
    row (iblk m c 2 t) r = arow (aG m c) l := by
  have hi := idx_facts t
  funext d
  unfold row arow iblk
  rw [View.read_apply]
  show V m c main_arg2 _ = m (c.tc.loc main_arg2) _
  unfold V
  congr 1
  funext a
  apply Fin.ext
  match a with
  | ⟨0, _⟩ => show win0_2.index t 0 * 512 + 1 * r.val = l.val; rw [hi.2.2.2.2.1]; omega
  | ⟨1, _⟩ => show win0_2.index t 1 * 1024 + 1 * d.val = d.val; rw [hi.2.2.2.2.2.1]; omega

theorem iblk1_eq (c : Dev nD) (t : Fin cfg0.N) : iblk m c 1 t = aKV m c := by
  have hi := idx_facts t
  funext j
  unfold iblk
  rw [View.read_apply]
  show V m c main_arg1 _ = m (c.tc.loc main_arg1) _
  unfold V
  congr 1
  funext a
  apply Fin.ext
  match a with
  | ⟨0, _⟩ => show win0_1.index t 0 * 256 + 1 * (j 0).val = (j 0).val; rw [hi.2.2.1]; omega
  | ⟨1, _⟩ => show win0_1.index t 1 * 2048 + 1 * (j 1).val = (j 1).val; rw [hi.2.2.2.1]; omega

/-- A block's 512 rows go on from where the sum stood. -/
theorem kvG_step (c : Dev nD) (t : Fin cfg0.N) (xo : Vec Ideal S256x2048 .f32)
    (hx : ∀ y, xo y = ∑ l ∈ Finset.range (512 * t.val), term (aQ m c) (aKV m c) (aG m c) y l) :
    kvG (iblk m c 0 t) (iblk m c 1 t) (iblk m c 2 t) xo = partialKV (aQ m c) (aKV m c) (aG m c) t.val := by
  have hN : t.val < 8 := by exact Nat.lt_of_lt_of_eq t.isLt N_0
  funext y
  unfold kvG partialKV
  rw [hx, show 512 * (t.val + 1) = 512 * t.val + 512 by ring, Finset.sum_range_add, Finset.sum_range (n := 512)]
  congr 1
  refine Finset.sum_congr rfl fun r _ => ?_
  have hl : 512 * t.val + r.val < 4096 := by have := r.isLt; omega
  unfold term
  rw [dif_pos hl, row_iblk0 m c t r ⟨_, hl⟩ rfl, row_iblk2 m c t r ⟨_, hl⟩ rfl, iblk1_eq]

/-- After point `n` the accumulator holds the sum over the rows so far. -/
theorem outs_kv (c : Dev nD) : ∀ (n : ℕ) (h : n < cfg0.N),
    (outsAt0 m c n h).2 = partialKV (aQ m c) (aKV m c) (aG m c) n
  | 0, h => by
    rw [outsAt0_A m c ⟨0, h⟩ rfl]
    dsimp only
    rw [out_A_4]
    refine kvG_step m c ⟨0, h⟩ _ fun y => ?_
    show Ideal.ofBits .f32 0x00000000#32 = _
    rw [Ideal.ofBits_zero_f32]
    simp
  | n + 1, h => by
    have hN : cfg0.N = 8 := N_0
    have hB : ¬(⟨n + 1, h⟩ : Fin cfg0.N).val % 8 = 0 := by dsimp only; omega
    rw [outsAt0_B m c ⟨n + 1, h⟩ hB]
    dsimp only
    rw [out_B_4]
    refine kvG_step m c ⟨n + 1, h⟩ _ fun y => ?_
    show (outsAt0 m c n _).2 y = _
    rw [outs_kv c n]
    rfl

/-- At every point the other output holds the gradient of the block's queries. -/
theorem outs_q (c : Dev nD) (t : Fin cfg0.N) :
    (outsAt0 m c t.val t.isLt).1 = qG (iblk m c 0 t) (iblk m c 1 t) (iblk m c 2 t) := by
  by_cases h : t.val % 8 = 0
  · rw [outsAt0_A m c t h]
    dsimp only
    rw [out_A_3]
  · rw [outsAt0_B m c t h]
    dsimp only
    rw [out_B_3]

theorem flushed_q (c : Dev nD) (t : Fin cfg0.N) :
    (dats m 0 c).flushed 3 t = ((cfg0.win 3).blk t).view.read (Elt Ideal) (attnQ (aQ m c) (aKV m c) (aG m c)) := by
  have hi := idx_facts t
  have hN : t.val < 8 := by exact Nat.lt_of_lt_of_eq t.isLt N_0
  rw [Value.flushed3, outs_q]
  funext y
  have hy0 : (y 0).val < 512 := (y 0).isLt
  have hy1 : (y 1).val < 1024 := (y 1).isLt
  rw [View.read_apply]
  have e0 : ((((cfg0.win 3).blk t).view.emb y) 0).val = 512 * t.val + (y 0).val := by
    show win0_3.index t 0 * 512 + 1 * (y 0).val = _; rw [hi.2.2.2.2.2.2.1]; omega
  have e1 : ((((cfg0.win 3).blk t).view.emb y) 1).val = (y 1).val := by
    show win0_3.index t 1 * 1024 + 1 * (y 1).val = _; rw [hi.2.2.2.2.2.2.2.1]; omega
  show dQc (row (iblk m c 0 t) ⟨(y 0).val, hy0⟩) (row (iblk m c 2 t) ⟨(y 0).val, hy0⟩) (iblk m c 1 t) ⟨(y 1).val, hy1⟩
    = dQc (arow (aQ m c) ⟨((((cfg0.win 3).blk t).view.emb y) 0).val, _⟩) (arow (aG m c) ⟨((((cfg0.win 3).blk t).view.emb y) 0).val, _⟩)
      (aKV m c) ⟨((((cfg0.win 3).blk t).view.emb y) 1).val, _⟩
  rw [iblk1_eq, row_iblk0 m c t ⟨(y 0).val, hy0⟩ ⟨_, _⟩ e0, row_iblk2 m c t ⟨(y 0).val, hy0⟩ ⟨_, _⟩ e0]
  congr 1
  exact Fin.ext e1.symm

theorem final_q (c : Dev nD) : (dats m 0 c).arrAt 3 cfg0.N = attnQ (aQ m c) (aKV m c) (aG m c) :=
  (dats m 0 c).arrAt_eq_of_cover 3 _ (fun t _ => flushed_q m c t) fun i => by
    have h0 : (i 0 : Nat) < 4096 := (i 0).isLt
    have h1 : (i 1 : Nat) < 1024 := (i 1).isLt
    have hN : cfg0.N = 8 := N_0
    have ht : (i 0 : Nat) / 512 < cfg0.N := by omega
    have hi := idx_facts ⟨(i 0 : Nat) / 512, ht⟩
    refine ⟨⟨(i 0 : Nat) / 512, ht⟩, flush0_3 _, ?_⟩
    show i ∈ ((View.whole main_v0_0).slice (win0_3.rect ⟨(i 0 : Nat) / 512, ht⟩)).set
    rw [View.set_slice_whole, Rect.mem_set_unit]
    intro a
    match a with
    | ⟨0, _⟩ =>
      show win0_3.index ⟨(i 0 : Nat) / 512, ht⟩ 0 * 512 ≤ (i 0 : Nat) ∧ (i 0 : Nat) < win0_3.index ⟨(i 0 : Nat) / 512, ht⟩ 0 * 512 + 512
      rw [hi.2.2.2.2.2.2.1]; dsimp only; omega
    | ⟨1, _⟩ =>
      show win0_3.index ⟨(i 0 : Nat) / 512, ht⟩ 1 * 1024 ≤ (i 1 : Nat) ∧ (i 1 : Nat) < win0_3.index ⟨(i 0 : Nat) / 512, ht⟩ 1 * 1024 + 1024
      rw [hi.2.2.2.2.2.2.2.1]; omega

theorem flushed_kv (c : Dev nD) (t : Fin cfg0.N) (hf : (cfg0.win 4).flush t = true) :
    (dats m 0 c).flushed 4 t = ((cfg0.win 4).blk t).view.read (Elt Ideal) (attnKV (aQ m c) (aKV m c) (aG m c)) := by
  have hi := idx_facts t
  have hN : t.val < 8 := by exact Nat.lt_of_lt_of_eq t.isLt N_0
  have h7 : t.val = 7 := by have := (flush0_4 t).mp hf; omega
  rw [Value.flushed4, outs_kv, h7, partialKV_last]
  generalize attnKV (aQ m c) (aKV m c) (aG m c) = X
  funext y
  rw [View.read_apply]
  show X _ = X _
  congr 1
  funext a
  apply Fin.ext
  match a with
  | ⟨0, _⟩ => show (y 0).val = win0_4.index t 0 * 256 + 1 * (y 0).val; rw [hi.2.2.2.2.2.2.2.2.1]; omega
  | ⟨1, _⟩ => show (y 1).val = win0_4.index t 1 * 2048 + 1 * (y 1).val; rw [hi.2.2.2.2.2.2.2.2.2]; omega

theorem final_kv (c : Dev nD) : (dats m 0 c).arrAt 4 cfg0.N = attnKV (aQ m c) (aKV m c) (aG m c) :=
  (dats m 0 c).arrAt_eq_of_cover 4 _ (flushed_kv m c) fun i => by
    have h0 : (i 0 : Nat) < 256 := (i 0).isLt
    have h1 : (i 1 : Nat) < 2048 := (i 1).isLt
    have hi := idx_facts t0_7
    refine ⟨t0_7, (flush0_4 t0_7).mpr rfl, ?_⟩
    show i ∈ ((View.whole main_v0_1).slice (win0_4.rect t0_7)).set
    rw [View.set_slice_whole, Rect.mem_set_unit]
    intro a
    match a with
    | ⟨0, _⟩ =>
      show win0_4.index t0_7 0 * 256 ≤ (i 0 : Nat) ∧ (i 0 : Nat) < win0_4.index t0_7 0 * 256 + 256
      rw [hi.2.2.2.2.2.2.2.2.1]; omega
    | ⟨1, _⟩ =>
      show win0_4.index t0_7 1 * 2048 ≤ (i 1 : Nat) ∧ (i 1 : Nat) < win0_4.index t0_7 1 * 2048 + 2048
      rw [hi.2.2.2.2.2.2.2.2.2]; omega

/-- The run, read: the two results, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = attnQ (aQ m c) (aKV m c) (aG m c)
      ∧ r.2.mem ((c : Thread nD τ).loc main_v0_1) = attnKV (aQ m c) (aKV m c) (aG m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final_q m c), (h c).2.1.trans (final_kv m c), (h c).2.2⟩)
    (Value.run_blocks m ρ)

end Cert.KernelIdeal.AttnValue
-- ==== Proof.Attn.Reference.lean ====
/-
  What the reference's results are at an index, in the same words as the kernel's: the chain rule applied to the
  attention's own operations, read row by row.
-/
module

public import proofs.«01_k».proof.Proof.Gen.ReferenceIdeal.Read
public import proofs.«01_k».proof.Proof.Attn.Arrays

@[expose] public section

noncomputable section

namespace Cert.ReferenceIdeal.AttnRef

open ReferenceIdeal ReferenceIdeal.Gen ReferenceIdeal.Read Idealize.ShloMosaic Attn
open KernelIdeal.AttnValue (hix kix vix sc gr arow c16 dS dQ tK tV attnQ attnKV)

variable (x0 : (⟨S4096x1024, .bf16⟩ : BufTy).Contents (Elt Ideal)) (x1 : (⟨S256x2048, .bf16⟩ : BufTy).Contents (Elt Ideal))
  (x2 : (⟨S4096x1024, .bf16⟩ : BufTy).Contents (Elt Ideal))

/-- Two indices of rank 4 with the same coordinates are equal. -/
theorem ext4 {a b c d : ℕ} {i j : (⟨4, ![a, b, c, d]⟩ : Shape).Idx} (h0 : (i 0).val = (j 0).val) (h1 : (i 1).val = (j 1).val)
    (h2 : (i 2).val = (j 2).val) (h3 : (i 3).val = (j 3).val) : i = j :=
  funext fun x => Fin.ext (by match x with | ⟨0, _⟩ => exact h0 | ⟨1, _⟩ => exact h1 | ⟨2, _⟩ => exact h2 | ⟨3, _⟩ => exact h3)

/-- Two indices of rank 3 with the same coordinates are equal. -/
theorem ext3 {a b c : ℕ} {i j : (⟨3, ![a, b, c]⟩ : Shape).Idx} (h0 : (i 0).val = (j 0).val) (h1 : (i 1).val = (j 1).val)
    (h2 : (i 2).val = (j 2).val) : i = j :=
  funext fun x => Fin.ext (by match x with | ⟨0, _⟩ => exact h0 | ⟨1, _⟩ => exact h1 | ⟨2, _⟩ => exact h2)

/-- Two indices of rank 2 with the same coordinates are equal. -/
theorem ext2 {a b : ℕ} {i j : (⟨2, ![a, b]⟩ : Shape).Idx} (h0 : (i 0).val = (j 0).val) (h1 : (i 1).val = (j 1).val) : i = j :=
  funext fun x => Fin.ext (by match x with | ⟨0, _⟩ => exact h0 | ⟨1, _⟩ => exact h1)

/-! ## The three arguments, head by head -/

theorem v2_at (l : Fin 4096) (h : Fin 4) (d : Fin 256) : val_main_v2 (F := Ideal) x0 (ix4 0 l h d) = arow x0 l (hix h d) := by
  rw [val_main_v2_apply, val_main_v0_apply]
  have := h.isLt; have := d.isLt; have := l.isLt
  exact congrArg x0 (ext2 (by show _ = l.val; dsimp; omega) (by show _ = 256 * h.val + d.val; dsimp; omega))

theorem v43_at (l : Fin 4096) (h : Fin 4) (d : Fin 256) : val_main_v43 (F := Ideal) x2 (ix4 0 l h d) = arow x2 l (hix h d) := by
  rw [val_main_v43_apply, val_main_v42_apply]
  have := h.isLt; have := d.isLt; have := l.isLt
  exact congrArg x2 (ext2 (by show _ = l.val; dsimp; omega) (by show _ = 256 * h.val + d.val; dsimp; omega))

theorem v44_at (l : Fin 4096) (h : Fin 4) (d : Fin 256) : val_main_v44 (F := Ideal) x2 (ix4 0 h d l) = arow x2 l (hix h d) := by
  rw [val_main_v44_apply, ← v43_at]
  exact congrArg _ (ext4 rfl rfl rfl rfl)

theorem v6_at (m : Fin 256) (h : Fin 4) (d : Fin 256) : val_main_v6 (F := Ideal) x1 (ix4 0 m h d) = x1 (ix2 m (kix h d)) := by
  rw [val_main_v6_apply, val_main_v4_apply, val_main_v3_apply, val_main_v1_apply]
  have := h.isLt; have := d.isLt; have := m.isLt
  exact congrArg x1 (ext2 (by show _ = m.val; dsimp; omega) (by show _ = 256 * h.val + d.val; dsimp; omega))

theorem v7_at (m : Fin 256) (h : Fin 4) (d : Fin 256) : val_main_v7 (F := Ideal) x1 (ix4 0 m h d) = x1 (ix2 m (vix h d)) := by
  rw [val_main_v7_apply, val_main_v5_apply, val_main_v3_apply, val_main_v1_apply]
  have := h.isLt; have := d.isLt; have := m.isLt
  exact congrArg x1 (ext2 (by show _ = m.val; dsimp; omega) (by show _ = 1024 + 256 * h.val + d.val; dsimp; omega))

/-! ## The forward pass -/

variable (h : Fin 4) (l : Fin 4096) (m d : Fin 256)

/-- The scores. -/
theorem v10_at : val_main_v10 (F := Ideal) x0 x1 (ix4 0 h l m) = sc (arow x0 l) x1 h m := by
  rw [val_main_v10_apply, val_main_v8_apply, val_main_v9_apply]
  refine congrArg (· * _) (Finset.sum_congr rfl fun d _ => ?_)
  rw [← v2_at x0 l h d, ← v6_at x1 m h d]
  exact congrArg₂ (· * ·) (congrArg _ (ext4 rfl rfl rfl rfl)) (congrArg _ (ext4 rfl rfl rfl rfl))

theorem v11_at : val_main_v11 (F := Ideal) x0 x1 (ix3 0 h l) = rowMax (sc (arow x0 l) x1 h) := by
  unfold val_main_v11
  rw [Host.reduce_eq_fold_single _ _ _ _ (by decide)]
  unfold rowMax
  have e : (val_main_v10 (F := Ideal) x0 x1 ∘ Shape.Reduces.lift (a := (3 : Fin 4)) (s := S1x4x4096x256) (t := S1x4x4096) (by decide) (ix3 0 h l))
      = sc (arow x0 l) x1 h := funext fun k =>
    (congrArg (val_main_v10 (F := Ideal) x0 x1) (ext4 rfl rfl rfl rfl)).trans (v10_at x0 x1 h l k)
  rw [e, val_main_cst_0_apply]
  show Finset.fold _ (Ideal.ofBits .f32 0xFF800000#32) _ _ = _
  rw [KernelIdeal.AttnValue.ofBits_neg_inf]
  rfl

theorem v29_at : val_main_v29 (F := Ideal) x0 x1 (ix4 0 h l m) = rowMax (sc (arow x0 l) x1 h) := by
  rw [val_main_v29_apply, val_main_v28_apply, val_main_v18_apply, val_main_v17_apply, ← v11_at]
  show max (Ideal.ofBits .f32 0xFF800000#32) _ = _
  rw [KernelIdeal.AttnValue.ofBits_neg_inf, max_eq_right bot_le]
  exact congrArg _ (ext3 rfl rfl rfl)

theorem v31_at : val_main_v31 (F := Ideal) x0 x1 (ix4 0 h l m) = ex (sc (arow x0 l) x1 h) m := by
  rw [val_main_v31_apply, val_main_v30_apply, v29_at, v10_at]
  rfl

theorem v32_at : val_main_v32 (F := Ideal) x0 x1 (ix3 0 h l) = nrm (sc (arow x0 l) x1 h) := by
  rw [val_main_v32_apply, val_main_cst_8_apply]
  show Ideal.ofBits .f32 0x00000000#32 + _ = _
  rw [Ideal.ofBits_zero_f32, zero_add]
  refine Finset.sum_congr rfl fun k _ => ?_
  rw [← v31_at]
  exact congrArg _ (ext4 rfl rfl rfl rfl)

theorem v33_at : val_main_v33 (F := Ideal) x0 x1 (ix4 0 h l 0) = nrm (sc (arow x0 l) x1 h) := by
  rw [val_main_v33_apply, ← v32_at]
  exact congrArg _ (ext3 rfl rfl rfl)

/-- The probabilities. -/
theorem v35_at : val_main_v35 (F := Ideal) x0 x1 (ix4 0 h l m) = soft (sc (arow x0 l) x1 h) m := by
  rw [val_main_v35_apply, val_main_v34_apply, v31_at]
  have e : val_main_v33 (F := Ideal) x0 x1 (idx_main_v34 (ix4 0 h l m)) = nrm (sc (arow x0 l) x1 h) := by
    rw [← v33_at]; exact congrArg _ (ext4 rfl rfl rfl rfl)
  rw [e]
  rfl

/-! ## The backward pass -/

/-- The gradient that reaches the probabilities. -/
theorem v45_at : val_main_v45 (F := Ideal) x1 x2 (ix4 0 h l m) = gr (arow x2 l) x1 h m := by
  rw [val_main_v45_apply]
  refine Finset.sum_congr rfl fun d _ => ?_
  rw [← v44_at x2 l h d, ← v7_at x1 m h d]
  exact congrArg₂ (· * ·) (congrArg _ (ext4 rfl rfl rfl rfl)) (congrArg _ (ext4 rfl rfl rfl rfl))

theorem v48_at : val_main_v48 (F := Ideal) x0 x1 (ix4 0 h l m)
    = Ideal.div 1 (nrm (sc (arow x0 l) x1 h) * nrm (sc (arow x0 l) x1 h)) := by
  rw [val_main_v48_apply, val_main_v38_apply, val_main_v36_apply, val_main_v37_apply, val_main_cst_9_apply]
  have e : val_main_v33 (F := Ideal) x0 x1 (idx_main_v48 (ix4 0 h l m)) = nrm (sc (arow x0 l) x1 h) := by
    rw [← v33_at]; exact congrArg _ (ext4 rfl rfl rfl rfl)
  rw [e]
  show Ideal.div (Ideal.ofBits .f32 0x3F800000#32) _ = _
  rw [show Ideal.ofBits .f32 0x3F800000#32 = (1 : EReal) by simp [Ideal.ofBits, Ideal.ieee, -EReal.coe_mul]; norm_num]
  rfl

theorem v53_at : val_main_v53 (F := Ideal) x0 x1 x2 (ix4 0 h l 0)
    = -(∑ j, (gr (arow x2 l) x1 h j * Ideal.div 1 (nrm (sc (arow x0 l) x1 h) * nrm (sc (arow x0 l) x1 h)))
        * ex (sc (arow x0 l) x1 h) j) := by
  rw [val_main_v53_apply, val_main_v52_apply, val_main_v51_apply, val_main_cst_10_apply]
  show -(Ideal.ofBits .f32 0x00000000#32 + _) = _
  rw [Ideal.ofBits_zero_f32, zero_add]
  refine congrArg (fun x : EReal => -x) (Finset.sum_congr rfl fun k _ => ?_)
  rw [← v45_at, ← v48_at, ← v31_at]
  have e : idx_main_v51 (idx_main_v52 (ix4 0 h l 0)) k = ix4 0 h l k := by
    have := h.isLt; have := l.isLt
    exact ext4 rfl (by show _ = h.val; dsimp; omega) (by show _ = l.val; dsimp; omega) rfl
  rw [e, val_main_v50_apply, val_main_v49_apply]
  rfl

/-- A sum over the two axes of size 1 is its one term. -/
theorem v56_at : val_main_v56 (F := Ideal) x0 x1 x2 (ix2 h l) = val_main_v53 (F := Ideal) x0 x1 x2 (ix4 0 h l 0) := by
  unfold val_main_v56
  rw [Host.reduceAdd_apply, Ideal.hostReduceAdd_def, val_main_cst_11_apply]
  show Ideal.ofBits .f32 0x00000000#32 + ∑ i ∈ _, _ = _
  rw [Ideal.ofBits_zero_f32, zero_add]
  refine Finset.sum_eq_single_of_mem _ (Finset.mem_filter.2 ⟨Finset.mem_univ _, ext2 rfl rfl⟩) fun i hi hne => ?_
  refine absurd (ext4 ?_ ?_ ?_ ?_) hne
  · exact congrArg Fin.val (Subsingleton.elim (α := Fin 1) (i 0) 0)
  · exact congrArg Fin.val (congrFun (Finset.mem_filter.1 hi).2 0)
  · exact congrArg Fin.val (congrFun (Finset.mem_filter.1 hi).2 1)
  · exact congrArg Fin.val (Subsingleton.elim (α := Fin 1) (i 3) 0)

/-- The gradient of the scores, as the chain rule gives it. -/
theorem v62_at : val_main_v62 (F := Ideal) x0 x1 x2 (ix4 0 h l m)
    = gradR c16 (sc (arow x0 l) x1 h) (gr (arow x2 l) x1 h) m := by
  rw [val_main_v62_apply, val_main_v60_apply, val_main_v59_apply, val_main_v55_apply, val_main_v54_apply, val_main_v58_apply,
    val_main_v57_apply, val_main_v61_apply, val_main_cst_12_apply, v31_at, v45_at]
  have e : val_main_v33 (F := Ideal) x0 x1 (idx_main_v54 (ix4 0 h l m)) = nrm (sc (arow x0 l) x1 h) := by
    rw [← v33_at]; exact congrArg _ (ext4 rfl rfl rfl rfl)
  have e' : val_main_v56 (F := Ideal) x0 x1 x2 (idx_main_v57 (idx_main_v58 (ix4 0 h l m)))
      = val_main_v53 (F := Ideal) x0 x1 x2 (ix4 0 h l 0) := by
    rw [← v56_at]; exact congrArg _ (ext2 rfl rfl)
  rw [e, e', v53_at]
  rfl

/-! ## The results, where the queries and the keys are finite -/

/-- The scale of the scores is a real number. -/
theorem c16_real : ∃ r : ℝ, c16 = (r : EReal) :=
  ⟨1 / 16, by unfold c16; simp [Ideal.ofBits, Ideal.ieee, -EReal.coe_mul]; norm_num⟩

/-- The scores of finite queries and keys are finite. -/
theorem sc_real (hq : ∀ i, ∃ r : ℝ, x0 i = (r : EReal)) (hk : ∀ m h d, ∃ r : ℝ, x1 (ix2 m (kix h d)) = (r : EReal)) :
    ∃ r : Fin 256 → ℝ, sc (arow x0 l) x1 h = fun m => (r m : EReal) := by
  choose q hq using hq
  choose k hk using hk
  obtain ⟨c, hc⟩ := c16_real
  refine ⟨fun m => (∑ d, q (ix2 l (hix h d)) * k m h d) * c, funext fun m => ?_⟩
  unfold sc
  rw [hc, EReal.coe_mul, ← sum_coe]
  refine congrArg (· * _) (Finset.sum_congr rfl fun d _ => ?_)
  rw [hk, EReal.coe_mul, ← hq]
  rfl

variable (hq : ∀ i, ∃ r : ℝ, x0 i = (r : EReal)) (hk : ∀ m h d, ∃ r : ℝ, x1 (ix2 m (kix h d)) = (r : EReal))

include hq hk

/-- The gradient of the scores in its usual form. -/
theorem v62_eq : val_main_v62 (F := Ideal) x0 x1 x2 (ix4 0 h l m) = dS (arow x0 l) (arow x2 l) x1 h m := by
  rw [v62_at]
  unfold dS
  obtain ⟨r, hr⟩ := sc_real x0 x1 h l hq hk
  rw [hr]
  exact gradR_eq_gradK (by decide) c16 r _ m

/-- The gradient of the queries. -/
theorem v72_at : val_main_v72 (F := Ideal) x0 x1 x2 (ix2 l (hix h d)) = dQ (arow x0 l) (arow x2 l) x1 h d := by
  rw [val_main_v72_apply, val_main_v71_apply, val_main_v66_apply]
  show val_main_v65 (F := Ideal) x0 x1 x2 _ = _
  have := h.isLt; have := d.isLt; have := l.isLt
  have e : idx_main_v66 (idx_main_v71 (ix2 l (hix h d))) = ix4 0 h l d :=
    ext4 rfl (by show _ = h.val; dsimp; unfold hix; dsimp; omega) (by show _ = l.val; dsimp; unfold hix; dsimp; omega)
      (by show _ = d.val; dsimp; unfold hix; dsimp; omega)
  rw [e, val_main_v65_apply]
  refine Finset.sum_congr rfl fun m _ => ?_
  rw [← v62_eq x0 x1 x2 h l m hq hk, ← v6_at x1 m h d]
  exact congrArg₂ (· * ·) (congrArg _ (ext4 rfl rfl rfl rfl)) (congrArg _ (ext4 rfl rfl rfl rfl))

/-- The gradient of the keys. -/
theorem v68_at : val_main_v68 (F := Ideal) x0 x1 x2 (ix3 0 m (hix h d)) = ∑ l, tK (arow x0 l) (arow x2 l) x1 m h d := by
  rw [val_main_v68_apply, val_main_v64_apply]
  have := h.isLt; have := d.isLt; have := m.isLt
  have e : idx_main_v64 (idx_main_v68 (ix3 0 m (hix h d))) = ix4 0 h m d :=
    ext4 rfl (by show _ = h.val; dsimp; unfold hix; dsimp; omega) (by show _ = m.val; dsimp; unfold hix; dsimp; omega)
      (by show _ = d.val; dsimp; unfold hix; dsimp; omega)
  rw [e, val_main_v63_apply]
  refine Finset.sum_congr rfl fun l _ => ?_
  unfold tK
  rw [← v62_eq x0 x1 x2 h l m hq hk, ← v2_at x0 l h d]
  exact congrArg₂ (· * ·) (congrArg _ (ext4 rfl rfl rfl rfl)) (congrArg _ (ext4 rfl rfl rfl rfl))

omit hq hk in
/-- The gradient of the values. -/
theorem v67_at : val_main_v67 (F := Ideal) x0 x1 x2 (ix3 0 m (hix h d)) = ∑ l, tV (arow x0 l) (arow x2 l) x1 m h d := by
  rw [val_main_v67_apply, val_main_v47_apply]
  have := h.isLt; have := d.isLt; have := m.isLt
  have e : idx_main_v47 (idx_main_v67 (ix3 0 m (hix h d))) = ix4 0 h d m :=
    ext4 rfl (by show _ = h.val; dsimp; unfold hix; dsimp; omega) (by show _ = d.val; dsimp; unfold hix; dsimp; omega)
      (by show _ = m.val; dsimp; unfold hix; dsimp; omega)
  rw [e, val_main_v46_apply]
  refine Finset.sum_congr rfl fun l _ => ?_
  unfold tV
  rw [mul_comm, ← v35_at x0 x1 h l m, ← v44_at x2 l h d]
  exact congrArg₂ (· * ·) (congrArg _ (ext4 rfl rfl rfl rfl)) (congrArg _ (ext4 rfl rfl rfl rfl))

theorem v70_k : val_main_v70 (F := Ideal) x0 x1 x2 (ix2 m (kix h d)) = ∑ l, tK (arow x0 l) (arow x2 l) x1 m h d := by
  have := h.isLt; have := d.isLt; have := m.isLt
  rw [val_main_v70_apply, ← v68_at x0 x1 x2 h m d hq hk]
  have e : idx_main_v70 (ix2 m (kix h d)) = ix3 0 m (kix h d) :=
    ext3 rfl (by show _ = m.val; dsimp; unfold kix; dsimp; omega) (by show _ = (kix h d).val; dsimp; unfold kix; dsimp; omega)
  rw [e]
  unfold val_main_v69
  refine concatenate_pair_apply_left (t := S1x256x2048) (s₁ := S1x256x1024) (s₂ := S1x256x1024) (2 : Fin 3) _ _ _ _ rfl _ fun b => ?_
  match b with
  | ⟨0, _⟩ => rfl
  | ⟨1, _⟩ => rfl
  | ⟨2, _⟩ => rfl

omit hq hk in
theorem v70_v : val_main_v70 (F := Ideal) x0 x1 x2 (ix2 m (vix h d)) = ∑ l, tV (arow x0 l) (arow x2 l) x1 m h d := by
  have := h.isLt; have := d.isLt; have := m.isLt
  rw [val_main_v70_apply, ← v67_at x0 x1 x2 h m d]
  have e : idx_main_v70 (ix2 m (vix h d)) = ix3 0 m (vix h d) :=
    ext3 rfl (by show _ = m.val; dsimp; unfold vix; dsimp; omega) (by show _ = (vix h d).val; dsimp; unfold vix; dsimp; omega)
  rw [e]
  unfold val_main_v69
  refine concatenate_pair_apply_right (t := S1x256x2048) (s₁ := S1x256x1024) (s₂ := S1x256x1024) (2 : Fin 3) _ _ _ _ rfl rfl _ (fun b hb => ?_) ?_
  · match b with
    | ⟨0, _⟩ => rfl
    | ⟨1, _⟩ => rfl
    | ⟨2, _⟩ => exact absurd rfl hb
  · show (hix h d).val + 1024 = (vix h d).val
    unfold hix vix
    dsimp
    omega

/-- The reference's gradient of the queries is the kernel's. -/
theorem v72_eq : val_main_v72 (F := Ideal) x0 x1 x2 = attnQ x0 x1 x2 := by
  funext i
  obtain ⟨l, c, rfl⟩ : ∃ l c, i = ix2 l c := ⟨i 0, i 1, ValueIdx.eq_ix2 i⟩
  obtain ⟨h, d, rfl⟩ := KernelIdeal.AttnValue.exists_hix c
  rw [v72_at x0 x1 x2 h l d hq hk]
  exact (KernelIdeal.AttnValue.dQc_h _ _ _ h d).symm

/-- The reference's gradient of the keys and values is the kernel's. -/
theorem v70_eq : val_main_v70 (F := Ideal) x0 x1 x2 = attnKV x0 x1 x2 := by
  funext i
  obtain ⟨m, c, rfl⟩ : ∃ m c, i = ix2 m c := ⟨i 0, i 1, ValueIdx.eq_ix2 i⟩
  rcases KernelIdeal.AttnValue.exists_kix_vix c with ⟨h, d, rfl⟩ | ⟨h, d, rfl⟩
  · rw [v70_k x0 x1 x2 h m d hq hk]
    exact Finset.sum_congr rfl fun l _ => (KernelIdeal.AttnValue.tKV_k _ _ _ m h d).symm
  · rw [v70_v x0 x1 x2 h m d]
    exact Finset.sum_congr rfl fun l _ => (KernelIdeal.AttnValue.tKV_v _ _ _ m h d).symm

end Cert.ReferenceIdeal.AttnRef
-- ==== Proof.Attn.Claim.lean ====
/-
  The claims about the attention's backward pass: the reference's frame, what the precondition says, and the equality of the
  two programs' results.
-/
module

public import proofs.«01_k».proof.Defs
public import proofs.«01_k».proof.Proof.Gen.ReferenceIdeal.Run
public import proofs.«01_k».proof.Proof.Attn.Reference

@[expose] public section

noncomputable section

namespace Cert.Proof.Attn

open Idealize.ShloMosaic Idealize.SL.Sem

/-- The side conditions of the precondition. -/
theorem preFacts : Pre_finite_scores.Facts where
  bitsLt_bf16_f32 := by decide
  bcast_S_S4096x1024 := by decide
  slices_S256x2048_S256x1024_0_0 := by decide
  bcast_S_S256x1024 := by decide

/-- The reference runs, keeps its arguments, and declares no semaphore. -/
theorem frameRef (m : (ℓ : Loc ReferenceIdeal.nD ReferenceIdeal.τ ReferenceIdeal.sig) → Buf (Elt Ideal) ℓ)
    (ρ : Dev ReferenceIdeal.nD → PrngReg) :
    θ_run (ReferenceIdeal.defs (F := Ideal)) (onTc (τ := ReferenceIdeal.τ) (ReferenceIdeal.main (F := Ideal)))
      ⟨m, fun _ => 0, ρ⟩ (fun r => (∀ c : Dev ReferenceIdeal.nD,
        r.2.mem ((c.tc : Thread ReferenceIdeal.nD ReferenceIdeal.τ).loc ReferenceIdeal.main_arg0)
            = m ((c.tc : Thread ReferenceIdeal.nD ReferenceIdeal.τ).loc ReferenceIdeal.main_arg0)
        ∧ r.2.mem ((c.tc : Thread ReferenceIdeal.nD ReferenceIdeal.τ).loc ReferenceIdeal.main_arg1)
            = m ((c.tc : Thread ReferenceIdeal.nD ReferenceIdeal.τ).loc ReferenceIdeal.main_arg1)
        ∧ r.2.mem ((c.tc : Thread ReferenceIdeal.nD ReferenceIdeal.τ).loc ReferenceIdeal.main_arg2)
            = m ((c.tc : Thread ReferenceIdeal.nD ReferenceIdeal.τ).loc ReferenceIdeal.main_arg2))
        ∧ r.2.sem = fun _ => 0) :=
  (θ_run ReferenceIdeal.defs _ _).mono (fun r h => ⟨fun c => (h c).2.2, sem_eq_zero_of_no_sems (by decide) r.2⟩)
    (ReferenceIdeal.Value.run m ρ)

/-- A number whose absolute value the program finds below infinity is a real number. -/
theorem real_of_abs_lt {x : EReal} (h : Ideal.cmp .olt (max x (-x)) (Ideal.ofBits .f32 0x7F800000#32) = 1#1) :
    ∃ r : ℝ, x = (r : EReal) := by
  have e : Ideal.ofBits .f32 0x7F800000#32 = (⊤ : EReal) := by simp [Ideal.ofBits, Ideal.ieee]
  rw [e] at h
  induction x with
  | bot => simp [Ideal.cmp] at h
  | top => simp [Ideal.cmp] at h
  | coe r => exact ⟨r, rfl⟩

/-- What the precondition says of the queries and of the keys. -/
theorem pre_real (q : FVec Ideal Pre_finite_scores.S4096x1024 .bf16) (kv : FVec Ideal Pre_finite_scores.S256x2048 .bf16)
    (g : FVec Ideal Pre_finite_scores.S4096x1024 .bf16)
    (h : (haveI := preFacts; Pre_finite_scores.fn (F := Ideal) q kv g).1 = (fun _ => 1#1)
      ∧ (haveI := preFacts; Pre_finite_scores.fn (F := Ideal) q kv g).2 = (fun _ => 1#1)) :
    (∀ i, ∃ r : ℝ, q i = (r : EReal))
      ∧ ∀ m h d, ∃ r : ℝ, kv (ix2 m (KernelIdeal.AttnValue.kix h d)) = (r : EReal) := by
  refine ⟨fun i => real_of_abs_lt (congrFun h.1 i), fun m hd d => ?_⟩
  obtain ⟨r, hr⟩ := real_of_abs_lt (congrFun h.2 (ix2 m (KernelIdeal.AttnValue.hix hd d)))
  refine ⟨r, Eq.trans (congrArg kv ?_) hr⟩
  refine ReferenceIdeal.AttnRef.ext2 ?_ ?_
  · show m.val = 0 + m.val
    omega
  · show 256 * hd.val + d.val = 0 + (256 * hd.val + d.val)
    omega

/-- The kernel and the reference end with the same gradients. -/
theorem algebraic : algebraic_KernelIdeal_ReferenceIdeal_pre_finite_scores (hPre_finite_scores := preFacts) := by
  intro m ρ m' ρ' hpre hargs
  refine ⟨_, _, KernelIdeal.AttnValue.run m ρ, (θ_run ReferenceIdeal.defs _ _).mono (fun r h c => ?_)
    (ReferenceIdeal.Value.run m' ρ')⟩
  obtain ⟨hq, hk⟩ := pre_real _ _ _ (hpre c)
  obtain ⟨h72, h70, hk0, hk1, hk2⟩ := h c
  refine ⟨?_, ?_, hk0, hk1, hk2⟩
  · refine h72.trans ((ReferenceIdeal.Read.val_main_v72_eq m' c).trans ?_)
    rw [(hargs c).1, (hargs c).2.1, (hargs c).2.2]
    exact ReferenceIdeal.AttnRef.v72_eq _ _ _ hq hk
  · refine h70.trans ((ReferenceIdeal.Read.val_main_v70_eq m' c).trans ?_)
    rw [(hargs c).1, (hargs c).2.1, (hargs c).2.2]
    exact ReferenceIdeal.AttnRef.v70_eq _ _ _ hq hk

end Cert.Proof.Attn
-- ==== Proof.Mm.Sum.lean ====
/-
  Sums of products, shared by the proofs of the matrix products.
-/
module

public import Idealize.ShloMosaic.Lib.ValueIdx
public import Idealize.ShloMosaic.Lib.Pointwise
public import Idealize.ShloMosaic.Lib.Claim
public import Idealize.ShloMosaic.Lib.Pipeline.ReadBack
public import Idealize.ShloMosaic.Lib.Tactic
public import proofs.«01_k».proof.Defs
public import Mathlib.Algebra.BigOperators.Fin

@[expose] public section

namespace Mm

open Idealize.ShloMosaic

/-- Two indices of a matrix with the same row and the same column are equal. -/
theorem idx2 {a b : ℕ} {x y : (⟨2, ![a, b]⟩ : Shape).Idx} (h0 : (x 0).val = (y 0).val) (h1 : (x 1).val = (y 1).val) : x = y := by
  funext i
  apply Fin.ext
  match i with
  | ⟨0, _⟩ => exact h0
  | ⟨1, _⟩ => exact h1

/-- Two indices of a stack of matrices with the same three coordinates are equal. -/
theorem idx3 {a b c : ℕ} {x y : (⟨3, ![a, b, c]⟩ : Shape).Idx} (h0 : (x 0).val = (y 0).val) (h1 : (x 1).val = (y 1).val)
    (h2 : (x 2).val = (y 2).val) : x = y := by
  funext i
  apply Fin.ext
  match i with
  | ⟨0, _⟩ => exact h0
  | ⟨1, _⟩ => exact h1
  | ⟨2, _⟩ => exact h2

/-- Every index of a matrix is a pair. -/
theorem ex2 (a b : ℕ) (y : (⟨2, ![a, b]⟩ : Shape).Idx) : ∃ (r : Fin a) (s : Fin b), y = ix2 r s :=
  ⟨y 0, y 1, ValueIdx.eq_ix2 y⟩

/-- A coordinate of a block's entry. -/
theorem at_ {w v y z : ℕ} (P : ℕ) (e : w = v) (h : v * P + y = z) : w * P + 1 * y = z := by
  rw [e, Nat.one_mul, h]

theorem at' {w v : ℕ} (P y z : ℕ) (e : w = v) (h : v * P + y = z) : w * P + 1 * y = z := at_ P e h

/-- What stays as it was. -/
abbrev kept {nD : ℕ} {τ : Topo} {sig : RefSig} (m m' : (ℓ : Loc nD τ sig) → Buf (Elt Ideal) ℓ) (c : Dev nD) (b : Ref sig .tc) : Prop :=
  m' (c.tc.loc b) = m (c.tc.loc b)

theorem memv {sig : RefSig} {κ : Kind} {b : Ref sig κ} {r : Rect b.ty.shape} {i : b.ty.shape.Idx} (h : i ∈ r.set) : i ∈ ((View.whole b).slice r).set := by
  rw [View.set_slice_whole]
  exact h

/-- An index lies in the block that holds its two coordinates. -/
theorem mem2 {a b : ℕ} {off size : Fin 2 → ℕ} {inb} {i : (⟨2, ![a, b]⟩ : Shape).Idx} {w0 w1 v0 v1 : ℕ} (P Q : ℕ) (e0 : w0 = v0) (e1 : w1 = v1)
    (h0 : v0 * P ≤ (i 0).val ∧ (i 0).val < v0 * P + P) (h1 : v1 * Q ≤ (i 1).val ∧ (i 1).val < v1 * Q + Q)
    (o0 : off 0 = w0 * P := by rfl) (s0 : size 0 = P := by rfl) (o1 : off 1 = w1 * Q := by rfl) (s1 : size 1 = Q := by rfl) :
    i ∈ (Rect.unit (s := ⟨2, ![a, b]⟩) off size inb).set := by
  subst e0 e1
  rw [Rect.mem_set_unit]
  intro x
  match x with
  | ⟨0, _⟩ => show off 0 ≤ (i 0).val ∧ (i 0).val < off 0 + size 0; rw [o0, s0]; exact h0
  | ⟨1, _⟩ => show off 1 ≤ (i 1).val ∧ (i 1).val < off 1 + size 1; rw [o1, s1]; exact h1

/-- A sum of `2 * n` terms is the sum of its first `n` and of its last `n`. -/
theorem sum_halves {K n : ℕ} (hK : K = n + n) (f : Fin K → EReal) :
    ∑ k : Fin K, f k = ∑ k : Fin n, f ⟨k.val, by have := k.isLt; omega⟩ + ∑ k : Fin n, f ⟨n + k.val, by have := k.isLt; omega⟩ := by
  subst hK
  rw [Fin.sum_univ_add]
  rfl

/-- The offsets of a whole block. -/
theorem zero2 : (![0, 0] : Fin 2 → ℕ) = fun _ => 0 := by decide

theorem zero3 : (![0, 0, 0] : Fin 3 → ℕ) = fun _ => 0 := by decide

end Mm
-- ==== Proof.Mm.P2.lean ====
/-
  The gradient of the ConvFFN's activations: the call's tiles put together are the product, and the reference's
  product is the same sum.
-/
module

public import proofs.«01_k».proof.Proof.Gen.Kernel2.Frame
public import proofs.«01_k».proof.Proof.Gen.Kernel2Ideal.Value
public import proofs.«01_k».proof.Proof.Gen.Reference2Ideal.Read
public import proofs.«01_k».proof.Proof.Mm.Sum

@[expose] public section

noncomputable section

namespace Cert.Kernel2Ideal.Prod

open Kernel2Ideal Kernel2Ideal.Gen Idealize ShloMosaic ShloMosaic.TcCoe SL.Sem

/-- One entry of the product. -/
def E (A : Vec Ideal S4096x1024 .bf16) (B : Vec Ideal S2816x1024 .bf16) (r : Fin 4096) (s : Fin 2816) : EReal :=
  ∑ k : Fin 1024, A (ix2 r k) * B (ix2 s k)

/-- The call's result. -/
def G (A : Vec Ideal S4096x1024 .bf16) (B : Vec Ideal S2816x1024 .bf16) : Vec Ideal S4096x2816 .bf16 :=
  fun i => E A B ⟨(i 0).val, (i 0).isLt⟩ ⟨(i 1).val, (i 1).isLt⟩

/-- One tile's product. -/
theorem pay_at (x0 : Vec Ideal S1024x1024 .bf16) (x1 : Vec Ideal S1408x1024 .bf16) (r : Fin 1024) (s : Fin 1408) :
    k0_pay1 x0 x1 (ix2 r s) = ∑ k : Fin 1024, x0 (ix2 r k) * x1 (ix2 s k) := by
  unfold k0_pay1
  simp only [pointwise]
  rw [zero_add]

theorem out_eq (x0 : Vec Ideal S1024x1024 .bf16) (x1 : Vec Ideal S1408x1024 .bf16) : out0_2 x0 x1 = k0_pay1 x0 x1 := by
  unfold out0_2
  rw [View.canon_unit_zero Mm.zero2]
  repeat rw [View.ld_unit_zero Mm.zero2]

variable (m : (ℓ : Loc nD τ sig) → Buf (Elt Ideal) ℓ)

abbrev aA (c : Dev nD) : Vec Ideal S4096x1024 .bf16 := m (c.tc.loc main_arg0)
abbrev aB (c : Dev nD) : Vec Ideal S2816x1024 .bf16 := m (c.tc.loc main_arg1)

theorem idx_facts : ∀ t : Fin grid0.N, win0_0.index t 0 = t.val / 2 ∧ win0_0.index t 1 = 0 ∧ win0_1.index t 0 = t.val % 2 ∧ win0_1.index t 1 = 0 ∧ win0_2.index t 0 = t.val / 2 ∧ win0_2.index t 1 = t.val % 2 := by decide +kernel

theorem blk0_at (c : Dev nD) (t : Fin cfg0.N) (y : S1024x1024.Idx) (z : S4096x1024.Idx)
    (h0 : (z 0).val = 1024 * (t.val / 2) + (y 0).val) (h1 : (z 1).val = (y 1).val) :
    iblk m c 0 t y = aA m c z := by
  obtain ⟨q00, q01, -⟩ := idx_facts t
  unfold iblk
  rw [View.read_apply]
  show V m c main_arg0 _ = m (c.tc.loc main_arg0) _
  unfold V
  congr 1
  refine Mm.idx2 ?_ ?_
  · exact Mm.at_ 1024 q00 (by omega)
  · exact Mm.at_ 1024 q01 (by omega)

theorem blk1_at (c : Dev nD) (t : Fin cfg0.N) (y : S1408x1024.Idx) (z : S2816x1024.Idx)
    (h0 : (z 0).val = 1408 * (t.val % 2) + (y 0).val) (h1 : (z 1).val = (y 1).val) :
    iblk m c 1 t y = aB m c z := by
  obtain ⟨-, -, q10, q11, -⟩ := idx_facts t
  unfold iblk
  rw [View.read_apply]
  show V m c main_arg1 _ = m (c.tc.loc main_arg1) _
  unfold V
  congr 1
  refine Mm.idx2 ?_ ?_
  · exact Mm.at_ 1408 q10 (by omega)
  · exact Mm.at_ 1024 q11 (by omega)

theorem flushed (c : Dev nD) (t : Fin cfg0.N) :
    (dats m 0 c).flushed 2 t = ((cfg0.win 2).blk t).view.read (Elt Ideal) (G (aA m c) (aB m c)) := by
  obtain ⟨-, -, -, -, q20, q21⟩ := idx_facts t
  rw [Value.flushed2, out_eq]
  funext y
  obtain ⟨r, s, rfl⟩ := Mm.ex2 1024 1408 y
  rw [View.read_apply]
  refine (pay_at _ _ r s).trans ?_
  have er : ((((cfg0.win 2).blk t).view.emb (ix2 r s)) 0).val = 1024 * (t.val / 2) + r.val := Mm.at' 1024 r.val _ q20 (by omega)
  have es : ((((cfg0.win 2).blk t).view.emb (ix2 r s)) 1).val = 1408 * (t.val % 2) + s.val := Mm.at' 1408 s.val _ q21 (by omega)
  unfold G E
  refine Finset.sum_congr rfl fun k _ => congrArg₂ (· * ·) (blk0_at m c t _ _ ?_ ?_) (blk1_at m c t _ _ ?_ ?_)
  · refine er.trans ?_; show _ = 1024 * (t.val / 2) + r.val; omega
  · rfl
  · refine es.trans ?_; show _ = 1408 * (t.val % 2) + s.val; omega
  · rfl

theorem final (c : Dev nD) : (dats m 0 c).arrAt 2 cfg0.N = G (aA m c) (aB m c) :=
  (dats m 0 c).arrAt_eq_of_cover 2 _ (fun t _ => flushed m c t) fun i => by
    have h1 : (i 0 : Nat) < 4096 := (i 0).isLt
    have h2 : (i 1 : Nat) < 2816 := (i 1).isLt
    have hN : cfg0.N = 8 := N_0
    obtain ⟨t, ht0, ht1⟩ : ∃ t : Fin cfg0.N, t.val / 2 = (i 0 : Nat) / 1024 ∧ t.val % 2 = (i 1 : Nat) / 1408 :=
      ⟨⟨2 * ((i 0 : Nat) / 1024) + (i 1 : Nat) / 1408, by omega⟩, by dsimp only; omega, by dsimp only; omega⟩
    obtain ⟨-, -, -, -, q20, q21⟩ := idx_facts t
    exact ⟨t, flush0_2 t, Mm.memv (Mm.mem2 1024 1408 q20 q21 (by omega) (by omega))⟩

/-- What every run ends with. -/
theorem run (ρ : Dev nD → PrngReg) : θ_run defs (onTc (τ := τ) (main (F := Ideal))) ⟨m, fun _ => 0, ρ⟩ fun r => ∀ c : Dev nD,
      r.2.mem (c.tc.loc main_v0) = G (aA m c) (aB m c) ∧ Mm.kept m r.2.mem c main_arg0 ∧ Mm.kept m r.2.mem c main_arg1 :=
  (θ_run defs _ _).mono (fun _ h c => ⟨(h c).1.trans (final m c), (h c).2⟩) (Value.run_blocks m ρ)

open Reference2Ideal.Read in
/-- One entry of the reference's product. -/
theorem ref_E (x0 : Vec Ideal S4096x1024 .bf16) (x1 : Vec Ideal S2816x1024 .bf16) (r : Fin 4096) (s : Fin 2816) :
    val_main_v5 (F := Ideal) x0 x1 (ix2 r s) = E x0 x1 r s := by
  unfold E
  show val_main_v4 (F := Ideal) x0 x1 _ = _
  rw [val_main_v4_apply]
  refine Finset.sum_congr rfl fun k _ => ?_
  refine congrArg₂ (· * ·) ?_ ?_
  · show x0 _ = _
    exact congrArg x0 (Mm.idx2 rfl rfl)
  · show x1 _ = _
    exact congrArg x1 (Mm.idx2 rfl rfl)

open Reference2Ideal.Read in
/-- The reference's result. -/
theorem ref_eq (x0 : Vec Ideal S4096x1024 .bf16) (x1 : Vec Ideal S2816x1024 .bf16) :
    val_main_v5 (F := Ideal) x0 x1 = G x0 x1 := by
  funext i
  obtain ⟨r, s, rfl⟩ := Mm.ex2 4096 2816 i
  exact ref_E x0 x1 r s

end Cert.Kernel2Ideal.Prod

namespace Cert.Proof.K2
open Idealize ShloMosaic SL.Sem

/-- The reference ends. -/
theorem frameRef : quiescent_Reference2Ideal := fun m ρ _ =>
  (θ_run Reference2Ideal.defs _ _).mono (fun r h => ⟨fun c => (h c).2, sem_eq_zero_of_no_sems (by decide) r.2⟩)
    (Reference2Ideal.Value.run m ρ)

/-- The call's result is the reference's. -/
theorem algebraic : algebraic_Kernel2Ideal_Reference2Ideal := by
  intro m ρ m' ρ' hpre hargs
  refine ⟨_, Kernel2Ideal.Prod.run m ρ, (θ_run Reference2Ideal.defs _ _).mono (fun r h c => ?_)
    (Reference2Ideal.Value.run m' ρ')⟩
  obtain ⟨h0, hk⟩ := h c
  refine ⟨?_, hk⟩
  refine h0.trans ((Reference2Ideal.Read.val_main_v5_eq _ _).trans ?_)
  rw [(hargs c).1, (hargs c).2]
  exact Kernel2Ideal.Prod.ref_eq _ _

end Cert.Proof.K2
-- ==== Proof.Mm.P3.lean ====
/-
  The gradient of the ConvFFN's second weight: the call's tiles put together are the product, and the reference's
  product is the same sum.
-/
module

public import proofs.«01_k».proof.Proof.Gen.Kernel3.Frame
public import proofs.«01_k».proof.Proof.Gen.Kernel3Ideal.Value
public import proofs.«01_k».proof.Proof.Gen.Reference3Ideal.Read
public import proofs.«01_k».proof.Proof.Mm.Sum

@[expose] public section

noncomputable section

namespace Cert.Kernel3Ideal.Prod

open Kernel3Ideal Kernel3Ideal.Gen Idealize ShloMosaic ShloMosaic.TcCoe SL.Sem

/-- One entry of the product. -/
def E (A : Vec Ideal S4096x2816 .bf16) (B : Vec Ideal S4096x1024 .bf16) (r : Fin 2816) (s : Fin 1024) : EReal :=
  ∑ k : Fin 4096, A (ix2 k r) * B (ix2 k s)

/-- The call's result: the product in its place among the layers' gradients, everything else as before. -/
def G (A : Vec Ideal S4096x2816 .bf16) (B : Vec Ideal S4096x1024 .bf16) (C : Vec Ideal S4x2816x1024 .bf16) : Vec Ideal S4x2816x1024 .bf16 :=
  fun i => if (i 0).val = 0 then E A B ⟨(i 1).val, (i 1).isLt⟩ ⟨(i 2).val, (i 2).isLt⟩ else C i

/-- One tile's product. -/
theorem pay_at (x0 : Vec Ideal S2048x1408 .bf16) (x1 : Vec Ideal S2048x1024 .bf16) (r : Fin 1408) (s : Fin 1024) :
    k0_pay1 x0 x1 (ix2 r s) = ∑ k : Fin 2048, x0 (ix2 k r) * x1 (ix2 k s) := by
  unfold k0_pay1
  simp only [pointwise]
  rw [zero_add]

section Cases

variable (c : Dev nD) (i : grid0.Coords) (arg3 : Memref sig .tc .vmem S2048x1408 .bf16) (harg3 : arg3.IsWhole) (arg4 : Memref sig .tc .vmem S2048x1024 .bf16) (harg4 : arg4.IsWhole) (arg6 : Memref sig .tc .vmem S1x1408x1024 .bf16) (harg6 : arg6.IsWhole) (arg7 : Memref sig .tc .vmem S1408x1024 .f32) (harg7 : arg7.IsWhole)
  (x0 : Vec Ideal S2048x1408 .bf16) (x1 : Vec Ideal S2048x1024 .bf16) (xs : Vec Ideal S1408x1024 .f32)

theorem sout_A (hc0 : cond0_0 i) (hc1 : ¬cond0_1 i) (hc2 : ¬cond0_2 i) :
    sout0_A_0 c i arg3 harg3 arg4 harg4 arg6 harg6 arg7 harg7 hc0 hc1 hc2 x0 x1 = k0_pay2 x0 x1 := by
  unfold sout0_A_0
  rw [View.read_writes_eq_canon _ _ _ (fun _ => scover0_A_0 ..)]
  unfold kernelRun0_A
  dsimp only
  sl_unfold_words
  simp only [View.readAt_eq_ld, Memref.IsWhole.read_unread]
  rw [View.canon_unit_zero Mm.zero2]
  repeat rw [View.ld_unit_zero Mm.zero2]

theorem out_B (hc0 : ¬cond0_0 i) (hc1 : cond0_1 i) (hc2 : cond0_2 i) :
    out0_B_2 c i arg3 harg3 arg4 harg4 arg6 harg6 arg7 harg7 hc0 hc1 hc2 x0 x1 xs = k0_pay4 (k0_pay3 x0 x1 xs) := by
  unfold out0_B_2
  rw [View.read_writes_eq_canon _ _ _ (fun _ => cover0_B_2 ..)]
  unfold kernelRun0_B
  dsimp only
  sl_unfold_words
  simp only [View.readAt_eq_ld, Memref.IsWhole.read_unread]
  simp (disch := decide) only [View.readCov_fill]
  rw [View.canon_unit_zero Mm.zero3]
  repeat rw [View.ld_unit_zero Mm.zero2]

end Cases

theorem pay2_at (x0 : Vec Ideal S2048x1408 .bf16) (x1 : Vec Ideal S2048x1024 .bf16) (r : Fin 1408) (s : Fin 1024) :
    k0_pay2 x0 x1 (ix2 r s) = k0_pay1 x0 x1 (ix2 r s) := by
  unfold k0_pay2
  simp only [pointwise]

theorem pay4_at (x0 : Vec Ideal S2048x1408 .bf16) (x1 : Vec Ideal S2048x1024 .bf16) (xs : Vec Ideal S1408x1024 .f32)
    (l : Fin 1) (r : Fin 1408) (s : Fin 1024) :
    k0_pay4 (k0_pay3 x0 x1 xs) (ix3 l r s) = xs (ix2 r s) + k0_pay1 x0 x1 (ix2 r s) := by
  unfold k0_pay4 k0_pay3
  simp only [pointwise]

variable (m : (ℓ : Loc nD τ sig) → Buf (Elt Ideal) ℓ)

abbrev aA (c : Dev nD) : Vec Ideal S4096x2816 .bf16 := m (c.tc.loc main_arg0)
abbrev aB (c : Dev nD) : Vec Ideal S4096x1024 .bf16 := m (c.tc.loc main_arg1)
abbrev aC (c : Dev nD) : Vec Ideal S4x2816x1024 .bf16 := m (c.tc.loc main_arg2)

theorem idx_facts : ∀ t : Fin grid0.N, win0_0.index t 0 = t.val % 2 ∧ win0_0.index t 1 = t.val / 2 ∧ win0_1.index t 0 = t.val % 2 ∧ win0_1.index t 1 = 0 ∧ win0_2.index t 0 = 0 ∧ win0_2.index t 1 = t.val / 2 ∧ win0_2.index t 2 = 0 := by decide +kernel

theorem blk0_at (c : Dev nD) (t : Fin cfg0.N) (y : S2048x1408.Idx) (z : S4096x2816.Idx)
    (h0 : (z 0).val = 2048 * (t.val % 2) + (y 0).val) (h1 : (z 1).val = 1408 * (t.val / 2) + (y 1).val) :
    iblk m c 0 t y = aA m c z := by
  obtain ⟨q00, q01, -⟩ := idx_facts t
  refine (congrFun (V_main_arg0 m c) _).trans (congrArg _ (Mm.idx2 (Mm.at_ 2048 q00 (by omega)) (Mm.at_ 1408 q01 (by omega))))

theorem blk1_at (c : Dev nD) (t : Fin cfg0.N) (y : S2048x1024.Idx) (z : S4096x1024.Idx)
    (h0 : (z 0).val = 2048 * (t.val % 2) + (y 0).val) (h1 : (z 1).val = (y 1).val) :
    iblk m c 1 t y = aB m c z := by
  obtain ⟨-, -, q10, q11, -⟩ := idx_facts t
  refine (congrFun (V_main_arg1 m c) _).trans (congrArg _ (Mm.idx2 (Mm.at_ 2048 q10 (by omega)) (Mm.at_ 1024 q11 (by omega))))

theorem flushed (c : Dev nD) (t : Fin cfg0.N) (hf : (cfg0.win 2).flush t = true) :
    (dats m 0 c).flushed 2 t = ((cfg0.win 2).blk t).view.read (Elt Ideal) (G (aA m c) (aB m c) (aC m c)) := by
  obtain ⟨-, -, -, -, q20, q21, q22⟩ := idx_facts t
  have h1 : t.val % 2 = 1 := (flush0_2 t).mp hf
  have h0 : ¬t.val % 2 = 0 := by omega
  obtain ⟨u, hu⟩ : ∃ u : Fin cfg0.N, u.val = t.val - 1 := ⟨⟨t.val - 1, by have := t.isLt; omega⟩, rfl⟩
  have hs : (outsAt0 m c (t.val - 1) (Nat.lt_of_le_of_lt (Nat.sub_le _ _) t.isLt)).2 = k0_pay2 (iblk m c 0 u) (iblk m c 1 u) := by
    have e : outsAt0 m c (t.val - 1) (Nat.lt_of_le_of_lt (Nat.sub_le _ _) t.isLt) = outsAt0 m c u.val u.isLt := by
      congr 1; exact hu.symm
    rw [e, outsAt0_A m c u (by omega) (by omega) (by omega)]
    dsimp only
    rw [sout_A]
  rw [Value.flushed2_B m c t h0 h1 h1, out_B, hs]
  funext y
  obtain ⟨l, r, s, rfl⟩ : ∃ (l : Fin 1) (r : Fin 1408) (s : Fin 1024), y = ix3 l r s := ⟨y 0, y 1, y 2, ValueIdx.eq_ix3 y⟩
  rw [View.read_apply]
  refine (pay4_at _ _ _ l r s).trans ?_
  rw [pay2_at, pay_at, pay_at]
  have el : ((((cfg0.win 2).blk t).view.emb (ix3 l r s)) 0).val = 0 := Mm.at' 1 l.val _ q20 (by omega)
  have er : ((((cfg0.win 2).blk t).view.emb (ix3 l r s)) 1).val = 1408 * (t.val / 2) + r.val := Mm.at' 1408 r.val _ q21 (by omega)
  have es : ((((cfg0.win 2).blk t).view.emb (ix3 l r s)) 2).val = s.val := Mm.at' 1024 s.val _ q22 (by omega)
  unfold G
  rw [if_pos el]
  unfold E
  rw [Mm.sum_halves (n := 2048) rfl]
  refine congrArg₂ (· + ·) (Finset.sum_congr rfl fun k _ => congrArg₂ (· * ·) (blk0_at m c u _ _ ?_ ?_) (blk1_at m c u _ _ ?_ ?_))
    (Finset.sum_congr rfl fun k _ => congrArg₂ (· * ·) (blk0_at m c t _ _ ?_ ?_) (blk1_at m c t _ _ ?_ ?_))
  · show k.val = 2048 * (u.val % 2) + k.val; omega
  · refine er.trans ?_; show _ = 1408 * (u.val / 2) + r.val; omega
  · show k.val = 2048 * (u.val % 2) + k.val; omega
  · exact es
  · show 2048 + k.val = 2048 * (t.val % 2) + k.val; omega
  · refine er.trans ?_; show _ = 1408 * (t.val / 2) + r.val; omega
  · show 2048 + k.val = 2048 * (t.val % 2) + k.val; omega
  · exact es

theorem final (c : Dev nD) : (dats m 0 c).arrAt 2 cfg0.N = G (aA m c) (aB m c) (aC m c) := by
  funext i
  rw [(dats m 0 c).arrAt_eq_piecewise 2 (G (aA m c) (aB m c) (aC m c)) (flushed m c) i]
  split
  · rfl
  · rename_i hno
    have hi0 : ¬((i 0 : Nat) = 0) := fun hz => hno (by
      have h1 : (i 1 : Nat) < 2816 := (i 1).isLt
      have h2 : (i 2 : Nat) < 1024 := (i 2).isLt
      have hN : cfg0.N = 4 := N_0
      obtain ⟨t, ht0, ht1⟩ : ∃ t : Fin cfg0.N, t.val / 2 = (i 1 : Nat) / 1408 ∧ t.val % 2 = 1 :=
        ⟨⟨2 * ((i 1 : Nat) / 1408) + 1, by omega⟩, by dsimp only; omega, by dsimp only; omega⟩
      obtain ⟨-, -, -, -, q20, q21, q22⟩ := idx_facts t
      refine ⟨t, (flush0_2 t).mpr ht1, ?_⟩
      show i ∈ ((View.whole main_v0).slice (win0_2.rect t)).set
      rw [View.set_slice_whole, Rect.mem_set_unit]
      intro a
      match a with
      | ⟨0, _⟩ =>
        show win0_2.index t 0 * 1 ≤ (i 0 : Nat) ∧ (i 0 : Nat) < win0_2.index t 0 * 1 + 1
        rw [q20]; omega
      | ⟨1, _⟩ =>
        show win0_2.index t 1 * 1408 ≤ (i 1 : Nat) ∧ (i 1 : Nat) < win0_2.index t 1 * 1408 + 1408
        rw [q21]; omega
      | ⟨2, _⟩ =>
        show win0_2.index t 2 * 1024 ≤ (i 2 : Nat) ∧ (i 2 : Nat) < win0_2.index t 2 * 1024 + 1024
        rw [q22]; omega)
    unfold G
    rw [if_neg hi0, A_eq]
    show V m c main_v0 i = m (c.tc.loc main_arg2) i
    rfl

/-- What every run ends with. -/
theorem run (ρ : Dev nD → PrngReg) : θ_run defs (onTc (τ := τ) (main (F := Ideal))) ⟨m, fun _ => 0, ρ⟩ fun r => ∀ c : Dev nD,
      r.2.mem (c.tc.loc main_v0) = G (aA m c) (aB m c) (aC m c) ∧ Mm.kept m r.2.mem c main_arg0 ∧ Mm.kept m r.2.mem c main_arg1 ∧ Mm.kept m r.2.mem c main_arg2 :=
  (θ_run defs _ _).mono (fun _ h c => ⟨(h c).1.trans (final m c), (h c).2⟩) (Value.run_blocks m ρ)

open Reference3Ideal.Read in
/-- One entry of the reference's product. -/
theorem ref_E (x0 : Vec Ideal S4096x2816 .bf16) (x1 : Vec Ideal S4096x1024 .bf16) (r : Fin 2816) (s : Fin 1024) :
    val_main_v6 (F := Ideal) x0 x1 (ix2 r s) = E x0 x1 r s := by
  unfold E
  show val_main_v5 (F := Ideal) x0 x1 _ = _
  rw [val_main_v5_apply]
  rw [val_main_v4_apply]
  refine Finset.sum_congr rfl fun k _ => ?_
  rw [mul_comm]
  refine congrArg₂ (· * ·) ?_ ?_
  · show x0 _ = _
    exact congrArg x0 (Mm.idx2 rfl rfl)
  · show x1 _ = _
    exact congrArg x1 (Mm.idx2 rfl rfl)

/-- In the first slot the result is the product. -/
theorem G_in (A : Vec Ideal S4096x2816 .bf16) (B : Vec Ideal S4096x1024 .bf16) (C : Vec Ideal S4x2816x1024 .bf16) (l : Fin 4) (r : Fin 2816) (s : Fin 1024) (hl : l.val = 0)
    : G A B C (ix3 l r s) = E A B r s := if_pos hl

/-- Elsewhere the result is what was there before. -/
theorem G_off (A : Vec Ideal S4096x2816 .bf16) (B : Vec Ideal S4096x1024 .bf16) (C : Vec Ideal S4x2816x1024 .bf16) (l : Fin 4) (r : Fin 2816) (s : Fin 1024)
    (hl : ¬l.val = 0) : G A B C (ix3 l r s) = C (ix3 l r s) := if_neg hl

open Reference3Ideal.Read in
/-- The reference's result. -/
theorem ref_eq (x0 : Vec Ideal S4096x2816 .bf16) (x1 : Vec Ideal S4096x1024 .bf16) (x2 : Vec Ideal S4x2816x1024 .bf16) :
    val_main_v9 (F := Ideal) x0 x1 x2 = G x0 x1 x2 := by
  funext i
  obtain ⟨l, r, s, rfl⟩ : ∃ (l : Fin 4) (r : Fin 2816) (s : Fin 1024), i = ix3 l r s := ⟨i 0, i 1, i 2, ValueIdx.eq_ix3 i⟩
  unfold val_main_v9
  by_cases hl : l.val = 0
  · refine (concatenate_pair_apply_left (t := Reference3Ideal.S4x2816x1024) (s₁ := Reference3Ideal.S1x2816x1024) (s₂ := Reference3Ideal.S3x2816x1024) (0 : Fin 3) _ _ _ _ rfl
      (ix3 (⟨0, by decide⟩ : Fin 1) r s) (fun a => by
      match a with
      | ⟨0, _⟩ => exact hl.symm
      | ⟨1, _⟩ => rfl
      | ⟨2, _⟩ => rfl)).trans ?_
    rw [val_main_v7_apply]
    have e : idx_main_v7 (ix3 (⟨0, by decide⟩ : Fin 1) r s) = ix2 r s := Mm.idx2 rfl rfl
    rw [e]
    exact (ref_E x0 x1 r s).trans (G_in x0 x1 x2 l r s hl).symm
  · refine Eq.trans ?_ (G_off x0 x1 x2 l r s hl).symm
    have hb := l.isLt
    refine (concatenate_pair_apply_right (t := Reference3Ideal.S4x2816x1024) (s₁ := Reference3Ideal.S1x2816x1024) (s₂ := Reference3Ideal.S3x2816x1024) (0 : Fin 3) _ _ _ _ rfl rfl
      (ix3 (⟨l.val - 1, by omega⟩ : Fin 3) r s) (fun a ha => by
      match a with
      | ⟨0, _⟩ => exact absurd rfl ha
      | ⟨1, _⟩ => rfl
      | ⟨2, _⟩ => rfl) (by show l.val - 1 + 1 = l.val; omega)).trans ?_
    rw [val_main_v8_apply]
    refine congrArg x2 (Mm.idx3 ?_ ?_ ?_)
    · show 1 + (l.val - 1) = l.val; omega
    · rfl
    · rfl

end Cert.Kernel3Ideal.Prod

namespace Cert.Proof.K3
open Idealize ShloMosaic SL.Sem

/-- The reference ends. -/
theorem frameRef : quiescent_Reference3Ideal := fun m ρ _ =>
  (θ_run Reference3Ideal.defs _ _).mono (fun r h => ⟨fun c => (h c).2, sem_eq_zero_of_no_sems (by decide) r.2⟩)
    (Reference3Ideal.Value.run m ρ)

/-- The call's result is the reference's. -/
theorem algebraic : algebraic_Kernel3Ideal_Reference3Ideal := by
  intro m ρ m' ρ' hpre hargs
  refine ⟨_, Kernel3Ideal.Prod.run m ρ, (θ_run Reference3Ideal.defs _ _).mono (fun r h c => ?_)
    (Reference3Ideal.Value.run m' ρ')⟩
  obtain ⟨h0, hk⟩ := h c
  refine ⟨?_, hk⟩
  refine h0.trans ((Reference3Ideal.Read.val_main_v9_eq _ _ _).trans ?_)
  rw [(hargs c).1, (hargs c).2.1, (hargs c).2.2]
  exact Kernel3Ideal.Prod.ref_eq _ _ _

end Cert.Proof.K3
-- ==== Proof.Mm.P4.lean ====
/-
  The ConvFFN's first product: the call's tiles put together are the product, and the reference's
  product is the same sum.
-/
module

public import proofs.«01_k».proof.Proof.Gen.Kernel4.Frame
public import proofs.«01_k».proof.Proof.Gen.Kernel4Ideal.Value
public import proofs.«01_k».proof.Proof.Gen.Reference4Ideal.Read
public import proofs.«01_k».proof.Proof.Mm.Sum

@[expose] public section

noncomputable section

namespace Cert.Kernel4Ideal.Prod

open Kernel4Ideal Kernel4Ideal.Gen Idealize ShloMosaic ShloMosaic.TcCoe SL.Sem

/-- One entry of the product. -/
def E (A : Vec Ideal S4096x1024 .bf16) (B : Vec Ideal S1024x5632 .bf16) (r : Fin 4096) (s : Fin 5632) : EReal :=
  ∑ k : Fin 1024, A (ix2 r k) * B (ix2 k s)

/-- The call's result. -/
def G (A : Vec Ideal S4096x1024 .bf16) (B : Vec Ideal S1024x5632 .bf16) : Vec Ideal S4096x5632 .bf16 :=
  fun i => E A B ⟨(i 0).val, (i 0).isLt⟩ ⟨(i 1).val, (i 1).isLt⟩

/-- One tile's product. -/
theorem pay_at (x0 : Vec Ideal S1024x1024 .bf16) (x1 : Vec Ideal S1024x1408 .bf16) (r : Fin 1024) (s : Fin 1408) :
    k0_pay1 x0 x1 (ix2 r s) = ∑ k : Fin 1024, x0 (ix2 r k) * x1 (ix2 k s) := by
  unfold k0_pay1
  simp only [pointwise]
  rw [zero_add]

theorem out_eq (x0 : Vec Ideal S1024x1024 .bf16) (x1 : Vec Ideal S1024x1408 .bf16) : out0_2 x0 x1 = k0_pay1 x0 x1 := by
  unfold out0_2
  rw [View.canon_unit_zero Mm.zero2]
  repeat rw [View.ld_unit_zero Mm.zero2]

variable (m : (ℓ : Loc nD τ sig) → Buf (Elt Ideal) ℓ)

abbrev aA (c : Dev nD) : Vec Ideal S4096x1024 .bf16 := m (c.tc.loc main_arg0)
abbrev aB (c : Dev nD) : Vec Ideal S1024x5632 .bf16 := m (c.tc.loc main_arg1)

theorem idx_facts : ∀ t : Fin grid0.N, win0_0.index t 0 = t.val / 4 ∧ win0_0.index t 1 = 0 ∧ win0_1.index t 0 = 0 ∧ win0_1.index t 1 = t.val % 4 ∧ win0_2.index t 0 = t.val / 4 ∧ win0_2.index t 1 = t.val % 4 := by decide +kernel

theorem blk0_at (c : Dev nD) (t : Fin cfg0.N) (y : S1024x1024.Idx) (z : S4096x1024.Idx)
    (h0 : (z 0).val = 1024 * (t.val / 4) + (y 0).val) (h1 : (z 1).val = (y 1).val) :
    iblk m c 0 t y = aA m c z := by
  obtain ⟨q00, q01, -⟩ := idx_facts t
  unfold iblk
  rw [View.read_apply]
  show V m c main_arg0 _ = m (c.tc.loc main_arg0) _
  unfold V
  congr 1
  refine Mm.idx2 ?_ ?_
  · exact Mm.at_ 1024 q00 (by omega)
  · exact Mm.at_ 1024 q01 (by omega)

theorem blk1_at (c : Dev nD) (t : Fin cfg0.N) (y : S1024x1408.Idx) (z : S1024x5632.Idx)
    (h0 : (z 0).val = (y 0).val) (h1 : (z 1).val = 1408 * (t.val % 4) + (y 1).val) :
    iblk m c 1 t y = aB m c z := by
  obtain ⟨-, -, q10, q11, -⟩ := idx_facts t
  unfold iblk
  rw [View.read_apply]
  show V m c main_arg1 _ = m (c.tc.loc main_arg1) _
  unfold V
  congr 1
  refine Mm.idx2 ?_ ?_
  · exact Mm.at_ 1024 q10 (by omega)
  · exact Mm.at_ 1408 q11 (by omega)

theorem flushed (c : Dev nD) (t : Fin cfg0.N) :
    (dats m 0 c).flushed 2 t = ((cfg0.win 2).blk t).view.read (Elt Ideal) (G (aA m c) (aB m c)) := by
  obtain ⟨-, -, -, -, q20, q21⟩ := idx_facts t
  rw [Value.flushed2, out_eq]
  funext y
  obtain ⟨r, s, rfl⟩ := Mm.ex2 1024 1408 y
  rw [View.read_apply]
  refine (pay_at _ _ r s).trans ?_
  have er : ((((cfg0.win 2).blk t).view.emb (ix2 r s)) 0).val = 1024 * (t.val / 4) + r.val := Mm.at' 1024 r.val _ q20 (by omega)
  have es : ((((cfg0.win 2).blk t).view.emb (ix2 r s)) 1).val = 1408 * (t.val % 4) + s.val := Mm.at' 1408 s.val _ q21 (by omega)
  unfold G E
  refine Finset.sum_congr rfl fun k _ => congrArg₂ (· * ·) (blk0_at m c t _ _ ?_ ?_) (blk1_at m c t _ _ ?_ ?_)
  · refine er.trans ?_; show _ = 1024 * (t.val / 4) + r.val; omega
  · rfl
  · rfl
  · refine es.trans ?_; show _ = 1408 * (t.val % 4) + s.val; omega

theorem final (c : Dev nD) : (dats m 0 c).arrAt 2 cfg0.N = G (aA m c) (aB m c) :=
  (dats m 0 c).arrAt_eq_of_cover 2 _ (fun t _ => flushed m c t) fun i => by
    have h1 : (i 0 : Nat) < 4096 := (i 0).isLt
    have h2 : (i 1 : Nat) < 5632 := (i 1).isLt
    have hN : cfg0.N = 16 := N_0
    obtain ⟨t, ht0, ht1⟩ : ∃ t : Fin cfg0.N, t.val / 4 = (i 0 : Nat) / 1024 ∧ t.val % 4 = (i 1 : Nat) / 1408 :=
      ⟨⟨4 * ((i 0 : Nat) / 1024) + (i 1 : Nat) / 1408, by omega⟩, by dsimp only; omega, by dsimp only; omega⟩
    obtain ⟨-, -, -, -, q20, q21⟩ := idx_facts t
    exact ⟨t, flush0_2 t, Mm.memv (Mm.mem2 1024 1408 q20 q21 (by omega) (by omega))⟩

/-- What every run ends with. -/
theorem run (ρ : Dev nD → PrngReg) : θ_run defs (onTc (τ := τ) (main (F := Ideal))) ⟨m, fun _ => 0, ρ⟩ fun r => ∀ c : Dev nD,
      r.2.mem (c.tc.loc main_v0) = G (aA m c) (aB m c) ∧ Mm.kept m r.2.mem c main_arg0 ∧ Mm.kept m r.2.mem c main_arg1 :=
  (θ_run defs _ _).mono (fun _ h c => ⟨(h c).1.trans (final m c), (h c).2⟩) (Value.run_blocks m ρ)

open Reference4Ideal.Read in
/-- One entry of the reference's product. -/
theorem ref_E (x0 : Vec Ideal S4096x1024 .bf16) (x1 : Vec Ideal S1024x5632 .bf16) (r : Fin 4096) (s : Fin 5632) :
    val_main_v3 (F := Ideal) x0 x1 (ix2 r s) = E x0 x1 r s := by
  unfold E
  show val_main_v2 (F := Ideal) x0 x1 _ = _
  rw [val_main_v2_apply]
  refine Finset.sum_congr rfl fun k _ => ?_
  refine congrArg₂ (· * ·) ?_ ?_
  · show x0 _ = _
    exact congrArg x0 (Mm.idx2 rfl rfl)
  · show x1 _ = _
    exact congrArg x1 (Mm.idx2 rfl rfl)

open Reference4Ideal.Read in
/-- The reference's result. -/
theorem ref_eq (x0 : Vec Ideal S4096x1024 .bf16) (x1 : Vec Ideal S1024x5632 .bf16) :
    val_main_v3 (F := Ideal) x0 x1 = G x0 x1 := by
  funext i
  obtain ⟨r, s, rfl⟩ := Mm.ex2 4096 5632 i
  exact ref_E x0 x1 r s

end Cert.Kernel4Ideal.Prod

namespace Cert.Proof.K4
open Idealize ShloMosaic SL.Sem

/-- The reference ends. -/
theorem frameRef : quiescent_Reference4Ideal := fun m ρ _ =>
  (θ_run Reference4Ideal.defs _ _).mono (fun r h => ⟨fun c => (h c).2, sem_eq_zero_of_no_sems (by decide) r.2⟩)
    (Reference4Ideal.Value.run m ρ)

/-- The call's result is the reference's. -/
theorem algebraic : algebraic_Kernel4Ideal_Reference4Ideal := by
  intro m ρ m' ρ' hpre hargs
  refine ⟨_, Kernel4Ideal.Prod.run m ρ, (θ_run Reference4Ideal.defs _ _).mono (fun r h c => ?_)
    (Reference4Ideal.Value.run m' ρ')⟩
  obtain ⟨h0, hk⟩ := h c
  refine ⟨?_, hk⟩
  refine h0.trans ((Reference4Ideal.Read.val_main_v3_eq _ _).trans ?_)
  rw [(hargs c).1, (hargs c).2]
  exact Kernel4Ideal.Prod.ref_eq _ _

end Cert.Proof.K4
-- ==== Proof.Mm.P5.lean ====
/-
  The ConvFFN's second product: the call's tiles put together are the product, and the reference's
  product is the same sum.
-/
module

public import proofs.«01_k».proof.Proof.Gen.Kernel5.Frame
public import proofs.«01_k».proof.Proof.Gen.Kernel5Ideal.Value
public import proofs.«01_k».proof.Proof.Gen.Reference5Ideal.Read
public import proofs.«01_k».proof.Proof.Mm.Sum

@[expose] public section

noncomputable section

namespace Cert.Kernel5Ideal.Prod

open Kernel5Ideal Kernel5Ideal.Gen Idealize ShloMosaic ShloMosaic.TcCoe SL.Sem

/-- One entry of the product. -/
def E (A : Vec Ideal S4096x2816 .bf16) (B : Vec Ideal S2816x1024 .bf16) (r : Fin 4096) (s : Fin 1024) : EReal :=
  ∑ k : Fin 2816, A (ix2 r k) * B (ix2 k s)

/-- The call's result. -/
def G (A : Vec Ideal S4096x2816 .bf16) (B : Vec Ideal S2816x1024 .bf16) : Vec Ideal S4096x1024 .bf16 :=
  fun i => E A B ⟨(i 0).val, (i 0).isLt⟩ ⟨(i 1).val, (i 1).isLt⟩

/-- One tile's product. -/
theorem pay_at (x0 : Vec Ideal S1024x1408 .bf16) (x1 : Vec Ideal S1408x1024 .bf16) (r s : Fin 1024) :
    k0_pay1 x0 x1 (ix2 r s) = ∑ k : Fin 1408, x0 (ix2 r k) * x1 (ix2 k s) := by
  unfold k0_pay1
  simp only [pointwise]
  rw [zero_add]

section Cases

variable (c : Dev nD) (i : grid0.Coords) (arg3 : Memref sig .tc .vmem S1024x1408 .bf16) (harg3 : arg3.IsWhole) (arg4 : Memref sig .tc .vmem S1408x1024 .bf16) (harg4 : arg4.IsWhole) (arg5 : Memref sig .tc .vmem S1024x1024 .bf16) (harg5 : arg5.IsWhole) (arg6 : Memref sig .tc .vmem S1024x1024 .f32) (harg6 : arg6.IsWhole)
  (x0 : Vec Ideal S1024x1408 .bf16) (x1 : Vec Ideal S1408x1024 .bf16) (xs : Vec Ideal S1024x1024 .f32)

theorem sout_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (fun _ => scover0_A_0 ..)]
  unfold kernelRun0_A
  dsimp only
  sl_unfold_words
  simp only [View.readAt_eq_ld, Memref.IsWhole.read_unread]
  rw [View.canon_unit_zero Mm.zero2]
  repeat rw [View.ld_unit_zero Mm.zero2]

theorem out_B (hc0 : ¬cond0_0 i) (hc1 : cond0_1 i) (hc2 : cond0_2 i) :
    out0_B_2 c i arg3 harg3 arg4 harg4 arg5 harg5 arg6 harg6 hc0 hc1 hc2 x0 x1 xs = k0_pay4 (k0_pay3 x0 x1 xs) := by
  unfold out0_B_2
  rw [View.read_writes_eq_canon _ _ _ (fun _ => cover0_B_2 ..)]
  unfold kernelRun0_B
  dsimp only
  sl_unfold_words
  simp only [View.readAt_eq_ld, Memref.IsWhole.read_unread]
  simp (disch := decide) only [View.readCov_fill]
  rw [View.canon_unit_zero Mm.zero2]
  repeat rw [View.ld_unit_zero Mm.zero2]

end Cases

theorem pay2_at (x0 : Vec Ideal S1024x1408 .bf16) (x1 : Vec Ideal S1408x1024 .bf16) (r s : Fin 1024) :
    k0_pay2 x0 x1 (ix2 r s) = k0_pay1 x0 x1 (ix2 r s) := by
  unfold k0_pay2
  simp only [pointwise]

theorem pay4_at (x0 : Vec Ideal S1024x1408 .bf16) (x1 : Vec Ideal S1408x1024 .bf16) (xs : Vec Ideal S1024x1024 .f32)
    (r s : Fin 1024) :
    k0_pay4 (k0_pay3 x0 x1 xs) (ix2 r s) = xs (ix2 r s) + k0_pay1 x0 x1 (ix2 r s) := by
  unfold k0_pay4 k0_pay3
  simp only [pointwise]

variable (m : (ℓ : Loc nD τ sig) → Buf (Elt Ideal) ℓ)

abbrev aA (c : Dev nD) : Vec Ideal S4096x2816 .bf16 := m (c.tc.loc main_arg0)
abbrev aB (c : Dev nD) : Vec Ideal S2816x1024 .bf16 := m (c.tc.loc main_arg1)

theorem idx_facts : ∀ t : Fin grid0.N, win0_0.index t 0 = t.val / 2 ∧ win0_0.index t 1 = t.val % 2 ∧ win0_1.index t 0 = t.val % 2 ∧ win0_1.index t 1 = 0 ∧ win0_2.index t 0 = t.val / 2 ∧ win0_2.index t 1 = 0 := by decide +kernel

theorem blk0_at (c : Dev nD) (t : Fin cfg0.N) (y : S1024x1408.Idx) (z : S4096x2816.Idx)
    (h0 : (z 0).val = 1024 * (t.val / 2) + (y 0).val) (h1 : (z 1).val = 1408 * (t.val % 2) + (y 1).val) :
    iblk m c 0 t y = aA m c z := by
  obtain ⟨q00, q01, -⟩ := idx_facts t
  refine (congrFun (V_main_arg0 m c) _).trans (congrArg _ (Mm.idx2 (Mm.at_ 1024 q00 (by omega)) (Mm.at_ 1408 q01 (by omega))))

theorem blk1_at (c : Dev nD) (t : Fin cfg0.N) (y : S1408x1024.Idx) (z : S2816x1024.Idx)
    (h0 : (z 0).val = 1408 * (t.val % 2) + (y 0).val) (h1 : (z 1).val = (y 1).val) :
    iblk m c 1 t y = aB m c z := by
  obtain ⟨-, -, q10, q11, -⟩ := idx_facts t
  refine (congrFun (V_main_arg1 m c) _).trans (congrArg _ (Mm.idx2 (Mm.at_ 1408 q10 (by omega)) (Mm.at_ 1024 q11 (by omega))))

theorem flushed (c : Dev nD) (t : Fin cfg0.N) (hf : (cfg0.win 2).flush t = true) :
    (dats m 0 c).flushed 2 t = ((cfg0.win 2).blk t).view.read (Elt Ideal) (G (aA m c) (aB m c)) := by
  obtain ⟨-, -, -, -, q20, q21⟩ := idx_facts t
  have h1 : t.val % 2 = 1 := (flush0_2 t).mp hf
  have h0 : ¬t.val % 2 = 0 := by omega
  obtain ⟨u, hu⟩ : ∃ u : Fin cfg0.N, u.val = t.val - 1 := ⟨⟨t.val - 1, by have := t.isLt; omega⟩, rfl⟩
  have hs : (outsAt0 m c (t.val - 1) (Nat.lt_of_le_of_lt (Nat.sub_le _ _) t.isLt)).2 = k0_pay2 (iblk m c 0 u) (iblk m c 1 u) := by
    have e : outsAt0 m c (t.val - 1) (Nat.lt_of_le_of_lt (Nat.sub_le _ _) t.isLt) = outsAt0 m c u.val u.isLt := by
      congr 1; exact hu.symm
    rw [e, outsAt0_A m c u (by omega) (by omega) (by omega)]
    dsimp only
    rw [sout_A]
  rw [Value.flushed2_B m c t h0 h1 h1, out_B, hs]
  funext y
  obtain ⟨r, s, rfl⟩ := Mm.ex2 1024 1024 y
  rw [View.read_apply]
  refine (pay4_at _ _ _ r s).trans ?_
  rw [pay2_at, pay_at, pay_at]
  have er : ((((cfg0.win 2).blk t).view.emb (ix2 r s)) 0).val = 1024 * (t.val / 2) + r.val := Mm.at' 1024 r.val _ q20 (by omega)
  have es : ((((cfg0.win 2).blk t).view.emb (ix2 r s)) 1).val = s.val := Mm.at' 1024 s.val _ q21 (by omega)
  unfold G E
  rw [Mm.sum_halves (n := 1408) rfl]
  refine congrArg₂ (· + ·) (Finset.sum_congr rfl fun k _ => congrArg₂ (· * ·) (blk0_at m c u _ _ ?_ ?_) (blk1_at m c u _ _ ?_ ?_))
    (Finset.sum_congr rfl fun k _ => congrArg₂ (· * ·) (blk0_at m c t _ _ ?_ ?_) (blk1_at m c t _ _ ?_ ?_))
  · refine er.trans ?_; show _ = 1024 * (u.val / 2) + r.val; omega
  · show k.val = 1408 * (u.val % 2) + k.val; omega
  · show k.val = 1408 * (u.val % 2) + k.val; omega
  · exact es
  · refine er.trans ?_; show _ = 1024 * (t.val / 2) + r.val; omega
  · show 1408 + k.val = 1408 * (t.val % 2) + k.val; omega
  · show 1408 + k.val = 1408 * (t.val % 2) + k.val; omega
  · exact es

theorem final (c : Dev nD) : (dats m 0 c).arrAt 2 cfg0.N = G (aA m c) (aB m c) :=
  (dats m 0 c).arrAt_eq_of_cover 2 _ (fun t hf => flushed m c t hf) fun i => by
    have h1 : (i 0 : Nat) < 4096 := (i 0).isLt
    have h2 : (i 1 : Nat) < 1024 := (i 1).isLt
    have hN : cfg0.N = 8 := N_0
    obtain ⟨t, ht0, ht1⟩ : ∃ t : Fin cfg0.N, t.val / 2 = (i 0 : Nat) / 1024 ∧ t.val % 2 = 1 :=
      ⟨⟨2 * ((i 0 : Nat) / 1024) + 1, by omega⟩, by dsimp only; omega, by dsimp only; omega⟩
    obtain ⟨-, -, -, -, q20, q21⟩ := idx_facts t
    refine ⟨t, (flush0_2 t).mpr ht1, ?_⟩
    show i ∈ ((View.whole main_v0).slice (win0_2.rect t)).set
    rw [View.set_slice_whole]
    exact Mm.mem2 1024 1024 q20 q21 (by omega) (by omega)

/-- What every run ends with. -/
theorem run (ρ : Dev nD → PrngReg) : θ_run defs (onTc (τ := τ) (main (F := Ideal))) ⟨m, fun _ => 0, ρ⟩ fun r => ∀ c : Dev nD,
      r.2.mem (c.tc.loc main_v0) = G (aA m c) (aB m c) ∧ Mm.kept m r.2.mem c main_arg0 ∧ Mm.kept m r.2.mem c main_arg1 :=
  (θ_run defs _ _).mono (fun _ h c => ⟨(h c).1.trans (final m c), (h c).2⟩) (Value.run_blocks m ρ)

open Reference5Ideal.Read in
/-- One entry of the reference's product. -/
theorem ref_E (x0 : Vec Ideal S4096x2816 .bf16) (x1 : Vec Ideal S2816x1024 .bf16) (r : Fin 4096) (s : Fin 1024) :
    val_main_v3 (F := Ideal) x0 x1 (ix2 r s) = E x0 x1 r s := by
  unfold E
  show val_main_v2 (F := Ideal) x0 x1 _ = _
  rw [val_main_v2_apply]
  refine Finset.sum_congr rfl fun k _ => ?_
  refine congrArg₂ (· * ·) ?_ ?_
  · show x0 _ = _
    exact congrArg x0 (Mm.idx2 rfl rfl)
  · show x1 _ = _
    exact congrArg x1 (Mm.idx2 rfl rfl)

open Reference5Ideal.Read in
/-- The reference's result. -/
theorem ref_eq (x0 : Vec Ideal S4096x2816 .bf16) (x1 : Vec Ideal S2816x1024 .bf16) :
    val_main_v3 (F := Ideal) x0 x1 = G x0 x1 := by
  funext i
  obtain ⟨r, s, rfl⟩ := Mm.ex2 4096 1024 i
  exact ref_E x0 x1 r s

end Cert.Kernel5Ideal.Prod

namespace Cert.Proof.K5
open Idealize ShloMosaic SL.Sem

/-- The reference ends. -/
theorem frameRef : quiescent_Reference5Ideal := fun m ρ _ =>
  (θ_run Reference5Ideal.defs _ _).mono (fun r h => ⟨fun c => (h c).2, sem_eq_zero_of_no_sems (by decide) r.2⟩)
    (Reference5Ideal.Value.run m ρ)

/-- The call's result is the reference's. -/
theorem algebraic : algebraic_Kernel5Ideal_Reference5Ideal := by
  intro m ρ m' ρ' hpre hargs
  refine ⟨_, Kernel5Ideal.Prod.run m ρ, (θ_run Reference5Ideal.defs _ _).mono (fun r h c => ?_)
    (Reference5Ideal.Value.run m' ρ')⟩
  obtain ⟨h0, hk⟩ := h c
  refine ⟨?_, hk⟩
  refine h0.trans ((Reference5Ideal.Read.val_main_v3_eq _ _).trans ?_)
  rw [(hargs c).1, (hargs c).2]
  exact Kernel5Ideal.Prod.ref_eq _ _

end Cert.Proof.K5
-- ==== Proof.Mm.P6.lean ====
/-
  The gradient of the ConvFFN's input, first half: the call's tiles put together are the product, and the reference's
  product is the same sum.
-/
module

public import proofs.«01_k».proof.Proof.Gen.Kernel6.Frame
public import proofs.«01_k».proof.Proof.Gen.Kernel6Ideal.Value
public import proofs.«01_k».proof.Proof.Gen.Reference6Ideal.Read
public import proofs.«01_k».proof.Proof.Mm.Sum

@[expose] public section

noncomputable section

namespace Cert.Kernel6Ideal.Prod

open Kernel6Ideal Kernel6Ideal.Gen Idealize ShloMosaic ShloMosaic.TcCoe SL.Sem

/-- One entry of the product. -/
def E (A : Vec Ideal S2x4096x2816 .bf16) (B : Vec Ideal S1024x5632 .bf16) (r : Fin 4096) (s : Fin 1024) : EReal :=
  ∑ k : Fin 2816, A (ix3 0 r k) * B (ix2 s ⟨k.val, by have := k.isLt; omega⟩)

/-- The call's result. -/
def G (A : Vec Ideal S2x4096x2816 .bf16) (B : Vec Ideal S1024x5632 .bf16) : Vec Ideal S4096x1024 .f32 :=
  fun i => E A B ⟨(i 0).val, (i 0).isLt⟩ ⟨(i 1).val, (i 1).isLt⟩

/-- One tile's product. -/
theorem pay_at (x0 : Vec Ideal S1x1024x1408 .bf16) (x1 : Vec Ideal S1024x1408 .bf16) (r s : Fin 1024) :
    k0_pay1 x0 x1 (ix2 r s) = ∑ k : Fin 1408, x0 (ix3 0 r k) * x1 (ix2 s k) := by
  unfold k0_pay1
  simp only [pointwise]
  rw [zero_add]

section Cases

variable (c : Dev nD) (i : grid0.Coords) (arg3 : Memref sig .tc .vmem S1x1024x1408 .bf16) (harg3 : arg3.IsWhole) (arg4 : Memref sig .tc .vmem S1024x1408 .bf16) (harg4 : arg4.IsWhole) (arg5 : Memref sig .tc .vmem S1024x1024 .f32) (harg5 : arg5.IsWhole) (arg6 : Memref sig .tc .vmem S1024x1024 .f32) (harg6 : arg6.IsWhole)
  (x0 : Vec Ideal S1x1024x1408 .bf16) (x1 : Vec Ideal S1024x1408 .bf16) (xs : Vec Ideal S1024x1024 .f32)

theorem sout_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (fun _ => scover0_A_0 ..)]
  unfold kernelRun0_A
  dsimp only
  sl_unfold_words
  simp only [View.readAt_eq_ld, Memref.IsWhole.read_unread]
  rw [View.canon_unit_zero Mm.zero2]
  repeat (first | rw [View.ld_unit_zero Mm.zero2] | rw [View.ld_unit_zero Mm.zero3])

theorem out_B (hc0 : ¬cond0_0 i) (hc1 : cond0_1 i) (hc2 : cond0_2 i) :
    out0_B_2 c i arg3 harg3 arg4 harg4 arg5 harg5 arg6 harg6 hc0 hc1 hc2 x0 x1 xs = k0_pay3 x0 x1 xs := by
  unfold out0_B_2
  rw [View.read_writes_eq_canon _ _ _ (fun _ => cover0_B_2 ..)]
  unfold kernelRun0_B
  dsimp only
  sl_unfold_words
  simp only [View.readAt_eq_ld, Memref.IsWhole.read_unread]
  simp (disch := decide) only [View.readCov_fill]
  rw [View.canon_unit_zero Mm.zero2]
  repeat (first | rw [View.ld_unit_zero Mm.zero2] | rw [View.ld_unit_zero Mm.zero3])

end Cases

theorem pay2_at (x0 : Vec Ideal S1x1024x1408 .bf16) (x1 : Vec Ideal S1024x1408 .bf16) (r s : Fin 1024) :
    k0_pay2 x0 x1 (ix2 r s) = k0_pay1 x0 x1 (ix2 r s) := by
  unfold k0_pay2
  simp only [pointwise]

theorem pay4_at (x0 : Vec Ideal S1x1024x1408 .bf16) (x1 : Vec Ideal S1024x1408 .bf16) (xs : Vec Ideal S1024x1024 .f32)
    (r s : Fin 1024) :
    k0_pay3 x0 x1 xs (ix2 r s) = xs (ix2 r s) + k0_pay1 x0 x1 (ix2 r s) := by
  unfold k0_pay3
  simp only [pointwise]

variable (m : (ℓ : Loc nD τ sig) → Buf (Elt Ideal) ℓ)

abbrev aA (c : Dev nD) : Vec Ideal S2x4096x2816 .bf16 := m (c.tc.loc main_arg0)
abbrev aB (c : Dev nD) : Vec Ideal S1024x5632 .bf16 := m (c.tc.loc main_arg1)

theorem idx_facts : ∀ t : Fin grid0.N, win0_0.index t 0 = 0 ∧ win0_0.index t 1 = t.val / 2 ∧ win0_0.index t 2 = t.val % 2 ∧ win0_1.index t 0 = 0 ∧ win0_1.index t 1 = t.val % 2 ∧ win0_2.index t 0 = t.val / 2 ∧ win0_2.index t 1 = 0 := by decide +kernel

theorem blk0_at (c : Dev nD) (t : Fin cfg0.N) (y : S1x1024x1408.Idx) (z : S2x4096x2816.Idx)
    (h0 : (z 0).val = (y 0).val) (h1 : (z 1).val = 1024 * (t.val / 2) + (y 1).val) (h2 : (z 2).val = 1408 * (t.val % 2) + (y 2).val) :
    iblk m c 0 t y = aA m c z := by
  obtain ⟨q00, q01, q02, -⟩ := idx_facts t
  refine (congrFun (V_main_arg0 m c) _).trans (congrArg _ (Mm.idx3 (Mm.at_ 1 q00 (by omega)) (Mm.at_ 1024 q01 (by omega)) (Mm.at_ 1408 q02 (by omega))))

theorem blk1_at (c : Dev nD) (t : Fin cfg0.N) (y : S1024x1408.Idx) (z : S1024x5632.Idx)
    (h0 : (z 0).val = (y 0).val) (h1 : (z 1).val = 1408 * (t.val % 2) + (y 1).val) :
    iblk m c 1 t y = aB m c z := by
  obtain ⟨-, -, -, q10, q11, -⟩ := idx_facts t
  refine (congrFun (V_main_arg1 m c) _).trans (congrArg _ (Mm.idx2 (Mm.at_ 1024 q10 (by omega)) (Mm.at_ 1408 q11 (by omega))))

theorem flushed (c : Dev nD) (t : Fin cfg0.N) (hf : (cfg0.win 2).flush t = true) :
    (dats m 0 c).flushed 2 t = ((cfg0.win 2).blk t).view.read (Elt Ideal) (G (aA m c) (aB m c)) := by
  obtain ⟨-, -, -, -, -, q20, q21⟩ := idx_facts t
  have h1 : t.val % 2 = 1 := (flush0_2 t).mp hf
  have h0 : ¬t.val % 2 = 0 := by omega
  obtain ⟨u, hu⟩ : ∃ u : Fin cfg0.N, u.val = t.val - 1 := ⟨⟨t.val - 1, by have := t.isLt; omega⟩, rfl⟩
  have hs : (outsAt0 m c (t.val - 1) (Nat.lt_of_le_of_lt (Nat.sub_le _ _) t.isLt)).2 = k0_pay2 (iblk m c 0 u) (iblk m c 1 u) := by
    have e : outsAt0 m c (t.val - 1) (Nat.lt_of_le_of_lt (Nat.sub_le _ _) t.isLt) = outsAt0 m c u.val u.isLt := by
      congr 1; exact hu.symm
    rw [e, outsAt0_A m c u (by omega) (by omega) (by omega)]
    dsimp only
    rw [sout_A]
  rw [Value.flushed2_B m c t h0 h1 h1, out_B, hs]
  funext y
  obtain ⟨r, s, rfl⟩ := Mm.ex2 1024 1024 y
  rw [View.read_apply]
  refine (pay4_at _ _ _ r s).trans ?_
  rw [pay2_at, pay_at, pay_at]
  have er : ((((cfg0.win 2).blk t).view.emb (ix2 r s)) 0).val = 1024 * (t.val / 2) + r.val := Mm.at' 1024 r.val _ q20 (by omega)
  have es : ((((cfg0.win 2).blk t).view.emb (ix2 r s)) 1).val = s.val := Mm.at' 1024 s.val _ q21 (by omega)
  unfold G E
  rw [Mm.sum_halves (n := 1408) rfl]
  refine congrArg₂ (· + ·) (Finset.sum_congr rfl fun k _ => congrArg₂ (· * ·) (blk0_at m c u _ _ ?_ ?_ ?_) (blk1_at m c u _ _ ?_ ?_))
    (Finset.sum_congr rfl fun k _ => congrArg₂ (· * ·) (blk0_at m c t _ _ ?_ ?_ ?_) (blk1_at m c t _ _ ?_ ?_))
  · rfl
  · refine er.trans ?_; show _ = 1024 * (u.val / 2) + r.val; omega
  · show k.val = 1408 * (u.val % 2) + k.val; omega
  · exact es
  · show k.val = 1408 * (u.val % 2) + k.val; omega
  · rfl
  · refine er.trans ?_; show _ = 1024 * (t.val / 2) + r.val; omega
  · show 1408 + k.val = 1408 * (t.val % 2) + k.val; omega
  · exact es
  · show 1408 + k.val = 1408 * (t.val % 2) + k.val; omega

theorem final (c : Dev nD) : (dats m 0 c).arrAt 2 cfg0.N = G (aA m c) (aB m c) :=
  (dats m 0 c).arrAt_eq_of_cover 2 _ (fun t hf => flushed m c t hf) fun i => by
    have h1 : (i 0 : Nat) < 4096 := (i 0).isLt
    have h2 : (i 1 : Nat) < 1024 := (i 1).isLt
    have hN : cfg0.N = 8 := N_0
    obtain ⟨t, ht0, ht1⟩ : ∃ t : Fin cfg0.N, t.val / 2 = (i 0 : Nat) / 1024 ∧ t.val % 2 = 1 :=
      ⟨⟨2 * ((i 0 : Nat) / 1024) + 1, by omega⟩, by dsimp only; omega, by dsimp only; omega⟩
    obtain ⟨-, -, -, -, -, q20, q21⟩ := idx_facts t
    refine ⟨t, (flush0_2 t).mpr ht1, ?_⟩
    show i ∈ ((View.whole main_v0).slice (win0_2.rect t)).set
    rw [View.set_slice_whole]
    exact Mm.mem2 1024 1024 q20 q21 (by omega) (by omega)

/-- What every run ends with. -/
theorem run (ρ : Dev nD → PrngReg) : θ_run defs (onTc (τ := τ) (main (F := Ideal))) ⟨m, fun _ => 0, ρ⟩ fun r => ∀ c : Dev nD,
      r.2.mem (c.tc.loc main_v0) = G (aA m c) (aB m c) ∧ Mm.kept m r.2.mem c main_arg0 ∧ Mm.kept m r.2.mem c main_arg1 :=
  (θ_run defs _ _).mono (fun _ h c => ⟨(h c).1.trans (final m c), (h c).2⟩) (Value.run_blocks m ρ)

open Reference6Ideal.Read in
/-- One entry of the reference's product. -/
theorem ref_E (x0 : Vec Ideal S2x4096x2816 .bf16) (x1 : Vec Ideal S1024x5632 .bf16) (r : Fin 4096) (s : Fin 1024) :
    val_main_v7 (F := Ideal) x0 x1 (ix2 r s) = E x0 x1 r s := by
  unfold E
  rw [val_main_v7_apply]
  refine Finset.sum_congr rfl fun k _ => ?_
  refine congrArg₂ (· * ·) ?_ ?_
  · show val_main_v5 (F := Ideal) x0 _ = _
    rw [val_main_v5_apply]
    rw [val_main_v4_apply]
    have hp := r.isLt
    have hq := k.isLt
    refine congrArg x0 (Mm.idx3 ?_ ?_ ?_)
    · rfl
    · show (r.val * 2816 + k.val) / 2816 % 4096 = r.val; omega
    · show (r.val * 2816 + k.val) % 2816 = k.val; omega
  · show val_main_v1 (F := Ideal) x1 _ = _
    rw [val_main_v1_apply]
    exact congrArg x1 (Mm.idx2 rfl rfl)

open Reference6Ideal.Read in
/-- The reference's result. -/
theorem ref_eq (x0 : Vec Ideal S2x4096x2816 .bf16) (x1 : Vec Ideal S1024x5632 .bf16) :
    val_main_v7 (F := Ideal) x0 x1 = G x0 x1 := by
  funext i
  obtain ⟨r, s, rfl⟩ := Mm.ex2 4096 1024 i
  exact ref_E x0 x1 r s

end Cert.Kernel6Ideal.Prod

namespace Cert.Proof.K6
open Idealize ShloMosaic SL.Sem

/-- The reference ends. -/
theorem frameRef : quiescent_Reference6Ideal := fun m ρ _ =>
  (θ_run Reference6Ideal.defs _ _).mono (fun r h => ⟨fun c => (h c).2, sem_eq_zero_of_no_sems (by decide) r.2⟩)
    (Reference6Ideal.Value.run m ρ)

/-- The call's result is the reference's. -/
theorem algebraic : algebraic_Kernel6Ideal_Reference6Ideal := by
  intro m ρ m' ρ' hpre hargs
  refine ⟨_, Kernel6Ideal.Prod.run m ρ, (θ_run Reference6Ideal.defs _ _).mono (fun r h c => ?_)
    (Reference6Ideal.Value.run m' ρ')⟩
  obtain ⟨h0, hk⟩ := h c
  refine ⟨?_, hk⟩
  refine h0.trans ((Reference6Ideal.Read.val_main_v7_eq _ _).trans ?_)
  rw [(hargs c).1, (hargs c).2]
  exact Kernel6Ideal.Prod.ref_eq _ _

end Cert.Proof.K6
-- ==== Proof.Mm.P7.lean ====
/-
  The gradient of the ConvFFN's input, second half: the call's tiles put together are the product, and the reference's
  product is the same sum.
-/
module

public import proofs.«01_k».proof.Proof.Gen.Kernel7.Frame
public import proofs.«01_k».proof.Proof.Gen.Kernel7Ideal.Value
public import proofs.«01_k».proof.Proof.Gen.Reference7Ideal.Read
public import proofs.«01_k».proof.Proof.Mm.Sum

@[expose] public section

noncomputable section

namespace Cert.Kernel7Ideal.Prod

open Kernel7Ideal Kernel7Ideal.Gen Idealize ShloMosaic ShloMosaic.TcCoe SL.Sem

/-- One entry of the product, plus what was there before. -/
def E (A : Vec Ideal S2x4096x2816 .bf16) (B : Vec Ideal S1024x5632 .bf16) (X : Vec Ideal S4096x1024 .f32) (r : Fin 4096) (s : Fin 1024) : EReal :=
  ∑ k : Fin 2816, A (ix3 1 r k) * B (ix2 s ⟨2816 + k.val, by have := k.isLt; omega⟩) + X (ix2 r s)

/-- The call's result. -/
def G (A : Vec Ideal S2x4096x2816 .bf16) (B : Vec Ideal S1024x5632 .bf16) (X : Vec Ideal S4096x1024 .f32) : Vec Ideal S4096x1024 .bf16 :=
  fun i => E A B X ⟨(i 0).val, (i 0).isLt⟩ ⟨(i 1).val, (i 1).isLt⟩

/-- One tile's product. -/
theorem pay_at (x0 : Vec Ideal S1x1024x1408 .bf16) (x1 : Vec Ideal S1024x1408 .bf16) (r s : Fin 1024) :
    k0_pay1 x0 x1 (ix2 r s) = ∑ k : Fin 1408, x0 (ix3 0 r k) * x1 (ix2 s k) := by
  unfold k0_pay1
  simp only [pointwise]
  rw [zero_add]

section Cases

variable (c : Dev nD) (i : grid0.Coords) (arg3 : Memref sig .tc .vmem S1x1024x1408 .bf16) (harg3 : arg3.IsWhole) (arg4 : Memref sig .tc .vmem S1024x1408 .bf16) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1024x1024 .f32) (harg7 : arg7.IsWhole)
  (x0 : Vec Ideal S1x1024x1408 .bf16) (x1 : Vec Ideal S1024x1408 .bf16) (x2 xs : Vec Ideal S1024x1024 .f32)

theorem sout_A (hc0 : cond0_0 i) (hc1 : ¬cond0_1 i) (hc2 : ¬cond0_2 i) :
    sout0_A_0 c i arg3 harg3 arg4 harg4 arg5 harg5 arg6 harg6 arg7 harg7 hc0 hc1 hc2 x0 x1 x2 = k0_pay2 x0 x1 x2 := by
  unfold sout0_A_0
  rw [View.read_writes_eq_canon _ _ _ (fun _ => scover0_A_0 ..)]
  unfold kernelRun0_A
  dsimp only
  sl_unfold_words
  simp only [View.readAt_eq_ld, Memref.IsWhole.read_unread]
  rw [View.canon_unit_zero Mm.zero2]
  repeat (first | rw [View.ld_unit_zero Mm.zero2] | rw [View.ld_unit_zero Mm.zero3])

theorem out_B (hc0 : ¬cond0_0 i) (hc1 : cond0_1 i) (hc2 : cond0_2 i) :
    out0_B_3 c i arg3 harg3 arg4 harg4 arg5 harg5 arg6 harg6 arg7 harg7 hc0 hc1 hc2 x0 x1 x2 xs = k0_pay4 (k0_pay3 x0 x1 xs) := by
  unfold out0_B_3
  rw [View.read_writes_eq_canon _ _ _ (fun _ => cover0_B_3 ..)]
  unfold kernelRun0_B
  dsimp only
  sl_unfold_words
  simp only [View.readAt_eq_ld, Memref.IsWhole.read_unread]
  simp (disch := decide) only [View.readCov_fill]
  rw [View.canon_unit_zero Mm.zero2]
  repeat (first | rw [View.ld_unit_zero Mm.zero2] | rw [View.ld_unit_zero Mm.zero3])

end Cases

theorem pay2_at (x0 : Vec Ideal S1x1024x1408 .bf16) (x1 : Vec Ideal S1024x1408 .bf16) (x2 : Vec Ideal S1024x1024 .f32) (r s : Fin 1024) :
    k0_pay2 x0 x1 x2 (ix2 r s) = k0_pay1 x0 x1 (ix2 r s) + x2 (ix2 r s) := by
  unfold k0_pay2
  simp only [pointwise]

theorem pay4_at (x0 : Vec Ideal S1x1024x1408 .bf16) (x1 : Vec Ideal S1024x1408 .bf16) (xs : Vec Ideal S1024x1024 .f32)
    (r s : Fin 1024) :
    k0_pay4 (k0_pay3 x0 x1 xs) (ix2 r s) = xs (ix2 r s) + k0_pay1 x0 x1 (ix2 r s) := by
  unfold k0_pay4 k0_pay3
  simp only [pointwise]

variable (m : (ℓ : Loc nD τ sig) → Buf (Elt Ideal) ℓ)

abbrev aA (c : Dev nD) : Vec Ideal S2x4096x2816 .bf16 := m (c.tc.loc main_arg0)
abbrev aB (c : Dev nD) : Vec Ideal S1024x5632 .bf16 := m (c.tc.loc main_arg1)
abbrev aX (c : Dev nD) : Vec Ideal S4096x1024 .f32 := m (c.tc.loc main_arg2)

theorem idx_facts : ∀ t : Fin grid0.N, win0_0.index t 0 = 1 ∧ win0_0.index t 1 = t.val / 2 ∧ win0_0.index t 2 = t.val % 2 ∧ win0_1.index t 0 = 0 ∧ win0_1.index t 1 = t.val % 2 + 2 ∧ win0_2.index t 0 = t.val / 2 ∧ win0_2.index t 1 = 0 ∧ win0_3.index t 0 = t.val / 2 ∧ win0_3.index t 1 = 0 := by decide +kernel

theorem blk0_at (c : Dev nD) (t : Fin cfg0.N) (y : S1x1024x1408.Idx) (z : S2x4096x2816.Idx)
    (h0 : (z 0).val = 1 * (1) + (y 0).val) (h1 : (z 1).val = 1024 * (t.val / 2) + (y 1).val) (h2 : (z 2).val = 1408 * (t.val % 2) + (y 2).val) :
    iblk m c 0 t y = aA m c z := by
  obtain ⟨q00, q01, q02, -⟩ := idx_facts t
  refine (congrFun (V_main_arg0 m c) _).trans (congrArg _ (Mm.idx3 (Mm.at_ 1 q00 (by omega)) (Mm.at_ 1024 q01 (by omega)) (Mm.at_ 1408 q02 (by omega))))

theorem blk1_at (c : Dev nD) (t : Fin cfg0.N) (y : S1024x1408.Idx) (z : S1024x5632.Idx)
    (h0 : (z 0).val = (y 0).val) (h1 : (z 1).val = 1408 * (t.val % 2 + 2) + (y 1).val) :
    iblk m c 1 t y = aB m c z := by
  obtain ⟨-, -, -, q10, q11, -⟩ := idx_facts t
  refine (congrFun (V_main_arg1 m c) _).trans (congrArg _ (Mm.idx2 (Mm.at_ 1024 q10 (by omega)) (Mm.at_ 1408 q11 (by omega))))

theorem blk2_at (c : Dev nD) (t : Fin cfg0.N) (y : S1024x1024.Idx) (z : S4096x1024.Idx)
    (h0 : (z 0).val = 1024 * (t.val / 2) + (y 0).val) (h1 : (z 1).val = (y 1).val) :
    iblk m c 2 t y = aX m c z := by
  obtain ⟨-, -, -, -, -, q20, q21, -⟩ := idx_facts t
  refine (congrFun (V_main_arg2 m c) _).trans (congrArg _ (Mm.idx2 (Mm.at_ 1024 q20 (by omega)) (Mm.at_ 1024 q21 (by omega))))

theorem flushed (c : Dev nD) (t : Fin cfg0.N) (hf : (cfg0.win 3).flush t = true) :
    (dats m 0 c).flushed 3 t = ((cfg0.win 3).blk t).view.read (Elt Ideal) (G (aA m c) (aB m c) (aX m c)) := by
  obtain ⟨-, -, -, -, -, -, -, q30, q31⟩ := idx_facts t
  have h1 : t.val % 2 = 1 := (flush0_3 t).mp hf
  have h0 : ¬t.val % 2 = 0 := by omega
  obtain ⟨u, hu⟩ : ∃ u : Fin cfg0.N, u.val = t.val - 1 := ⟨⟨t.val - 1, by have := t.isLt; omega⟩, rfl⟩
  have hs : (outsAt0 m c (t.val - 1) (Nat.lt_of_le_of_lt (Nat.sub_le _ _) t.isLt)).2 = k0_pay2 (iblk m c 0 u) (iblk m c 1 u) (iblk m c 2 u) := by
    have e : outsAt0 m c (t.val - 1) (Nat.lt_of_le_of_lt (Nat.sub_le _ _) t.isLt) = outsAt0 m c u.val u.isLt := by
      congr 1; exact hu.symm
    rw [e, outsAt0_A m c u (by omega) (by omega) (by omega)]
    dsimp only
    rw [sout_A]
  rw [Value.flushed3_B m c t h0 h1 h1, out_B, hs]
  funext y
  obtain ⟨r, s, rfl⟩ := Mm.ex2 1024 1024 y
  rw [View.read_apply]
  refine (pay4_at _ _ _ r s).trans ?_
  rw [pay2_at, pay_at, pay_at]
  have er : ((((cfg0.win 3).blk t).view.emb (ix2 r s)) 0).val = 1024 * (t.val / 2) + r.val := Mm.at' 1024 r.val _ q30 (by omega)
  have es : ((((cfg0.win 3).blk t).view.emb (ix2 r s)) 1).val = s.val := Mm.at' 1024 s.val _ q31 (by omega)
  unfold G E
  rw [Mm.sum_halves (n := 1408) rfl]
  rw [add_right_comm]
  refine congrArg₂ (· + ·) (congrArg₂ (· + ·) (Finset.sum_congr rfl fun k _ => congrArg₂ (· * ·) (blk0_at m c u _ _ ?_ ?_ ?_) (blk1_at m c u _ _ ?_ ?_))
    (Finset.sum_congr rfl fun k _ => congrArg₂ (· * ·) (blk0_at m c t _ _ ?_ ?_ ?_) (blk1_at m c t _ _ ?_ ?_))) (blk2_at m c u _ _ ?_ ?_)
  · rfl
  · refine er.trans ?_; show _ = 1024 * (u.val / 2) + r.val; omega
  · show k.val = 1408 * (u.val % 2) + k.val; omega
  · exact es
  · show 2816 + (k.val) = 1408 * (u.val % 2 + 2) + k.val; omega
  · rfl
  · refine er.trans ?_; show _ = 1024 * (t.val / 2) + r.val; omega
  · show 1408 + k.val = 1408 * (t.val % 2) + k.val; omega
  · exact es
  · show 2816 + (1408 + k.val) = 1408 * (t.val % 2 + 2) + k.val; omega
  · refine er.trans ?_; show _ = 1024 * (u.val / 2) + r.val; omega
  · exact es

theorem final (c : Dev nD) : (dats m 0 c).arrAt 3 cfg0.N = G (aA m c) (aB m c) (aX m c) :=
  (dats m 0 c).arrAt_eq_of_cover 3 _ (fun t hf => flushed m c t hf) fun i => by
    have h1 : (i 0 : Nat) < 4096 := (i 0).isLt
    have h2 : (i 1 : Nat) < 1024 := (i 1).isLt
    have hN : cfg0.N = 8 := N_0
    obtain ⟨t, ht0, ht1⟩ : ∃ t : Fin cfg0.N, t.val / 2 = (i 0 : Nat) / 1024 ∧ t.val % 2 = 1 :=
      ⟨⟨2 * ((i 0 : Nat) / 1024) + 1, by omega⟩, by dsimp only; omega, by dsimp only; omega⟩
    obtain ⟨-, -, -, -, -, -, -, q30, q31⟩ := idx_facts t
    refine ⟨t, (flush0_3 t).mpr ht1, ?_⟩
    show i ∈ ((View.whole main_v0).slice (win0_3.rect t)).set
    rw [View.set_slice_whole]
    exact Mm.mem2 1024 1024 q30 q31 (by omega) (by omega)

/-- What every run ends with. -/
theorem run (ρ : Dev nD → PrngReg) : θ_run defs (onTc (τ := τ) (main (F := Ideal))) ⟨m, fun _ => 0, ρ⟩ fun r => ∀ c : Dev nD,
      r.2.mem (c.tc.loc main_v0) = G (aA m c) (aB m c) (aX m c) ∧ Mm.kept m r.2.mem c main_arg0 ∧ Mm.kept m r.2.mem c main_arg1 ∧ Mm.kept m r.2.mem c main_arg2 :=
  (θ_run defs _ _).mono (fun _ h c => ⟨(h c).1.trans (final m c), (h c).2⟩) (Value.run_blocks m ρ)

open Reference7Ideal.Read in
/-- One entry of the reference's product. -/
theorem ref_E (x0 : Vec Ideal S2x4096x2816 .bf16) (x1 : Vec Ideal S1024x5632 .bf16) (x2 : Vec Ideal S4096x1024 .f32) (r : Fin 4096) (s : Fin 1024) :
    val_main_v9 (F := Ideal) x0 x1 x2 (ix2 r s) = E x0 x1 x2 r s := by
  unfold E
  show val_main_v8 (F := Ideal) x0 x1 x2 _ = _
  rw [val_main_v8_apply]
  refine congrArg₂ (· + ·) ?_ ?_
  · rw [val_main_v7_apply]
    refine Finset.sum_congr rfl fun k _ => ?_
    refine congrArg₂ (· * ·) ?_ ?_
    · show val_main_v5 (F := Ideal) x0 _ = _
      rw [val_main_v5_apply]
      rw [val_main_v4_apply]
      have hp := r.isLt
      have hq := k.isLt
      refine congrArg x0 (Mm.idx3 ?_ ?_ ?_)
      · rfl
      · show (r.val * 2816 + k.val) / 2816 % 4096 = r.val; omega
      · show (r.val * 2816 + k.val) % 2816 = k.val; omega
    · show val_main_v1 (F := Ideal) x1 _ = _
      rw [val_main_v1_apply]
      exact congrArg x1 (Mm.idx2 rfl rfl)
  · exact congrArg x2 (Mm.idx2 rfl rfl)

open Reference7Ideal.Read in
/-- The reference's result. -/
theorem ref_eq (x0 : Vec Ideal S2x4096x2816 .bf16) (x1 : Vec Ideal S1024x5632 .bf16) (x2 : Vec Ideal S4096x1024 .f32) :
    val_main_v9 (F := Ideal) x0 x1 x2 = G x0 x1 x2 := by
  funext i
  obtain ⟨r, s, rfl⟩ := Mm.ex2 4096 1024 i
  exact ref_E x0 x1 x2 r s

end Cert.Kernel7Ideal.Prod

namespace Cert.Proof.K7
open Idealize ShloMosaic SL.Sem

/-- The reference ends. -/
theorem frameRef : quiescent_Reference7Ideal := fun m ρ _ =>
  (θ_run Reference7Ideal.defs _ _).mono (fun r h => ⟨fun c => (h c).2, sem_eq_zero_of_no_sems (by decide) r.2⟩)
    (Reference7Ideal.Value.run m ρ)

/-- The call's result is the reference's. -/
theorem algebraic : algebraic_Kernel7Ideal_Reference7Ideal := by
  intro m ρ m' ρ' hpre hargs
  refine ⟨_, Kernel7Ideal.Prod.run m ρ, (θ_run Reference7Ideal.defs _ _).mono (fun r h c => ?_)
    (Reference7Ideal.Value.run m' ρ')⟩
  obtain ⟨h0, hk⟩ := h c
  refine ⟨?_, hk⟩
  refine h0.trans ((Reference7Ideal.Read.val_main_v9_eq _ _ _).trans ?_)
  rw [(hargs c).1, (hargs c).2.1, (hargs c).2.2]
  exact Kernel7Ideal.Prod.ref_eq _ _ _

end Cert.Proof.K7
-- ==== Proof.Mm.P8.lean ====
/-
  The gradient of the ConvFFN's first weight, first half: the call's tiles put together are the product, and the reference's
  product is the same sum.
-/
module

public import proofs.«01_k».proof.Proof.Gen.Kernel8.Frame
public import proofs.«01_k».proof.Proof.Gen.Kernel8Ideal.Value
public import proofs.«01_k».proof.Proof.Gen.Reference8Ideal.Read
public import proofs.«01_k».proof.Proof.Mm.Sum

@[expose] public section

noncomputable section

namespace Cert.Kernel8Ideal.Prod

open Kernel8Ideal Kernel8Ideal.Gen Idealize ShloMosaic ShloMosaic.TcCoe SL.Sem

/-- One entry of the product. -/
def E (A : Vec Ideal S4096x1024 .bf16) (B : Vec Ideal S2x4096x2816 .bf16) (r : Fin 1024) (s : Fin 2816) : EReal :=
  ∑ k : Fin 4096, A (ix2 k r) * B (ix3 0 k s)

/-- The call's result: the product in its place among the layers' gradients, everything else as before. -/
def G (A : Vec Ideal S4096x1024 .bf16) (B : Vec Ideal S2x4096x2816 .bf16) (C : Vec Ideal S4x1024x5632 .bf16) : Vec Ideal S4x1024x5632 .bf16 :=
  fun i => if (i 0).val = 0 ∧ (i 2).val / 2816 = 0 then E A B ⟨(i 1).val, (i 1).isLt⟩ ⟨(i 2).val % 2816, Nat.mod_lt _ (by decide)⟩ else C i

/-- One tile's product. -/
theorem pay_at (x0 : Vec Ideal S2048x1024 .bf16) (x1 : Vec Ideal S1x2048x1408 .bf16) (r : Fin 1024) (s : Fin 1408) :
    k0_pay1 x0 x1 (ix2 r s) = ∑ k : Fin 2048, x0 (ix2 k r) * x1 (ix3 0 k s) := by
  unfold k0_pay1
  simp only [pointwise]
  rw [zero_add]

section Cases

variable (c : Dev nD) (i : grid0.Coords) (arg3 : Memref sig .tc .vmem S2048x1024 .bf16) (harg3 : arg3.IsWhole) (arg4 : Memref sig .tc .vmem S1x2048x1408 .bf16) (harg4 : arg4.IsWhole) (arg6 : Memref sig .tc .vmem S1x1024x1408 .bf16) (harg6 : arg6.IsWhole) (arg7 : Memref sig .tc .vmem S1024x1408 .f32) (harg7 : arg7.IsWhole)
  (x0 : Vec Ideal S2048x1024 .bf16) (x1 : Vec Ideal S1x2048x1408 .bf16) (xs : Vec Ideal S1024x1408 .f32)

theorem sout_A (hc0 : cond0_0 i) (hc1 : ¬cond0_1 i) (hc2 : ¬cond0_2 i) :
    sout0_A_0 c i arg3 harg3 arg4 harg4 arg6 harg6 arg7 harg7 hc0 hc1 hc2 x0 x1 = k0_pay2 x0 x1 := by
  unfold sout0_A_0
  rw [View.read_writes_eq_canon _ _ _ (fun _ => scover0_A_0 ..)]
  unfold kernelRun0_A
  dsimp only
  sl_unfold_words
  simp only [View.readAt_eq_ld, Memref.IsWhole.read_unread]
  rw [View.canon_unit_zero Mm.zero2]
  repeat (first | rw [View.ld_unit_zero Mm.zero2] | rw [View.ld_unit_zero Mm.zero3])

theorem out_B (hc0 : ¬cond0_0 i) (hc1 : cond0_1 i) (hc2 : cond0_2 i) :
    out0_B_2 c i arg3 harg3 arg4 harg4 arg6 harg6 arg7 harg7 hc0 hc1 hc2 x0 x1 xs = k0_pay4 (k0_pay3 x0 x1 xs) := by
  unfold out0_B_2
  rw [View.read_writes_eq_canon _ _ _ (fun _ => cover0_B_2 ..)]
  unfold kernelRun0_B
  dsimp only
  sl_unfold_words
  simp only [View.readAt_eq_ld, Memref.IsWhole.read_unread]
  simp (disch := decide) only [View.readCov_fill]
  rw [View.canon_unit_zero Mm.zero3]
  repeat (first | rw [View.ld_unit_zero Mm.zero2] | rw [View.ld_unit_zero Mm.zero3])

end Cases

theorem pay2_at (x0 : Vec Ideal S2048x1024 .bf16) (x1 : Vec Ideal S1x2048x1408 .bf16) (r : Fin 1024) (s : Fin 1408) :
    k0_pay2 x0 x1 (ix2 r s) = k0_pay1 x0 x1 (ix2 r s) := by
  unfold k0_pay2
  simp only [pointwise]

theorem pay4_at (x0 : Vec Ideal S2048x1024 .bf16) (x1 : Vec Ideal S1x2048x1408 .bf16) (xs : Vec Ideal S1024x1408 .f32)
    (l : Fin 1) (r : Fin 1024) (s : Fin 1408) :
    k0_pay4 (k0_pay3 x0 x1 xs) (ix3 l r s) = xs (ix2 r s) + k0_pay1 x0 x1 (ix2 r s) := by
  unfold k0_pay4 k0_pay3
  simp only [pointwise]

variable (m : (ℓ : Loc nD τ sig) → Buf (Elt Ideal) ℓ)

abbrev aA (c : Dev nD) : Vec Ideal S4096x1024 .bf16 := m (c.tc.loc main_arg0)
abbrev aB (c : Dev nD) : Vec Ideal S2x4096x2816 .bf16 := m (c.tc.loc main_arg1)
abbrev aC (c : Dev nD) : Vec Ideal S4x1024x5632 .bf16 := m (c.tc.loc main_arg2)

theorem idx_facts : ∀ t : Fin grid0.N, win0_0.index t 0 = t.val % 2 ∧ win0_0.index t 1 = t.val / 4 ∧ win0_1.index t 0 = 0 ∧ win0_1.index t 1 = t.val % 2 ∧ win0_1.index t 2 = t.val / 2 % 2 ∧ win0_2.index t 0 = 0 ∧ win0_2.index t 1 = t.val / 4 ∧ win0_2.index t 2 = t.val / 2 % 2 := by decide +kernel

theorem blk0_at (c : Dev nD) (t : Fin cfg0.N) (y : S2048x1024.Idx) (z : S4096x1024.Idx)
    (h0 : (z 0).val = 2048 * (t.val % 2) + (y 0).val) (h1 : (z 1).val = 1024 * (t.val / 4) + (y 1).val) :
    iblk m c 0 t y = aA m c z := by
  obtain ⟨q00, q01, -⟩ := idx_facts t
  refine (congrFun (V_main_arg0 m c) _).trans (congrArg _ (Mm.idx2 (Mm.at_ 2048 q00 (by omega)) (Mm.at_ 1024 q01 (by omega))))

theorem blk1_at (c : Dev nD) (t : Fin cfg0.N) (y : S1x2048x1408.Idx) (z : S2x4096x2816.Idx)
    (h0 : (z 0).val = (y 0).val) (h1 : (z 1).val = 2048 * (t.val % 2) + (y 1).val) (h2 : (z 2).val = 1408 * (t.val / 2 % 2) + (y 2).val) :
    iblk m c 1 t y = aB m c z := by
  obtain ⟨-, -, q10, q11, q12, -⟩ := idx_facts t
  refine (congrFun (V_main_arg1 m c) _).trans (congrArg _ (Mm.idx3 (Mm.at_ 1 q10 (by omega)) (Mm.at_ 2048 q11 (by omega)) (Mm.at_ 1408 q12 (by omega))))

theorem flushed (c : Dev nD) (t : Fin cfg0.N) (hf : (cfg0.win 2).flush t = true) :
    (dats m 0 c).flushed 2 t = ((cfg0.win 2).blk t).view.read (Elt Ideal) (G (aA m c) (aB m c) (aC m c)) := by
  obtain ⟨-, -, -, -, -, q20, q21, q22⟩ := idx_facts t
  have h1 : t.val % 2 = 1 := (flush0_2 t).mp hf
  have h0 : ¬t.val % 2 = 0 := by omega
  obtain ⟨u, hu⟩ : ∃ u : Fin cfg0.N, u.val = t.val - 1 := ⟨⟨t.val - 1, by have := t.isLt; omega⟩, rfl⟩
  have hs : (outsAt0 m c (t.val - 1) (Nat.lt_of_le_of_lt (Nat.sub_le _ _) t.isLt)).2 = k0_pay2 (iblk m c 0 u) (iblk m c 1 u) := by
    have e : outsAt0 m c (t.val - 1) (Nat.lt_of_le_of_lt (Nat.sub_le _ _) t.isLt) = outsAt0 m c u.val u.isLt := by
      congr 1; exact hu.symm
    rw [e, outsAt0_A m c u (by omega) (by omega) (by omega)]
    dsimp only
    rw [sout_A]
  rw [Value.flushed2_B m c t h0 h1 h1, out_B, hs]
  funext y
  obtain ⟨l, r, s, rfl⟩ : ∃ (l : Fin 1) (r : Fin 1024) (s : Fin 1408), y = ix3 l r s := ⟨y 0, y 1, y 2, ValueIdx.eq_ix3 y⟩
  rw [View.read_apply]
  refine (pay4_at _ _ _ l r s).trans ?_
  rw [pay2_at, pay_at, pay_at]
  have el : ((((cfg0.win 2).blk t).view.emb (ix3 l r s)) 0).val = 0 := Mm.at' 1 l.val _ q20 (by omega)
  have er : ((((cfg0.win 2).blk t).view.emb (ix3 l r s)) 1).val = 1024 * (t.val / 4) + r.val := Mm.at' 1024 r.val _ q21 (by omega)
  have ec : ((((cfg0.win 2).blk t).view.emb (ix3 l r s)) 2).val = 1408 * (t.val / 2 % 2) + s.val := Mm.at' 1408 s.val _ q22 (by omega)
  have es : ((((cfg0.win 2).blk t).view.emb (ix3 l r s)) 2).val % 2816 = 1408 * (t.val / 2 % 2) + s.val := by have := s.isLt; omega
  have eh : ((((cfg0.win 2).blk t).view.emb (ix3 l r s)) 2).val / 2816 = 0 := by have := s.isLt; omega
  unfold G
  rw [if_pos ⟨el, eh⟩]
  unfold E
  rw [Mm.sum_halves (n := 2048) rfl]
  refine congrArg₂ (· + ·) (Finset.sum_congr rfl fun k _ => congrArg₂ (· * ·) (blk0_at m c u _ _ ?_ ?_) (blk1_at m c u _ _ ?_ ?_ ?_))
    (Finset.sum_congr rfl fun k _ => congrArg₂ (· * ·) (blk0_at m c t _ _ ?_ ?_) (blk1_at m c t _ _ ?_ ?_ ?_))
  · show k.val = 2048 * (u.val % 2) + k.val; omega
  · refine er.trans ?_; show _ = 1024 * (u.val / 4) + r.val; omega
  · rfl
  · show k.val = 2048 * (u.val % 2) + k.val; omega
  · refine es.trans ?_; show _ = 1408 * (u.val / 2 % 2) + s.val; omega
  · show 2048 + k.val = 2048 * (t.val % 2) + k.val; omega
  · refine er.trans ?_; show _ = 1024 * (t.val / 4) + r.val; omega
  · rfl
  · show 2048 + k.val = 2048 * (t.val % 2) + k.val; omega
  · refine es.trans ?_; show _ = 1408 * (t.val / 2 % 2) + s.val; omega

theorem final (c : Dev nD) : (dats m 0 c).arrAt 2 cfg0.N = G (aA m c) (aB m c) (aC m c) := by
  funext i
  rw [(dats m 0 c).arrAt_eq_piecewise 2 (G (aA m c) (aB m c) (aC m c)) (flushed m c) i]
  split
  · rfl
  · rename_i hno
    have hi0 : ¬((i 0 : Nat) = 0 ∧ (i 2 : Nat) / 2816 = 0) := fun hz => hno (by
      have h1 : (i 1 : Nat) < 1024 := (i 1).isLt
      have h2 : (i 2 : Nat) < 5632 := (i 2).isLt
      have hN : cfg0.N = 4 := N_0
      obtain ⟨t, ht0, ht1, ht2⟩ : ∃ t : Fin cfg0.N, t.val / 4 = (i 1 : Nat) / 1024 ∧ t.val / 2 % 2 = (i 2 : Nat) % 2816 / 1408 ∧ t.val % 2 = 1 :=
        ⟨⟨2 * (2 * ((i 1 : Nat) / 1024) + (i 2 : Nat) % 2816 / 1408) + 1, by omega⟩, by dsimp only; omega, by dsimp only; omega, by dsimp only; omega⟩
      obtain ⟨-, -, -, -, -, q20, q21, q22⟩ := idx_facts t
      refine ⟨t, (flush0_2 t).mpr ht2, ?_⟩
      show i ∈ ((View.whole main_v0).slice (win0_2.rect t)).set
      rw [View.set_slice_whole, Rect.mem_set_unit]
      intro a
      match a with
      | ⟨0, _⟩ =>
        show win0_2.index t 0 * 1 ≤ (i 0 : Nat) ∧ (i 0 : Nat) < win0_2.index t 0 * 1 + 1
        rw [q20]; omega
      | ⟨1, _⟩ =>
        show win0_2.index t 1 * 1024 ≤ (i 1 : Nat) ∧ (i 1 : Nat) < win0_2.index t 1 * 1024 + 1024
        rw [q21]; omega
      | ⟨2, _⟩ =>
        show win0_2.index t 2 * 1408 ≤ (i 2 : Nat) ∧ (i 2 : Nat) < win0_2.index t 2 * 1408 + 1408
        rw [q22]; omega)
    unfold G
    rw [if_neg hi0, A_eq]
    show V m c main_v0 i = m (c.tc.loc main_arg2) i
    rfl

/-- What every run ends with. -/
theorem run (ρ : Dev nD → PrngReg) : θ_run defs (onTc (τ := τ) (main (F := Ideal))) ⟨m, fun _ => 0, ρ⟩ fun r => ∀ c : Dev nD,
      r.2.mem (c.tc.loc main_v0) = G (aA m c) (aB m c) (aC m c) ∧ Mm.kept m r.2.mem c main_arg0 ∧ Mm.kept m r.2.mem c main_arg1 ∧ Mm.kept m r.2.mem c main_arg2 :=
  (θ_run defs _ _).mono (fun _ h c => ⟨(h c).1.trans (final m c), (h c).2⟩) (Value.run_blocks m ρ)

open Reference8Ideal.Read in
/-- One entry of the reference's product. -/
theorem ref_E (x0 : Vec Ideal S4096x1024 .bf16) (x1 : Vec Ideal S2x4096x2816 .bf16) (r : Fin 1024) (s : Fin 2816) :
    val_main_v8 (F := Ideal) x0 x1 (ix2 r s) = E x0 x1 r s := by
  unfold E
  show val_main_v7 (F := Ideal) x0 x1 _ = _
  rw [val_main_v7_apply]
  rw [val_main_v6_apply]
  refine Finset.sum_congr rfl fun k _ => ?_
  rw [mul_comm]
  refine congrArg₂ (· * ·) ?_ ?_
  · show x0 _ = _
    exact congrArg x0 (Mm.idx2 rfl rfl)
  · show val_main_v4 (F := Ideal) x1 _ = _
    rw [val_main_v4_apply]
    rw [val_main_v3_apply]
    have hp := k.isLt
    have hq := s.isLt
    refine congrArg x1 (Mm.idx3 ?_ ?_ ?_)
    · rfl
    · show (k.val * 2816 + s.val) / 2816 % 4096 = k.val; omega
    · show (k.val * 2816 + s.val) % 2816 = s.val; omega

/-- In the first slot the result is the product, in its half of the columns. -/
theorem G_in (A : Vec Ideal S4096x1024 .bf16) (B : Vec Ideal S2x4096x2816 .bf16) (C : Vec Ideal S4x1024x5632 .bf16) (l : Fin 4) (r : Fin 1024) (s : Fin 5632) (hl : l.val = 0)
    (hs : s.val / 2816 = 0) : G A B C (ix3 l r s) = E A B r ⟨s.val % 2816, Nat.mod_lt _ (by decide)⟩ := if_pos ⟨hl, hs⟩

/-- Elsewhere the result is what was there before. -/
theorem G_off (A : Vec Ideal S4096x1024 .bf16) (B : Vec Ideal S2x4096x2816 .bf16) (C : Vec Ideal S4x1024x5632 .bf16) (l : Fin 4) (r : Fin 1024) (s : Fin 5632)
    (hl : ¬(l.val = 0 ∧ s.val / 2816 = 0)) : G A B C (ix3 l r s) = C (ix3 l r s) := if_neg hl

open Reference8Ideal.Read in
/-- The rows that the reference puts into the first slot, in the product's half of the columns. -/
theorem ref_in (x0 : Vec Ideal S4096x1024 .bf16) (x1 : Vec Ideal S2x4096x2816 .bf16) (x2 : Vec Ideal S4x1024x5632 .bf16) (r : Fin 1024) (s : Fin 5632) (hs : s.val / 2816 = 0) :
    val_main_v11 (F := Ideal) x0 x1 x2 (ix2 r s) = E x0 x1 r ⟨s.val % 2816, Nat.mod_lt _ (by decide)⟩ := by
  unfold val_main_v11
  exact (concatenate_pair_apply_left (t := Reference8Ideal.S1024x5632) (s₁ := Reference8Ideal.S1024x2816) (s₂ := Reference8Ideal.S1024x2816) (1 : Fin 2) _ _ _ _ rfl (ix2 r ⟨s.val % 2816, Nat.mod_lt _ (by decide)⟩) (fun a => by
      match a with
      | ⟨0, _⟩ => rfl
      | ⟨1, _⟩ => show s.val % 2816 = s.val; have := s.isLt; omega)).trans (ref_E x0 x1 r ⟨s.val % 2816, Nat.mod_lt _ (by decide)⟩)

open Reference8Ideal.Read in
/-- The rows that the reference puts into the first slot, in the other half of the columns. -/
theorem ref_out (x0 : Vec Ideal S4096x1024 .bf16) (x1 : Vec Ideal S2x4096x2816 .bf16) (x2 : Vec Ideal S4x1024x5632 .bf16) (r : Fin 1024) (s : Fin 5632) (hs : ¬s.val / 2816 = 0) :
    val_main_v11 (F := Ideal) x0 x1 x2 (ix2 r s) = x2 (ix3 0 r s) := by
  unfold val_main_v11
  refine (concatenate_pair_apply_right (t := Reference8Ideal.S1024x5632) (s₁ := Reference8Ideal.S1024x2816) (s₂ := Reference8Ideal.S1024x2816) (1 : Fin 2) _ _ _ _ rfl rfl (ix2 r ⟨s.val % 2816, Nat.mod_lt _ (by decide)⟩) (fun a ha => by
      match a with
      | ⟨0, _⟩ => rfl
      | ⟨1, _⟩ => exact absurd rfl ha) (by show s.val % 2816 + 2816 = s.val; have := s.isLt; omega)).trans ?_
  rw [val_main_v10_apply, val_main_v9_apply]
  have hr := r.isLt
  have hq := s.isLt
  refine congrArg x2 (Mm.idx3 ?_ ?_ ?_)
  · rfl
  · show (r.val * 2816 + s.val % 2816) / 2816 % 1024 = r.val; omega
  · show 2816 + (r.val * 2816 + s.val % 2816) % 2816 = s.val; omega

open Reference8Ideal.Read in
/-- The reference's result. -/
theorem ref_eq (x0 : Vec Ideal S4096x1024 .bf16) (x1 : Vec Ideal S2x4096x2816 .bf16) (x2 : Vec Ideal S4x1024x5632 .bf16) :
    val_main_v14 (F := Ideal) x0 x1 x2 = G x0 x1 x2 := by
  funext i
  obtain ⟨l, r, s, rfl⟩ : ∃ (l : Fin 4) (r : Fin 1024) (s : Fin 5632), i = ix3 l r s := ⟨i 0, i 1, i 2, ValueIdx.eq_ix3 i⟩
  unfold val_main_v14
  by_cases hl : l.val = 0
  · refine (concatenate_pair_apply_left (t := Reference8Ideal.S4x1024x5632) (s₁ := Reference8Ideal.S1x1024x5632) (s₂ := Reference8Ideal.S3x1024x5632) (0 : Fin 3) _ _ _ _ rfl
      (ix3 (⟨0, by decide⟩ : Fin 1) r s) (fun a => by
      match a with
      | ⟨0, _⟩ => exact hl.symm
      | ⟨1, _⟩ => rfl
      | ⟨2, _⟩ => rfl)).trans ?_
    rw [val_main_v12_apply]
    have e : idx_main_v12 (ix3 (⟨0, by decide⟩ : Fin 1) r s) = ix2 r s := Mm.idx2 rfl rfl
    rw [e]
    by_cases hs : s.val / 2816 = 0
    · exact (ref_in x0 x1 x2 r s hs).trans (G_in x0 x1 x2 l r s hl hs).symm
    · refine (ref_out x0 x1 x2 r s hs).trans (Eq.trans ?_ (G_off x0 x1 x2 l r s (fun h => hs h.2)).symm)
      exact congrArg x2 (Mm.idx3 hl.symm rfl rfl)
  · refine Eq.trans ?_ (G_off x0 x1 x2 l r s (fun h => hl h.1)).symm
    have hb := l.isLt
    refine (concatenate_pair_apply_right (t := Reference8Ideal.S4x1024x5632) (s₁ := Reference8Ideal.S1x1024x5632) (s₂ := Reference8Ideal.S3x1024x5632) (0 : Fin 3) _ _ _ _ rfl rfl
      (ix3 (⟨l.val - 1, by omega⟩ : Fin 3) r s) (fun a ha => by
      match a with
      | ⟨0, _⟩ => exact absurd rfl ha
      | ⟨1, _⟩ => rfl
      | ⟨2, _⟩ => rfl) (by show l.val - 1 + 1 = l.val; omega)).trans ?_
    rw [val_main_v13_apply]
    refine congrArg x2 (Mm.idx3 ?_ ?_ ?_)
    · show 1 + (l.val - 1) = l.val; omega
    · rfl
    · rfl

end Cert.Kernel8Ideal.Prod

namespace Cert.Proof.K8
open Idealize ShloMosaic SL.Sem

/-- The reference ends. -/
theorem frameRef : quiescent_Reference8Ideal := fun m ρ _ =>
  (θ_run Reference8Ideal.defs _ _).mono (fun r h => ⟨fun c => (h c).2, sem_eq_zero_of_no_sems (by decide) r.2⟩)
    (Reference8Ideal.Value.run m ρ)

/-- The call's result is the reference's. -/
theorem algebraic : algebraic_Kernel8Ideal_Reference8Ideal := by
  intro m ρ m' ρ' hpre hargs
  refine ⟨_, Kernel8Ideal.Prod.run m ρ, (θ_run Reference8Ideal.defs _ _).mono (fun r h c => ?_)
    (Reference8Ideal.Value.run m' ρ')⟩
  obtain ⟨h0, hk⟩ := h c
  refine ⟨?_, hk⟩
  refine h0.trans ((Reference8Ideal.Read.val_main_v14_eq _ _ _).trans ?_)
  rw [(hargs c).1, (hargs c).2.1, (hargs c).2.2]
  exact Kernel8Ideal.Prod.ref_eq _ _ _

end Cert.Proof.K8
-- ==== Proof.Mm.P9.lean ====
/-
  The gradient of the ConvFFN's first weight, second half: the call's tiles put together are the product, and the reference's
  product is the same sum.
-/
module

public import proofs.«01_k».proof.Proof.Gen.Kernel9.Frame
public import proofs.«01_k».proof.Proof.Gen.Kernel9Ideal.Value
public import proofs.«01_k».proof.Proof.Gen.Reference9Ideal.Read
public import proofs.«01_k».proof.Proof.Mm.Sum

@[expose] public section

noncomputable section

namespace Cert.Kernel9Ideal.Prod

open Kernel9Ideal Kernel9Ideal.Gen Idealize ShloMosaic ShloMosaic.TcCoe SL.Sem

/-- One entry of the product. -/
def E (A : Vec Ideal S4096x1024 .bf16) (B : Vec Ideal S2x4096x2816 .bf16) (r : Fin 1024) (s : Fin 2816) : EReal :=
  ∑ k : Fin 4096, A (ix2 k r) * B (ix3 1 k s)

/-- The call's result: the product in its place among the layers' gradients, everything else as before. -/
def G (A : Vec Ideal S4096x1024 .bf16) (B : Vec Ideal S2x4096x2816 .bf16) (C : Vec Ideal S4x1024x5632 .bf16) : Vec Ideal S4x1024x5632 .bf16 :=
  fun i => if (i 0).val = 0 ∧ (i 2).val / 2816 = 1 then E A B ⟨(i 1).val, (i 1).isLt⟩ ⟨(i 2).val % 2816, Nat.mod_lt _ (by decide)⟩ else C i

/-- One tile's product. -/
theorem pay_at (x0 : Vec Ideal S2048x1024 .bf16) (x1 : Vec Ideal S1x2048x1408 .bf16) (r : Fin 1024) (s : Fin 1408) :
    k0_pay1 x0 x1 (ix2 r s) = ∑ k : Fin 2048, x0 (ix2 k r) * x1 (ix3 0 k s) := by
  unfold k0_pay1
  simp only [pointwise]
  rw [zero_add]

section Cases

variable (c : Dev nD) (i : grid0.Coords) (arg3 : Memref sig .tc .vmem S2048x1024 .bf16) (harg3 : arg3.IsWhole) (arg4 : Memref sig .tc .vmem S1x2048x1408 .bf16) (harg4 : arg4.IsWhole) (arg6 : Memref sig .tc .vmem S1x1024x1408 .bf16) (harg6 : arg6.IsWhole) (arg7 : Memref sig .tc .vmem S1024x1408 .f32) (harg7 : arg7.IsWhole)
  (x0 : Vec Ideal S2048x1024 .bf16) (x1 : Vec Ideal S1x2048x1408 .bf16) (xs : Vec Ideal S1024x1408 .f32)

theorem sout_A (hc0 : cond0_0 i) (hc1 : ¬cond0_1 i) (hc2 : ¬cond0_2 i) :
    sout0_A_0 c i arg3 harg3 arg4 harg4 arg6 harg6 arg7 harg7 hc0 hc1 hc2 x0 x1 = k0_pay2 x0 x1 := by
  unfold sout0_A_0
  rw [View.read_writes_eq_canon _ _ _ (fun _ => scover0_A_0 ..)]
  unfold kernelRun0_A
  dsimp only
  sl_unfold_words
  simp only [View.readAt_eq_ld, Memref.IsWhole.read_unread]
  rw [View.canon_unit_zero Mm.zero2]
  repeat (first | rw [View.ld_unit_zero Mm.zero2] | rw [View.ld_unit_zero Mm.zero3])

theorem out_B (hc0 : ¬cond0_0 i) (hc1 : cond0_1 i) (hc2 : cond0_2 i) :
    out0_B_2 c i arg3 harg3 arg4 harg4 arg6 harg6 arg7 harg7 hc0 hc1 hc2 x0 x1 xs = k0_pay4 (k0_pay3 x0 x1 xs) := by
  unfold out0_B_2
  rw [View.read_writes_eq_canon _ _ _ (fun _ => cover0_B_2 ..)]
  unfold kernelRun0_B
  dsimp only
  sl_unfold_words
  simp only [View.readAt_eq_ld, Memref.IsWhole.read_unread]
  simp (disch := decide) only [View.readCov_fill]
  rw [View.canon_unit_zero Mm.zero3]
  repeat (first | rw [View.ld_unit_zero Mm.zero2] | rw [View.ld_unit_zero Mm.zero3])

end Cases

theorem pay2_at (x0 : Vec Ideal S2048x1024 .bf16) (x1 : Vec Ideal S1x2048x1408 .bf16) (r : Fin 1024) (s : Fin 1408) :
    k0_pay2 x0 x1 (ix2 r s) = k0_pay1 x0 x1 (ix2 r s) := by
  unfold k0_pay2
  simp only [pointwise]

theorem pay4_at (x0 : Vec Ideal S2048x1024 .bf16) (x1 : Vec Ideal S1x2048x1408 .bf16) (xs : Vec Ideal S1024x1408 .f32)
    (l : Fin 1) (r : Fin 1024) (s : Fin 1408) :
    k0_pay4 (k0_pay3 x0 x1 xs) (ix3 l r s) = xs (ix2 r s) + k0_pay1 x0 x1 (ix2 r s) := by
  unfold k0_pay4 k0_pay3
  simp only [pointwise]

variable (m : (ℓ : Loc nD τ sig) → Buf (Elt Ideal) ℓ)

abbrev aA (c : Dev nD) : Vec Ideal S4096x1024 .bf16 := m (c.tc.loc main_arg0)
abbrev aB (c : Dev nD) : Vec Ideal S2x4096x2816 .bf16 := m (c.tc.loc main_arg1)
abbrev aC (c : Dev nD) : Vec Ideal S4x1024x5632 .bf16 := m (c.tc.loc main_arg2)

theorem idx_facts : ∀ t : Fin grid0.N, win0_0.index t 0 = t.val % 2 ∧ win0_0.index t 1 = t.val / 4 ∧ win0_1.index t 0 = 1 ∧ win0_1.index t 1 = t.val % 2 ∧ win0_1.index t 2 = t.val / 2 % 2 ∧ win0_2.index t 0 = 0 ∧ win0_2.index t 1 = t.val / 4 ∧ win0_2.index t 2 = t.val / 2 % 2 + 2 := by decide +kernel

theorem blk0_at (c : Dev nD) (t : Fin cfg0.N) (y : S2048x1024.Idx) (z : S4096x1024.Idx)
    (h0 : (z 0).val = 2048 * (t.val % 2) + (y 0).val) (h1 : (z 1).val = 1024 * (t.val / 4) + (y 1).val) :
    iblk m c 0 t y = aA m c z := by
  obtain ⟨q00, q01, -⟩ := idx_facts t
  refine (congrFun (V_main_arg0 m c) _).trans (congrArg _ (Mm.idx2 (Mm.at_ 2048 q00 (by omega)) (Mm.at_ 1024 q01 (by omega))))

theorem blk1_at (c : Dev nD) (t : Fin cfg0.N) (y : S1x2048x1408.Idx) (z : S2x4096x2816.Idx)
    (h0 : (z 0).val = 1 * (1) + (y 0).val) (h1 : (z 1).val = 2048 * (t.val % 2) + (y 1).val) (h2 : (z 2).val = 1408 * (t.val / 2 % 2) + (y 2).val) :
    iblk m c 1 t y = aB m c z := by
  obtain ⟨-, -, q10, q11, q12, -⟩ := idx_facts t
  refine (congrFun (V_main_arg1 m c) _).trans (congrArg _ (Mm.idx3 (Mm.at_ 1 q10 (by omega)) (Mm.at_ 2048 q11 (by omega)) (Mm.at_ 1408 q12 (by omega))))

theorem flushed (c : Dev nD) (t : Fin cfg0.N) (hf : (cfg0.win 2).flush t = true) :
    (dats m 0 c).flushed 2 t = ((cfg0.win 2).blk t).view.read (Elt Ideal) (G (aA m c) (aB m c) (aC m c)) := by
  obtain ⟨-, -, -, -, -, q20, q21, q22⟩ := idx_facts t
  have h1 : t.val % 2 = 1 := (flush0_2 t).mp hf
  have h0 : ¬t.val % 2 = 0 := by omega
  obtain ⟨u, hu⟩ : ∃ u : Fin cfg0.N, u.val = t.val - 1 := ⟨⟨t.val - 1, by have := t.isLt; omega⟩, rfl⟩
  have hs : (outsAt0 m c (t.val - 1) (Nat.lt_of_le_of_lt (Nat.sub_le _ _) t.isLt)).2 = k0_pay2 (iblk m c 0 u) (iblk m c 1 u) := by
    have e : outsAt0 m c (t.val - 1) (Nat.lt_of_le_of_lt (Nat.sub_le _ _) t.isLt) = outsAt0 m c u.val u.isLt := by
      congr 1; exact hu.symm
    rw [e, outsAt0_A m c u (by omega) (by omega) (by omega)]
    dsimp only
    rw [sout_A]
  rw [Value.flushed2_B m c t h0 h1 h1, out_B, hs]
  funext y
  obtain ⟨l, r, s, rfl⟩ : ∃ (l : Fin 1) (r : Fin 1024) (s : Fin 1408), y = ix3 l r s := ⟨y 0, y 1, y 2, ValueIdx.eq_ix3 y⟩
  rw [View.read_apply]
  refine (pay4_at _ _ _ l r s).trans ?_
  rw [pay2_at, pay_at, pay_at]
  have el : ((((cfg0.win 2).blk t).view.emb (ix3 l r s)) 0).val = 0 := Mm.at' 1 l.val _ q20 (by omega)
  have er : ((((cfg0.win 2).blk t).view.emb (ix3 l r s)) 1).val = 1024 * (t.val / 4) + r.val := Mm.at' 1024 r.val _ q21 (by omega)
  have ec : ((((cfg0.win 2).blk t).view.emb (ix3 l r s)) 2).val = 1408 * (t.val / 2 % 2 + 2) + s.val := Mm.at' 1408 s.val _ q22 (by omega)
  have es : ((((cfg0.win 2).blk t).view.emb (ix3 l r s)) 2).val % 2816 = 1408 * (t.val / 2 % 2) + s.val := by have := s.isLt; omega
  have eh : ((((cfg0.win 2).blk t).view.emb (ix3 l r s)) 2).val / 2816 = 1 := by have := s.isLt; omega
  unfold G
  rw [if_pos ⟨el, eh⟩]
  unfold E
  rw [Mm.sum_halves (n := 2048) rfl]
  refine congrArg₂ (· + ·) (Finset.sum_congr rfl fun k _ => congrArg₂ (· * ·) (blk0_at m c u _ _ ?_ ?_) (blk1_at m c u _ _ ?_ ?_ ?_))
    (Finset.sum_congr rfl fun k _ => congrArg₂ (· * ·) (blk0_at m c t _ _ ?_ ?_) (blk1_at m c t _ _ ?_ ?_ ?_))
  · show k.val = 2048 * (u.val % 2) + k.val; omega
  · refine er.trans ?_; show _ = 1024 * (u.val / 4) + r.val; omega
  · rfl
  · show k.val = 2048 * (u.val % 2) + k.val; omega
  · refine es.trans ?_; show _ = 1408 * (u.val / 2 % 2) + s.val; omega
  · show 2048 + k.val = 2048 * (t.val % 2) + k.val; omega
  · refine er.trans ?_; show _ = 1024 * (t.val / 4) + r.val; omega
  · rfl
  · show 2048 + k.val = 2048 * (t.val % 2) + k.val; omega
  · refine es.trans ?_; show _ = 1408 * (t.val / 2 % 2) + s.val; omega

theorem final (c : Dev nD) : (dats m 0 c).arrAt 2 cfg0.N = G (aA m c) (aB m c) (aC m c) := by
  funext i
  rw [(dats m 0 c).arrAt_eq_piecewise 2 (G (aA m c) (aB m c) (aC m c)) (flushed m c) i]
  split
  · rfl
  · rename_i hno
    have hi0 : ¬((i 0 : Nat) = 0 ∧ (i 2 : Nat) / 2816 = 1) := fun hz => hno (by
      have h1 : (i 1 : Nat) < 1024 := (i 1).isLt
      have h2 : (i 2 : Nat) < 5632 := (i 2).isLt
      have hN : cfg0.N = 4 := N_0
      obtain ⟨t, ht0, ht1, ht2⟩ : ∃ t : Fin cfg0.N, t.val / 4 = (i 1 : Nat) / 1024 ∧ t.val / 2 % 2 = (i 2 : Nat) % 2816 / 1408 ∧ t.val % 2 = 1 :=
        ⟨⟨2 * (2 * ((i 1 : Nat) / 1024) + (i 2 : Nat) % 2816 / 1408) + 1, by omega⟩, by dsimp only; omega, by dsimp only; omega, by dsimp only; omega⟩
      obtain ⟨-, -, -, -, -, q20, q21, q22⟩ := idx_facts t
      refine ⟨t, (flush0_2 t).mpr ht2, ?_⟩
      show i ∈ ((View.whole main_v0).slice (win0_2.rect t)).set
      rw [View.set_slice_whole, Rect.mem_set_unit]
      intro a
      match a with
      | ⟨0, _⟩ =>
        show win0_2.index t 0 * 1 ≤ (i 0 : Nat) ∧ (i 0 : Nat) < win0_2.index t 0 * 1 + 1
        rw [q20]; omega
      | ⟨1, _⟩ =>
        show win0_2.index t 1 * 1024 ≤ (i 1 : Nat) ∧ (i 1 : Nat) < win0_2.index t 1 * 1024 + 1024
        rw [q21]; omega
      | ⟨2, _⟩ =>
        show win0_2.index t 2 * 1408 ≤ (i 2 : Nat) ∧ (i 2 : Nat) < win0_2.index t 2 * 1408 + 1408
        rw [q22]; omega)
    unfold G
    rw [if_neg hi0, A_eq]
    show V m c main_v0 i = m (c.tc.loc main_arg2) i
    rfl

/-- What every run ends with. -/
theorem run (ρ : Dev nD → PrngReg) : θ_run defs (onTc (τ := τ) (main (F := Ideal))) ⟨m, fun _ => 0, ρ⟩ fun r => ∀ c : Dev nD,
      r.2.mem (c.tc.loc main_v0) = G (aA m c) (aB m c) (aC m c) ∧ Mm.kept m r.2.mem c main_arg0 ∧ Mm.kept m r.2.mem c main_arg1 ∧ Mm.kept m r.2.mem c main_arg2 :=
  (θ_run defs _ _).mono (fun _ h c => ⟨(h c).1.trans (final m c), (h c).2⟩) (Value.run_blocks m ρ)

open Reference9Ideal.Read in
/-- One entry of the reference's product. -/
theorem ref_E (x0 : Vec Ideal S4096x1024 .bf16) (x1 : Vec Ideal S2x4096x2816 .bf16) (r : Fin 1024) (s : Fin 2816) :
    val_main_v8 (F := Ideal) x0 x1 (ix2 r s) = E x0 x1 r s := by
  unfold E
  show val_main_v7 (F := Ideal) x0 x1 _ = _
  rw [val_main_v7_apply]
  rw [val_main_v6_apply]
  refine Finset.sum_congr rfl fun k _ => ?_
  rw [mul_comm]
  refine congrArg₂ (· * ·) ?_ ?_
  · show x0 _ = _
    exact congrArg x0 (Mm.idx2 rfl rfl)
  · show val_main_v4 (F := Ideal) x1 _ = _
    rw [val_main_v4_apply]
    rw [val_main_v3_apply]
    have hp := k.isLt
    have hq := s.isLt
    refine congrArg x1 (Mm.idx3 ?_ ?_ ?_)
    · rfl
    · show (k.val * 2816 + s.val) / 2816 % 4096 = k.val; omega
    · show (k.val * 2816 + s.val) % 2816 = s.val; omega

/-- In the first slot the result is the product, in its half of the columns. -/
theorem G_in (A : Vec Ideal S4096x1024 .bf16) (B : Vec Ideal S2x4096x2816 .bf16) (C : Vec Ideal S4x1024x5632 .bf16) (l : Fin 4) (r : Fin 1024) (s : Fin 5632) (hl : l.val = 0)
    (hs : s.val / 2816 = 1) : G A B C (ix3 l r s) = E A B r ⟨s.val % 2816, Nat.mod_lt _ (by decide)⟩ := if_pos ⟨hl, hs⟩

/-- Elsewhere the result is what was there before. -/
theorem G_off (A : Vec Ideal S4096x1024 .bf16) (B : Vec Ideal S2x4096x2816 .bf16) (C : Vec Ideal S4x1024x5632 .bf16) (l : Fin 4) (r : Fin 1024) (s : Fin 5632)
    (hl : ¬(l.val = 0 ∧ s.val / 2816 = 1)) : G A B C (ix3 l r s) = C (ix3 l r s) := if_neg hl

open Reference9Ideal.Read in
/-- The rows that the reference puts into the first slot, in the product's half of the columns. -/
theorem ref_in (x0 : Vec Ideal S4096x1024 .bf16) (x1 : Vec Ideal S2x4096x2816 .bf16) (x2 : Vec Ideal S4x1024x5632 .bf16) (r : Fin 1024) (s : Fin 5632) (hs : s.val / 2816 = 1) :
    val_main_v11 (F := Ideal) x0 x1 x2 (ix2 r s) = E x0 x1 r ⟨s.val % 2816, Nat.mod_lt _ (by decide)⟩ := by
  unfold val_main_v11
  exact (concatenate_pair_apply_right (t := Reference9Ideal.S1024x5632) (s₁ := Reference9Ideal.S1024x2816) (s₂ := Reference9Ideal.S1024x2816) (1 : Fin 2) _ _ _ _ rfl rfl (ix2 r ⟨s.val % 2816, Nat.mod_lt _ (by decide)⟩) (fun a ha => by
      match a with
      | ⟨0, _⟩ => rfl
      | ⟨1, _⟩ => exact absurd rfl ha) (by show s.val % 2816 + 2816 = s.val; have := s.isLt; omega)).trans (ref_E x0 x1 r ⟨s.val % 2816, Nat.mod_lt _ (by decide)⟩)

open Reference9Ideal.Read in
/-- The rows that the reference puts into the first slot, in the other half of the columns. -/
theorem ref_out (x0 : Vec Ideal S4096x1024 .bf16) (x1 : Vec Ideal S2x4096x2816 .bf16) (x2 : Vec Ideal S4x1024x5632 .bf16) (r : Fin 1024) (s : Fin 5632) (hs : ¬s.val / 2816 = 1) :
    val_main_v11 (F := Ideal) x0 x1 x2 (ix2 r s) = x2 (ix3 0 r s) := by
  unfold val_main_v11
  refine (concatenate_pair_apply_left (t := Reference9Ideal.S1024x5632) (s₁ := Reference9Ideal.S1024x2816) (s₂ := Reference9Ideal.S1024x2816) (1 : Fin 2) _ _ _ _ rfl (ix2 r ⟨s.val % 2816, Nat.mod_lt _ (by decide)⟩) (fun a => by
      match a with
      | ⟨0, _⟩ => rfl
      | ⟨1, _⟩ => show s.val % 2816 = s.val; have := s.isLt; omega)).trans ?_
  rw [val_main_v10_apply, val_main_v9_apply]
  have hr := r.isLt
  have hq := s.isLt
  refine congrArg x2 (Mm.idx3 ?_ ?_ ?_)
  · rfl
  · show (r.val * 2816 + s.val % 2816) / 2816 % 1024 = r.val; omega
  · show (r.val * 2816 + s.val % 2816) % 2816 = s.val; omega

open Reference9Ideal.Read in
/-- The reference's result. -/
theorem ref_eq (x0 : Vec Ideal S4096x1024 .bf16) (x1 : Vec Ideal S2x4096x2816 .bf16) (x2 : Vec Ideal S4x1024x5632 .bf16) :
    val_main_v14 (F := Ideal) x0 x1 x2 = G x0 x1 x2 := by
  funext i
  obtain ⟨l, r, s, rfl⟩ : ∃ (l : Fin 4) (r : Fin 1024) (s : Fin 5632), i = ix3 l r s := ⟨i 0, i 1, i 2, ValueIdx.eq_ix3 i⟩
  unfold val_main_v14
  by_cases hl : l.val = 0
  · refine (concatenate_pair_apply_left (t := Reference9Ideal.S4x1024x5632) (s₁ := Reference9Ideal.S1x1024x5632) (s₂ := Reference9Ideal.S3x1024x5632) (0 : Fin 3) _ _ _ _ rfl
      (ix3 (⟨0, by decide⟩ : Fin 1) r s) (fun a => by
      match a with
      | ⟨0, _⟩ => exact hl.symm
      | ⟨1, _⟩ => rfl
      | ⟨2, _⟩ => rfl)).trans ?_
    rw [val_main_v12_apply]
    have e : idx_main_v12 (ix3 (⟨0, by decide⟩ : Fin 1) r s) = ix2 r s := Mm.idx2 rfl rfl
    rw [e]
    by_cases hs : s.val / 2816 = 1
    · exact (ref_in x0 x1 x2 r s hs).trans (G_in x0 x1 x2 l r s hl hs).symm
    · refine (ref_out x0 x1 x2 r s hs).trans (Eq.trans ?_ (G_off x0 x1 x2 l r s (fun h => hs h.2)).symm)
      exact congrArg x2 (Mm.idx3 hl.symm rfl rfl)
  · refine Eq.trans ?_ (G_off x0 x1 x2 l r s (fun h => hl h.1)).symm
    have hb := l.isLt
    refine (concatenate_pair_apply_right (t := Reference9Ideal.S4x1024x5632) (s₁ := Reference9Ideal.S1x1024x5632) (s₂ := Reference9Ideal.S3x1024x5632) (0 : Fin 3) _ _ _ _ rfl rfl
      (ix3 (⟨l.val - 1, by omega⟩ : Fin 3) r s) (fun a ha => by
      match a with
      | ⟨0, _⟩ => exact absurd rfl ha
      | ⟨1, _⟩ => rfl
      | ⟨2, _⟩ => rfl) (by show l.val - 1 + 1 = l.val; omega)).trans ?_
    rw [val_main_v13_apply]
    refine congrArg x2 (Mm.idx3 ?_ ?_ ?_)
    · show 1 + (l.val - 1) = l.val; omega
    · rfl
    · rfl

end Cert.Kernel9Ideal.Prod

namespace Cert.Proof.K9
open Idealize ShloMosaic SL.Sem

/-- The reference ends. -/
theorem frameRef : quiescent_Reference9Ideal := fun m ρ _ =>
  (θ_run Reference9Ideal.defs _ _).mono (fun r h => ⟨fun c => (h c).2, sem_eq_zero_of_no_sems (by decide) r.2⟩)
    (Reference9Ideal.Value.run m ρ)

/-- The call's result is the reference's. -/
theorem algebraic : algebraic_Kernel9Ideal_Reference9Ideal := by
  intro m ρ m' ρ' hpre hargs
  refine ⟨_, Kernel9Ideal.Prod.run m ρ, (θ_run Reference9Ideal.defs _ _).mono (fun r h c => ?_)
    (Reference9Ideal.Value.run m' ρ')⟩
  obtain ⟨h0, hk⟩ := h c
  refine ⟨?_, hk⟩
  refine h0.trans ((Reference9Ideal.Read.val_main_v14_eq _ _ _).trans ?_)
  rw [(hargs c).1, (hargs c).2.1, (hargs c).2.2]
  exact Kernel9Ideal.Prod.ref_eq _ _ _

end Cert.Proof.K9
-- ==== Proof.Mm.P10.lean ====
/-
  The SSD layer's input product: the call's tiles put together are the product, and the reference's
  product is the same sum.
-/
module

public import proofs.«01_k».proof.Proof.Gen.Kernel10.Frame
public import proofs.«01_k».proof.Proof.Gen.Kernel10Ideal.Value
public import proofs.«01_k».proof.Proof.Gen.Reference10Ideal.Read
public import proofs.«01_k».proof.Proof.Mm.Sum

@[expose] public section

noncomputable section

namespace Cert.Kernel10Ideal.Prod

open Kernel10Ideal Kernel10Ideal.Gen Idealize ShloMosaic ShloMosaic.TcCoe SL.Sem

/-- One entry of the product. -/
def E (A : Vec Ideal S4096x1024 .bf16) (B : Vec Ideal S1024x5152 .bf16) (r : Fin 4096) (s : Fin 5120) : EReal :=
  ∑ k : Fin 1024, A (ix2 r k) * B (ix2 k ⟨s.val, by have := s.isLt; omega⟩)

/-- The call's result. -/
def G (A : Vec Ideal S4096x1024 .bf16) (B : Vec Ideal S1024x5152 .bf16) : Vec Ideal S4096x5120 .bf16 :=
  fun i => E A B ⟨(i 0).val, (i 0).isLt⟩ ⟨(i 1).val, (i 1).isLt⟩

/-- One tile's product. -/
theorem pay_at (x0 : Vec Ideal S1024x1024 .bf16) (x1 : Vec Ideal S1024x1280 .bf16) (r : Fin 1024) (s : Fin 1280) :
    k0_pay1 x0 x1 (ix2 r s) = ∑ k : Fin 1024, x0 (ix2 r k) * x1 (ix2 k s) := by
  unfold k0_pay1
  simp only [pointwise]
  rw [zero_add]

section Cases

variable (c : Dev nD) (i : grid0.Coords) (arg3 : Memref sig .tc .vmem S1024x1024 .bf16) (harg3 : arg3.IsWhole) (arg4 : Memref sig .tc .vmem S1024x1280 .bf16) (harg4 : arg4.IsWhole) (arg5 : Memref sig .tc .vmem S1024x1280 .bf16) (harg5 : arg5.IsWhole)
  (x0 : Vec Ideal S1024x1024 .bf16) (x1 : Vec Ideal S1024x1280 .bf16)

theorem out_eq : out0_A_2 c i arg3 harg3 arg4 harg4 arg5 harg5 x0 x1 = k0_pay1 x0 x1 := by
  unfold out0_A_2
  rw [View.read_writes_eq_canon _ _ _ (fun _ => cover0_A_2 ..)]
  unfold kernelRun0_A
  dsimp only
  sl_unfold_words
  simp only [View.readAt_eq_ld, Memref.IsWhole.read_unread]
  rw [View.canon_unit_zero Mm.zero2]
  repeat rw [View.ld_unit_zero Mm.zero2]

end Cases

variable (m : (ℓ : Loc nD τ sig) → Buf (Elt Ideal) ℓ)

abbrev aA (c : Dev nD) : Vec Ideal S4096x1024 .bf16 := m (c.tc.loc main_arg0)
abbrev aB (c : Dev nD) : Vec Ideal S1024x5152 .bf16 := m (c.tc.loc main_arg1)

theorem idx_facts : ∀ t : Fin grid0.N, win0_0.index t 0 = t.val / 4 ∧ win0_0.index t 1 = 0 ∧ win0_1.index t 0 = 0 ∧ win0_1.index t 1 = t.val % 4 ∧ win0_2.index t 0 = t.val / 4 ∧ win0_2.index t 1 = t.val % 4 := by decide +kernel

theorem blk0_at (c : Dev nD) (t : Fin cfg0.N) (y : S1024x1024.Idx) (z : S4096x1024.Idx)
    (h0 : (z 0).val = 1024 * (t.val / 4) + (y 0).val) (h1 : (z 1).val = (y 1).val) :
    iblk m c 0 t y = aA m c z := by
  obtain ⟨q00, q01, -⟩ := idx_facts t
  refine (congrFun (V_main_arg0 m c) _).trans (congrArg _ (Mm.idx2 (Mm.at_ 1024 q00 (by omega)) (Mm.at_ 1024 q01 (by omega))))

theorem blk1_at (c : Dev nD) (t : Fin cfg0.N) (y : S1024x1280.Idx) (z : S1024x5152.Idx)
    (h0 : (z 0).val = (y 0).val) (h1 : (z 1).val = 1280 * (t.val % 4) + (y 1).val) :
    X0_1 m c t y = aB m c z := by
  obtain ⟨-, -, q10, q11, -⟩ := idx_facts t
  unfold X0_1 Pipeline.Window.fill
  rw [dif_pos (moved0_1 t y)]
  refine (congrFun (V_main_arg1 m c) _).trans (congrArg _ (Mm.idx2 (Mm.at' 1024 (y 0).val _ q10 (by omega)) (Mm.at' 1280 (y 1).val _ q11 (by omega))))

theorem flushed (c : Dev nD) (t : Fin cfg0.N) :
    (dats m 0 c).flushed 2 t = ((cfg0.win 2).blk t).view.read (Elt Ideal) (G (aA m c) (aB m c)) := by
  obtain ⟨-, -, -, -, q20, q21⟩ := idx_facts t
  rw [Value.flushed2_A, out_eq]
  funext y
  obtain ⟨r, s, rfl⟩ := Mm.ex2 1024 1280 y
  rw [View.read_apply]
  refine (pay_at _ _ r s).trans ?_
  have er : ((((cfg0.win 2).blk t).view.emb (ix2 r s)) 0).val = 1024 * (t.val / 4) + r.val := Mm.at' 1024 r.val _ q20 (by omega)
  have es : ((((cfg0.win 2).blk t).view.emb (ix2 r s)) 1).val = 1280 * (t.val % 4) + s.val := Mm.at' 1280 s.val _ q21 (by omega)
  unfold G E
  refine Finset.sum_congr rfl fun k _ => congrArg₂ (· * ·) (blk0_at m c t _ _ ?_ ?_) (blk1_at m c t _ _ ?_ ?_)
  · refine er.trans ?_; show _ = 1024 * (t.val / 4) + r.val; omega
  · rfl
  · rfl
  · refine es.trans ?_; show _ = 1280 * (t.val % 4) + s.val; omega

theorem final (c : Dev nD) : (dats m 0 c).arrAt 2 cfg0.N = G (aA m c) (aB m c) :=
  (dats m 0 c).arrAt_eq_of_cover 2 _ (fun t _ => flushed m c t) fun i => by
    have h1 : (i 0 : Nat) < 4096 := (i 0).isLt
    have h2 : (i 1 : Nat) < 5120 := (i 1).isLt
    have hN : cfg0.N = 16 := N_0
    obtain ⟨t, ht0, ht1⟩ : ∃ t : Fin cfg0.N, t.val / 4 = (i 0 : Nat) / 1024 ∧ t.val % 4 = (i 1 : Nat) / 1280 :=
      ⟨⟨4 * ((i 0 : Nat) / 1024) + (i 1 : Nat) / 1280, by omega⟩, by dsimp only; omega, by dsimp only; omega⟩
    obtain ⟨-, -, -, -, q20, q21⟩ := idx_facts t
    exact ⟨t, flush0_2 t, Mm.memv (Mm.mem2 1024 1280 q20 q21 (by omega) (by omega))⟩

/-- What every run ends with. -/
theorem run (ρ : Dev nD → PrngReg) : θ_run defs (onTc (τ := τ) (main (F := Ideal))) ⟨m, fun _ => 0, ρ⟩ fun r => ∀ c : Dev nD,
      r.2.mem (c.tc.loc main_v0) = G (aA m c) (aB m c) ∧ Mm.kept m r.2.mem c main_arg0 ∧ Mm.kept m r.2.mem c main_arg1 :=
  (θ_run defs _ _).mono (fun _ h c => ⟨(h c).1.trans (final m c), (h c).2⟩) (Value.run_blocks m ρ)

open Reference10Ideal.Read in
/-- One entry of the reference's product. -/
theorem ref_E (x0 : Vec Ideal S4096x1024 .bf16) (x1 : Vec Ideal S1024x5152 .bf16) (r : Fin 4096) (s : Fin 5120) :
    val_main_v4 (F := Ideal) x0 x1 (ix2 r s) = E x0 x1 r s := by
  unfold E
  show val_main_v3 (F := Ideal) x0 x1 _ = _
  rw [val_main_v3_apply]
  refine Finset.sum_congr rfl fun k _ => ?_
  refine congrArg₂ (· * ·) ?_ ?_
  · show x0 _ = _
    exact congrArg x0 (Mm.idx2 rfl rfl)
  · show val_main_v1 (F := Ideal) x1 _ = _
    rw [val_main_v1_apply]
    exact congrArg x1 (Mm.idx2 rfl rfl)

open Reference10Ideal.Read in
/-- The reference's result. -/
theorem ref_eq (x0 : Vec Ideal S4096x1024 .bf16) (x1 : Vec Ideal S1024x5152 .bf16) :
    val_main_v4 (F := Ideal) x0 x1 = G x0 x1 := by
  funext i
  obtain ⟨r, s, rfl⟩ := Mm.ex2 4096 5120 i
  exact ref_E x0 x1 r s

end Cert.Kernel10Ideal.Prod

namespace Cert.Proof.K10
open Idealize ShloMosaic SL.Sem

/-- The reference ends. -/
theorem frameRef : quiescent_Reference10Ideal := fun m ρ _ =>
  (θ_run Reference10Ideal.defs _ _).mono (fun r h => ⟨fun c => (h c).2, sem_eq_zero_of_no_sems (by decide) r.2⟩)
    (Reference10Ideal.Value.run m ρ)

/-- The call's result is the reference's. -/
theorem algebraic : algebraic_Kernel10Ideal_Reference10Ideal := by
  intro m ρ m' ρ' hpre hargs
  refine ⟨_, Kernel10Ideal.Prod.run m ρ, (θ_run Reference10Ideal.defs _ _).mono (fun r h c => ?_)
    (Reference10Ideal.Value.run m' ρ')⟩
  obtain ⟨h0, hk⟩ := h c
  refine ⟨?_, hk⟩
  refine h0.trans ((Reference10Ideal.Read.val_main_v4_eq _ _).trans ?_)
  rw [(hargs c).1, (hargs c).2]
  exact Kernel10Ideal.Prod.ref_eq _ _

end Cert.Proof.K10
-- ==== Proof.Mm.P11.lean ====
/-
  The SSD layer's step-size product: the call's tiles put together are the product, and the reference's
  product is the same sum.
-/
module

public import proofs.«01_k».proof.Proof.Gen.Kernel11.Frame
public import proofs.«01_k».proof.Proof.Gen.Kernel11Ideal.Value
public import proofs.«01_k».proof.Proof.Gen.Reference11Ideal.Read
public import proofs.«01_k».proof.Proof.Mm.Sum

@[expose] public section

noncomputable section

namespace Cert.Kernel11Ideal.Prod

open Kernel11Ideal Kernel11Ideal.Gen Idealize ShloMosaic ShloMosaic.TcCoe SL.Sem

/-- One entry of the product. -/
def E (A : Vec Ideal S4096x1024 .bf16) (B : Vec Ideal S1024x128 .bf16) (r : Fin 4096) (s : Fin 128) : EReal :=
  ∑ k : Fin 1024, A (ix2 r k) * B (ix2 k s)

/-- The call's result. -/
def G (A : Vec Ideal S4096x1024 .bf16) (B : Vec Ideal S1024x128 .bf16) : Vec Ideal S4096x128 .f32 :=
  fun i => E A B ⟨(i 0).val, (i 0).isLt⟩ ⟨(i 1).val, (i 1).isLt⟩

/-- One tile's product. -/
theorem pay_at (x0 : Vec Ideal S1024x1024 .bf16) (x1 : Vec Ideal S1024x128 .bf16) (r : Fin 1024) (s : Fin 128) :
    k0_pay1 x0 x1 (ix2 r s) = ∑ k : Fin 1024, x0 (ix2 r k) * x1 (ix2 k s) := by
  unfold k0_pay1
  simp only [pointwise]
  rw [zero_add]

theorem out_eq (x0 : Vec Ideal S1024x1024 .bf16) (x1 : Vec Ideal S1024x128 .bf16) : out0_2 x0 x1 = k0_pay1 x0 x1 := by
  unfold out0_2
  rw [View.canon_unit_zero Mm.zero2]
  repeat rw [View.ld_unit_zero Mm.zero2]

variable (m : (ℓ : Loc nD τ sig) → Buf (Elt Ideal) ℓ)

abbrev aA (c : Dev nD) : Vec Ideal S4096x1024 .bf16 := m (c.tc.loc main_arg0)
abbrev aB (c : Dev nD) : Vec Ideal S1024x128 .bf16 := m (c.tc.loc main_arg1)

theorem idx_facts : ∀ t : Fin grid0.N, win0_0.index t 0 = t.val ∧ win0_0.index t 1 = 0 ∧ win0_1.index t 0 = 0 ∧ win0_1.index t 1 = 0 ∧ win0_2.index t 0 = t.val ∧ win0_2.index t 1 = 0 := by decide +kernel

theorem blk0_at (c : Dev nD) (t : Fin cfg0.N) (y : S1024x1024.Idx) (z : S4096x1024.Idx)
    (h0 : (z 0).val = 1024 * (t.val) + (y 0).val) (h1 : (z 1).val = (y 1).val) :
    iblk m c 0 t y = aA m c z := by
  obtain ⟨q00, q01, -⟩ := idx_facts t
  unfold iblk
  rw [View.read_apply]
  show V m c main_arg0 _ = m (c.tc.loc main_arg0) _
  unfold V
  congr 1
  refine Mm.idx2 ?_ ?_
  · exact Mm.at_ 1024 q00 (by omega)
  · exact Mm.at_ 1024 q01 (by omega)

theorem blk1_at (c : Dev nD) (t : Fin cfg0.N) (y z : S1024x128.Idx)
    (h0 : (z 0).val = (y 0).val) (h1 : (z 1).val = (y 1).val) :
    iblk m c 1 t y = aB m c z := by
  obtain ⟨-, -, q10, q11, -⟩ := idx_facts t
  unfold iblk
  rw [View.read_apply]
  show V m c main_arg1 _ = m (c.tc.loc main_arg1) _
  unfold V
  congr 1
  refine Mm.idx2 ?_ ?_
  · exact Mm.at_ 1024 q10 (by omega)
  · exact Mm.at_ 128 q11 (by omega)

theorem flushed (c : Dev nD) (t : Fin cfg0.N) :
    (dats m 0 c).flushed 2 t = ((cfg0.win 2).blk t).view.read (Elt Ideal) (G (aA m c) (aB m c)) := by
  obtain ⟨-, -, -, -, q20, q21⟩ := idx_facts t
  rw [Value.flushed2, out_eq]
  funext y
  obtain ⟨r, s, rfl⟩ := Mm.ex2 1024 128 y
  rw [View.read_apply]
  refine (pay_at _ _ r s).trans ?_
  have er : ((((cfg0.win 2).blk t).view.emb (ix2 r s)) 0).val = 1024 * (t.val) + r.val := Mm.at' 1024 r.val _ q20 (by omega)
  have es : ((((cfg0.win 2).blk t).view.emb (ix2 r s)) 1).val = s.val := Mm.at' 128 s.val _ q21 (by omega)
  unfold G E
  refine Finset.sum_congr rfl fun k _ => congrArg₂ (· * ·) (blk0_at m c t _ _ ?_ ?_) (blk1_at m c t _ _ ?_ ?_)
  · refine er.trans ?_; show _ = 1024 * (t.val) + r.val; omega
  · rfl
  · rfl
  · exact es

theorem final (c : Dev nD) : (dats m 0 c).arrAt 2 cfg0.N = G (aA m c) (aB m c) :=
  (dats m 0 c).arrAt_eq_of_cover 2 _ (fun t _ => flushed m c t) fun i => by
    have h1 : (i 0 : Nat) < 4096 := (i 0).isLt
    have h2 : (i 1 : Nat) < 128 := (i 1).isLt
    have hN : cfg0.N = 4 := N_0
    obtain ⟨t, ht0⟩ : ∃ t : Fin cfg0.N, t.val = (i 0 : Nat) / 1024 :=
      ⟨⟨(i 0 : Nat) / 1024, by omega⟩, rfl⟩
    obtain ⟨-, -, -, -, q20, q21⟩ := idx_facts t
    exact ⟨t, flush0_2 t, Mm.memv (Mm.mem2 1024 128 q20 q21 (by omega) (by omega))⟩

/-- What every run ends with. -/
theorem run (ρ : Dev nD → PrngReg) : θ_run defs (onTc (τ := τ) (main (F := Ideal))) ⟨m, fun _ => 0, ρ⟩ fun r => ∀ c : Dev nD,
      r.2.mem (c.tc.loc main_v0) = G (aA m c) (aB m c) ∧ Mm.kept m r.2.mem c main_arg0 ∧ Mm.kept m r.2.mem c main_arg1 :=
  (θ_run defs _ _).mono (fun _ h c => ⟨(h c).1.trans (final m c), (h c).2⟩) (Value.run_blocks m ρ)

open Reference11Ideal.Read in
/-- One entry of the reference's product. -/
theorem ref_E (x0 : Vec Ideal S4096x1024 .bf16) (x1 : Vec Ideal S1024x128 .bf16) (r : Fin 4096) (s : Fin 128) :
    val_main_v2 (F := Ideal) x0 x1 (ix2 r s) = E x0 x1 r s := by
  unfold E
  rw [val_main_v2_apply]
  refine Finset.sum_congr rfl fun k _ => ?_
  refine congrArg₂ (· * ·) ?_ ?_
  · show x0 _ = _
    exact congrArg x0 (Mm.idx2 rfl rfl)
  · show x1 _ = _
    exact congrArg x1 (Mm.idx2 rfl rfl)

open Reference11Ideal.Read in
/-- The reference's result. -/
theorem ref_eq (x0 : Vec Ideal S4096x1024 .bf16) (x1 : Vec Ideal S1024x128 .bf16) :
    val_main_v2 (F := Ideal) x0 x1 = G x0 x1 := by
  funext i
  obtain ⟨r, s, rfl⟩ := Mm.ex2 4096 128 i
  exact ref_E x0 x1 r s

end Cert.Kernel11Ideal.Prod

namespace Cert.Proof.K11
open Idealize ShloMosaic SL.Sem

/-- The reference ends. -/
theorem frameRef : quiescent_Reference11Ideal := fun m ρ _ =>
  (θ_run Reference11Ideal.defs _ _).mono (fun r h => ⟨fun c => (h c).2, sem_eq_zero_of_no_sems (by decide) r.2⟩)
    (Reference11Ideal.Value.run m ρ)

/-- The call's result is the reference's. -/
theorem algebraic : algebraic_Kernel11Ideal_Reference11Ideal := by
  intro m ρ m' ρ' hpre hargs
  refine ⟨_, Kernel11Ideal.Prod.run m ρ, (θ_run Reference11Ideal.defs _ _).mono (fun r h c => ?_)
    (Reference11Ideal.Value.run m' ρ')⟩
  obtain ⟨h0, hk⟩ := h c
  refine ⟨?_, hk⟩
  refine h0.trans ((Reference11Ideal.Read.val_main_v2_eq _ _).trans ?_)
  rw [(hargs c).1, (hargs c).2]
  exact Kernel11Ideal.Prod.ref_eq _ _

end Cert.Proof.K11
-- ==== Proof.Mm.P12.lean ====
/-
  The SSD layer's output product: the call's tiles put together are the product, and the reference's
  product is the same sum.
-/
module

public import proofs.«01_k».proof.Proof.Gen.Kernel12.Frame
public import proofs.«01_k».proof.Proof.Gen.Kernel12Ideal.Value
public import proofs.«01_k».proof.Proof.Gen.Reference12Ideal.Read
public import proofs.«01_k».proof.Proof.Mm.Sum

@[expose] public section

noncomputable section

namespace Cert.Kernel12Ideal.Prod

open Kernel12Ideal Kernel12Ideal.Gen Idealize ShloMosaic ShloMosaic.TcCoe SL.Sem

/-- One entry of the product. -/
def E (A : Vec Ideal S4096x2048 .bf16) (B : Vec Ideal S2048x1024 .bf16) (r : Fin 4096) (s : Fin 1024) : EReal :=
  ∑ k : Fin 2048, A (ix2 r k) * B (ix2 k s)

/-- The call's result. -/
def G (A : Vec Ideal S4096x2048 .bf16) (B : Vec Ideal S2048x1024 .bf16) : Vec Ideal S4096x1024 .bf16 :=
  fun i => E A B ⟨(i 0).val, (i 0).isLt⟩ ⟨(i 1).val, (i 1).isLt⟩

/-- One tile's product. -/
theorem pay_at (x0 : Vec Ideal S1024x2048 .bf16) (x1 : Vec Ideal S2048x1024 .bf16) (r s : Fin 1024) :
    k0_pay1 x0 x1 (ix2 r s) = ∑ k : Fin 2048, x0 (ix2 r k) * x1 (ix2 k s) := by
  unfold k0_pay1
  simp only [pointwise]
  rw [zero_add]

theorem out_eq (x0 : Vec Ideal S1024x2048 .bf16) (x1 : Vec Ideal S2048x1024 .bf16) : out0_2 x0 x1 = k0_pay1 x0 x1 := by
  unfold out0_2
  rw [View.canon_unit_zero Mm.zero2]
  repeat rw [View.ld_unit_zero Mm.zero2]

variable (m : (ℓ : Loc nD τ sig) → Buf (Elt Ideal) ℓ)

abbrev aA (c : Dev nD) : Vec Ideal S4096x2048 .bf16 := m (c.tc.loc main_arg0)
abbrev aB (c : Dev nD) : Vec Ideal S2048x1024 .bf16 := m (c.tc.loc main_arg1)

theorem idx_facts : ∀ t : Fin grid0.N, win0_0.index t 0 = t.val ∧ win0_0.index t 1 = 0 ∧ win0_1.index t 0 = 0 ∧ win0_1.index t 1 = 0 ∧ win0_2.index t 0 = t.val ∧ win0_2.index t 1 = 0 := by decide +kernel

theorem blk0_at (c : Dev nD) (t : Fin cfg0.N) (y : S1024x2048.Idx) (z : S4096x2048.Idx)
    (h0 : (z 0).val = 1024 * (t.val) + (y 0).val) (h1 : (z 1).val = (y 1).val) :
    iblk m c 0 t y = aA m c z := by
  obtain ⟨q00, q01, -⟩ := idx_facts t
  unfold iblk
  rw [View.read_apply]
  show V m c main_arg0 _ = m (c.tc.loc main_arg0) _
  unfold V
  congr 1
  refine Mm.idx2 ?_ ?_
  · exact Mm.at_ 1024 q00 (by omega)
  · exact Mm.at_ 2048 q01 (by omega)

theorem blk1_at (c : Dev nD) (t : Fin cfg0.N) (y z : S2048x1024.Idx)
    (h0 : (z 0).val = (y 0).val) (h1 : (z 1).val = (y 1).val) :
    iblk m c 1 t y = aB m c z := by
  obtain ⟨-, -, q10, q11, -⟩ := idx_facts t
  unfold iblk
  rw [View.read_apply]
  show V m c main_arg1 _ = m (c.tc.loc main_arg1) _
  unfold V
  congr 1
  refine Mm.idx2 ?_ ?_
  · exact Mm.at_ 2048 q10 (by omega)
  · exact Mm.at_ 1024 q11 (by omega)

theorem flushed (c : Dev nD) (t : Fin cfg0.N) :
    (dats m 0 c).flushed 2 t = ((cfg0.win 2).blk t).view.read (Elt Ideal) (G (aA m c) (aB m c)) := by
  obtain ⟨-, -, -, -, q20, q21⟩ := idx_facts t
  rw [Value.flushed2, out_eq]
  funext y
  obtain ⟨r, s, rfl⟩ := Mm.ex2 1024 1024 y
  rw [View.read_apply]
  refine (pay_at _ _ r s).trans ?_
  have er : ((((cfg0.win 2).blk t).view.emb (ix2 r s)) 0).val = 1024 * (t.val) + r.val := Mm.at' 1024 r.val _ q20 (by omega)
  have es : ((((cfg0.win 2).blk t).view.emb (ix2 r s)) 1).val = s.val := Mm.at' 1024 s.val _ q21 (by omega)
  unfold G E
  refine Finset.sum_congr rfl fun k _ => congrArg₂ (· * ·) (blk0_at m c t _ _ ?_ ?_) (blk1_at m c t _ _ ?_ ?_)
  · refine er.trans ?_; show _ = 1024 * (t.val) + r.val; omega
  · rfl
  · rfl
  · exact es

theorem final (c : Dev nD) : (dats m 0 c).arrAt 2 cfg0.N = G (aA m c) (aB m c) :=
  (dats m 0 c).arrAt_eq_of_cover 2 _ (fun t _ => flushed m c t) fun i => by
    have h1 : (i 0 : Nat) < 4096 := (i 0).isLt
    have h2 : (i 1 : Nat) < 1024 := (i 1).isLt
    have hN : cfg0.N = 4 := N_0
    obtain ⟨t, ht0⟩ : ∃ t : Fin cfg0.N, t.val = (i 0 : Nat) / 1024 :=
      ⟨⟨(i 0 : Nat) / 1024, by omega⟩, rfl⟩
    obtain ⟨-, -, -, -, q20, q21⟩ := idx_facts t
    exact ⟨t, flush0_2 t, Mm.memv (Mm.mem2 1024 1024 q20 q21 (by omega) (by omega))⟩

/-- What every run ends with. -/
theorem run (ρ : Dev nD → PrngReg) : θ_run defs (onTc (τ := τ) (main (F := Ideal))) ⟨m, fun _ => 0, ρ⟩ fun r => ∀ c : Dev nD,
      r.2.mem (c.tc.loc main_v0) = G (aA m c) (aB m c) ∧ Mm.kept m r.2.mem c main_arg0 ∧ Mm.kept m r.2.mem c main_arg1 :=
  (θ_run defs _ _).mono (fun _ h c => ⟨(h c).1.trans (final m c), (h c).2⟩) (Value.run_blocks m ρ)

open Reference12Ideal.Read in
/-- One entry of the reference's product. -/
theorem ref_E (x0 : Vec Ideal S4096x2048 .bf16) (x1 : Vec Ideal S2048x1024 .bf16) (r : Fin 4096) (s : Fin 1024) :
    val_main_v3 (F := Ideal) x0 x1 (ix2 r s) = E x0 x1 r s := by
  unfold E
  show val_main_v2 (F := Ideal) x0 x1 _ = _
  rw [val_main_v2_apply]
  refine Finset.sum_congr rfl fun k _ => ?_
  refine congrArg₂ (· * ·) ?_ ?_
  · show x0 _ = _
    exact congrArg x0 (Mm.idx2 rfl rfl)
  · show x1 _ = _
    exact congrArg x1 (Mm.idx2 rfl rfl)

open Reference12Ideal.Read in
/-- The reference's result. -/
theorem ref_eq (x0 : Vec Ideal S4096x2048 .bf16) (x1 : Vec Ideal S2048x1024 .bf16) :
    val_main_v3 (F := Ideal) x0 x1 = G x0 x1 := by
  funext i
  obtain ⟨r, s, rfl⟩ := Mm.ex2 4096 1024 i
  exact ref_E x0 x1 r s

end Cert.Kernel12Ideal.Prod

namespace Cert.Proof.K12
open Idealize ShloMosaic SL.Sem

/-- The reference ends. -/
theorem frameRef : quiescent_Reference12Ideal := fun m ρ _ =>
  (θ_run Reference12Ideal.defs _ _).mono (fun r h => ⟨fun c => (h c).2, sem_eq_zero_of_no_sems (by decide) r.2⟩)
    (Reference12Ideal.Value.run m ρ)

/-- The call's result is the reference's. -/
theorem algebraic : algebraic_Kernel12Ideal_Reference12Ideal := by
  intro m ρ m' ρ' hpre hargs
  refine ⟨_, Kernel12Ideal.Prod.run m ρ, (θ_run Reference12Ideal.defs _ _).mono (fun r h c => ?_)
    (Reference12Ideal.Value.run m' ρ')⟩
  obtain ⟨h0, hk⟩ := h c
  refine ⟨?_, hk⟩
  refine h0.trans ((Reference12Ideal.Read.val_main_v3_eq _ _).trans ?_)
  rw [(hargs c).1, (hargs c).2]
  exact Kernel12Ideal.Prod.ref_eq _ _

end Cert.Proof.K12
-- ==== Proof.Mm.P13.lean ====
/-
  The gradient of the SSD layer's gated output: the call's tiles put together are the product, and the reference's
  product is the same sum.
-/
module

public import proofs.«01_k».proof.Proof.Gen.Kernel13.Frame
public import proofs.«01_k».proof.Proof.Gen.Kernel13Ideal.Value
public import proofs.«01_k».proof.Proof.Gen.Reference13Ideal.Read
public import proofs.«01_k».proof.Proof.Mm.Sum

@[expose] public section

noncomputable section

namespace Cert.Kernel13Ideal.Prod

open Kernel13Ideal Kernel13Ideal.Gen Idealize ShloMosaic ShloMosaic.TcCoe SL.Sem

/-- One entry of the product. -/
def E (A : Vec Ideal S4096x1024 .bf16) (B : Vec Ideal S2048x1024 .bf16) (r : Fin 4096) (s : Fin 2048) : EReal :=
  ∑ k : Fin 1024, A (ix2 r k) * B (ix2 s k)

/-- The call's result. -/
def G (A : Vec Ideal S4096x1024 .bf16) (B : Vec Ideal S2048x1024 .bf16) : Vec Ideal S4096x2048 .f32 :=
  fun i => E A B ⟨(i 0).val, (i 0).isLt⟩ ⟨(i 1).val, (i 1).isLt⟩

/-- One tile's product. -/
theorem pay_at (x0 x1 : Vec Ideal S1024x1024 .bf16) (r s : Fin 1024) :
    k0_pay1 x0 x1 (ix2 r s) = ∑ k : Fin 1024, x0 (ix2 r k) * x1 (ix2 s k) := by
  unfold k0_pay1
  simp only [pointwise]
  rw [zero_add]

theorem out_eq (x0 x1 : Vec Ideal S1024x1024 .bf16) : out0_2 x0 x1 = k0_pay1 x0 x1 := by
  unfold out0_2
  rw [View.canon_unit_zero Mm.zero2]
  repeat rw [View.ld_unit_zero Mm.zero2]

variable (m : (ℓ : Loc nD τ sig) → Buf (Elt Ideal) ℓ)

abbrev aA (c : Dev nD) : Vec Ideal S4096x1024 .bf16 := m (c.tc.loc main_arg0)
abbrev aB (c : Dev nD) : Vec Ideal S2048x1024 .bf16 := m (c.tc.loc main_arg1)

theorem idx_facts : ∀ t : Fin grid0.N, win0_0.index t 0 = t.val / 2 ∧ win0_0.index t 1 = 0 ∧ win0_1.index t 0 = t.val % 2 ∧ win0_1.index t 1 = 0 ∧ win0_2.index t 0 = t.val / 2 ∧ win0_2.index t 1 = t.val % 2 := by decide +kernel

theorem blk0_at (c : Dev nD) (t : Fin cfg0.N) (y : S1024x1024.Idx) (z : S4096x1024.Idx)
    (h0 : (z 0).val = 1024 * (t.val / 2) + (y 0).val) (h1 : (z 1).val = (y 1).val) :
    iblk m c 0 t y = aA m c z := by
  obtain ⟨q00, q01, -⟩ := idx_facts t
  unfold iblk
  rw [View.read_apply]
  show V m c main_arg0 _ = m (c.tc.loc main_arg0) _
  unfold V
  congr 1
  refine Mm.idx2 ?_ ?_
  · exact Mm.at_ 1024 q00 (by omega)
  · exact Mm.at_ 1024 q01 (by omega)

theorem blk1_at (c : Dev nD) (t : Fin cfg0.N) (y : S1024x1024.Idx) (z : S2048x1024.Idx)
    (h0 : (z 0).val = 1024 * (t.val % 2) + (y 0).val) (h1 : (z 1).val = (y 1).val) :
    iblk m c 1 t y = aB m c z := by
  obtain ⟨-, -, q10, q11, -⟩ := idx_facts t
  unfold iblk
  rw [View.read_apply]
  show V m c main_arg1 _ = m (c.tc.loc main_arg1) _
  unfold V
  congr 1
  refine Mm.idx2 ?_ ?_
  · exact Mm.at_ 1024 q10 (by omega)
  · exact Mm.at_ 1024 q11 (by omega)

theorem flushed (c : Dev nD) (t : Fin cfg0.N) :
    (dats m 0 c).flushed 2 t = ((cfg0.win 2).blk t).view.read (Elt Ideal) (G (aA m c) (aB m c)) := by
  obtain ⟨-, -, -, -, q20, q21⟩ := idx_facts t
  rw [Value.flushed2, out_eq]
  funext y
  obtain ⟨r, s, rfl⟩ := Mm.ex2 1024 1024 y
  rw [View.read_apply]
  refine (pay_at _ _ r s).trans ?_
  have er : ((((cfg0.win 2).blk t).view.emb (ix2 r s)) 0).val = 1024 * (t.val / 2) + r.val := Mm.at' 1024 r.val _ q20 (by omega)
  have es : ((((cfg0.win 2).blk t).view.emb (ix2 r s)) 1).val = 1024 * (t.val % 2) + s.val := Mm.at' 1024 s.val _ q21 (by omega)
  unfold G E
  refine Finset.sum_congr rfl fun k _ => congrArg₂ (· * ·) (blk0_at m c t _ _ ?_ ?_) (blk1_at m c t _ _ ?_ ?_)
  · refine er.trans ?_; show _ = 1024 * (t.val / 2) + r.val; omega
  · rfl
  · refine es.trans ?_; show _ = 1024 * (t.val % 2) + s.val; omega
  · rfl

theorem final (c : Dev nD) : (dats m 0 c).arrAt 2 cfg0.N = G (aA m c) (aB m c) :=
  (dats m 0 c).arrAt_eq_of_cover 2 _ (fun t _ => flushed m c t) fun i => by
    have h1 : (i 0 : Nat) < 4096 := (i 0).isLt
    have h2 : (i 1 : Nat) < 2048 := (i 1).isLt
    have hN : cfg0.N = 8 := N_0
    obtain ⟨t, ht0, ht1⟩ : ∃ t : Fin cfg0.N, t.val / 2 = (i 0 : Nat) / 1024 ∧ t.val % 2 = (i 1 : Nat) / 1024 :=
      ⟨⟨2 * ((i 0 : Nat) / 1024) + (i 1 : Nat) / 1024, by omega⟩, by dsimp only; omega, by dsimp only; omega⟩
    obtain ⟨-, -, -, -, q20, q21⟩ := idx_facts t
    exact ⟨t, flush0_2 t, Mm.memv (Mm.mem2 1024 1024 q20 q21 (by omega) (by omega))⟩

/-- What every run ends with. -/
theorem run (ρ : Dev nD → PrngReg) : θ_run defs (onTc (τ := τ) (main (F := Ideal))) ⟨m, fun _ => 0, ρ⟩ fun r => ∀ c : Dev nD,
      r.2.mem (c.tc.loc main_v0) = G (aA m c) (aB m c) ∧ Mm.kept m r.2.mem c main_arg0 ∧ Mm.kept m r.2.mem c main_arg1 :=
  (θ_run defs _ _).mono (fun _ h c => ⟨(h c).1.trans (final m c), (h c).2⟩) (Value.run_blocks m ρ)

open Reference13Ideal.Read in
/-- One entry of the reference's product. -/
theorem ref_E (x0 : Vec Ideal S4096x1024 .bf16) (x1 : Vec Ideal S2048x1024 .bf16) (r : Fin 4096) (s : Fin 2048) :
    val_main_v4 (F := Ideal) x0 x1 (ix2 r s) = E x0 x1 r s := by
  unfold E
  rw [val_main_v4_apply]
  refine Finset.sum_congr rfl fun k _ => ?_
  refine congrArg₂ (· * ·) ?_ ?_
  · show x0 _ = _
    exact congrArg x0 (Mm.idx2 rfl rfl)
  · show x1 _ = _
    exact congrArg x1 (Mm.idx2 rfl rfl)

open Reference13Ideal.Read in
/-- The reference's result. -/
theorem ref_eq (x0 : Vec Ideal S4096x1024 .bf16) (x1 : Vec Ideal S2048x1024 .bf16) :
    val_main_v4 (F := Ideal) x0 x1 = G x0 x1 := by
  funext i
  obtain ⟨r, s, rfl⟩ := Mm.ex2 4096 2048 i
  exact ref_E x0 x1 r s

end Cert.Kernel13Ideal.Prod

namespace Cert.Proof.K13
open Idealize ShloMosaic SL.Sem

/-- The reference ends. -/
theorem frameRef : quiescent_Reference13Ideal := fun m ρ _ =>
  (θ_run Reference13Ideal.defs _ _).mono (fun r h => ⟨fun c => (h c).2, sem_eq_zero_of_no_sems (by decide) r.2⟩)
    (Reference13Ideal.Value.run m ρ)

/-- The call's result is the reference's. -/
theorem algebraic : algebraic_Kernel13Ideal_Reference13Ideal := by
  intro m ρ m' ρ' hpre hargs
  refine ⟨_, Kernel13Ideal.Prod.run m ρ, (θ_run Reference13Ideal.defs _ _).mono (fun r h c => ?_)
    (Reference13Ideal.Value.run m' ρ')⟩
  obtain ⟨h0, hk⟩ := h c
  refine ⟨?_, hk⟩
  refine h0.trans ((Reference13Ideal.Read.val_main_v4_eq _ _).trans ?_)
  rw [(hargs c).1, (hargs c).2]
  exact Kernel13Ideal.Prod.ref_eq _ _

end Cert.Proof.K13
-- ==== Proof.Mm.P14.lean ====
/-
  The gradient of the SSD layer's output weight: the call's tiles put together are the product, and the reference's
  product is the same sum.
-/
module

public import proofs.«01_k».proof.Proof.Gen.Kernel14.Frame
public import proofs.«01_k».proof.Proof.Gen.Kernel14Ideal.Value
public import proofs.«01_k».proof.Proof.Gen.Reference14Ideal.Read
public import proofs.«01_k».proof.Proof.Mm.Sum

@[expose] public section

noncomputable section

namespace Cert.Kernel14Ideal.Prod

open Kernel14Ideal Kernel14Ideal.Gen Idealize ShloMosaic ShloMosaic.TcCoe SL.Sem

/-- One entry of the product. -/
def E (A : Vec Ideal S4096x2048 .bf16) (B : Vec Ideal S4096x1024 .bf16) (r : Fin 2048) (s : Fin 1024) : EReal :=
  ∑ k : Fin 4096, A (ix2 k r) * B (ix2 k s)

/-- The call's result: the product in its place among the layers' gradients, everything else as before. -/
def G (A : Vec Ideal S4096x2048 .bf16) (B : Vec Ideal S4096x1024 .bf16) (C : Vec Ideal S2x2048x1024 .bf16) : Vec Ideal S2x2048x1024 .bf16 :=
  fun i => if (i 0).val = 0 then E A B ⟨(i 1).val, (i 1).isLt⟩ ⟨(i 2).val, (i 2).isLt⟩ else C i

/-- One tile's product. -/
theorem pay_at (x0 x1 : Vec Ideal S2048x1024 .bf16) (r s : Fin 1024) :
    k0_pay1 x0 x1 (ix2 r s) = ∑ k : Fin 2048, x0 (ix2 k r) * x1 (ix2 k s) := by
  unfold k0_pay1
  simp only [pointwise]
  rw [zero_add]

section Cases

variable (c : Dev nD) (i : grid0.Coords) (arg3 : Memref sig .tc .vmem S2048x1024 .bf16) (harg3 : arg3.IsWhole) (arg4 : Memref sig .tc .vmem S2048x1024 .bf16) (harg4 : arg4.IsWhole) (arg6 : Memref sig .tc .vmem S1x1024x1024 .bf16) (harg6 : arg6.IsWhole) (arg7 : Memref sig .tc .vmem S1024x1024 .f32) (harg7 : arg7.IsWhole)
  (x0 x1 : Vec Ideal S2048x1024 .bf16) (xs : Vec Ideal S1024x1024 .f32)

theorem sout_A (hc0 : cond0_0 i) (hc1 : ¬cond0_1 i) (hc2 : ¬cond0_2 i) :
    sout0_A_0 c i arg3 harg3 arg4 harg4 arg6 harg6 arg7 harg7 hc0 hc1 hc2 x0 x1 = k0_pay2 x0 x1 := by
  unfold sout0_A_0
  rw [View.read_writes_eq_canon _ _ _ (fun _ => scover0_A_0 ..)]
  unfold kernelRun0_A
  dsimp only
  sl_unfold_words
  simp only [View.readAt_eq_ld, Memref.IsWhole.read_unread]
  rw [View.canon_unit_zero Mm.zero2]
  repeat rw [View.ld_unit_zero Mm.zero2]

theorem out_B (hc0 : ¬cond0_0 i) (hc1 : cond0_1 i) (hc2 : cond0_2 i) :
    out0_B_2 c i arg3 harg3 arg4 harg4 arg6 harg6 arg7 harg7 hc0 hc1 hc2 x0 x1 xs = k0_pay4 (k0_pay3 x0 x1 xs) := by
  unfold out0_B_2
  rw [View.read_writes_eq_canon _ _ _ (fun _ => cover0_B_2 ..)]
  unfold kernelRun0_B
  dsimp only
  sl_unfold_words
  simp only [View.readAt_eq_ld, Memref.IsWhole.read_unread]
  simp (disch := decide) only [View.readCov_fill]
  rw [View.canon_unit_zero Mm.zero3]
  repeat rw [View.ld_unit_zero Mm.zero2]

end Cases

theorem pay2_at (x0 x1 : Vec Ideal S2048x1024 .bf16) (r s : Fin 1024) :
    k0_pay2 x0 x1 (ix2 r s) = k0_pay1 x0 x1 (ix2 r s) := by
  unfold k0_pay2
  simp only [pointwise]

theorem pay4_at (x0 x1 : Vec Ideal S2048x1024 .bf16) (xs : Vec Ideal S1024x1024 .f32)
    (l : Fin 1) (r s : Fin 1024) :
    k0_pay4 (k0_pay3 x0 x1 xs) (ix3 l r s) = xs (ix2 r s) + k0_pay1 x0 x1 (ix2 r s) := by
  unfold k0_pay4 k0_pay3
  simp only [pointwise]

variable (m : (ℓ : Loc nD τ sig) → Buf (Elt Ideal) ℓ)

abbrev aA (c : Dev nD) : Vec Ideal S4096x2048 .bf16 := m (c.tc.loc main_arg0)
abbrev aB (c : Dev nD) : Vec Ideal S4096x1024 .bf16 := m (c.tc.loc main_arg1)
abbrev aC (c : Dev nD) : Vec Ideal S2x2048x1024 .bf16 := m (c.tc.loc main_arg2)

theorem idx_facts : ∀ t : Fin grid0.N, win0_0.index t 0 = t.val % 2 ∧ win0_0.index t 1 = t.val / 2 ∧ win0_1.index t 0 = t.val % 2 ∧ win0_1.index t 1 = 0 ∧ win0_2.index t 0 = 0 ∧ win0_2.index t 1 = t.val / 2 ∧ win0_2.index t 2 = 0 := by decide +kernel

theorem blk0_at (c : Dev nD) (t : Fin cfg0.N) (y : S2048x1024.Idx) (z : S4096x2048.Idx)
    (h0 : (z 0).val = 2048 * (t.val % 2) + (y 0).val) (h1 : (z 1).val = 1024 * (t.val / 2) + (y 1).val) :
    iblk m c 0 t y = aA m c z := by
  obtain ⟨q00, q01, -⟩ := idx_facts t
  refine (congrFun (V_main_arg0 m c) _).trans (congrArg _ (Mm.idx2 (Mm.at_ 2048 q00 (by omega)) (Mm.at_ 1024 q01 (by omega))))

theorem blk1_at (c : Dev nD) (t : Fin cfg0.N) (y : S2048x1024.Idx) (z : S4096x1024.Idx)
    (h0 : (z 0).val = 2048 * (t.val % 2) + (y 0).val) (h1 : (z 1).val = (y 1).val) :
    iblk m c 1 t y = aB m c z := by
  obtain ⟨-, -, q10, q11, -⟩ := idx_facts t
  refine (congrFun (V_main_arg1 m c) _).trans (congrArg _ (Mm.idx2 (Mm.at_ 2048 q10 (by omega)) (Mm.at_ 1024 q11 (by omega))))

theorem flushed (c : Dev nD) (t : Fin cfg0.N) (hf : (cfg0.win 2).flush t = true) :
    (dats m 0 c).flushed 2 t = ((cfg0.win 2).blk t).view.read (Elt Ideal) (G (aA m c) (aB m c) (aC m c)) := by
  obtain ⟨-, -, -, -, q20, q21, q22⟩ := idx_facts t
  have h1 : t.val % 2 = 1 := (flush0_2 t).mp hf
  have h0 : ¬t.val % 2 = 0 := by omega
  obtain ⟨u, hu⟩ : ∃ u : Fin cfg0.N, u.val = t.val - 1 := ⟨⟨t.val - 1, by have := t.isLt; omega⟩, rfl⟩
  have hs : (outsAt0 m c (t.val - 1) (Nat.lt_of_le_of_lt (Nat.sub_le _ _) t.isLt)).2 = k0_pay2 (iblk m c 0 u) (iblk m c 1 u) := by
    have e : outsAt0 m c (t.val - 1) (Nat.lt_of_le_of_lt (Nat.sub_le _ _) t.isLt) = outsAt0 m c u.val u.isLt := by
      congr 1; exact hu.symm
    rw [e, outsAt0_A m c u (by omega) (by omega) (by omega)]
    dsimp only
    rw [sout_A]
  rw [Value.flushed2_B m c t h0 h1 h1, out_B, hs]
  funext y
  obtain ⟨l, r, s, rfl⟩ : ∃ (l : Fin 1) (r s : Fin 1024), y = ix3 l r s := ⟨y 0, y 1, y 2, ValueIdx.eq_ix3 y⟩
  rw [View.read_apply]
  refine (pay4_at _ _ _ l r s).trans ?_
  rw [pay2_at, pay_at, pay_at]
  have el : ((((cfg0.win 2).blk t).view.emb (ix3 l r s)) 0).val = 0 := Mm.at' 1 l.val _ q20 (by omega)
  have er : ((((cfg0.win 2).blk t).view.emb (ix3 l r s)) 1).val = 1024 * (t.val / 2) + r.val := Mm.at' 1024 r.val _ q21 (by omega)
  have es : ((((cfg0.win 2).blk t).view.emb (ix3 l r s)) 2).val = s.val := Mm.at' 1024 s.val _ q22 (by omega)
  unfold G
  rw [if_pos el]
  unfold E
  rw [Mm.sum_halves (n := 2048) rfl]
  refine congrArg₂ (· + ·) (Finset.sum_congr rfl fun k _ => congrArg₂ (· * ·) (blk0_at m c u _ _ ?_ ?_) (blk1_at m c u _ _ ?_ ?_))
    (Finset.sum_congr rfl fun k _ => congrArg₂ (· * ·) (blk0_at m c t _ _ ?_ ?_) (blk1_at m c t _ _ ?_ ?_))
  · show k.val = 2048 * (u.val % 2) + k.val; omega
  · refine er.trans ?_; show _ = 1024 * (u.val / 2) + r.val; omega
  · show k.val = 2048 * (u.val % 2) + k.val; omega
  · exact es
  · show 2048 + k.val = 2048 * (t.val % 2) + k.val; omega
  · refine er.trans ?_; show _ = 1024 * (t.val / 2) + r.val; omega
  · show 2048 + k.val = 2048 * (t.val % 2) + k.val; omega
  · exact es

theorem final (c : Dev nD) : (dats m 0 c).arrAt 2 cfg0.N = G (aA m c) (aB m c) (aC m c) := by
  funext i
  rw [(dats m 0 c).arrAt_eq_piecewise 2 (G (aA m c) (aB m c) (aC m c)) (flushed m c) i]
  split
  · rfl
  · rename_i hno
    have hi0 : ¬((i 0 : Nat) = 0) := fun hz => hno (by
      have h1 : (i 1 : Nat) < 2048 := (i 1).isLt
      have h2 : (i 2 : Nat) < 1024 := (i 2).isLt
      have hN : cfg0.N = 4 := N_0
      obtain ⟨t, ht0, ht1⟩ : ∃ t : Fin cfg0.N, t.val / 2 = (i 1 : Nat) / 1024 ∧ t.val % 2 = 1 :=
        ⟨⟨2 * ((i 1 : Nat) / 1024) + 1, by omega⟩, by dsimp only; omega, by dsimp only; omega⟩
      obtain ⟨-, -, -, -, q20, q21, q22⟩ := idx_facts t
      refine ⟨t, (flush0_2 t).mpr ht1, ?_⟩
      show i ∈ ((View.whole main_v0).slice (win0_2.rect t)).set
      rw [View.set_slice_whole, Rect.mem_set_unit]
      intro a
      match a with
      | ⟨0, _⟩ =>
        show win0_2.index t 0 * 1 ≤ (i 0 : Nat) ∧ (i 0 : Nat) < win0_2.index t 0 * 1 + 1
        rw [q20]; omega
      | ⟨1, _⟩ =>
        show win0_2.index t 1 * 1024 ≤ (i 1 : Nat) ∧ (i 1 : Nat) < win0_2.index t 1 * 1024 + 1024
        rw [q21]; omega
      | ⟨2, _⟩ =>
        show win0_2.index t 2 * 1024 ≤ (i 2 : Nat) ∧ (i 2 : Nat) < win0_2.index t 2 * 1024 + 1024
        rw [q22]; omega)
    unfold G
    rw [if_neg hi0, A_eq]
    show V m c main_v0 i = m (c.tc.loc main_arg2) i
    rfl

/-- What every run ends with. -/
theorem run (ρ : Dev nD → PrngReg) : θ_run defs (onTc (τ := τ) (main (F := Ideal))) ⟨m, fun _ => 0, ρ⟩ fun r => ∀ c : Dev nD,
      r.2.mem (c.tc.loc main_v0) = G (aA m c) (aB m c) (aC m c) ∧ Mm.kept m r.2.mem c main_arg0 ∧ Mm.kept m r.2.mem c main_arg1 ∧ Mm.kept m r.2.mem c main_arg2 :=
  (θ_run defs _ _).mono (fun _ h c => ⟨(h c).1.trans (final m c), (h c).2⟩) (Value.run_blocks m ρ)

open Reference14Ideal.Read in
/-- One entry of the reference's product. -/
theorem ref_E (x0 : Vec Ideal S4096x2048 .bf16) (x1 : Vec Ideal S4096x1024 .bf16) (r : Fin 2048) (s : Fin 1024) :
    val_main_v6 (F := Ideal) x0 x1 (ix2 r s) = E x0 x1 r s := by
  unfold E
  show val_main_v5 (F := Ideal) x0 x1 _ = _
  rw [val_main_v5_apply]
  rw [val_main_v4_apply]
  refine Finset.sum_congr rfl fun k _ => ?_
  rw [mul_comm]
  refine congrArg₂ (· * ·) ?_ ?_
  · show x0 _ = _
    exact congrArg x0 (Mm.idx2 rfl rfl)
  · show x1 _ = _
    exact congrArg x1 (Mm.idx2 rfl rfl)

/-- In the first slot the result is the product. -/
theorem G_in (A : Vec Ideal S4096x2048 .bf16) (B : Vec Ideal S4096x1024 .bf16) (C : Vec Ideal S2x2048x1024 .bf16) (l : Fin 2) (r : Fin 2048) (s : Fin 1024) (hl : l.val = 0)
    : G A B C (ix3 l r s) = E A B r s := if_pos hl

/-- Elsewhere the result is what was there before. -/
theorem G_off (A : Vec Ideal S4096x2048 .bf16) (B : Vec Ideal S4096x1024 .bf16) (C : Vec Ideal S2x2048x1024 .bf16) (l : Fin 2) (r : Fin 2048) (s : Fin 1024)
    (hl : ¬l.val = 0) : G A B C (ix3 l r s) = C (ix3 l r s) := if_neg hl

open Reference14Ideal.Read in
/-- The reference's result. -/
theorem ref_eq (x0 : Vec Ideal S4096x2048 .bf16) (x1 : Vec Ideal S4096x1024 .bf16) (x2 : Vec Ideal S2x2048x1024 .bf16) :
    val_main_v9 (F := Ideal) x0 x1 x2 = G x0 x1 x2 := by
  funext i
  obtain ⟨l, r, s, rfl⟩ : ∃ (l : Fin 2) (r : Fin 2048) (s : Fin 1024), i = ix3 l r s := ⟨i 0, i 1, i 2, ValueIdx.eq_ix3 i⟩
  unfold val_main_v9
  by_cases hl : l.val = 0
  · refine (concatenate_pair_apply_left (t := Reference14Ideal.S2x2048x1024) (s₁ := Reference14Ideal.S1x2048x1024) (s₂ := Reference14Ideal.S1x2048x1024) (0 : Fin 3) _ _ _ _ rfl
      (ix3 (⟨0, by decide⟩ : Fin 1) r s) (fun a => by
      match a with
      | ⟨0, _⟩ => exact hl.symm
      | ⟨1, _⟩ => rfl
      | ⟨2, _⟩ => rfl)).trans ?_
    rw [val_main_v7_apply]
    have e : idx_main_v7 (ix3 (⟨0, by decide⟩ : Fin 1) r s) = ix2 r s := Mm.idx2 rfl rfl
    rw [e]
    exact (ref_E x0 x1 r s).trans (G_in x0 x1 x2 l r s hl).symm
  · refine Eq.trans ?_ (G_off x0 x1 x2 l r s hl).symm
    have hb := l.isLt
    refine (concatenate_pair_apply_right (t := Reference14Ideal.S2x2048x1024) (s₁ := Reference14Ideal.S1x2048x1024) (s₂ := Reference14Ideal.S1x2048x1024) (0 : Fin 3) _ _ _ _ rfl rfl
      (ix3 (⟨l.val - 1, by omega⟩ : Fin 1) r s) (fun a ha => by
      match a with
      | ⟨0, _⟩ => exact absurd rfl ha
      | ⟨1, _⟩ => rfl
      | ⟨2, _⟩ => rfl) (by show l.val - 1 + 1 = l.val; omega)).trans ?_
    rw [val_main_v8_apply]
    refine congrArg x2 (Mm.idx3 ?_ ?_ ?_)
    · show 1 + (l.val - 1) = l.val; omega
    · rfl
    · rfl

end Cert.Kernel14Ideal.Prod

namespace Cert.Proof.K14
open Idealize ShloMosaic SL.Sem

/-- The reference ends. -/
theorem frameRef : quiescent_Reference14Ideal := fun m ρ _ =>
  (θ_run Reference14Ideal.defs _ _).mono (fun r h => ⟨fun c => (h c).2, sem_eq_zero_of_no_sems (by decide) r.2⟩)
    (Reference14Ideal.Value.run m ρ)

/-- The call's result is the reference's. -/
theorem algebraic : algebraic_Kernel14Ideal_Reference14Ideal := by
  intro m ρ m' ρ' hpre hargs
  refine ⟨_, Kernel14Ideal.Prod.run m ρ, (θ_run Reference14Ideal.defs _ _).mono (fun r h c => ?_)
    (Reference14Ideal.Value.run m' ρ')⟩
  obtain ⟨h0, hk⟩ := h c
  refine ⟨?_, hk⟩
  refine h0.trans ((Reference14Ideal.Read.val_main_v9_eq _ _ _).trans ?_)
  rw [(hargs c).1, (hargs c).2.1, (hargs c).2.2]
  exact Kernel14Ideal.Prod.ref_eq _ _ _

end Cert.Proof.K14
-- ==== Proof.Mm.P15.lean ====
/-
  The gradient of the SSD layer's input weight, the columns of z and those of x: the call's tiles put together are the product, and the reference's
  product is the same sum.
-/
module

public import proofs.«01_k».proof.Proof.Gen.Kernel15.Frame
public import proofs.«01_k».proof.Proof.Gen.Kernel15Ideal.Value
public import proofs.«01_k».proof.Proof.Gen.Reference15Ideal.Read
public import proofs.«01_k».proof.Proof.Mm.Sum

@[expose] public section

noncomputable section

namespace Cert.Kernel15Ideal.Prod

open Kernel15Ideal Kernel15Ideal.Gen Idealize ShloMosaic ShloMosaic.TcCoe SL.Sem

/-- One entry of the product. -/
def E (A : Vec Ideal S4096x1024 .bf16) (B : Vec Ideal S4096x2048 .bf16) (r : Fin 1024) (s : Fin 2048) : EReal :=
  ∑ k : Fin 4096, A (ix2 k r) * B (ix2 k s)

/-- The call's result. -/
def G (A : Vec Ideal S4096x1024 .bf16) (B : Vec Ideal S4096x2048 .bf16) : Vec Ideal S1024x2048 .bf16 :=
  fun i => E A B ⟨(i 0).val, (i 0).isLt⟩ ⟨(i 1).val, (i 1).isLt⟩

/-- One tile's product. -/
theorem pay_at (x0 x1 : Vec Ideal S2048x1024 .bf16) (r s : Fin 1024) :
    k0_pay1 x0 x1 (ix2 r s) = ∑ k : Fin 2048, x0 (ix2 k r) * x1 (ix2 k s) := by
  unfold k0_pay1
  simp only [pointwise]
  rw [zero_add]

section Cases

variable (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole)
  (x0 x1 : Vec Ideal S2048x1024 .bf16) (xs : Vec Ideal S1024x1024 .f32)

theorem sout_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (fun _ => scover0_A_0 ..)]
  unfold kernelRun0_A
  dsimp only
  sl_unfold_words
  simp only [View.readAt_eq_ld, Memref.IsWhole.read_unread]
  rw [View.canon_unit_zero Mm.zero2]
  repeat rw [View.ld_unit_zero Mm.zero2]

theorem out_B (hc0 : ¬cond0_0 i) (hc1 : cond0_1 i) (hc2 : cond0_2 i) :
    out0_B_2 c i arg3 harg3 arg4 harg4 arg5 harg5 arg6 harg6 hc0 hc1 hc2 x0 x1 xs = k0_pay4 (k0_pay3 x0 x1 xs) := by
  unfold out0_B_2
  rw [View.read_writes_eq_canon _ _ _ (fun _ => cover0_B_2 ..)]
  unfold kernelRun0_B
  dsimp only
  sl_unfold_words
  simp only [View.readAt_eq_ld, Memref.IsWhole.read_unread]
  simp (disch := decide) only [View.readCov_fill]
  rw [View.canon_unit_zero Mm.zero2]
  repeat rw [View.ld_unit_zero Mm.zero2]

end Cases

theorem pay2_at (x0 x1 : Vec Ideal S2048x1024 .bf16) (r s : Fin 1024) :
    k0_pay2 x0 x1 (ix2 r s) = k0_pay1 x0 x1 (ix2 r s) := by
  unfold k0_pay2
  simp only [pointwise]

theorem pay4_at (x0 x1 : Vec Ideal S2048x1024 .bf16) (xs : Vec Ideal S1024x1024 .f32)
    (r s : Fin 1024) :
    k0_pay4 (k0_pay3 x0 x1 xs) (ix2 r s) = xs (ix2 r s) + k0_pay1 x0 x1 (ix2 r s) := by
  unfold k0_pay4 k0_pay3
  simp only [pointwise]

variable (m : (ℓ : Loc nD τ sig) → Buf (Elt Ideal) ℓ)

abbrev aA (c : Dev nD) : Vec Ideal S4096x1024 .bf16 := m (c.tc.loc main_arg0)
abbrev aB (c : Dev nD) : Vec Ideal S4096x2048 .bf16 := m (c.tc.loc main_arg1)

theorem idx_facts : ∀ t : Fin grid0.N, win0_0.index t 0 = t.val % 2 ∧ win0_0.index t 1 = t.val / 4 ∧ win0_1.index t 0 = t.val % 2 ∧ win0_1.index t 1 = t.val / 2 % 2 ∧ win0_2.index t 0 = t.val / 4 ∧ win0_2.index t 1 = t.val / 2 % 2 := by decide +kernel

theorem blk0_at (c : Dev nD) (t : Fin cfg0.N) (y : S2048x1024.Idx) (z : S4096x1024.Idx)
    (h0 : (z 0).val = 2048 * (t.val % 2) + (y 0).val) (h1 : (z 1).val = 1024 * (t.val / 4) + (y 1).val) :
    iblk m c 0 t y = aA m c z := by
  obtain ⟨q00, q01, -⟩ := idx_facts t
  refine (congrFun (V_main_arg0 m c) _).trans (congrArg _ (Mm.idx2 (Mm.at_ 2048 q00 (by omega)) (Mm.at_ 1024 q01 (by omega))))

theorem blk1_at (c : Dev nD) (t : Fin cfg0.N) (y : S2048x1024.Idx) (z : S4096x2048.Idx)
    (h0 : (z 0).val = 2048 * (t.val % 2) + (y 0).val) (h1 : (z 1).val = 1024 * (t.val / 2 % 2) + (y 1).val) :
    iblk m c 1 t y = aB m c z := by
  obtain ⟨-, -, q10, q11, -⟩ := idx_facts t
  refine (congrFun (V_main_arg1 m c) _).trans (congrArg _ (Mm.idx2 (Mm.at_ 2048 q10 (by omega)) (Mm.at_ 1024 q11 (by omega))))

theorem flushed (c : Dev nD) (t : Fin cfg0.N) (hf : (cfg0.win 2).flush t = true) :
    (dats m 0 c).flushed 2 t = ((cfg0.win 2).blk t).view.read (Elt Ideal) (G (aA m c) (aB m c)) := by
  obtain ⟨-, -, -, -, q20, q21⟩ := idx_facts t
  have h1 : t.val % 2 = 1 := (flush0_2 t).mp hf
  have h0 : ¬t.val % 2 = 0 := by omega
  obtain ⟨u, hu⟩ : ∃ u : Fin cfg0.N, u.val = t.val - 1 := ⟨⟨t.val - 1, by have := t.isLt; omega⟩, rfl⟩
  have hs : (outsAt0 m c (t.val - 1) (Nat.lt_of_le_of_lt (Nat.sub_le _ _) t.isLt)).2 = k0_pay2 (iblk m c 0 u) (iblk m c 1 u) := by
    have e : outsAt0 m c (t.val - 1) (Nat.lt_of_le_of_lt (Nat.sub_le _ _) t.isLt) = outsAt0 m c u.val u.isLt := by
      congr 1; exact hu.symm
    rw [e, outsAt0_A m c u (by omega) (by omega) (by omega)]
    dsimp only
    rw [sout_A]
  rw [Value.flushed2_B m c t h0 h1 h1, out_B, hs]
  funext y
  obtain ⟨r, s, rfl⟩ := Mm.ex2 1024 1024 y
  rw [View.read_apply]
  refine (pay4_at _ _ _ r s).trans ?_
  rw [pay2_at, pay_at, pay_at]
  have er : ((((cfg0.win 2).blk t).view.emb (ix2 r s)) 0).val = 1024 * (t.val / 4) + r.val := Mm.at' 1024 r.val _ q20 (by omega)
  have es : ((((cfg0.win 2).blk t).view.emb (ix2 r s)) 1).val = 1024 * (t.val / 2 % 2) + s.val := Mm.at' 1024 s.val _ q21 (by omega)
  unfold G E
  rw [Mm.sum_halves (n := 2048) rfl]
  refine congrArg₂ (· + ·) (Finset.sum_congr rfl fun k _ => congrArg₂ (· * ·) (blk0_at m c u _ _ ?_ ?_) (blk1_at m c u _ _ ?_ ?_))
    (Finset.sum_congr rfl fun k _ => congrArg₂ (· * ·) (blk0_at m c t _ _ ?_ ?_) (blk1_at m c t _ _ ?_ ?_))
  · show k.val = 2048 * (u.val % 2) + k.val; omega
  · refine er.trans ?_; show _ = 1024 * (u.val / 4) + r.val; omega
  · show k.val = 2048 * (u.val % 2) + k.val; omega
  · refine es.trans ?_; show _ = 1024 * (u.val / 2 % 2) + s.val; omega
  · show 2048 + k.val = 2048 * (t.val % 2) + k.val; omega
  · refine er.trans ?_; show _ = 1024 * (t.val / 4) + r.val; omega
  · show 2048 + k.val = 2048 * (t.val % 2) + k.val; omega
  · refine es.trans ?_; show _ = 1024 * (t.val / 2 % 2) + s.val; omega

theorem final (c : Dev nD) : (dats m 0 c).arrAt 2 cfg0.N = G (aA m c) (aB m c) :=
  (dats m 0 c).arrAt_eq_of_cover 2 _ (fun t hf => flushed m c t hf) fun i => by
    have h1 : (i 0 : Nat) < 1024 := (i 0).isLt
    have h2 : (i 1 : Nat) < 2048 := (i 1).isLt
    have hN : cfg0.N = 4 := N_0
    obtain ⟨t, ht0, ht1, ht2⟩ : ∃ t : Fin cfg0.N, t.val / 4 = (i 0 : Nat) / 1024 ∧ t.val / 2 % 2 = (i 1 : Nat) / 1024 ∧ t.val % 2 = 1 :=
      ⟨⟨2 * (2 * ((i 0 : Nat) / 1024) + (i 1 : Nat) / 1024) + 1, by omega⟩, by dsimp only; omega, by dsimp only; omega, by dsimp only; omega⟩
    obtain ⟨-, -, -, -, q20, q21⟩ := idx_facts t
    refine ⟨t, (flush0_2 t).mpr ht2, ?_⟩
    show i ∈ ((View.whole main_v0).slice (win0_2.rect t)).set
    rw [View.set_slice_whole]
    exact Mm.mem2 1024 1024 q20 q21 (by omega) (by omega)

/-- What every run ends with. -/
theorem run (ρ : Dev nD → PrngReg) : θ_run defs (onTc (τ := τ) (main (F := Ideal))) ⟨m, fun _ => 0, ρ⟩ fun r => ∀ c : Dev nD,
      r.2.mem (c.tc.loc main_v0) = G (aA m c) (aB m c) ∧ Mm.kept m r.2.mem c main_arg0 ∧ Mm.kept m r.2.mem c main_arg1 :=
  (θ_run defs _ _).mono (fun _ h c => ⟨(h c).1.trans (final m c), (h c).2⟩) (Value.run_blocks m ρ)

open Reference15Ideal.Read in
/-- One entry of the reference's product. -/
theorem ref_E (x0 : Vec Ideal S4096x1024 .bf16) (x1 : Vec Ideal S4096x2048 .bf16) (r : Fin 1024) (s : Fin 2048) :
    val_main_v6 (F := Ideal) x0 x1 (ix2 r s) = E x0 x1 r s := by
  unfold E
  show val_main_v5 (F := Ideal) x0 x1 _ = _
  rw [val_main_v5_apply]
  rw [val_main_v4_apply]
  refine Finset.sum_congr rfl fun k _ => ?_
  rw [mul_comm]
  refine congrArg₂ (· * ·) ?_ ?_
  · show x0 _ = _
    exact congrArg x0 (Mm.idx2 rfl rfl)
  · show x1 _ = _
    exact congrArg x1 (Mm.idx2 rfl rfl)

open Reference15Ideal.Read in
/-- The reference's result. -/
theorem ref_eq (x0 : Vec Ideal S4096x1024 .bf16) (x1 : Vec Ideal S4096x2048 .bf16) :
    val_main_v6 (F := Ideal) x0 x1 = G x0 x1 := by
  funext i
  obtain ⟨r, s, rfl⟩ := Mm.ex2 1024 2048 i
  exact ref_E x0 x1 r s

end Cert.Kernel15Ideal.Prod

namespace Cert.Proof.K15
open Idealize ShloMosaic SL.Sem

/-- The reference ends. -/
theorem frameRef : quiescent_Reference15Ideal := fun m ρ _ =>
  (θ_run Reference15Ideal.defs _ _).mono (fun r h => ⟨fun c => (h c).2, sem_eq_zero_of_no_sems (by decide) r.2⟩)
    (Reference15Ideal.Value.run m ρ)

/-- The call's result is the reference's. -/
theorem algebraic : algebraic_Kernel15Ideal_Reference15Ideal := by
  intro m ρ m' ρ' hpre hargs
  refine ⟨_, Kernel15Ideal.Prod.run m ρ, (θ_run Reference15Ideal.defs _ _).mono (fun r h c => ?_)
    (Reference15Ideal.Value.run m' ρ')⟩
  obtain ⟨h0, hk⟩ := h c
  refine ⟨?_, hk⟩
  refine h0.trans ((Reference15Ideal.Read.val_main_v6_eq _ _).trans ?_)
  rw [(hargs c).1, (hargs c).2]
  exact Kernel15Ideal.Prod.ref_eq _ _

end Cert.Proof.K15
-- ==== Proof.Mm.P16.lean ====
/-
  The gradient of the SSD layer's input weight, the columns of B and C: the call's tiles put together are the product, and the reference's
  product is the same sum.
-/
module

public import proofs.«01_k».proof.Proof.Gen.Kernel16.Frame
public import proofs.«01_k».proof.Proof.Gen.Kernel16Ideal.Value
public import proofs.«01_k».proof.Proof.Gen.Reference16Ideal.Read
public import proofs.«01_k».proof.Proof.Mm.Sum

@[expose] public section

noncomputable section

namespace Cert.Kernel16Ideal.Prod

open Kernel16Ideal Kernel16Ideal.Gen Idealize ShloMosaic ShloMosaic.TcCoe SL.Sem

/-- One entry of the product. -/
def E (A B : Vec Ideal S4096x1024 .bf16) (r s : Fin 1024) : EReal :=
  ∑ k : Fin 4096, A (ix2 k r) * B (ix2 k s)

/-- The call's result. -/
def G (A B : Vec Ideal S4096x1024 .bf16) : Vec Ideal S1024x1024 .bf16 :=
  fun i => E A B ⟨(i 0).val, (i 0).isLt⟩ ⟨(i 1).val, (i 1).isLt⟩

/-- One tile's product. -/
theorem pay_at (x0 x1 : Vec Ideal S2048x1024 .bf16) (r s : Fin 1024) :
    k0_pay1 x0 x1 (ix2 r s) = ∑ k : Fin 2048, x0 (ix2 k r) * x1 (ix2 k s) := by
  unfold k0_pay1
  simp only [pointwise]
  rw [zero_add]

section Cases

variable (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .bf16) (harg5 : arg5.IsWhole) (arg6 : Memref sig .tc .vmem S1024x1024 .f32) (harg6 : arg6.IsWhole)
  (x0 x1 : Vec Ideal S2048x1024 .bf16) (xs : Vec Ideal S1024x1024 .f32)

theorem sout_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (fun _ => scover0_A_0 ..)]
  unfold kernelRun0_A
  dsimp only
  sl_unfold_words
  simp only [View.readAt_eq_ld, Memref.IsWhole.read_unread]
  rw [View.canon_unit_zero Mm.zero2]
  repeat rw [View.ld_unit_zero Mm.zero2]

theorem out_B (hc0 : ¬cond0_0 i) (hc1 : cond0_1 i) (hc2 : cond0_2 i) :
    out0_B_2 c i arg3 harg3 arg4 harg4 arg5 harg5 arg6 harg6 hc0 hc1 hc2 x0 x1 xs = k0_pay4 (k0_pay3 x0 x1 xs) := by
  unfold out0_B_2
  rw [View.read_writes_eq_canon _ _ _ (fun _ => cover0_B_2 ..)]
  unfold kernelRun0_B
  dsimp only
  sl_unfold_words
  simp only [View.readAt_eq_ld, Memref.IsWhole.read_unread]
  simp (disch := decide) only [View.readCov_fill]
  rw [View.canon_unit_zero Mm.zero2]
  repeat rw [View.ld_unit_zero Mm.zero2]

end Cases

theorem pay2_at (x0 x1 : Vec Ideal S2048x1024 .bf16) (r s : Fin 1024) :
    k0_pay2 x0 x1 (ix2 r s) = k0_pay1 x0 x1 (ix2 r s) := by
  unfold k0_pay2
  simp only [pointwise]

theorem pay4_at (x0 x1 : Vec Ideal S2048x1024 .bf16) (xs : Vec Ideal S1024x1024 .f32)
    (r s : Fin 1024) :
    k0_pay4 (k0_pay3 x0 x1 xs) (ix2 r s) = xs (ix2 r s) + k0_pay1 x0 x1 (ix2 r s) := by
  unfold k0_pay4 k0_pay3
  simp only [pointwise]

variable (m : (ℓ : Loc nD τ sig) → Buf (Elt Ideal) ℓ)

abbrev aA (c : Dev nD) : Vec Ideal S4096x1024 .bf16 := m (c.tc.loc main_arg0)
abbrev aB (c : Dev nD) : Vec Ideal S4096x1024 .bf16 := m (c.tc.loc main_arg1)

theorem idx_facts : ∀ t : Fin grid0.N, win0_0.index t 0 = t.val % 2 ∧ win0_0.index t 1 = t.val / 2 ∧ win0_1.index t 0 = t.val % 2 ∧ win0_1.index t 1 = 0 ∧ win0_2.index t 0 = t.val / 2 ∧ win0_2.index t 1 = 0 := by decide +kernel

theorem blk0_at (c : Dev nD) (t : Fin cfg0.N) (y : S2048x1024.Idx) (z : S4096x1024.Idx)
    (h0 : (z 0).val = 2048 * (t.val % 2) + (y 0).val) (h1 : (z 1).val = 1024 * (t.val / 2) + (y 1).val) :
    iblk m c 0 t y = aA m c z := by
  obtain ⟨q00, q01, -⟩ := idx_facts t
  refine (congrFun (V_main_arg0 m c) _).trans (congrArg _ (Mm.idx2 (Mm.at_ 2048 q00 (by omega)) (Mm.at_ 1024 q01 (by omega))))

theorem blk1_at (c : Dev nD) (t : Fin cfg0.N) (y : S2048x1024.Idx) (z : S4096x1024.Idx)
    (h0 : (z 0).val = 2048 * (t.val % 2) + (y 0).val) (h1 : (z 1).val = (y 1).val) :
    iblk m c 1 t y = aB m c z := by
  obtain ⟨-, -, q10, q11, -⟩ := idx_facts t
  refine (congrFun (V_main_arg1 m c) _).trans (congrArg _ (Mm.idx2 (Mm.at_ 2048 q10 (by omega)) (Mm.at_ 1024 q11 (by omega))))

theorem flushed (c : Dev nD) (t : Fin cfg0.N) (hf : (cfg0.win 2).flush t = true) :
    (dats m 0 c).flushed 2 t = ((cfg0.win 2).blk t).view.read (Elt Ideal) (G (aA m c) (aB m c)) := by
  obtain ⟨-, -, -, -, q20, q21⟩ := idx_facts t
  have h1 : t.val % 2 = 1 := (flush0_2 t).mp hf
  have h0 : ¬t.val % 2 = 0 := by omega
  obtain ⟨u, hu⟩ : ∃ u : Fin cfg0.N, u.val = t.val - 1 := ⟨⟨t.val - 1, by have := t.isLt; omega⟩, rfl⟩
  have hs : (outsAt0 m c (t.val - 1) (Nat.lt_of_le_of_lt (Nat.sub_le _ _) t.isLt)).2 = k0_pay2 (iblk m c 0 u) (iblk m c 1 u) := by
    have e : outsAt0 m c (t.val - 1) (Nat.lt_of_le_of_lt (Nat.sub_le _ _) t.isLt) = outsAt0 m c u.val u.isLt := by
      congr 1; exact hu.symm
    rw [e, outsAt0_A m c u (by omega) (by omega) (by omega)]
    dsimp only
    rw [sout_A]
  rw [Value.flushed2_B m c t h0 h1 h1, out_B, hs]
  funext y
  obtain ⟨r, s, rfl⟩ := Mm.ex2 1024 1024 y
  rw [View.read_apply]
  refine (pay4_at _ _ _ r s).trans ?_
  rw [pay2_at, pay_at, pay_at]
  have er : ((((cfg0.win 2).blk t).view.emb (ix2 r s)) 0).val = 1024 * (t.val / 2) + r.val := Mm.at' 1024 r.val _ q20 (by omega)
  have es : ((((cfg0.win 2).blk t).view.emb (ix2 r s)) 1).val = s.val := Mm.at' 1024 s.val _ q21 (by omega)
  unfold G E
  rw [Mm.sum_halves (n := 2048) rfl]
  refine congrArg₂ (· + ·) (Finset.sum_congr rfl fun k _ => congrArg₂ (· * ·) (blk0_at m c u _ _ ?_ ?_) (blk1_at m c u _ _ ?_ ?_))
    (Finset.sum_congr rfl fun k _ => congrArg₂ (· * ·) (blk0_at m c t _ _ ?_ ?_) (blk1_at m c t _ _ ?_ ?_))
  · show k.val = 2048 * (u.val % 2) + k.val; omega
  · refine er.trans ?_; show _ = 1024 * (u.val / 2) + r.val; omega
  · show k.val = 2048 * (u.val % 2) + k.val; omega
  · exact es
  · show 2048 + k.val = 2048 * (t.val % 2) + k.val; omega
  · refine er.trans ?_; show _ = 1024 * (t.val / 2) + r.val; omega
  · show 2048 + k.val = 2048 * (t.val % 2) + k.val; omega
  · exact es

theorem final (c : Dev nD) : (dats m 0 c).arrAt 2 cfg0.N = G (aA m c) (aB m c) :=
  (dats m 0 c).arrAt_eq_of_cover 2 _ (fun t hf => flushed m c t hf) fun i => by
    have h1 : (i 0 : Nat) < 1024 := (i 0).isLt
    have h2 : (i 1 : Nat) < 1024 := (i 1).isLt
    have hN : cfg0.N = 2 := N_0
    obtain ⟨t, ht0, ht1⟩ : ∃ t : Fin cfg0.N, t.val / 2 = (i 0 : Nat) / 1024 ∧ t.val % 2 = 1 :=
      ⟨⟨2 * ((i 0 : Nat) / 1024) + 1, by omega⟩, by dsimp only; omega, by dsimp only; omega⟩
    obtain ⟨-, -, -, -, q20, q21⟩ := idx_facts t
    refine ⟨t, (flush0_2 t).mpr ht1, ?_⟩
    show i ∈ ((View.whole main_v0).slice (win0_2.rect t)).set
    rw [View.set_slice_whole]
    exact Mm.mem2 1024 1024 q20 q21 (by omega) (by omega)

/-- What every run ends with. -/
theorem run (ρ : Dev nD → PrngReg) : θ_run defs (onTc (τ := τ) (main (F := Ideal))) ⟨m, fun _ => 0, ρ⟩ fun r => ∀ c : Dev nD,
      r.2.mem (c.tc.loc main_v0) = G (aA m c) (aB m c) ∧ Mm.kept m r.2.mem c main_arg0 ∧ Mm.kept m r.2.mem c main_arg1 :=
  (θ_run defs _ _).mono (fun _ h c => ⟨(h c).1.trans (final m c), (h c).2⟩) (Value.run_blocks m ρ)

open Reference16Ideal.Read in
/-- One entry of the reference's product. -/
theorem ref_E (x0 x1 : Vec Ideal S4096x1024 .bf16) (r s : Fin 1024) :
    val_main_v6 (F := Ideal) x0 x1 (ix2 r s) = E x0 x1 r s := by
  unfold E
  show val_main_v5 (F := Ideal) x0 x1 _ = _
  rw [val_main_v5_apply]
  rw [val_main_v4_apply]
  refine Finset.sum_congr rfl fun k _ => ?_
  rw [mul_comm]
  refine congrArg₂ (· * ·) ?_ ?_
  · show x0 _ = _
    exact congrArg x0 (Mm.idx2 rfl rfl)
  · show x1 _ = _
    exact congrArg x1 (Mm.idx2 rfl rfl)

open Reference16Ideal.Read in
/-- The reference's result. -/
theorem ref_eq (x0 x1 : Vec Ideal S4096x1024 .bf16) :
    val_main_v6 (F := Ideal) x0 x1 = G x0 x1 := by
  funext i
  obtain ⟨r, s, rfl⟩ := Mm.ex2 1024 1024 i
  exact ref_E x0 x1 r s

end Cert.Kernel16Ideal.Prod

namespace Cert.Proof.K16
open Idealize ShloMosaic SL.Sem

/-- The reference ends. -/
theorem frameRef : quiescent_Reference16Ideal := fun m ρ _ =>
  (θ_run Reference16Ideal.defs _ _).mono (fun r h => ⟨fun c => (h c).2, sem_eq_zero_of_no_sems (by decide) r.2⟩)
    (Reference16Ideal.Value.run m ρ)

/-- The call's result is the reference's. -/
theorem algebraic : algebraic_Kernel16Ideal_Reference16Ideal := by
  intro m ρ m' ρ' hpre hargs
  refine ⟨_, Kernel16Ideal.Prod.run m ρ, (θ_run Reference16Ideal.defs _ _).mono (fun r h c => ?_)
    (Reference16Ideal.Value.run m' ρ')⟩
  obtain ⟨h0, hk⟩ := h c
  refine ⟨?_, hk⟩
  refine h0.trans ((Reference16Ideal.Read.val_main_v6_eq _ _).trans ?_)
  rw [(hargs c).1, (hargs c).2]
  exact Kernel16Ideal.Prod.ref_eq _ _

end Cert.Proof.K16
-- ==== Proof.Mm.P17.lean ====
/-
  The gradient of the SSD layer's input weight, the columns of the step sizes: the call's tiles put together are the product, and the reference's
  product is the same sum.
-/
module

public import proofs.«01_k».proof.Proof.Gen.Kernel17.Frame
public import proofs.«01_k».proof.Proof.Gen.Kernel17Ideal.Value
public import proofs.«01_k».proof.Proof.Gen.Reference17Ideal.Read
public import proofs.«01_k».proof.Proof.Mm.Sum

@[expose] public section

noncomputable section

namespace Cert.Kernel17Ideal.Prod

open Kernel17Ideal Kernel17Ideal.Gen Idealize ShloMosaic ShloMosaic.TcCoe SL.Sem

/-- One entry of the product. -/
def E (A : Vec Ideal S4096x1024 .bf16) (B : Vec Ideal S4096x128 .f32) (r : Fin 1024) (s : Fin 128) : EReal :=
  ∑ k : Fin 4096, A (ix2 k r) * B (ix2 k s)

/-- The call's result. -/
def G (A : Vec Ideal S4096x1024 .bf16) (B : Vec Ideal S4096x128 .f32) : Vec Ideal S1024x128 .bf16 :=
  fun i => E A B ⟨(i 0).val, (i 0).isLt⟩ ⟨(i 1).val, (i 1).isLt⟩

/-- One tile's product. -/
theorem pay_at (x0 : Vec Ideal S2048x1024 .bf16) (x1 : Vec Ideal S2048x128 .f32) (r : Fin 1024) (s : Fin 128) :
    k0_pay1 x0 x1 (ix2 r s) = ∑ k : Fin 2048, x0 (ix2 k r) * x1 (ix2 k s) := by
  unfold k0_pay1
  simp only [pointwise]
  rw [zero_add]

section Cases

variable (c : Dev nD) (i : grid0.Coords) (arg3 : Memref sig .tc .vmem S2048x1024 .bf16) (harg3 : arg3.IsWhole) (arg4 : Memref sig .tc .vmem S2048x128 .f32) (harg4 : arg4.IsWhole) (arg5 : Memref sig .tc .vmem S1024x128 .bf16) (harg5 : arg5.IsWhole) (arg6 : Memref sig .tc .vmem S1024x128 .f32) (harg6 : arg6.IsWhole)
  (x0 : Vec Ideal S2048x1024 .bf16) (x1 : Vec Ideal S2048x128 .f32) (xs : Vec Ideal S1024x128 .f32)

theorem sout_A (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (fun _ => scover0_A_0 ..)]
  unfold kernelRun0_A
  dsimp only
  sl_unfold_words
  simp only [View.readAt_eq_ld, Memref.IsWhole.read_unread]
  rw [View.canon_unit_zero Mm.zero2]
  repeat rw [View.ld_unit_zero Mm.zero2]

theorem out_B (hc0 : ¬cond0_0 i) (hc1 : cond0_1 i) (hc2 : cond0_2 i) :
    out0_B_2 c i arg3 harg3 arg4 harg4 arg5 harg5 arg6 harg6 hc0 hc1 hc2 x0 x1 xs = k0_pay4 (k0_pay3 x0 x1 xs) := by
  unfold out0_B_2
  rw [View.read_writes_eq_canon _ _ _ (fun _ => cover0_B_2 ..)]
  unfold kernelRun0_B
  dsimp only
  sl_unfold_words
  simp only [View.readAt_eq_ld, Memref.IsWhole.read_unread]
  simp (disch := decide) only [View.readCov_fill]
  rw [View.canon_unit_zero Mm.zero2]
  repeat rw [View.ld_unit_zero Mm.zero2]

end Cases

theorem pay2_at (x0 : Vec Ideal S2048x1024 .bf16) (x1 : Vec Ideal S2048x128 .f32) (r : Fin 1024) (s : Fin 128) :
    k0_pay2 x0 x1 (ix2 r s) = k0_pay1 x0 x1 (ix2 r s) := by
  unfold k0_pay2
  simp only [pointwise]

theorem pay4_at (x0 : Vec Ideal S2048x1024 .bf16) (x1 : Vec Ideal S2048x128 .f32) (xs : Vec Ideal S1024x128 .f32)
    (r : Fin 1024) (s : Fin 128) :
    k0_pay4 (k0_pay3 x0 x1 xs) (ix2 r s) = xs (ix2 r s) + k0_pay1 x0 x1 (ix2 r s) := by
  unfold k0_pay4 k0_pay3
  simp only [pointwise]

variable (m : (ℓ : Loc nD τ sig) → Buf (Elt Ideal) ℓ)

abbrev aA (c : Dev nD) : Vec Ideal S4096x1024 .bf16 := m (c.tc.loc main_arg0)
abbrev aB (c : Dev nD) : Vec Ideal S4096x128 .f32 := m (c.tc.loc main_arg1)

theorem idx_facts : ∀ t : Fin grid0.N, win0_0.index t 0 = t.val % 2 ∧ win0_0.index t 1 = t.val / 2 ∧ win0_1.index t 0 = t.val % 2 ∧ win0_1.index t 1 = 0 ∧ win0_2.index t 0 = t.val / 2 ∧ win0_2.index t 1 = 0 := by decide +kernel

theorem blk0_at (c : Dev nD) (t : Fin cfg0.N) (y : S2048x1024.Idx) (z : S4096x1024.Idx)
    (h0 : (z 0).val = 2048 * (t.val % 2) + (y 0).val) (h1 : (z 1).val = 1024 * (t.val / 2) + (y 1).val) :
    iblk m c 0 t y = aA m c z := by
  obtain ⟨q00, q01, -⟩ := idx_facts t
  refine (congrFun (V_main_arg0 m c) _).trans (congrArg _ (Mm.idx2 (Mm.at_ 2048 q00 (by omega)) (Mm.at_ 1024 q01 (by omega))))

theorem blk1_at (c : Dev nD) (t : Fin cfg0.N) (y : S2048x128.Idx) (z : S4096x128.Idx)
    (h0 : (z 0).val = 2048 * (t.val % 2) + (y 0).val) (h1 : (z 1).val = (y 1).val) :
    iblk m c 1 t y = aB m c z := by
  obtain ⟨-, -, q10, q11, -⟩ := idx_facts t
  refine (congrFun (V_main_arg1 m c) _).trans (congrArg _ (Mm.idx2 (Mm.at_ 2048 q10 (by omega)) (Mm.at_ 128 q11 (by omega))))

theorem flushed (c : Dev nD) (t : Fin cfg0.N) (hf : (cfg0.win 2).flush t = true) :
    (dats m 0 c).flushed 2 t = ((cfg0.win 2).blk t).view.read (Elt Ideal) (G (aA m c) (aB m c)) := by
  obtain ⟨-, -, -, -, q20, q21⟩ := idx_facts t
  have h1 : t.val % 2 = 1 := (flush0_2 t).mp hf
  have h0 : ¬t.val % 2 = 0 := by omega
  obtain ⟨u, hu⟩ : ∃ u : Fin cfg0.N, u.val = t.val - 1 := ⟨⟨t.val - 1, by have := t.isLt; omega⟩, rfl⟩
  have hs : (outsAt0 m c (t.val - 1) (Nat.lt_of_le_of_lt (Nat.sub_le _ _) t.isLt)).2 = k0_pay2 (iblk m c 0 u) (iblk m c 1 u) := by
    have e : outsAt0 m c (t.val - 1) (Nat.lt_of_le_of_lt (Nat.sub_le _ _) t.isLt) = outsAt0 m c u.val u.isLt := by
      congr 1; exact hu.symm
    rw [e, outsAt0_A m c u (by omega) (by omega) (by omega)]
    dsimp only
    rw [sout_A]
  rw [Value.flushed2_B m c t h0 h1 h1, out_B, hs]
  funext y
  obtain ⟨r, s, rfl⟩ := Mm.ex2 1024 128 y
  rw [View.read_apply]
  refine (pay4_at _ _ _ r s).trans ?_
  rw [pay2_at, pay_at, pay_at]
  have er : ((((cfg0.win 2).blk t).view.emb (ix2 r s)) 0).val = 1024 * (t.val / 2) + r.val := Mm.at' 1024 r.val _ q20 (by omega)
  have es : ((((cfg0.win 2).blk t).view.emb (ix2 r s)) 1).val = s.val := Mm.at' 128 s.val _ q21 (by omega)
  unfold G E
  rw [Mm.sum_halves (n := 2048) rfl]
  refine congrArg₂ (· + ·) (Finset.sum_congr rfl fun k _ => congrArg₂ (· * ·) (blk0_at m c u _ _ ?_ ?_) (blk1_at m c u _ _ ?_ ?_))
    (Finset.sum_congr rfl fun k _ => congrArg₂ (· * ·) (blk0_at m c t _ _ ?_ ?_) (blk1_at m c t _ _ ?_ ?_))
  · show k.val = 2048 * (u.val % 2) + k.val; omega
  · refine er.trans ?_; show _ = 1024 * (u.val / 2) + r.val; omega
  · show k.val = 2048 * (u.val % 2) + k.val; omega
  · exact es
  · show 2048 + k.val = 2048 * (t.val % 2) + k.val; omega
  · refine er.trans ?_; show _ = 1024 * (t.val / 2) + r.val; omega
  · show 2048 + k.val = 2048 * (t.val % 2) + k.val; omega
  · exact es

theorem final (c : Dev nD) : (dats m 0 c).arrAt 2 cfg0.N = G (aA m c) (aB m c) :=
  (dats m 0 c).arrAt_eq_of_cover 2 _ (fun t hf => flushed m c t hf) fun i => by
    have h1 : (i 0 : Nat) < 1024 := (i 0).isLt
    have h2 : (i 1 : Nat) < 128 := (i 1).isLt
    have hN : cfg0.N = 2 := N_0
    obtain ⟨t, ht0, ht1⟩ : ∃ t : Fin cfg0.N, t.val / 2 = (i 0 : Nat) / 1024 ∧ t.val % 2 = 1 :=
      ⟨⟨2 * ((i 0 : Nat) / 1024) + 1, by omega⟩, by dsimp only; omega, by dsimp only; omega⟩
    obtain ⟨-, -, -, -, q20, q21⟩ := idx_facts t
    refine ⟨t, (flush0_2 t).mpr ht1, ?_⟩
    show i ∈ ((View.whole main_v0).slice (win0_2.rect t)).set
    rw [View.set_slice_whole]
    exact Mm.mem2 1024 128 q20 q21 (by omega) (by omega)

/-- What every run ends with. -/
theorem run (ρ : Dev nD → PrngReg) : θ_run defs (onTc (τ := τ) (main (F := Ideal))) ⟨m, fun _ => 0, ρ⟩ fun r => ∀ c : Dev nD,
      r.2.mem (c.tc.loc main_v0) = G (aA m c) (aB m c) ∧ Mm.kept m r.2.mem c main_arg0 ∧ Mm.kept m r.2.mem c main_arg1 :=
  (θ_run defs _ _).mono (fun _ h c => ⟨(h c).1.trans (final m c), (h c).2⟩) (Value.run_blocks m ρ)

open Reference17Ideal.Read in
/-- One entry of the reference's product. -/
theorem ref_E (x0 : Vec Ideal S4096x1024 .bf16) (x1 : Vec Ideal S4096x128 .f32) (r : Fin 1024) (s : Fin 128) :
    val_main_v5 (F := Ideal) x0 x1 (ix2 r s) = E x0 x1 r s := by
  unfold E
  show val_main_v4 (F := Ideal) x0 x1 _ = _
  rw [val_main_v4_apply]
  rw [val_main_v3_apply]
  refine Finset.sum_congr rfl fun k _ => ?_
  rw [mul_comm]
  refine congrArg₂ (· * ·) ?_ ?_
  · show x0 _ = _
    exact congrArg x0 (Mm.idx2 rfl rfl)
  · exact congrArg x1 (Mm.idx2 rfl rfl)

open Reference17Ideal.Read in
/-- The reference's result. -/
theorem ref_eq (x0 : Vec Ideal S4096x1024 .bf16) (x1 : Vec Ideal S4096x128 .f32) :
    val_main_v5 (F := Ideal) x0 x1 = G x0 x1 := by
  funext i
  obtain ⟨r, s, rfl⟩ := Mm.ex2 1024 128 i
  exact ref_E x0 x1 r s

end Cert.Kernel17Ideal.Prod

namespace Cert.Proof.K17
open Idealize ShloMosaic SL.Sem

/-- The reference ends. -/
theorem frameRef : quiescent_Reference17Ideal := fun m ρ _ =>
  (θ_run Reference17Ideal.defs _ _).mono (fun r h => ⟨fun c => (h c).2, sem_eq_zero_of_no_sems (by decide) r.2⟩)
    (Reference17Ideal.Value.run m ρ)

/-- The call's result is the reference's. -/
theorem algebraic : algebraic_Kernel17Ideal_Reference17Ideal := by
  intro m ρ m' ρ' hpre hargs
  refine ⟨_, Kernel17Ideal.Prod.run m ρ, (θ_run Reference17Ideal.defs _ _).mono (fun r h c => ?_)
    (Reference17Ideal.Value.run m' ρ')⟩
  obtain ⟨h0, hk⟩ := h c
  refine ⟨?_, hk⟩
  refine h0.trans ((Reference17Ideal.Read.val_main_v5_eq _ _).trans ?_)
  rw [(hargs c).1, (hargs c).2]
  exact Kernel17Ideal.Prod.ref_eq _ _

end Cert.Proof.K17
-- ==== Proof.Mm.P18.lean ====
/-
  The gradient of the SSD layer's input, through the gate z: the call's tiles put together are the product, and the reference's
  product is the same sum.
-/
module

public import proofs.«01_k».proof.Proof.Gen.Kernel18.Frame
public import proofs.«01_k».proof.Proof.Gen.Kernel18Ideal.Value
public import proofs.«01_k».proof.Proof.Gen.Reference18Ideal.Read
public import proofs.«01_k».proof.Proof.Mm.Sum

@[expose] public section

noncomputable section

namespace Cert.Kernel18Ideal.Prod

open Kernel18Ideal Kernel18Ideal.Gen Idealize ShloMosaic ShloMosaic.TcCoe SL.Sem

/-- One entry of the product. -/
def E (A : Vec Ideal S4096x2048 .bf16) (B : Vec Ideal S1024x5152 .bf16) (r : Fin 4096) (s : Fin 1024) : EReal :=
  ∑ k : Fin 2048, A (ix2 r k) * B (ix2 s ⟨k.val, by have := k.isLt; omega⟩)

/-- The call's result. -/
def G (A : Vec Ideal S4096x2048 .bf16) (B : Vec Ideal S1024x5152 .bf16) : Vec Ideal S4096x1024 .f32 :=
  fun i => E A B ⟨(i 0).val, (i 0).isLt⟩ ⟨(i 1).val, (i 1).isLt⟩

/-- One tile's product. -/
theorem pay_at (x0 x1 : Vec Ideal S1024x2048 .bf16) (r s : Fin 1024) :
    k0_pay1 x0 x1 (ix2 r s) = ∑ k : Fin 2048, x0 (ix2 r k) * x1 (ix2 s k) := by
  unfold k0_pay1
  simp only [pointwise]
  rw [zero_add]

section Cases

variable (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole)
  (x0 x1 : Vec Ideal S1024x2048 .bf16)

theorem out_eq : out0_A_2 c i arg3 harg3 arg4 harg4 arg5 harg5 x0 x1 = k0_pay1 x0 x1 := by
  unfold out0_A_2
  rw [View.read_writes_eq_canon _ _ _ (fun _ => cover0_A_2 ..)]
  unfold kernelRun0_A
  dsimp only
  sl_unfold_words
  simp only [View.readAt_eq_ld, Memref.IsWhole.read_unread]
  rw [View.canon_unit_zero Mm.zero2]
  repeat rw [View.ld_unit_zero Mm.zero2]

end Cases

variable (m : (ℓ : Loc nD τ sig) → Buf (Elt Ideal) ℓ)

abbrev aA (c : Dev nD) : Vec Ideal S4096x2048 .bf16 := m (c.tc.loc main_arg0)
abbrev aB (c : Dev nD) : Vec Ideal S1024x5152 .bf16 := m (c.tc.loc main_arg1)

theorem idx_facts : ∀ t : Fin grid0.N, win0_0.index t 0 = t.val ∧ win0_0.index t 1 = 0 ∧ win0_1.index t 0 = 0 ∧ win0_1.index t 1 = 0 ∧ win0_2.index t 0 = t.val ∧ win0_2.index t 1 = 0 := by decide +kernel

theorem blk0_at (c : Dev nD) (t : Fin cfg0.N) (y : S1024x2048.Idx) (z : S4096x2048.Idx)
    (h0 : (z 0).val = 1024 * (t.val) + (y 0).val) (h1 : (z 1).val = (y 1).val) :
    iblk m c 0 t y = aA m c z := by
  obtain ⟨q00, q01, -⟩ := idx_facts t
  refine (congrFun (V_main_arg0 m c) _).trans (congrArg _ (Mm.idx2 (Mm.at_ 1024 q00 (by omega)) (Mm.at_ 2048 q01 (by omega))))

theorem blk1_at (c : Dev nD) (t : Fin cfg0.N) (y : S1024x2048.Idx) (z : S1024x5152.Idx)
    (h0 : (z 0).val = (y 0).val) (h1 : (z 1).val = (y 1).val) :
    X0_1 m c t y = aB m c z := by
  obtain ⟨-, -, q10, q11, -⟩ := idx_facts t
  unfold X0_1 Pipeline.Window.fill
  rw [dif_pos (moved0_1 t y)]
  refine (congrFun (V_main_arg1 m c) _).trans (congrArg _ (Mm.idx2 (Mm.at' 1024 (y 0).val _ q10 (by omega)) (Mm.at' 2048 (y 1).val _ q11 (by omega))))

theorem flushed (c : Dev nD) (t : Fin cfg0.N) :
    (dats m 0 c).flushed 2 t = ((cfg0.win 2).blk t).view.read (Elt Ideal) (G (aA m c) (aB m c)) := by
  obtain ⟨-, -, -, -, q20, q21⟩ := idx_facts t
  rw [Value.flushed2_A, out_eq]
  funext y
  obtain ⟨r, s, rfl⟩ := Mm.ex2 1024 1024 y
  rw [View.read_apply]
  refine (pay_at _ _ r s).trans ?_
  have er : ((((cfg0.win 2).blk t).view.emb (ix2 r s)) 0).val = 1024 * (t.val) + r.val := Mm.at' 1024 r.val _ q20 (by omega)
  have es : ((((cfg0.win 2).blk t).view.emb (ix2 r s)) 1).val = s.val := Mm.at' 1024 s.val _ q21 (by omega)
  unfold G E
  refine Finset.sum_congr rfl fun k _ => congrArg₂ (· * ·) (blk0_at m c t _ _ ?_ ?_) (blk1_at m c t _ _ ?_ ?_)
  · refine er.trans ?_; show _ = 1024 * (t.val) + r.val; omega
  · rfl
  · exact es
  · rfl

theorem final (c : Dev nD) : (dats m 0 c).arrAt 2 cfg0.N = G (aA m c) (aB m c) :=
  (dats m 0 c).arrAt_eq_of_cover 2 _ (fun t _ => flushed m c t) fun i => by
    have h1 : (i 0 : Nat) < 4096 := (i 0).isLt
    have h2 : (i 1 : Nat) < 1024 := (i 1).isLt
    have hN : cfg0.N = 4 := N_0
    obtain ⟨t, ht0⟩ : ∃ t : Fin cfg0.N, t.val = (i 0 : Nat) / 1024 :=
      ⟨⟨(i 0 : Nat) / 1024, by omega⟩, rfl⟩
    obtain ⟨-, -, -, -, q20, q21⟩ := idx_facts t
    exact ⟨t, flush0_2 t, Mm.memv (Mm.mem2 1024 1024 q20 q21 (by omega) (by omega))⟩

/-- What every run ends with. -/
theorem run (ρ : Dev nD → PrngReg) : θ_run defs (onTc (τ := τ) (main (F := Ideal))) ⟨m, fun _ => 0, ρ⟩ fun r => ∀ c : Dev nD,
      r.2.mem (c.tc.loc main_v0) = G (aA m c) (aB m c) ∧ Mm.kept m r.2.mem c main_arg0 ∧ Mm.kept m r.2.mem c main_arg1 :=
  (θ_run defs _ _).mono (fun _ h c => ⟨(h c).1.trans (final m c), (h c).2⟩) (Value.run_blocks m ρ)

open Reference18Ideal.Read in
/-- One entry of the reference's product. -/
theorem ref_E (x0 : Vec Ideal S4096x2048 .bf16) (x1 : Vec Ideal S1024x5152 .bf16) (r : Fin 4096) (s : Fin 1024) :
    val_main_v5 (F := Ideal) x0 x1 (ix2 r s) = E x0 x1 r s := by
  unfold E
  rw [val_main_v5_apply]
  refine Finset.sum_congr rfl fun k _ => ?_
  refine congrArg₂ (· * ·) ?_ ?_
  · show x0 _ = _
    exact congrArg x0 (Mm.idx2 rfl rfl)
  · show val_main_v1 (F := Ideal) x1 _ = _
    rw [val_main_v1_apply]
    exact congrArg x1 (Mm.idx2 rfl rfl)

open Reference18Ideal.Read in
/-- The reference's result. -/
theorem ref_eq (x0 : Vec Ideal S4096x2048 .bf16) (x1 : Vec Ideal S1024x5152 .bf16) :
    val_main_v5 (F := Ideal) x0 x1 = G x0 x1 := by
  funext i
  obtain ⟨r, s, rfl⟩ := Mm.ex2 4096 1024 i
  exact ref_E x0 x1 r s

end Cert.Kernel18Ideal.Prod

namespace Cert.Proof.K18
open Idealize ShloMosaic SL.Sem

/-- The reference ends. -/
theorem frameRef : quiescent_Reference18Ideal := fun m ρ _ =>
  (θ_run Reference18Ideal.defs _ _).mono (fun r h => ⟨fun c => (h c).2, sem_eq_zero_of_no_sems (by decide) r.2⟩)
    (Reference18Ideal.Value.run m ρ)

/-- The call's result is the reference's. -/
theorem algebraic : algebraic_Kernel18Ideal_Reference18Ideal := by
  intro m ρ m' ρ' hpre hargs
  refine ⟨_, Kernel18Ideal.Prod.run m ρ, (θ_run Reference18Ideal.defs _ _).mono (fun r h c => ?_)
    (Reference18Ideal.Value.run m' ρ')⟩
  obtain ⟨h0, hk⟩ := h c
  refine ⟨?_, hk⟩
  refine h0.trans ((Reference18Ideal.Read.val_main_v5_eq _ _).trans ?_)
  rw [(hargs c).1, (hargs c).2]
  exact Kernel18Ideal.Prod.ref_eq _ _

end Cert.Proof.K18
-- ==== Proof.Mm.P19.lean ====
/-
  The gradient of the SSD layer's input, through x: the call's tiles put together are the product, and the reference's
  product is the same sum.
-/
module

public import proofs.«01_k».proof.Proof.Gen.Kernel19.Frame
public import proofs.«01_k».proof.Proof.Gen.Kernel19Ideal.Value
public import proofs.«01_k».proof.Proof.Gen.Reference19Ideal.Read
public import proofs.«01_k».proof.Proof.Mm.Sum

@[expose] public section

noncomputable section

namespace Cert.Kernel19Ideal.Prod

open Kernel19Ideal Kernel19Ideal.Gen Idealize ShloMosaic ShloMosaic.TcCoe SL.Sem

/-- One entry of the product, plus what was there before. -/
def E (A : Vec Ideal S4096x2048 .bf16) (B : Vec Ideal S1024x5152 .bf16) (X : Vec Ideal S4096x1024 .f32) (r : Fin 4096) (s : Fin 1024) : EReal :=
  ∑ k : Fin 2048, A (ix2 r k) * B (ix2 s ⟨2048 + k.val, by have := k.isLt; omega⟩) + X (ix2 r s)

/-- The call's result. -/
def G (A : Vec Ideal S4096x2048 .bf16) (B : Vec Ideal S1024x5152 .bf16) (X : Vec Ideal S4096x1024 .f32) : Vec Ideal S4096x1024 .f32 :=
  fun i => E A B X ⟨(i 0).val, (i 0).isLt⟩ ⟨(i 1).val, (i 1).isLt⟩

/-- One tile's product. -/
theorem pay_at (x0 x1 : Vec Ideal S1024x2048 .bf16) (x2 : Vec Ideal S1024x1024 .f32) (r s : Fin 1024) :
    k0_pay1 x0 x1 x2 (ix2 r s) = ∑ k : Fin 2048, x0 (ix2 r k) * x1 (ix2 s k) + x2 (ix2 r s) := by
  unfold k0_pay1
  simp only [pointwise]
  rw [zero_add]

section Cases

variable (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole)
  (x0 x1 : Vec Ideal S1024x2048 .bf16) (x2 : Vec Ideal S1024x1024 .f32)

theorem out_eq : out0_A_3 c i arg3 harg3 arg4 harg4 arg5 harg5 arg6 harg6 x0 x1 x2 = k0_pay1 x0 x1 x2 := by
  unfold out0_A_3
  rw [View.read_writes_eq_canon _ _ _ (fun _ => cover0_A_3 ..)]
  unfold kernelRun0_A
  dsimp only
  sl_unfold_words
  simp only [View.readAt_eq_ld, Memref.IsWhole.read_unread]
  rw [View.canon_unit_zero Mm.zero2]
  repeat rw [View.ld_unit_zero Mm.zero2]

end Cases

variable (m : (ℓ : Loc nD τ sig) → Buf (Elt Ideal) ℓ)

abbrev aA (c : Dev nD) : Vec Ideal S4096x2048 .bf16 := m (c.tc.loc main_arg0)
abbrev aB (c : Dev nD) : Vec Ideal S1024x5152 .bf16 := m (c.tc.loc main_arg1)
abbrev aX (c : Dev nD) : Vec Ideal S4096x1024 .f32 := m (c.tc.loc main_arg2)

theorem idx_facts : ∀ t : Fin grid0.N, win0_0.index t 0 = t.val ∧ win0_0.index t 1 = 0 ∧ win0_1.index t 0 = 0 ∧ win0_1.index t 1 = 1 ∧ win0_2.index t 0 = t.val ∧ win0_2.index t 1 = 0 ∧ win0_3.index t 0 = t.val ∧ win0_3.index t 1 = 0 := by decide +kernel

theorem blk0_at (c : Dev nD) (t : Fin cfg0.N) (y : S1024x2048.Idx) (z : S4096x2048.Idx)
    (h0 : (z 0).val = 1024 * (t.val) + (y 0).val) (h1 : (z 1).val = (y 1).val) :
    iblk m c 0 t y = aA m c z := by
  obtain ⟨q00, q01, -⟩ := idx_facts t
  refine (congrFun (V_main_arg0 m c) _).trans (congrArg _ (Mm.idx2 (Mm.at_ 1024 q00 (by omega)) (Mm.at_ 2048 q01 (by omega))))

theorem blk1_at (c : Dev nD) (t : Fin cfg0.N) (y : S1024x2048.Idx) (z : S1024x5152.Idx)
    (h0 : (z 0).val = (y 0).val) (h1 : (z 1).val = 2048 * (1) + (y 1).val) :
    X0_1 m c t y = aB m c z := by
  obtain ⟨-, -, q10, q11, -⟩ := idx_facts t
  unfold X0_1 Pipeline.Window.fill
  rw [dif_pos (moved0_1 t y)]
  refine (congrFun (V_main_arg1 m c) _).trans (congrArg _ (Mm.idx2 (Mm.at' 1024 (y 0).val _ q10 (by omega)) (Mm.at' 2048 (y 1).val _ q11 (by omega))))

theorem blk2_at (c : Dev nD) (t : Fin cfg0.N) (y : S1024x1024.Idx) (z : S4096x1024.Idx)
    (h0 : (z 0).val = 1024 * (t.val) + (y 0).val) (h1 : (z 1).val = (y 1).val) :
    iblk m c 2 t y = aX m c z := by
  obtain ⟨-, -, -, -, q20, q21, -⟩ := idx_facts t
  refine (congrFun (V_main_arg2 m c) _).trans (congrArg _ (Mm.idx2 (Mm.at_ 1024 q20 (by omega)) (Mm.at_ 1024 q21 (by omega))))

theorem flushed (c : Dev nD) (t : Fin cfg0.N) :
    (dats m 0 c).flushed 3 t = ((cfg0.win 3).blk t).view.read (Elt Ideal) (G (aA m c) (aB m c) (aX m c)) := by
  obtain ⟨-, -, -, -, -, -, q30, q31⟩ := idx_facts t
  rw [Value.flushed3_A, out_eq]
  funext y
  obtain ⟨r, s, rfl⟩ := Mm.ex2 1024 1024 y
  rw [View.read_apply]
  refine (pay_at _ _ _ r s).trans ?_
  have er : ((((cfg0.win 3).blk t).view.emb (ix2 r s)) 0).val = 1024 * (t.val) + r.val := Mm.at' 1024 r.val _ q30 (by omega)
  have es : ((((cfg0.win 3).blk t).view.emb (ix2 r s)) 1).val = s.val := Mm.at' 1024 s.val _ q31 (by omega)
  unfold G E
  refine congrArg₂ (· + ·) (Finset.sum_congr rfl fun k _ => congrArg₂ (· * ·) (blk0_at m c t _ _ ?_ ?_) (blk1_at m c t _ _ ?_ ?_)) (blk2_at m c t _ _ ?_ ?_)
  · refine er.trans ?_; show _ = 1024 * (t.val) + r.val; omega
  · rfl
  · exact es
  · show 2048 + (k.val) = 2048 * (1) + k.val; omega
  · refine er.trans ?_; show _ = 1024 * (t.val) + r.val; omega
  · exact es

theorem final (c : Dev nD) : (dats m 0 c).arrAt 3 cfg0.N = G (aA m c) (aB m c) (aX m c) :=
  (dats m 0 c).arrAt_eq_of_cover 3 _ (fun t _ => flushed m c t) fun i => by
    have h1 : (i 0 : Nat) < 4096 := (i 0).isLt
    have h2 : (i 1 : Nat) < 1024 := (i 1).isLt
    have hN : cfg0.N = 4 := N_0
    obtain ⟨t, ht0⟩ : ∃ t : Fin cfg0.N, t.val = (i 0 : Nat) / 1024 :=
      ⟨⟨(i 0 : Nat) / 1024, by omega⟩, rfl⟩
    obtain ⟨-, -, -, -, -, -, q30, q31⟩ := idx_facts t
    exact ⟨t, flush0_3 t, Mm.memv (Mm.mem2 1024 1024 q30 q31 (by omega) (by omega))⟩

/-- What every run ends with. -/
theorem run (ρ : Dev nD → PrngReg) : θ_run defs (onTc (τ := τ) (main (F := Ideal))) ⟨m, fun _ => 0, ρ⟩ fun r => ∀ c : Dev nD,
      r.2.mem (c.tc.loc main_v0) = G (aA m c) (aB m c) (aX m c) ∧ Mm.kept m r.2.mem c main_arg0 ∧ Mm.kept m r.2.mem c main_arg1 ∧ Mm.kept m r.2.mem c main_arg2 :=
  (θ_run defs _ _).mono (fun _ h c => ⟨(h c).1.trans (final m c), (h c).2⟩) (Value.run_blocks m ρ)

open Reference19Ideal.Read in
/-- One entry of the reference's product. -/
theorem ref_E (x0 : Vec Ideal S4096x2048 .bf16) (x1 : Vec Ideal S1024x5152 .bf16) (x2 : Vec Ideal S4096x1024 .f32) (r : Fin 4096) (s : Fin 1024) :
    val_main_v6 (F := Ideal) x0 x1 x2 (ix2 r s) = E x0 x1 x2 r s := by
  unfold E
  rw [val_main_v6_apply]
  refine congrArg₂ (· + ·) ?_ ?_
  · rw [val_main_v5_apply]
    refine Finset.sum_congr rfl fun k _ => ?_
    refine congrArg₂ (· * ·) ?_ ?_
    · show x0 _ = _
      exact congrArg x0 (Mm.idx2 rfl rfl)
    · show val_main_v1 (F := Ideal) x1 _ = _
      rw [val_main_v1_apply]
      exact congrArg x1 (Mm.idx2 rfl rfl)
  · exact congrArg x2 (Mm.idx2 rfl rfl)

open Reference19Ideal.Read in
/-- The reference's result. -/
theorem ref_eq (x0 : Vec Ideal S4096x2048 .bf16) (x1 : Vec Ideal S1024x5152 .bf16) (x2 : Vec Ideal S4096x1024 .f32) :
    val_main_v6 (F := Ideal) x0 x1 x2 = G x0 x1 x2 := by
  funext i
  obtain ⟨r, s, rfl⟩ := Mm.ex2 4096 1024 i
  exact ref_E x0 x1 x2 r s

end Cert.Kernel19Ideal.Prod

namespace Cert.Proof.K19
open Idealize ShloMosaic SL.Sem

/-- The reference ends. -/
theorem frameRef : quiescent_Reference19Ideal := fun m ρ _ =>
  (θ_run Reference19Ideal.defs _ _).mono (fun r h => ⟨fun c => (h c).2, sem_eq_zero_of_no_sems (by decide) r.2⟩)
    (Reference19Ideal.Value.run m ρ)

/-- The call's result is the reference's. -/
theorem algebraic : algebraic_Kernel19Ideal_Reference19Ideal := by
  intro m ρ m' ρ' hpre hargs
  refine ⟨_, Kernel19Ideal.Prod.run m ρ, (θ_run Reference19Ideal.defs _ _).mono (fun r h c => ?_)
    (Reference19Ideal.Value.run m' ρ')⟩
  obtain ⟨h0, hk⟩ := h c
  refine ⟨?_, hk⟩
  refine h0.trans ((Reference19Ideal.Read.val_main_v6_eq _ _ _).trans ?_)
  rw [(hargs c).1, (hargs c).2.1, (hargs c).2.2]
  exact Kernel19Ideal.Prod.ref_eq _ _ _

end Cert.Proof.K19
-- ==== Proof.Mm.P20.lean ====
/-
  The gradient of the SSD layer's input, through B and C: the call's tiles put together are the product, and the reference's
  product is the same sum.
-/
module

public import proofs.«01_k».proof.Proof.Gen.Kernel20.Frame
public import proofs.«01_k».proof.Proof.Gen.Kernel20Ideal.Value
public import proofs.«01_k».proof.Proof.Gen.Reference20Ideal.Read
public import proofs.«01_k».proof.Proof.Mm.Sum

@[expose] public section

noncomputable section

namespace Cert.Kernel20Ideal.Prod

open Kernel20Ideal Kernel20Ideal.Gen Idealize ShloMosaic ShloMosaic.TcCoe SL.Sem

/-- One entry of the product, plus what was there before. -/
def E (A : Vec Ideal S4096x1024 .bf16) (B : Vec Ideal S1024x5152 .bf16) (X : Vec Ideal S4096x1024 .f32) (r : Fin 4096) (s : Fin 1024) : EReal :=
  ∑ k : Fin 1024, A (ix2 r k) * B (ix2 s ⟨4096 + k.val, by have := k.isLt; omega⟩) + X (ix2 r s)

/-- The call's result. -/
def G (A : Vec Ideal S4096x1024 .bf16) (B : Vec Ideal S1024x5152 .bf16) (X : Vec Ideal S4096x1024 .f32) : Vec Ideal S4096x1024 .f32 :=
  fun i => E A B X ⟨(i 0).val, (i 0).isLt⟩ ⟨(i 1).val, (i 1).isLt⟩

/-- One tile's product. -/
theorem pay_at (x0 x1 : Vec Ideal S1024x1024 .bf16) (x2 : Vec Ideal S1024x1024 .f32) (r s : Fin 1024) :
    k0_pay1 x0 x1 x2 (ix2 r s) = ∑ k : Fin 1024, x0 (ix2 r k) * x1 (ix2 s k) + x2 (ix2 r s) := by
  unfold k0_pay1
  simp only [pointwise]
  rw [zero_add]

section Cases

variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole)
  (x0 x1 : Vec Ideal S1024x1024 .bf16) (x2 : Vec Ideal S1024x1024 .f32)

theorem out_eq : out0_A_3 c i arg3 harg3 arg4 harg4 arg5 harg5 arg6 harg6 x0 x1 x2 = k0_pay1 x0 x1 x2 := by
  unfold out0_A_3
  rw [View.read_writes_eq_canon _ _ _ (fun _ => cover0_A_3 ..)]
  unfold kernelRun0_A
  dsimp only
  sl_unfold_words
  simp only [View.readAt_eq_ld, Memref.IsWhole.read_unread]
  rw [View.canon_unit_zero Mm.zero2]
  repeat rw [View.ld_unit_zero Mm.zero2]

end Cases

variable (m : (ℓ : Loc nD τ sig) → Buf (Elt Ideal) ℓ)

abbrev aA (c : Dev nD) : Vec Ideal S4096x1024 .bf16 := m (c.tc.loc main_arg0)
abbrev aB (c : Dev nD) : Vec Ideal S1024x5152 .bf16 := m (c.tc.loc main_arg1)
abbrev aX (c : Dev nD) : Vec Ideal S4096x1024 .f32 := m (c.tc.loc main_arg2)

theorem idx_facts : ∀ t : Fin grid0.N, win0_0.index t 0 = t.val ∧ win0_0.index t 1 = 0 ∧ win0_1.index t 0 = 0 ∧ win0_1.index t 1 = 4 ∧ win0_2.index t 0 = t.val ∧ win0_2.index t 1 = 0 ∧ win0_3.index t 0 = t.val ∧ win0_3.index t 1 = 0 := by decide +kernel

theorem blk0_at (c : Dev nD) (t : Fin cfg0.N) (y : S1024x1024.Idx) (z : S4096x1024.Idx)
    (h0 : (z 0).val = 1024 * (t.val) + (y 0).val) (h1 : (z 1).val = (y 1).val) :
    iblk m c 0 t y = aA m c z := by
  obtain ⟨q00, q01, -⟩ := idx_facts t
  refine (congrFun (V_main_arg0 m c) _).trans (congrArg _ (Mm.idx2 (Mm.at_ 1024 q00 (by omega)) (Mm.at_ 1024 q01 (by omega))))

theorem blk1_at (c : Dev nD) (t : Fin cfg0.N) (y : S1024x1024.Idx) (z : S1024x5152.Idx)
    (h0 : (z 0).val = (y 0).val) (h1 : (z 1).val = 1024 * (4) + (y 1).val) :
    X0_1 m c t y = aB m c z := by
  obtain ⟨-, -, q10, q11, -⟩ := idx_facts t
  unfold X0_1 Pipeline.Window.fill
  rw [dif_pos (moved0_1 t y)]
  refine (congrFun (V_main_arg1 m c) _).trans (congrArg _ (Mm.idx2 (Mm.at' 1024 (y 0).val _ q10 (by omega)) (Mm.at' 1024 (y 1).val _ q11 (by omega))))

theorem blk2_at (c : Dev nD) (t : Fin cfg0.N) (y : S1024x1024.Idx) (z : S4096x1024.Idx)
    (h0 : (z 0).val = 1024 * (t.val) + (y 0).val) (h1 : (z 1).val = (y 1).val) :
    iblk m c 2 t y = aX m c z := by
  obtain ⟨-, -, -, -, q20, q21, -⟩ := idx_facts t
  refine (congrFun (V_main_arg2 m c) _).trans (congrArg _ (Mm.idx2 (Mm.at_ 1024 q20 (by omega)) (Mm.at_ 1024 q21 (by omega))))

theorem flushed (c : Dev nD) (t : Fin cfg0.N) :
    (dats m 0 c).flushed 3 t = ((cfg0.win 3).blk t).view.read (Elt Ideal) (G (aA m c) (aB m c) (aX m c)) := by
  obtain ⟨-, -, -, -, -, -, q30, q31⟩ := idx_facts t
  rw [Value.flushed3_A, out_eq]
  funext y
  obtain ⟨r, s, rfl⟩ := Mm.ex2 1024 1024 y
  rw [View.read_apply]
  refine (pay_at _ _ _ r s).trans ?_
  have er : ((((cfg0.win 3).blk t).view.emb (ix2 r s)) 0).val = 1024 * (t.val) + r.val := Mm.at' 1024 r.val _ q30 (by omega)
  have es : ((((cfg0.win 3).blk t).view.emb (ix2 r s)) 1).val = s.val := Mm.at' 1024 s.val _ q31 (by omega)
  unfold G E
  refine congrArg₂ (· + ·) (Finset.sum_congr rfl fun k _ => congrArg₂ (· * ·) (blk0_at m c t _ _ ?_ ?_) (blk1_at m c t _ _ ?_ ?_)) (blk2_at m c t _ _ ?_ ?_)
  · refine er.trans ?_; show _ = 1024 * (t.val) + r.val; omega
  · rfl
  · exact es
  · show 4096 + (k.val) = 1024 * (4) + k.val; omega
  · refine er.trans ?_; show _ = 1024 * (t.val) + r.val; omega
  · exact es

theorem final (c : Dev nD) : (dats m 0 c).arrAt 3 cfg0.N = G (aA m c) (aB m c) (aX m c) :=
  (dats m 0 c).arrAt_eq_of_cover 3 _ (fun t _ => flushed m c t) fun i => by
    have h1 : (i 0 : Nat) < 4096 := (i 0).isLt
    have h2 : (i 1 : Nat) < 1024 := (i 1).isLt
    have hN : cfg0.N = 4 := N_0
    obtain ⟨t, ht0⟩ : ∃ t : Fin cfg0.N, t.val = (i 0 : Nat) / 1024 :=
      ⟨⟨(i 0 : Nat) / 1024, by omega⟩, rfl⟩
    obtain ⟨-, -, -, -, -, -, q30, q31⟩ := idx_facts t
    exact ⟨t, flush0_3 t, Mm.memv (Mm.mem2 1024 1024 q30 q31 (by omega) (by omega))⟩

/-- What every run ends with. -/
theorem run (ρ : Dev nD → PrngReg) : θ_run defs (onTc (τ := τ) (main (F := Ideal))) ⟨m, fun _ => 0, ρ⟩ fun r => ∀ c : Dev nD,
      r.2.mem (c.tc.loc main_v0) = G (aA m c) (aB m c) (aX m c) ∧ Mm.kept m r.2.mem c main_arg0 ∧ Mm.kept m r.2.mem c main_arg1 ∧ Mm.kept m r.2.mem c main_arg2 :=
  (θ_run defs _ _).mono (fun _ h c => ⟨(h c).1.trans (final m c), (h c).2⟩) (Value.run_blocks m ρ)

open Reference20Ideal.Read in
/-- One entry of the reference's product. -/
theorem ref_E (x0 : Vec Ideal S4096x1024 .bf16) (x1 : Vec Ideal S1024x5152 .bf16) (x2 : Vec Ideal S4096x1024 .f32) (r : Fin 4096) (s : Fin 1024) :
    val_main_v6 (F := Ideal) x0 x1 x2 (ix2 r s) = E x0 x1 x2 r s := by
  unfold E
  rw [val_main_v6_apply]
  refine congrArg₂ (· + ·) ?_ ?_
  · rw [val_main_v5_apply]
    refine Finset.sum_congr rfl fun k _ => ?_
    refine congrArg₂ (· * ·) ?_ ?_
    · show x0 _ = _
      exact congrArg x0 (Mm.idx2 rfl rfl)
    · show val_main_v1 (F := Ideal) x1 _ = _
      rw [val_main_v1_apply]
      exact congrArg x1 (Mm.idx2 rfl rfl)
  · exact congrArg x2 (Mm.idx2 rfl rfl)

open Reference20Ideal.Read in
/-- The reference's result. -/
theorem ref_eq (x0 : Vec Ideal S4096x1024 .bf16) (x1 : Vec Ideal S1024x5152 .bf16) (x2 : Vec Ideal S4096x1024 .f32) :
    val_main_v6 (F := Ideal) x0 x1 x2 = G x0 x1 x2 := by
  funext i
  obtain ⟨r, s, rfl⟩ := Mm.ex2 4096 1024 i
  exact ref_E x0 x1 x2 r s

end Cert.Kernel20Ideal.Prod

namespace Cert.Proof.K20
open Idealize ShloMosaic SL.Sem

/-- The reference ends. -/
theorem frameRef : quiescent_Reference20Ideal := fun m ρ _ =>
  (θ_run Reference20Ideal.defs _ _).mono (fun r h => ⟨fun c => (h c).2, sem_eq_zero_of_no_sems (by decide) r.2⟩)
    (Reference20Ideal.Value.run m ρ)

/-- The call's result is the reference's. -/
theorem algebraic : algebraic_Kernel20Ideal_Reference20Ideal := by
  intro m ρ m' ρ' hpre hargs
  refine ⟨_, Kernel20Ideal.Prod.run m ρ, (θ_run Reference20Ideal.defs _ _).mono (fun r h c => ?_)
    (Reference20Ideal.Value.run m' ρ')⟩
  obtain ⟨h0, hk⟩ := h c
  refine ⟨?_, hk⟩
  refine h0.trans ((Reference20Ideal.Read.val_main_v6_eq _ _ _).trans ?_)
  rw [(hargs c).1, (hargs c).2.1, (hargs c).2.2]
  exact Kernel20Ideal.Prod.ref_eq _ _ _

end Cert.Proof.K20
-- ==== Proof.Mm.P21.lean ====
/-
  The gradient of the SSD layer's input, through the step sizes: the call's tiles put together are the product, and the reference's
  product is the same sum.
-/
module

public import proofs.«01_k».proof.Proof.Gen.Kernel21.Frame
public import proofs.«01_k».proof.Proof.Gen.Kernel21Ideal.Value
public import proofs.«01_k».proof.Proof.Gen.Reference21Ideal.Read
public import proofs.«01_k».proof.Proof.Mm.Sum

@[expose] public section

noncomputable section

namespace Cert.Kernel21Ideal.Prod

open Kernel21Ideal Kernel21Ideal.Gen Idealize ShloMosaic ShloMosaic.TcCoe SL.Sem

/-- One entry of the product, plus what was there before. -/
def E (A : Vec Ideal S4096x128 .f32) (B : Vec Ideal S1024x128 .bf16) (X : Vec Ideal S4096x1024 .f32) (r : Fin 4096) (s : Fin 1024) : EReal :=
  ∑ k : Fin 128, A (ix2 r k) * B (ix2 s k) + X (ix2 r s)

/-- The call's result. -/
def G (A : Vec Ideal S4096x128 .f32) (B : Vec Ideal S1024x128 .bf16) (X : Vec Ideal S4096x1024 .f32) : Vec Ideal S4096x1024 .bf16 :=
  fun i => E A B X ⟨(i 0).val, (i 0).isLt⟩ ⟨(i 1).val, (i 1).isLt⟩

/-- One tile's product. -/
theorem pay_at (x0 : Vec Ideal S1024x128 .f32) (x1 : Vec Ideal S1024x128 .bf16) (x2 : Vec Ideal S1024x1024 .f32) (r s : Fin 1024) :
    k0_pay1 x0 x1 x2 (ix2 r s) = ∑ k : Fin 128, x0 (ix2 r k) * x1 (ix2 s k) + x2 (ix2 r s) := by
  unfold k0_pay1
  simp only [pointwise]
  rw [zero_add]

theorem out_eq (x0 : Vec Ideal S1024x128 .f32) (x1 : Vec Ideal S1024x128 .bf16) (x2 : Vec Ideal S1024x1024 .f32) : out0_3 x0 x1 x2 = k0_pay1 x0 x1 x2 := by
  unfold out0_3
  rw [View.canon_unit_zero Mm.zero2]
  repeat rw [View.ld_unit_zero Mm.zero2]

variable (m : (ℓ : Loc nD τ sig) → Buf (Elt Ideal) ℓ)

abbrev aA (c : Dev nD) : Vec Ideal S4096x128 .f32 := m (c.tc.loc main_arg0)
abbrev aB (c : Dev nD) : Vec Ideal S1024x128 .bf16 := m (c.tc.loc main_arg1)
abbrev aX (c : Dev nD) : Vec Ideal S4096x1024 .f32 := m (c.tc.loc main_arg2)

theorem idx_facts : ∀ t : Fin grid0.N, win0_0.index t 0 = t.val ∧ win0_0.index t 1 = 0 ∧ win0_1.index t 0 = 0 ∧ win0_1.index t 1 = 0 ∧ win0_2.index t 0 = t.val ∧ win0_2.index t 1 = 0 ∧ win0_3.index t 0 = t.val ∧ win0_3.index t 1 = 0 := by decide +kernel

theorem blk0_at (c : Dev nD) (t : Fin cfg0.N) (y : S1024x128.Idx) (z : S4096x128.Idx)
    (h0 : (z 0).val = 1024 * (t.val) + (y 0).val) (h1 : (z 1).val = (y 1).val) :
    iblk m c 0 t y = aA m c z := by
  obtain ⟨q00, q01, -⟩ := idx_facts t
  unfold iblk
  rw [View.read_apply]
  show V m c main_arg0 _ = m (c.tc.loc main_arg0) _
  unfold V
  congr 1
  refine Mm.idx2 ?_ ?_
  · exact Mm.at_ 1024 q00 (by omega)
  · exact Mm.at_ 128 q01 (by omega)

theorem blk1_at (c : Dev nD) (t : Fin cfg0.N) (y z : S1024x128.Idx)
    (h0 : (z 0).val = (y 0).val) (h1 : (z 1).val = (y 1).val) :
    iblk m c 1 t y = aB m c z := by
  obtain ⟨-, -, q10, q11, -⟩ := idx_facts t
  unfold iblk
  rw [View.read_apply]
  show V m c main_arg1 _ = m (c.tc.loc main_arg1) _
  unfold V
  congr 1
  refine Mm.idx2 ?_ ?_
  · exact Mm.at_ 1024 q10 (by omega)
  · exact Mm.at_ 128 q11 (by omega)

theorem blk2_at (c : Dev nD) (t : Fin cfg0.N) (y : S1024x1024.Idx) (z : S4096x1024.Idx)
    (h0 : (z 0).val = 1024 * (t.val) + (y 0).val) (h1 : (z 1).val = (y 1).val) :
    iblk m c 2 t y = aX m c z := by
  obtain ⟨-, -, -, -, q20, q21, -⟩ := idx_facts t
  unfold iblk
  rw [View.read_apply]
  show V m c main_arg2 _ = m (c.tc.loc main_arg2) _
  unfold V
  congr 1
  refine Mm.idx2 ?_ ?_
  · exact Mm.at_ 1024 q20 (by omega)
  · exact Mm.at_ 1024 q21 (by omega)

theorem flushed (c : Dev nD) (t : Fin cfg0.N) :
    (dats m 0 c).flushed 3 t = ((cfg0.win 3).blk t).view.read (Elt Ideal) (G (aA m c) (aB m c) (aX m c)) := by
  obtain ⟨-, -, -, -, -, -, q30, q31⟩ := idx_facts t
  rw [Value.flushed3, out_eq]
  funext y
  obtain ⟨r, s, rfl⟩ := Mm.ex2 1024 1024 y
  rw [View.read_apply]
  refine (pay_at _ _ _ r s).trans ?_
  have er : ((((cfg0.win 3).blk t).view.emb (ix2 r s)) 0).val = 1024 * (t.val) + r.val := Mm.at' 1024 r.val _ q30 (by omega)
  have es : ((((cfg0.win 3).blk t).view.emb (ix2 r s)) 1).val = s.val := Mm.at' 1024 s.val _ q31 (by omega)
  unfold G E
  refine congrArg₂ (· + ·) (Finset.sum_congr rfl fun k _ => congrArg₂ (· * ·) (blk0_at m c t _ _ ?_ ?_) (blk1_at m c t _ _ ?_ ?_)) (blk2_at m c t _ _ ?_ ?_)
  · refine er.trans ?_; show _ = 1024 * (t.val) + r.val; omega
  · rfl
  · exact es
  · rfl
  · refine er.trans ?_; show _ = 1024 * (t.val) + r.val; omega
  · exact es

theorem final (c : Dev nD) : (dats m 0 c).arrAt 3 cfg0.N = G (aA m c) (aB m c) (aX m c) :=
  (dats m 0 c).arrAt_eq_of_cover 3 _ (fun t _ => flushed m c t) fun i => by
    have h1 : (i 0 : Nat) < 4096 := (i 0).isLt
    have h2 : (i 1 : Nat) < 1024 := (i 1).isLt
    have hN : cfg0.N = 4 := N_0
    obtain ⟨t, ht0⟩ : ∃ t : Fin cfg0.N, t.val = (i 0 : Nat) / 1024 :=
      ⟨⟨(i 0 : Nat) / 1024, by omega⟩, rfl⟩
    obtain ⟨-, -, -, -, -, -, q30, q31⟩ := idx_facts t
    exact ⟨t, flush0_3 t, Mm.memv (Mm.mem2 1024 1024 q30 q31 (by omega) (by omega))⟩

/-- What every run ends with. -/
theorem run (ρ : Dev nD → PrngReg) : θ_run defs (onTc (τ := τ) (main (F := Ideal))) ⟨m, fun _ => 0, ρ⟩ fun r => ∀ c : Dev nD,
      r.2.mem (c.tc.loc main_v0) = G (aA m c) (aB m c) (aX m c) ∧ Mm.kept m r.2.mem c main_arg0 ∧ Mm.kept m r.2.mem c main_arg1 ∧ Mm.kept m r.2.mem c main_arg2 :=
  (θ_run defs _ _).mono (fun _ h c => ⟨(h c).1.trans (final m c), (h c).2⟩) (Value.run_blocks m ρ)

open Reference21Ideal.Read in
/-- One entry of the reference's product. -/
theorem ref_E (x0 : Vec Ideal S4096x128 .f32) (x1 : Vec Ideal S1024x128 .bf16) (x2 : Vec Ideal S4096x1024 .f32) (r : Fin 4096) (s : Fin 1024) :
    val_main_v5 (F := Ideal) x0 x1 x2 (ix2 r s) = E x0 x1 x2 r s := by
  unfold E
  show val_main_v4 (F := Ideal) x0 x1 x2 _ = _
  rw [val_main_v4_apply]
  refine congrArg₂ (· + ·) ?_ ?_
  · rw [val_main_v3_apply]
    refine Finset.sum_congr rfl fun k _ => ?_
    refine congrArg₂ (· * ·) ?_ ?_
    · exact congrArg x0 (Mm.idx2 rfl rfl)
    · show x1 _ = _
      exact congrArg x1 (Mm.idx2 rfl rfl)
  · exact congrArg x2 (Mm.idx2 rfl rfl)

open Reference21Ideal.Read in
/-- The reference's result. -/
theorem ref_eq (x0 : Vec Ideal S4096x128 .f32) (x1 : Vec Ideal S1024x128 .bf16) (x2 : Vec Ideal S4096x1024 .f32) :
    val_main_v5 (F := Ideal) x0 x1 x2 = G x0 x1 x2 := by
  funext i
  obtain ⟨r, s, rfl⟩ := Mm.ex2 4096 1024 i
  exact ref_E x0 x1 x2 r s

end Cert.Kernel21Ideal.Prod

namespace Cert.Proof.K21
open Idealize ShloMosaic SL.Sem

/-- The reference ends. -/
theorem frameRef : quiescent_Reference21Ideal := fun m ρ _ =>
  (θ_run Reference21Ideal.defs _ _).mono (fun r h => ⟨fun c => (h c).2, sem_eq_zero_of_no_sems (by decide) r.2⟩)
    (Reference21Ideal.Value.run m ρ)

/-- The call's result is the reference's. -/
theorem algebraic : algebraic_Kernel21Ideal_Reference21Ideal := by
  intro m ρ m' ρ' hpre hargs
  refine ⟨_, Kernel21Ideal.Prod.run m ρ, (θ_run Reference21Ideal.defs _ _).mono (fun r h c => ?_)
    (Reference21Ideal.Value.run m' ρ')⟩
  obtain ⟨h0, hk⟩ := h c
  refine ⟨?_, hk⟩
  refine h0.trans ((Reference21Ideal.Read.val_main_v5_eq _ _ _).trans ?_)
  rw [(hargs c).1, (hargs c).2.1, (hargs c).2.2]
  exact Kernel21Ideal.Prod.ref_eq _ _ _

end Cert.Proof.K21
-- ==== Proof.Mm.P22.lean ====
/-
  The Conformer module's first pointwise product: the call's tiles put together are the product, and the reference's
  product is the same sum.
-/
module

public import proofs.«01_k».proof.Proof.Gen.Kernel22.Frame
public import proofs.«01_k».proof.Proof.Gen.Kernel22Ideal.Value
public import proofs.«01_k».proof.Proof.Gen.Reference22Ideal.Read
public import proofs.«01_k».proof.Proof.Mm.Sum

@[expose] public section

noncomputable section

namespace Cert.Kernel22Ideal.Prod

open Kernel22Ideal Kernel22Ideal.Gen Idealize ShloMosaic ShloMosaic.TcCoe SL.Sem

/-- One entry of the product, plus the bias. -/
def E (A : Vec Ideal S4096x1024 .bf16) (B : Vec Ideal S1024x2048 .bf16) (X : Vec Ideal S1x2048 .f32) (r : Fin 4096) (s : Fin 2048) : EReal :=
  ∑ k : Fin 1024, A (ix2 r k) * B (ix2 k s) + X (ix2 0 s)

/-- The call's result. -/
def G (A : Vec Ideal S4096x1024 .bf16) (B : Vec Ideal S1024x2048 .bf16) (X : Vec Ideal S1x2048 .f32) : Vec Ideal S4096x2048 .bf16 :=
  fun i => E A B X ⟨(i 0).val, (i 0).isLt⟩ ⟨(i 1).val, (i 1).isLt⟩

/-- One tile's product. -/
theorem pay_at (x0 x1 : Vec Ideal S1024x1024 .bf16) (x2 : Vec Ideal S1x1024 .f32) (r s : Fin 1024) :
    k0_pay1 x0 x1 x2 (ix2 r s) = ∑ k : Fin 1024, x0 (ix2 r k) * x1 (ix2 k s) + x2 (ix2 0 s) := by
  unfold k0_pay1
  simp only [pointwise]
  rw [zero_add]
  exact congrArg₂ (· + ·) rfl (congrArg x2 (Mm.idx2 rfl rfl))

theorem out_eq (x0 x1 : Vec Ideal S1024x1024 .bf16) (x2 : Vec Ideal S1x1024 .f32) : out0_3 x0 x1 x2 = k0_pay1 x0 x1 x2 := by
  unfold out0_3
  rw [View.canon_unit_zero Mm.zero2]
  repeat rw [View.ld_unit_zero Mm.zero2]

variable (m : (ℓ : Loc nD τ sig) → Buf (Elt Ideal) ℓ)

abbrev aA (c : Dev nD) : Vec Ideal S4096x1024 .bf16 := m (c.tc.loc main_arg0)
abbrev aB (c : Dev nD) : Vec Ideal S1024x2048 .bf16 := m (c.tc.loc main_arg1)
abbrev aX (c : Dev nD) : Vec Ideal S1x2048 .f32 := m (c.tc.loc main_arg2)

theorem idx_facts : ∀ t : Fin grid0.N, win0_0.index t 0 = t.val / 2 ∧ win0_0.index t 1 = 0 ∧ win0_1.index t 0 = 0 ∧ win0_1.index t 1 = t.val % 2 ∧ win0_2.index t 0 = 0 ∧ win0_2.index t 1 = t.val % 2 ∧ win0_3.index t 0 = t.val / 2 ∧ win0_3.index t 1 = t.val % 2 := by decide +kernel

theorem blk0_at (c : Dev nD) (t : Fin cfg0.N) (y : S1024x1024.Idx) (z : S4096x1024.Idx)
    (h0 : (z 0).val = 1024 * (t.val / 2) + (y 0).val) (h1 : (z 1).val = (y 1).val) :
    iblk m c 0 t y = aA m c z := by
  obtain ⟨q00, q01, -⟩ := idx_facts t
  unfold iblk
  rw [View.read_apply]
  show V m c main_arg0 _ = m (c.tc.loc main_arg0) _
  unfold V
  congr 1
  refine Mm.idx2 ?_ ?_
  · exact Mm.at_ 1024 q00 (by omega)
  · exact Mm.at_ 1024 q01 (by omega)

theorem blk1_at (c : Dev nD) (t : Fin cfg0.N) (y : S1024x1024.Idx) (z : S1024x2048.Idx)
    (h0 : (z 0).val = (y 0).val) (h1 : (z 1).val = 1024 * (t.val % 2) + (y 1).val) :
    iblk m c 1 t y = aB m c z := by
  obtain ⟨-, -, q10, q11, -⟩ := idx_facts t
  unfold iblk
  rw [View.read_apply]
  show V m c main_arg1 _ = m (c.tc.loc main_arg1) _
  unfold V
  congr 1
  refine Mm.idx2 ?_ ?_
  · exact Mm.at_ 1024 q10 (by omega)
  · exact Mm.at_ 1024 q11 (by omega)

theorem blk2_at (c : Dev nD) (t : Fin cfg0.N) (y : S1x1024.Idx) (z : S1x2048.Idx)
    (h0 : (z 0).val = (y 0).val) (h1 : (z 1).val = 1024 * (t.val % 2) + (y 1).val) :
    iblk m c 2 t y = aX m c z := by
  obtain ⟨-, -, -, -, q20, q21, -⟩ := idx_facts t
  unfold iblk
  rw [View.read_apply]
  show V m c main_arg2 _ = m (c.tc.loc main_arg2) _
  unfold V
  congr 1
  refine Mm.idx2 ?_ ?_
  · exact Mm.at_ 1 q20 (by omega)
  · exact Mm.at_ 1024 q21 (by omega)

theorem flushed (c : Dev nD) (t : Fin cfg0.N) :
    (dats m 0 c).flushed 3 t = ((cfg0.win 3).blk t).view.read (Elt Ideal) (G (aA m c) (aB m c) (aX m c)) := by
  obtain ⟨-, -, -, -, -, -, q30, q31⟩ := idx_facts t
  rw [Value.flushed3, out_eq]
  funext y
  obtain ⟨r, s, rfl⟩ := Mm.ex2 1024 1024 y
  rw [View.read_apply]
  refine (pay_at _ _ _ r s).trans ?_
  have er : ((((cfg0.win 3).blk t).view.emb (ix2 r s)) 0).val = 1024 * (t.val / 2) + r.val := Mm.at' 1024 r.val _ q30 (by omega)
  have es : ((((cfg0.win 3).blk t).view.emb (ix2 r s)) 1).val = 1024 * (t.val % 2) + s.val := Mm.at' 1024 s.val _ q31 (by omega)
  unfold G E
  refine congrArg₂ (· + ·) (Finset.sum_congr rfl fun k _ => congrArg₂ (· * ·) (blk0_at m c t _ _ ?_ ?_) (blk1_at m c t _ _ ?_ ?_)) (blk2_at m c t _ _ ?_ ?_)
  · refine er.trans ?_; show _ = 1024 * (t.val / 2) + r.val; omega
  · rfl
  · rfl
  · refine es.trans ?_; show _ = 1024 * (t.val % 2) + s.val; omega
  · rfl
  · refine es.trans ?_; show _ = 1024 * (t.val % 2) + s.val; omega

theorem final (c : Dev nD) : (dats m 0 c).arrAt 3 cfg0.N = G (aA m c) (aB m c) (aX m c) :=
  (dats m 0 c).arrAt_eq_of_cover 3 _ (fun t _ => flushed m c t) fun i => by
    have h1 : (i 0 : Nat) < 4096 := (i 0).isLt
    have h2 : (i 1 : Nat) < 2048 := (i 1).isLt
    have hN : cfg0.N = 8 := N_0
    obtain ⟨t, ht0, ht1⟩ : ∃ t : Fin cfg0.N, t.val / 2 = (i 0 : Nat) / 1024 ∧ t.val % 2 = (i 1 : Nat) / 1024 :=
      ⟨⟨2 * ((i 0 : Nat) / 1024) + (i 1 : Nat) / 1024, by omega⟩, by dsimp only; omega, by dsimp only; omega⟩
    obtain ⟨-, -, -, -, -, -, q30, q31⟩ := idx_facts t
    exact ⟨t, flush0_3 t, Mm.memv (Mm.mem2 1024 1024 q30 q31 (by omega) (by omega))⟩

/-- What every run ends with. -/
theorem run (ρ : Dev nD → PrngReg) : θ_run defs (onTc (τ := τ) (main (F := Ideal))) ⟨m, fun _ => 0, ρ⟩ fun r => ∀ c : Dev nD,
      r.2.mem (c.tc.loc main_v0) = G (aA m c) (aB m c) (aX m c) ∧ Mm.kept m r.2.mem c main_arg0 ∧ Mm.kept m r.2.mem c main_arg1 ∧ Mm.kept m r.2.mem c main_arg2 :=
  (θ_run defs _ _).mono (fun _ h c => ⟨(h c).1.trans (final m c), (h c).2⟩) (Value.run_blocks m ρ)

open Reference22Ideal.Read in
/-- One entry of the reference's product. -/
theorem ref_E (x0 : Vec Ideal S4096x1024 .bf16) (x1 : Vec Ideal S1024x2048 .bf16) (x2 : Vec Ideal S1x2048 .f32) (r : Fin 4096) (s : Fin 2048) :
    val_main_v5 (F := Ideal) x0 x1 x2 (ix2 r s) = E x0 x1 x2 r s := by
  unfold E
  show val_main_v4 (F := Ideal) x0 x1 x2 _ = _
  rw [val_main_v4_apply]
  refine congrArg₂ (· + ·) ?_ ?_
  · rw [val_main_v2_apply]
    refine Finset.sum_congr rfl fun k _ => ?_
    refine congrArg₂ (· * ·) ?_ ?_
    · show x0 _ = _
      exact congrArg x0 (Mm.idx2 rfl rfl)
    · show x1 _ = _
      exact congrArg x1 (Mm.idx2 rfl rfl)
  · rw [val_main_v3_apply]
    exact congrArg x2 (Mm.idx2 rfl rfl)

open Reference22Ideal.Read in
/-- The reference's result. -/
theorem ref_eq (x0 : Vec Ideal S4096x1024 .bf16) (x1 : Vec Ideal S1024x2048 .bf16) (x2 : Vec Ideal S1x2048 .f32) :
    val_main_v5 (F := Ideal) x0 x1 x2 = G x0 x1 x2 := by
  funext i
  obtain ⟨r, s, rfl⟩ := Mm.ex2 4096 2048 i
  exact ref_E x0 x1 x2 r s

end Cert.Kernel22Ideal.Prod

namespace Cert.Proof.K22
open Idealize ShloMosaic SL.Sem

/-- The reference ends. -/
theorem frameRef : quiescent_Reference22Ideal := fun m ρ _ =>
  (θ_run Reference22Ideal.defs _ _).mono (fun r h => ⟨fun c => (h c).2, sem_eq_zero_of_no_sems (by decide) r.2⟩)
    (Reference22Ideal.Value.run m ρ)

/-- The call's result is the reference's. -/
theorem algebraic : algebraic_Kernel22Ideal_Reference22Ideal := by
  intro m ρ m' ρ' hpre hargs
  refine ⟨_, Kernel22Ideal.Prod.run m ρ, (θ_run Reference22Ideal.defs _ _).mono (fun r h c => ?_)
    (Reference22Ideal.Value.run m' ρ')⟩
  obtain ⟨h0, hk⟩ := h c
  refine ⟨?_, hk⟩
  refine h0.trans ((Reference22Ideal.Read.val_main_v5_eq _ _ _).trans ?_)
  rw [(hargs c).1, (hargs c).2.1, (hargs c).2.2]
  exact Kernel22Ideal.Prod.ref_eq _ _ _

end Cert.Proof.K22
-- ==== Proof.Mm.P23.lean ====
/-
  The Conformer module's second pointwise product: the call's tiles put together are the product, and the reference's
  product is the same sum.
-/
module

public import proofs.«01_k».proof.Proof.Gen.Kernel23.Frame
public import proofs.«01_k».proof.Proof.Gen.Kernel23Ideal.Value
public import proofs.«01_k».proof.Proof.Gen.Reference23Ideal.Read
public import proofs.«01_k».proof.Proof.Mm.Sum

@[expose] public section

noncomputable section

namespace Cert.Kernel23Ideal.Prod

open Kernel23Ideal Kernel23Ideal.Gen Idealize ShloMosaic ShloMosaic.TcCoe SL.Sem

/-- One entry of the product, plus the bias. -/
def E (A : Vec Ideal S4096x1024 .bf16) (B : Vec Ideal S1024x1024 .bf16) (X : Vec Ideal S1x1024 .f32) (r : Fin 4096) (s : Fin 1024) : EReal :=
  ∑ k : Fin 1024, A (ix2 r k) * B (ix2 k s) + X (ix2 0 s)

/-- The call's result. -/
def G (A : Vec Ideal S4096x1024 .bf16) (B : Vec Ideal S1024x1024 .bf16) (X : Vec Ideal S1x1024 .f32) : Vec Ideal S4096x1024 .bf16 :=
  fun i => E A B X ⟨(i 0).val, (i 0).isLt⟩ ⟨(i 1).val, (i 1).isLt⟩

/-- One tile's product. -/
theorem pay_at (x0 x1 : Vec Ideal S1024x1024 .bf16) (x2 : Vec Ideal S1x1024 .f32) (r s : Fin 1024) :
    k0_pay1 x0 x1 x2 (ix2 r s) = ∑ k : Fin 1024, x0 (ix2 r k) * x1 (ix2 k s) + x2 (ix2 0 s) := by
  unfold k0_pay1
  simp only [pointwise]
  rw [zero_add]
  exact congrArg₂ (· + ·) rfl (congrArg x2 (Mm.idx2 rfl rfl))

theorem out_eq (x0 x1 : Vec Ideal S1024x1024 .bf16) (x2 : Vec Ideal S1x1024 .f32) : out0_3 x0 x1 x2 = k0_pay1 x0 x1 x2 := by
  unfold out0_3
  rw [View.canon_unit_zero Mm.zero2]
  repeat rw [View.ld_unit_zero Mm.zero2]

variable (m : (ℓ : Loc nD τ sig) → Buf (Elt Ideal) ℓ)

abbrev aA (c : Dev nD) : Vec Ideal S4096x1024 .bf16 := m (c.tc.loc main_arg0)
abbrev aB (c : Dev nD) : Vec Ideal S1024x1024 .bf16 := m (c.tc.loc main_arg1)
abbrev aX (c : Dev nD) : Vec Ideal S1x1024 .f32 := m (c.tc.loc main_arg2)

theorem idx_facts : ∀ t : Fin grid0.N, win0_0.index t 0 = t.val ∧ win0_0.index t 1 = 0 ∧ win0_1.index t 0 = 0 ∧ win0_1.index t 1 = 0 ∧ win0_2.index t 0 = 0 ∧ win0_2.index t 1 = 0 ∧ win0_3.index t 0 = t.val ∧ win0_3.index t 1 = 0 := by decide +kernel

theorem blk0_at (c : Dev nD) (t : Fin cfg0.N) (y : S1024x1024.Idx) (z : S4096x1024.Idx)
    (h0 : (z 0).val = 1024 * (t.val) + (y 0).val) (h1 : (z 1).val = (y 1).val) :
    iblk m c 0 t y = aA m c z := by
  obtain ⟨q00, q01, -⟩ := idx_facts t
  unfold iblk
  rw [View.read_apply]
  show V m c main_arg0 _ = m (c.tc.loc main_arg0) _
  unfold V
  congr 1
  refine Mm.idx2 ?_ ?_
  · exact Mm.at_ 1024 q00 (by omega)
  · exact Mm.at_ 1024 q01 (by omega)

theorem blk1_at (c : Dev nD) (t : Fin cfg0.N) (y z : S1024x1024.Idx)
    (h0 : (z 0).val = (y 0).val) (h1 : (z 1).val = (y 1).val) :
    iblk m c 1 t y = aB m c z := by
  obtain ⟨-, -, q10, q11, -⟩ := idx_facts t
  unfold iblk
  rw [View.read_apply]
  show V m c main_arg1 _ = m (c.tc.loc main_arg1) _
  unfold V
  congr 1
  refine Mm.idx2 ?_ ?_
  · exact Mm.at_ 1024 q10 (by omega)
  · exact Mm.at_ 1024 q11 (by omega)

theorem blk2_at (c : Dev nD) (t : Fin cfg0.N) (y z : S1x1024.Idx)
    (h0 : (z 0).val = (y 0).val) (h1 : (z 1).val = (y 1).val) :
    iblk m c 2 t y = aX m c z := by
  obtain ⟨-, -, -, -, q20, q21, -⟩ := idx_facts t
  unfold iblk
  rw [View.read_apply]
  show V m c main_arg2 _ = m (c.tc.loc main_arg2) _
  unfold V
  congr 1
  refine Mm.idx2 ?_ ?_
  · exact Mm.at_ 1 q20 (by omega)
  · exact Mm.at_ 1024 q21 (by omega)

theorem flushed (c : Dev nD) (t : Fin cfg0.N) :
    (dats m 0 c).flushed 3 t = ((cfg0.win 3).blk t).view.read (Elt Ideal) (G (aA m c) (aB m c) (aX m c)) := by
  obtain ⟨-, -, -, -, -, -, q30, q31⟩ := idx_facts t
  rw [Value.flushed3, out_eq]
  funext y
  obtain ⟨r, s, rfl⟩ := Mm.ex2 1024 1024 y
  rw [View.read_apply]
  refine (pay_at _ _ _ r s).trans ?_
  have er : ((((cfg0.win 3).blk t).view.emb (ix2 r s)) 0).val = 1024 * (t.val) + r.val := Mm.at' 1024 r.val _ q30 (by omega)
  have es : ((((cfg0.win 3).blk t).view.emb (ix2 r s)) 1).val = s.val := Mm.at' 1024 s.val _ q31 (by omega)
  unfold G E
  refine congrArg₂ (· + ·) (Finset.sum_congr rfl fun k _ => congrArg₂ (· * ·) (blk0_at m c t _ _ ?_ ?_) (blk1_at m c t _ _ ?_ ?_)) (blk2_at m c t _ _ ?_ ?_)
  · refine er.trans ?_; show _ = 1024 * (t.val) + r.val; omega
  · rfl
  · rfl
  · exact es
  · rfl
  · exact es

theorem final (c : Dev nD) : (dats m 0 c).arrAt 3 cfg0.N = G (aA m c) (aB m c) (aX m c) :=
  (dats m 0 c).arrAt_eq_of_cover 3 _ (fun t _ => flushed m c t) fun i => by
    have h1 : (i 0 : Nat) < 4096 := (i 0).isLt
    have h2 : (i 1 : Nat) < 1024 := (i 1).isLt
    have hN : cfg0.N = 4 := N_0
    obtain ⟨t, ht0⟩ : ∃ t : Fin cfg0.N, t.val = (i 0 : Nat) / 1024 :=
      ⟨⟨(i 0 : Nat) / 1024, by omega⟩, rfl⟩
    obtain ⟨-, -, -, -, -, -, q30, q31⟩ := idx_facts t
    exact ⟨t, flush0_3 t, Mm.memv (Mm.mem2 1024 1024 q30 q31 (by omega) (by omega))⟩

/-- What every run ends with. -/
theorem run (ρ : Dev nD → PrngReg) : θ_run defs (onTc (τ := τ) (main (F := Ideal))) ⟨m, fun _ => 0, ρ⟩ fun r => ∀ c : Dev nD,
      r.2.mem (c.tc.loc main_v0) = G (aA m c) (aB m c) (aX m c) ∧ Mm.kept m r.2.mem c main_arg0 ∧ Mm.kept m r.2.mem c main_arg1 ∧ Mm.kept m r.2.mem c main_arg2 :=
  (θ_run defs _ _).mono (fun _ h c => ⟨(h c).1.trans (final m c), (h c).2⟩) (Value.run_blocks m ρ)

open Reference23Ideal.Read in
/-- One entry of the reference's product. -/
theorem ref_E (x0 : Vec Ideal S4096x1024 .bf16) (x1 : Vec Ideal S1024x1024 .bf16) (x2 : Vec Ideal S1x1024 .f32) (r : Fin 4096) (s : Fin 1024) :
    val_main_v5 (F := Ideal) x0 x1 x2 (ix2 r s) = E x0 x1 x2 r s := by
  unfold E
  show val_main_v4 (F := Ideal) x0 x1 x2 _ = _
  rw [val_main_v4_apply]
  refine congrArg₂ (· + ·) ?_ ?_
  · rw [val_main_v2_apply]
    refine Finset.sum_congr rfl fun k _ => ?_
    refine congrArg₂ (· * ·) ?_ ?_
    · show x0 _ = _
      exact congrArg x0 (Mm.idx2 rfl rfl)
    · show x1 _ = _
      exact congrArg x1 (Mm.idx2 rfl rfl)
  · rw [val_main_v3_apply]
    exact congrArg x2 (Mm.idx2 rfl rfl)

open Reference23Ideal.Read in
/-- The reference's result. -/
theorem ref_eq (x0 : Vec Ideal S4096x1024 .bf16) (x1 : Vec Ideal S1024x1024 .bf16) (x2 : Vec Ideal S1x1024 .f32) :
    val_main_v5 (F := Ideal) x0 x1 x2 = G x0 x1 x2 := by
  funext i
  obtain ⟨r, s, rfl⟩ := Mm.ex2 4096 1024 i
  exact ref_E x0 x1 x2 r s

end Cert.Kernel23Ideal.Prod

namespace Cert.Proof.K23
open Idealize ShloMosaic SL.Sem

/-- The reference ends. -/
theorem frameRef : quiescent_Reference23Ideal := fun m ρ _ =>
  (θ_run Reference23Ideal.defs _ _).mono (fun r h => ⟨fun c => (h c).2, sem_eq_zero_of_no_sems (by decide) r.2⟩)
    (Reference23Ideal.Value.run m ρ)

/-- The call's result is the reference's. -/
theorem algebraic : algebraic_Kernel23Ideal_Reference23Ideal := by
  intro m ρ m' ρ' hpre hargs
  refine ⟨_, Kernel23Ideal.Prod.run m ρ, (θ_run Reference23Ideal.defs _ _).mono (fun r h c => ?_)
    (Reference23Ideal.Value.run m' ρ')⟩
  obtain ⟨h0, hk⟩ := h c
  refine ⟨?_, hk⟩
  refine h0.trans ((Reference23Ideal.Read.val_main_v5_eq _ _ _).trans ?_)
  rw [(hargs c).1, (hargs c).2.1, (hargs c).2.2]
  exact Kernel23Ideal.Prod.ref_eq _ _ _

end Cert.Proof.K23
-- ==== Proof.Mm.P24.lean ====
/-
  The gradient of the Conformer module's second product's input: the call's tiles put together are the product, and the reference's
  product is the same sum.
-/
module

public import proofs.«01_k».proof.Proof.Gen.Kernel24.Frame
public import proofs.«01_k».proof.Proof.Gen.Kernel24Ideal.Value
public import proofs.«01_k».proof.Proof.Gen.Reference24Ideal.Read
public import proofs.«01_k».proof.Proof.Mm.Sum

@[expose] public section

noncomputable section

namespace Cert.Kernel24Ideal.Prod

open Kernel24Ideal Kernel24Ideal.Gen Idealize ShloMosaic ShloMosaic.TcCoe SL.Sem

/-- One entry of the product. -/
def E (A : Vec Ideal S4096x1024 .bf16) (B : Vec Ideal S1024x1024 .bf16) (r : Fin 4096) (s : Fin 1024) : EReal :=
  ∑ k : Fin 1024, A (ix2 r k) * B (ix2 s k)

/-- The call's result. -/
def G (A : Vec Ideal S4096x1024 .bf16) (B : Vec Ideal S1024x1024 .bf16) : Vec Ideal S4096x1024 .f32 :=
  fun i => E A B ⟨(i 0).val, (i 0).isLt⟩ ⟨(i 1).val, (i 1).isLt⟩

/-- One tile's product. -/
theorem pay_at (x0 x1 : Vec Ideal S1024x1024 .bf16) (r s : Fin 1024) :
    k0_pay1 x0 x1 (ix2 r s) = ∑ k : Fin 1024, x0 (ix2 r k) * x1 (ix2 s k) := by
  unfold k0_pay1
  simp only [pointwise]
  rw [zero_add]

theorem out_eq (x0 x1 : Vec Ideal S1024x1024 .bf16) : out0_2 x0 x1 = k0_pay1 x0 x1 := by
  unfold out0_2
  rw [View.canon_unit_zero Mm.zero2]
  repeat rw [View.ld_unit_zero Mm.zero2]

variable (m : (ℓ : Loc nD τ sig) → Buf (Elt Ideal) ℓ)

abbrev aA (c : Dev nD) : Vec Ideal S4096x1024 .bf16 := m (c.tc.loc main_arg0)
abbrev aB (c : Dev nD) : Vec Ideal S1024x1024 .bf16 := m (c.tc.loc main_arg1)

theorem idx_facts : ∀ t : Fin grid0.N, win0_0.index t 0 = t.val ∧ win0_0.index t 1 = 0 ∧ win0_1.index t 0 = 0 ∧ win0_1.index t 1 = 0 ∧ win0_2.index t 0 = t.val ∧ win0_2.index t 1 = 0 := by decide +kernel

theorem blk0_at (c : Dev nD) (t : Fin cfg0.N) (y : S1024x1024.Idx) (z : S4096x1024.Idx)
    (h0 : (z 0).val = 1024 * (t.val) + (y 0).val) (h1 : (z 1).val = (y 1).val) :
    iblk m c 0 t y = aA m c z := by
  obtain ⟨q00, q01, -⟩ := idx_facts t
  unfold iblk
  rw [View.read_apply]
  show V m c main_arg0 _ = m (c.tc.loc main_arg0) _
  unfold V
  congr 1
  refine Mm.idx2 ?_ ?_
  · exact Mm.at_ 1024 q00 (by omega)
  · exact Mm.at_ 1024 q01 (by omega)

theorem blk1_at (c : Dev nD) (t : Fin cfg0.N) (y z : S1024x1024.Idx)
    (h0 : (z 0).val = (y 0).val) (h1 : (z 1).val = (y 1).val) :
    iblk m c 1 t y = aB m c z := by
  obtain ⟨-, -, q10, q11, -⟩ := idx_facts t
  unfold iblk
  rw [View.read_apply]
  show V m c main_arg1 _ = m (c.tc.loc main_arg1) _
  unfold V
  congr 1
  refine Mm.idx2 ?_ ?_
  · exact Mm.at_ 1024 q10 (by omega)
  · exact Mm.at_ 1024 q11 (by omega)

theorem flushed (c : Dev nD) (t : Fin cfg0.N) :
    (dats m 0 c).flushed 2 t = ((cfg0.win 2).blk t).view.read (Elt Ideal) (G (aA m c) (aB m c)) := by
  obtain ⟨-, -, -, -, q20, q21⟩ := idx_facts t
  rw [Value.flushed2, out_eq]
  funext y
  obtain ⟨r, s, rfl⟩ := Mm.ex2 1024 1024 y
  rw [View.read_apply]
  refine (pay_at _ _ r s).trans ?_
  have er : ((((cfg0.win 2).blk t).view.emb (ix2 r s)) 0).val = 1024 * (t.val) + r.val := Mm.at' 1024 r.val _ q20 (by omega)
  have es : ((((cfg0.win 2).blk t).view.emb (ix2 r s)) 1).val = s.val := Mm.at' 1024 s.val _ q21 (by omega)
  unfold G E
  refine Finset.sum_congr rfl fun k _ => congrArg₂ (· * ·) (blk0_at m c t _ _ ?_ ?_) (blk1_at m c t _ _ ?_ ?_)
  · refine er.trans ?_; show _ = 1024 * (t.val) + r.val; omega
  · rfl
  · exact es
  · rfl

theorem final (c : Dev nD) : (dats m 0 c).arrAt 2 cfg0.N = G (aA m c) (aB m c) :=
  (dats m 0 c).arrAt_eq_of_cover 2 _ (fun t _ => flushed m c t) fun i => by
    have h1 : (i 0 : Nat) < 4096 := (i 0).isLt
    have h2 : (i 1 : Nat) < 1024 := (i 1).isLt
    have hN : cfg0.N = 4 := N_0
    obtain ⟨t, ht0⟩ : ∃ t : Fin cfg0.N, t.val = (i 0 : Nat) / 1024 :=
      ⟨⟨(i 0 : Nat) / 1024, by omega⟩, rfl⟩
    obtain ⟨-, -, -, -, q20, q21⟩ := idx_facts t
    exact ⟨t, flush0_2 t, Mm.memv (Mm.mem2 1024 1024 q20 q21 (by omega) (by omega))⟩

/-- What every run ends with. -/
theorem run (ρ : Dev nD → PrngReg) : θ_run defs (onTc (τ := τ) (main (F := Ideal))) ⟨m, fun _ => 0, ρ⟩ fun r => ∀ c : Dev nD,
      r.2.mem (c.tc.loc main_v0) = G (aA m c) (aB m c) ∧ Mm.kept m r.2.mem c main_arg0 ∧ Mm.kept m r.2.mem c main_arg1 :=
  (θ_run defs _ _).mono (fun _ h c => ⟨(h c).1.trans (final m c), (h c).2⟩) (Value.run_blocks m ρ)

open Reference24Ideal.Read in
/-- One entry of the reference's product. -/
theorem ref_E (x0 : Vec Ideal S4096x1024 .bf16) (x1 : Vec Ideal S1024x1024 .bf16) (r : Fin 4096) (s : Fin 1024) :
    val_main_v4 (F := Ideal) x0 x1 (ix2 r s) = E x0 x1 r s := by
  unfold E
  rw [val_main_v4_apply]
  refine Finset.sum_congr rfl fun k _ => ?_
  refine congrArg₂ (· * ·) ?_ ?_
  · show x0 _ = _
    exact congrArg x0 (Mm.idx2 rfl rfl)
  · show x1 _ = _
    exact congrArg x1 (Mm.idx2 rfl rfl)

open Reference24Ideal.Read in
/-- The reference's result. -/
theorem ref_eq (x0 : Vec Ideal S4096x1024 .bf16) (x1 : Vec Ideal S1024x1024 .bf16) :
    val_main_v4 (F := Ideal) x0 x1 = G x0 x1 := by
  funext i
  obtain ⟨r, s, rfl⟩ := Mm.ex2 4096 1024 i
  exact ref_E x0 x1 r s

end Cert.Kernel24Ideal.Prod

namespace Cert.Proof.K24
open Idealize ShloMosaic SL.Sem

/-- The reference ends. -/
theorem frameRef : quiescent_Reference24Ideal := fun m ρ _ =>
  (θ_run Reference24Ideal.defs _ _).mono (fun r h => ⟨fun c => (h c).2, sem_eq_zero_of_no_sems (by decide) r.2⟩)
    (Reference24Ideal.Value.run m ρ)

/-- The call's result is the reference's. -/
theorem algebraic : algebraic_Kernel24Ideal_Reference24Ideal := by
  intro m ρ m' ρ' hpre hargs
  refine ⟨_, Kernel24Ideal.Prod.run m ρ, (θ_run Reference24Ideal.defs _ _).mono (fun r h c => ?_)
    (Reference24Ideal.Value.run m' ρ')⟩
  obtain ⟨h0, hk⟩ := h c
  refine ⟨?_, hk⟩
  refine h0.trans ((Reference24Ideal.Read.val_main_v4_eq _ _).trans ?_)
  rw [(hargs c).1, (hargs c).2]
  exact Kernel24Ideal.Prod.ref_eq _ _

end Cert.Proof.K24
-- ==== Proof.Mm.P25.lean ====
/-
  The gradient of the Conformer module's second weight: the call's tiles put together are the product, and the reference's
  product is the same sum.
-/
module

public import proofs.«01_k».proof.Proof.Gen.Kernel25.Frame
public import proofs.«01_k».proof.Proof.Gen.Kernel25Ideal.Value
public import proofs.«01_k».proof.Proof.Gen.Reference25Ideal.Read
public import proofs.«01_k».proof.Proof.Mm.Sum

@[expose] public section

noncomputable section

namespace Cert.Kernel25Ideal.Prod

open Kernel25Ideal Kernel25Ideal.Gen Idealize ShloMosaic ShloMosaic.TcCoe SL.Sem

/-- One entry of the product. -/
def E (A B : Vec Ideal S4096x1024 .bf16) (r s : Fin 1024) : EReal :=
  ∑ k : Fin 4096, A (ix2 k r) * B (ix2 k s)

/-- The call's result: the product in its place among the layers' gradients, everything else as before. -/
def G (A B : Vec Ideal S4096x1024 .bf16) (C : Vec Ideal S2x1024x1024 .bf16) : Vec Ideal S2x1024x1024 .bf16 :=
  fun i => if (i 0).val = 0 then E A B ⟨(i 1).val, (i 1).isLt⟩ ⟨(i 2).val, (i 2).isLt⟩ else C i

/-- One tile's product. -/
theorem pay_at (x0 x1 : Vec Ideal S2048x1024 .bf16) (r s : Fin 1024) :
    k0_pay1 x0 x1 (ix2 r s) = ∑ k : Fin 2048, x0 (ix2 k r) * x1 (ix2 k s) := by
  unfold k0_pay1
  simp only [pointwise]
  rw [zero_add]

section Cases

variable (c : Dev nD) (i : grid0.Coords) (arg3 : Memref sig .tc .vmem S2048x1024 .bf16) (harg3 : arg3.IsWhole) (arg4 : Memref sig .tc .vmem S2048x1024 .bf16) (harg4 : arg4.IsWhole) (arg6 : Memref sig .tc .vmem S1x1024x1024 .bf16) (harg6 : arg6.IsWhole) (arg7 : Memref sig .tc .vmem S1024x1024 .f32) (harg7 : arg7.IsWhole)
  (x0 x1 : Vec Ideal S2048x1024 .bf16) (xs : Vec Ideal S1024x1024 .f32)

theorem sout_A (hc0 : cond0_0 i) (hc1 : ¬cond0_1 i) (hc2 : ¬cond0_2 i) :
    sout0_A_0 c i arg3 harg3 arg4 harg4 arg6 harg6 arg7 harg7 hc0 hc1 hc2 x0 x1 = k0_pay2 x0 x1 := by
  unfold sout0_A_0
  rw [View.read_writes_eq_canon _ _ _ (fun _ => scover0_A_0 ..)]
  unfold kernelRun0_A
  dsimp only
  sl_unfold_words
  simp only [View.readAt_eq_ld, Memref.IsWhole.read_unread]
  rw [View.canon_unit_zero Mm.zero2]
  repeat rw [View.ld_unit_zero Mm.zero2]

theorem out_B (hc0 : ¬cond0_0 i) (hc1 : cond0_1 i) (hc2 : cond0_2 i) :
    out0_B_2 c i arg3 harg3 arg4 harg4 arg6 harg6 arg7 harg7 hc0 hc1 hc2 x0 x1 xs = k0_pay4 (k0_pay3 x0 x1 xs) := by
  unfold out0_B_2
  rw [View.read_writes_eq_canon _ _ _ (fun _ => cover0_B_2 ..)]
  unfold kernelRun0_B
  dsimp only
  sl_unfold_words
  simp only [View.readAt_eq_ld, Memref.IsWhole.read_unread]
  simp (disch := decide) only [View.readCov_fill]
  rw [View.canon_unit_zero Mm.zero3]
  repeat rw [View.ld_unit_zero Mm.zero2]

end Cases

theorem pay2_at (x0 x1 : Vec Ideal S2048x1024 .bf16) (r s : Fin 1024) :
    k0_pay2 x0 x1 (ix2 r s) = k0_pay1 x0 x1 (ix2 r s) := by
  unfold k0_pay2
  simp only [pointwise]

theorem pay4_at (x0 x1 : Vec Ideal S2048x1024 .bf16) (xs : Vec Ideal S1024x1024 .f32)
    (l : Fin 1) (r s : Fin 1024) :
    k0_pay4 (k0_pay3 x0 x1 xs) (ix3 l r s) = xs (ix2 r s) + k0_pay1 x0 x1 (ix2 r s) := by
  unfold k0_pay4 k0_pay3
  simp only [pointwise]

variable (m : (ℓ : Loc nD τ sig) → Buf (Elt Ideal) ℓ)

abbrev aA (c : Dev nD) : Vec Ideal S4096x1024 .bf16 := m (c.tc.loc main_arg0)
abbrev aB (c : Dev nD) : Vec Ideal S4096x1024 .bf16 := m (c.tc.loc main_arg1)
abbrev aC (c : Dev nD) : Vec Ideal S2x1024x1024 .bf16 := m (c.tc.loc main_arg2)

theorem idx_facts : ∀ t : Fin grid0.N, win0_0.index t 0 = t.val % 2 ∧ win0_0.index t 1 = t.val / 2 ∧ win0_1.index t 0 = t.val % 2 ∧ win0_1.index t 1 = 0 ∧ win0_2.index t 0 = 0 ∧ win0_2.index t 1 = t.val / 2 ∧ win0_2.index t 2 = 0 := by decide +kernel

theorem blk0_at (c : Dev nD) (t : Fin cfg0.N) (y : S2048x1024.Idx) (z : S4096x1024.Idx)
    (h0 : (z 0).val = 2048 * (t.val % 2) + (y 0).val) (h1 : (z 1).val = 1024 * (t.val / 2) + (y 1).val) :
    iblk m c 0 t y = aA m c z := by
  obtain ⟨q00, q01, -⟩ := idx_facts t
  refine (congrFun (V_main_arg0 m c) _).trans (congrArg _ (Mm.idx2 (Mm.at_ 2048 q00 (by omega)) (Mm.at_ 1024 q01 (by omega))))

theorem blk1_at (c : Dev nD) (t : Fin cfg0.N) (y : S2048x1024.Idx) (z : S4096x1024.Idx)
    (h0 : (z 0).val = 2048 * (t.val % 2) + (y 0).val) (h1 : (z 1).val = (y 1).val) :
    iblk m c 1 t y = aB m c z := by
  obtain ⟨-, -, q10, q11, -⟩ := idx_facts t
  refine (congrFun (V_main_arg1 m c) _).trans (congrArg _ (Mm.idx2 (Mm.at_ 2048 q10 (by omega)) (Mm.at_ 1024 q11 (by omega))))

theorem flushed (c : Dev nD) (t : Fin cfg0.N) (hf : (cfg0.win 2).flush t = true) :
    (dats m 0 c).flushed 2 t = ((cfg0.win 2).blk t).view.read (Elt Ideal) (G (aA m c) (aB m c) (aC m c)) := by
  obtain ⟨-, -, -, -, q20, q21, q22⟩ := idx_facts t
  have h1 : t.val % 2 = 1 := (flush0_2 t).mp hf
  have h0 : ¬t.val % 2 = 0 := by omega
  obtain ⟨u, hu⟩ : ∃ u : Fin cfg0.N, u.val = t.val - 1 := ⟨⟨t.val - 1, by have := t.isLt; omega⟩, rfl⟩
  have hs : (outsAt0 m c (t.val - 1) (Nat.lt_of_le_of_lt (Nat.sub_le _ _) t.isLt)).2 = k0_pay2 (iblk m c 0 u) (iblk m c 1 u) := by
    have e : outsAt0 m c (t.val - 1) (Nat.lt_of_le_of_lt (Nat.sub_le _ _) t.isLt) = outsAt0 m c u.val u.isLt := by
      congr 1; exact hu.symm
    rw [e, outsAt0_A m c u (by omega) (by omega) (by omega)]
    dsimp only
    rw [sout_A]
  rw [Value.flushed2_B m c t h0 h1 h1, out_B, hs]
  funext y
  obtain ⟨l, r, s, rfl⟩ : ∃ (l : Fin 1) (r s : Fin 1024), y = ix3 l r s := ⟨y 0, y 1, y 2, ValueIdx.eq_ix3 y⟩
  rw [View.read_apply]
  refine (pay4_at _ _ _ l r s).trans ?_
  rw [pay2_at, pay_at, pay_at]
  have el : ((((cfg0.win 2).blk t).view.emb (ix3 l r s)) 0).val = 0 := Mm.at' 1 l.val _ q20 (by omega)
  have er : ((((cfg0.win 2).blk t).view.emb (ix3 l r s)) 1).val = 1024 * (t.val / 2) + r.val := Mm.at' 1024 r.val _ q21 (by omega)
  have es : ((((cfg0.win 2).blk t).view.emb (ix3 l r s)) 2).val = s.val := Mm.at' 1024 s.val _ q22 (by omega)
  unfold G
  rw [if_pos el]
  unfold E
  rw [Mm.sum_halves (n := 2048) rfl]
  refine congrArg₂ (· + ·) (Finset.sum_congr rfl fun k _ => congrArg₂ (· * ·) (blk0_at m c u _ _ ?_ ?_) (blk1_at m c u _ _ ?_ ?_))
    (Finset.sum_congr rfl fun k _ => congrArg₂ (· * ·) (blk0_at m c t _ _ ?_ ?_) (blk1_at m c t _ _ ?_ ?_))
  · show k.val = 2048 * (u.val % 2) + k.val; omega
  · refine er.trans ?_; show _ = 1024 * (u.val / 2) + r.val; omega
  · show k.val = 2048 * (u.val % 2) + k.val; omega
  · exact es
  · show 2048 + k.val = 2048 * (t.val % 2) + k.val; omega
  · refine er.trans ?_; show _ = 1024 * (t.val / 2) + r.val; omega
  · show 2048 + k.val = 2048 * (t.val % 2) + k.val; omega
  · exact es

theorem final (c : Dev nD) : (dats m 0 c).arrAt 2 cfg0.N = G (aA m c) (aB m c) (aC m c) := by
  funext i
  rw [(dats m 0 c).arrAt_eq_piecewise 2 (G (aA m c) (aB m c) (aC m c)) (flushed m c) i]
  split
  · rfl
  · rename_i hno
    have hi0 : ¬((i 0 : Nat) = 0) := fun hz => hno (by
      have h1 : (i 1 : Nat) < 1024 := (i 1).isLt
      have h2 : (i 2 : Nat) < 1024 := (i 2).isLt
      have hN : cfg0.N = 2 := N_0
      obtain ⟨t, ht0, ht1⟩ : ∃ t : Fin cfg0.N, t.val / 2 = (i 1 : Nat) / 1024 ∧ t.val % 2 = 1 :=
        ⟨⟨2 * ((i 1 : Nat) / 1024) + 1, by omega⟩, by dsimp only; omega, by dsimp only; omega⟩
      obtain ⟨-, -, -, -, q20, q21, q22⟩ := idx_facts t
      refine ⟨t, (flush0_2 t).mpr ht1, ?_⟩
      show i ∈ ((View.whole main_v0).slice (win0_2.rect t)).set
      rw [View.set_slice_whole, Rect.mem_set_unit]
      intro a
      match a with
      | ⟨0, _⟩ =>
        show win0_2.index t 0 * 1 ≤ (i 0 : Nat) ∧ (i 0 : Nat) < win0_2.index t 0 * 1 + 1
        rw [q20]; omega
      | ⟨1, _⟩ =>
        show win0_2.index t 1 * 1024 ≤ (i 1 : Nat) ∧ (i 1 : Nat) < win0_2.index t 1 * 1024 + 1024
        rw [q21]; omega
      | ⟨2, _⟩ =>
        show win0_2.index t 2 * 1024 ≤ (i 2 : Nat) ∧ (i 2 : Nat) < win0_2.index t 2 * 1024 + 1024
        rw [q22]; omega)
    unfold G
    rw [if_neg hi0, A_eq]
    show V m c main_v0 i = m (c.tc.loc main_arg2) i
    rfl

/-- What every run ends with. -/
theorem run (ρ : Dev nD → PrngReg) : θ_run defs (onTc (τ := τ) (main (F := Ideal))) ⟨m, fun _ => 0, ρ⟩ fun r => ∀ c : Dev nD,
      r.2.mem (c.tc.loc main_v0) = G (aA m c) (aB m c) (aC m c) ∧ Mm.kept m r.2.mem c main_arg0 ∧ Mm.kept m r.2.mem c main_arg1 ∧ Mm.kept m r.2.mem c main_arg2 :=
  (θ_run defs _ _).mono (fun _ h c => ⟨(h c).1.trans (final m c), (h c).2⟩) (Value.run_blocks m ρ)

open Reference25Ideal.Read in
/-- One entry of the reference's product. -/
theorem ref_E (x0 x1 : Vec Ideal S4096x1024 .bf16) (r s : Fin 1024) :
    val_main_v6 (F := Ideal) x0 x1 (ix2 r s) = E x0 x1 r s := by
  unfold E
  show val_main_v5 (F := Ideal) x0 x1 _ = _
  rw [val_main_v5_apply]
  rw [val_main_v4_apply]
  refine Finset.sum_congr rfl fun k _ => ?_
  rw [mul_comm]
  refine congrArg₂ (· * ·) ?_ ?_
  · show x0 _ = _
    exact congrArg x0 (Mm.idx2 rfl rfl)
  · show x1 _ = _
    exact congrArg x1 (Mm.idx2 rfl rfl)

/-- In the first slot the result is the product. -/
theorem G_in (A B : Vec Ideal S4096x1024 .bf16) (C : Vec Ideal S2x1024x1024 .bf16) (l : Fin 2) (r s : Fin 1024) (hl : l.val = 0)
    : G A B C (ix3 l r s) = E A B r s := if_pos hl

/-- Elsewhere the result is what was there before. -/
theorem G_off (A B : Vec Ideal S4096x1024 .bf16) (C : Vec Ideal S2x1024x1024 .bf16) (l : Fin 2) (r s : Fin 1024)
    (hl : ¬l.val = 0) : G A B C (ix3 l r s) = C (ix3 l r s) := if_neg hl

open Reference25Ideal.Read in
/-- The reference's result. -/
theorem ref_eq (x0 x1 : Vec Ideal S4096x1024 .bf16) (x2 : Vec Ideal S2x1024x1024 .bf16) :
    val_main_v9 (F := Ideal) x0 x1 x2 = G x0 x1 x2 := by
  funext i
  obtain ⟨l, r, s, rfl⟩ : ∃ (l : Fin 2) (r s : Fin 1024), i = ix3 l r s := ⟨i 0, i 1, i 2, ValueIdx.eq_ix3 i⟩
  unfold val_main_v9
  by_cases hl : l.val = 0
  · refine (concatenate_pair_apply_left (t := Reference25Ideal.S2x1024x1024) (s₁ := Reference25Ideal.S1x1024x1024) (s₂ := Reference25Ideal.S1x1024x1024) (0 : Fin 3) _ _ _ _ rfl
      (ix3 (⟨0, by decide⟩ : Fin 1) r s) (fun a => by
      match a with
      | ⟨0, _⟩ => exact hl.symm
      | ⟨1, _⟩ => rfl
      | ⟨2, _⟩ => rfl)).trans ?_
    rw [val_main_v7_apply]
    have e : idx_main_v7 (ix3 (⟨0, by decide⟩ : Fin 1) r s) = ix2 r s := Mm.idx2 rfl rfl
    rw [e]
    exact (ref_E x0 x1 r s).trans (G_in x0 x1 x2 l r s hl).symm
  · refine Eq.trans ?_ (G_off x0 x1 x2 l r s hl).symm
    have hb := l.isLt
    refine (concatenate_pair_apply_right (t := Reference25Ideal.S2x1024x1024) (s₁ := Reference25Ideal.S1x1024x1024) (s₂ := Reference25Ideal.S1x1024x1024) (0 : Fin 3) _ _ _ _ rfl rfl
      (ix3 (⟨l.val - 1, by omega⟩ : Fin 1) r s) (fun a ha => by
      match a with
      | ⟨0, _⟩ => exact absurd rfl ha
      | ⟨1, _⟩ => rfl
      | ⟨2, _⟩ => rfl) (by show l.val - 1 + 1 = l.val; omega)).trans ?_
    rw [val_main_v8_apply]
    refine congrArg x2 (Mm.idx3 ?_ ?_ ?_)
    · show 1 + (l.val - 1) = l.val; omega
    · rfl
    · rfl

end Cert.Kernel25Ideal.Prod

namespace Cert.Proof.K25
open Idealize ShloMosaic SL.Sem

/-- The reference ends. -/
theorem frameRef : quiescent_Reference25Ideal := fun m ρ _ =>
  (θ_run Reference25Ideal.defs _ _).mono (fun r h => ⟨fun c => (h c).2, sem_eq_zero_of_no_sems (by decide) r.2⟩)
    (Reference25Ideal.Value.run m ρ)

/-- The call's result is the reference's. -/
theorem algebraic : algebraic_Kernel25Ideal_Reference25Ideal := by
  intro m ρ m' ρ' hpre hargs
  refine ⟨_, Kernel25Ideal.Prod.run m ρ, (θ_run Reference25Ideal.defs _ _).mono (fun r h c => ?_)
    (Reference25Ideal.Value.run m' ρ')⟩
  obtain ⟨h0, hk⟩ := h c
  refine ⟨?_, hk⟩
  refine h0.trans ((Reference25Ideal.Read.val_main_v9_eq _ _ _).trans ?_)
  rw [(hargs c).1, (hargs c).2.1, (hargs c).2.2]
  exact Kernel25Ideal.Prod.ref_eq _ _ _

end Cert.Proof.K25
-- ==== Proof.Mm.P26.lean ====
/-
  The gradient of the Conformer module's input: the call's tiles put together are the product, and the reference's
  product is the same sum.
-/
module

public import proofs.«01_k».proof.Proof.Gen.Kernel26.Frame
public import proofs.«01_k».proof.Proof.Gen.Kernel26Ideal.Value
public import proofs.«01_k».proof.Proof.Gen.Reference26Ideal.Read
public import proofs.«01_k».proof.Proof.Mm.Sum

@[expose] public section

noncomputable section

namespace Cert.Kernel26Ideal.Prod

open Kernel26Ideal Kernel26Ideal.Gen Idealize ShloMosaic ShloMosaic.TcCoe SL.Sem

/-- One entry of the product. -/
def E (A : Vec Ideal S4096x2048 .bf16) (B : Vec Ideal S1024x2048 .bf16) (r : Fin 4096) (s : Fin 1024) : EReal :=
  ∑ k : Fin 2048, A (ix2 r k) * B (ix2 s k)

/-- The call's result. -/
def G (A : Vec Ideal S4096x2048 .bf16) (B : Vec Ideal S1024x2048 .bf16) : Vec Ideal S4096x1024 .bf16 :=
  fun i => E A B ⟨(i 0).val, (i 0).isLt⟩ ⟨(i 1).val, (i 1).isLt⟩

/-- One tile's product. -/
theorem pay_at (x0 x1 : Vec Ideal S1024x2048 .bf16) (r s : Fin 1024) :
    k0_pay1 x0 x1 (ix2 r s) = ∑ k : Fin 2048, x0 (ix2 r k) * x1 (ix2 s k) := by
  unfold k0_pay1
  simp only [pointwise]
  rw [zero_add]

theorem out_eq (x0 x1 : Vec Ideal S1024x2048 .bf16) : out0_2 x0 x1 = k0_pay1 x0 x1 := by
  unfold out0_2
  rw [View.canon_unit_zero Mm.zero2]
  repeat rw [View.ld_unit_zero Mm.zero2]

variable (m : (ℓ : Loc nD τ sig) → Buf (Elt Ideal) ℓ)

abbrev aA (c : Dev nD) : Vec Ideal S4096x2048 .bf16 := m (c.tc.loc main_arg0)
abbrev aB (c : Dev nD) : Vec Ideal S1024x2048 .bf16 := m (c.tc.loc main_arg1)

theorem idx_facts : ∀ t : Fin grid0.N, win0_0.index t 0 = t.val ∧ win0_0.index t 1 = 0 ∧ win0_1.index t 0 = 0 ∧ win0_1.index t 1 = 0 ∧ win0_2.index t 0 = t.val ∧ win0_2.index t 1 = 0 := by decide +kernel

theorem blk0_at (c : Dev nD) (t : Fin cfg0.N) (y : S1024x2048.Idx) (z : S4096x2048.Idx)
    (h0 : (z 0).val = 1024 * (t.val) + (y 0).val) (h1 : (z 1).val = (y 1).val) :
    iblk m c 0 t y = aA m c z := by
  obtain ⟨q00, q01, -⟩ := idx_facts t
  unfold iblk
  rw [View.read_apply]
  show V m c main_arg0 _ = m (c.tc.loc main_arg0) _
  unfold V
  congr 1
  refine Mm.idx2 ?_ ?_
  · exact Mm.at_ 1024 q00 (by omega)
  · exact Mm.at_ 2048 q01 (by omega)

theorem blk1_at (c : Dev nD) (t : Fin cfg0.N) (y z : S1024x2048.Idx)
    (h0 : (z 0).val = (y 0).val) (h1 : (z 1).val = (y 1).val) :
    iblk m c 1 t y = aB m c z := by
  obtain ⟨-, -, q10, q11, -⟩ := idx_facts t
  unfold iblk
  rw [View.read_apply]
  show V m c main_arg1 _ = m (c.tc.loc main_arg1) _
  unfold V
  congr 1
  refine Mm.idx2 ?_ ?_
  · exact Mm.at_ 1024 q10 (by omega)
  · exact Mm.at_ 2048 q11 (by omega)

theorem flushed (c : Dev nD) (t : Fin cfg0.N) :
    (dats m 0 c).flushed 2 t = ((cfg0.win 2).blk t).view.read (Elt Ideal) (G (aA m c) (aB m c)) := by
  obtain ⟨-, -, -, -, q20, q21⟩ := idx_facts t
  rw [Value.flushed2, out_eq]
  funext y
  obtain ⟨r, s, rfl⟩ := Mm.ex2 1024 1024 y
  rw [View.read_apply]
  refine (pay_at _ _ r s).trans ?_
  have er : ((((cfg0.win 2).blk t).view.emb (ix2 r s)) 0).val = 1024 * (t.val) + r.val := Mm.at' 1024 r.val _ q20 (by omega)
  have es : ((((cfg0.win 2).blk t).view.emb (ix2 r s)) 1).val = s.val := Mm.at' 1024 s.val _ q21 (by omega)
  unfold G E
  refine Finset.sum_congr rfl fun k _ => congrArg₂ (· * ·) (blk0_at m c t _ _ ?_ ?_) (blk1_at m c t _ _ ?_ ?_)
  · refine er.trans ?_; show _ = 1024 * (t.val) + r.val; omega
  · rfl
  · exact es
  · rfl

theorem final (c : Dev nD) : (dats m 0 c).arrAt 2 cfg0.N = G (aA m c) (aB m c) :=
  (dats m 0 c).arrAt_eq_of_cover 2 _ (fun t _ => flushed m c t) fun i => by
    have h1 : (i 0 : Nat) < 4096 := (i 0).isLt
    have h2 : (i 1 : Nat) < 1024 := (i 1).isLt
    have hN : cfg0.N = 4 := N_0
    obtain ⟨t, ht0⟩ : ∃ t : Fin cfg0.N, t.val = (i 0 : Nat) / 1024 :=
      ⟨⟨(i 0 : Nat) / 1024, by omega⟩, rfl⟩
    obtain ⟨-, -, -, -, q20, q21⟩ := idx_facts t
    exact ⟨t, flush0_2 t, Mm.memv (Mm.mem2 1024 1024 q20 q21 (by omega) (by omega))⟩

/-- What every run ends with. -/
theorem run (ρ : Dev nD → PrngReg) : θ_run defs (onTc (τ := τ) (main (F := Ideal))) ⟨m, fun _ => 0, ρ⟩ fun r => ∀ c : Dev nD,
      r.2.mem (c.tc.loc main_v0) = G (aA m c) (aB m c) ∧ Mm.kept m r.2.mem c main_arg0 ∧ Mm.kept m r.2.mem c main_arg1 :=
  (θ_run defs _ _).mono (fun _ h c => ⟨(h c).1.trans (final m c), (h c).2⟩) (Value.run_blocks m ρ)

open Reference26Ideal.Read in
/-- One entry of the reference's product. -/
theorem ref_E (x0 : Vec Ideal S4096x2048 .bf16) (x1 : Vec Ideal S1024x2048 .bf16) (r : Fin 4096) (s : Fin 1024) :
    val_main_v5 (F := Ideal) x0 x1 (ix2 r s) = E x0 x1 r s := by
  unfold E
  show val_main_v4 (F := Ideal) x0 x1 _ = _
  rw [val_main_v4_apply]
  refine Finset.sum_congr rfl fun k _ => ?_
  refine congrArg₂ (· * ·) ?_ ?_
  · show x0 _ = _
    exact congrArg x0 (Mm.idx2 rfl rfl)
  · show x1 _ = _
    exact congrArg x1 (Mm.idx2 rfl rfl)

open Reference26Ideal.Read in
/-- The reference's result. -/
theorem ref_eq (x0 : Vec Ideal S4096x2048 .bf16) (x1 : Vec Ideal S1024x2048 .bf16) :
    val_main_v5 (F := Ideal) x0 x1 = G x0 x1 := by
  funext i
  obtain ⟨r, s, rfl⟩ := Mm.ex2 4096 1024 i
  exact ref_E x0 x1 r s

end Cert.Kernel26Ideal.Prod

namespace Cert.Proof.K26
open Idealize ShloMosaic SL.Sem

/-- The reference ends. -/
theorem frameRef : quiescent_Reference26Ideal := fun m ρ _ =>
  (θ_run Reference26Ideal.defs _ _).mono (fun r h => ⟨fun c => (h c).2, sem_eq_zero_of_no_sems (by decide) r.2⟩)
    (Reference26Ideal.Value.run m ρ)

/-- The call's result is the reference's. -/
theorem algebraic : algebraic_Kernel26Ideal_Reference26Ideal := by
  intro m ρ m' ρ' hpre hargs
  refine ⟨_, Kernel26Ideal.Prod.run m ρ, (θ_run Reference26Ideal.defs _ _).mono (fun r h c => ?_)
    (Reference26Ideal.Value.run m' ρ')⟩
  obtain ⟨h0, hk⟩ := h c
  refine ⟨?_, hk⟩
  refine h0.trans ((Reference26Ideal.Read.val_main_v5_eq _ _).trans ?_)
  rw [(hargs c).1, (hargs c).2]
  exact Kernel26Ideal.Prod.ref_eq _ _

end Cert.Proof.K26
-- ==== Proof.Mm.P27.lean ====
/-
  The gradient of the Conformer module's first weight: the call's tiles put together are the product, and the reference's
  product is the same sum.
-/
module

public import proofs.«01_k».proof.Proof.Gen.Kernel27.Frame
public import proofs.«01_k».proof.Proof.Gen.Kernel27Ideal.Value
public import proofs.«01_k».proof.Proof.Gen.Reference27Ideal.Read
public import proofs.«01_k».proof.Proof.Mm.Sum

@[expose] public section

noncomputable section

namespace Cert.Kernel27Ideal.Prod

open Kernel27Ideal Kernel27Ideal.Gen Idealize ShloMosaic ShloMosaic.TcCoe SL.Sem

/-- One entry of the product. -/
def E (A : Vec Ideal S4096x1024 .bf16) (B : Vec Ideal S4096x2048 .bf16) (r : Fin 1024) (s : Fin 2048) : EReal :=
  ∑ k : Fin 4096, A (ix2 k r) * B (ix2 k s)

/-- The call's result: the product in its place among the layers' gradients, everything else as before. -/
def G (A : Vec Ideal S4096x1024 .bf16) (B : Vec Ideal S4096x2048 .bf16) (C : Vec Ideal S2x1024x2048 .bf16) : Vec Ideal S2x1024x2048 .bf16 :=
  fun i => if (i 0).val = 0 then E A B ⟨(i 1).val, (i 1).isLt⟩ ⟨(i 2).val, (i 2).isLt⟩ else C i

/-- One tile's product. -/
theorem pay_at (x0 x1 : Vec Ideal S2048x1024 .bf16) (r s : Fin 1024) :
    k0_pay1 x0 x1 (ix2 r s) = ∑ k : Fin 2048, x0 (ix2 k r) * x1 (ix2 k s) := by
  unfold k0_pay1
  simp only [pointwise]
  rw [zero_add]

section Cases

variable (c : Dev nD) (i : grid0.Coords) (arg3 : Memref sig .tc .vmem S2048x1024 .bf16) (harg3 : arg3.IsWhole) (arg4 : Memref sig .tc .vmem S2048x1024 .bf16) (harg4 : arg4.IsWhole) (arg6 : Memref sig .tc .vmem S1x1024x1024 .bf16) (harg6 : arg6.IsWhole) (arg7 : Memref sig .tc .vmem S1024x1024 .f32) (harg7 : arg7.IsWhole)
  (x0 x1 : Vec Ideal S2048x1024 .bf16) (xs : Vec Ideal S1024x1024 .f32)

theorem sout_A (hc0 : cond0_0 i) (hc1 : ¬cond0_1 i) (hc2 : ¬cond0_2 i) :
    sout0_A_0 c i arg3 harg3 arg4 harg4 arg6 harg6 arg7 harg7 hc0 hc1 hc2 x0 x1 = k0_pay2 x0 x1 := by
  unfold sout0_A_0
  rw [View.read_writes_eq_canon _ _ _ (fun _ => scover0_A_0 ..)]
  unfold kernelRun0_A
  dsimp only
  sl_unfold_words
  simp only [View.readAt_eq_ld, Memref.IsWhole.read_unread]
  rw [View.canon_unit_zero Mm.zero2]
  repeat rw [View.ld_unit_zero Mm.zero2]

theorem out_B (hc0 : ¬cond0_0 i) (hc1 : cond0_1 i) (hc2 : cond0_2 i) :
    out0_B_2 c i arg3 harg3 arg4 harg4 arg6 harg6 arg7 harg7 hc0 hc1 hc2 x0 x1 xs = k0_pay4 (k0_pay3 x0 x1 xs) := by
  unfold out0_B_2
  rw [View.read_writes_eq_canon _ _ _ (fun _ => cover0_B_2 ..)]
  unfold kernelRun0_B
  dsimp only
  sl_unfold_words
  simp only [View.readAt_eq_ld, Memref.IsWhole.read_unread]
  simp (disch := decide) only [View.readCov_fill]
  rw [View.canon_unit_zero Mm.zero3]
  repeat rw [View.ld_unit_zero Mm.zero2]

end Cases

theorem pay2_at (x0 x1 : Vec Ideal S2048x1024 .bf16) (r s : Fin 1024) :
    k0_pay2 x0 x1 (ix2 r s) = k0_pay1 x0 x1 (ix2 r s) := by
  unfold k0_pay2
  simp only [pointwise]

theorem pay4_at (x0 x1 : Vec Ideal S2048x1024 .bf16) (xs : Vec Ideal S1024x1024 .f32)
    (l : Fin 1) (r s : Fin 1024) :
    k0_pay4 (k0_pay3 x0 x1 xs) (ix3 l r s) = xs (ix2 r s) + k0_pay1 x0 x1 (ix2 r s) := by
  unfold k0_pay4 k0_pay3
  simp only [pointwise]

variable (m : (ℓ : Loc nD τ sig) → Buf (Elt Ideal) ℓ)

abbrev aA (c : Dev nD) : Vec Ideal S4096x1024 .bf16 := m (c.tc.loc main_arg0)
abbrev aB (c : Dev nD) : Vec Ideal S4096x2048 .bf16 := m (c.tc.loc main_arg1)
abbrev aC (c : Dev nD) : Vec Ideal S2x1024x2048 .bf16 := m (c.tc.loc main_arg2)

theorem idx_facts : ∀ t : Fin grid0.N, win0_0.index t 0 = t.val % 2 ∧ win0_0.index t 1 = t.val / 4 ∧ win0_1.index t 0 = t.val % 2 ∧ win0_1.index t 1 = t.val / 2 % 2 ∧ win0_2.index t 0 = 0 ∧ win0_2.index t 1 = t.val / 4 ∧ win0_2.index t 2 = t.val / 2 % 2 := by decide +kernel

theorem blk0_at (c : Dev nD) (t : Fin cfg0.N) (y : S2048x1024.Idx) (z : S4096x1024.Idx)
    (h0 : (z 0).val = 2048 * (t.val % 2) + (y 0).val) (h1 : (z 1).val = 1024 * (t.val / 4) + (y 1).val) :
    iblk m c 0 t y = aA m c z := by
  obtain ⟨q00, q01, -⟩ := idx_facts t
  refine (congrFun (V_main_arg0 m c) _).trans (congrArg _ (Mm.idx2 (Mm.at_ 2048 q00 (by omega)) (Mm.at_ 1024 q01 (by omega))))

theorem blk1_at (c : Dev nD) (t : Fin cfg0.N) (y : S2048x1024.Idx) (z : S4096x2048.Idx)
    (h0 : (z 0).val = 2048 * (t.val % 2) + (y 0).val) (h1 : (z 1).val = 1024 * (t.val / 2 % 2) + (y 1).val) :
    iblk m c 1 t y = aB m c z := by
  obtain ⟨-, -, q10, q11, -⟩ := idx_facts t
  refine (congrFun (V_main_arg1 m c) _).trans (congrArg _ (Mm.idx2 (Mm.at_ 2048 q10 (by omega)) (Mm.at_ 1024 q11 (by omega))))

theorem flushed (c : Dev nD) (t : Fin cfg0.N) (hf : (cfg0.win 2).flush t = true) :
    (dats m 0 c).flushed 2 t = ((cfg0.win 2).blk t).view.read (Elt Ideal) (G (aA m c) (aB m c) (aC m c)) := by
  obtain ⟨-, -, -, -, q20, q21, q22⟩ := idx_facts t
  have h1 : t.val % 2 = 1 := (flush0_2 t).mp hf
  have h0 : ¬t.val % 2 = 0 := by omega
  obtain ⟨u, hu⟩ : ∃ u : Fin cfg0.N, u.val = t.val - 1 := ⟨⟨t.val - 1, by have := t.isLt; omega⟩, rfl⟩
  have hs : (outsAt0 m c (t.val - 1) (Nat.lt_of_le_of_lt (Nat.sub_le _ _) t.isLt)).2 = k0_pay2 (iblk m c 0 u) (iblk m c 1 u) := by
    have e : outsAt0 m c (t.val - 1) (Nat.lt_of_le_of_lt (Nat.sub_le _ _) t.isLt) = outsAt0 m c u.val u.isLt := by
      congr 1; exact hu.symm
    rw [e, outsAt0_A m c u (by omega) (by omega) (by omega)]
    dsimp only
    rw [sout_A]
  rw [Value.flushed2_B m c t h0 h1 h1, out_B, hs]
  funext y
  obtain ⟨l, r, s, rfl⟩ : ∃ (l : Fin 1) (r s : Fin 1024), y = ix3 l r s := ⟨y 0, y 1, y 2, ValueIdx.eq_ix3 y⟩
  rw [View.read_apply]
  refine (pay4_at _ _ _ l r s).trans ?_
  rw [pay2_at, pay_at, pay_at]
  have el : ((((cfg0.win 2).blk t).view.emb (ix3 l r s)) 0).val = 0 := Mm.at' 1 l.val _ q20 (by omega)
  have er : ((((cfg0.win 2).blk t).view.emb (ix3 l r s)) 1).val = 1024 * (t.val / 4) + r.val := Mm.at' 1024 r.val _ q21 (by omega)
  have es : ((((cfg0.win 2).blk t).view.emb (ix3 l r s)) 2).val = 1024 * (t.val / 2 % 2) + s.val := Mm.at' 1024 s.val _ q22 (by omega)
  unfold G
  rw [if_pos el]
  unfold E
  rw [Mm.sum_halves (n := 2048) rfl]
  refine congrArg₂ (· + ·) (Finset.sum_congr rfl fun k _ => congrArg₂ (· * ·) (blk0_at m c u _ _ ?_ ?_) (blk1_at m c u _ _ ?_ ?_))
    (Finset.sum_congr rfl fun k _ => congrArg₂ (· * ·) (blk0_at m c t _ _ ?_ ?_) (blk1_at m c t _ _ ?_ ?_))
  · show k.val = 2048 * (u.val % 2) + k.val; omega
  · refine er.trans ?_; show _ = 1024 * (u.val / 4) + r.val; omega
  · show k.val = 2048 * (u.val % 2) + k.val; omega
  · refine es.trans ?_; show _ = 1024 * (u.val / 2 % 2) + s.val; omega
  · show 2048 + k.val = 2048 * (t.val % 2) + k.val; omega
  · refine er.trans ?_; show _ = 1024 * (t.val / 4) + r.val; omega
  · show 2048 + k.val = 2048 * (t.val % 2) + k.val; omega
  · refine es.trans ?_; show _ = 1024 * (t.val / 2 % 2) + s.val; omega

theorem final (c : Dev nD) : (dats m 0 c).arrAt 2 cfg0.N = G (aA m c) (aB m c) (aC m c) := by
  funext i
  rw [(dats m 0 c).arrAt_eq_piecewise 2 (G (aA m c) (aB m c) (aC m c)) (flushed m c) i]
  split
  · rfl
  · rename_i hno
    have hi0 : ¬((i 0 : Nat) = 0) := fun hz => hno (by
      have h1 : (i 1 : Nat) < 1024 := (i 1).isLt
      have h2 : (i 2 : Nat) < 2048 := (i 2).isLt
      have hN : cfg0.N = 4 := N_0
      obtain ⟨t, ht0, ht1, ht2⟩ : ∃ t : Fin cfg0.N, t.val / 4 = (i 1 : Nat) / 1024 ∧ t.val / 2 % 2 = (i 2 : Nat) / 1024 ∧ t.val % 2 = 1 :=
        ⟨⟨2 * (2 * ((i 1 : Nat) / 1024) + (i 2 : Nat) / 1024) + 1, by omega⟩, by dsimp only; omega, by dsimp only; omega, by dsimp only; omega⟩
      obtain ⟨-, -, -, -, q20, q21, q22⟩ := idx_facts t
      refine ⟨t, (flush0_2 t).mpr ht2, ?_⟩
      show i ∈ ((View.whole main_v0).slice (win0_2.rect t)).set
      rw [View.set_slice_whole, Rect.mem_set_unit]
      intro a
      match a with
      | ⟨0, _⟩ =>
        show win0_2.index t 0 * 1 ≤ (i 0 : Nat) ∧ (i 0 : Nat) < win0_2.index t 0 * 1 + 1
        rw [q20]; omega
      | ⟨1, _⟩ =>
        show win0_2.index t 1 * 1024 ≤ (i 1 : Nat) ∧ (i 1 : Nat) < win0_2.index t 1 * 1024 + 1024
        rw [q21]; omega
      | ⟨2, _⟩ =>
        show win0_2.index t 2 * 1024 ≤ (i 2 : Nat) ∧ (i 2 : Nat) < win0_2.index t 2 * 1024 + 1024
        rw [q22]; omega)
    unfold G
    rw [if_neg hi0, A_eq]
    show V m c main_v0 i = m (c.tc.loc main_arg2) i
    rfl

/-- What every run ends with. -/
theorem run (ρ : Dev nD → PrngReg) : θ_run defs (onTc (τ := τ) (main (F := Ideal))) ⟨m, fun _ => 0, ρ⟩ fun r => ∀ c : Dev nD,
      r.2.mem (c.tc.loc main_v0) = G (aA m c) (aB m c) (aC m c) ∧ Mm.kept m r.2.mem c main_arg0 ∧ Mm.kept m r.2.mem c main_arg1 ∧ Mm.kept m r.2.mem c main_arg2 :=
  (θ_run defs _ _).mono (fun _ h c => ⟨(h c).1.trans (final m c), (h c).2⟩) (Value.run_blocks m ρ)

open Reference27Ideal.Read in
/-- One entry of the reference's product. -/
theorem ref_E (x0 : Vec Ideal S4096x1024 .bf16) (x1 : Vec Ideal S4096x2048 .bf16) (r : Fin 1024) (s : Fin 2048) :
    val_main_v6 (F := Ideal) x0 x1 (ix2 r s) = E x0 x1 r s := by
  unfold E
  show val_main_v5 (F := Ideal) x0 x1 _ = _
  rw [val_main_v5_apply]
  rw [val_main_v4_apply]
  refine Finset.sum_congr rfl fun k _ => ?_
  rw [mul_comm]
  refine congrArg₂ (· * ·) ?_ ?_
  · show x0 _ = _
    exact congrArg x0 (Mm.idx2 rfl rfl)
  · show x1 _ = _
    exact congrArg x1 (Mm.idx2 rfl rfl)

/-- In the first slot the result is the product. -/
theorem G_in (A : Vec Ideal S4096x1024 .bf16) (B : Vec Ideal S4096x2048 .bf16) (C : Vec Ideal S2x1024x2048 .bf16) (l : Fin 2) (r : Fin 1024) (s : Fin 2048) (hl : l.val = 0)
    : G A B C (ix3 l r s) = E A B r s := if_pos hl

/-- Elsewhere the result is what was there before. -/
theorem G_off (A : Vec Ideal S4096x1024 .bf16) (B : Vec Ideal S4096x2048 .bf16) (C : Vec Ideal S2x1024x2048 .bf16) (l : Fin 2) (r : Fin 1024) (s : Fin 2048)
    (hl : ¬l.val = 0) : G A B C (ix3 l r s) = C (ix3 l r s) := if_neg hl

open Reference27Ideal.Read in
/-- The reference's result. -/
theorem ref_eq (x0 : Vec Ideal S4096x1024 .bf16) (x1 : Vec Ideal S4096x2048 .bf16) (x2 : Vec Ideal S2x1024x2048 .bf16) :
    val_main_v9 (F := Ideal) x0 x1 x2 = G x0 x1 x2 := by
  funext i
  obtain ⟨l, r, s, rfl⟩ : ∃ (l : Fin 2) (r : Fin 1024) (s : Fin 2048), i = ix3 l r s := ⟨i 0, i 1, i 2, ValueIdx.eq_ix3 i⟩
  unfold val_main_v9
  by_cases hl : l.val = 0
  · refine (concatenate_pair_apply_left (t := Reference27Ideal.S2x1024x2048) (s₁ := Reference27Ideal.S1x1024x2048) (s₂ := Reference27Ideal.S1x1024x2048) (0 : Fin 3) _ _ _ _ rfl
      (ix3 (⟨0, by decide⟩ : Fin 1) r s) (fun a => by
      match a with
      | ⟨0, _⟩ => exact hl.symm
      | ⟨1, _⟩ => rfl
      | ⟨2, _⟩ => rfl)).trans ?_
    rw [val_main_v7_apply]
    have e : idx_main_v7 (ix3 (⟨0, by decide⟩ : Fin 1) r s) = ix2 r s := Mm.idx2 rfl rfl
    rw [e]
    exact (ref_E x0 x1 r s).trans (G_in x0 x1 x2 l r s hl).symm
  · refine Eq.trans ?_ (G_off x0 x1 x2 l r s hl).symm
    have hb := l.isLt
    refine (concatenate_pair_apply_right (t := Reference27Ideal.S2x1024x2048) (s₁ := Reference27Ideal.S1x1024x2048) (s₂ := Reference27Ideal.S1x1024x2048) (0 : Fin 3) _ _ _ _ rfl rfl
      (ix3 (⟨l.val - 1, by omega⟩ : Fin 1) r s) (fun a ha => by
      match a with
      | ⟨0, _⟩ => exact absurd rfl ha
      | ⟨1, _⟩ => rfl
      | ⟨2, _⟩ => rfl) (by show l.val - 1 + 1 = l.val; omega)).trans ?_
    rw [val_main_v8_apply]
    refine congrArg x2 (Mm.idx3 ?_ ?_ ?_)
    · show 1 + (l.val - 1) = l.val; omega
    · rfl
    · rfl

end Cert.Kernel27Ideal.Prod

namespace Cert.Proof.K27
open Idealize ShloMosaic SL.Sem

/-- The reference ends. -/
theorem frameRef : quiescent_Reference27Ideal := fun m ρ _ =>
  (θ_run Reference27Ideal.defs _ _).mono (fun r h => ⟨fun c => (h c).2, sem_eq_zero_of_no_sems (by decide) r.2⟩)
    (Reference27Ideal.Value.run m ρ)

/-- The call's result is the reference's. -/
theorem algebraic : algebraic_Kernel27Ideal_Reference27Ideal := by
  intro m ρ m' ρ' hpre hargs
  refine ⟨_, Kernel27Ideal.Prod.run m ρ, (θ_run Reference27Ideal.defs _ _).mono (fun r h c => ?_)
    (Reference27Ideal.Value.run m' ρ')⟩
  obtain ⟨h0, hk⟩ := h c
  refine ⟨?_, hk⟩
  refine h0.trans ((Reference27Ideal.Read.val_main_v9_eq _ _ _).trans ?_)
  rw [(hargs c).1, (hargs c).2.1, (hargs c).2.2]
  exact Kernel27Ideal.Prod.ref_eq _ _ _

end Cert.Proof.K27
-- ==== Proof.Mm.P28.lean ====
/-
  The cross-attention's key and value product: the call's tiles put together are the product, and the reference's
  product is the same sum.
-/
module

public import proofs.«01_k».proof.Proof.Gen.Kernel28.Frame
public import proofs.«01_k».proof.Proof.Gen.Kernel28Ideal.Value
public import proofs.«01_k».proof.Proof.Gen.Reference28Ideal.Read
public import proofs.«01_k».proof.Proof.Mm.Sum

@[expose] public section

noncomputable section

namespace Cert.Kernel28Ideal.Prod

open Kernel28Ideal Kernel28Ideal.Gen Idealize ShloMosaic ShloMosaic.TcCoe SL.Sem

/-- One entry of the product. -/
def E (A : Vec Ideal S256x1024 .bf16) (B : Vec Ideal S1024x2048 .bf16) (r : Fin 256) (s : Fin 2048) : EReal :=
  ∑ k : Fin 1024, A (ix2 r k) * B (ix2 k s)

/-- The call's result. -/
def G (A : Vec Ideal S256x1024 .bf16) (B : Vec Ideal S1024x2048 .bf16) : Vec Ideal S256x2048 .bf16 :=
  fun i => E A B ⟨(i 0).val, (i 0).isLt⟩ ⟨(i 1).val, (i 1).isLt⟩

/-- One tile's product. -/
theorem pay_at (x0 : Vec Ideal S256x1024 .bf16) (x1 : Vec Ideal S1024x1024 .bf16) (r : Fin 256) (s : Fin 1024) :
    k0_pay1 x0 x1 (ix2 r s) = ∑ k : Fin 1024, x0 (ix2 r k) * x1 (ix2 k s) := by
  unfold k0_pay1
  simp only [pointwise]
  rw [zero_add]

theorem out_eq (x0 : Vec Ideal S256x1024 .bf16) (x1 : Vec Ideal S1024x1024 .bf16) : out0_2 x0 x1 = k0_pay1 x0 x1 := by
  unfold out0_2
  rw [View.canon_unit_zero Mm.zero2]
  repeat rw [View.ld_unit_zero Mm.zero2]

variable (m : (ℓ : Loc nD τ sig) → Buf (Elt Ideal) ℓ)

abbrev aA (c : Dev nD) : Vec Ideal S256x1024 .bf16 := m (c.tc.loc main_arg0)
abbrev aB (c : Dev nD) : Vec Ideal S1024x2048 .bf16 := m (c.tc.loc main_arg1)

theorem idx_facts : ∀ t : Fin grid0.N, win0_0.index t 0 = t.val / 2 ∧ win0_0.index t 1 = 0 ∧ win0_1.index t 0 = 0 ∧ win0_1.index t 1 = t.val % 2 ∧ win0_2.index t 0 = t.val / 2 ∧ win0_2.index t 1 = t.val % 2 := by decide +kernel

theorem blk0_at (c : Dev nD) (t : Fin cfg0.N) (y z : S256x1024.Idx)
    (h0 : (z 0).val = 256 * (t.val / 2) + (y 0).val) (h1 : (z 1).val = (y 1).val) :
    iblk m c 0 t y = aA m c z := by
  obtain ⟨q00, q01, -⟩ := idx_facts t
  unfold iblk
  rw [View.read_apply]
  show V m c main_arg0 _ = m (c.tc.loc main_arg0) _
  unfold V
  congr 1
  refine Mm.idx2 ?_ ?_
  · exact Mm.at_ 256 q00 (by omega)
  · exact Mm.at_ 1024 q01 (by omega)

theorem blk1_at (c : Dev nD) (t : Fin cfg0.N) (y : S1024x1024.Idx) (z : S1024x2048.Idx)
    (h0 : (z 0).val = (y 0).val) (h1 : (z 1).val = 1024 * (t.val % 2) + (y 1).val) :
    iblk m c 1 t y = aB m c z := by
  obtain ⟨-, -, q10, q11, -⟩ := idx_facts t
  unfold iblk
  rw [View.read_apply]
  show V m c main_arg1 _ = m (c.tc.loc main_arg1) _
  unfold V
  congr 1
  refine Mm.idx2 ?_ ?_
  · exact Mm.at_ 1024 q10 (by omega)
  · exact Mm.at_ 1024 q11 (by omega)

theorem flushed (c : Dev nD) (t : Fin cfg0.N) :
    (dats m 0 c).flushed 2 t = ((cfg0.win 2).blk t).view.read (Elt Ideal) (G (aA m c) (aB m c)) := by
  obtain ⟨-, -, -, -, q20, q21⟩ := idx_facts t
  rw [Value.flushed2, out_eq]
  funext y
  obtain ⟨r, s, rfl⟩ := Mm.ex2 256 1024 y
  rw [View.read_apply]
  refine (pay_at _ _ r s).trans ?_
  have er : ((((cfg0.win 2).blk t).view.emb (ix2 r s)) 0).val = 256 * (t.val / 2) + r.val := Mm.at' 256 r.val _ q20 (by omega)
  have es : ((((cfg0.win 2).blk t).view.emb (ix2 r s)) 1).val = 1024 * (t.val % 2) + s.val := Mm.at' 1024 s.val _ q21 (by omega)
  unfold G E
  refine Finset.sum_congr rfl fun k _ => congrArg₂ (· * ·) (blk0_at m c t _ _ ?_ ?_) (blk1_at m c t _ _ ?_ ?_)
  · refine er.trans ?_; show _ = 256 * (t.val / 2) + r.val; omega
  · rfl
  · rfl
  · refine es.trans ?_; show _ = 1024 * (t.val % 2) + s.val; omega

theorem final (c : Dev nD) : (dats m 0 c).arrAt 2 cfg0.N = G (aA m c) (aB m c) :=
  (dats m 0 c).arrAt_eq_of_cover 2 _ (fun t _ => flushed m c t) fun i => by
    have h1 : (i 0 : Nat) < 256 := (i 0).isLt
    have h2 : (i 1 : Nat) < 2048 := (i 1).isLt
    have hN : cfg0.N = 2 := N_0
    obtain ⟨t, ht0, ht1⟩ : ∃ t : Fin cfg0.N, t.val / 2 = (i 0 : Nat) / 256 ∧ t.val % 2 = (i 1 : Nat) / 1024 :=
      ⟨⟨2 * ((i 0 : Nat) / 256) + (i 1 : Nat) / 1024, by omega⟩, by dsimp only; omega, by dsimp only; omega⟩
    obtain ⟨-, -, -, -, q20, q21⟩ := idx_facts t
    exact ⟨t, flush0_2 t, Mm.memv (Mm.mem2 256 1024 q20 q21 (by omega) (by omega))⟩

/-- What every run ends with. -/
theorem run (ρ : Dev nD → PrngReg) : θ_run defs (onTc (τ := τ) (main (F := Ideal))) ⟨m, fun _ => 0, ρ⟩ fun r => ∀ c : Dev nD,
      r.2.mem (c.tc.loc main_v0) = G (aA m c) (aB m c) ∧ Mm.kept m r.2.mem c main_arg0 ∧ Mm.kept m r.2.mem c main_arg1 :=
  (θ_run defs _ _).mono (fun _ h c => ⟨(h c).1.trans (final m c), (h c).2⟩) (Value.run_blocks m ρ)

open Reference28Ideal.Read in
/-- One entry of the reference's product. -/
theorem ref_E (x0 : Vec Ideal S256x1024 .bf16) (x1 : Vec Ideal S1024x2048 .bf16) (r : Fin 256) (s : Fin 2048) :
    val_main_v3 (F := Ideal) x0 x1 (ix2 r s) = E x0 x1 r s := by
  unfold E
  show val_main_v2 (F := Ideal) x0 x1 _ = _
  rw [val_main_v2_apply]
  refine Finset.sum_congr rfl fun k _ => ?_
  refine congrArg₂ (· * ·) ?_ ?_
  · show x0 _ = _
    exact congrArg x0 (Mm.idx2 rfl rfl)
  · show x1 _ = _
    exact congrArg x1 (Mm.idx2 rfl rfl)

open Reference28Ideal.Read in
/-- The reference's result. -/
theorem ref_eq (x0 : Vec Ideal S256x1024 .bf16) (x1 : Vec Ideal S1024x2048 .bf16) :
    val_main_v3 (F := Ideal) x0 x1 = G x0 x1 := by
  funext i
  obtain ⟨r, s, rfl⟩ := Mm.ex2 256 2048 i
  exact ref_E x0 x1 r s

end Cert.Kernel28Ideal.Prod

namespace Cert.Proof.K28
open Idealize ShloMosaic SL.Sem

/-- The reference ends. -/
theorem frameRef : quiescent_Reference28Ideal := fun m ρ _ =>
  (θ_run Reference28Ideal.defs _ _).mono (fun r h => ⟨fun c => (h c).2, sem_eq_zero_of_no_sems (by decide) r.2⟩)
    (Reference28Ideal.Value.run m ρ)

/-- The call's result is the reference's. -/
theorem algebraic : algebraic_Kernel28Ideal_Reference28Ideal := by
  intro m ρ m' ρ' hpre hargs
  refine ⟨_, Kernel28Ideal.Prod.run m ρ, (θ_run Reference28Ideal.defs _ _).mono (fun r h c => ?_)
    (Reference28Ideal.Value.run m' ρ')⟩
  obtain ⟨h0, hk⟩ := h c
  refine ⟨?_, hk⟩
  refine h0.trans ((Reference28Ideal.Read.val_main_v3_eq _ _).trans ?_)
  rw [(hargs c).1, (hargs c).2]
  exact Kernel28Ideal.Prod.ref_eq _ _

end Cert.Proof.K28
-- ==== Proof.Mm.P29.lean ====
/-
  The cross-attention's query product, and its output product: the call's tiles put together are the product, and the reference's
  product is the same sum.
-/
module

public import proofs.«01_k».proof.Proof.Gen.Kernel29.Frame
public import proofs.«01_k».proof.Proof.Gen.Kernel29Ideal.Value
public import proofs.«01_k».proof.Proof.Gen.Reference29Ideal.Read
public import proofs.«01_k».proof.Proof.Mm.Sum

@[expose] public section

noncomputable section

namespace Cert.Kernel29Ideal.Prod

open Kernel29Ideal Kernel29Ideal.Gen Idealize ShloMosaic ShloMosaic.TcCoe SL.Sem

/-- One entry of the product. -/
def E (A : Vec Ideal S4096x1024 .bf16) (B : Vec Ideal S1024x1024 .bf16) (r : Fin 4096) (s : Fin 1024) : EReal :=
  ∑ k : Fin 1024, A (ix2 r k) * B (ix2 k s)

/-- The call's result. -/
def G (A : Vec Ideal S4096x1024 .bf16) (B : Vec Ideal S1024x1024 .bf16) : Vec Ideal S4096x1024 .bf16 :=
  fun i => E A B ⟨(i 0).val, (i 0).isLt⟩ ⟨(i 1).val, (i 1).isLt⟩

/-- One tile's product. -/
theorem pay_at (x0 x1 : Vec Ideal S1024x1024 .bf16) (r s : Fin 1024) :
    k0_pay1 x0 x1 (ix2 r s) = ∑ k : Fin 1024, x0 (ix2 r k) * x1 (ix2 k s) := by
  unfold k0_pay1
  simp only [pointwise]
  rw [zero_add]

theorem out_eq (x0 x1 : Vec Ideal S1024x1024 .bf16) : out0_2 x0 x1 = k0_pay1 x0 x1 := by
  unfold out0_2
  rw [View.canon_unit_zero Mm.zero2]
  repeat rw [View.ld_unit_zero Mm.zero2]

variable (m : (ℓ : Loc nD τ sig) → Buf (Elt Ideal) ℓ)

abbrev aA (c : Dev nD) : Vec Ideal S4096x1024 .bf16 := m (c.tc.loc main_arg0)
abbrev aB (c : Dev nD) : Vec Ideal S1024x1024 .bf16 := m (c.tc.loc main_arg1)

theorem idx_facts : ∀ t : Fin grid0.N, win0_0.index t 0 = t.val ∧ win0_0.index t 1 = 0 ∧ win0_1.index t 0 = 0 ∧ win0_1.index t 1 = 0 ∧ win0_2.index t 0 = t.val ∧ win0_2.index t 1 = 0 := by decide +kernel

theorem blk0_at (c : Dev nD) (t : Fin cfg0.N) (y : S1024x1024.Idx) (z : S4096x1024.Idx)
    (h0 : (z 0).val = 1024 * (t.val) + (y 0).val) (h1 : (z 1).val = (y 1).val) :
    iblk m c 0 t y = aA m c z := by
  obtain ⟨q00, q01, -⟩ := idx_facts t
  unfold iblk
  rw [View.read_apply]
  show V m c main_arg0 _ = m (c.tc.loc main_arg0) _
  unfold V
  congr 1
  refine Mm.idx2 ?_ ?_
  · exact Mm.at_ 1024 q00 (by omega)
  · exact Mm.at_ 1024 q01 (by omega)

theorem blk1_at (c : Dev nD) (t : Fin cfg0.N) (y z : S1024x1024.Idx)
    (h0 : (z 0).val = (y 0).val) (h1 : (z 1).val = (y 1).val) :
    iblk m c 1 t y = aB m c z := by
  obtain ⟨-, -, q10, q11, -⟩ := idx_facts t
  unfold iblk
  rw [View.read_apply]
  show V m c main_arg1 _ = m (c.tc.loc main_arg1) _
  unfold V
  congr 1
  refine Mm.idx2 ?_ ?_
  · exact Mm.at_ 1024 q10 (by omega)
  · exact Mm.at_ 1024 q11 (by omega)

theorem flushed (c : Dev nD) (t : Fin cfg0.N) :
    (dats m 0 c).flushed 2 t = ((cfg0.win 2).blk t).view.read (Elt Ideal) (G (aA m c) (aB m c)) := by
  obtain ⟨-, -, -, -, q20, q21⟩ := idx_facts t
  rw [Value.flushed2, out_eq]
  funext y
  obtain ⟨r, s, rfl⟩ := Mm.ex2 1024 1024 y
  rw [View.read_apply]
  refine (pay_at _ _ r s).trans ?_
  have er : ((((cfg0.win 2).blk t).view.emb (ix2 r s)) 0).val = 1024 * (t.val) + r.val := Mm.at' 1024 r.val _ q20 (by omega)
  have es : ((((cfg0.win 2).blk t).view.emb (ix2 r s)) 1).val = s.val := Mm.at' 1024 s.val _ q21 (by omega)
  unfold G E
  refine Finset.sum_congr rfl fun k _ => congrArg₂ (· * ·) (blk0_at m c t _ _ ?_ ?_) (blk1_at m c t _ _ ?_ ?_)
  · refine er.trans ?_; show _ = 1024 * (t.val) + r.val; omega
  · rfl
  · rfl
  · exact es

theorem final (c : Dev nD) : (dats m 0 c).arrAt 2 cfg0.N = G (aA m c) (aB m c) :=
  (dats m 0 c).arrAt_eq_of_cover 2 _ (fun t _ => flushed m c t) fun i => by
    have h1 : (i 0 : Nat) < 4096 := (i 0).isLt
    have h2 : (i 1 : Nat) < 1024 := (i 1).isLt
    have hN : cfg0.N = 4 := N_0
    obtain ⟨t, ht0⟩ : ∃ t : Fin cfg0.N, t.val = (i 0 : Nat) / 1024 :=
      ⟨⟨(i 0 : Nat) / 1024, by omega⟩, rfl⟩
    obtain ⟨-, -, -, -, q20, q21⟩ := idx_facts t
    exact ⟨t, flush0_2 t, Mm.memv (Mm.mem2 1024 1024 q20 q21 (by omega) (by omega))⟩

/-- What every run ends with. -/
theorem run (ρ : Dev nD → PrngReg) : θ_run defs (onTc (τ := τ) (main (F := Ideal))) ⟨m, fun _ => 0, ρ⟩ fun r => ∀ c : Dev nD,
      r.2.mem (c.tc.loc main_v0) = G (aA m c) (aB m c) ∧ Mm.kept m r.2.mem c main_arg0 ∧ Mm.kept m r.2.mem c main_arg1 :=
  (θ_run defs _ _).mono (fun _ h c => ⟨(h c).1.trans (final m c), (h c).2⟩) (Value.run_blocks m ρ)

open Reference29Ideal.Read in
/-- One entry of the reference's product. -/
theorem ref_E (x0 : Vec Ideal S4096x1024 .bf16) (x1 : Vec Ideal S1024x1024 .bf16) (r : Fin 4096) (s : Fin 1024) :
    val_main_v3 (F := Ideal) x0 x1 (ix2 r s) = E x0 x1 r s := by
  unfold E
  show val_main_v2 (F := Ideal) x0 x1 _ = _
  rw [val_main_v2_apply]
  refine Finset.sum_congr rfl fun k _ => ?_
  refine congrArg₂ (· * ·) ?_ ?_
  · show x0 _ = _
    exact congrArg x0 (Mm.idx2 rfl rfl)
  · show x1 _ = _
    exact congrArg x1 (Mm.idx2 rfl rfl)

open Reference29Ideal.Read in
/-- The reference's result. -/
theorem ref_eq (x0 : Vec Ideal S4096x1024 .bf16) (x1 : Vec Ideal S1024x1024 .bf16) :
    val_main_v3 (F := Ideal) x0 x1 = G x0 x1 := by
  funext i
  obtain ⟨r, s, rfl⟩ := Mm.ex2 4096 1024 i
  exact ref_E x0 x1 r s

end Cert.Kernel29Ideal.Prod

namespace Cert.Proof.K29
open Idealize ShloMosaic SL.Sem

/-- The reference ends. -/
theorem frameRef : quiescent_Reference29Ideal := fun m ρ _ =>
  (θ_run Reference29Ideal.defs _ _).mono (fun r h => ⟨fun c => (h c).2, sem_eq_zero_of_no_sems (by decide) r.2⟩)
    (Reference29Ideal.Value.run m ρ)

/-- The call's result is the reference's. -/
theorem algebraic : algebraic_Kernel29Ideal_Reference29Ideal := by
  intro m ρ m' ρ' hpre hargs
  refine ⟨_, Kernel29Ideal.Prod.run m ρ, (θ_run Reference29Ideal.defs _ _).mono (fun r h c => ?_)
    (Reference29Ideal.Value.run m' ρ')⟩
  obtain ⟨h0, hk⟩ := h c
  refine ⟨?_, hk⟩
  refine h0.trans ((Reference29Ideal.Read.val_main_v3_eq _ _).trans ?_)
  rw [(hargs c).1, (hargs c).2]
  exact Kernel29Ideal.Prod.ref_eq _ _

end Cert.Proof.K29
-- ==== Proof.Mm.P30.lean ====
/-
  The gradient of the cross-attention's output, and of its input: the call's tiles put together are the product, and the reference's
  product is the same sum.
-/
module

public import proofs.«01_k».proof.Proof.Gen.Kernel30.Frame
public import proofs.«01_k».proof.Proof.Gen.Kernel30Ideal.Value
public import proofs.«01_k».proof.Proof.Gen.Reference30Ideal.Read
public import proofs.«01_k».proof.Proof.Mm.Sum

@[expose] public section

noncomputable section

namespace Cert.Kernel30Ideal.Prod

open Kernel30Ideal Kernel30Ideal.Gen Idealize ShloMosaic ShloMosaic.TcCoe SL.Sem

/-- One entry of the product. -/
def E (A : Vec Ideal S4096x1024 .bf16) (B : Vec Ideal S1024x1024 .bf16) (r : Fin 4096) (s : Fin 1024) : EReal :=
  ∑ k : Fin 1024, A (ix2 r k) * B (ix2 s k)

/-- The call's result. -/
def G (A : Vec Ideal S4096x1024 .bf16) (B : Vec Ideal S1024x1024 .bf16) : Vec Ideal S4096x1024 .bf16 :=
  fun i => E A B ⟨(i 0).val, (i 0).isLt⟩ ⟨(i 1).val, (i 1).isLt⟩

/-- One tile's product. -/
theorem pay_at (x0 x1 : Vec Ideal S1024x1024 .bf16) (r s : Fin 1024) :
    k0_pay1 x0 x1 (ix2 r s) = ∑ k : Fin 1024, x0 (ix2 r k) * x1 (ix2 s k) := by
  unfold k0_pay1
  simp only [pointwise]
  rw [zero_add]

theorem out_eq (x0 x1 : Vec Ideal S1024x1024 .bf16) : out0_2 x0 x1 = k0_pay1 x0 x1 := by
  unfold out0_2
  rw [View.canon_unit_zero Mm.zero2]
  repeat rw [View.ld_unit_zero Mm.zero2]

variable (m : (ℓ : Loc nD τ sig) → Buf (Elt Ideal) ℓ)

abbrev aA (c : Dev nD) : Vec Ideal S4096x1024 .bf16 := m (c.tc.loc main_arg0)
abbrev aB (c : Dev nD) : Vec Ideal S1024x1024 .bf16 := m (c.tc.loc main_arg1)

theorem idx_facts : ∀ t : Fin grid0.N, win0_0.index t 0 = t.val ∧ win0_0.index t 1 = 0 ∧ win0_1.index t 0 = 0 ∧ win0_1.index t 1 = 0 ∧ win0_2.index t 0 = t.val ∧ win0_2.index t 1 = 0 := by decide +kernel

theorem blk0_at (c : Dev nD) (t : Fin cfg0.N) (y : S1024x1024.Idx) (z : S4096x1024.Idx)
    (h0 : (z 0).val = 1024 * (t.val) + (y 0).val) (h1 : (z 1).val = (y 1).val) :
    iblk m c 0 t y = aA m c z := by
  obtain ⟨q00, q01, -⟩ := idx_facts t
  unfold iblk
  rw [View.read_apply]
  show V m c main_arg0 _ = m (c.tc.loc main_arg0) _
  unfold V
  congr 1
  refine Mm.idx2 ?_ ?_
  · exact Mm.at_ 1024 q00 (by omega)
  · exact Mm.at_ 1024 q01 (by omega)

theorem blk1_at (c : Dev nD) (t : Fin cfg0.N) (y z : S1024x1024.Idx)
    (h0 : (z 0).val = (y 0).val) (h1 : (z 1).val = (y 1).val) :
    iblk m c 1 t y = aB m c z := by
  obtain ⟨-, -, q10, q11, -⟩ := idx_facts t
  unfold iblk
  rw [View.read_apply]
  show V m c main_arg1 _ = m (c.tc.loc main_arg1) _
  unfold V
  congr 1
  refine Mm.idx2 ?_ ?_
  · exact Mm.at_ 1024 q10 (by omega)
  · exact Mm.at_ 1024 q11 (by omega)

theorem flushed (c : Dev nD) (t : Fin cfg0.N) :
    (dats m 0 c).flushed 2 t = ((cfg0.win 2).blk t).view.read (Elt Ideal) (G (aA m c) (aB m c)) := by
  obtain ⟨-, -, -, -, q20, q21⟩ := idx_facts t
  rw [Value.flushed2, out_eq]
  funext y
  obtain ⟨r, s, rfl⟩ := Mm.ex2 1024 1024 y
  rw [View.read_apply]
  refine (pay_at _ _ r s).trans ?_
  have er : ((((cfg0.win 2).blk t).view.emb (ix2 r s)) 0).val = 1024 * (t.val) + r.val := Mm.at' 1024 r.val _ q20 (by omega)
  have es : ((((cfg0.win 2).blk t).view.emb (ix2 r s)) 1).val = s.val := Mm.at' 1024 s.val _ q21 (by omega)
  unfold G E
  refine Finset.sum_congr rfl fun k _ => congrArg₂ (· * ·) (blk0_at m c t _ _ ?_ ?_) (blk1_at m c t _ _ ?_ ?_)
  · refine er.trans ?_; show _ = 1024 * (t.val) + r.val; omega
  · rfl
  · exact es
  · rfl

theorem final (c : Dev nD) : (dats m 0 c).arrAt 2 cfg0.N = G (aA m c) (aB m c) :=
  (dats m 0 c).arrAt_eq_of_cover 2 _ (fun t _ => flushed m c t) fun i => by
    have h1 : (i 0 : Nat) < 4096 := (i 0).isLt
    have h2 : (i 1 : Nat) < 1024 := (i 1).isLt
    have hN : cfg0.N = 4 := N_0
    obtain ⟨t, ht0⟩ : ∃ t : Fin cfg0.N, t.val = (i 0 : Nat) / 1024 :=
      ⟨⟨(i 0 : Nat) / 1024, by omega⟩, rfl⟩
    obtain ⟨-, -, -, -, q20, q21⟩ := idx_facts t
    exact ⟨t, flush0_2 t, Mm.memv (Mm.mem2 1024 1024 q20 q21 (by omega) (by omega))⟩

/-- What every run ends with. -/
theorem run (ρ : Dev nD → PrngReg) : θ_run defs (onTc (τ := τ) (main (F := Ideal))) ⟨m, fun _ => 0, ρ⟩ fun r => ∀ c : Dev nD,
      r.2.mem (c.tc.loc main_v0) = G (aA m c) (aB m c) ∧ Mm.kept m r.2.mem c main_arg0 ∧ Mm.kept m r.2.mem c main_arg1 :=
  (θ_run defs _ _).mono (fun _ h c => ⟨(h c).1.trans (final m c), (h c).2⟩) (Value.run_blocks m ρ)

open Reference30Ideal.Read in
/-- One entry of the reference's product. -/
theorem ref_E (x0 : Vec Ideal S4096x1024 .bf16) (x1 : Vec Ideal S1024x1024 .bf16) (r : Fin 4096) (s : Fin 1024) :
    val_main_v5 (F := Ideal) x0 x1 (ix2 r s) = E x0 x1 r s := by
  unfold E
  show val_main_v4 (F := Ideal) x0 x1 _ = _
  rw [val_main_v4_apply]
  refine Finset.sum_congr rfl fun k _ => ?_
  refine congrArg₂ (· * ·) ?_ ?_
  · show x0 _ = _
    exact congrArg x0 (Mm.idx2 rfl rfl)
  · show x1 _ = _
    exact congrArg x1 (Mm.idx2 rfl rfl)

open Reference30Ideal.Read in
/-- The reference's result. -/
theorem ref_eq (x0 : Vec Ideal S4096x1024 .bf16) (x1 : Vec Ideal S1024x1024 .bf16) :
    val_main_v5 (F := Ideal) x0 x1 = G x0 x1 := by
  funext i
  obtain ⟨r, s, rfl⟩ := Mm.ex2 4096 1024 i
  exact ref_E x0 x1 r s

end Cert.Kernel30Ideal.Prod

namespace Cert.Proof.K30
open Idealize ShloMosaic SL.Sem

/-- The reference ends. -/
theorem frameRef : quiescent_Reference30Ideal := fun m ρ _ =>
  (θ_run Reference30Ideal.defs _ _).mono (fun r h => ⟨fun c => (h c).2, sem_eq_zero_of_no_sems (by decide) r.2⟩)
    (Reference30Ideal.Value.run m ρ)

/-- The call's result is the reference's. -/
theorem algebraic : algebraic_Kernel30Ideal_Reference30Ideal := by
  intro m ρ m' ρ' hpre hargs
  refine ⟨_, Kernel30Ideal.Prod.run m ρ, (θ_run Reference30Ideal.defs _ _).mono (fun r h c => ?_)
    (Reference30Ideal.Value.run m' ρ')⟩
  obtain ⟨h0, hk⟩ := h c
  refine ⟨?_, hk⟩
  refine h0.trans ((Reference30Ideal.Read.val_main_v5_eq _ _).trans ?_)
  rw [(hargs c).1, (hargs c).2]
  exact Kernel30Ideal.Prod.ref_eq _ _

end Cert.Proof.K30
-- ==== Proof.Mm.P31.lean ====
/-
  The gradient of the cross-attention's query weight, and of its output weight: the call's tiles put together are the product, and the reference's
  product is the same sum.
-/
module

public import proofs.«01_k».proof.Proof.Gen.Kernel31.Frame
public import proofs.«01_k».proof.Proof.Gen.Kernel31Ideal.Value
public import proofs.«01_k».proof.Proof.Gen.Reference31Ideal.Read
public import proofs.«01_k».proof.Proof.Mm.Sum

@[expose] public section

noncomputable section

namespace Cert.Kernel31Ideal.Prod

open Kernel31Ideal Kernel31Ideal.Gen Idealize ShloMosaic ShloMosaic.TcCoe SL.Sem

/-- One entry of the product. -/
def E (A B : Vec Ideal S4096x1024 .bf16) (r s : Fin 1024) : EReal :=
  ∑ k : Fin 4096, A (ix2 k r) * B (ix2 k s)

/-- The call's result: the product in its place among the layers' gradients, everything else as before. -/
def G (A B : Vec Ideal S4096x1024 .bf16) (C : Vec Ideal S4x1024x1024 .bf16) : Vec Ideal S4x1024x1024 .bf16 :=
  fun i => if (i 0).val = 0 then E A B ⟨(i 1).val, (i 1).isLt⟩ ⟨(i 2).val, (i 2).isLt⟩ else C i

/-- One tile's product. -/
theorem pay_at (x0 x1 : Vec Ideal S2048x1024 .bf16) (r s : Fin 1024) :
    k0_pay1 x0 x1 (ix2 r s) = ∑ k : Fin 2048, x0 (ix2 k r) * x1 (ix2 k s) := by
  unfold k0_pay1
  simp only [pointwise]
  rw [zero_add]

section Cases

variable (c : Dev nD) (i : grid0.Coords) (arg3 : Memref sig .tc .vmem S2048x1024 .bf16) (harg3 : arg3.IsWhole) (arg4 : Memref sig .tc .vmem S2048x1024 .bf16) (harg4 : arg4.IsWhole) (arg6 : Memref sig .tc .vmem S1x1024x1024 .bf16) (harg6 : arg6.IsWhole) (arg7 : Memref sig .tc .vmem S1024x1024 .f32) (harg7 : arg7.IsWhole)
  (x0 x1 : Vec Ideal S2048x1024 .bf16) (xs : Vec Ideal S1024x1024 .f32)

theorem sout_A (hc0 : cond0_0 i) (hc1 : ¬cond0_1 i) (hc2 : ¬cond0_2 i) :
    sout0_A_0 c i arg3 harg3 arg4 harg4 arg6 harg6 arg7 harg7 hc0 hc1 hc2 x0 x1 = k0_pay2 x0 x1 := by
  unfold sout0_A_0
  rw [View.read_writes_eq_canon _ _ _ (fun _ => scover0_A_0 ..)]
  unfold kernelRun0_A
  dsimp only
  sl_unfold_words
  simp only [View.readAt_eq_ld, Memref.IsWhole.read_unread]
  rw [View.canon_unit_zero Mm.zero2]
  repeat rw [View.ld_unit_zero Mm.zero2]

theorem out_B (hc0 : ¬cond0_0 i) (hc1 : cond0_1 i) (hc2 : cond0_2 i) :
    out0_B_2 c i arg3 harg3 arg4 harg4 arg6 harg6 arg7 harg7 hc0 hc1 hc2 x0 x1 xs = k0_pay4 (k0_pay3 x0 x1 xs) := by
  unfold out0_B_2
  rw [View.read_writes_eq_canon _ _ _ (fun _ => cover0_B_2 ..)]
  unfold kernelRun0_B
  dsimp only
  sl_unfold_words
  simp only [View.readAt_eq_ld, Memref.IsWhole.read_unread]
  simp (disch := decide) only [View.readCov_fill]
  rw [View.canon_unit_zero Mm.zero3]
  repeat rw [View.ld_unit_zero Mm.zero2]

end Cases

theorem pay2_at (x0 x1 : Vec Ideal S2048x1024 .bf16) (r s : Fin 1024) :
    k0_pay2 x0 x1 (ix2 r s) = k0_pay1 x0 x1 (ix2 r s) := by
  unfold k0_pay2
  simp only [pointwise]

theorem pay4_at (x0 x1 : Vec Ideal S2048x1024 .bf16) (xs : Vec Ideal S1024x1024 .f32)
    (l : Fin 1) (r s : Fin 1024) :
    k0_pay4 (k0_pay3 x0 x1 xs) (ix3 l r s) = xs (ix2 r s) + k0_pay1 x0 x1 (ix2 r s) := by
  unfold k0_pay4 k0_pay3
  simp only [pointwise]

variable (m : (ℓ : Loc nD τ sig) → Buf (Elt Ideal) ℓ)

abbrev aA (c : Dev nD) : Vec Ideal S4096x1024 .bf16 := m (c.tc.loc main_arg0)
abbrev aB (c : Dev nD) : Vec Ideal S4096x1024 .bf16 := m (c.tc.loc main_arg1)
abbrev aC (c : Dev nD) : Vec Ideal S4x1024x1024 .bf16 := m (c.tc.loc main_arg2)

theorem idx_facts : ∀ t : Fin grid0.N, win0_0.index t 0 = t.val % 2 ∧ win0_0.index t 1 = t.val / 2 ∧ win0_1.index t 0 = t.val % 2 ∧ win0_1.index t 1 = 0 ∧ win0_2.index t 0 = 0 ∧ win0_2.index t 1 = t.val / 2 ∧ win0_2.index t 2 = 0 := by decide +kernel

theorem blk0_at (c : Dev nD) (t : Fin cfg0.N) (y : S2048x1024.Idx) (z : S4096x1024.Idx)
    (h0 : (z 0).val = 2048 * (t.val % 2) + (y 0).val) (h1 : (z 1).val = 1024 * (t.val / 2) + (y 1).val) :
    iblk m c 0 t y = aA m c z := by
  obtain ⟨q00, q01, -⟩ := idx_facts t
  refine (congrFun (V_main_arg0 m c) _).trans (congrArg _ (Mm.idx2 (Mm.at_ 2048 q00 (by omega)) (Mm.at_ 1024 q01 (by omega))))

theorem blk1_at (c : Dev nD) (t : Fin cfg0.N) (y : S2048x1024.Idx) (z : S4096x1024.Idx)
    (h0 : (z 0).val = 2048 * (t.val % 2) + (y 0).val) (h1 : (z 1).val = (y 1).val) :
    iblk m c 1 t y = aB m c z := by
  obtain ⟨-, -, q10, q11, -⟩ := idx_facts t
  refine (congrFun (V_main_arg1 m c) _).trans (congrArg _ (Mm.idx2 (Mm.at_ 2048 q10 (by omega)) (Mm.at_ 1024 q11 (by omega))))

theorem flushed (c : Dev nD) (t : Fin cfg0.N) (hf : (cfg0.win 2).flush t = true) :
    (dats m 0 c).flushed 2 t = ((cfg0.win 2).blk t).view.read (Elt Ideal) (G (aA m c) (aB m c) (aC m c)) := by
  obtain ⟨-, -, -, -, q20, q21, q22⟩ := idx_facts t
  have h1 : t.val % 2 = 1 := (flush0_2 t).mp hf
  have h0 : ¬t.val % 2 = 0 := by omega
  obtain ⟨u, hu⟩ : ∃ u : Fin cfg0.N, u.val = t.val - 1 := ⟨⟨t.val - 1, by have := t.isLt; omega⟩, rfl⟩
  have hs : (outsAt0 m c (t.val - 1) (Nat.lt_of_le_of_lt (Nat.sub_le _ _) t.isLt)).2 = k0_pay2 (iblk m c 0 u) (iblk m c 1 u) := by
    have e : outsAt0 m c (t.val - 1) (Nat.lt_of_le_of_lt (Nat.sub_le _ _) t.isLt) = outsAt0 m c u.val u.isLt := by
      congr 1; exact hu.symm
    rw [e, outsAt0_A m c u (by omega) (by omega) (by omega)]
    dsimp only
    rw [sout_A]
  rw [Value.flushed2_B m c t h0 h1 h1, out_B, hs]
  funext y
  obtain ⟨l, r, s, rfl⟩ : ∃ (l : Fin 1) (r s : Fin 1024), y = ix3 l r s := ⟨y 0, y 1, y 2, ValueIdx.eq_ix3 y⟩
  rw [View.read_apply]
  refine (pay4_at _ _ _ l r s).trans ?_
  rw [pay2_at, pay_at, pay_at]
  have el : ((((cfg0.win 2).blk t).view.emb (ix3 l r s)) 0).val = 0 := Mm.at' 1 l.val _ q20 (by omega)
  have er : ((((cfg0.win 2).blk t).view.emb (ix3 l r s)) 1).val = 1024 * (t.val / 2) + r.val := Mm.at' 1024 r.val _ q21 (by omega)
  have es : ((((cfg0.win 2).blk t).view.emb (ix3 l r s)) 2).val = s.val := Mm.at' 1024 s.val _ q22 (by omega)
  unfold G
  rw [if_pos el]
  unfold E
  rw [Mm.sum_halves (n := 2048) rfl]
  refine congrArg₂ (· + ·) (Finset.sum_congr rfl fun k _ => congrArg₂ (· * ·) (blk0_at m c u _ _ ?_ ?_) (blk1_at m c u _ _ ?_ ?_))
    (Finset.sum_congr rfl fun k _ => congrArg₂ (· * ·) (blk0_at m c t _ _ ?_ ?_) (blk1_at m c t _ _ ?_ ?_))
  · show k.val = 2048 * (u.val % 2) + k.val; omega
  · refine er.trans ?_; show _ = 1024 * (u.val / 2) + r.val; omega
  · show k.val = 2048 * (u.val % 2) + k.val; omega
  · exact es
  · show 2048 + k.val = 2048 * (t.val % 2) + k.val; omega
  · refine er.trans ?_; show _ = 1024 * (t.val / 2) + r.val; omega
  · show 2048 + k.val = 2048 * (t.val % 2) + k.val; omega
  · exact es

theorem final (c : Dev nD) : (dats m 0 c).arrAt 2 cfg0.N = G (aA m c) (aB m c) (aC m c) := by
  funext i
  rw [(dats m 0 c).arrAt_eq_piecewise 2 (G (aA m c) (aB m c) (aC m c)) (flushed m c) i]
  split
  · rfl
  · rename_i hno
    have hi0 : ¬((i 0 : Nat) = 0) := fun hz => hno (by
      have h1 : (i 1 : Nat) < 1024 := (i 1).isLt
      have h2 : (i 2 : Nat) < 1024 := (i 2).isLt
      have hN : cfg0.N = 2 := N_0
      obtain ⟨t, ht0, ht1⟩ : ∃ t : Fin cfg0.N, t.val / 2 = (i 1 : Nat) / 1024 ∧ t.val % 2 = 1 :=
        ⟨⟨2 * ((i 1 : Nat) / 1024) + 1, by omega⟩, by dsimp only; omega, by dsimp only; omega⟩
      obtain ⟨-, -, -, -, q20, q21, q22⟩ := idx_facts t
      refine ⟨t, (flush0_2 t).mpr ht1, ?_⟩
      show i ∈ ((View.whole main_v0).slice (win0_2.rect t)).set
      rw [View.set_slice_whole, Rect.mem_set_unit]
      intro a
      match a with
      | ⟨0, _⟩ =>
        show win0_2.index t 0 * 1 ≤ (i 0 : Nat) ∧ (i 0 : Nat) < win0_2.index t 0 * 1 + 1
        rw [q20]; omega
      | ⟨1, _⟩ =>
        show win0_2.index t 1 * 1024 ≤ (i 1 : Nat) ∧ (i 1 : Nat) < win0_2.index t 1 * 1024 + 1024
        rw [q21]; omega
      | ⟨2, _⟩ =>
        show win0_2.index t 2 * 1024 ≤ (i 2 : Nat) ∧ (i 2 : Nat) < win0_2.index t 2 * 1024 + 1024
        rw [q22]; omega)
    unfold G
    rw [if_neg hi0, A_eq]
    show V m c main_v0 i = m (c.tc.loc main_arg2) i
    rfl

/-- What every run ends with. -/
theorem run (ρ : Dev nD → PrngReg) : θ_run defs (onTc (τ := τ) (main (F := Ideal))) ⟨m, fun _ => 0, ρ⟩ fun r => ∀ c : Dev nD,
      r.2.mem (c.tc.loc main_v0) = G (aA m c) (aB m c) (aC m c) ∧ Mm.kept m r.2.mem c main_arg0 ∧ Mm.kept m r.2.mem c main_arg1 ∧ Mm.kept m r.2.mem c main_arg2 :=
  (θ_run defs _ _).mono (fun _ h c => ⟨(h c).1.trans (final m c), (h c).2⟩) (Value.run_blocks m ρ)

open Reference31Ideal.Read in
/-- One entry of the reference's product. -/
theorem ref_E (x0 x1 : Vec Ideal S4096x1024 .bf16) (r s : Fin 1024) :
    val_main_v6 (F := Ideal) x0 x1 (ix2 r s) = E x0 x1 r s := by
  unfold E
  show val_main_v5 (F := Ideal) x0 x1 _ = _
  rw [val_main_v5_apply]
  rw [val_main_v4_apply]
  refine Finset.sum_congr rfl fun k _ => ?_
  rw [mul_comm]
  refine congrArg₂ (· * ·) ?_ ?_
  · show x0 _ = _
    exact congrArg x0 (Mm.idx2 rfl rfl)
  · show x1 _ = _
    exact congrArg x1 (Mm.idx2 rfl rfl)

/-- In the first slot the result is the product. -/
theorem G_in (A B : Vec Ideal S4096x1024 .bf16) (C : Vec Ideal S4x1024x1024 .bf16) (l : Fin 4) (r s : Fin 1024) (hl : l.val = 0)
    : G A B C (ix3 l r s) = E A B r s := if_pos hl

/-- Elsewhere the result is what was there before. -/
theorem G_off (A B : Vec Ideal S4096x1024 .bf16) (C : Vec Ideal S4x1024x1024 .bf16) (l : Fin 4) (r s : Fin 1024)
    (hl : ¬l.val = 0) : G A B C (ix3 l r s) = C (ix3 l r s) := if_neg hl

open Reference31Ideal.Read in
/-- The reference's result. -/
theorem ref_eq (x0 x1 : Vec Ideal S4096x1024 .bf16) (x2 : Vec Ideal S4x1024x1024 .bf16) :
    val_main_v9 (F := Ideal) x0 x1 x2 = G x0 x1 x2 := by
  funext i
  obtain ⟨l, r, s, rfl⟩ : ∃ (l : Fin 4) (r s : Fin 1024), i = ix3 l r s := ⟨i 0, i 1, i 2, ValueIdx.eq_ix3 i⟩
  unfold val_main_v9
  by_cases hl : l.val = 0
  · refine (concatenate_pair_apply_left (t := Reference31Ideal.S4x1024x1024) (s₁ := Reference31Ideal.S1x1024x1024) (s₂ := Reference31Ideal.S3x1024x1024) (0 : Fin 3) _ _ _ _ rfl
      (ix3 (⟨0, by decide⟩ : Fin 1) r s) (fun a => by
      match a with
      | ⟨0, _⟩ => exact hl.symm
      | ⟨1, _⟩ => rfl
      | ⟨2, _⟩ => rfl)).trans ?_
    rw [val_main_v7_apply]
    have e : idx_main_v7 (ix3 (⟨0, by decide⟩ : Fin 1) r s) = ix2 r s := Mm.idx2 rfl rfl
    rw [e]
    exact (ref_E x0 x1 r s).trans (G_in x0 x1 x2 l r s hl).symm
  · refine Eq.trans ?_ (G_off x0 x1 x2 l r s hl).symm
    have hb := l.isLt
    refine (concatenate_pair_apply_right (t := Reference31Ideal.S4x1024x1024) (s₁ := Reference31Ideal.S1x1024x1024) (s₂ := Reference31Ideal.S3x1024x1024) (0 : Fin 3) _ _ _ _ rfl rfl
      (ix3 (⟨l.val - 1, by omega⟩ : Fin 3) r s) (fun a ha => by
      match a with
      | ⟨0, _⟩ => exact absurd rfl ha
      | ⟨1, _⟩ => rfl
      | ⟨2, _⟩ => rfl) (by show l.val - 1 + 1 = l.val; omega)).trans ?_
    rw [val_main_v8_apply]
    refine congrArg x2 (Mm.idx3 ?_ ?_ ?_)
    · show 1 + (l.val - 1) = l.val; omega
    · rfl
    · rfl

end Cert.Kernel31Ideal.Prod

namespace Cert.Proof.K31
open Idealize ShloMosaic SL.Sem

/-- The reference ends. -/
theorem frameRef : quiescent_Reference31Ideal := fun m ρ _ =>
  (θ_run Reference31Ideal.defs _ _).mono (fun r h => ⟨fun c => (h c).2, sem_eq_zero_of_no_sems (by decide) r.2⟩)
    (Reference31Ideal.Value.run m ρ)

/-- The call's result is the reference's. -/
theorem algebraic : algebraic_Kernel31Ideal_Reference31Ideal := by
  intro m ρ m' ρ' hpre hargs
  refine ⟨_, Kernel31Ideal.Prod.run m ρ, (θ_run Reference31Ideal.defs _ _).mono (fun r h c => ?_)
    (Reference31Ideal.Value.run m' ρ')⟩
  obtain ⟨h0, hk⟩ := h c
  refine ⟨?_, hk⟩
  refine h0.trans ((Reference31Ideal.Read.val_main_v9_eq _ _ _).trans ?_)
  rw [(hargs c).1, (hargs c).2.1, (hargs c).2.2]
  exact Kernel31Ideal.Prod.ref_eq _ _ _

end Cert.Proof.K31
-- ==== Proof.Mm.P32.lean ====
/-
  The gradient of the cross-attention's key and value weight: the call's tiles put together are the product, and the reference's
  product is the same sum.
-/
module

public import proofs.«01_k».proof.Proof.Gen.Kernel32.Frame
public import proofs.«01_k».proof.Proof.Gen.Kernel32Ideal.Value
public import proofs.«01_k».proof.Proof.Gen.Reference32Ideal.Read
public import proofs.«01_k».proof.Proof.Mm.Sum

@[expose] public section

noncomputable section

namespace Cert.Kernel32Ideal.Prod

open Kernel32Ideal Kernel32Ideal.Gen Idealize ShloMosaic ShloMosaic.TcCoe SL.Sem

/-- One entry of the product. -/
def E (A : Vec Ideal S256x1024 .bf16) (B : Vec Ideal S256x2048 .f32) (r : Fin 1024) (s : Fin 2048) : EReal :=
  ∑ k : Fin 256, A (ix2 k r) * B (ix2 k s)

/-- The call's result: the product in its place among the layers' gradients, everything else as before. -/
def G (A : Vec Ideal S256x1024 .bf16) (B : Vec Ideal S256x2048 .f32) (C : Vec Ideal S4x1024x2048 .bf16) : Vec Ideal S4x1024x2048 .bf16 :=
  fun i => if (i 0).val = 0 then E A B ⟨(i 1).val, (i 1).isLt⟩ ⟨(i 2).val, (i 2).isLt⟩ else C i

/-- One tile's product. -/
theorem pay_at (x0 : Vec Ideal S256x1024 .bf16) (x1 : Vec Ideal S256x1024 .f32) (l : Fin 1) (r s : Fin 1024) :
    k0_pay1 x0 x1 (ix3 l r s) = ∑ k : Fin 256, x0 (ix2 k r) * x1 (ix2 k s) := by
  unfold k0_pay1
  simp only [pointwise]
  rw [zero_add]

section Cases

variable (c : Dev nD) (i : grid0.Coords) (arg3 : Memref sig .tc .vmem S256x1024 .bf16) (harg3 : arg3.IsWhole) (arg4 : Memref sig .tc .vmem S256x1024 .f32) (harg4 : arg4.IsWhole) (arg6 : Memref sig .tc .vmem S1x1024x1024 .bf16) (harg6 : arg6.IsWhole)
  (x0 : Vec Ideal S256x1024 .bf16) (x1 : Vec Ideal S256x1024 .f32)

theorem out_eq : out0_A_2 c i arg3 harg3 arg4 harg4 arg6 harg6 x0 x1 = k0_pay1 x0 x1 := by
  unfold out0_A_2
  rw [View.read_writes_eq_canon _ _ _ (fun _ => cover0_A_2 ..)]
  unfold kernelRun0_A
  dsimp only
  sl_unfold_words
  simp only [View.readAt_eq_ld, Memref.IsWhole.read_unread]
  rw [View.canon_unit_zero Mm.zero3]
  repeat rw [View.ld_unit_zero Mm.zero2]

end Cases

variable (m : (ℓ : Loc nD τ sig) → Buf (Elt Ideal) ℓ)

abbrev aA (c : Dev nD) : Vec Ideal S256x1024 .bf16 := m (c.tc.loc main_arg0)
abbrev aB (c : Dev nD) : Vec Ideal S256x2048 .f32 := m (c.tc.loc main_arg1)
abbrev aC (c : Dev nD) : Vec Ideal S4x1024x2048 .bf16 := m (c.tc.loc main_arg2)

theorem idx_facts : ∀ t : Fin grid0.N, win0_0.index t 0 = 0 ∧ win0_0.index t 1 = t.val / 2 ∧ win0_1.index t 0 = 0 ∧ win0_1.index t 1 = t.val % 2 ∧ win0_2.index t 0 = 0 ∧ win0_2.index t 1 = t.val / 2 ∧ win0_2.index t 2 = t.val % 2 := by decide +kernel

theorem blk0_at (c : Dev nD) (t : Fin cfg0.N) (y z : S256x1024.Idx)
    (h0 : (z 0).val = (y 0).val) (h1 : (z 1).val = 1024 * (t.val / 2) + (y 1).val) :
    iblk m c 0 t y = aA m c z := by
  obtain ⟨q00, q01, -⟩ := idx_facts t
  refine (congrFun (V_main_arg0 m c) _).trans (congrArg _ (Mm.idx2 (Mm.at_ 256 q00 (by omega)) (Mm.at_ 1024 q01 (by omega))))

theorem blk1_at (c : Dev nD) (t : Fin cfg0.N) (y : S256x1024.Idx) (z : S256x2048.Idx)
    (h0 : (z 0).val = (y 0).val) (h1 : (z 1).val = 1024 * (t.val % 2) + (y 1).val) :
    iblk m c 1 t y = aB m c z := by
  obtain ⟨-, -, q10, q11, -⟩ := idx_facts t
  refine (congrFun (V_main_arg1 m c) _).trans (congrArg _ (Mm.idx2 (Mm.at_ 256 q10 (by omega)) (Mm.at_ 1024 q11 (by omega))))

theorem flushed (c : Dev nD) (t : Fin cfg0.N) :
    (dats m 0 c).flushed 2 t = ((cfg0.win 2).blk t).view.read (Elt Ideal) (G (aA m c) (aB m c) (aC m c)) := by
  obtain ⟨-, -, -, -, q20, q21, q22⟩ := idx_facts t
  rw [Value.flushed2_A, out_eq]
  funext y
  obtain ⟨l, r, s, rfl⟩ : ∃ (l : Fin 1) (r s : Fin 1024), y = ix3 l r s := ⟨y 0, y 1, y 2, ValueIdx.eq_ix3 y⟩
  rw [View.read_apply]
  refine (pay_at _ _ l r s).trans ?_
  have el : ((((cfg0.win 2).blk t).view.emb (ix3 l r s)) 0).val = 0 := Mm.at' 1 l.val _ q20 (by omega)
  have er : ((((cfg0.win 2).blk t).view.emb (ix3 l r s)) 1).val = 1024 * (t.val / 2) + r.val := Mm.at' 1024 r.val _ q21 (by omega)
  have es : ((((cfg0.win 2).blk t).view.emb (ix3 l r s)) 2).val = 1024 * (t.val % 2) + s.val := Mm.at' 1024 s.val _ q22 (by omega)
  unfold G
  rw [if_pos el]
  unfold E
  refine Finset.sum_congr rfl fun k _ => congrArg₂ (· * ·) (blk0_at m c t _ _ ?_ ?_) (blk1_at m c t _ _ ?_ ?_)
  · rfl
  · refine er.trans ?_; show _ = 1024 * (t.val / 2) + r.val; omega
  · rfl
  · refine es.trans ?_; show _ = 1024 * (t.val % 2) + s.val; omega

theorem final (c : Dev nD) : (dats m 0 c).arrAt 2 cfg0.N = G (aA m c) (aB m c) (aC m c) := by
  funext i
  rw [(dats m 0 c).arrAt_eq_piecewise 2 (G (aA m c) (aB m c) (aC m c)) (fun t _ => flushed m c t) i]
  split
  · rfl
  · rename_i hno
    have hi0 : ¬((i 0 : Nat) = 0) := fun hz => hno (by
      have h1 : (i 1 : Nat) < 1024 := (i 1).isLt
      have h2 : (i 2 : Nat) < 2048 := (i 2).isLt
      have hN : cfg0.N = 2 := N_0
      obtain ⟨t, ht0, ht1⟩ : ∃ t : Fin cfg0.N, t.val / 2 = (i 1 : Nat) / 1024 ∧ t.val % 2 = (i 2 : Nat) / 1024 :=
        ⟨⟨2 * ((i 1 : Nat) / 1024) + (i 2 : Nat) / 1024, by omega⟩, by dsimp only; omega, by dsimp only; omega⟩
      obtain ⟨-, -, -, -, q20, q21, q22⟩ := idx_facts t
      refine ⟨t, flush0_2 t, ?_⟩
      show i ∈ ((View.whole main_v0).slice (win0_2.rect t)).set
      rw [View.set_slice_whole, Rect.mem_set_unit]
      intro a
      match a with
      | ⟨0, _⟩ =>
        show win0_2.index t 0 * 1 ≤ (i 0 : Nat) ∧ (i 0 : Nat) < win0_2.index t 0 * 1 + 1
        rw [q20]; omega
      | ⟨1, _⟩ =>
        show win0_2.index t 1 * 1024 ≤ (i 1 : Nat) ∧ (i 1 : Nat) < win0_2.index t 1 * 1024 + 1024
        rw [q21]; omega
      | ⟨2, _⟩ =>
        show win0_2.index t 2 * 1024 ≤ (i 2 : Nat) ∧ (i 2 : Nat) < win0_2.index t 2 * 1024 + 1024
        rw [q22]; omega)
    unfold G
    rw [if_neg hi0, A_eq]
    show V m c main_v0 i = m (c.tc.loc main_arg2) i
    rfl

/-- What every run ends with. -/
theorem run (ρ : Dev nD → PrngReg) : θ_run defs (onTc (τ := τ) (main (F := Ideal))) ⟨m, fun _ => 0, ρ⟩ fun r => ∀ c : Dev nD,
      r.2.mem (c.tc.loc main_v0) = G (aA m c) (aB m c) (aC m c) ∧ Mm.kept m r.2.mem c main_arg0 ∧ Mm.kept m r.2.mem c main_arg1 ∧ Mm.kept m r.2.mem c main_arg2 :=
  (θ_run defs _ _).mono (fun _ h c => ⟨(h c).1.trans (final m c), (h c).2⟩) (Value.run_blocks m ρ)

open Reference32Ideal.Read in
/-- One entry of the reference's product. -/
theorem ref_E (x0 : Vec Ideal S256x1024 .bf16) (x1 : Vec Ideal S256x2048 .f32) (r : Fin 1024) (s : Fin 2048) :
    val_main_v5 (F := Ideal) x0 x1 (ix2 r s) = E x0 x1 r s := by
  unfold E
  show val_main_v4 (F := Ideal) x0 x1 _ = _
  rw [val_main_v4_apply]
  rw [val_main_v3_apply]
  refine Finset.sum_congr rfl fun k _ => ?_
  rw [mul_comm]
  refine congrArg₂ (· * ·) ?_ ?_
  · show x0 _ = _
    exact congrArg x0 (Mm.idx2 rfl rfl)
  · exact congrArg x1 (Mm.idx2 rfl rfl)

/-- In the first slot the result is the product. -/
theorem G_in (A : Vec Ideal S256x1024 .bf16) (B : Vec Ideal S256x2048 .f32) (C : Vec Ideal S4x1024x2048 .bf16) (l : Fin 4) (r : Fin 1024) (s : Fin 2048) (hl : l.val = 0)
    : G A B C (ix3 l r s) = E A B r s := if_pos hl

/-- Elsewhere the result is what was there before. -/
theorem G_off (A : Vec Ideal S256x1024 .bf16) (B : Vec Ideal S256x2048 .f32) (C : Vec Ideal S4x1024x2048 .bf16) (l : Fin 4) (r : Fin 1024) (s : Fin 2048)
    (hl : ¬l.val = 0) : G A B C (ix3 l r s) = C (ix3 l r s) := if_neg hl

open Reference32Ideal.Read in
/-- The reference's result. -/
theorem ref_eq (x0 : Vec Ideal S256x1024 .bf16) (x1 : Vec Ideal S256x2048 .f32) (x2 : Vec Ideal S4x1024x2048 .bf16) :
    val_main_v8 (F := Ideal) x0 x1 x2 = G x0 x1 x2 := by
  funext i
  obtain ⟨l, r, s, rfl⟩ : ∃ (l : Fin 4) (r : Fin 1024) (s : Fin 2048), i = ix3 l r s := ⟨i 0, i 1, i 2, ValueIdx.eq_ix3 i⟩
  unfold val_main_v8
  by_cases hl : l.val = 0
  · refine (concatenate_pair_apply_left (t := Reference32Ideal.S4x1024x2048) (s₁ := Reference32Ideal.S1x1024x2048) (s₂ := Reference32Ideal.S3x1024x2048) (0 : Fin 3) _ _ _ _ rfl
      (ix3 (⟨0, by decide⟩ : Fin 1) r s) (fun a => by
      match a with
      | ⟨0, _⟩ => exact hl.symm
      | ⟨1, _⟩ => rfl
      | ⟨2, _⟩ => rfl)).trans ?_
    rw [val_main_v6_apply]
    have e : idx_main_v6 (ix3 (⟨0, by decide⟩ : Fin 1) r s) = ix2 r s := Mm.idx2 rfl rfl
    rw [e]
    exact (ref_E x0 x1 r s).trans (G_in x0 x1 x2 l r s hl).symm
  · refine Eq.trans ?_ (G_off x0 x1 x2 l r s hl).symm
    have hb := l.isLt
    refine (concatenate_pair_apply_right (t := Reference32Ideal.S4x1024x2048) (s₁ := Reference32Ideal.S1x1024x2048) (s₂ := Reference32Ideal.S3x1024x2048) (0 : Fin 3) _ _ _ _ rfl rfl
      (ix3 (⟨l.val - 1, by omega⟩ : Fin 3) r s) (fun a ha => by
      match a with
      | ⟨0, _⟩ => exact absurd rfl ha
      | ⟨1, _⟩ => rfl
      | ⟨2, _⟩ => rfl) (by show l.val - 1 + 1 = l.val; omega)).trans ?_
    rw [val_main_v7_apply]
    refine congrArg x2 (Mm.idx3 ?_ ?_ ?_)
    · show 1 + (l.val - 1) = l.val; omega
    · rfl
    · rfl

end Cert.Kernel32Ideal.Prod

namespace Cert.Proof.K32
open Idealize ShloMosaic SL.Sem

/-- The reference ends. -/
theorem frameRef : quiescent_Reference32Ideal := fun m ρ _ =>
  (θ_run Reference32Ideal.defs _ _).mono (fun r h => ⟨fun c => (h c).2, sem_eq_zero_of_no_sems (by decide) r.2⟩)
    (Reference32Ideal.Value.run m ρ)

/-- The call's result is the reference's. -/
theorem algebraic : algebraic_Kernel32Ideal_Reference32Ideal := by
  intro m ρ m' ρ' hpre hargs
  refine ⟨_, Kernel32Ideal.Prod.run m ρ, (θ_run Reference32Ideal.defs _ _).mono (fun r h c => ?_)
    (Reference32Ideal.Value.run m' ρ')⟩
  obtain ⟨h0, hk⟩ := h c
  refine ⟨?_, hk⟩
  refine h0.trans ((Reference32Ideal.Read.val_main_v8_eq _ _ _).trans ?_)
  rw [(hargs c).1, (hargs c).2.1, (hargs c).2.2]
  exact Kernel32Ideal.Prod.ref_eq _ _ _

end Cert.Proof.K32
-- ==== Proof.Mm.P33.lean ====
/-
  The gradient of the normalised memory: the call's tiles put together are the product, and the reference's
  product is the same sum.
-/
module

public import proofs.«01_k».proof.Proof.Gen.Kernel33.Frame
public import proofs.«01_k».proof.Proof.Gen.Kernel33Ideal.Value
public import proofs.«01_k».proof.Proof.Gen.Reference33Ideal.Read
public import proofs.«01_k».proof.Proof.Mm.Sum

@[expose] public section

noncomputable section

namespace Cert.Kernel33Ideal.Prod

open Kernel33Ideal Kernel33Ideal.Gen Idealize ShloMosaic ShloMosaic.TcCoe SL.Sem

/-- One entry of the product. -/
def E (A : Vec Ideal S256x2048 .f32) (B : Vec Ideal S1024x2048 .bf16) (r : Fin 256) (s : Fin 1024) : EReal :=
  ∑ k : Fin 2048, A (ix2 r k) * B (ix2 s k)

/-- The call's result. -/
def G (A : Vec Ideal S256x2048 .f32) (B : Vec Ideal S1024x2048 .bf16) : Vec Ideal S256x1024 .f32 :=
  fun i => E A B ⟨(i 0).val, (i 0).isLt⟩ ⟨(i 1).val, (i 1).isLt⟩

/-- One tile's product. -/
theorem pay_at (x0 : Vec Ideal S256x2048 .f32) (x1 : Vec Ideal S1024x2048 .bf16) (r : Fin 256) (s : Fin 1024) :
    k0_pay1 x0 x1 (ix2 r s) = ∑ k : Fin 2048, x0 (ix2 r k) * x1 (ix2 s k) := by
  unfold k0_pay1
  simp only [pointwise]
  rw [zero_add]

theorem out_eq (x0 : Vec Ideal S256x2048 .f32) (x1 : Vec Ideal S1024x2048 .bf16) : out0_2 x0 x1 = k0_pay1 x0 x1 := by
  unfold out0_2
  rw [View.canon_unit_zero Mm.zero2]
  repeat rw [View.ld_unit_zero Mm.zero2]

variable (m : (ℓ : Loc nD τ sig) → Buf (Elt Ideal) ℓ)

abbrev aA (c : Dev nD) : Vec Ideal S256x2048 .f32 := m (c.tc.loc main_arg0)
abbrev aB (c : Dev nD) : Vec Ideal S1024x2048 .bf16 := m (c.tc.loc main_arg1)

theorem idx_facts : ∀ t : Fin grid0.N, win0_0.index t 0 = t.val ∧ win0_0.index t 1 = 0 ∧ win0_1.index t 0 = 0 ∧ win0_1.index t 1 = 0 ∧ win0_2.index t 0 = t.val ∧ win0_2.index t 1 = 0 := by decide +kernel

theorem blk0_at (c : Dev nD) (t : Fin cfg0.N) (y z : S256x2048.Idx)
    (h0 : (z 0).val = 256 * (t.val) + (y 0).val) (h1 : (z 1).val = (y 1).val) :
    iblk m c 0 t y = aA m c z := by
  obtain ⟨q00, q01, -⟩ := idx_facts t
  unfold iblk
  rw [View.read_apply]
  show V m c main_arg0 _ = m (c.tc.loc main_arg0) _
  unfold V
  congr 1
  refine Mm.idx2 ?_ ?_
  · exact Mm.at_ 256 q00 (by omega)
  · exact Mm.at_ 2048 q01 (by omega)

theorem blk1_at (c : Dev nD) (t : Fin cfg0.N) (y z : S1024x2048.Idx)
    (h0 : (z 0).val = (y 0).val) (h1 : (z 1).val = (y 1).val) :
    iblk m c 1 t y = aB m c z := by
  obtain ⟨-, -, q10, q11, -⟩ := idx_facts t
  unfold iblk
  rw [View.read_apply]
  show V m c main_arg1 _ = m (c.tc.loc main_arg1) _
  unfold V
  congr 1
  refine Mm.idx2 ?_ ?_
  · exact Mm.at_ 1024 q10 (by omega)
  · exact Mm.at_ 2048 q11 (by omega)

theorem flushed (c : Dev nD) (t : Fin cfg0.N) :
    (dats m 0 c).flushed 2 t = ((cfg0.win 2).blk t).view.read (Elt Ideal) (G (aA m c) (aB m c)) := by
  obtain ⟨-, -, -, -, q20, q21⟩ := idx_facts t
  rw [Value.flushed2, out_eq]
  funext y
  obtain ⟨r, s, rfl⟩ := Mm.ex2 256 1024 y
  rw [View.read_apply]
  refine (pay_at _ _ r s).trans ?_
  have er : ((((cfg0.win 2).blk t).view.emb (ix2 r s)) 0).val = 256 * (t.val) + r.val := Mm.at' 256 r.val _ q20 (by omega)
  have es : ((((cfg0.win 2).blk t).view.emb (ix2 r s)) 1).val = s.val := Mm.at' 1024 s.val _ q21 (by omega)
  unfold G E
  refine Finset.sum_congr rfl fun k _ => congrArg₂ (· * ·) (blk0_at m c t _ _ ?_ ?_) (blk1_at m c t _ _ ?_ ?_)
  · refine er.trans ?_; show _ = 256 * (t.val) + r.val; omega
  · rfl
  · exact es
  · rfl

theorem final (c : Dev nD) : (dats m 0 c).arrAt 2 cfg0.N = G (aA m c) (aB m c) :=
  (dats m 0 c).arrAt_eq_of_cover 2 _ (fun t _ => flushed m c t) fun i => by
    have h1 : (i 0 : Nat) < 256 := (i 0).isLt
    have h2 : (i 1 : Nat) < 1024 := (i 1).isLt
    have hN : cfg0.N = 1 := N_0
    obtain ⟨t, ht0⟩ : ∃ t : Fin cfg0.N, t.val = (i 0 : Nat) / 256 :=
      ⟨⟨(i 0 : Nat) / 256, by omega⟩, rfl⟩
    obtain ⟨-, -, -, -, q20, q21⟩ := idx_facts t
    exact ⟨t, flush0_2 t, Mm.memv (Mm.mem2 256 1024 q20 q21 (by omega) (by omega))⟩

/-- What every run ends with. -/
theorem run (ρ : Dev nD → PrngReg) : θ_run defs (onTc (τ := τ) (main (F := Ideal))) ⟨m, fun _ => 0, ρ⟩ fun r => ∀ c : Dev nD,
      r.2.mem (c.tc.loc main_v0) = G (aA m c) (aB m c) ∧ Mm.kept m r.2.mem c main_arg0 ∧ Mm.kept m r.2.mem c main_arg1 :=
  (θ_run defs _ _).mono (fun _ h c => ⟨(h c).1.trans (final m c), (h c).2⟩) (Value.run_blocks m ρ)

open Reference33Ideal.Read in
/-- One entry of the reference's product. -/
theorem ref_E (x0 : Vec Ideal S256x2048 .f32) (x1 : Vec Ideal S1024x2048 .bf16) (r : Fin 256) (s : Fin 1024) :
    val_main_v3 (F := Ideal) x0 x1 (ix2 r s) = E x0 x1 r s := by
  unfold E
  rw [val_main_v3_apply]
  refine Finset.sum_congr rfl fun k _ => ?_
  refine congrArg₂ (· * ·) ?_ ?_
  · exact congrArg x0 (Mm.idx2 rfl rfl)
  · show x1 _ = _
    exact congrArg x1 (Mm.idx2 rfl rfl)

open Reference33Ideal.Read in
/-- The reference's result. -/
theorem ref_eq (x0 : Vec Ideal S256x2048 .f32) (x1 : Vec Ideal S1024x2048 .bf16) :
    val_main_v3 (F := Ideal) x0 x1 = G x0 x1 := by
  funext i
  obtain ⟨r, s, rfl⟩ := Mm.ex2 256 1024 i
  exact ref_E x0 x1 r s

end Cert.Kernel33Ideal.Prod

namespace Cert.Proof.K33
open Idealize ShloMosaic SL.Sem

/-- The reference ends. -/
theorem frameRef : quiescent_Reference33Ideal := fun m ρ _ =>
  (θ_run Reference33Ideal.defs _ _).mono (fun r h => ⟨fun c => (h c).2, sem_eq_zero_of_no_sems (by decide) r.2⟩)
    (Reference33Ideal.Value.run m ρ)

/-- The call's result is the reference's. -/
theorem algebraic : algebraic_Kernel33Ideal_Reference33Ideal := by
  intro m ρ m' ρ' hpre hargs
  refine ⟨_, Kernel33Ideal.Prod.run m ρ, (θ_run Reference33Ideal.defs _ _).mono (fun r h c => ?_)
    (Reference33Ideal.Value.run m' ρ')⟩
  obtain ⟨h0, hk⟩ := h c
  refine ⟨?_, hk⟩
  refine h0.trans ((Reference33Ideal.Read.val_main_v3_eq _ _).trans ?_)
  rw [(hargs c).1, (hargs c).2]
  exact Kernel33Ideal.Prod.ref_eq _ _

end Cert.Proof.K33
-- ==== Proof.Attn.Forward.lean ====
/-
  The attention's forward call: the result of every row of queries is the row of probabilities times the values, head by
  head, in the kernel as in the reference. The scores and the probabilities are those of the backward pass.
-/
module

public import proofs.«01_k».proof.Defs
public import proofs.«01_k».proof.Proof.Gen.Kernel34
public import proofs.«01_k».proof.Proof.Gen.Kernel34.Frame
public import proofs.«01_k».proof.Proof.Gen.Kernel34Ideal.Value
public import proofs.«01_k».proof.Proof.Gen.Reference34Ideal.Run
public import proofs.«01_k».proof.Proof.Gen.Reference34Ideal.Read
public import proofs.«01_k».proof.Proof.Mm.Sum
public import proofs.«01_k».proof.Proof.Attn.Reference

@[expose] public section

noncomputable section

namespace Cert.Kernel34Ideal.AttnFwd

open Kernel34Ideal Kernel34Ideal.Gen Idealize ShloMosaic ShloMosaic.TcCoe SL.Sem Attn
open KernelIdeal.AttnValue (hix kix vix sc hs c16 ofBits_neg_inf ld_cols emb_cols mem_cols exists_hix)

/-- A row of the result, at column `d` of head `h`. -/
def o (q : Fin 1024 → EReal) (kv : Vec Ideal S256x2048 .bf16) (h : Fin 4) (d : Fin 256) : EReal :=
  ∑ m : Fin 256, soft (sc q kv h) m * kv (ix2 m (vix h d))

/-- A row of the result, at column `c`. -/
def oc (q : Fin 1024 → EReal) (kv : Vec Ideal S256x2048 .bf16) (c : Fin 1024) : EReal :=
  o q kv ⟨c.val / 256 % 4, by omega⟩ ⟨c.val % 256, by omega⟩

theorem oc_h (q : Fin 1024 → EReal) (kv : Vec Ideal S256x2048 .bf16) (h : Fin 4) (d : Fin 256) :
    oc q kv (hix h d) = o q kv h d := by
  have e1 : (⟨(hix h d).val / 256 % 4, by omega⟩ : Fin 4) = h := Fin.ext (by simp only [hix]; omega)
  have e2 : (⟨(hix h d).val % 256, by omega⟩ : Fin 256) = d := Fin.ext (by simp only [hix]; omega)
  unfold oc
  rw [e1, e2]

/-- A row of an array. -/
def row {n : ℕ} (x : Vec Ideal ⟨2, ![n, 1024]⟩ .bf16) (r : Fin n) : Fin 1024 → EReal := fun c => x (ix2 r c)

/-- The result of the call on `n` rows. -/
def out {n : ℕ} (x : Vec Ideal ⟨2, ![n, 1024]⟩ .bf16) (kv : Vec Ideal S256x2048 .bf16) : Vec Ideal ⟨2, ![n, 1024]⟩ .bf16 :=
  fun i => oc (row x ⟨(i 0).val, (i 0).isLt⟩) kv ⟨(i 1).val, (i 1).isLt⟩

/-- The result of the call. -/
def attnO (x : Vec Ideal S4096x1024 .bf16) (kv : Vec Ideal S256x2048 .bf16) : Vec Ideal S4096x1024 .bf16 := out (n := 4096) x kv

/-! ## One head -/

section Head
variable (q : Vec Ideal S512x256 .bf16) (k v : Vec Ideal S256x256 .bf16)

/-- The exponentials of one head's block. -/
theorem pay6_at (r : Fin 512) (m : Fin 256) : k0_pay6 q k (ix2 r m) = ex (hs q k r) m := by
  unfold k0_pay6
  simp only [pointwise, zero_add, ofBits_neg_inf]
  rfl

theorem pay7_at (r : Fin 512) : k0_pay7 q k (ix2 r 0) = nrm (hs q k r) := by
  unfold k0_pay7
  have e := pay6_at q k
  generalize k0_pay6 q k = D at e
  simp only [pointwise, zero_add, e]
  rfl

theorem pay1_at (r : Fin 512) (d : Fin 256) :
    k0_pay1 (k0_pay6 q k) (k0_pay7 q k) v (ix2 r d) = ∑ m : Fin 256, soft (hs q k r) m * v (ix2 m d) := by
  unfold k0_pay1
  have e := pay6_at q k
  have e' := pay7_at q k
  generalize k0_pay6 q k = D at e ⊢
  generalize k0_pay7 q k = N at e' ⊢
  simp only [pointwise, zero_add, Nat.reduceEqDiff, ↓reduceDIte, e, e']
  rfl

theorem head0 : k0_pay2 q k v = k0_pay1 (k0_pay6 q k) (k0_pay7 q k) v := rfl
theorem head1 : k0_pay4 v (k0_pay3 q k) = k0_pay1 (k0_pay6 q k) (k0_pay7 q k) v := rfl
theorem head2 : k0_pay5 q k v = k0_pay1 (k0_pay6 q k) (k0_pay7 q k) v := rfl

end Head

/-! ## One block -/

theorem piece (x0 : Vec Ideal S512x1024 .bf16) (x1 : Vec Ideal S256x2048 .bf16) (h : Fin 4) (p p' : ℕ) (hp : p = 256 * h.val) (hp' : p' = 1024 + 256 * h.val)
    (iq : ∀ x, (![0, p] : Fin 2 → ℕ) x + (![512, 256] : Fin 2 → ℕ) x ≤ S512x1024.size x)
    (ik : ∀ x, (![0, p] : Fin 2 → ℕ) x + (![256, 256] : Fin 2 → ℕ) x ≤ S256x2048.size x)
    (iv : ∀ x, (![0, p'] : Fin 2 → ℕ) x + (![256, 256] : Fin 2 → ℕ) x ≤ S256x2048.size x)
    (x : (Rect.unit (s := S512x1024) ![0, p] ![512, 256] iq).shape.Idx) :
    k0_pay1 (k0_pay6 (View.ld x0 (Rect.unit (s := S512x1024) ![0, p] ![512, 256] iq)) (View.ld x1 (Rect.unit (s := S256x2048) ![0, p] ![256, 256] ik)))
      (k0_pay7 (View.ld x0 (Rect.unit (s := S512x1024) ![0, p] ![512, 256] iq)) (View.ld x1 (Rect.unit (s := S256x2048) ![0, p] ![256, 256] ik)))
      (View.ld x1 (Rect.unit (s := S256x2048) ![0, p'] ![256, 256] iv)) x
      = out (n := 512) x0 x1 ((Rect.unit (s := S512x1024) ![0, p] ![512, 256] iq).emb x) := by
  obtain ⟨r, d, rfl⟩ : ∃ (r : Fin 512) (d : Fin 256), x = ix2 r d := ⟨x 0, x 1, ValueIdx.eq_ix2 x⟩
  have e : (Rect.unit (s := S512x1024) ![0, p] ![512, 256] iq).emb (ix2 r d) = ix2 r (hix h d) :=
    emb_cols p iq r d (hix h d) (by simp only [hix]; omega)
  rw [e]
  refine Eq.trans ?_ (oc_h (row (n := 512) x0 r) x1 h d).symm
  refine (pay1_at _ _ _ r d).trans ?_
  have es : hs (View.ld x0 (Rect.unit (s := S512x1024) ![0, p] ![512, 256] iq)) (View.ld x1 (Rect.unit (s := S256x2048) ![0, p] ![256, 256] ik)) r
      = sc (row (n := 512) x0 r) x1 h := by
    funext m
    unfold hs sc
    refine congrArg (· * c16) (Finset.sum_congr rfl fun j _ => ?_)
    exact congrArg₂ (· * ·) (ld_cols x0 p iq r j (hix h j) (by simp only [hix]; omega)) (ld_cols x1 p ik m j (kix h j) (by simp only [kix]; omega))
  rw [es]
  refine Finset.sum_congr rfl fun m _ => congrArg (soft _ m * ·) ?_
  exact ld_cols x1 p' iv m d (vix h d) (by simp only [vix]; omega)

theorem out_eq (x0 : Vec Ideal S512x1024 .bf16) (x1 : Vec Ideal S256x2048 .bf16) : out0_2 x0 x1 = out (n := 512) x0 x1 := by
  funext y
  unfold out0_2
  refine View.canon_apply_of_pieces (out (n := 512) x0 x1) _ ?_ y (cover0_2 _ _ _ _ y)
  intro pc hpc
  simp only [List.mem_cons, List.not_mem_nil, or_false] at hpc
  rcases hpc with rfl | rfl | rfl | rfl
  · exact piece x0 x1 3 768 1792 rfl rfl _ _ _
  · exact piece x0 x1 2 512 1536 rfl rfl _ _ _
  · exact piece x0 x1 1 256 1280 rfl rfl _ _ _
  · exact piece x0 x1 0 0 1024 rfl rfl _ _ _

/-! ## The whole result -/

variable (m : (ℓ : Loc nD τ sig) → Buf (Elt Ideal) ℓ)

abbrev a0 (c : Dev nD) : Vec Ideal S4096x1024 .bf16 := m ((c : Thread nD τ).loc main_arg0)
abbrev a1 (c : Dev nD) : Vec Ideal S256x2048 .bf16 := m ((c : Thread nD τ).loc main_arg1)

theorem idx_facts : ∀ t : Fin grid0.N, win0_0.index t 0 = t.val ∧ win0_0.index t 1 = 0 ∧ win0_1.index t 0 = 0 ∧ win0_1.index t 1 = 0 ∧ win0_2.index t 0 = t.val ∧ win0_2.index t 1 = 0 := by decide +kernel

/-- Row `r` of the rows that grid point `t` works on. -/
def gr (t : Fin cfg0.N) (r : Fin 512) : Fin 4096 :=
  ⟨512 * t.val + r.val, by have := lt_of_lt_of_eq t.isLt (show cfg0.N = 8 from N_0); omega⟩

theorem blk0_at (c : Dev nD) (t : Fin cfg0.N) (r : Fin 512) : row (n := 512) (iblk m c 0 t) r = row (n := 4096) (a0 m c) (gr t r) := by
  obtain ⟨q00, q01, -⟩ := idx_facts t
  funext s
  unfold iblk row
  rw [View.read_apply]
  show V m c main_arg0 _ = m (c.tc.loc main_arg0) _
  unfold V
  congr 1
  refine Mm.idx2 ?_ ?_
  · exact Mm.at' 512 r.val (512 * t.val + r.val) q00 (by omega)
  · exact Mm.at' 1024 s.val s.val q01 (by omega)

theorem blk1_eq (c : Dev nD) (t : Fin cfg0.N) : iblk m c 1 t = a1 m c := by
  obtain ⟨-, -, q10, q11, -⟩ := idx_facts t
  funext y
  unfold iblk
  rw [View.read_apply]
  show V m c main_arg1 _ = m (c.tc.loc main_arg1) _
  unfold V
  congr 1
  refine Mm.idx2 ?_ ?_
  · exact Mm.at' 256 ((y 0).val) ((y 0).val) q10 (by omega)
  · exact Mm.at' 2048 ((y 1).val) ((y 1).val) q11 (by omega)

theorem flushed (c : Dev nD) (t : Fin cfg0.N) :
    (dats m 0 c).flushed 2 t = ((cfg0.win 2).blk t).view.read (Elt Ideal) (attnO (a0 m c) (a1 m c)) := by
  obtain ⟨-, -, -, -, q20, q21⟩ := idx_facts t
  rw [Value.flushed2, out_eq, blk1_eq]
  funext y
  obtain ⟨r, s, rfl⟩ := Mm.ex2 512 1024 y
  rw [View.read_apply]
  have e : ((cfg0.win 2).blk t).view.emb (ix2 r s) = ix2 (gr t r) s := Mm.idx2
    (Mm.at' 512 r.val (512 * t.val + r.val) q20 (by omega))
    (Mm.at' 1024 s.val s.val q21 (by omega))
  rw [e]
  exact congrArg (fun q => oc q (a1 m c) s) (blk0_at m c t r)

theorem final (c : Dev nD) : (dats m 0 c).arrAt 2 cfg0.N = attnO (a0 m c) (a1 m c) :=
  (dats m 0 c).arrAt_eq_of_cover 2 _ (fun t _ => flushed m c t) fun i => by
    have h1 : (i 0 : Nat) < 4096 := (i 0).isLt
    have h2 : (i 1 : Nat) < 1024 := (i 1).isLt
    have hN : cfg0.N = 8 := N_0
    obtain ⟨t, ht⟩ : ∃ t : Fin cfg0.N, t.val = (i 0 : Nat) / 512 := ⟨⟨(i 0 : Nat) / 512, by omega⟩, rfl⟩
    obtain ⟨-, -, -, -, q20, q21⟩ := idx_facts t
    exact ⟨t, flush0_2 t, Mm.memv (Mm.mem2 512 1024 q20 q21 (by omega) (by omega))⟩

/-- Every run of the program ends with this result, and with its arguments as they were. -/
theorem run (ρ : Dev nD → PrngReg) : θ_run defs (onTc (τ := τ) (main (F := Ideal))) ⟨m, fun _ => 0, ρ⟩ fun r => ∀ c : Dev nD,
      r.2.mem ((c : Thread nD τ).loc main_v0) = attnO (a0 m c) (a1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1.trans (final m c)), (h c).2⟩) (Value.run_blocks m ρ)

end Cert.Kernel34Ideal.AttnFwd

namespace Cert.Reference34Ideal.AttnFwd

open Reference34Ideal Reference34Ideal.Gen Reference34Ideal.Read Idealize ShloMosaic ShloMosaic.TcCoe SL.Sem Attn
open KernelIdeal.AttnValue (hix kix vix sc c16 ofBits_neg_inf exists_hix)
open Kernel34Ideal.AttnFwd (row attnO o oc_h)
open ReferenceIdeal.AttnRef (ext2 ext3 ext4)

variable (x0 : Vec Ideal S4096x1024 .bf16) (x1 : Vec Ideal S256x2048 .bf16) (h : Fin 4) (l : Fin 4096) (m d : Fin 256)

theorem v2_at : val_main_v2 (F := Ideal) x0 (ix4 0 l h d) = row (n := 4096) x0 l (hix h d) := by
  rw [val_main_v2_apply, val_main_v0_apply]
  have := h.isLt; have := d.isLt; have := l.isLt
  exact congrArg x0 (ext2 (by show _ = l.val; dsimp; omega) (by show _ = 256 * h.val + d.val; dsimp; omega))

theorem v6_at : val_main_v6 (F := Ideal) x1 (ix4 0 m h d) = x1 (ix2 m (kix h d)) := by
  rw [val_main_v6_apply, val_main_v4_apply, val_main_v3_apply, val_main_v1_apply]
  have := h.isLt; have := d.isLt; have := m.isLt
  exact congrArg x1 (ext2 (by show _ = m.val; dsimp; omega) (by show _ = 256 * h.val + d.val; dsimp; omega))

theorem v7_at : val_main_v7 (F := Ideal) x1 (ix4 0 m h d) = x1 (ix2 m (vix h d)) := by
  rw [val_main_v7_apply, val_main_v5_apply, val_main_v3_apply, val_main_v1_apply]
  have := h.isLt; have := d.isLt; have := m.isLt
  exact congrArg x1 (ext2 (by show _ = m.val; dsimp; omega) (by show _ = 1024 + 256 * h.val + d.val; dsimp; omega))

/-- The scores. -/
theorem v10_at : val_main_v10 (F := Ideal) x0 x1 (ix4 0 h l m) = sc (row (n := 4096) x0 l) x1 h m := by
  rw [val_main_v10_apply, val_main_v8_apply, val_main_v9_apply]
  refine congrArg (· * _) (Finset.sum_congr rfl fun d _ => ?_)
  rw [← v2_at x0 h l d, ← v6_at x1 h m d]
  exact congrArg₂ (· * ·) (congrArg _ (ext4 rfl rfl rfl rfl)) (congrArg _ (ext4 rfl rfl rfl rfl))

theorem v11_at : val_main_v11 (F := Ideal) x0 x1 (ix3 0 h l) = rowMax (sc (row (n := 4096) x0 l) x1 h) := by
  unfold val_main_v11
  rw [Host.reduce_eq_fold_single _ _ _ _ (by decide)]
  unfold rowMax
  have e : (val_main_v10 (F := Ideal) x0 x1 ∘ Shape.Reduces.lift (a := (3 : Fin 4)) (s := S1x4x4096x256) (t := S1x4x4096) (by decide) (ix3 0 h l))
      = sc (row (n := 4096) x0 l) x1 h := funext fun k =>
    (congrArg (val_main_v10 (F := Ideal) x0 x1) (ext4 rfl rfl rfl rfl)).trans (v10_at x0 x1 h l k)
  rw [e, val_main_cst_0_apply]
  show Finset.fold _ (Ideal.ofBits .f32 0xFF800000#32) _ _ = _
  rw [ofBits_neg_inf]
  rfl

theorem v15_at : val_main_v15 (F := Ideal) x0 x1 (ix4 0 h l m) = rowMax (sc (row (n := 4096) x0 l) x1 h) := by
  rw [val_main_v15_apply, val_main_v14_apply, val_main_v13_apply, val_main_v12_apply, ← v11_at]
  show max (Ideal.ofBits .f32 0xFF800000#32) _ = _
  rw [ofBits_neg_inf, max_eq_right bot_le]
  exact congrArg _ (ext3 rfl rfl rfl)

theorem v17_at : val_main_v17 (F := Ideal) x0 x1 (ix4 0 h l m) = ex (sc (row (n := 4096) x0 l) x1 h) m := by
  rw [val_main_v17_apply, val_main_v16_apply, v15_at, v10_at]
  rfl

theorem v18_at : val_main_v18 (F := Ideal) x0 x1 (ix3 0 h l) = nrm (sc (row (n := 4096) x0 l) x1 h) := by
  rw [val_main_v18_apply, val_main_cst_2_apply]
  show Ideal.ofBits .f32 0x00000000#32 + _ = _
  rw [Ideal.ofBits_zero_f32, zero_add]
  refine Finset.sum_congr rfl fun k _ => ?_
  rw [← v17_at]
  exact congrArg _ (ext4 rfl rfl rfl rfl)

/-- The probabilities. -/
theorem v21_at : val_main_v21 (F := Ideal) x0 x1 (ix4 0 h l m) = soft (sc (row (n := 4096) x0 l) x1 h) m := by
  rw [val_main_v21_apply, val_main_v20_apply, val_main_v19_apply, v17_at]
  have e : val_main_v18 (F := Ideal) x0 x1 (idx_main_v19 (idx_main_v20 (ix4 0 h l m))) = nrm (sc (row (n := 4096) x0 l) x1 h) := by
    rw [← v18_at]; exact congrArg _ (ext3 rfl rfl rfl)
  rw [e]
  rfl

theorem v25_at : val_main_v25 (F := Ideal) x0 x1 (ix2 l (hix h d)) = o (row (n := 4096) x0 l) x1 h d := by
  rw [val_main_v25_apply, val_main_v24_apply, val_main_v23_apply]
  show val_main_v22 (F := Ideal) x0 x1 _ = _
  have := h.isLt; have := d.isLt; have := l.isLt
  have e : idx_main_v23 (idx_main_v24 (ix2 l (hix h d))) = ix4 0 h d l :=
    ext4 rfl (by show _ = h.val; dsimp; unfold hix; dsimp; omega) (by show _ = d.val; dsimp; unfold hix; dsimp; omega)
      (by show _ = l.val; dsimp; unfold hix; dsimp; omega)
  rw [e, val_main_v22_apply]
  refine Finset.sum_congr rfl fun m _ => ?_
  rw [mul_comm, ← v21_at x0 x1 h l m, ← v7_at x1 h m d]
  exact congrArg₂ (· * ·) (congrArg _ (ext4 rfl rfl rfl rfl)) (congrArg _ (ext4 rfl rfl rfl rfl))

/-- The reference's result is the kernel's. -/
theorem ref_eq : val_main_v25 (F := Ideal) x0 x1 = attnO x0 x1 := by
  funext i
  obtain ⟨l, c, rfl⟩ : ∃ l c, i = ix2 l c := ⟨i 0, i 1, ValueIdx.eq_ix2 i⟩
  obtain ⟨h, d, rfl⟩ := exists_hix c
  rw [v25_at x0 x1 h l d]
  exact (oc_h _ _ h d).symm

end Cert.Reference34Ideal.AttnFwd

namespace Cert.Proof.K34
open Idealize ShloMosaic SL.Sem

/-- The reference ends. -/
theorem frameRef : quiescent_Reference34Ideal := fun m ρ _ =>
  (θ_run Reference34Ideal.defs _ _).mono (fun r h => ⟨fun c => (h c).2, sem_eq_zero_of_no_sems (by decide) r.2⟩)
    (Reference34Ideal.Value.run m ρ)

/-- The call's result is the reference's. -/
theorem algebraic : algebraic_Kernel34Ideal_Reference34Ideal := by
  intro m ρ m' ρ' hpre hargs
  refine ⟨_, Kernel34Ideal.AttnFwd.run m ρ, (θ_run Reference34Ideal.defs _ _).mono (fun r h c => ?_)
    (Reference34Ideal.Value.run m' ρ')⟩
  obtain ⟨h0, hk⟩ := h c
  obtain ⟨e0, e1⟩ := hargs c
  refine ⟨?_, hk⟩
  refine h0.trans ((Reference34Ideal.Read.val_main_v25_eq _ _).trans ?_)
  rw [e0, e1]
  exact Reference34Ideal.AttnFwd.ref_eq _ _

end Cert.Proof.K34
-- ==== Proof.Norm.Row.lean ====
/-
  The mathematics of a row's normalisation by its root mean square, and of its gradient, over the extended reals.
-/
module

public import Idealize.ShloMosaic.Lib.Pipeline.Value
public import Idealize.ShloMosaic.PureOps.Ideal.Laws
public import Idealize.ShloMosaic.Lib.Pointwise
public import Idealize.ShloMosaic.Lib.ValueIdx
public import Mathlib.Data.EReal.Inv

@[expose] public section

noncomputable section

namespace Norm

open Idealize.ShloMosaic

/-- The constant added to the mean of the squares. -/
def eps : EReal := Ideal.ofBits .f32 0x358637BD#32
/-- The number of elements of a row. -/
def len : EReal := Ideal.ofBits .f32 0x44800000#32
/-- Minus one half. -/
def half : EReal := Ideal.ofBits .f32 0xBF000000#32

theorem eps_coe : ∃ e : ℝ, 0 < e ∧ eps = (e : EReal) :=
  ⟨8796093 * (1 / 8796093022208), by norm_num, by
    unfold eps
    simp [Ideal.ofBits, Ideal.ieee]
    norm_num [← EReal.coe_mul]⟩

theorem len_coe : len = ((1024 : ℝ) : EReal) := by
  unfold len
  simp [Ideal.ofBits, Ideal.ieee]
  norm_num [← EReal.coe_mul]

theorem half_coe : half = ((-(1 / 2) : ℝ) : EReal) := by
  unfold half
  simp [Ideal.ofBits, Ideal.ieee]
  norm_num [← EReal.coe_mul]

variable {n : ℕ}

/-- The mean of the squares of a row, with the small constant. -/
def ms (v : Fin n → EReal) : EReal := Ideal.div (∑ k, v k * v k) len + eps
/-- The reciprocal of a row's root mean square. -/
def inv (v : Fin n → EReal) : EReal := Ideal.rsqrt (ms v)
/-- A row normalised and scaled. -/
def fwd (v g : Fin n → EReal) (k : Fin n) : EReal := v k * inv v * g k
/-- The gradient of a row before its normalisation, as the kernel computes it: `w` is what arrives, already scaled. -/
def bwd (v w : Fin n → EReal) (k : Fin n) : EReal :=
  inv v * (w k - v k * inv v * Ideal.div (∑ j, w j * (v j * inv v)) len)
/-- What the mean of the squares receives in the reverse pass. -/
def back (v w : Fin n → EReal) : EReal :=
  Ideal.div ((∑ j, v j * w j) * (half * Ideal.div (inv v) (ms v))) len
/-- The gradient of a row before its normalisation, as the reverse pass of the formula gives it. -/
def bwdRef (v w : Fin n → EReal) (k : Fin n) : EReal :=
  w k * inv v + v k * back v w + back v w * v k

theorem sq_nonneg (x : EReal) : 0 ≤ x * x := by
  rcases le_total 0 x with h | h
  · exact EReal.mul_nonneg h h
  · rw [← neg_mul_neg]
    exact EReal.mul_nonneg (EReal.neg_nonneg.mpr h) (EReal.neg_nonneg.mpr h)

theorem div_len (x : EReal) : Ideal.div x len = x * ((1 / 1024 : ℝ) : EReal) := by
  rw [len_coe]
  unfold Ideal.div
  rw [if_neg (by exact_mod_cast (by norm_num : (1024 : ℝ) ≠ 0)), ← EReal.coe_inv, one_div]

/-- The mean of the squares is a positive real or infinite. -/
theorem ms_cases (v : Fin n → EReal) : ms v = ⊤ ∨ ∃ u : ℝ, 0 < u ∧ ms v = (u : EReal) := by
  obtain ⟨e, he, hee⟩ := eps_coe
  have h0 : 0 ≤ ∑ k, v k * v k := Finset.sum_nonneg fun k _ => sq_nonneg _
  unfold ms
  rw [div_len, hee]
  generalize (∑ k, v k * v k) = x at h0
  induction x with
  | bot => exact absurd h0 (by simp)
  | top =>
    left
    rw [EReal.top_mul_coe_of_pos (by norm_num), EReal.top_add_coe]
  | coe x =>
    right
    have hx : 0 ≤ x := by exact_mod_cast h0
    exact ⟨x * (1 / 1024) + e, by positivity, by push_cast; rfl⟩

theorem add_self (a : EReal) (c : ℝ) : a * (c : EReal) + a * (c : EReal) = a * ((2 * c : ℝ) : EReal) := by
  induction a with
  | coe a => norm_cast; ring
  | top =>
    rcases lt_trichotomy c 0 with h | h | h
    · rw [EReal.top_mul_coe_of_neg h, EReal.top_mul_coe_of_neg (by linarith)]; rfl
    · subst h; simp
    · rw [EReal.top_mul_coe_of_pos h, EReal.top_mul_coe_of_pos (by linarith)]; rfl
  | bot =>
    rcases lt_trichotomy c 0 with h | h | h
    · rw [EReal.bot_mul_coe_of_neg h, EReal.bot_mul_coe_of_neg (by linarith)]; rfl
    · subst h; simp
    · rw [EReal.bot_mul_coe_of_pos h, EReal.bot_mul_coe_of_pos (by linarith)]; rfl

theorem sum_mul_nonneg {ι : Type} (s : Finset ι) (f : ι → EReal) (r : ℝ) (hr : 0 ≤ r) :
    (∑ i ∈ s, f i * (r : EReal)) = (∑ i ∈ s, f i) * (r : EReal) := by
  classical
  induction s using Finset.induction_on with
  | empty => simp
  | insert a s ha ih =>
    rw [Finset.sum_insert ha, Finset.sum_insert ha, ih,
      EReal.right_distrib_of_nonneg_of_ne_top (by exact_mod_cast hr) (EReal.coe_ne_top r)]

/-- The kernel's gradient of a row is that of the reverse pass. -/
theorem bwd_eq (v w : Fin n → EReal) (k : Fin n) : bwdRef v w k = bwd v w k := by
  unfold bwdRef bwd back
  rw [div_len, div_len]
  rcases ms_cases v with h | ⟨u, hu, h⟩
  · have hi : inv v = 0 := by unfold inv; rw [h]; rfl
    have hd : Ideal.div (0 : EReal) ⊤ = 0 := by
      unfold Ideal.div; rw [if_neg (by decide), zero_mul]
    rw [hi, h, hd]
    simp
  · obtain ⟨r, hr, hru, hir⟩ : ∃ r : ℝ, 0 < r ∧ u⁻¹ = r * r ∧ inv v = (r : EReal) := by
      refine ⟨(Real.sqrt u)⁻¹, inv_pos.mpr (Real.sqrt_pos.mpr hu), ?_, ?_⟩
      · rw [← mul_inv, Real.mul_self_sqrt hu.le]
      unfold inv
      rw [h]
      rw [Ideal.rsqrt_coe, if_neg (not_lt.mpr hu.le), if_neg hu.ne']
    have hd : Ideal.div (r : EReal) (u : EReal) = ((r * u⁻¹ : ℝ) : EReal) := by
      unfold Ideal.div
      rw [if_neg (by exact_mod_cast hu.ne'), ← EReal.coe_inv, ← EReal.coe_mul]
    rw [hir, h, hd, half_coe, hru, ← EReal.coe_mul]
    have hS : (∑ j, w j * (v j * (r : EReal))) = (∑ j, v j * w j) * (r : EReal) := by
      rw [← sum_mul_nonneg _ _ r hr.le]
      exact Finset.sum_congr rfl fun j _ => by rw [← mul_assoc, mul_comm (w j) (v j)]
    rw [hS]
    generalize (∑ j, v j * w j) = S
    have hT : S * ((-(1 / 2) * (r * (r * r)) : ℝ) : EReal) * ((1 / 1024 : ℝ) : EReal)
        = S * ((-(r * r * r) / 2048 : ℝ) : EReal) := by
      rw [mul_assoc, ← EReal.coe_mul]
      congr 2
      ring
    have hX : v k * (r : EReal) * (S * (r : EReal) * ((1 / 1024 : ℝ) : EReal))
        = v k * S * ((r * r / 1024 : ℝ) : EReal) := by
      rw [mul_assoc S, ← EReal.coe_mul, mul_mul_mul_comm, ← EReal.coe_mul]
      congr 2
      ring
    have hN : ∀ (a : EReal) (d : ℝ), (r : EReal) * -(a * (d : EReal)) = a * ((-(r * d) : ℝ) : EReal) := fun a d => by
      rw [EReal.coe_neg, EReal.coe_mul, mul_neg, mul_neg, mul_left_comm]
    rw [hT, hX, mul_comm (S * _) (v k), ← mul_assoc, add_assoc, add_self, sub_eq_add_neg,
      EReal.left_distrib_of_nonneg_of_ne_top (by exact_mod_cast hr.le) (EReal.coe_ne_top r),
      mul_comm (w k), hN]
    congr 3
    ring

/-! ## Rows, and sums over the rows by blocks of 512 -/

/-- Row `l` of a matrix. -/
def row {a b : ℕ} (X : (⟨2, ![a, b]⟩ : Shape).Idx → EReal) (l : Fin a) : Fin b → EReal := fun k => X (ix2 l k)
/-- The elements of a vector. -/
def vec {b : ℕ} (X : (⟨1, ![b]⟩ : Shape).Idx → EReal) : Fin b → EReal := fun k => X (ix1 k)

/-- Two indices of a vector with the same place are equal. -/
theorem idx1 {a : ℕ} {x y : (⟨1, ![a]⟩ : Shape).Idx} (h0 : (x 0).val = (y 0).val) : x = y := by
  funext i
  apply Fin.ext
  match i with
  | ⟨0, _⟩ => exact h0

theorem zero_bits : (FloatOps.ofBits (F := Ideal) .f32 0#32 : EReal) = 0 := Ideal.ofBits_zero_f32

/-- The sum over block `t` of the rows. -/
def blk (f : Fin 4096 → EReal) (t : ℕ) : EReal :=
  if h : t < 8 then ∑ r : Fin 512, f ⟨512 * t + r.val, by omega⟩ else 0
/-- The sum over the first `n` blocks. -/
def part (f : Fin 4096 → EReal) (n : ℕ) : EReal := ∑ t ∈ Finset.range n, blk f t

theorem part_one (f : Fin 4096 → EReal) : part f 1 = blk f 0 := by
  unfold part; rw [Finset.sum_range_one]

theorem part_succ (f : Fin 4096 → EReal) (n : ℕ) : part f (n + 1) = part f n + blk f n := by
  unfold part; rw [Finset.sum_range_succ]

theorem blk_eq (f : Fin 4096 → EReal) (t : ℕ) (h : t < 8) (g : Fin 512 → EReal)
    (hg : ∀ r : Fin 512, g r = f ⟨512 * t + r.val, by omega⟩) : ∑ r, g r = blk f t := by
  unfold blk
  rw [dif_pos h]
  exact Finset.sum_congr rfl fun r _ => hg r

/-- All the blocks together are all the rows. -/
theorem part_all (f : Fin 4096 → EReal) : part f 8 = ∑ l, f l := by
  let e : Fin 8 × Fin 512 ≃ Fin 4096 := finProdFinEquiv
  rw [← e.sum_comp, Fintype.sum_prod_type]
  unfold part
  rw [Finset.sum_range]
  refine Finset.sum_congr rfl fun t _ => ?_
  refine (blk_eq f t.val t.isLt (fun r => f (e (t, r))) fun r => congrArg f (Fin.ext ?_)).symm
  show r.val + 512 * t.val = 512 * t.val + r.val
  omega

end Norm
-- ==== Proof.Norm.K35.lean ====
/-
  The normalisation of the first layer's input.
-/
module

public import proofs.«01_k».proof.Proof.Gen.Kernel35.Frame
public import proofs.«01_k».proof.Proof.Gen.Kernel35Ideal.Value
public import proofs.«01_k».proof.Proof.Gen.Reference35Ideal.Read
public import proofs.«01_k».proof.Proof.Mm.Sum
public import proofs.«01_k».proof.Proof.Norm.Row

@[expose] public section

noncomputable section

namespace Cert.Kernel35Ideal.Nrm

open Kernel35Ideal Kernel35Ideal.Gen Idealize ShloMosaic ShloMosaic.TcCoe SL.Sem

/-- One row's result. -/
def E2 (v0 v1 : Fin 1024 → EReal) (s : Fin 1024) : EReal := Norm.fwd v0 v1 s

/-- The call's result. -/
def G2 (X0 : Vec Ideal S4096x1024 .f32) (X1 : Vec Ideal S1024 .f32) : Vec Ideal S4096x1024 .bf16 := fun i =>
  E2 (Norm.row X0 ⟨(i 0).val, (i 0).isLt⟩) (Norm.vec X1) ⟨(i 1).val, (i 1).isLt⟩

/-! ## One block -/

theorem pay2_at (x0 : Vec Ideal S512x1024 .f32) (x1 : Vec Ideal S1x1024 .f32) (r : Fin 512) (s : Fin 1024) :
    k0_pay1 x0 x1 (ix2 r s) = E2 (Norm.row x0 r) (Norm.row x1 0) s := by
  simp only [k0_pay1, pointwise, Nat.reduceEqDiff, ↓reduceDIte]
  rfl

theorem out2_eq (x0 : Vec Ideal S512x1024 .f32) (x1 : Vec Ideal S1x1024 .f32) : out0_2 x0 x1 = k0_pay1 x0 x1 := by
  unfold out0_2
  rw [View.canon_unit_zero Mm.zero2]
  simp only [View.ld_unit_zero (S := S1x1024) Mm.zero2, View.ld_unit_zero (S := S512x1024) Mm.zero2]

/-! ## The blocks of the arguments -/

variable (m : (ℓ : Loc nD τ sig) → Buf (Elt Ideal) ℓ)

abbrev a0 (c : Dev nD) : Vec Ideal S4096x1024 .f32 := m (c.tc.loc main_arg0)
abbrev a1 (c : Dev nD) : Vec Ideal S1024 .f32 := m (c.tc.loc main_arg1)

theorem idx_facts : ∀ t : Fin grid0.N, win0_0.index t 0 = t.val ∧ win0_0.index t 1 = 0 ∧ win0_1.index t 0 = 0 ∧ win0_1.index t 1 = 0 ∧ win0_2.index t 0 = t.val ∧ win0_2.index t 1 = 0 := by decide +kernel

/-- Row `r` of the rows that grid point `t` works on. -/
def gr (t : Fin cfg0.N) (r : Fin 512) : Fin 4096 :=
  ⟨512 * t.val + r.val, by have := lt_of_lt_of_eq t.isLt (show cfg0.N = 8 from N_0); omega⟩

theorem blk0_at (c : Dev nD) (t : Fin cfg0.N) (r : Fin 512) :
    Norm.row (a := 512) (b := 1024) (iblk m c 0 t) r = Norm.row (a := 4096) (b := 1024) (a0 m c) (gr t r) := by
  obtain ⟨q00, q01, -⟩ := idx_facts t
  funext s
  unfold iblk Norm.row
  rw [View.read_apply]
  refine (congrFun (V_main_arg0 m c) _).trans (congrArg _ (Mm.idx2 (Mm.at' 512 r.val (512 * t.val + r.val) q00 (by omega)) (Mm.at' 1024 s.val s.val q01 (by omega))))

theorem V_main_v0 (c : Dev nD) (k : Fin 1024) : V m c main_v0 (ix2 0 k) = m (c.tc.loc main_arg1) (ix1 k) := by
  entry_read
  refine shapeCast_apply _ _ _ _ ?_
  show (S1024.rowMajor (ix1 k)).val = (S1x1024.rowMajor (ix2 0 k)).val
  rewrite [Shape.rowMajor_val_one, Shape.rowMajor_val_two]
  show k.val = 0 * 1024 + k.val
  omega

theorem blk1_at (c : Dev nD) (t : Fin cfg0.N) :
    Norm.row (a := 1) (b := 1024) (iblk m c 1 t) 0 = Norm.vec (b := 1024) (a1 m c) := by
  obtain ⟨-, -, q10, q11, -⟩ := idx_facts t
  funext s
  unfold iblk Norm.row Norm.vec
  rw [View.read_apply]
  show V m c main_v0 _ = _
  refine Eq.trans ?_ (V_main_v0 m c s)
  congr 1
  refine Mm.idx2 ?_ ?_
  · show win0_1.index t 0 * 1 + 1 * 0 = 0; rw [q10]
  · exact Mm.at' 1024 s.val s.val q11 (by omega)

/-! ## The results -/

theorem flushed2 (c : Dev nD) (t : Fin cfg0.N) :
    (dats m 0 c).flushed 2 t = ((cfg0.win 2).blk t).view.read (Elt Ideal) (G2 (a0 m c) (a1 m c)) := by
  obtain ⟨-, -, -, -, q20, q21⟩ := idx_facts t
  rw [Value.flushed2, out2_eq]
  funext y
  obtain ⟨r, s, rfl⟩ := Mm.ex2 512 1024 y
  rw [View.read_apply]
  refine (pay2_at _ _ r s).trans ?_
  have e : ((cfg0.win 2).blk t).view.emb (ix2 r s) = ix2 (gr t r) s := Mm.idx2
    (Mm.at' 512 r.val (512 * t.val + r.val) q20 (by omega))
    (Mm.at' 1024 s.val s.val q21 (by omega))
  rw [e, blk0_at m c t, blk1_at m c t]
  rfl

theorem final2 (c : Dev nD) : (dats m 0 c).arrAt 2 cfg0.N = G2 (a0 m c) (a1 m c) :=
  (dats m 0 c).arrAt_eq_of_cover 2 _ (fun t _ => flushed2 m c t) fun i => by
    have h1 : (i 0 : Nat) < 4096 := (i 0).isLt
    have h2 : (i 1 : Nat) < 1024 := (i 1).isLt
    have hN : cfg0.N = 8 := N_0
    obtain ⟨t, ht⟩ : ∃ t : Fin cfg0.N, t.val = (i 0 : Nat) / 512 := ⟨⟨(i 0 : Nat) / 512, by omega⟩, rfl⟩
    obtain ⟨-, -, -, -, q20, q21⟩ := idx_facts t
    exact ⟨t, flush0_2 t, Mm.memv (Mm.mem2 512 1024 q20 q21 (by omega) (by omega))⟩

/-- What every run ends with. -/
theorem run (ρ : Dev nD → PrngReg) : θ_run defs (onTc (τ := τ) (main (F := Ideal))) ⟨m, fun _ => 0, ρ⟩ fun r => ∀ c : Dev nD,
      r.2.mem (c.tc.loc main_v1) = G2 (a0 m c) (a1 m c) ∧ Mm.kept m r.2.mem c main_arg0 ∧ Mm.kept m r.2.mem c main_arg1 :=
  (θ_run defs _ _).mono (fun _ h c => ⟨((h c).1.trans (final2 m c)), (h c).2⟩) (Value.run_blocks m ρ)

end Cert.Kernel35Ideal.Nrm

namespace Cert.Reference35Ideal.Nrm

open Reference35Ideal Reference35Ideal.Read Idealize ShloMosaic ShloMosaic.TcCoe SL.Sem

/-! ## The reference's result, entry by entry -/

theorem i1 (r : Fin 4096) (k : Fin 1024) : idx_main_v1 (ix1 r) k = ix2 r k := Mm.idx2 rfl rfl
theorem i2 (r : Fin 4096) (s : Fin 1) : idx_main_v2 (ix2 r s) = ix1 r := ValueIdx.eq_ix1 _
theorem i8 (r : Fin 4096) (s : Fin 1024) : idx_main_v8 (ix2 r s) = ix2 r 0 := Mm.idx2 rfl rfl
theorem i10 (r : Fin 1) (s : Fin 1024) : idx_main_v10 (ix2 r s) = ix1 s := ValueIdx.eq_ix1 _
theorem i11 (r : Fin 4096) (s : Fin 1024) : idx_main_v11 (ix2 r s) = ix2 0 s := Mm.idx2 rfl rfl

theorem ref2 (x0 : Vec Ideal S4096x1024 .f32) (x1 : Vec Ideal S1024 .f32) :
    val_main_v13 (F := Ideal) x0 x1 = Kernel35Ideal.Nrm.G2 x0 x1 := by
  funext i
  obtain ⟨r, s, rfl⟩ := Mm.ex2 4096 1024 i
  simp only [val_main_v0_apply, val_main_cst_apply, val_main_v1_apply, val_main_v2_apply, val_main_cst_0_apply, val_main_v3_apply, val_main_v4_apply, val_main_cst_1_apply, val_main_v5_apply, val_main_v6_apply, val_main_v7_apply, val_main_v8_apply, val_main_v9_apply, val_main_v10_apply, val_main_v11_apply, val_main_v12_apply, val_main_v13_apply, i1, i2, i8, i10, i11, Ideal.mulf_def, Ideal.addf_def, Ideal.hostDivf_def, Ideal.hostUnary_rsqrt_def, Norm.zero_bits, zero_add]
  rfl

end Cert.Reference35Ideal.Nrm

namespace Cert.Proof.K35
open Idealize ShloMosaic SL.Sem

/-- The reference ends. -/
theorem frameRef : quiescent_Reference35Ideal := fun m ρ _ =>
  (θ_run Reference35Ideal.defs _ _).mono (fun r h => ⟨fun c => (h c).2, sem_eq_zero_of_no_sems (by decide) r.2⟩)
    (Reference35Ideal.Value.run m ρ)

/-- The call's results are the reference's. -/
theorem algebraic : algebraic_Kernel35Ideal_Reference35Ideal := by
  intro m ρ m' ρ' hpre hargs
  refine ⟨_, Kernel35Ideal.Nrm.run m ρ, (θ_run Reference35Ideal.defs _ _).mono (fun r h c => ?_)
    (Reference35Ideal.Value.run m' ρ')⟩
  obtain ⟨h0, hk⟩ := h c
  obtain ⟨e0, e1⟩ := hargs c
  refine ⟨?_, hk⟩
  · refine h0.trans ((Reference35Ideal.Read.val_main_v13_eq _ _).trans ?_)
    rw [e0, e1]
    exact Reference35Ideal.Nrm.ref2 _ _

end Cert.Proof.K35
-- ==== Proof.Norm.K36.lean ====
/-
  The normalisation of the memory.
-/
module

public import proofs.«01_k».proof.Proof.Gen.Kernel36.Frame
public import proofs.«01_k».proof.Proof.Gen.Kernel36Ideal.Value
public import proofs.«01_k».proof.Proof.Gen.Reference36Ideal.Read
public import proofs.«01_k».proof.Proof.Mm.Sum
public import proofs.«01_k».proof.Proof.Norm.Row

@[expose] public section

noncomputable section

namespace Cert.Kernel36Ideal.Nrm

open Kernel36Ideal Kernel36Ideal.Gen Idealize ShloMosaic ShloMosaic.TcCoe SL.Sem

/-- One row's result. -/
def E2 (v0 v1 : Fin 1024 → EReal) (s : Fin 1024) : EReal := Norm.fwd v0 v1 s

/-- The call's result. -/
def G2 (X0 : Vec Ideal S256x1024 .f32) (X1 : Vec Ideal S1024 .f32) : Vec Ideal S256x1024 .bf16 := fun i =>
  E2 (Norm.row X0 ⟨(i 0).val, (i 0).isLt⟩) (Norm.vec X1) ⟨(i 1).val, (i 1).isLt⟩

/-! ## One block -/

theorem pay2_at (x0 : Vec Ideal S256x1024 .f32) (x1 : Vec Ideal S1x1024 .f32) (r : Fin 256) (s : Fin 1024) :
    k0_pay1 x0 x1 (ix2 r s) = E2 (Norm.row x0 r) (Norm.row x1 0) s := by
  simp only [k0_pay1, pointwise, Nat.reduceEqDiff, ↓reduceDIte]
  rfl

theorem out2_eq (x0 : Vec Ideal S256x1024 .f32) (x1 : Vec Ideal S1x1024 .f32) : out0_2 x0 x1 = k0_pay1 x0 x1 := by
  unfold out0_2
  rw [View.canon_unit_zero Mm.zero2]
  simp only [View.ld_unit_zero (S := S1x1024) Mm.zero2, View.ld_unit_zero (S := S256x1024) Mm.zero2]

/-! ## The blocks of the arguments -/

variable (m : (ℓ : Loc nD τ sig) → Buf (Elt Ideal) ℓ)

abbrev a0 (c : Dev nD) : Vec Ideal S256x1024 .f32 := m (c.tc.loc main_arg0)
abbrev a1 (c : Dev nD) : Vec Ideal S1024 .f32 := m (c.tc.loc main_arg1)

theorem idx_facts : ∀ t : Fin grid0.N, win0_0.index t 0 = t.val ∧ win0_0.index t 1 = 0 ∧ win0_1.index t 0 = 0 ∧ win0_1.index t 1 = 0 ∧ win0_2.index t 0 = t.val ∧ win0_2.index t 1 = 0 := by decide +kernel

/-- Row `r` of the rows that grid point `t` works on. -/
def gr (t : Fin cfg0.N) (r : Fin 256) : Fin 256 :=
  ⟨256 * t.val + r.val, by have := lt_of_lt_of_eq t.isLt (show cfg0.N = 1 from N_0); omega⟩

theorem blk0_at (c : Dev nD) (t : Fin cfg0.N) (r : Fin 256) :
    Norm.row (a := 256) (b := 1024) (iblk m c 0 t) r = Norm.row (a := 256) (b := 1024) (a0 m c) (gr t r) := by
  obtain ⟨q00, q01, -⟩ := idx_facts t
  funext s
  unfold iblk Norm.row
  rw [View.read_apply]
  refine (congrFun (V_main_arg0 m c) _).trans (congrArg _ (Mm.idx2 (Mm.at' 256 r.val (256 * t.val + r.val) q00 (by omega)) (Mm.at' 1024 s.val s.val q01 (by omega))))

theorem V_main_v0 (c : Dev nD) (k : Fin 1024) : V m c main_v0 (ix2 0 k) = m (c.tc.loc main_arg1) (ix1 k) := by
  entry_read
  refine shapeCast_apply _ _ _ _ ?_
  show (S1024.rowMajor (ix1 k)).val = (S1x1024.rowMajor (ix2 0 k)).val
  rewrite [Shape.rowMajor_val_one, Shape.rowMajor_val_two]
  show k.val = 0 * 1024 + k.val
  omega

theorem blk1_at (c : Dev nD) (t : Fin cfg0.N) :
    Norm.row (a := 1) (b := 1024) (iblk m c 1 t) 0 = Norm.vec (b := 1024) (a1 m c) := by
  obtain ⟨-, -, q10, q11, -⟩ := idx_facts t
  funext s
  unfold iblk Norm.row Norm.vec
  rw [View.read_apply]
  show V m c main_v0 _ = _
  refine Eq.trans ?_ (V_main_v0 m c s)
  congr 1
  refine Mm.idx2 ?_ ?_
  · show win0_1.index t 0 * 1 + 1 * 0 = 0; rw [q10]
  · exact Mm.at' 1024 s.val s.val q11 (by omega)

/-! ## The results -/

theorem flushed2 (c : Dev nD) (t : Fin cfg0.N) :
    (dats m 0 c).flushed 2 t = ((cfg0.win 2).blk t).view.read (Elt Ideal) (G2 (a0 m c) (a1 m c)) := by
  obtain ⟨-, -, -, -, q20, q21⟩ := idx_facts t
  rw [Value.flushed2, out2_eq]
  funext y
  obtain ⟨r, s, rfl⟩ := Mm.ex2 256 1024 y
  rw [View.read_apply]
  refine (pay2_at _ _ r s).trans ?_
  have e : ((cfg0.win 2).blk t).view.emb (ix2 r s) = ix2 (gr t r) s := Mm.idx2
    (Mm.at' 256 r.val (256 * t.val + r.val) q20 (by omega))
    (Mm.at' 1024 s.val s.val q21 (by omega))
  rw [e, blk0_at m c t, blk1_at m c t]
  rfl

theorem final2 (c : Dev nD) : (dats m 0 c).arrAt 2 cfg0.N = G2 (a0 m c) (a1 m c) :=
  (dats m 0 c).arrAt_eq_of_cover 2 _ (fun t _ => flushed2 m c t) fun i => by
    have h1 : (i 0 : Nat) < 256 := (i 0).isLt
    have h2 : (i 1 : Nat) < 1024 := (i 1).isLt
    have hN : cfg0.N = 1 := N_0
    obtain ⟨t, ht⟩ : ∃ t : Fin cfg0.N, t.val = (i 0 : Nat) / 256 := ⟨⟨(i 0 : Nat) / 256, by omega⟩, rfl⟩
    obtain ⟨-, -, -, -, q20, q21⟩ := idx_facts t
    exact ⟨t, flush0_2 t, Mm.memv (Mm.mem2 256 1024 q20 q21 (by omega) (by omega))⟩

/-- What every run ends with. -/
theorem run (ρ : Dev nD → PrngReg) : θ_run defs (onTc (τ := τ) (main (F := Ideal))) ⟨m, fun _ => 0, ρ⟩ fun r => ∀ c : Dev nD,
      r.2.mem (c.tc.loc main_v1) = G2 (a0 m c) (a1 m c) ∧ Mm.kept m r.2.mem c main_arg0 ∧ Mm.kept m r.2.mem c main_arg1 :=
  (θ_run defs _ _).mono (fun _ h c => ⟨((h c).1.trans (final2 m c)), (h c).2⟩) (Value.run_blocks m ρ)

end Cert.Kernel36Ideal.Nrm

namespace Cert.Reference36Ideal.Nrm

open Reference36Ideal Reference36Ideal.Read Idealize ShloMosaic ShloMosaic.TcCoe SL.Sem

/-! ## The reference's result, entry by entry -/

theorem i1 (r : Fin 256) (k : Fin 1024) : idx_main_v1 (ix1 r) k = ix2 r k := Mm.idx2 rfl rfl
theorem i2 (r : Fin 256) (s : Fin 1) : idx_main_v2 (ix2 r s) = ix1 r := ValueIdx.eq_ix1 _
theorem i8 (r : Fin 256) (s : Fin 1024) : idx_main_v8 (ix2 r s) = ix2 r 0 := Mm.idx2 rfl rfl
theorem i10 (r : Fin 1) (s : Fin 1024) : idx_main_v10 (ix2 r s) = ix1 s := ValueIdx.eq_ix1 _
theorem i11 (r : Fin 256) (s : Fin 1024) : idx_main_v11 (ix2 r s) = ix2 0 s := Mm.idx2 rfl rfl

theorem ref2 (x0 : Vec Ideal S256x1024 .f32) (x1 : Vec Ideal S1024 .f32) :
    val_main_v13 (F := Ideal) x0 x1 = Kernel36Ideal.Nrm.G2 x0 x1 := by
  funext i
  obtain ⟨r, s, rfl⟩ := Mm.ex2 256 1024 i
  simp only [val_main_v0_apply, val_main_cst_apply, val_main_v1_apply, val_main_v2_apply, val_main_cst_0_apply, val_main_v3_apply, val_main_v4_apply, val_main_cst_1_apply, val_main_v5_apply, val_main_v6_apply, val_main_v7_apply, val_main_v8_apply, val_main_v9_apply, val_main_v10_apply, val_main_v11_apply, val_main_v12_apply, val_main_v13_apply, i1, i2, i8, i10, i11, Ideal.mulf_def, Ideal.addf_def, Ideal.hostDivf_def, Ideal.hostUnary_rsqrt_def, Norm.zero_bits, zero_add]
  rfl

end Cert.Reference36Ideal.Nrm

namespace Cert.Proof.K36
open Idealize ShloMosaic SL.Sem

/-- The reference ends. -/
theorem frameRef : quiescent_Reference36Ideal := fun m ρ _ =>
  (θ_run Reference36Ideal.defs _ _).mono (fun r h => ⟨fun c => (h c).2, sem_eq_zero_of_no_sems (by decide) r.2⟩)
    (Reference36Ideal.Value.run m ρ)

/-- The call's results are the reference's. -/
theorem algebraic : algebraic_Kernel36Ideal_Reference36Ideal := by
  intro m ρ m' ρ' hpre hargs
  refine ⟨_, Kernel36Ideal.Nrm.run m ρ, (θ_run Reference36Ideal.defs _ _).mono (fun r h c => ?_)
    (Reference36Ideal.Value.run m' ρ')⟩
  obtain ⟨h0, hk⟩ := h c
  obtain ⟨e0, e1⟩ := hargs c
  refine ⟨?_, hk⟩
  · refine h0.trans ((Reference36Ideal.Read.val_main_v13_eq _ _).trans ?_)
    rw [e0, e1]
    exact Reference36Ideal.Nrm.ref2 _ _

end Cert.Proof.K36
-- ==== Proof.Norm.K37.lean ====
/-
  The boundary between two layers, forward: the residual branch is normalised and added, and the sum normalised for the next layer.
-/
module

public import proofs.«01_k».proof.Proof.Gen.Kernel37.Frame
public import proofs.«01_k».proof.Proof.Gen.Kernel37Ideal.Value
public import proofs.«01_k».proof.Proof.Gen.Reference37Ideal.Read
public import proofs.«01_k».proof.Proof.Mm.Sum
public import proofs.«01_k».proof.Proof.Norm.Row

@[expose] public section

noncomputable section

namespace Cert.Kernel37Ideal.Nrm

open Kernel37Ideal Kernel37Ideal.Gen Idealize ShloMosaic ShloMosaic.TcCoe SL.Sem

/-- One row of the residual stream. -/
def E4 (v0 v1 v2 v3 : Fin 1024 → EReal) (s : Fin 1024) : EReal := v0 s + Norm.fwd v1 v2 s

/-- The residual stream. -/
def G4 (X0 : Vec Ideal S4096x1024 .f32) (X1 : Vec Ideal S4096x1024 .bf16) (X2 X3 : Vec Ideal S1024 .f32) : Vec Ideal S4096x1024 .f32 := fun i =>
  E4 (Norm.row X0 ⟨(i 0).val, (i 0).isLt⟩) (Norm.row X1 ⟨(i 0).val, (i 0).isLt⟩) (Norm.vec X2) (Norm.vec X3) ⟨(i 1).val, (i 1).isLt⟩

/-- One row of the next layer's input. -/
def E5 (v0 v1 v2 v3 : Fin 1024 → EReal) (s : Fin 1024) : EReal := Norm.fwd (E4 v0 v1 v2 v3) v3 s

/-- The next layer's input. -/
def G5 (X0 : Vec Ideal S4096x1024 .f32) (X1 : Vec Ideal S4096x1024 .bf16) (X2 X3 : Vec Ideal S1024 .f32) : Vec Ideal S4096x1024 .bf16 := fun i =>
  E5 (Norm.row X0 ⟨(i 0).val, (i 0).isLt⟩) (Norm.row X1 ⟨(i 0).val, (i 0).isLt⟩) (Norm.vec X2) (Norm.vec X3) ⟨(i 1).val, (i 1).isLt⟩

/-! ## One block -/

theorem pay4_at (x0 : Vec Ideal S512x1024 .f32) (x1 : Vec Ideal S512x1024 .bf16) (x2 x3 : Vec Ideal S1x1024 .f32) (r : Fin 512) (s : Fin 1024) :
    k0_pay1 x1 x0 x2 (ix2 r s) = E4 (Norm.row x0 r) (Norm.row x1 r) (Norm.row x2 0) (Norm.row x3 0) s := by
  simp only [k0_pay1, pointwise, Nat.reduceEqDiff, ↓reduceDIte]
  rfl

theorem pay5_at (x0 : Vec Ideal S512x1024 .f32) (x1 : Vec Ideal S512x1024 .bf16) (x2 x3 : Vec Ideal S1x1024 .f32) (r : Fin 512) (s : Fin 1024) :
    k0_pay2 x1 x0 x2 x3 (ix2 r s) = E5 (Norm.row x0 r) (Norm.row x1 r) (Norm.row x2 0) (Norm.row x3 0) s := by
  simp only [k0_pay2, pointwise, Nat.reduceEqDiff, ↓reduceDIte]
  simp only [pay4_at x0 x1 x2 x3]
  rfl

theorem out4_eq (x0 : Vec Ideal S512x1024 .f32) (x1 : Vec Ideal S512x1024 .bf16) (x2 x3 : Vec Ideal S1x1024 .f32) : out0_4 x0 x1 x2 x3 = k0_pay1 x1 x0 x2 := by
  unfold out0_4
  rw [View.canon_unit_zero Mm.zero2]
  simp only [View.ld_unit_zero (S := S1x1024) Mm.zero2, View.ld_unit_zero (S := S512x1024) Mm.zero2]

theorem out5_eq (x0 : Vec Ideal S512x1024 .f32) (x1 : Vec Ideal S512x1024 .bf16) (x2 x3 : Vec Ideal S1x1024 .f32) : out0_5 x0 x1 x2 x3 = k0_pay2 x1 x0 x2 x3 := by
  unfold out0_5
  rw [View.canon_unit_zero Mm.zero2]
  simp only [View.ld_unit_zero (S := S1x1024) Mm.zero2, View.ld_unit_zero (S := S512x1024) Mm.zero2]

/-! ## The blocks of the arguments -/

variable (m : (ℓ : Loc nD τ sig) → Buf (Elt Ideal) ℓ)

abbrev a0 (c : Dev nD) : Vec Ideal S4096x1024 .f32 := m (c.tc.loc main_arg0)
abbrev a1 (c : Dev nD) : Vec Ideal S4096x1024 .bf16 := m (c.tc.loc main_arg1)
abbrev a2 (c : Dev nD) : Vec Ideal S1024 .f32 := m (c.tc.loc main_arg2)
abbrev a3 (c : Dev nD) : Vec Ideal S1024 .f32 := m (c.tc.loc main_arg3)

theorem idx_facts : ∀ t : Fin grid0.N, win0_0.index t 0 = t.val ∧ win0_0.index t 1 = 0 ∧ win0_1.index t 0 = t.val ∧ win0_1.index t 1 = 0 ∧ win0_2.index t 0 = 0 ∧ win0_2.index t 1 = 0 ∧ win0_3.index t 0 = 0 ∧ win0_3.index t 1 = 0 ∧ win0_4.index t 0 = t.val ∧ win0_4.index t 1 = 0 ∧ win0_5.index t 0 = t.val ∧ win0_5.index t 1 = 0 := by decide +kernel

/-- Row `r` of the rows that grid point `t` works on. -/
def gr (t : Fin cfg0.N) (r : Fin 512) : Fin 4096 :=
  ⟨512 * t.val + r.val, by have := lt_of_lt_of_eq t.isLt (show cfg0.N = 8 from N_0); omega⟩

theorem blk0_at (c : Dev nD) (t : Fin cfg0.N) (r : Fin 512) :
    Norm.row (a := 512) (b := 1024) (iblk m c 0 t) r = Norm.row (a := 4096) (b := 1024) (a0 m c) (gr t r) := by
  obtain ⟨q00, q01, -⟩ := idx_facts t
  funext s
  unfold iblk Norm.row
  rw [View.read_apply]
  refine (congrFun (V_main_arg0 m c) _).trans (congrArg _ (Mm.idx2 (Mm.at' 512 r.val (512 * t.val + r.val) q00 (by omega)) (Mm.at' 1024 s.val s.val q01 (by omega))))

theorem blk1_at (c : Dev nD) (t : Fin cfg0.N) (r : Fin 512) :
    Norm.row (a := 512) (b := 1024) (iblk m c 1 t) r = Norm.row (a := 4096) (b := 1024) (a1 m c) (gr t r) := by
  obtain ⟨-, -, q10, q11, -⟩ := idx_facts t
  funext s
  unfold iblk Norm.row
  rw [View.read_apply]
  refine (congrFun (V_main_arg1 m c) _).trans (congrArg _ (Mm.idx2 (Mm.at' 512 r.val (512 * t.val + r.val) q10 (by omega)) (Mm.at' 1024 s.val s.val q11 (by omega))))

theorem V_main_v0 (c : Dev nD) (k : Fin 1024) : V m c main_v0 (ix2 0 k) = m (c.tc.loc main_arg2) (ix1 k) := by
  entry_read
  refine shapeCast_apply _ _ _ _ ?_
  show (S1024.rowMajor (ix1 k)).val = (S1x1024.rowMajor (ix2 0 k)).val
  rewrite [Shape.rowMajor_val_one, Shape.rowMajor_val_two]
  show k.val = 0 * 1024 + k.val
  omega

theorem blk2_at (c : Dev nD) (t : Fin cfg0.N) :
    Norm.row (a := 1) (b := 1024) (iblk m c 2 t) 0 = Norm.vec (b := 1024) (a2 m c) := by
  obtain ⟨-, -, -, -, q20, q21, -⟩ := idx_facts t
  funext s
  unfold iblk Norm.row Norm.vec
  rw [View.read_apply]
  show V m c main_v0 _ = _
  refine Eq.trans ?_ (V_main_v0 m c s)
  congr 1
  refine Mm.idx2 ?_ ?_
  · show win0_2.index t 0 * 1 + 1 * 0 = 0; rw [q20]
  · exact Mm.at' 1024 s.val s.val q21 (by omega)

theorem V_main_v1 (c : Dev nD) (k : Fin 1024) : V m c main_v1 (ix2 0 k) = m (c.tc.loc main_arg3) (ix1 k) := by
  entry_read
  refine shapeCast_apply _ _ _ _ ?_
  show (S1024.rowMajor (ix1 k)).val = (S1x1024.rowMajor (ix2 0 k)).val
  rewrite [Shape.rowMajor_val_one, Shape.rowMajor_val_two]
  show k.val = 0 * 1024 + k.val
  omega

theorem blk3_at (c : Dev nD) (t : Fin cfg0.N) :
    Norm.row (a := 1) (b := 1024) (iblk m c 3 t) 0 = Norm.vec (b := 1024) (a3 m c) := by
  obtain ⟨-, -, -, -, -, -, q30, q31, -⟩ := idx_facts t
  funext s
  unfold iblk Norm.row Norm.vec
  rw [View.read_apply]
  show V m c main_v1 _ = _
  refine Eq.trans ?_ (V_main_v1 m c s)
  congr 1
  refine Mm.idx2 ?_ ?_
  · show win0_3.index t 0 * 1 + 1 * 0 = 0; rw [q30]
  · exact Mm.at' 1024 s.val s.val q31 (by omega)

/-! ## The results -/

theorem flushed4 (c : Dev nD) (t : Fin cfg0.N) :
    (dats m 0 c).flushed 4 t = ((cfg0.win 4).blk t).view.read (Elt Ideal) (G4 (a0 m c) (a1 m c) (a2 m c) (a3 m c)) := by
  obtain ⟨-, -, -, -, -, -, -, -, q40, q41, -⟩ := idx_facts t
  rw [Value.flushed4, out4_eq]
  funext y
  obtain ⟨r, s, rfl⟩ := Mm.ex2 512 1024 y
  rw [View.read_apply]
  refine (pay4_at (iblk m c 0 t) (iblk m c 1 t) (iblk m c 2 t) (iblk m c 3 t) r s).trans ?_
  have e : ((cfg0.win 4).blk t).view.emb (ix2 r s) = ix2 (gr t r) s := Mm.idx2
    (Mm.at' 512 r.val (512 * t.val + r.val) q40 (by omega))
    (Mm.at' 1024 s.val s.val q41 (by omega))
  rw [e, blk0_at m c t, blk1_at m c t, blk2_at m c t, blk3_at m c t]
  rfl

theorem final4 (c : Dev nD) : (dats m 0 c).arrAt 4 cfg0.N = G4 (a0 m c) (a1 m c) (a2 m c) (a3 m c) :=
  (dats m 0 c).arrAt_eq_of_cover 4 _ (fun t _ => flushed4 m c t) fun i => by
    have h1 : (i 0 : Nat) < 4096 := (i 0).isLt
    have h2 : (i 1 : Nat) < 1024 := (i 1).isLt
    have hN : cfg0.N = 8 := N_0
    obtain ⟨t, ht⟩ : ∃ t : Fin cfg0.N, t.val = (i 0 : Nat) / 512 := ⟨⟨(i 0 : Nat) / 512, by omega⟩, rfl⟩
    obtain ⟨-, -, -, -, -, -, -, -, q40, q41, -⟩ := idx_facts t
    exact ⟨t, flush0_4 t, Mm.memv (Mm.mem2 512 1024 q40 q41 (by omega) (by omega))⟩

theorem flushed5 (c : Dev nD) (t : Fin cfg0.N) :
    (dats m 0 c).flushed 5 t = ((cfg0.win 5).blk t).view.read (Elt Ideal) (G5 (a0 m c) (a1 m c) (a2 m c) (a3 m c)) := by
  obtain ⟨-, -, -, -, -, -, -, -, -, -, q50, q51⟩ := idx_facts t
  rw [Value.flushed5, out5_eq]
  funext y
  obtain ⟨r, s, rfl⟩ := Mm.ex2 512 1024 y
  rw [View.read_apply]
  refine (pay5_at (iblk m c 0 t) (iblk m c 1 t) (iblk m c 2 t) (iblk m c 3 t) r s).trans ?_
  have e : ((cfg0.win 5).blk t).view.emb (ix2 r s) = ix2 (gr t r) s := Mm.idx2
    (Mm.at' 512 r.val (512 * t.val + r.val) q50 (by omega))
    (Mm.at' 1024 s.val s.val q51 (by omega))
  rw [e, blk0_at m c t, blk1_at m c t, blk2_at m c t, blk3_at m c t]
  rfl

theorem final5 (c : Dev nD) : (dats m 0 c).arrAt 5 cfg0.N = G5 (a0 m c) (a1 m c) (a2 m c) (a3 m c) :=
  (dats m 0 c).arrAt_eq_of_cover 5 _ (fun t _ => flushed5 m c t) fun i => by
    have h1 : (i 0 : Nat) < 4096 := (i 0).isLt
    have h2 : (i 1 : Nat) < 1024 := (i 1).isLt
    have hN : cfg0.N = 8 := N_0
    obtain ⟨t, ht⟩ : ∃ t : Fin cfg0.N, t.val = (i 0 : Nat) / 512 := ⟨⟨(i 0 : Nat) / 512, by omega⟩, rfl⟩
    obtain ⟨-, -, -, -, -, -, -, -, -, -, q50, q51⟩ := idx_facts t
    exact ⟨t, flush0_5 t, Mm.memv (Mm.mem2 512 1024 q50 q51 (by omega) (by omega))⟩

/-- What every run ends with. -/
theorem run (ρ : Dev nD → PrngReg) : θ_run defs (onTc (τ := τ) (main (F := Ideal))) ⟨m, fun _ => 0, ρ⟩ fun r => ∀ c : Dev nD,
      r.2.mem (c.tc.loc main_v2_0) = G4 (a0 m c) (a1 m c) (a2 m c) (a3 m c)
      ∧ r.2.mem (c.tc.loc main_v2_1) = G5 (a0 m c) (a1 m c) (a2 m c) (a3 m c) ∧ Mm.kept m r.2.mem c main_arg0 ∧ Mm.kept m r.2.mem c main_arg1 ∧ Mm.kept m r.2.mem c main_arg2 ∧ Mm.kept m r.2.mem c main_arg3 :=
  (θ_run defs _ _).mono (fun _ h c => ⟨((h c).1.trans (final4 m c)), ((h c).2.1.trans (final5 m c)), (h c).2.2⟩) (Value.run_blocks m ρ)

end Cert.Kernel37Ideal.Nrm

namespace Cert.Reference37Ideal.Nrm

open Reference37Ideal Reference37Ideal.Read Idealize ShloMosaic ShloMosaic.TcCoe SL.Sem

/-! ## The reference's result, entry by entry -/

theorem i2 (r : Fin 4096) (k : Fin 1024) : idx_main_v2 (ix1 r) k = ix2 r k := Mm.idx2 rfl rfl
theorem i3 (r : Fin 4096) (s : Fin 1) : idx_main_v3 (ix2 r s) = ix1 r := ValueIdx.eq_ix1 _
theorem i9 (r : Fin 4096) (s : Fin 1024) : idx_main_v9 (ix2 r s) = ix2 r 0 := Mm.idx2 rfl rfl
theorem i11 (r : Fin 1) (s : Fin 1024) : idx_main_v11 (ix2 r s) = ix1 s := ValueIdx.eq_ix1 _
theorem i12 (r : Fin 4096) (s : Fin 1024) : idx_main_v12 (ix2 r s) = ix2 0 s := Mm.idx2 rfl rfl
theorem i16 (r : Fin 4096) (k : Fin 1024) : idx_main_v16 (ix1 r) k = ix2 r k := Mm.idx2 rfl rfl
theorem i17 (r : Fin 4096) (s : Fin 1) : idx_main_v17 (ix2 r s) = ix1 r := ValueIdx.eq_ix1 _
theorem i23 (r : Fin 4096) (s : Fin 1024) : idx_main_v23 (ix2 r s) = ix2 r 0 := Mm.idx2 rfl rfl
theorem i25 (r : Fin 1) (s : Fin 1024) : idx_main_v25 (ix2 r s) = ix1 s := ValueIdx.eq_ix1 _
theorem i26 (r : Fin 4096) (s : Fin 1024) : idx_main_v26 (ix2 r s) = ix2 0 s := Mm.idx2 rfl rfl

theorem ref4 (x0 : Vec Ideal S4096x1024 .f32) (x1 : Vec Ideal S4096x1024 .bf16) (x2 x3 : Vec Ideal S1024 .f32) :
    val_main_v14 (F := Ideal) x0 x1 x2 = Kernel37Ideal.Nrm.G4 x0 x1 x2 x3 := by
  funext i
  obtain ⟨r, s, rfl⟩ := Mm.ex2 4096 1024 i
  simp only [val_main_v0_apply, val_main_v1_apply, val_main_cst_apply, val_main_v2_apply, val_main_v3_apply, val_main_cst_0_apply, val_main_v4_apply, val_main_v5_apply, val_main_cst_1_apply, val_main_v6_apply, val_main_v7_apply, val_main_v8_apply, val_main_v9_apply, val_main_v10_apply, val_main_v11_apply, val_main_v12_apply, val_main_v13_apply, val_main_v14_apply, i2, i3, i9, i11, i12, Ideal.mulf_def, Ideal.addf_def, Ideal.hostDivf_def, Ideal.hostUnary_rsqrt_def, Norm.zero_bits, zero_add, Fin.sum_univ_one]
  rfl

theorem ref5 (x0 : Vec Ideal S4096x1024 .f32) (x1 : Vec Ideal S4096x1024 .bf16) (x2 x3 : Vec Ideal S1024 .f32) :
    val_main_v28 (F := Ideal) x0 x1 x2 x3 = Kernel37Ideal.Nrm.G5 x0 x1 x2 x3 := by
  funext i
  obtain ⟨r, s, rfl⟩ := Mm.ex2 4096 1024 i
  simp only [val_main_v0_apply, val_main_v1_apply, val_main_cst_apply, val_main_v2_apply, val_main_v3_apply, val_main_cst_0_apply, val_main_v4_apply, val_main_v5_apply, val_main_cst_1_apply, val_main_v6_apply, val_main_v7_apply, val_main_v8_apply, val_main_v9_apply, val_main_v10_apply, val_main_v11_apply, val_main_v12_apply, val_main_v13_apply, val_main_v14_apply, val_main_v15_apply, val_main_cst_2_apply, val_main_v16_apply, val_main_v17_apply, val_main_cst_3_apply, val_main_v18_apply, val_main_v19_apply, val_main_cst_4_apply, val_main_v20_apply, val_main_v21_apply, val_main_v22_apply, val_main_v23_apply, val_main_v24_apply, val_main_v25_apply, val_main_v26_apply, val_main_v27_apply, val_main_v28_apply, i2, i3, i9, i11, i12, i16, i17, i23, i25, i26, Ideal.mulf_def, Ideal.addf_def, Ideal.hostDivf_def, Ideal.hostUnary_rsqrt_def, Norm.zero_bits, zero_add, Fin.sum_univ_one]
  rfl

end Cert.Reference37Ideal.Nrm

namespace Cert.Proof.K37
open Idealize ShloMosaic SL.Sem

/-- The reference ends. -/
theorem frameRef : quiescent_Reference37Ideal := fun m ρ _ =>
  (θ_run Reference37Ideal.defs _ _).mono (fun r h => ⟨fun c => (h c).2.2, sem_eq_zero_of_no_sems (by decide) r.2⟩)
    (Reference37Ideal.Value.run m ρ)

/-- The call's results are the reference's. -/
theorem algebraic : algebraic_Kernel37Ideal_Reference37Ideal := by
  intro m ρ m' ρ' hpre hargs
  refine ⟨_, _, Kernel37Ideal.Nrm.run m ρ, (θ_run Reference37Ideal.defs _ _).mono (fun r h c => ?_)
    (Reference37Ideal.Value.run m' ρ')⟩
  obtain ⟨h0, h1, hk⟩ := h c
  obtain ⟨e0, e1, e2, e3⟩ := hargs c
  refine ⟨?_, ?_, hk⟩
  · refine h0.trans ((Reference37Ideal.Read.val_main_v14_eq _ _ _).trans ?_)
    rw [e0, e1, e2]
    exact Reference37Ideal.Nrm.ref4 _ _ _ (m ((c.tc : Thread Kernel37Ideal.nD Kernel37Ideal.τ).loc Kernel37Ideal.main_arg3))
  · refine h1.trans ((Reference37Ideal.Read.val_main_v28_eq _ _ _ _).trans ?_)
    rw [e0, e1, e2, e3]
    exact Reference37Ideal.Nrm.ref5 _ _ _ _

end Cert.Proof.K37
-- ==== Proof.Norm.K38.lean ====
/-
  The end of the forward pass: the last residual branch, the loss, and the gradient of the loss.
-/
module

public import proofs.«01_k».proof.Proof.Gen.Kernel38.Frame
public import proofs.«01_k».proof.Proof.Gen.Kernel38Ideal.Value
public import proofs.«01_k».proof.Proof.Gen.Reference38Ideal.Read
public import proofs.«01_k».proof.Proof.Mm.Sum
public import proofs.«01_k».proof.Proof.Norm.Row

@[expose] public section

noncomputable section

namespace Cert.Kernel38Ideal.Nrm

open Kernel38Ideal Kernel38Ideal.Gen Idealize ShloMosaic ShloMosaic.TcCoe SL.Sem

/-- What the output misses in one row. -/
def E (v0 v1 v2 v3 : Fin 1024 → EReal) (s : Fin 1024) : EReal := v0 s + Norm.fwd v1 v2 s - v3 s

/-- The same, of row `l` of the arguments. -/
def EX (X0 : Vec Ideal S4096x1024 .f32) (X1 : Vec Ideal S4096x1024 .bf16) (X2 : Vec Ideal S1024 .f32) (X3 : Vec Ideal S4096x1024 .f32) (l : Fin 4096) (s : Fin 1024) : EReal :=
  E (Norm.row X0 l) (Norm.row X1 l) (Norm.vec X2) (Norm.row X3 l) s

/-- The gradient of the loss. -/
def G4 (X0 : Vec Ideal S4096x1024 .f32) (X1 : Vec Ideal S4096x1024 .bf16) (X2 : Vec Ideal S1024 .f32) (X3 : Vec Ideal S4096x1024 .f32) : Vec Ideal S4096x1024 .f32 := fun i =>
  EX X0 X1 X2 X3 ⟨(i 0).val, (i 0).isLt⟩ ⟨(i 1).val, (i 1).isLt⟩ * Ideal.ofBits .f32 0x3A800000#32

/-- The loss. -/
def G5 (X0 : Vec Ideal S4096x1024 .f32) (X1 : Vec Ideal S4096x1024 .bf16) (X2 : Vec Ideal S1024 .f32) (X3 : Vec Ideal S4096x1024 .f32) : Vec Ideal S1x128 .f32 := fun _ =>
  Ideal.ofBits .f32 0x3A000000#32 * ∑ s : Fin 1024, ∑ l : Fin 4096, EX X0 X1 X2 X3 l s * EX X0 X1 X2 X3 l s

/-! ## One block -/

theorem pay3_at (x0 : Vec Ideal S512x1024 .f32) (x1 : Vec Ideal S512x1024 .bf16) (x2 : Vec Ideal S1x1024 .f32) (x3 : Vec Ideal S512x1024 .f32) (r : Fin 512) (s : Fin 1024) :
    k0_pay3 x1 x0 x2 x3 (ix2 r s) = E (Norm.row x0 r) (Norm.row x1 r) (Norm.row x2 0) (Norm.row x3 r) s := by
  simp only [k0_pay3, pointwise, Nat.reduceEqDiff, ↓reduceDIte]
  rfl

theorem pay4_at (x0 : Vec Ideal S512x1024 .f32) (x1 : Vec Ideal S512x1024 .bf16) (x2 : Vec Ideal S1x1024 .f32) (x3 : Vec Ideal S512x1024 .f32) (r : Fin 512) (s : Fin 1024) :
    k0_pay4 x1 x0 x2 x3 (ix2 r s) = E (Norm.row x0 r) (Norm.row x1 r) (Norm.row x2 0) (Norm.row x3 r) s * Ideal.ofBits .f32 0x3A800000#32 := by
  rw [← pay3_at x0 x1 x2 x3]
  simp only [k0_pay4, pointwise, Nat.reduceEqDiff, ↓reduceDIte]

theorem pay5_at (x0 : Vec Ideal S512x1024 .f32) (x1 : Vec Ideal S512x1024 .bf16) (x2 : Vec Ideal S1x1024 .f32) (x3 : Vec Ideal S512x1024 .f32) (acc : Vec Ideal S1x1024 .f32) (s : Fin 1024) :
    k0_pay5 x1 x0 x2 x3 acc (ix2 0 s) = acc (ix2 0 s) + ∑ r : Fin 512, E (Norm.row x0 r) (Norm.row x1 r) (Norm.row x2 0) (Norm.row x3 r) s * E (Norm.row x0 r) (Norm.row x1 r) (Norm.row x2 0) (Norm.row x3 r) s := by
  simp only [← pay3_at x0 x1 x2 x3]
  simp only [k0_pay5, pointwise, Nat.reduceEqDiff, ↓reduceDIte]

theorem pay1_at (acc : Vec Ideal S1x1024 .f32) (q : Fin 128) :
    k0_pay1 acc (ix2 0 q) = Ideal.ofBits .f32 0x3A000000#32 * ∑ s : Fin 1024, acc (ix2 0 s) := by
  simp only [k0_pay1, pointwise, Nat.reduceEqDiff, ↓reduceDIte, Fin.sum_univ_one]

section
variable (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x128 .f32) (harg6 : arg6.IsWhole) (arg7 : Memref sig .tc .vmem S1x1024 .f32) (harg7 : arg7.IsWhole)
  (x0 : Vec Ideal S512x1024 .f32) (x1 : Vec Ideal S512x1024 .bf16) (x2 : Vec Ideal S1x1024 .f32) (x3 : Vec Ideal S512x1024 .f32) (xs : Vec Ideal S1x1024 .f32)

theorem out_A_4 (hc0 : cond0_0 i) (hc1 : ¬cond0_1 i) :
    out0_A_4 c i arg1 harg1 arg2 harg2 arg3 harg3 arg4 harg4 arg5 harg5 arg6 harg6 arg7 harg7 hc0 hc1 x0 x1 x2 x3 = k0_pay4 x1 x0 x2 x3 := by
  unfold out0_A_4
  rw [View.read_writes_eq_canon _ _ _ (fun _ => cover0_A_4 ..)]
  unfold kernelRun0_A
  dsimp only
  sl_unfold_words
  rw [View.canon_unit_zero Mm.zero2]
  simp only [View.readAt_eq_ld, Memref.IsWhole.read_unread, View.ld_unit_zero (S := S1x1024) Mm.zero2, View.ld_unit_zero (S := S512x1024) Mm.zero2]

theorem out_B_4 (hc0 : ¬cond0_0 i) (hc1 : ¬cond0_1 i) :
    out0_B_4 c i arg1 harg1 arg2 harg2 arg3 harg3 arg4 harg4 arg5 harg5 arg6 harg6 arg7 harg7 hc0 hc1 x0 x1 x2 x3 xs = k0_pay4 x1 x0 x2 x3 := by
  unfold out0_B_4
  rw [View.read_writes_eq_canon _ _ _ (fun _ => cover0_B_4 ..)]
  unfold kernelRun0_B
  dsimp only
  sl_unfold_words
  rw [View.canon_unit_zero Mm.zero2]
  simp only [View.readAt_eq_ld, Memref.IsWhole.read_unread, View.ld_unit_zero (S := S1x1024) Mm.zero2, View.ld_unit_zero (S := S512x1024) Mm.zero2]

theorem out_C_4 (hc0 : ¬cond0_0 i) (hc1 : cond0_1 i) :
    out0_C_4 c i arg1 harg1 arg2 harg2 arg3 harg3 arg4 harg4 arg5 harg5 arg6 harg6 arg7 harg7 hc0 hc1 x0 x1 x2 x3 xs = k0_pay4 x1 x0 x2 x3 := by
  unfold out0_C_4
  rw [View.read_writes_eq_canon _ _ _ (fun _ => cover0_C_4 ..)]
  unfold kernelRun0_C
  dsimp only
  sl_unfold_words
  rw [View.canon_unit_zero Mm.zero2]
  simp only [View.readAt_eq_ld, Memref.IsWhole.read_unread, View.ld_unit_zero (S := S1x1024) Mm.zero2, View.ld_unit_zero (S := S512x1024) Mm.zero2]

theorem sout_A (hc0 : cond0_0 i) (hc1 : ¬cond0_1 i) :
    sout0_A_0 c i arg1 harg1 arg2 harg2 arg3 harg3 arg4 harg4 arg5 harg5 arg6 harg6 arg7 harg7 hc0 hc1 x0 x1 x2 x3 = k0_pay5 x1 x0 x2 x3 (k0_pay2 (F := Ideal)) := by
  unfold sout0_A_0
  rw [View.read_writes_eq_canon _ _ _ (fun _ => scover0_A_0 ..)]
  unfold kernelRun0_A
  dsimp only
  sl_unfold_words
  rw [View.canon_cons_unit_zero (S := S1x1024) Mm.zero2, View.readCov_unit_zero (S := S1x1024) _ Mm.zero2]
  simp only [View.readAt_eq_ld, Memref.IsWhole.read_unread, View.ld_unit_zero (S := S1x1024) Mm.zero2, View.ld_unit_zero (S := S512x1024) Mm.zero2]

theorem sout_B (hc0 : ¬cond0_0 i) (hc1 : ¬cond0_1 i) :
    sout0_B_0 c i arg1 harg1 arg2 harg2 arg3 harg3 arg4 harg4 arg5 harg5 arg6 harg6 arg7 harg7 hc0 hc1 x0 x1 x2 x3 xs = k0_pay5 x1 x0 x2 x3 xs := by
  unfold sout0_B_0
  rw [View.read_writes_eq_canon _ _ _ (fun _ => scover0_B_0 ..)]
  unfold kernelRun0_B
  dsimp only
  sl_unfold_words
  rw [View.canon_unit_zero Mm.zero2]
  simp only [View.readAt_eq_ld, Memref.IsWhole.read_unread, View.ld_unit_zero (S := S1x1024) Mm.zero2, View.ld_unit_zero (S := S512x1024) Mm.zero2]

theorem out_C_5 (hc0 : ¬cond0_0 i) (hc1 : cond0_1 i) :
    out0_C_5 c i arg1 harg1 arg2 harg2 arg3 harg3 arg4 harg4 arg5 harg5 arg6 harg6 arg7 harg7 hc0 hc1 x0 x1 x2 x3 xs = k0_pay1 (k0_pay5 x1 x0 x2 x3 xs) := by
  unfold out0_C_5
  rw [View.read_writes_eq_canon _ _ _ (fun _ => cover0_C_5 ..)]
  unfold kernelRun0_C
  dsimp only
  sl_unfold_words
  rw [View.canon_unit_zero Mm.zero2, View.readCov_unit_zero (S := S1x1024) _ Mm.zero2]
  simp only [View.readAt_eq_ld, Memref.IsWhole.read_unread, View.ld_unit_zero (S := S1x1024) Mm.zero2, View.ld_unit_zero (S := S512x1024) Mm.zero2]

end

/-! ## The blocks of the arguments -/

variable (m : (ℓ : Loc nD τ sig) → Buf (Elt Ideal) ℓ)

abbrev a0 (c : Dev nD) : Vec Ideal S4096x1024 .f32 := m (c.tc.loc main_arg0)
abbrev a1 (c : Dev nD) : Vec Ideal S4096x1024 .bf16 := m (c.tc.loc main_arg1)
abbrev a2 (c : Dev nD) : Vec Ideal S1024 .f32 := m (c.tc.loc main_arg2)
abbrev a3 (c : Dev nD) : Vec Ideal S4096x1024 .f32 := m (c.tc.loc main_arg3)

theorem idx_facts : ∀ t : Fin grid0.N, win0_0.index t 0 = t.val ∧ win0_0.index t 1 = 0 ∧ win0_1.index t 0 = t.val ∧ win0_1.index t 1 = 0 ∧ win0_2.index t 0 = 0 ∧ win0_2.index t 1 = 0 ∧ win0_3.index t 0 = t.val ∧ win0_3.index t 1 = 0 ∧ win0_4.index t 0 = t.val ∧ win0_4.index t 1 = 0 ∧ win0_5.index t 0 = 0 ∧ win0_5.index t 1 = 0 := by decide +kernel

/-- Row `r` of the rows that grid point `t` works on. -/
def gr (t : Fin cfg0.N) (r : Fin 512) : Fin 4096 :=
  ⟨512 * t.val + r.val, by have := lt_of_lt_of_eq t.isLt (show cfg0.N = 8 from N_0); omega⟩

theorem blk0_at (c : Dev nD) (t : Fin cfg0.N) (r : Fin 512) :
    Norm.row (a := 512) (b := 1024) (iblk m c 0 t) r = Norm.row (a := 4096) (b := 1024) (a0 m c) (gr t r) := by
  obtain ⟨q00, q01, -⟩ := idx_facts t
  funext s
  unfold iblk Norm.row
  rw [View.read_apply]
  refine (congrFun (V_main_arg0 m c) _).trans (congrArg _ (Mm.idx2 (Mm.at' 512 r.val (512 * t.val + r.val) q00 (by omega)) (Mm.at' 1024 s.val s.val q01 (by omega))))

theorem blk1_at (c : Dev nD) (t : Fin cfg0.N) (r : Fin 512) :
    Norm.row (a := 512) (b := 1024) (iblk m c 1 t) r = Norm.row (a := 4096) (b := 1024) (a1 m c) (gr t r) := by
  obtain ⟨-, -, q10, q11, -⟩ := idx_facts t
  funext s
  unfold iblk Norm.row
  rw [View.read_apply]
  refine (congrFun (V_main_arg1 m c) _).trans (congrArg _ (Mm.idx2 (Mm.at' 512 r.val (512 * t.val + r.val) q10 (by omega)) (Mm.at' 1024 s.val s.val q11 (by omega))))

theorem blk3_at (c : Dev nD) (t : Fin cfg0.N) (r : Fin 512) :
    Norm.row (a := 512) (b := 1024) (iblk m c 3 t) r = Norm.row (a := 4096) (b := 1024) (a3 m c) (gr t r) := by
  obtain ⟨-, -, q30, q31, -, -, q30, q31, -⟩ := idx_facts t
  funext s
  unfold iblk Norm.row
  rw [View.read_apply]
  refine (congrFun (V_main_arg3 m c) _).trans (congrArg _ (Mm.idx2 (Mm.at' 512 r.val (512 * t.val + r.val) q30 (by omega)) (Mm.at' 1024 s.val s.val q31 (by omega))))

theorem V_main_v0 (c : Dev nD) (k : Fin 1024) : V m c main_v0 (ix2 0 k) = m (c.tc.loc main_arg2) (ix1 k) := by
  entry_read
  refine shapeCast_apply _ _ _ _ ?_
  show (S1024.rowMajor (ix1 k)).val = (S1x1024.rowMajor (ix2 0 k)).val
  rewrite [Shape.rowMajor_val_one, Shape.rowMajor_val_two]
  show k.val = 0 * 1024 + k.val
  omega

theorem blk2_at (c : Dev nD) (t : Fin cfg0.N) :
    Norm.row (a := 1) (b := 1024) (iblk m c 2 t) 0 = Norm.vec (b := 1024) (a2 m c) := by
  obtain ⟨-, -, -, -, q20, q21, -⟩ := idx_facts t
  funext s
  unfold iblk Norm.row Norm.vec
  rw [View.read_apply]
  show V m c main_v0 _ = _
  refine Eq.trans ?_ (V_main_v0 m c s)
  congr 1
  refine Mm.idx2 ?_ ?_
  · show win0_2.index t 0 * 1 + 1 * 0 = 0; rw [q20]
  · exact Mm.at' 1024 s.val s.val q21 (by omega)

/-! ## The results -/

theorem outs4 (c : Dev nD) (t : Fin cfg0.N) : (outsAt0 m c t.val t.isLt).1 = k0_pay4 (iblk m c 1 t) (iblk m c 0 t) (iblk m c 2 t) (iblk m c 3 t) := by
  by_cases h : t.val % 8 = 0
  · rw [outsAt0_A m c t h (by omega)]
    dsimp only
    rw [out_A_4]
  · by_cases h7 : t.val % 8 = 7
    · rw [outsAt0_C m c t h h7]
      dsimp only
      rw [out_C_4]
    · rw [outsAt0_B m c t h h7]
      dsimp only
      rw [out_B_4]

theorem flushed4 (c : Dev nD) (t : Fin cfg0.N) :
    (dats m 0 c).flushed 4 t = ((cfg0.win 4).blk t).view.read (Elt Ideal) (G4 (a0 m c) (a1 m c) (a2 m c) (a3 m c)) := by
  obtain ⟨-, -, -, -, -, -, -, -, q40, q41, -⟩ := idx_facts t
  rw [Value.flushed4, outs4]
  funext y
  obtain ⟨r, s, rfl⟩ := Mm.ex2 512 1024 y
  rw [View.read_apply]
  refine (pay4_at (iblk m c 0 t) (iblk m c 1 t) (iblk m c 2 t) (iblk m c 3 t) r s).trans ?_
  have e : ((cfg0.win 4).blk t).view.emb (ix2 r s) = ix2 (gr t r) s := Mm.idx2
    (Mm.at' 512 r.val (512 * t.val + r.val) q40 (by omega))
    (Mm.at' 1024 s.val s.val q41 (by omega))
  rw [e, blk0_at m c t, blk1_at m c t, blk2_at m c t, blk3_at m c t]
  rfl

theorem final4 (c : Dev nD) : (dats m 0 c).arrAt 4 cfg0.N = G4 (a0 m c) (a1 m c) (a2 m c) (a3 m c) :=
  (dats m 0 c).arrAt_eq_of_cover 4 _ (fun t _ => flushed4 m c t) fun i => by
    have h1 : (i 0 : Nat) < 4096 := (i 0).isLt
    have h2 : (i 1 : Nat) < 1024 := (i 1).isLt
    have hN : cfg0.N = 8 := N_0
    obtain ⟨t, ht⟩ : ∃ t : Fin cfg0.N, t.val = (i 0 : Nat) / 512 := ⟨⟨(i 0 : Nat) / 512, by omega⟩, rfl⟩
    obtain ⟨-, -, -, -, -, -, -, -, q40, q41, -⟩ := idx_facts t
    exact ⟨t, flush0_4 t, Mm.memv (Mm.mem2 512 1024 q40 q41 (by omega) (by omega))⟩

/-- What row `l` adds to the sum of column `s`. -/
def term (c : Dev nD) (s : Fin 1024) (l : Fin 4096) : EReal := EX (a0 m c) (a1 m c) (a2 m c) (a3 m c) l s * EX (a0 m c) (a1 m c) (a2 m c) (a3 m c) l s

theorem step (c : Dev nD) (t : Fin cfg0.N) (acc : Vec Ideal S1x1024 .f32) (s : Fin 1024) (e : EReal) (ha : acc (ix2 0 s) = e) :
    k0_pay5 (iblk m c 1 t) (iblk m c 0 t) (iblk m c 2 t) (iblk m c 3 t) acc (ix2 0 s) = e + Norm.blk (term m c s) t.val := by
  rw [pay5_at, ha]
  simp only [blk0_at m c t]
  simp only [blk1_at m c t]
  simp only [blk3_at m c t]
  rw [blk2_at m c t]
  refine congrArg (e + ·) (Norm.blk_eq _ _ (lt_of_lt_of_eq t.isLt (show cfg0.N = 8 from N_0)) _ fun r => ?_)
  rfl

theorem scr (c : Dev nD) (s : Fin 1024) : ∀ (k : ℕ) (h : k < cfg0.N), k < 7 →
    (outsAt0 m c k h).2.2 (ix2 0 s) = Norm.part (term m c s) (k + 1)
  | 0, h, _ => by
    rw [outsAt0_A m c ⟨0, h⟩ rfl (by dsimp only; omega)]
    dsimp only
    rw [sout_A]
    refine (step m c ⟨0, h⟩ _ s 0 Ideal.ofBits_zero_f32).trans ?_
    rw [zero_add, Norm.part_one]
  | k + 1, h, hk => by
    rw [outsAt0_B m c ⟨k + 1, h⟩ (by dsimp only; omega) (by dsimp only; omega)]
    dsimp only
    rw [sout_B]
    refine (step m c ⟨k + 1, h⟩ _ s _ (scr c s k _ (by omega))).trans ?_
    rw [← Norm.part_succ]

theorem flushed5 (c : Dev nD) (t : Fin cfg0.N) (hf : (cfg0.win 5).flush t = true) :
    (dats m 0 c).flushed 5 t = ((cfg0.win 5).blk t).view.read (Elt Ideal) (G5 (a0 m c) (a1 m c) (a2 m c) (a3 m c)) := by
  have h7 : t.val = 7 := by
    have := (flush0_5 t).mp hf
    have := lt_of_lt_of_eq t.isLt (show cfg0.N = 8 from N_0)
    omega
  rw [Value.flushed5, outsAt0_C m c t (by omega) (by omega)]
  dsimp only
  rw [out_C_5]
  funext y
  obtain ⟨r, q, rfl⟩ : ∃ (r : Fin 1) (q : Fin 128), y = ix2 r q := ⟨y 0, y 1, ValueIdx.eq_ix2 y⟩
  obtain rfl : r = 0 := Subsingleton.elim _ _
  rw [View.read_apply]
  refine (pay1_at _ q).trans ?_
  refine congrArg (Ideal.ofBits .f32 0x3A000000#32 * ·) (Finset.sum_congr rfl fun s _ => ?_)
  rw [step m c t _ s _ (scr m c s (t.val - 1) _ (by omega)), h7]
  rw [← Norm.part_succ, Norm.part_all]
  rfl

theorem final5 (c : Dev nD) : (dats m 0 c).arrAt 5 cfg0.N = G5 (a0 m c) (a1 m c) (a2 m c) (a3 m c) :=
  (dats m 0 c).arrAt_eq_of_cover 5 _ (flushed5 m c) fun i => by
    have h1 : (i 0 : Nat) < 1 := (i 0).isLt
    have h2 : (i 1 : Nat) < 128 := (i 1).isLt
    have hN : cfg0.N = 8 := N_0
    obtain ⟨t, ht⟩ : ∃ t : Fin cfg0.N, t.val = 7 := ⟨⟨7, by omega⟩, rfl⟩
    obtain ⟨-, -, -, -, -, -, -, -, -, -, q50, q51⟩ := idx_facts t
    refine ⟨t, (flush0_5 t).mpr (by omega), ?_⟩
    show i ∈ ((View.whole main_v1_1).slice (win0_5.rect t)).set
    rw [View.set_slice_whole]
    exact Mm.mem2 1 128 q50 q51 (by omega) (by omega)

/-- What every run ends with. -/
theorem run (ρ : Dev nD → PrngReg) : θ_run defs (onTc (τ := τ) (main (F := Ideal))) ⟨m, fun _ => 0, ρ⟩ fun r => ∀ c : Dev nD,
      r.2.mem (c.tc.loc main_v1_0) = G4 (a0 m c) (a1 m c) (a2 m c) (a3 m c)
      ∧ r.2.mem (c.tc.loc main_v1_1) = G5 (a0 m c) (a1 m c) (a2 m c) (a3 m c) ∧ Mm.kept m r.2.mem c main_arg0 ∧ Mm.kept m r.2.mem c main_arg1 ∧ Mm.kept m r.2.mem c main_arg2 ∧ Mm.kept m r.2.mem c main_arg3 :=
  (θ_run defs _ _).mono (fun _ h c => ⟨((h c).1.trans (final4 m c)), ((h c).2.1.trans (final5 m c)), (h c).2.2⟩) (Value.run_blocks m ρ)

end Cert.Kernel38Ideal.Nrm

namespace Cert.Reference38Ideal.Nrm

open Reference38Ideal Reference38Ideal.Read Idealize ShloMosaic ShloMosaic.TcCoe SL.Sem

/-! ## The reference's result, entry by entry -/

theorem i2 (r : Fin 4096) (k : Fin 1024) : idx_main_v2 (ix1 r) k = ix2 r k := Mm.idx2 rfl rfl
theorem i3 (r : Fin 4096) (s : Fin 1) : idx_main_v3 (ix2 r s) = ix1 r := ValueIdx.eq_ix1 _
theorem i9 (r : Fin 4096) (s : Fin 1024) : idx_main_v9 (ix2 r s) = ix2 r 0 := Mm.idx2 rfl rfl
theorem i11 (r : Fin 1) (s : Fin 1024) : idx_main_v11 (ix2 r s) = ix1 s := ValueIdx.eq_ix1 _
theorem i12 (r : Fin 4096) (s : Fin 1024) : idx_main_v12 (ix2 r s) = ix2 0 s := Mm.idx2 rfl rfl
theorem i19 (r : Fin 4096) (k : Fin 1024) : idx_main_v19 (ix1 r) k = ix2 r k := Mm.idx2 rfl rfl
theorem i28 (r : Fin 4096) (s : Fin 1024) : idx_main_v28 (ix2 r s) = ix1 r := ValueIdx.eq_ix1 _

theorem one_half : Ideal.ofBits .f32 0x3F000000#32 = ((1 / 2 : ℝ) : EReal) := by
  simp [Ideal.ofBits, Ideal.ieee]
  norm_num [← EReal.coe_mul]

theorem two_coe : Ideal.ofBits .f32 0x40000000#32 = ((2 : ℝ) : EReal) := by
  simp [Ideal.ofBits, Ideal.ieee]
  norm_num [← EReal.coe_mul]

theorem n10_coe : Ideal.ofBits .f32 0x3A800000#32 = ((1 / 1024 : ℝ) : EReal) := by
  simp [Ideal.ofBits, Ideal.ieee]
  norm_num [← EReal.coe_mul]

theorem n11_coe : Ideal.ofBits .f32 0x3A000000#32 = ((1 / 2048 : ℝ) : EReal) := by
  simp [Ideal.ofBits, Ideal.ieee]
  norm_num [← EReal.coe_mul]

/-- What the output misses, as the reference computes it. -/
theorem miss (X0 : Vec Ideal S4096x1024 .f32) (X1 : Vec Ideal S4096x1024 .bf16) (X2 : Vec Ideal S1024 .f32) (X3 : Vec Ideal S4096x1024 .f32) (r : Fin 4096) (s : Fin 1024) :
    val_main_v15 (F := Ideal) X0 X1 X2 X3 (ix2 r s) = Kernel38Ideal.Nrm.EX X0 X1 X2 X3 r s := by
  simp only [val_main_v0_apply, val_main_v1_apply, val_main_cst_apply, val_main_v2_apply, val_main_v3_apply, val_main_cst_0_apply, val_main_v4_apply, val_main_v5_apply, val_main_cst_1_apply, val_main_v6_apply, val_main_v7_apply, val_main_v8_apply, val_main_v9_apply, val_main_v10_apply, val_main_v11_apply, val_main_v12_apply, val_main_v13_apply, val_main_v14_apply, val_main_v15_apply, i2, i3, i9, i11, i12, Norm.zero_bits, zero_add, pointwise]
  rfl

theorem ref4 (X0 : Vec Ideal S4096x1024 .f32) (X1 : Vec Ideal S4096x1024 .bf16) (X2 : Vec Ideal S1024 .f32) (X3 : Vec Ideal S4096x1024 .f32) :
    val_main_v29 (F := Ideal) X0 X1 X2 X3 = Kernel38Ideal.Nrm.G4 X0 X1 X2 X3 := by
  funext i
  obtain ⟨r, s, rfl⟩ := Mm.ex2 4096 1024 i
  simp only [val_main_cst_2_apply, val_main_v17_apply, val_main_v18_apply, val_main_cst_7_apply, val_main_cst_8_apply, val_main_v24_apply, val_main_v25_apply, val_main_cst_9_apply, val_main_v26_apply, val_main_v27_apply, val_main_v28_apply, val_main_v29_apply, miss, pointwise]
  rw [show ∀ x : EReal, Ideal.div x (Ideal.ofBits .f32 1149239296#32) = x * ((1 / 1024 : ℝ) : EReal) from Norm.div_len]
  unfold Kernel38Ideal.Nrm.G4
  rw [one_half, two_coe, n10_coe, mul_one, ← EReal.coe_mul, ← mul_assoc, ← EReal.coe_mul, mul_comm]
  refine congrArg (fun x : ℝ => _ * (x : EReal)) ?_
  norm_num

theorem ref5 (X0 : Vec Ideal S4096x1024 .f32) (X1 : Vec Ideal S4096x1024 .bf16) (X2 : Vec Ideal S1024 .f32) (X3 : Vec Ideal S4096x1024 .f32) :
    val_main_v30 (F := Ideal) X0 X1 X2 X3 = Kernel38Ideal.Nrm.G5 X0 X1 X2 X3 := by
  funext i
  obtain ⟨r, s, rfl⟩ := Mm.ex2 1 128 i
  simp only [val_main_v16_apply, val_main_cst_3_apply, val_main_v19_apply, val_main_cst_4_apply, val_main_v20_apply, val_main_v21_apply, val_main_cst_5_apply, val_main_v22_apply, val_main_cst_6_apply, val_main_v23_apply, val_main_v30_apply, i19, i28, miss, Norm.zero_bits, zero_add, pointwise]
  unfold Kernel38Ideal.Nrm.G5
  have e : ∀ l k, idx_main_v19 (ix1 l) k = ix2 l k := fun l k => Mm.idx2 rfl rfl
  rw [← (Fintype.sum_bijective (fun l : Fin 4096 => (ix1 l : S4096.Idx)) ⟨fun _ _ h => congrFun h 0, fun j => ⟨j 0, (ValueIdx.eq_ix1 j).symm⟩⟩ _ _ fun _ => rfl)]
  simp only [e, miss]
  have h : ∀ x : EReal, Ideal.div x (Ideal.ofBits .f32 1149239296#32) = x * ((1 / 1024 : ℝ) : EReal) := Norm.div_len
  simp only [h]
  rw [Norm.sum_mul_nonneg _ _ _ (by norm_num), Finset.sum_comm, one_half, n11_coe, mul_comm, mul_assoc, ← EReal.coe_mul, mul_comm]
  refine congrArg (fun r : ℝ => (r : EReal) * _) ?_
  norm_num

end Cert.Reference38Ideal.Nrm

namespace Cert.Proof.K38
open Idealize ShloMosaic SL.Sem

/-- The reference ends. -/
theorem frameRef : quiescent_Reference38Ideal := fun m ρ _ =>
  (θ_run Reference38Ideal.defs _ _).mono (fun r h => ⟨fun c => (h c).2.2, sem_eq_zero_of_no_sems (by decide) r.2⟩)
    (Reference38Ideal.Value.run m ρ)

/-- The call's results are the reference's. -/
theorem algebraic : algebraic_Kernel38Ideal_Reference38Ideal := by
  intro m ρ m' ρ' hpre hargs
  refine ⟨_, _, Kernel38Ideal.Nrm.run m ρ, (θ_run Reference38Ideal.defs _ _).mono (fun r h c => ?_)
    (Reference38Ideal.Value.run m' ρ')⟩
  obtain ⟨h0, h1, hk⟩ := h c
  obtain ⟨e0, e1, e2, e3⟩ := hargs c
  refine ⟨?_, ?_, hk⟩
  · refine h0.trans ((Reference38Ideal.Read.val_main_v29_eq _ _ _ _).trans ?_)
    rw [e0, e1, e2, e3]
    exact Reference38Ideal.Nrm.ref4 _ _ _ _
  · refine h1.trans ((Reference38Ideal.Read.val_main_v30_eq _ _ _ _).trans ?_)
    rw [e0, e1, e2, e3]
    exact Reference38Ideal.Nrm.ref5 _ _ _ _

end Cert.Proof.K38
-- ==== Proof.Norm.K39.lean ====
/-
  The gradient of the last residual branch's normalisation.
-/
module

public import proofs.«01_k».proof.Proof.Gen.Kernel39.Frame
public import proofs.«01_k».proof.Proof.Gen.Kernel39Ideal.Value
public import proofs.«01_k».proof.Proof.Gen.Reference39Ideal.Read
public import proofs.«01_k».proof.Proof.Mm.Sum
public import proofs.«01_k».proof.Proof.Norm.Row

@[expose] public section

noncomputable section

namespace Cert.Kernel39Ideal.Nrm

open Kernel39Ideal Kernel39Ideal.Gen Idealize ShloMosaic ShloMosaic.TcCoe SL.Sem

/-- The gradient of one row. -/
def E3 (v0 v1 v2 : Fin 1024 → EReal) (s : Fin 1024) : EReal := Norm.bwd v1 (fun k => v0 k * v2 k) s

/-- The gradient of the branch. -/
def G3 (X0 : Vec Ideal S4096x1024 .f32) (X1 : Vec Ideal S4096x1024 .bf16) (X2 : Vec Ideal S1024 .f32) : Vec Ideal S4096x1024 .bf16 := fun i =>
  E3 (Norm.row X0 ⟨(i 0).val, (i 0).isLt⟩) (Norm.row X1 ⟨(i 0).val, (i 0).isLt⟩) (Norm.vec X2) ⟨(i 1).val, (i 1).isLt⟩

/-- What one row adds to the gradient of the scale. -/
def E4 (v0 v1 v2 : Fin 1024 → EReal) (s : Fin 1024) : EReal := v0 s * (v1 s * Norm.inv v1)

/-- The gradient of the scale. -/
def G4 (X0 : Vec Ideal S4096x1024 .f32) (X1 : Vec Ideal S4096x1024 .bf16) (X2 : Vec Ideal S1024 .f32) : Vec Ideal S1x1024 .f32 := fun i =>
  ∑ l : Fin 4096, E4 (Norm.row X0 l) (Norm.row X1 l) (Norm.vec X2) ⟨(i 1).val, (i 1).isLt⟩

/-! ## One block -/

theorem pay3_at (x0 : Vec Ideal S512x1024 .f32) (x1 : Vec Ideal S512x1024 .bf16) (x2 : Vec Ideal S1x1024 .f32) (r : Fin 512) (s : Fin 1024) :
    k0_pay4 x0 x1 x2 (ix2 r s) = E3 (Norm.row x0 r) (Norm.row x1 r) (Norm.row x2 0) s := by
  simp only [k0_pay4, k0_pay3, k0_pay2, k0_pay1, pointwise, Nat.reduceEqDiff, ↓reduceDIte]
  rfl

theorem pay4_at (acc : Vec Ideal S1x1024 .f32) (x0 : Vec Ideal S512x1024 .f32) (x1 : Vec Ideal S512x1024 .bf16) (x2 : Vec Ideal S1x1024 .f32) (s : Fin 1024) :
    k0_pay6 x0 x1 acc (ix2 0 s) = acc (ix2 0 s) + ∑ r : Fin 512, E4 (Norm.row x0 r) (Norm.row x1 r) (Norm.row x2 0) s := by
  simp only [k0_pay6, k0_pay3, k0_pay2, k0_pay1, pointwise, Nat.reduceEqDiff, ↓reduceDIte]
  rfl

section
variable (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1x1024 .f32) (harg3 : arg3.IsWhole) (arg4 : Memref sig .tc .vmem S512x1024 .bf16) (harg4 : arg4.IsWhole) (arg5 : Memref sig .tc .vmem S1x1024 .f32) (harg5 : arg5.IsWhole) (x0 : Vec Ideal S512x1024 .f32) (x1 : Vec Ideal S512x1024 .bf16) (x2 xo4 : Vec Ideal S1x1024 .f32)

theorem out_A_3 (hc0 : cond0_0 i) :
    out0_A_3 c i arg1 harg1 arg2 harg2 arg3 harg3 arg4 harg4 arg5 harg5 hc0 x0 x1 x2 = k0_pay4 x0 x1 x2 := by
  unfold out0_A_3
  rw [View.read_writes_eq_canon _ _ _ (fun _ => cover0_A_3 ..)]
  unfold kernelRun0_A
  dsimp only
  sl_unfold_words
  rw [View.canon_unit_zero Mm.zero2]
  simp only [View.readAt_eq_ld, Memref.IsWhole.read_unread, View.ld_unit_zero (S := S1x1024) Mm.zero2, View.ld_unit_zero (S := S512x1024) Mm.zero2]

theorem out_A_4 (hc0 : cond0_0 i) :
    out0_A_4 c i arg1 harg1 arg2 harg2 arg3 harg3 arg4 harg4 arg5 harg5 hc0 x0 x1 x2 = k0_pay6 x0 x1 (k0_pay5 (F := Ideal)) := by
  unfold out0_A_4
  rw [View.read_writes_eq_canon _ _ _ (fun _ => cover0_A_4 ..)]
  unfold kernelRun0_A
  dsimp only
  sl_unfold_words
  rw [View.canon_cons_unit_zero (S := S1x1024) Mm.zero2, View.readCov_unit_zero (S := S1x1024) _ Mm.zero2]
  simp only [View.readAt_eq_ld, Memref.IsWhole.read_unread, View.ld_unit_zero (S := S1x1024) Mm.zero2, View.ld_unit_zero (S := S512x1024) Mm.zero2]

theorem out_B_3 (hc0 : ¬cond0_0 i) :
    out0_B_3 c i arg1 harg1 arg2 harg2 arg3 harg3 arg4 harg4 arg5 harg5 hc0 x0 x1 x2 xo4 = k0_pay4 x0 x1 x2 := by
  unfold out0_B_3
  rw [View.read_writes_eq_canon _ _ _ (fun _ => cover0_B_3 ..)]
  unfold kernelRun0_B
  dsimp only
  sl_unfold_words
  rw [View.canon_unit_zero Mm.zero2]
  simp only [View.readAt_eq_ld, Memref.IsWhole.read_unread, View.ld_unit_zero (S := S1x1024) Mm.zero2, View.ld_unit_zero (S := S512x1024) Mm.zero2]

theorem out_B_4 (hc0 : ¬cond0_0 i) :
    out0_B_4 c i arg1 harg1 arg2 harg2 arg3 harg3 arg4 harg4 arg5 harg5 hc0 x0 x1 x2 xo4 = k0_pay6 x0 x1 xo4 := by
  unfold out0_B_4
  rw [View.read_writes_eq_canon _ _ _ (fun _ => cover0_B_4 ..)]
  unfold kernelRun0_B
  dsimp only
  sl_unfold_words
  rw [View.canon_unit_zero Mm.zero2]
  simp only [View.readAt_eq_ld, Memref.IsWhole.read_unread, View.ld_unit_zero (S := S1x1024) Mm.zero2, View.ld_unit_zero (S := S512x1024) Mm.zero2]

end

/-! ## The blocks of the arguments -/

variable (m : (ℓ : Loc nD τ sig) → Buf (Elt Ideal) ℓ)

abbrev a0 (c : Dev nD) : Vec Ideal S4096x1024 .f32 := m (c.tc.loc main_arg0)
abbrev a1 (c : Dev nD) : Vec Ideal S4096x1024 .bf16 := m (c.tc.loc main_arg1)
abbrev a2 (c : Dev nD) : Vec Ideal S1024 .f32 := m (c.tc.loc main_arg2)

theorem idx_facts : ∀ t : Fin grid0.N, win0_0.index t 0 = t.val ∧ win0_0.index t 1 = 0 ∧ win0_1.index t 0 = t.val ∧ win0_1.index t 1 = 0 ∧ win0_2.index t 0 = 0 ∧ win0_2.index t 1 = 0 ∧ win0_3.index t 0 = t.val ∧ win0_3.index t 1 = 0 ∧ win0_4.index t 0 = 0 ∧ win0_4.index t 1 = 0 := by decide +kernel

/-- Row `r` of the rows that grid point `t` works on. -/
def gr (t : Fin cfg0.N) (r : Fin 512) : Fin 4096 :=
  ⟨512 * t.val + r.val, by have := lt_of_lt_of_eq t.isLt (show cfg0.N = 8 from N_0); omega⟩

theorem blk0_at (c : Dev nD) (t : Fin cfg0.N) (r : Fin 512) :
    Norm.row (a := 512) (b := 1024) (iblk m c 0 t) r = Norm.row (a := 4096) (b := 1024) (a0 m c) (gr t r) := by
  obtain ⟨q00, q01, -⟩ := idx_facts t
  funext s
  unfold iblk Norm.row
  rw [View.read_apply]
  refine (congrFun (V_main_arg0 m c) _).trans (congrArg _ (Mm.idx2 (Mm.at' 512 r.val (512 * t.val + r.val) q00 (by omega)) (Mm.at' 1024 s.val s.val q01 (by omega))))

theorem blk1_at (c : Dev nD) (t : Fin cfg0.N) (r : Fin 512) :
    Norm.row (a := 512) (b := 1024) (iblk m c 1 t) r = Norm.row (a := 4096) (b := 1024) (a1 m c) (gr t r) := by
  obtain ⟨-, -, q10, q11, -⟩ := idx_facts t
  funext s
  unfold iblk Norm.row
  rw [View.read_apply]
  refine (congrFun (V_main_arg1 m c) _).trans (congrArg _ (Mm.idx2 (Mm.at' 512 r.val (512 * t.val + r.val) q10 (by omega)) (Mm.at' 1024 s.val s.val q11 (by omega))))

theorem V_main_v0 (c : Dev nD) (k : Fin 1024) : V m c main_v0 (ix2 0 k) = m (c.tc.loc main_arg2) (ix1 k) := by
  entry_read
  refine shapeCast_apply _ _ _ _ ?_
  show (S1024.rowMajor (ix1 k)).val = (S1x1024.rowMajor (ix2 0 k)).val
  rewrite [Shape.rowMajor_val_one, Shape.rowMajor_val_two]
  show k.val = 0 * 1024 + k.val
  omega

theorem blk2_at (c : Dev nD) (t : Fin cfg0.N) :
    Norm.row (a := 1) (b := 1024) (iblk m c 2 t) 0 = Norm.vec (b := 1024) (a2 m c) := by
  obtain ⟨-, -, -, -, q20, q21, -⟩ := idx_facts t
  funext s
  unfold iblk Norm.row Norm.vec
  rw [View.read_apply]
  show V m c main_v0 _ = _
  refine Eq.trans ?_ (V_main_v0 m c s)
  congr 1
  refine Mm.idx2 ?_ ?_
  · show win0_2.index t 0 * 1 + 1 * 0 = 0; rw [q20]
  · exact Mm.at' 1024 s.val s.val q21 (by omega)

/-! ## The results -/

theorem outs3 (c : Dev nD) (t : Fin cfg0.N) : (outsAt0 m c t.val t.isLt).1 = k0_pay4 (iblk m c 0 t) (iblk m c 1 t) (iblk m c 2 t) := by
  by_cases h : t.val % 8 = 0
  · rw [outsAt0_A m c t h]
    dsimp only
    rw [out_A_3]
  · rw [outsAt0_B m c t h]
    dsimp only
    rw [out_B_3]

theorem flushed3 (c : Dev nD) (t : Fin cfg0.N) :
    (dats m 0 c).flushed 3 t = ((cfg0.win 3).blk t).view.read (Elt Ideal) (G3 (a0 m c) (a1 m c) (a2 m c)) := by
  obtain ⟨-, -, -, -, -, -, q30, q31, -⟩ := idx_facts t
  rw [Value.flushed3, outs3]
  funext y
  obtain ⟨r, s, rfl⟩ := Mm.ex2 512 1024 y
  rw [View.read_apply]
  refine (pay3_at _ _ _ r s).trans ?_
  have e : ((cfg0.win 3).blk t).view.emb (ix2 r s) = ix2 (gr t r) s := Mm.idx2
    (Mm.at' 512 r.val (512 * t.val + r.val) q30 (by omega))
    (Mm.at' 1024 s.val s.val q31 (by omega))
  rw [e, blk0_at m c t, blk1_at m c t, blk2_at m c t]
  rfl

theorem final3 (c : Dev nD) : (dats m 0 c).arrAt 3 cfg0.N = G3 (a0 m c) (a1 m c) (a2 m c) :=
  (dats m 0 c).arrAt_eq_of_cover 3 _ (fun t _ => flushed3 m c t) fun i => by
    have h1 : (i 0 : Nat) < 4096 := (i 0).isLt
    have h2 : (i 1 : Nat) < 1024 := (i 1).isLt
    have hN : cfg0.N = 8 := N_0
    obtain ⟨t, ht⟩ : ∃ t : Fin cfg0.N, t.val = (i 0 : Nat) / 512 := ⟨⟨(i 0 : Nat) / 512, by omega⟩, rfl⟩
    obtain ⟨-, -, -, -, -, -, q30, q31, -⟩ := idx_facts t
    exact ⟨t, flush0_3 t, Mm.memv (Mm.mem2 512 1024 q30 q31 (by omega) (by omega))⟩

/-- What row `l` adds. -/
def term4 (c : Dev nD) (s : Fin 1024) (l : Fin 4096) : EReal := E4 (Norm.row (a := 4096) (b := 1024) (a0 m c) l) (Norm.row (a := 4096) (b := 1024) (a1 m c) l) (Norm.vec (b := 1024) (a2 m c)) s

theorem step4 (c : Dev nD) (t : Fin cfg0.N) (acc : Vec Ideal S1x1024 .f32) (s : Fin 1024) (e : EReal) (ha : acc (ix2 0 s) = e) :
    k0_pay6 (iblk m c 0 t) (iblk m c 1 t) acc (ix2 0 s) = e + Norm.blk (term4 m c s) t.val := by
  rw [pay4_at, ha]
  simp only [blk0_at m c t]
  simp only [blk1_at m c t]
  rw [blk2_at m c t]
  refine congrArg (e + ·) (Norm.blk_eq _ _ (lt_of_lt_of_eq t.isLt (show cfg0.N = 8 from N_0)) _ fun r => ?_)
  rfl

theorem outs4 (c : Dev nD) (s : Fin 1024) : ∀ (k : ℕ) (h : k < cfg0.N),
    (outsAt0 m c k h).2 (ix2 0 s) = Norm.part (term4 m c s) (k + 1)
  | 0, h => by
    rw [outsAt0_A m c ⟨0, h⟩ rfl]
    dsimp only
    rw [out_A_4]
    refine (step4 m c ⟨0, h⟩ _ s 0 Ideal.ofBits_zero_f32).trans ?_
    rw [zero_add, Norm.part_one]
  | k + 1, h => by
    have hN : cfg0.N = 8 := N_0
    have hB : ¬(⟨k + 1, h⟩ : Fin cfg0.N).val % 8 = 0 := by dsimp only; omega
    rw [outsAt0_B m c ⟨k + 1, h⟩ hB]
    dsimp only
    rw [out_B_4]
    refine (step4 m c ⟨k + 1, h⟩ _ s _ (outs4 c s k _)).trans ?_
    rw [← Norm.part_succ]

theorem flushed4 (c : Dev nD) (t : Fin cfg0.N) (hf : (cfg0.win 4).flush t = true) :
    (dats m 0 c).flushed 4 t = ((cfg0.win 4).blk t).view.read (Elt Ideal) (G4 (a0 m c) (a1 m c) (a2 m c)) := by
  obtain ⟨-, -, -, -, -, -, -, -, q40, q41⟩ := idx_facts t
  have h7 : t.val = 7 := by
    have := (flush0_4 t).mp hf
    have := lt_of_lt_of_eq t.isLt (show cfg0.N = 8 from N_0)
    omega
  rw [Value.flushed4]
  funext y
  obtain ⟨r, s, rfl⟩ := Mm.ex2 1 1024 y
  obtain rfl : r = 0 := Subsingleton.elim _ _
  rw [View.read_apply]
  have e : ((cfg0.win 4).blk t).view.emb (ix2 0 s) = ix2 0 s := Mm.idx2
    (by show win0_4.index t 0 * 1 + 1 * 0 = 0; rw [q40])
    (Mm.at' 1024 s.val s.val q41 (by omega))
  rw [e]
  show (outsAt0 m c t.val t.isLt).2 (ix2 0 s) = _
  rw [outs4 m c s t.val t.isLt, h7, Norm.part_all]
  rfl

theorem final4 (c : Dev nD) : (dats m 0 c).arrAt 4 cfg0.N = G4 (a0 m c) (a1 m c) (a2 m c) :=
  (dats m 0 c).arrAt_eq_of_cover 4 _ (flushed4 m c) fun i => by
    have h1 : (i 0 : Nat) < 1 := (i 0).isLt
    have h2 : (i 1 : Nat) < 1024 := (i 1).isLt
    have hN : cfg0.N = 8 := N_0
    obtain ⟨t, ht⟩ : ∃ t : Fin cfg0.N, t.val = 7 := ⟨⟨7, by omega⟩, rfl⟩
    obtain ⟨-, -, -, -, -, -, -, -, q40, q41⟩ := idx_facts t
    refine ⟨t, (flush0_4 t).mpr (by omega), ?_⟩
    show i ∈ ((View.whole main_v1_1).slice (win0_4.rect t)).set
    rw [View.set_slice_whole]
    exact Mm.mem2 1 1024 q40 q41 (by omega) (by omega)

/-- What every run ends with. -/
theorem run (ρ : Dev nD → PrngReg) : θ_run defs (onTc (τ := τ) (main (F := Ideal))) ⟨m, fun _ => 0, ρ⟩ fun r => ∀ c : Dev nD,
      r.2.mem (c.tc.loc main_v1_0) = G3 (a0 m c) (a1 m c) (a2 m c)
      ∧ r.2.mem (c.tc.loc main_v1_1) = G4 (a0 m c) (a1 m c) (a2 m c) ∧ Mm.kept m r.2.mem c main_arg0 ∧ Mm.kept m r.2.mem c main_arg1 ∧ Mm.kept m r.2.mem c main_arg2 :=
  (θ_run defs _ _).mono (fun _ h c => ⟨((h c).1.trans (final3 m c)), ((h c).2.1.trans (final4 m c)), (h c).2.2⟩) (Value.run_blocks m ρ)

end Cert.Kernel39Ideal.Nrm

namespace Cert.Reference39Ideal.Nrm

open Reference39Ideal Reference39Ideal.Read Idealize ShloMosaic ShloMosaic.TcCoe SL.Sem

/-! ## The reference's result, entry by entry -/

theorem i2 (r : Fin 4096) (k : Fin 1024) : idx_main_v2 (ix1 r) k = ix2 r k := Mm.idx2 rfl rfl
theorem i3 (r : Fin 4096) (s : Fin 1) : idx_main_v3 (ix2 r s) = ix1 r := ValueIdx.eq_ix1 _
theorem i12 (r : Fin 4096) (s : Fin 1024) : idx_main_v12 (ix2 r s) = ix2 r 0 := Mm.idx2 rfl rfl
theorem i14 (r : Fin 1) (s : Fin 1024) : idx_main_v14 (ix2 r s) = ix1 s := ValueIdx.eq_ix1 _
theorem i15 (r : Fin 4096) (s : Fin 1024) : idx_main_v15 (ix2 r s) = ix2 0 s := Mm.idx2 rfl rfl
theorem i18 (r : Fin 1024) (k : Fin 4096) : idx_main_v18 (ix1 r) k = ix2 k r := Mm.idx2 rfl rfl
theorem i19 (r : Fin 1) (s : Fin 1024) : idx_main_v19 (ix2 r s) = ix1 s := Norm.idx1 (by show r.val * 1024 + s.val = s.val; omega)
theorem i20 (r : Fin 4096) (s : Fin 1024) : idx_main_v20 (ix2 r s) = ix2 0 s := Mm.idx2 rfl rfl
theorem i22 (r : Fin 1024) (k : Fin 1) : idx_main_v22 (ix1 r) k = ix2 k r := Mm.idx2 rfl rfl
theorem i24 (r : Fin 4096) (k : Fin 1024) : idx_main_v24 (ix1 r) k = ix2 r k := Mm.idx2 rfl rfl
theorem i25 (r : Fin 4096) (s : Fin 1) : idx_main_v25 (ix2 r s) = ix1 r := Norm.idx1 (by show r.val * 1 + s.val = r.val; omega)
theorem i26 (r : Fin 4096) (s : Fin 1024) : idx_main_v26 (ix2 r s) = ix2 r 0 := Mm.idx2 rfl rfl
theorem i31 (r : Fin 4096) (k : Fin 1) : idx_main_v31 (ix1 r) k = ix2 r k := Mm.idx2 rfl rfl
theorem i32 (r : Fin 4096) (s : Fin 1024) : idx_main_v32 (ix2 r s) = ix1 r := ValueIdx.eq_ix1 _
theorem i38 (r : Fin 1) (s : Fin 1024) : idx_main_v38 (ix2 r s) = ix1 s := Norm.idx1 (by show r.val * 1024 + s.val = s.val; omega)

theorem ref3 (x0 : Vec Ideal S4096x1024 .f32) (x1 : Vec Ideal S4096x1024 .bf16) (x2 : Vec Ideal S1024 .f32) :
    val_main_v37 (F := Ideal) x0 x1 x2 = Kernel39Ideal.Nrm.G3 x0 x1 x2 := by
  funext i
  obtain ⟨r, s, rfl⟩ := Mm.ex2 4096 1024 i
  simp only [val_main_v0_apply, val_main_v1_apply, val_main_cst_apply, val_main_v2_apply, val_main_v3_apply, val_main_cst_0_apply, val_main_v4_apply, val_main_v5_apply, val_main_cst_1_apply, val_main_v6_apply, val_main_v7_apply, val_main_v8_apply, val_main_v9_apply, val_main_cst_2_apply, val_main_v10_apply, val_main_v11_apply, val_main_v14_apply, val_main_v20_apply, val_main_v21_apply, val_main_v23_apply, val_main_cst_5_apply, val_main_v24_apply, val_main_v25_apply, val_main_v26_apply, val_main_v27_apply, val_main_v28_apply, val_main_cst_6_apply, val_main_v29_apply, val_main_v30_apply, val_main_cst_7_apply, val_main_v31_apply, val_main_v32_apply, val_main_v33_apply, val_main_v34_apply, val_main_v35_apply, val_main_v36_apply, val_main_v37_apply, i2, i3, i14, i20, i24, i25, i26, i31, i32, Ideal.mulf_def, Ideal.addf_def, Ideal.hostDivf_def, Ideal.hostUnary_rsqrt_def, Norm.zero_bits, zero_add, Fin.sum_univ_one]
  exact Norm.bwd_eq (Norm.row x1 r) (fun k => x0 (ix2 r k) * x2 (ix1 k)) s

theorem ref4 (x0 : Vec Ideal S4096x1024 .f32) (x1 : Vec Ideal S4096x1024 .bf16) (x2 : Vec Ideal S1024 .f32) :
    val_main_v38 (F := Ideal) x0 x1 = Kernel39Ideal.Nrm.G4 x0 x1 x2 := by
  funext i
  obtain ⟨r, s, rfl⟩ := Mm.ex2 1 1024 i
  simp only [val_main_v0_apply, val_main_v1_apply, val_main_cst_apply, val_main_v2_apply, val_main_v3_apply, val_main_cst_0_apply, val_main_v4_apply, val_main_v5_apply, val_main_cst_1_apply, val_main_v6_apply, val_main_v7_apply, val_main_v8_apply, val_main_v12_apply, val_main_v13_apply, val_main_v17_apply, val_main_cst_3_apply, val_main_v18_apply, val_main_v19_apply, val_main_cst_4_apply, val_main_v22_apply, val_main_v38_apply, i2, i3, i12, i18, i19, i22, i38, Ideal.mulf_def, Ideal.addf_def, Ideal.hostDivf_def, Ideal.hostUnary_rsqrt_def, Norm.zero_bits, zero_add, Fin.sum_univ_one]
  refine (Finset.sum_congr rfl fun l _ => mul_comm _ _)

end Cert.Reference39Ideal.Nrm

namespace Cert.Proof.K39
open Idealize ShloMosaic SL.Sem

/-- The reference ends. -/
theorem frameRef : quiescent_Reference39Ideal := fun m ρ _ =>
  (θ_run Reference39Ideal.defs _ _).mono (fun r h => ⟨fun c => (h c).2.2, sem_eq_zero_of_no_sems (by decide) r.2⟩)
    (Reference39Ideal.Value.run m ρ)

/-- The call's results are the reference's. -/
theorem algebraic : algebraic_Kernel39Ideal_Reference39Ideal := by
  intro m ρ m' ρ' hpre hargs
  refine ⟨_, _, Kernel39Ideal.Nrm.run m ρ, (θ_run Reference39Ideal.defs _ _).mono (fun r h c => ?_)
    (Reference39Ideal.Value.run m' ρ')⟩
  obtain ⟨h0, h1, hk⟩ := h c
  obtain ⟨e0, e1, e2⟩ := hargs c
  refine ⟨?_, ?_, hk⟩
  · refine h0.trans ((Reference39Ideal.Read.val_main_v37_eq m' c).trans ?_)
    rw [e0, e1, e2]
    exact Reference39Ideal.Nrm.ref3 _ _ _
  · refine h1.trans ((Reference39Ideal.Read.val_main_v38_eq _ _).trans ?_)
    rw [e0, e1]
    exact Reference39Ideal.Nrm.ref4 _ _ (m ((c.tc : Thread Kernel39Ideal.nD Kernel39Ideal.τ).loc Kernel39Ideal.main_arg2))

end Cert.Proof.K39
-- ==== Proof.Norm.K40.lean ====
/-
  The boundary between two layers, backward.
-/
module

public import proofs.«01_k».proof.Proof.Gen.Kernel40.Frame
public import proofs.«01_k».proof.Proof.Gen.Kernel40Ideal.Value
public import proofs.«01_k».proof.Proof.Gen.Reference40Ideal.Read
public import proofs.«01_k».proof.Proof.Mm.Sum
public import proofs.«01_k».proof.Proof.Norm.Row

@[expose] public section

noncomputable section

namespace Cert.Kernel40Ideal.Nrm

open Kernel40Ideal Kernel40Ideal.Gen Idealize ShloMosaic ShloMosaic.TcCoe SL.Sem

/-- The gradient of one row of the residual stream. -/
def E6 (v0 v1 v2 v3 v4 v5 : Fin 1024 → EReal) (s : Fin 1024) : EReal := v0 s + Norm.bwd v1 (fun k => v3 k * v2 k) s

/-- The gradient of the residual stream. -/
def G6 (X0 X1 : Vec Ideal S4096x1024 .f32) (X2 : Vec Ideal S1024 .f32) (X3 X4 : Vec Ideal S4096x1024 .bf16) (X5 : Vec Ideal S1024 .f32) : Vec Ideal S4096x1024 .f32 := fun i =>
  E6 (Norm.row X0 ⟨(i 0).val, (i 0).isLt⟩) (Norm.row X1 ⟨(i 0).val, (i 0).isLt⟩) (Norm.vec X2) (Norm.row X3 ⟨(i 0).val, (i 0).isLt⟩) (Norm.row X4 ⟨(i 0).val, (i 0).isLt⟩) (Norm.vec X5) ⟨(i 1).val, (i 1).isLt⟩

/-- What one row adds to the gradient of the scale. -/
def E7 (v0 v1 v2 v3 v4 v5 : Fin 1024 → EReal) (s : Fin 1024) : EReal := v3 s * (v1 s * Norm.inv v1)

/-- The gradient of the scale. -/
def G7 (X0 X1 : Vec Ideal S4096x1024 .f32) (X2 : Vec Ideal S1024 .f32) (X3 X4 : Vec Ideal S4096x1024 .bf16) (X5 : Vec Ideal S1024 .f32) : Vec Ideal S1x1024 .f32 := fun i =>
  ∑ l : Fin 4096, E7 (Norm.row X0 l) (Norm.row X1 l) (Norm.vec X2) (Norm.row X3 l) (Norm.row X4 l) (Norm.vec X5) ⟨(i 1).val, (i 1).isLt⟩

/-- The gradient of one row of the residual branch. -/
def E8 (v0 v1 v2 v3 v4 v5 : Fin 1024 → EReal) (s : Fin 1024) : EReal := Norm.bwd v4 (fun k => E6 v0 v1 v2 v3 v4 v5 k * v5 k) s

/-- The gradient of the residual branch. -/
def G8 (X0 X1 : Vec Ideal S4096x1024 .f32) (X2 : Vec Ideal S1024 .f32) (X3 X4 : Vec Ideal S4096x1024 .bf16) (X5 : Vec Ideal S1024 .f32) : Vec Ideal S4096x1024 .bf16 := fun i =>
  E8 (Norm.row X0 ⟨(i 0).val, (i 0).isLt⟩) (Norm.row X1 ⟨(i 0).val, (i 0).isLt⟩) (Norm.vec X2) (Norm.row X3 ⟨(i 0).val, (i 0).isLt⟩) (Norm.row X4 ⟨(i 0).val, (i 0).isLt⟩) (Norm.vec X5) ⟨(i 1).val, (i 1).isLt⟩

/-- What one row adds to the gradient of the branch's scale. -/
def E9 (v0 v1 v2 v3 v4 v5 : Fin 1024 → EReal) (s : Fin 1024) : EReal := E6 v0 v1 v2 v3 v4 v5 s * (v4 s * Norm.inv v4)

/-- The gradient of the branch's scale. -/
def G9 (X0 X1 : Vec Ideal S4096x1024 .f32) (X2 : Vec Ideal S1024 .f32) (X3 X4 : Vec Ideal S4096x1024 .bf16) (X5 : Vec Ideal S1024 .f32) : Vec Ideal S1x1024 .f32 := fun i =>
  ∑ l : Fin 4096, E9 (Norm.row X0 l) (Norm.row X1 l) (Norm.vec X2) (Norm.row X3 l) (Norm.row X4 l) (Norm.vec X5) ⟨(i 1).val, (i 1).isLt⟩

/-! ## One block -/

theorem E6_eq (v0 v1 v2 v3 v4 v5 : Fin 1024 → EReal) (k : Fin 1024) :
    v0 k + Norm.bwdRef v1 (fun j => v3 j * v2 j) k = E6 v0 v1 v2 v3 v4 v5 k :=
  congrArg (v0 k + ·) (Norm.bwd_eq v1 _ k)

theorem pay6_at (x0 x1 : Vec Ideal S512x1024 .f32) (x2 : Vec Ideal S1x1024 .f32) (x3 x4 : Vec Ideal S512x1024 .bf16) (x5 : Vec Ideal S1x1024 .f32) (r : Fin 512) (s : Fin 1024) :
    k0_pay6 x0 x1 x2 x3 (ix2 r s) = E6 (Norm.row x0 r) (Norm.row x1 r) (Norm.row x2 0) (Norm.row x3 r) (Norm.row x4 r) (Norm.row x5 0) s := by
  simp only [k0_pay6, k0_pay4, k0_pay3, k0_pay2, pointwise, Nat.reduceEqDiff, ↓reduceDIte]
  rfl

theorem pay7_at (acc : Vec Ideal S1x1024 .f32) (x0 x1 : Vec Ideal S512x1024 .f32) (x2 : Vec Ideal S1x1024 .f32) (x3 x4 : Vec Ideal S512x1024 .bf16) (x5 : Vec Ideal S1x1024 .f32) (s : Fin 1024) :
    k0_pay8 (k0_pay5 x1 x3) acc (ix2 0 s) = acc (ix2 0 s) + ∑ r : Fin 512, E7 (Norm.row x0 r) (Norm.row x1 r) (Norm.row x2 0) (Norm.row x3 r) (Norm.row x4 r) (Norm.row x5 0) s := by
  simp only [k0_pay8, k0_pay5, k0_pay4, k0_pay3, k0_pay2, pointwise, Nat.reduceEqDiff, ↓reduceDIte]
  rfl

theorem pay8_at (x0 x1 : Vec Ideal S512x1024 .f32) (x2 : Vec Ideal S1x1024 .f32) (x3 x4 : Vec Ideal S512x1024 .bf16) (x5 : Vec Ideal S1x1024 .f32) (r : Fin 512) (s : Fin 1024) :
    k0_pay13 (k0_pay6 x0 x1 x2 x3) x4 x5 (ix2 r s) = E8 (Norm.row x0 r) (Norm.row x1 r) (Norm.row x2 0) (Norm.row x3 r) (Norm.row x4 r) (Norm.row x5 0) s := by
  simp only [k0_pay13, k0_pay11, k0_pay10, k0_pay9, pointwise, Nat.reduceEqDiff, ↓reduceDIte]
  simp only [pay6_at x0 x1 x2 x3 x4 x5]
  rfl

theorem pay9_at (acc : Vec Ideal S1x1024 .f32) (x0 x1 : Vec Ideal S512x1024 .f32) (x2 : Vec Ideal S1x1024 .f32) (x3 x4 : Vec Ideal S512x1024 .bf16) (x5 : Vec Ideal S1x1024 .f32) (s : Fin 1024) :
    k0_pay1 (k0_pay12 (k0_pay6 x0 x1 x2 x3) x4) (k0_pay15 acc) (ix2 0 s) = acc (ix2 0 s) + ∑ r : Fin 512, E9 (Norm.row x0 r) (Norm.row x1 r) (Norm.row x2 0) (Norm.row x3 r) (Norm.row x4 r) (Norm.row x5 0) s := by
  simp only [k0_pay1, k0_pay12, k0_pay15, k0_pay11, k0_pay10, k0_pay9, pointwise, Nat.reduceEqDiff, ↓reduceDIte]
  simp only [pay6_at x0 x1 x2 x3 x4 x5]
  rfl

section
variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S512x1024 .bf16) (harg9 : arg9.IsWhole) (arg10 : Memref sig .tc .vmem S1x1024 .f32) (harg10 : arg10.IsWhole) (x0 x1 : Vec Ideal S512x1024 .f32) (x2 : Vec Ideal S1x1024 .f32) (x3 x4 : Vec Ideal S512x1024 .bf16) (x5 xo7 xo9 : Vec Ideal S1x1024 .f32)

theorem out_A_6 (hc0 : cond0_0 i) (hc1 : cond0_1 i) :
    out0_A_6 c i arg1 harg1 arg2 harg2 arg3 harg3 arg4 harg4 arg5 harg5 arg6 harg6 arg7 harg7 arg8 harg8 arg9 harg9 arg10 harg10 hc0 hc1 x0 x1 x2 x3 x4 x5 = k0_pay6 x0 x1 x2 x3 := by
  unfold out0_A_6
  rw [View.read_writes_eq_canon _ _ _ (fun _ => cover0_A_6 ..)]
  unfold kernelRun0_A
  dsimp only
  sl_unfold_words
  rw [View.canon_unit_zero Mm.zero2]
  simp only [View.readAt_eq_ld, Memref.IsWhole.read_unread, View.ld_unit_zero (S := S1x1024) Mm.zero2, View.ld_unit_zero (S := S512x1024) Mm.zero2]

theorem out_A_7 (hc0 : cond0_0 i) (hc1 : cond0_1 i) :
    out0_A_7 c i arg1 harg1 arg2 harg2 arg3 harg3 arg4 harg4 arg5 harg5 arg6 harg6 arg7 harg7 arg8 harg8 arg9 harg9 arg10 harg10 hc0 hc1 x0 x1 x2 x3 x4 x5 = k0_pay8 (k0_pay5 x1 x3) (k0_pay7 (F := Ideal)) := by
  unfold out0_A_7
  rw [View.read_writes_eq_canon _ _ _ (fun _ => cover0_A_7 ..)]
  unfold kernelRun0_A
  dsimp only
  sl_unfold_words
  rw [View.canon_cons_unit_zero (S := S1x1024) Mm.zero2, View.readCov_unit_zero (S := S1x1024) _ Mm.zero2]
  simp only [View.readAt_eq_ld, Memref.IsWhole.read_unread, View.ld_unit_zero (S := S1x1024) Mm.zero2, View.ld_unit_zero (S := S512x1024) Mm.zero2]

theorem out_A_8 (hc0 : cond0_0 i) (hc1 : cond0_1 i) :
    out0_A_8 c i arg1 harg1 arg2 harg2 arg3 harg3 arg4 harg4 arg5 harg5 arg6 harg6 arg7 harg7 arg8 harg8 arg9 harg9 arg10 harg10 hc0 hc1 x0 x1 x2 x3 x4 x5 = k0_pay13 (k0_pay6 x0 x1 x2 x3) x4 x5 := by
  unfold out0_A_8
  rw [View.read_writes_eq_canon _ _ _ (fun _ => cover0_A_8 ..)]
  unfold kernelRun0_A
  dsimp only
  sl_unfold_words
  rw [View.canon_unit_zero Mm.zero2]
  simp only [View.readAt_eq_ld, Memref.IsWhole.read_unread, View.ld_unit_zero (S := S1x1024) Mm.zero2, View.ld_unit_zero (S := S512x1024) Mm.zero2]

theorem out_A_9 (hc0 : cond0_0 i) (hc1 : cond0_1 i) :
    out0_A_9 c i arg1 harg1 arg2 harg2 arg3 harg3 arg4 harg4 arg5 harg5 arg6 harg6 arg7 harg7 arg8 harg8 arg9 harg9 arg10 harg10 hc0 hc1 x0 x1 x2 x3 x4 x5 = k0_pay1 (k0_pay12 (k0_pay6 x0 x1 x2 x3) x4) (k0_pay15 (k0_pay14 (F := Ideal))) := by
  unfold out0_A_9
  rw [View.read_writes_eq_canon _ _ _ (fun _ => cover0_A_9 ..)]
  unfold kernelRun0_A
  dsimp only
  sl_unfold_words
  rw [View.canon_cons_unit_zero (S := S1x1024) Mm.zero2, View.readCov_unit_zero (S := S1x1024) _ Mm.zero2]
  simp only [View.readAt_eq_ld, Memref.IsWhole.read_unread, View.ld_unit_zero (S := S1x1024) Mm.zero2, View.ld_unit_zero (S := S512x1024) Mm.zero2]

theorem out_B_6 (hc0 : ¬cond0_0 i) (hc1 : ¬cond0_1 i) :
    out0_B_6 c i arg1 harg1 arg2 harg2 arg3 harg3 arg4 harg4 arg5 harg5 arg6 harg6 arg7 harg7 arg8 harg8 arg9 harg9 arg10 harg10 hc0 hc1 x0 x1 x2 x3 x4 x5 xo7 xo9 = k0_pay6 x0 x1 x2 x3 := by
  unfold out0_B_6
  rw [View.read_writes_eq_canon _ _ _ (fun _ => cover0_B_6 ..)]
  unfold kernelRun0_B
  dsimp only
  sl_unfold_words
  rw [View.canon_unit_zero Mm.zero2]
  simp only [View.readAt_eq_ld, Memref.IsWhole.read_unread, View.ld_unit_zero (S := S1x1024) Mm.zero2, View.ld_unit_zero (S := S512x1024) Mm.zero2]

theorem out_B_7 (hc0 : ¬cond0_0 i) (hc1 : ¬cond0_1 i) :
    out0_B_7 c i arg1 harg1 arg2 harg2 arg3 harg3 arg4 harg4 arg5 harg5 arg6 harg6 arg7 harg7 arg8 harg8 arg9 harg9 arg10 harg10 hc0 hc1 x0 x1 x2 x3 x4 x5 xo7 xo9 = k0_pay8 (k0_pay5 x1 x3) xo7 := by
  unfold out0_B_7
  rw [View.read_writes_eq_canon _ _ _ (fun _ => cover0_B_7 ..)]
  unfold kernelRun0_B
  dsimp only
  sl_unfold_words
  rw [View.canon_unit_zero Mm.zero2]
  simp only [View.readAt_eq_ld, Memref.IsWhole.read_unread, View.ld_unit_zero (S := S1x1024) Mm.zero2, View.ld_unit_zero (S := S512x1024) Mm.zero2]

theorem out_B_8 (hc0 : ¬cond0_0 i) (hc1 : ¬cond0_1 i) :
    out0_B_8 c i arg1 harg1 arg2 harg2 arg3 harg3 arg4 harg4 arg5 harg5 arg6 harg6 arg7 harg7 arg8 harg8 arg9 harg9 arg10 harg10 hc0 hc1 x0 x1 x2 x3 x4 x5 xo7 xo9 = k0_pay13 (k0_pay6 x0 x1 x2 x3) x4 x5 := by
  unfold out0_B_8
  rw [View.read_writes_eq_canon _ _ _ (fun _ => cover0_B_8 ..)]
  unfold kernelRun0_B
  dsimp only
  sl_unfold_words
  rw [View.canon_unit_zero Mm.zero2]
  simp only [View.readAt_eq_ld, Memref.IsWhole.read_unread, View.ld_unit_zero (S := S1x1024) Mm.zero2, View.ld_unit_zero (S := S512x1024) Mm.zero2]

theorem out_B_9 (hc0 : ¬cond0_0 i) (hc1 : ¬cond0_1 i) :
    out0_B_9 c i arg1 harg1 arg2 harg2 arg3 harg3 arg4 harg4 arg5 harg5 arg6 harg6 arg7 harg7 arg8 harg8 arg9 harg9 arg10 harg10 hc0 hc1 x0 x1 x2 x3 x4 x5 xo7 xo9 = k0_pay1 (k0_pay12 (k0_pay6 x0 x1 x2 x3) x4) (k0_pay15 xo9) := by
  unfold out0_B_9
  rw [View.read_writes_eq_canon _ _ _ (fun _ => cover0_B_9 ..)]
  unfold kernelRun0_B
  dsimp only
  sl_unfold_words
  rw [View.canon_unit_zero Mm.zero2]
  simp only [View.readAt_eq_ld, Memref.IsWhole.read_unread, View.ld_unit_zero (S := S1x1024) Mm.zero2, View.ld_unit_zero (S := S512x1024) Mm.zero2]

end

/-! ## The blocks of the arguments -/

variable (m : (ℓ : Loc nD τ sig) → Buf (Elt Ideal) ℓ)

abbrev a0 (c : Dev nD) : Vec Ideal S4096x1024 .f32 := m (c.tc.loc main_arg0)
abbrev a1 (c : Dev nD) : Vec Ideal S4096x1024 .f32 := m (c.tc.loc main_arg1)
abbrev a2 (c : Dev nD) : Vec Ideal S1024 .f32 := m (c.tc.loc main_arg2)
abbrev a3 (c : Dev nD) : Vec Ideal S4096x1024 .bf16 := m (c.tc.loc main_arg3)
abbrev a4 (c : Dev nD) : Vec Ideal S4096x1024 .bf16 := m (c.tc.loc main_arg4)
abbrev a5 (c : Dev nD) : Vec Ideal S1024 .f32 := m (c.tc.loc main_arg5)

theorem idx_facts : ∀ t : Fin grid0.N, win0_0.index t 0 = t.val ∧ win0_0.index t 1 = 0 ∧ win0_1.index t 0 = t.val ∧ win0_1.index t 1 = 0 ∧ win0_2.index t 0 = 0 ∧ win0_2.index t 1 = 0 ∧ win0_3.index t 0 = t.val ∧ win0_3.index t 1 = 0 ∧ win0_4.index t 0 = t.val ∧ win0_4.index t 1 = 0 ∧ win0_5.index t 0 = 0 ∧ win0_5.index t 1 = 0 ∧ win0_6.index t 0 = t.val ∧ win0_6.index t 1 = 0 ∧ win0_7.index t 0 = 0 ∧ win0_7.index t 1 = 0 ∧ win0_8.index t 0 = t.val ∧ win0_8.index t 1 = 0 ∧ win0_9.index t 0 = 0 ∧ win0_9.index t 1 = 0 := by decide +kernel

/-- Row `r` of the rows that grid point `t` works on. -/
def gr (t : Fin cfg0.N) (r : Fin 512) : Fin 4096 :=
  ⟨512 * t.val + r.val, by have := lt_of_lt_of_eq t.isLt (show cfg0.N = 8 from N_0); omega⟩

theorem blk0_at (c : Dev nD) (t : Fin cfg0.N) (r : Fin 512) :
    Norm.row (a := 512) (b := 1024) (iblk m c 0 t) r = Norm.row (a := 4096) (b := 1024) (a0 m c) (gr t r) := by
  obtain ⟨q00, q01, -⟩ := idx_facts t
  funext s
  unfold iblk Norm.row
  rw [View.read_apply]
  refine (congrFun (V_main_arg0 m c) _).trans (congrArg _ (Mm.idx2 (Mm.at' 512 r.val (512 * t.val + r.val) q00 (by omega)) (Mm.at' 1024 s.val s.val q01 (by omega))))

theorem blk1_at (c : Dev nD) (t : Fin cfg0.N) (r : Fin 512) :
    Norm.row (a := 512) (b := 1024) (iblk m c 1 t) r = Norm.row (a := 4096) (b := 1024) (a1 m c) (gr t r) := by
  obtain ⟨-, -, q10, q11, -⟩ := idx_facts t
  funext s
  unfold iblk Norm.row
  rw [View.read_apply]
  refine (congrFun (V_main_arg1 m c) _).trans (congrArg _ (Mm.idx2 (Mm.at' 512 r.val (512 * t.val + r.val) q10 (by omega)) (Mm.at' 1024 s.val s.val q11 (by omega))))

theorem V_main_v0 (c : Dev nD) (k : Fin 1024) : V m c main_v0 (ix2 0 k) = m (c.tc.loc main_arg2) (ix1 k) := by
  entry_read
  refine shapeCast_apply _ _ _ _ ?_
  show (S1024.rowMajor (ix1 k)).val = (S1x1024.rowMajor (ix2 0 k)).val
  rewrite [Shape.rowMajor_val_one, Shape.rowMajor_val_two]
  show k.val = 0 * 1024 + k.val
  omega

theorem blk2_at (c : Dev nD) (t : Fin cfg0.N) :
    Norm.row (a := 1) (b := 1024) (iblk m c 2 t) 0 = Norm.vec (b := 1024) (a2 m c) := by
  obtain ⟨-, -, -, -, q20, q21, -⟩ := idx_facts t
  funext s
  unfold iblk Norm.row Norm.vec
  rw [View.read_apply]
  show V m c main_v0 _ = _
  refine Eq.trans ?_ (V_main_v0 m c s)
  congr 1
  refine Mm.idx2 ?_ ?_
  · show win0_2.index t 0 * 1 + 1 * 0 = 0; rw [q20]
  · exact Mm.at' 1024 s.val s.val q21 (by omega)

theorem blk3_at (c : Dev nD) (t : Fin cfg0.N) (r : Fin 512) :
    Norm.row (a := 512) (b := 1024) (iblk m c 3 t) r = Norm.row (a := 4096) (b := 1024) (a3 m c) (gr t r) := by
  obtain ⟨-, -, -, -, -, -, q30, q31, -⟩ := idx_facts t
  funext s
  unfold iblk Norm.row
  rw [View.read_apply]
  refine (congrFun (V_main_arg3 m c) _).trans (congrArg _ (Mm.idx2 (Mm.at' 512 r.val (512 * t.val + r.val) q30 (by omega)) (Mm.at' 1024 s.val s.val q31 (by omega))))

theorem blk4_at (c : Dev nD) (t : Fin cfg0.N) (r : Fin 512) :
    Norm.row (a := 512) (b := 1024) (iblk m c 4 t) r = Norm.row (a := 4096) (b := 1024) (a4 m c) (gr t r) := by
  obtain ⟨-, -, -, -, -, -, -, -, q40, q41, -⟩ := idx_facts t
  funext s
  unfold iblk Norm.row
  rw [View.read_apply]
  refine (congrFun (V_main_arg4 m c) _).trans (congrArg _ (Mm.idx2 (Mm.at' 512 r.val (512 * t.val + r.val) q40 (by omega)) (Mm.at' 1024 s.val s.val q41 (by omega))))

theorem V_main_v1 (c : Dev nD) (k : Fin 1024) : V m c main_v1 (ix2 0 k) = m (c.tc.loc main_arg5) (ix1 k) := by
  entry_read
  refine shapeCast_apply _ _ _ _ ?_
  show (S1024.rowMajor (ix1 k)).val = (S1x1024.rowMajor (ix2 0 k)).val
  rewrite [Shape.rowMajor_val_one, Shape.rowMajor_val_two]
  show k.val = 0 * 1024 + k.val
  omega

theorem blk5_at (c : Dev nD) (t : Fin cfg0.N) :
    Norm.row (a := 1) (b := 1024) (iblk m c 5 t) 0 = Norm.vec (b := 1024) (a5 m c) := by
  obtain ⟨-, -, -, -, -, -, -, -, -, -, q50, q51, -⟩ := idx_facts t
  funext s
  unfold iblk Norm.row Norm.vec
  rw [View.read_apply]
  show V m c main_v1 _ = _
  refine Eq.trans ?_ (V_main_v1 m c s)
  congr 1
  refine Mm.idx2 ?_ ?_
  · show win0_5.index t 0 * 1 + 1 * 0 = 0; rw [q50]
  · exact Mm.at' 1024 s.val s.val q51 (by omega)

/-! ## The results -/

theorem outs6 (c : Dev nD) (t : Fin cfg0.N) : (outsAt0 m c t.val t.isLt).1 = k0_pay6 (iblk m c 0 t) (iblk m c 1 t) (iblk m c 2 t) (iblk m c 3 t) := by
  by_cases h : t.val % 8 = 0
  · rw [outsAt0_A m c t h h]
    dsimp only
    rw [out_A_6]
  · rw [outsAt0_B m c t h h]
    dsimp only
    rw [out_B_6]

theorem flushed6 (c : Dev nD) (t : Fin cfg0.N) :
    (dats m 0 c).flushed 6 t = ((cfg0.win 6).blk t).view.read (Elt Ideal) (G6 (a0 m c) (a1 m c) (a2 m c) (a3 m c) (a4 m c) (a5 m c)) := by
  obtain ⟨-, -, -, -, -, -, -, -, -, -, -, -, q60, q61, -⟩ := idx_facts t
  rw [Value.flushed6, outs6]
  funext y
  obtain ⟨r, s, rfl⟩ := Mm.ex2 512 1024 y
  rw [View.read_apply]
  refine (pay6_at (iblk m c 0 t) (iblk m c 1 t) (iblk m c 2 t) (iblk m c 3 t) (iblk m c 4 t) (iblk m c 5 t) r s).trans ?_
  have e : ((cfg0.win 6).blk t).view.emb (ix2 r s) = ix2 (gr t r) s := Mm.idx2
    (Mm.at' 512 r.val (512 * t.val + r.val) q60 (by omega))
    (Mm.at' 1024 s.val s.val q61 (by omega))
  rw [e, blk0_at m c t, blk1_at m c t, blk2_at m c t, blk3_at m c t, blk4_at m c t, blk5_at m c t]
  rfl

theorem final6 (c : Dev nD) : (dats m 0 c).arrAt 6 cfg0.N = G6 (a0 m c) (a1 m c) (a2 m c) (a3 m c) (a4 m c) (a5 m c) :=
  (dats m 0 c).arrAt_eq_of_cover 6 _ (fun t _ => flushed6 m c t) fun i => by
    have h1 : (i 0 : Nat) < 4096 := (i 0).isLt
    have h2 : (i 1 : Nat) < 1024 := (i 1).isLt
    have hN : cfg0.N = 8 := N_0
    obtain ⟨t, ht⟩ : ∃ t : Fin cfg0.N, t.val = (i 0 : Nat) / 512 := ⟨⟨(i 0 : Nat) / 512, by omega⟩, rfl⟩
    obtain ⟨-, -, -, -, -, -, -, -, -, -, -, -, q60, q61, -⟩ := idx_facts t
    exact ⟨t, flush0_6 t, Mm.memv (Mm.mem2 512 1024 q60 q61 (by omega) (by omega))⟩

/-- What row `l` adds. -/
def term7 (c : Dev nD) (s : Fin 1024) (l : Fin 4096) : EReal := E7 (Norm.row (a := 4096) (b := 1024) (a0 m c) l) (Norm.row (a := 4096) (b := 1024) (a1 m c) l) (Norm.vec (b := 1024) (a2 m c)) (Norm.row (a := 4096) (b := 1024) (a3 m c) l) (Norm.row (a := 4096) (b := 1024) (a4 m c) l) (Norm.vec (b := 1024) (a5 m c)) s

theorem step7 (c : Dev nD) (t : Fin cfg0.N) (acc : Vec Ideal S1x1024 .f32) (s : Fin 1024) (e : EReal) (ha : acc (ix2 0 s) = e) :
    k0_pay8 (k0_pay5 (iblk m c 1 t) (iblk m c 3 t)) acc (ix2 0 s) = e + Norm.blk (term7 m c s) t.val := by
  rw [pay7_at acc (iblk m c 0 t) (iblk m c 1 t) (iblk m c 2 t) (iblk m c 3 t) (iblk m c 4 t) (iblk m c 5 t) s, ha]
  simp only [blk0_at m c t]
  simp only [blk1_at m c t]
  rw [blk2_at m c t]
  simp only [blk3_at m c t]
  simp only [blk4_at m c t]
  rw [blk5_at m c t]
  refine congrArg (e + ·) (Norm.blk_eq _ _ (lt_of_lt_of_eq t.isLt (show cfg0.N = 8 from N_0)) _ fun r => ?_)
  rfl

theorem outs7 (c : Dev nD) (s : Fin 1024) : ∀ (k : ℕ) (h : k < cfg0.N),
    (outsAt0 m c k h).2.1 (ix2 0 s) = Norm.part (term7 m c s) (k + 1)
  | 0, h => by
    rw [outsAt0_A m c ⟨0, h⟩ rfl rfl]
    dsimp only
    rw [out_A_7]
    refine (step7 m c ⟨0, h⟩ _ s 0 Ideal.ofBits_zero_f32).trans ?_
    rw [zero_add, Norm.part_one]
  | k + 1, h => by
    have hN : cfg0.N = 8 := N_0
    have hB : ¬(⟨k + 1, h⟩ : Fin cfg0.N).val % 8 = 0 := by dsimp only; omega
    rw [outsAt0_B m c ⟨k + 1, h⟩ hB hB]
    dsimp only
    rw [out_B_7]
    refine (step7 m c ⟨k + 1, h⟩ _ s _ (outs7 c s k _)).trans ?_
    rw [← Norm.part_succ]

theorem flushed7 (c : Dev nD) (t : Fin cfg0.N) (hf : (cfg0.win 7).flush t = true) :
    (dats m 0 c).flushed 7 t = ((cfg0.win 7).blk t).view.read (Elt Ideal) (G7 (a0 m c) (a1 m c) (a2 m c) (a3 m c) (a4 m c) (a5 m c)) := by
  obtain ⟨-, -, -, -, -, -, -, -, -, -, -, -, -, -, q70, q71, -⟩ := idx_facts t
  have h7 : t.val = 7 := by
    have := (flush0_7 t).mp hf
    have := lt_of_lt_of_eq t.isLt (show cfg0.N = 8 from N_0)
    omega
  rw [Value.flushed7]
  funext y
  obtain ⟨r, s, rfl⟩ := Mm.ex2 1 1024 y
  obtain rfl : r = 0 := Subsingleton.elim _ _
  rw [View.read_apply]
  have e : ((cfg0.win 7).blk t).view.emb (ix2 0 s) = ix2 0 s := Mm.idx2
    (by show win0_7.index t 0 * 1 + 1 * 0 = 0; rw [q70])
    (Mm.at' 1024 s.val s.val q71 (by omega))
  rw [e]
  show (outsAt0 m c t.val t.isLt).2.1 (ix2 0 s) = _
  rw [outs7 m c s t.val t.isLt, h7, Norm.part_all]
  rfl

theorem final7 (c : Dev nD) : (dats m 0 c).arrAt 7 cfg0.N = G7 (a0 m c) (a1 m c) (a2 m c) (a3 m c) (a4 m c) (a5 m c) :=
  (dats m 0 c).arrAt_eq_of_cover 7 _ (flushed7 m c) fun i => by
    have h1 : (i 0 : Nat) < 1 := (i 0).isLt
    have h2 : (i 1 : Nat) < 1024 := (i 1).isLt
    have hN : cfg0.N = 8 := N_0
    obtain ⟨t, ht⟩ : ∃ t : Fin cfg0.N, t.val = 7 := ⟨⟨7, by omega⟩, rfl⟩
    obtain ⟨-, -, -, -, -, -, -, -, -, -, -, -, -, -, q70, q71, -⟩ := idx_facts t
    refine ⟨t, (flush0_7 t).mpr (by omega), ?_⟩
    show i ∈ ((View.whole main_v2_1).slice (win0_7.rect t)).set
    rw [View.set_slice_whole]
    exact Mm.mem2 1 1024 q70 q71 (by omega) (by omega)

theorem outs8 (c : Dev nD) (t : Fin cfg0.N) : (outsAt0 m c t.val t.isLt).2.2.1 = k0_pay13 (k0_pay6 (iblk m c 0 t) (iblk m c 1 t) (iblk m c 2 t) (iblk m c 3 t)) (iblk m c 4 t) (iblk m c 5 t) := by
  by_cases h : t.val % 8 = 0
  · rw [outsAt0_A m c t h h]
    dsimp only
    rw [out_A_8]
  · rw [outsAt0_B m c t h h]
    dsimp only
    rw [out_B_8]

theorem flushed8 (c : Dev nD) (t : Fin cfg0.N) :
    (dats m 0 c).flushed 8 t = ((cfg0.win 8).blk t).view.read (Elt Ideal) (G8 (a0 m c) (a1 m c) (a2 m c) (a3 m c) (a4 m c) (a5 m c)) := by
  obtain ⟨-, -, -, -, -, -, -, -, -, -, -, -, -, -, -, -, q80, q81, -⟩ := idx_facts t
  rw [Value.flushed8, outs8]
  funext y
  obtain ⟨r, s, rfl⟩ := Mm.ex2 512 1024 y
  rw [View.read_apply]
  refine (pay8_at (iblk m c 0 t) (iblk m c 1 t) (iblk m c 2 t) (iblk m c 3 t) (iblk m c 4 t) (iblk m c 5 t) r s).trans ?_
  have e : ((cfg0.win 8).blk t).view.emb (ix2 r s) = ix2 (gr t r) s := Mm.idx2
    (Mm.at' 512 r.val (512 * t.val + r.val) q80 (by omega))
    (Mm.at' 1024 s.val s.val q81 (by omega))
  rw [e, blk0_at m c t, blk1_at m c t, blk2_at m c t, blk3_at m c t, blk4_at m c t, blk5_at m c t]
  rfl

theorem final8 (c : Dev nD) : (dats m 0 c).arrAt 8 cfg0.N = G8 (a0 m c) (a1 m c) (a2 m c) (a3 m c) (a4 m c) (a5 m c) :=
  (dats m 0 c).arrAt_eq_of_cover 8 _ (fun t _ => flushed8 m c t) fun i => by
    have h1 : (i 0 : Nat) < 4096 := (i 0).isLt
    have h2 : (i 1 : Nat) < 1024 := (i 1).isLt
    have hN : cfg0.N = 8 := N_0
    obtain ⟨t, ht⟩ : ∃ t : Fin cfg0.N, t.val = (i 0 : Nat) / 512 := ⟨⟨(i 0 : Nat) / 512, by omega⟩, rfl⟩
    obtain ⟨-, -, -, -, -, -, -, -, -, -, -, -, -, -, -, -, q80, q81, -⟩ := idx_facts t
    exact ⟨t, flush0_8 t, Mm.memv (Mm.mem2 512 1024 q80 q81 (by omega) (by omega))⟩

/-- What row `l` adds. -/
def term9 (c : Dev nD) (s : Fin 1024) (l : Fin 4096) : EReal := E9 (Norm.row (a := 4096) (b := 1024) (a0 m c) l) (Norm.row (a := 4096) (b := 1024) (a1 m c) l) (Norm.vec (b := 1024) (a2 m c)) (Norm.row (a := 4096) (b := 1024) (a3 m c) l) (Norm.row (a := 4096) (b := 1024) (a4 m c) l) (Norm.vec (b := 1024) (a5 m c)) s

theorem step9 (c : Dev nD) (t : Fin cfg0.N) (acc : Vec Ideal S1x1024 .f32) (s : Fin 1024) (e : EReal) (ha : acc (ix2 0 s) = e) :
    k0_pay1 (k0_pay12 (k0_pay6 (iblk m c 0 t) (iblk m c 1 t) (iblk m c 2 t) (iblk m c 3 t)) (iblk m c 4 t)) (k0_pay15 acc) (ix2 0 s) = e + Norm.blk (term9 m c s) t.val := by
  rw [pay9_at acc (iblk m c 0 t) (iblk m c 1 t) (iblk m c 2 t) (iblk m c 3 t) (iblk m c 4 t) (iblk m c 5 t) s, ha]
  simp only [blk0_at m c t]
  simp only [blk1_at m c t]
  rw [blk2_at m c t]
  simp only [blk3_at m c t]
  simp only [blk4_at m c t]
  rw [blk5_at m c t]
  refine congrArg (e + ·) (Norm.blk_eq _ _ (lt_of_lt_of_eq t.isLt (show cfg0.N = 8 from N_0)) _ fun r => ?_)
  rfl

theorem outs9 (c : Dev nD) (s : Fin 1024) : ∀ (k : ℕ) (h : k < cfg0.N),
    (outsAt0 m c k h).2.2.2 (ix2 0 s) = Norm.part (term9 m c s) (k + 1)
  | 0, h => by
    rw [outsAt0_A m c ⟨0, h⟩ rfl rfl]
    dsimp only
    rw [out_A_9]
    refine (step9 m c ⟨0, h⟩ _ s 0 Ideal.ofBits_zero_f32).trans ?_
    rw [zero_add, Norm.part_one]
  | k + 1, h => by
    have hN : cfg0.N = 8 := N_0
    have hB : ¬(⟨k + 1, h⟩ : Fin cfg0.N).val % 8 = 0 := by dsimp only; omega
    rw [outsAt0_B m c ⟨k + 1, h⟩ hB hB]
    dsimp only
    rw [out_B_9]
    refine (step9 m c ⟨k + 1, h⟩ _ s _ (outs9 c s k _)).trans ?_
    rw [← Norm.part_succ]

theorem flushed9 (c : Dev nD) (t : Fin cfg0.N) (hf : (cfg0.win 9).flush t = true) :
    (dats m 0 c).flushed 9 t = ((cfg0.win 9).blk t).view.read (Elt Ideal) (G9 (a0 m c) (a1 m c) (a2 m c) (a3 m c) (a4 m c) (a5 m c)) := by
  obtain ⟨-, -, -, -, -, -, -, -, -, -, -, -, -, -, -, -, -, -, q90, q91⟩ := idx_facts t
  have h7 : t.val = 7 := by
    have := (flush0_9 t).mp hf
    have := lt_of_lt_of_eq t.isLt (show cfg0.N = 8 from N_0)
    omega
  rw [Value.flushed9]
  funext y
  obtain ⟨r, s, rfl⟩ := Mm.ex2 1 1024 y
  obtain rfl : r = 0 := Subsingleton.elim _ _
  rw [View.read_apply]
  have e : ((cfg0.win 9).blk t).view.emb (ix2 0 s) = ix2 0 s := Mm.idx2
    (by show win0_9.index t 0 * 1 + 1 * 0 = 0; rw [q90])
    (Mm.at' 1024 s.val s.val q91 (by omega))
  rw [e]
  show (outsAt0 m c t.val t.isLt).2.2.2 (ix2 0 s) = _
  rw [outs9 m c s t.val t.isLt, h7, Norm.part_all]
  rfl

theorem final9 (c : Dev nD) : (dats m 0 c).arrAt 9 cfg0.N = G9 (a0 m c) (a1 m c) (a2 m c) (a3 m c) (a4 m c) (a5 m c) :=
  (dats m 0 c).arrAt_eq_of_cover 9 _ (flushed9 m c) fun i => by
    have h1 : (i 0 : Nat) < 1 := (i 0).isLt
    have h2 : (i 1 : Nat) < 1024 := (i 1).isLt
    have hN : cfg0.N = 8 := N_0
    obtain ⟨t, ht⟩ : ∃ t : Fin cfg0.N, t.val = 7 := ⟨⟨7, by omega⟩, rfl⟩
    obtain ⟨-, -, -, -, -, -, -, -, -, -, -, -, -, -, -, -, -, -, q90, q91⟩ := idx_facts t
    refine ⟨t, (flush0_9 t).mpr (by omega), ?_⟩
    show i ∈ ((View.whole main_v2_3).slice (win0_9.rect t)).set
    rw [View.set_slice_whole]
    exact Mm.mem2 1 1024 q90 q91 (by omega) (by omega)

/-- What every run ends with. -/
theorem run (ρ : Dev nD → PrngReg) : θ_run defs (onTc (τ := τ) (main (F := Ideal))) ⟨m, fun _ => 0, ρ⟩ fun r => ∀ c : Dev nD,
      r.2.mem (c.tc.loc main_v2_0) = G6 (a0 m c) (a1 m c) (a2 m c) (a3 m c) (a4 m c) (a5 m c)
      ∧ r.2.mem (c.tc.loc main_v2_1) = G7 (a0 m c) (a1 m c) (a2 m c) (a3 m c) (a4 m c) (a5 m c)
      ∧ r.2.mem (c.tc.loc main_v2_2) = G8 (a0 m c) (a1 m c) (a2 m c) (a3 m c) (a4 m c) (a5 m c)
      ∧ r.2.mem (c.tc.loc main_v2_3) = G9 (a0 m c) (a1 m c) (a2 m c) (a3 m c) (a4 m c) (a5 m c) ∧ Mm.kept m r.2.mem c main_arg0 ∧ Mm.kept m r.2.mem c main_arg1 ∧ Mm.kept m r.2.mem c main_arg2 ∧ Mm.kept m r.2.mem c main_arg3 ∧ Mm.kept m r.2.mem c main_arg4 ∧ Mm.kept m r.2.mem c main_arg5 :=
  (θ_run defs _ _).mono (fun _ h c => ⟨((h c).1.trans (final6 m c)), ((h c).2.1.trans (final7 m c)), ((h c).2.2.1.trans (final8 m c)), ((h c).2.2.2.1.trans (final9 m c)), (h c).2.2.2.2⟩) (Value.run_blocks m ρ)

end Cert.Kernel40Ideal.Nrm

namespace Cert.Reference40Ideal.Nrm

open Reference40Ideal Reference40Ideal.Read Idealize ShloMosaic ShloMosaic.TcCoe SL.Sem

/-! ## The reference's result, entry by entry -/

theorem i1 (r : Fin 4096) (k : Fin 1024) : idx_main_v1 (ix1 r) k = ix2 r k := Mm.idx2 rfl rfl
theorem i2 (r : Fin 4096) (s : Fin 1) : idx_main_v2 (ix2 r s) = ix1 r := ValueIdx.eq_ix1 _
theorem i11 (r : Fin 4096) (s : Fin 1024) : idx_main_v11 (ix2 r s) = ix2 r 0 := Mm.idx2 rfl rfl
theorem i13 (r : Fin 1) (s : Fin 1024) : idx_main_v13 (ix2 r s) = ix1 s := ValueIdx.eq_ix1 _
theorem i14 (r : Fin 4096) (s : Fin 1024) : idx_main_v14 (ix2 r s) = ix2 0 s := Mm.idx2 rfl rfl
theorem i18 (r : Fin 1024) (k : Fin 4096) : idx_main_v18 (ix1 r) k = ix2 k r := Mm.idx2 rfl rfl
theorem i19 (r : Fin 1) (s : Fin 1024) : idx_main_v19 (ix2 r s) = ix1 s := Norm.idx1 (by show r.val * 1024 + s.val = s.val; omega)
theorem i20 (r : Fin 4096) (s : Fin 1024) : idx_main_v20 (ix2 r s) = ix2 0 s := Mm.idx2 rfl rfl
theorem i22 (r : Fin 1024) (k : Fin 1) : idx_main_v22 (ix1 r) k = ix2 k r := Mm.idx2 rfl rfl
theorem i24 (r : Fin 4096) (k : Fin 1024) : idx_main_v24 (ix1 r) k = ix2 r k := Mm.idx2 rfl rfl
theorem i25 (r : Fin 4096) (s : Fin 1) : idx_main_v25 (ix2 r s) = ix1 r := Norm.idx1 (by show r.val * 1 + s.val = r.val; omega)
theorem i26 (r : Fin 4096) (s : Fin 1024) : idx_main_v26 (ix2 r s) = ix2 r 0 := Mm.idx2 rfl rfl
theorem i31 (r : Fin 4096) (k : Fin 1) : idx_main_v31 (ix1 r) k = ix2 r k := Mm.idx2 rfl rfl
theorem i32 (r : Fin 4096) (s : Fin 1024) : idx_main_v32 (ix2 r s) = ix1 r := ValueIdx.eq_ix1 _
theorem i40 (r : Fin 4096) (k : Fin 1024) : idx_main_v40 (ix1 r) k = ix2 r k := Mm.idx2 rfl rfl
theorem i41 (r : Fin 4096) (s : Fin 1) : idx_main_v41 (ix2 r s) = ix1 r := ValueIdx.eq_ix1 _
theorem i50 (r : Fin 4096) (s : Fin 1024) : idx_main_v50 (ix2 r s) = ix2 r 0 := Mm.idx2 rfl rfl
theorem i52 (r : Fin 1) (s : Fin 1024) : idx_main_v52 (ix2 r s) = ix1 s := ValueIdx.eq_ix1 _
theorem i53 (r : Fin 4096) (s : Fin 1024) : idx_main_v53 (ix2 r s) = ix2 0 s := Mm.idx2 rfl rfl
theorem i56 (r : Fin 1024) (k : Fin 4096) : idx_main_v56 (ix1 r) k = ix2 k r := Mm.idx2 rfl rfl
theorem i57 (r : Fin 1) (s : Fin 1024) : idx_main_v57 (ix2 r s) = ix1 s := Norm.idx1 (by show r.val * 1024 + s.val = s.val; omega)
theorem i58 (r : Fin 4096) (s : Fin 1024) : idx_main_v58 (ix2 r s) = ix2 0 s := Mm.idx2 rfl rfl
theorem i60 (r : Fin 1024) (k : Fin 1) : idx_main_v60 (ix1 r) k = ix2 k r := Mm.idx2 rfl rfl
theorem i62 (r : Fin 4096) (k : Fin 1024) : idx_main_v62 (ix1 r) k = ix2 r k := Mm.idx2 rfl rfl
theorem i63 (r : Fin 4096) (s : Fin 1) : idx_main_v63 (ix2 r s) = ix1 r := Norm.idx1 (by show r.val * 1 + s.val = r.val; omega)
theorem i64 (r : Fin 4096) (s : Fin 1024) : idx_main_v64 (ix2 r s) = ix2 r 0 := Mm.idx2 rfl rfl
theorem i69 (r : Fin 4096) (k : Fin 1) : idx_main_v69 (ix1 r) k = ix2 r k := Mm.idx2 rfl rfl
theorem i70 (r : Fin 4096) (s : Fin 1024) : idx_main_v70 (ix2 r s) = ix1 r := ValueIdx.eq_ix1 _
theorem i75 (r : Fin 1) (s : Fin 1024) : idx_main_v75 (ix2 r s) = ix1 s := Norm.idx1 (by show r.val * 1024 + s.val = s.val; omega)
theorem i77 (r : Fin 1) (s : Fin 1024) : idx_main_v77 (ix2 r s) = ix1 s := Norm.idx1 (by show r.val * 1024 + s.val = s.val; omega)

theorem ref6 (x0 x1 : Vec Ideal S4096x1024 .f32) (x2 : Vec Ideal S1024 .f32) (x3 x4 : Vec Ideal S4096x1024 .bf16) (x5 : Vec Ideal S1024 .f32) :
    val_main_v37 (F := Ideal) x0 x1 x2 x3 = Kernel40Ideal.Nrm.G6 x0 x1 x2 x3 x4 x5 := by
  funext i
  obtain ⟨r, s, rfl⟩ := Mm.ex2 4096 1024 i
  simp only [val_main_v0_apply, val_main_cst_apply, val_main_v1_apply, val_main_v2_apply, val_main_cst_0_apply, val_main_v3_apply, val_main_v4_apply, val_main_cst_1_apply, val_main_v5_apply, val_main_v6_apply, val_main_v7_apply, val_main_v8_apply, val_main_cst_2_apply, val_main_v9_apply, val_main_v10_apply, val_main_v13_apply, val_main_v16_apply, val_main_v20_apply, val_main_v21_apply, val_main_v23_apply, val_main_cst_5_apply, val_main_v24_apply, val_main_v25_apply, val_main_v26_apply, val_main_v27_apply, val_main_v28_apply, val_main_cst_6_apply, val_main_v29_apply, val_main_v30_apply, val_main_cst_7_apply, val_main_v31_apply, val_main_v32_apply, val_main_v33_apply, val_main_v34_apply, val_main_v35_apply, val_main_v36_apply, val_main_v37_apply, i1, i2, i13, i20, i24, i25, i26, i31, i32, Ideal.mulf_def, Ideal.addf_def, Ideal.hostDivf_def, Ideal.hostUnary_rsqrt_def, Norm.zero_bits, zero_add, Fin.sum_univ_one]
  exact congrArg (x0 (ix2 r s) + ·) (Norm.bwd_eq (Norm.row x1 r) (fun k => x3 (ix2 r k) * x2 (ix1 k)) s)

theorem ref7 (x0 x1 : Vec Ideal S4096x1024 .f32) (x2 : Vec Ideal S1024 .f32) (x3 x4 : Vec Ideal S4096x1024 .bf16) (x5 : Vec Ideal S1024 .f32) :
    val_main_v75 (F := Ideal) x1 x3 = Kernel40Ideal.Nrm.G7 x0 x1 x2 x3 x4 x5 := by
  funext i
  obtain ⟨r, s, rfl⟩ := Mm.ex2 1 1024 i
  simp only [val_main_v0_apply, val_main_cst_apply, val_main_v1_apply, val_main_v2_apply, val_main_cst_0_apply, val_main_v3_apply, val_main_v4_apply, val_main_cst_1_apply, val_main_v5_apply, val_main_v6_apply, val_main_v7_apply, val_main_v11_apply, val_main_v12_apply, val_main_v16_apply, val_main_v17_apply, val_main_cst_3_apply, val_main_v18_apply, val_main_v19_apply, val_main_cst_4_apply, val_main_v22_apply, val_main_v75_apply, i1, i2, i11, i18, i19, i22, i75, Ideal.mulf_def, Ideal.addf_def, Ideal.hostDivf_def, Ideal.hostUnary_rsqrt_def, Norm.zero_bits, zero_add, Fin.sum_univ_one]
  refine (Finset.sum_congr rfl fun l _ => mul_comm _ _)

theorem ref8 (x0 x1 : Vec Ideal S4096x1024 .f32) (x2 : Vec Ideal S1024 .f32) (x3 x4 : Vec Ideal S4096x1024 .bf16) (x5 : Vec Ideal S1024 .f32) :
    val_main_v76 (F := Ideal) x0 x1 x2 x3 x4 x5 = Kernel40Ideal.Nrm.G8 x0 x1 x2 x3 x4 x5 := by
  funext i
  obtain ⟨r, s, rfl⟩ := Mm.ex2 4096 1024 i
  simp only [val_main_v0_apply, val_main_cst_apply, val_main_v1_apply, val_main_v2_apply, val_main_cst_0_apply, val_main_v3_apply, val_main_v4_apply, val_main_cst_1_apply, val_main_v5_apply, val_main_v6_apply, val_main_v7_apply, val_main_v8_apply, val_main_cst_2_apply, val_main_v9_apply, val_main_v10_apply, val_main_v13_apply, val_main_v16_apply, val_main_v20_apply, val_main_v21_apply, val_main_v23_apply, val_main_cst_5_apply, val_main_v24_apply, val_main_v25_apply, val_main_v26_apply, val_main_v27_apply, val_main_v28_apply, val_main_cst_6_apply, val_main_v29_apply, val_main_v30_apply, val_main_cst_7_apply, val_main_v31_apply, val_main_v32_apply, val_main_v33_apply, val_main_v34_apply, val_main_v35_apply, val_main_v36_apply, val_main_v37_apply, val_main_v38_apply, val_main_v39_apply, val_main_cst_8_apply, val_main_v40_apply, val_main_v41_apply, val_main_cst_9_apply, val_main_v42_apply, val_main_v43_apply, val_main_cst_10_apply, val_main_v44_apply, val_main_v45_apply, val_main_v46_apply, val_main_v47_apply, val_main_cst_11_apply, val_main_v48_apply, val_main_v49_apply, val_main_v52_apply, val_main_v58_apply, val_main_v59_apply, val_main_v61_apply, val_main_cst_14_apply, val_main_v62_apply, val_main_v63_apply, val_main_v64_apply, val_main_v65_apply, val_main_v66_apply, val_main_cst_15_apply, val_main_v67_apply, val_main_v68_apply, val_main_cst_16_apply, val_main_v69_apply, val_main_v70_apply, val_main_v71_apply, val_main_v72_apply, val_main_v73_apply, val_main_v74_apply, val_main_v76_apply, i1, i2, i13, i20, i24, i25, i26, i31, i32, i40, i41, i52, i58, i62, i63, i64, i69, i70, Ideal.mulf_def, Ideal.addf_def, Ideal.hostDivf_def, Ideal.hostUnary_rsqrt_def, Norm.zero_bits, zero_add, Fin.sum_univ_one]
  show Norm.bwdRef (Norm.row x4 r) (fun k => (x0 (ix2 r k) + Norm.bwdRef (Norm.row x1 r) (fun j => x3 (ix2 r j) * x2 (ix1 j)) k) * x5 (ix1 k)) s = _
  rw [Norm.bwd_eq]
  exact congrArg (fun w => Norm.bwd (Norm.row x4 r) w s) (funext fun k => congrArg (· * x5 (ix1 k))
    (Kernel40Ideal.Nrm.E6_eq (Norm.row x0 r) (Norm.row x1 r) (Norm.vec x2) (Norm.row x3 r) (Norm.row x4 r) (Norm.vec x5) k))

theorem ref9 (x0 x1 : Vec Ideal S4096x1024 .f32) (x2 : Vec Ideal S1024 .f32) (x3 x4 : Vec Ideal S4096x1024 .bf16) (x5 : Vec Ideal S1024 .f32) :
    val_main_v77 (F := Ideal) x0 x1 x2 x3 x4 = Kernel40Ideal.Nrm.G9 x0 x1 x2 x3 x4 x5 := by
  funext i
  obtain ⟨r, s, rfl⟩ := Mm.ex2 1 1024 i
  simp only [val_main_v0_apply, val_main_cst_apply, val_main_v1_apply, val_main_v2_apply, val_main_cst_0_apply, val_main_v3_apply, val_main_v4_apply, val_main_cst_1_apply, val_main_v5_apply, val_main_v6_apply, val_main_v7_apply, val_main_v8_apply, val_main_cst_2_apply, val_main_v9_apply, val_main_v10_apply, val_main_v13_apply, val_main_v16_apply, val_main_v20_apply, val_main_v21_apply, val_main_v23_apply, val_main_cst_5_apply, val_main_v24_apply, val_main_v25_apply, val_main_v26_apply, val_main_v27_apply, val_main_v28_apply, val_main_cst_6_apply, val_main_v29_apply, val_main_v30_apply, val_main_cst_7_apply, val_main_v31_apply, val_main_v32_apply, val_main_v33_apply, val_main_v34_apply, val_main_v35_apply, val_main_v36_apply, val_main_v37_apply, val_main_v38_apply, val_main_v39_apply, val_main_cst_8_apply, val_main_v40_apply, val_main_v41_apply, val_main_cst_9_apply, val_main_v42_apply, val_main_v43_apply, val_main_cst_10_apply, val_main_v44_apply, val_main_v45_apply, val_main_v46_apply, val_main_v50_apply, val_main_v51_apply, val_main_v55_apply, val_main_cst_12_apply, val_main_v56_apply, val_main_v57_apply, val_main_cst_13_apply, val_main_v60_apply, val_main_v77_apply, i1, i2, i13, i20, i24, i25, i26, i31, i32, i40, i41, i50, i56, i57, i60, i77, Ideal.mulf_def, Ideal.addf_def, Ideal.hostDivf_def, Ideal.hostUnary_rsqrt_def, Norm.zero_bits, zero_add, Fin.sum_univ_one]
  refine Finset.sum_congr rfl fun l _ => (mul_comm _ _).trans ?_
  exact congrArg (· * (x4 (ix2 l s) * Norm.inv (Norm.row x4 l)))
    (Kernel40Ideal.Nrm.E6_eq (Norm.row x0 l) (Norm.row x1 l) (Norm.vec x2) (Norm.row x3 l) (Norm.row x4 l) (Norm.vec x5) s)

end Cert.Reference40Ideal.Nrm

namespace Cert.Proof.K40
open Idealize ShloMosaic SL.Sem

/-- The reference ends. -/
theorem frameRef : quiescent_Reference40Ideal := fun m ρ _ =>
  (θ_run Reference40Ideal.defs _ _).mono (fun r h => ⟨fun c => (h c).2.2.2.2, sem_eq_zero_of_no_sems (by decide) r.2⟩)
    (Reference40Ideal.Value.run m ρ)

/-- The call's results are the reference's. -/
theorem algebraic : algebraic_Kernel40Ideal_Reference40Ideal := by
  intro m ρ m' ρ' hpre hargs
  refine ⟨_, _, _, _, Kernel40Ideal.Nrm.run m ρ, (θ_run Reference40Ideal.defs _ _).mono (fun r h c => ?_)
    (Reference40Ideal.Value.run m' ρ')⟩
  obtain ⟨h0, h1, h2, h3, hk⟩ := h c
  obtain ⟨e0, e1, e2, e3, e4, e5⟩ := hargs c
  refine ⟨?_, ?_, ?_, ?_, hk⟩
  · refine h0.trans ((Reference40Ideal.Read.val_main_v37_eq _ _ _ _).trans ?_)
    rw [e0, e1, e2, e3]
    exact Reference40Ideal.Nrm.ref6 _ _ _ _ (m ((c.tc : Thread Kernel40Ideal.nD Kernel40Ideal.τ).loc Kernel40Ideal.main_arg4)) (m ((c.tc : Thread Kernel40Ideal.nD Kernel40Ideal.τ).loc Kernel40Ideal.main_arg5))
  · refine h1.trans ((Reference40Ideal.Read.val_main_v75_eq _ _).trans ?_)
    rw [e1, e3]
    exact Reference40Ideal.Nrm.ref7 (m ((c.tc : Thread Kernel40Ideal.nD Kernel40Ideal.τ).loc Kernel40Ideal.main_arg0)) _ (m ((c.tc : Thread Kernel40Ideal.nD Kernel40Ideal.τ).loc Kernel40Ideal.main_arg2)) _ (m ((c.tc : Thread Kernel40Ideal.nD Kernel40Ideal.τ).loc Kernel40Ideal.main_arg4)) (m ((c.tc : Thread Kernel40Ideal.nD Kernel40Ideal.τ).loc Kernel40Ideal.main_arg5))
  · refine h2.trans ((Reference40Ideal.Read.val_main_v76_eq m' c).trans ?_)
    rw [e0, e1, e2, e3, e4, e5]
    exact Reference40Ideal.Nrm.ref8 _ _ _ _ _ _
  · refine h3.trans ((Reference40Ideal.Read.val_main_v77_eq m' c).trans ?_)
    rw [e0, e1, e2, e3, e4]
    exact Reference40Ideal.Nrm.ref9 _ _ _ _ _ (m ((c.tc : Thread Kernel40Ideal.nD Kernel40Ideal.τ).loc Kernel40Ideal.main_arg5))

end Cert.Proof.K40
-- ==== Proof.Norm.K41.lean ====
/-
  The gradient of the first layer's normalisation, added to the gradient of the residual stream.
-/
module

public import proofs.«01_k».proof.Proof.Gen.Kernel41.Frame
public import proofs.«01_k».proof.Proof.Gen.Kernel41Ideal.Value
public import proofs.«01_k».proof.Proof.Gen.Reference41Ideal.Read
public import proofs.«01_k».proof.Proof.Mm.Sum
public import proofs.«01_k».proof.Proof.Norm.Row

@[expose] public section

noncomputable section

namespace Cert.Kernel41Ideal.Nrm

open Kernel41Ideal Kernel41Ideal.Gen Idealize ShloMosaic ShloMosaic.TcCoe SL.Sem

/-- The gradient of one row of the residual stream. -/
def E4 (v0 v1 v2 v3 : Fin 1024 → EReal) (s : Fin 1024) : EReal := v0 s + Norm.bwd v1 (fun k => v3 k * v2 k) s

/-- The gradient of the residual stream. -/
def G4 (X0 X1 : Vec Ideal S4096x1024 .f32) (X2 : Vec Ideal S1024 .f32) (X3 : Vec Ideal S4096x1024 .bf16) : Vec Ideal S4096x1024 .f32 := fun i =>
  E4 (Norm.row X0 ⟨(i 0).val, (i 0).isLt⟩) (Norm.row X1 ⟨(i 0).val, (i 0).isLt⟩) (Norm.vec X2) (Norm.row X3 ⟨(i 0).val, (i 0).isLt⟩) ⟨(i 1).val, (i 1).isLt⟩

/-- What one row adds to the gradient of the scale. -/
def E5 (v0 v1 v2 v3 : Fin 1024 → EReal) (s : Fin 1024) : EReal := v3 s * (v1 s * Norm.inv v1)

/-- The gradient of the scale. -/
def G5 (X0 X1 : Vec Ideal S4096x1024 .f32) (X2 : Vec Ideal S1024 .f32) (X3 : Vec Ideal S4096x1024 .bf16) : Vec Ideal S1x1024 .f32 := fun i =>
  ∑ l : Fin 4096, E5 (Norm.row X0 l) (Norm.row X1 l) (Norm.vec X2) (Norm.row X3 l) ⟨(i 1).val, (i 1).isLt⟩

/-! ## One block -/

theorem pay4_at (x0 x1 : Vec Ideal S512x1024 .f32) (x2 : Vec Ideal S1x1024 .f32) (x3 : Vec Ideal S512x1024 .bf16) (r : Fin 512) (s : Fin 1024) :
    k0_pay6 x0 x1 x2 x3 (ix2 r s) = E4 (Norm.row x0 r) (Norm.row x1 r) (Norm.row x2 0) (Norm.row x3 r) s := by
  simp only [k0_pay6, k0_pay4, k0_pay3, k0_pay2, pointwise, Nat.reduceEqDiff, ↓reduceDIte]
  rfl

theorem pay5_at (acc : Vec Ideal S1x1024 .f32) (x0 x1 : Vec Ideal S512x1024 .f32) (x2 : Vec Ideal S1x1024 .f32) (x3 : Vec Ideal S512x1024 .bf16) (s : Fin 1024) :
    k0_pay1 (k0_pay5 x1 x3) acc (ix2 0 s) = acc (ix2 0 s) + ∑ r : Fin 512, E5 (Norm.row x0 r) (Norm.row x1 r) (Norm.row x2 0) (Norm.row x3 r) s := by
  simp only [k0_pay1, k0_pay5, k0_pay4, k0_pay3, k0_pay2, pointwise, Nat.reduceEqDiff, ↓reduceDIte]
  rfl

section
variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1x1024 .f32) (harg6 : arg6.IsWhole) (x0 x1 : Vec Ideal S512x1024 .f32) (x2 : Vec Ideal S1x1024 .f32) (x3 : Vec Ideal S512x1024 .bf16) (xo5 : Vec Ideal S1x1024 .f32)

theorem out_A_4 (hc0 : cond0_0 i) :
    out0_A_4 c i arg1 harg1 arg2 harg2 arg3 harg3 arg4 harg4 arg5 harg5 arg6 harg6 hc0 x0 x1 x2 x3 = k0_pay6 x0 x1 x2 x3 := by
  unfold out0_A_4
  rw [View.read_writes_eq_canon _ _ _ (fun _ => cover0_A_4 ..)]
  unfold kernelRun0_A
  dsimp only
  sl_unfold_words
  rw [View.canon_unit_zero Mm.zero2]
  simp only [View.readAt_eq_ld, Memref.IsWhole.read_unread, View.ld_unit_zero (S := S1x1024) Mm.zero2, View.ld_unit_zero (S := S512x1024) Mm.zero2]

theorem out_A_5 (hc0 : cond0_0 i) :
    out0_A_5 c i arg1 harg1 arg2 harg2 arg3 harg3 arg4 harg4 arg5 harg5 arg6 harg6 hc0 x0 x1 x2 x3 = k0_pay1 (k0_pay5 x1 x3) (k0_pay7 (F := Ideal)) := by
  unfold out0_A_5
  rw [View.read_writes_eq_canon _ _ _ (fun _ => cover0_A_5 ..)]
  unfold kernelRun0_A
  dsimp only
  sl_unfold_words
  rw [View.canon_cons_unit_zero (S := S1x1024) Mm.zero2, View.readCov_unit_zero (S := S1x1024) _ Mm.zero2]
  simp only [View.readAt_eq_ld, Memref.IsWhole.read_unread, View.ld_unit_zero (S := S1x1024) Mm.zero2, View.ld_unit_zero (S := S512x1024) Mm.zero2]

theorem out_B_4 (hc0 : ¬cond0_0 i) :
    out0_B_4 c i arg1 harg1 arg2 harg2 arg3 harg3 arg4 harg4 arg5 harg5 arg6 harg6 hc0 x0 x1 x2 x3 xo5 = k0_pay6 x0 x1 x2 x3 := by
  unfold out0_B_4
  rw [View.read_writes_eq_canon _ _ _ (fun _ => cover0_B_4 ..)]
  unfold kernelRun0_B
  dsimp only
  sl_unfold_words
  rw [View.canon_unit_zero Mm.zero2]
  simp only [View.readAt_eq_ld, Memref.IsWhole.read_unread, View.ld_unit_zero (S := S1x1024) Mm.zero2, View.ld_unit_zero (S := S512x1024) Mm.zero2]

theorem out_B_5 (hc0 : ¬cond0_0 i) :
    out0_B_5 c i arg1 harg1 arg2 harg2 arg3 harg3 arg4 harg4 arg5 harg5 arg6 harg6 hc0 x0 x1 x2 x3 xo5 = k0_pay1 (k0_pay5 x1 x3) xo5 := by
  unfold out0_B_5
  rw [View.read_writes_eq_canon _ _ _ (fun _ => cover0_B_5 ..)]
  unfold kernelRun0_B
  dsimp only
  sl_unfold_words
  rw [View.canon_unit_zero Mm.zero2]
  simp only [View.readAt_eq_ld, Memref.IsWhole.read_unread, View.ld_unit_zero (S := S1x1024) Mm.zero2, View.ld_unit_zero (S := S512x1024) Mm.zero2]

end

/-! ## The blocks of the arguments -/

variable (m : (ℓ : Loc nD τ sig) → Buf (Elt Ideal) ℓ)

abbrev a0 (c : Dev nD) : Vec Ideal S4096x1024 .f32 := m (c.tc.loc main_arg0)
abbrev a1 (c : Dev nD) : Vec Ideal S4096x1024 .f32 := m (c.tc.loc main_arg1)
abbrev a2 (c : Dev nD) : Vec Ideal S1024 .f32 := m (c.tc.loc main_arg2)
abbrev a3 (c : Dev nD) : Vec Ideal S4096x1024 .bf16 := m (c.tc.loc main_arg3)

theorem idx_facts : ∀ t : Fin grid0.N, win0_0.index t 0 = t.val ∧ win0_0.index t 1 = 0 ∧ win0_1.index t 0 = t.val ∧ win0_1.index t 1 = 0 ∧ win0_2.index t 0 = 0 ∧ win0_2.index t 1 = 0 ∧ win0_3.index t 0 = t.val ∧ win0_3.index t 1 = 0 ∧ win0_4.index t 0 = t.val ∧ win0_4.index t 1 = 0 ∧ win0_5.index t 0 = 0 ∧ win0_5.index t 1 = 0 := by decide +kernel

/-- Row `r` of the rows that grid point `t` works on. -/
def gr (t : Fin cfg0.N) (r : Fin 512) : Fin 4096 :=
  ⟨512 * t.val + r.val, by have := lt_of_lt_of_eq t.isLt (show cfg0.N = 8 from N_0); omega⟩

theorem blk0_at (c : Dev nD) (t : Fin cfg0.N) (r : Fin 512) :
    Norm.row (a := 512) (b := 1024) (iblk m c 0 t) r = Norm.row (a := 4096) (b := 1024) (a0 m c) (gr t r) := by
  obtain ⟨q00, q01, -⟩ := idx_facts t
  funext s
  unfold iblk Norm.row
  rw [View.read_apply]
  refine (congrFun (V_main_arg0 m c) _).trans (congrArg _ (Mm.idx2 (Mm.at' 512 r.val (512 * t.val + r.val) q00 (by omega)) (Mm.at' 1024 s.val s.val q01 (by omega))))

theorem blk1_at (c : Dev nD) (t : Fin cfg0.N) (r : Fin 512) :
    Norm.row (a := 512) (b := 1024) (iblk m c 1 t) r = Norm.row (a := 4096) (b := 1024) (a1 m c) (gr t r) := by
  obtain ⟨-, -, q10, q11, -⟩ := idx_facts t
  funext s
  unfold iblk Norm.row
  rw [View.read_apply]
  refine (congrFun (V_main_arg1 m c) _).trans (congrArg _ (Mm.idx2 (Mm.at' 512 r.val (512 * t.val + r.val) q10 (by omega)) (Mm.at' 1024 s.val s.val q11 (by omega))))

theorem V_main_v0 (c : Dev nD) (k : Fin 1024) : V m c main_v0 (ix2 0 k) = m (c.tc.loc main_arg2) (ix1 k) := by
  entry_read
  refine shapeCast_apply _ _ _ _ ?_
  show (S1024.rowMajor (ix1 k)).val = (S1x1024.rowMajor (ix2 0 k)).val
  rewrite [Shape.rowMajor_val_one, Shape.rowMajor_val_two]
  show k.val = 0 * 1024 + k.val
  omega

theorem blk2_at (c : Dev nD) (t : Fin cfg0.N) :
    Norm.row (a := 1) (b := 1024) (iblk m c 2 t) 0 = Norm.vec (b := 1024) (a2 m c) := by
  obtain ⟨-, -, -, -, q20, q21, -⟩ := idx_facts t
  funext s
  unfold iblk Norm.row Norm.vec
  rw [View.read_apply]
  show V m c main_v0 _ = _
  refine Eq.trans ?_ (V_main_v0 m c s)
  congr 1
  refine Mm.idx2 ?_ ?_
  · show win0_2.index t 0 * 1 + 1 * 0 = 0; rw [q20]
  · exact Mm.at' 1024 s.val s.val q21 (by omega)

theorem blk3_at (c : Dev nD) (t : Fin cfg0.N) (r : Fin 512) :
    Norm.row (a := 512) (b := 1024) (iblk m c 3 t) r = Norm.row (a := 4096) (b := 1024) (a3 m c) (gr t r) := by
  obtain ⟨-, -, -, -, -, -, q30, q31, -⟩ := idx_facts t
  funext s
  unfold iblk Norm.row
  rw [View.read_apply]
  refine (congrFun (V_main_arg3 m c) _).trans (congrArg _ (Mm.idx2 (Mm.at' 512 r.val (512 * t.val + r.val) q30 (by omega)) (Mm.at' 1024 s.val s.val q31 (by omega))))

/-! ## The results -/

theorem outs4 (c : Dev nD) (t : Fin cfg0.N) : (outsAt0 m c t.val t.isLt).1 = k0_pay6 (iblk m c 0 t) (iblk m c 1 t) (iblk m c 2 t) (iblk m c 3 t) := by
  by_cases h : t.val % 8 = 0
  · rw [outsAt0_A m c t h]
    dsimp only
    rw [out_A_4]
  · rw [outsAt0_B m c t h]
    dsimp only
    rw [out_B_4]

theorem flushed4 (c : Dev nD) (t : Fin cfg0.N) :
    (dats m 0 c).flushed 4 t = ((cfg0.win 4).blk t).view.read (Elt Ideal) (G4 (a0 m c) (a1 m c) (a2 m c) (a3 m c)) := by
  obtain ⟨-, -, -, -, -, -, -, -, q40, q41, -⟩ := idx_facts t
  rw [Value.flushed4, outs4]
  funext y
  obtain ⟨r, s, rfl⟩ := Mm.ex2 512 1024 y
  rw [View.read_apply]
  refine (pay4_at (iblk m c 0 t) (iblk m c 1 t) (iblk m c 2 t) (iblk m c 3 t) r s).trans ?_
  have e : ((cfg0.win 4).blk t).view.emb (ix2 r s) = ix2 (gr t r) s := Mm.idx2
    (Mm.at' 512 r.val (512 * t.val + r.val) q40 (by omega))
    (Mm.at' 1024 s.val s.val q41 (by omega))
  rw [e, blk0_at m c t, blk1_at m c t, blk2_at m c t, blk3_at m c t]
  rfl

theorem final4 (c : Dev nD) : (dats m 0 c).arrAt 4 cfg0.N = G4 (a0 m c) (a1 m c) (a2 m c) (a3 m c) :=
  (dats m 0 c).arrAt_eq_of_cover 4 _ (fun t _ => flushed4 m c t) fun i => by
    have h1 : (i 0 : Nat) < 4096 := (i 0).isLt
    have h2 : (i 1 : Nat) < 1024 := (i 1).isLt
    have hN : cfg0.N = 8 := N_0
    obtain ⟨t, ht⟩ : ∃ t : Fin cfg0.N, t.val = (i 0 : Nat) / 512 := ⟨⟨(i 0 : Nat) / 512, by omega⟩, rfl⟩
    obtain ⟨-, -, -, -, -, -, -, -, q40, q41, -⟩ := idx_facts t
    exact ⟨t, flush0_4 t, Mm.memv (Mm.mem2 512 1024 q40 q41 (by omega) (by omega))⟩

/-- What row `l` adds. -/
def term5 (c : Dev nD) (s : Fin 1024) (l : Fin 4096) : EReal := E5 (Norm.row (a := 4096) (b := 1024) (a0 m c) l) (Norm.row (a := 4096) (b := 1024) (a1 m c) l) (Norm.vec (b := 1024) (a2 m c)) (Norm.row (a := 4096) (b := 1024) (a3 m c) l) s

theorem step5 (c : Dev nD) (t : Fin cfg0.N) (acc : Vec Ideal S1x1024 .f32) (s : Fin 1024) (e : EReal) (ha : acc (ix2 0 s) = e) :
    k0_pay1 (k0_pay5 (iblk m c 1 t) (iblk m c 3 t)) acc (ix2 0 s) = e + Norm.blk (term5 m c s) t.val := by
  rw [pay5_at acc (iblk m c 0 t) (iblk m c 1 t) (iblk m c 2 t) (iblk m c 3 t) s, ha]
  simp only [blk0_at m c t]
  simp only [blk1_at m c t]
  rw [blk2_at m c t]
  simp only [blk3_at m c t]
  refine congrArg (e + ·) (Norm.blk_eq _ _ (lt_of_lt_of_eq t.isLt (show cfg0.N = 8 from N_0)) _ fun r => ?_)
  rfl

theorem outs5 (c : Dev nD) (s : Fin 1024) : ∀ (k : ℕ) (h : k < cfg0.N),
    (outsAt0 m c k h).2 (ix2 0 s) = Norm.part (term5 m c s) (k + 1)
  | 0, h => by
    rw [outsAt0_A m c ⟨0, h⟩ rfl]
    dsimp only
    rw [out_A_5]
    refine (step5 m c ⟨0, h⟩ _ s 0 Ideal.ofBits_zero_f32).trans ?_
    rw [zero_add, Norm.part_one]
  | k + 1, h => by
    have hN : cfg0.N = 8 := N_0
    have hB : ¬(⟨k + 1, h⟩ : Fin cfg0.N).val % 8 = 0 := by dsimp only; omega
    rw [outsAt0_B m c ⟨k + 1, h⟩ hB]
    dsimp only
    rw [out_B_5]
    refine (step5 m c ⟨k + 1, h⟩ _ s _ (outs5 c s k _)).trans ?_
    rw [← Norm.part_succ]

theorem flushed5 (c : Dev nD) (t : Fin cfg0.N) (hf : (cfg0.win 5).flush t = true) :
    (dats m 0 c).flushed 5 t = ((cfg0.win 5).blk t).view.read (Elt Ideal) (G5 (a0 m c) (a1 m c) (a2 m c) (a3 m c)) := by
  obtain ⟨-, -, -, -, -, -, -, -, -, -, q50, q51⟩ := idx_facts t
  have h7 : t.val = 7 := by
    have := (flush0_5 t).mp hf
    have := lt_of_lt_of_eq t.isLt (show cfg0.N = 8 from N_0)
    omega
  rw [Value.flushed5]
  funext y
  obtain ⟨r, s, rfl⟩ := Mm.ex2 1 1024 y
  obtain rfl : r = 0 := Subsingleton.elim _ _
  rw [View.read_apply]
  have e : ((cfg0.win 5).blk t).view.emb (ix2 0 s) = ix2 0 s := Mm.idx2
    (by show win0_5.index t 0 * 1 + 1 * 0 = 0; rw [q50])
    (Mm.at' 1024 s.val s.val q51 (by omega))
  rw [e]
  show (outsAt0 m c t.val t.isLt).2 (ix2 0 s) = _
  rw [outs5 m c s t.val t.isLt, h7, Norm.part_all]
  rfl

theorem final5 (c : Dev nD) : (dats m 0 c).arrAt 5 cfg0.N = G5 (a0 m c) (a1 m c) (a2 m c) (a3 m c) :=
  (dats m 0 c).arrAt_eq_of_cover 5 _ (flushed5 m c) fun i => by
    have h1 : (i 0 : Nat) < 1 := (i 0).isLt
    have h2 : (i 1 : Nat) < 1024 := (i 1).isLt
    have hN : cfg0.N = 8 := N_0
    obtain ⟨t, ht⟩ : ∃ t : Fin cfg0.N, t.val = 7 := ⟨⟨7, by omega⟩, rfl⟩
    obtain ⟨-, -, -, -, -, -, -, -, -, -, q50, q51⟩ := idx_facts t
    refine ⟨t, (flush0_5 t).mpr (by omega), ?_⟩
    show i ∈ ((View.whole main_v1_1).slice (win0_5.rect t)).set
    rw [View.set_slice_whole]
    exact Mm.mem2 1 1024 q50 q51 (by omega) (by omega)

/-- What every run ends with. -/
theorem run (ρ : Dev nD → PrngReg) : θ_run defs (onTc (τ := τ) (main (F := Ideal))) ⟨m, fun _ => 0, ρ⟩ fun r => ∀ c : Dev nD,
      r.2.mem (c.tc.loc main_v1_0) = G4 (a0 m c) (a1 m c) (a2 m c) (a3 m c)
      ∧ r.2.mem (c.tc.loc main_v1_1) = G5 (a0 m c) (a1 m c) (a2 m c) (a3 m c) ∧ Mm.kept m r.2.mem c main_arg0 ∧ Mm.kept m r.2.mem c main_arg1 ∧ Mm.kept m r.2.mem c main_arg2 ∧ Mm.kept m r.2.mem c main_arg3 :=
  (θ_run defs _ _).mono (fun _ h c => ⟨((h c).1.trans (final4 m c)), ((h c).2.1.trans (final5 m c)), (h c).2.2⟩) (Value.run_blocks m ρ)

end Cert.Kernel41Ideal.Nrm

namespace Cert.Reference41Ideal.Nrm

open Reference41Ideal Reference41Ideal.Read Idealize ShloMosaic ShloMosaic.TcCoe SL.Sem

/-! ## The reference's result, entry by entry -/

theorem i1 (r : Fin 4096) (k : Fin 1024) : idx_main_v1 (ix1 r) k = ix2 r k := Mm.idx2 rfl rfl
theorem i2 (r : Fin 4096) (s : Fin 1) : idx_main_v2 (ix2 r s) = ix1 r := ValueIdx.eq_ix1 _
theorem i11 (r : Fin 4096) (s : Fin 1024) : idx_main_v11 (ix2 r s) = ix2 r 0 := Mm.idx2 rfl rfl
theorem i13 (r : Fin 1) (s : Fin 1024) : idx_main_v13 (ix2 r s) = ix1 s := ValueIdx.eq_ix1 _
theorem i14 (r : Fin 4096) (s : Fin 1024) : idx_main_v14 (ix2 r s) = ix2 0 s := Mm.idx2 rfl rfl
theorem i18 (r : Fin 1024) (k : Fin 4096) : idx_main_v18 (ix1 r) k = ix2 k r := Mm.idx2 rfl rfl
theorem i19 (r : Fin 1) (s : Fin 1024) : idx_main_v19 (ix2 r s) = ix1 s := Norm.idx1 (by show r.val * 1024 + s.val = s.val; omega)
theorem i20 (r : Fin 4096) (s : Fin 1024) : idx_main_v20 (ix2 r s) = ix2 0 s := Mm.idx2 rfl rfl
theorem i22 (r : Fin 1024) (k : Fin 1) : idx_main_v22 (ix1 r) k = ix2 k r := Mm.idx2 rfl rfl
theorem i24 (r : Fin 4096) (k : Fin 1024) : idx_main_v24 (ix1 r) k = ix2 r k := Mm.idx2 rfl rfl
theorem i25 (r : Fin 4096) (s : Fin 1) : idx_main_v25 (ix2 r s) = ix1 r := Norm.idx1 (by show r.val * 1 + s.val = r.val; omega)
theorem i26 (r : Fin 4096) (s : Fin 1024) : idx_main_v26 (ix2 r s) = ix2 r 0 := Mm.idx2 rfl rfl
theorem i31 (r : Fin 4096) (k : Fin 1) : idx_main_v31 (ix1 r) k = ix2 r k := Mm.idx2 rfl rfl
theorem i32 (r : Fin 4096) (s : Fin 1024) : idx_main_v32 (ix2 r s) = ix1 r := ValueIdx.eq_ix1 _
theorem i38 (r : Fin 1) (s : Fin 1024) : idx_main_v38 (ix2 r s) = ix1 s := Norm.idx1 (by show r.val * 1024 + s.val = s.val; omega)

theorem ref4 (x0 x1 : Vec Ideal S4096x1024 .f32) (x2 : Vec Ideal S1024 .f32) (x3 : Vec Ideal S4096x1024 .bf16) :
    val_main_v37 (F := Ideal) x0 x1 x2 x3 = Kernel41Ideal.Nrm.G4 x0 x1 x2 x3 := by
  funext i
  obtain ⟨r, s, rfl⟩ := Mm.ex2 4096 1024 i
  simp only [val_main_v0_apply, val_main_cst_apply, val_main_v1_apply, val_main_v2_apply, val_main_cst_0_apply, val_main_v3_apply, val_main_v4_apply, val_main_cst_1_apply, val_main_v5_apply, val_main_v6_apply, val_main_v7_apply, val_main_v8_apply, val_main_cst_2_apply, val_main_v9_apply, val_main_v10_apply, val_main_v13_apply, val_main_v16_apply, val_main_v20_apply, val_main_v21_apply, val_main_v23_apply, val_main_cst_5_apply, val_main_v24_apply, val_main_v25_apply, val_main_v26_apply, val_main_v27_apply, val_main_v28_apply, val_main_cst_6_apply, val_main_v29_apply, val_main_v30_apply, val_main_cst_7_apply, val_main_v31_apply, val_main_v32_apply, val_main_v33_apply, val_main_v34_apply, val_main_v35_apply, val_main_v36_apply, val_main_v37_apply, i1, i2, i13, i20, i24, i25, i26, i31, i32, Ideal.mulf_def, Ideal.addf_def, Ideal.hostDivf_def, Ideal.hostUnary_rsqrt_def, Norm.zero_bits, zero_add, Fin.sum_univ_one]
  exact congrArg (x0 (ix2 r s) + ·) (Norm.bwd_eq (Norm.row x1 r) (fun k => x3 (ix2 r k) * x2 (ix1 k)) s)

theorem ref5 (x0 x1 : Vec Ideal S4096x1024 .f32) (x2 : Vec Ideal S1024 .f32) (x3 : Vec Ideal S4096x1024 .bf16) :
    val_main_v38 (F := Ideal) x1 x3 = Kernel41Ideal.Nrm.G5 x0 x1 x2 x3 := by
  funext i
  obtain ⟨r, s, rfl⟩ := Mm.ex2 1 1024 i
  simp only [val_main_v0_apply, val_main_cst_apply, val_main_v1_apply, val_main_v2_apply, val_main_cst_0_apply, val_main_v3_apply, val_main_v4_apply, val_main_cst_1_apply, val_main_v5_apply, val_main_v6_apply, val_main_v7_apply, val_main_v11_apply, val_main_v12_apply, val_main_v16_apply, val_main_v17_apply, val_main_cst_3_apply, val_main_v18_apply, val_main_v19_apply, val_main_cst_4_apply, val_main_v22_apply, val_main_v38_apply, i1, i2, i11, i18, i19, i22, i38, Ideal.mulf_def, Ideal.addf_def, Ideal.hostDivf_def, Ideal.hostUnary_rsqrt_def, Norm.zero_bits, zero_add, Fin.sum_univ_one]
  refine (Finset.sum_congr rfl fun l _ => mul_comm _ _)

end Cert.Reference41Ideal.Nrm

namespace Cert.Proof.K41
open Idealize ShloMosaic SL.Sem

/-- The reference ends. -/
theorem frameRef : quiescent_Reference41Ideal := fun m ρ _ =>
  (θ_run Reference41Ideal.defs _ _).mono (fun r h => ⟨fun c => (h c).2.2, sem_eq_zero_of_no_sems (by decide) r.2⟩)
    (Reference41Ideal.Value.run m ρ)

/-- The call's results are the reference's. -/
theorem algebraic : algebraic_Kernel41Ideal_Reference41Ideal := by
  intro m ρ m' ρ' hpre hargs
  refine ⟨_, _, Kernel41Ideal.Nrm.run m ρ, (θ_run Reference41Ideal.defs _ _).mono (fun r h c => ?_)
    (Reference41Ideal.Value.run m' ρ')⟩
  obtain ⟨h0, h1, hk⟩ := h c
  obtain ⟨e0, e1, e2, e3⟩ := hargs c
  refine ⟨?_, ?_, hk⟩
  · refine h0.trans ((Reference41Ideal.Read.val_main_v37_eq _ _ _ _).trans ?_)
    rw [e0, e1, e2, e3]
    exact Reference41Ideal.Nrm.ref4 _ _ _ _
  · refine h1.trans ((Reference41Ideal.Read.val_main_v38_eq _ _).trans ?_)
    rw [e1, e3]
    exact Reference41Ideal.Nrm.ref5 (m ((c.tc : Thread Kernel41Ideal.nD Kernel41Ideal.τ).loc Kernel41Ideal.main_arg0)) _ (m ((c.tc : Thread Kernel41Ideal.nD Kernel41Ideal.τ).loc Kernel41Ideal.main_arg2)) _

end Cert.Proof.K41
-- ==== Proof.Norm.K42.lean ====
/-
  The gradient of the scale of the memory's normalisation.
-/
module

public import proofs.«01_k».proof.Proof.Gen.Kernel42.Frame
public import proofs.«01_k».proof.Proof.Gen.Kernel42Ideal.Value
public import proofs.«01_k».proof.Proof.Gen.Reference42Ideal.Read
public import proofs.«01_k».proof.Proof.Mm.Sum
public import proofs.«01_k».proof.Proof.Norm.Row

@[expose] public section

noncomputable section

namespace Cert.Kernel42Ideal.Nrm

open Kernel42Ideal Kernel42Ideal.Gen Idealize ShloMosaic ShloMosaic.TcCoe SL.Sem

/-- What one row adds. -/
def E2 (v0 v1 : Fin 1024 → EReal) (s : Fin 1024) : EReal := v1 s * v0 s * Norm.inv v0

/-- The gradient of the scale. -/
def G2 (X0 X1 : Vec Ideal S256x1024 .f32) : Vec Ideal S1x1024 .f32 := fun i =>
  ∑ l : Fin 256, E2 (Norm.row X0 l) (Norm.row X1 l) ⟨(i 1).val, (i 1).isLt⟩

/-! ## One block -/

theorem pay2_at (acc : Vec Ideal S1x1024 .f32) (x0 x1 : Vec Ideal S256x1024 .f32) (s : Fin 1024) :
    k0_pay2 x0 acc x1 (ix2 0 s) = acc (ix2 0 s) + ∑ r : Fin 256, E2 (Norm.row x0 r) (Norm.row x1 r) s := by
  simp only [k0_pay2, pointwise, Nat.reduceEqDiff, ↓reduceDIte]
  rfl

theorem out_A_2 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (hc0 : cond0_0 i) (x0 x1 : Vec Ideal S256x1024 .f32) :
    out0_A_2 c i arg1 harg1 arg2 harg2 arg3 harg3 hc0 x0 x1 = k0_pay2 x0 (k0_pay1 (F := Ideal)) x1 := by
  unfold out0_A_2
  rw [View.read_writes_eq_canon _ _ _ (fun _ => cover0_A_2 ..)]
  unfold kernelRun0_A
  dsimp only
  sl_unfold_words
  rw [View.canon_cons_unit_zero (S := S1x1024) Mm.zero2, View.readCov_unit_zero (S := S1x1024) _ Mm.zero2]
  simp only [View.readAt_eq_ld, Memref.IsWhole.read_unread, View.ld_unit_zero (S := S1x1024) Mm.zero2, View.ld_unit_zero (S := S256x1024) Mm.zero2]

/-! ## The blocks of the arguments -/

variable (m : (ℓ : Loc nD τ sig) → Buf (Elt Ideal) ℓ)

abbrev a0 (c : Dev nD) : Vec Ideal S256x1024 .f32 := m (c.tc.loc main_arg0)
abbrev a1 (c : Dev nD) : Vec Ideal S256x1024 .f32 := m (c.tc.loc main_arg1)

theorem idx_facts : ∀ t : Fin grid0.N, win0_0.index t 0 = t.val ∧ win0_0.index t 1 = 0 ∧ win0_1.index t 0 = t.val ∧ win0_1.index t 1 = 0 ∧ win0_2.index t 0 = 0 ∧ win0_2.index t 1 = 0 := by decide +kernel

/-- Row `r` of the rows that grid point `t` works on. -/
def gr (t : Fin cfg0.N) (r : Fin 256) : Fin 256 :=
  ⟨256 * t.val + r.val, by have := lt_of_lt_of_eq t.isLt (show cfg0.N = 1 from N_0); omega⟩

theorem blk0_at (c : Dev nD) (t : Fin cfg0.N) (r : Fin 256) :
    Norm.row (a := 256) (b := 1024) (iblk m c 0 t) r = Norm.row (a := 256) (b := 1024) (a0 m c) (gr t r) := by
  obtain ⟨q00, q01, -⟩ := idx_facts t
  funext s
  unfold iblk Norm.row
  rw [View.read_apply]
  show V m c main_arg0 _ = m (c.tc.loc main_arg0) _
  unfold V
  congr 1
  refine Mm.idx2 ?_ ?_
  · exact Mm.at' 256 r.val (256 * t.val + r.val) q00 (by omega)
  · exact Mm.at' 1024 s.val s.val q01 (by omega)

theorem blk1_at (c : Dev nD) (t : Fin cfg0.N) (r : Fin 256) :
    Norm.row (a := 256) (b := 1024) (iblk m c 1 t) r = Norm.row (a := 256) (b := 1024) (a1 m c) (gr t r) := by
  obtain ⟨-, -, q10, q11, -⟩ := idx_facts t
  funext s
  unfold iblk Norm.row
  rw [View.read_apply]
  show V m c main_arg1 _ = m (c.tc.loc main_arg1) _
  unfold V
  congr 1
  refine Mm.idx2 ?_ ?_
  · exact Mm.at' 256 r.val (256 * t.val + r.val) q10 (by omega)
  · exact Mm.at' 1024 s.val s.val q11 (by omega)

/-! ## The results -/

/-- What row `l` adds. -/
def term2 (c : Dev nD) (s : Fin 1024) (l : Fin 256) : EReal := E2 (Norm.row (a := 256) (b := 1024) (a0 m c) l) (Norm.row (a := 256) (b := 1024) (a1 m c) l) s

theorem flushed2 (c : Dev nD) (t : Fin cfg0.N) (hf : (cfg0.win 2).flush t = true) :
    (dats m 0 c).flushed 2 t = ((cfg0.win 2).blk t).view.read (Elt Ideal) (G2 (a0 m c) (a1 m c)) := by
  obtain ⟨-, -, -, -, q20, q21⟩ := idx_facts t
  rw [Value.flushed2_A, out_A_2]
  funext y
  obtain ⟨r, s, rfl⟩ := Mm.ex2 1 1024 y
  obtain rfl : r = 0 := Subsingleton.elim _ _
  rw [View.read_apply]
  have e : ((cfg0.win 2).blk t).view.emb (ix2 0 s) = ix2 0 s := Mm.idx2
    (by show win0_2.index t 0 * 1 + 1 * 0 = 0; rw [q20])
    (Mm.at' 1024 s.val s.val q21 (by omega))
  rw [e]
  show k0_pay2 (iblk m c 0 t) (k0_pay1 (F := Ideal)) (iblk m c 1 t) (ix2 0 s) = _
  rw [pay2_at _ (iblk m c 0 t) (iblk m c 1 t) s]
  simp only [blk0_at m c t]
  simp only [blk1_at m c t]
  have h0 : ∀ r, gr t r = r := fun r => Fin.ext (by
    show 256 * t.val + r.val = r.val
    have := lt_of_lt_of_eq t.isLt (show cfg0.N = 1 from N_0)
    omega)
  simp only [h0]
  show Ideal.ofBits .f32 0x00000000#32 + _ = _
  rw [Ideal.ofBits_zero_f32, zero_add]
  rfl

theorem final2 (c : Dev nD) : (dats m 0 c).arrAt 2 cfg0.N = G2 (a0 m c) (a1 m c) :=
  (dats m 0 c).arrAt_eq_of_cover 2 _ (flushed2 m c) fun i => by
    have h1 : (i 0 : Nat) < 1 := (i 0).isLt
    have h2 : (i 1 : Nat) < 1024 := (i 1).isLt
    have hN : cfg0.N = 1 := N_0
    obtain ⟨t, ht⟩ : ∃ t : Fin cfg0.N, t.val = 0 := ⟨⟨0, by omega⟩, rfl⟩
    obtain ⟨-, -, -, -, q20, q21⟩ := idx_facts t
    exact ⟨t, flush0_2 t, Mm.memv (Mm.mem2 1 1024 q20 q21 (by omega) (by omega))⟩

/-- What every run ends with. -/
theorem run (ρ : Dev nD → PrngReg) : θ_run defs (onTc (τ := τ) (main (F := Ideal))) ⟨m, fun _ => 0, ρ⟩ fun r => ∀ c : Dev nD,
      r.2.mem (c.tc.loc main_v0) = G2 (a0 m c) (a1 m c) ∧ Mm.kept m r.2.mem c main_arg0 ∧ Mm.kept m r.2.mem c main_arg1 :=
  (θ_run defs _ _).mono (fun _ h c => ⟨((h c).1.trans (final2 m c)), (h c).2⟩) (Value.run_blocks m ρ)

end Cert.Kernel42Ideal.Nrm

namespace Cert.Reference42Ideal.Nrm

open Reference42Ideal Reference42Ideal.Read Idealize ShloMosaic ShloMosaic.TcCoe SL.Sem

/-! ## The reference's result, entry by entry -/

theorem i2 (r : Fin 256) (k : Fin 1024) : idx_main_v2 (ix1 r) k = ix2 r k := Mm.idx2 rfl rfl
theorem i3 (r : Fin 256) (s : Fin 1) : idx_main_v3 (ix2 r s) = ix1 r := ValueIdx.eq_ix1 _
theorem i9 (r : Fin 256) (s : Fin 1024) : idx_main_v9 (ix2 r s) = ix2 r 0 := Mm.idx2 rfl rfl
theorem i11 (r : Fin 1) (s : Fin 1024) : idx_main_v11 (ix2 r s) = ix1 s := ValueIdx.eq_ix1 _
theorem i12 (r : Fin 256) (s : Fin 1024) : idx_main_v12 (ix2 r s) = ix2 0 s := Mm.idx2 rfl rfl
theorem i15 (r : Fin 1024) (k : Fin 256) : idx_main_v15 (ix1 r) k = ix2 k r := Mm.idx2 rfl rfl
theorem i16 (r : Fin 1) (s : Fin 1024) : idx_main_v16 (ix2 r s) = ix1 s := Norm.idx1 (by show r.val * 1024 + s.val = s.val; omega)
theorem i17 (r : Fin 1024) (k : Fin 1) : idx_main_v17 (ix1 r) k = ix2 k r := Mm.idx2 rfl rfl
theorem i18 (r : Fin 1) (s : Fin 1024) : idx_main_v18 (ix2 r s) = ix1 s := Norm.idx1 (by show r.val * 1024 + s.val = s.val; omega)

theorem ref2 (x0 x1 : Vec Ideal S256x1024 .f32) :
    val_main_v18 (F := Ideal) x0 x1 = Kernel42Ideal.Nrm.G2 x0 x1 := by
  funext i
  obtain ⟨r, s, rfl⟩ := Mm.ex2 1 1024 i
  simp only [val_main_v1_apply, val_main_cst_0_apply, val_main_v2_apply, val_main_v3_apply, val_main_cst_1_apply, val_main_v4_apply, val_main_v5_apply, val_main_cst_2_apply, val_main_v6_apply, val_main_v7_apply, val_main_v8_apply, val_main_v9_apply, val_main_v10_apply, val_main_v14_apply, val_main_cst_3_apply, val_main_v15_apply, val_main_v16_apply, val_main_cst_4_apply, val_main_v17_apply, val_main_v18_apply, i2, i3, i9, i15, i16, i17, i18, Ideal.mulf_def, Ideal.addf_def, Ideal.hostDivf_def, Ideal.hostUnary_rsqrt_def, Norm.zero_bits, zero_add, Fin.sum_univ_one]
  refine (Finset.sum_congr rfl fun l _ => ?_)
  exact (mul_comm _ _).trans (mul_assoc _ _ _).symm

end Cert.Reference42Ideal.Nrm

namespace Cert.Proof.K42
open Idealize ShloMosaic SL.Sem

/-- The reference ends. -/
theorem frameRef : quiescent_Reference42Ideal := fun m ρ _ =>
  (θ_run Reference42Ideal.defs _ _).mono (fun r h => ⟨fun c => (h c).2, sem_eq_zero_of_no_sems (by decide) r.2⟩)
    (Reference42Ideal.Value.run m ρ)

/-- The call's results are the reference's. -/
theorem algebraic : algebraic_Kernel42Ideal_Reference42Ideal := by
  intro m ρ m' ρ' hpre hargs
  refine ⟨_, Kernel42Ideal.Nrm.run m ρ, (θ_run Reference42Ideal.defs _ _).mono (fun r h c => ?_)
    (Reference42Ideal.Value.run m' ρ')⟩
  obtain ⟨h0, hk⟩ := h c
  obtain ⟨e0, e1⟩ := hargs c
  refine ⟨?_, hk⟩
  · refine h0.trans ((Reference42Ideal.Read.val_main_v18_eq _ _).trans ?_)
    rw [e0, e1]
    exact Reference42Ideal.Nrm.ref2 _ _

end Cert.Proof.K42
-- ==== Proof.Norm.K43.lean ====
/-
  The gradient of a bias: the sum over the rows.
-/
module

public import proofs.«01_k».proof.Proof.Gen.Kernel43.Frame
public import proofs.«01_k».proof.Proof.Gen.Kernel43Ideal.Value
public import proofs.«01_k».proof.Proof.Gen.Reference43Ideal.Read
public import proofs.«01_k».proof.Proof.Mm.Sum
public import proofs.«01_k».proof.Proof.Norm.Row

@[expose] public section

noncomputable section

namespace Cert.Kernel43Ideal.Nrm

open Kernel43Ideal Kernel43Ideal.Gen Idealize ShloMosaic ShloMosaic.TcCoe SL.Sem

/-- What one row adds. -/
def E1 (v0 : Fin 1024 → EReal) (s : Fin 1024) : EReal := v0 s

/-- The gradient of the bias. -/
def G1 (X0 : Vec Ideal S4096x1024 .bf16) : Vec Ideal S1x1024 .f32 := fun i =>
  ∑ l : Fin 4096, E1 (Norm.row X0 l) ⟨(i 1).val, (i 1).isLt⟩

/-! ## One block -/

theorem pay1_at (acc : Vec Ideal S1x1024 .f32) (x0 : Vec Ideal S512x1024 .bf16) (s : Fin 1024) :
    k0_pay2 acc x0 (ix2 0 s) = acc (ix2 0 s) + ∑ r : Fin 512, E1 (Norm.row x0 r) s := by
  simp only [k0_pay2, pointwise, Nat.reduceEqDiff, ↓reduceDIte]
  rfl

section
variable (c : Dev nD) (i : grid0.Coords) (arg2 : Memref sig .tc .vmem S512x1024 .bf16) (harg2 : arg2.IsWhole) (arg3 : Memref sig .tc .vmem S1x1024 .f32) (harg3 : arg3.IsWhole) (x0 : Vec Ideal S512x1024 .bf16) (xo1 : Vec Ideal S1x1024 .f32)

theorem out_A_1 (hc0 : cond0_0 i) :
    out0_A_1 c i arg2 harg2 arg3 harg3 hc0 x0 = k0_pay2 (k0_pay1 (F := Ideal)) x0 := by
  unfold out0_A_1
  rw [View.read_writes_eq_canon _ _ _ (fun _ => cover0_A_1 ..)]
  unfold kernelRun0_A
  dsimp only
  sl_unfold_words
  rw [View.canon_cons_unit_zero (S := S1x1024) Mm.zero2, View.readCov_unit_zero (S := S1x1024) _ Mm.zero2]
  simp only [View.readAt_eq_ld, Memref.IsWhole.read_unread, View.ld_unit_zero (S := S1x1024) Mm.zero2, View.ld_unit_zero (S := S512x1024) Mm.zero2]

theorem out_B_1 (hc0 : ¬cond0_0 i) :
    out0_B_1 c i arg2 harg2 arg3 harg3 hc0 x0 xo1 = k0_pay2 xo1 x0 := by
  unfold out0_B_1
  rw [View.read_writes_eq_canon _ _ _ (fun _ => cover0_B_1 ..)]
  unfold kernelRun0_B
  dsimp only
  sl_unfold_words
  rw [View.canon_unit_zero Mm.zero2]
  simp only [View.readAt_eq_ld, Memref.IsWhole.read_unread, View.ld_unit_zero (S := S1x1024) Mm.zero2, View.ld_unit_zero (S := S512x1024) Mm.zero2]

end

/-! ## The blocks of the arguments -/

variable (m : (ℓ : Loc nD τ sig) → Buf (Elt Ideal) ℓ)

abbrev a0 (c : Dev nD) : Vec Ideal S4096x1024 .bf16 := m (c.tc.loc main_arg0)

theorem idx_facts : ∀ t : Fin grid0.N, win0_0.index t 0 = t.val ∧ win0_0.index t 1 = 0 ∧ win0_1.index t 0 = 0 ∧ win0_1.index t 1 = 0 := by decide +kernel

/-- Row `r` of the rows that grid point `t` works on. -/
def gr (t : Fin cfg0.N) (r : Fin 512) : Fin 4096 :=
  ⟨512 * t.val + r.val, by have := lt_of_lt_of_eq t.isLt (show cfg0.N = 8 from N_0); omega⟩

theorem blk0_at (c : Dev nD) (t : Fin cfg0.N) (r : Fin 512) :
    Norm.row (a := 512) (b := 1024) (iblk m c 0 t) r = Norm.row (a := 4096) (b := 1024) (a0 m c) (gr t r) := by
  obtain ⟨q00, q01, -⟩ := idx_facts t
  funext s
  unfold iblk Norm.row
  rw [View.read_apply]
  show V m c main_arg0 _ = m (c.tc.loc main_arg0) _
  unfold V
  congr 1
  refine Mm.idx2 ?_ ?_
  · exact Mm.at' 512 r.val (512 * t.val + r.val) q00 (by omega)
  · exact Mm.at' 1024 s.val s.val q01 (by omega)

/-! ## The results -/

/-- What row `l` adds. -/
def term1 (c : Dev nD) (s : Fin 1024) (l : Fin 4096) : EReal := E1 (Norm.row (a := 4096) (b := 1024) (a0 m c) l) s

theorem step1 (c : Dev nD) (t : Fin cfg0.N) (acc : Vec Ideal S1x1024 .f32) (s : Fin 1024) (e : EReal) (ha : acc (ix2 0 s) = e) :
    k0_pay2 acc (iblk m c 0 t) (ix2 0 s) = e + Norm.blk (term1 m c s) t.val := by
  rw [pay1_at acc (iblk m c 0 t) s, ha]
  simp only [blk0_at m c t]
  refine congrArg (e + ·) (Norm.blk_eq _ _ (lt_of_lt_of_eq t.isLt (show cfg0.N = 8 from N_0)) _ fun r => ?_)
  rfl

theorem outs1 (c : Dev nD) (s : Fin 1024) : ∀ (k : ℕ) (h : k < cfg0.N),
    (outsAt0 m c k h) (ix2 0 s) = Norm.part (term1 m c s) (k + 1)
  | 0, h => by
    rw [outsAt0_A m c ⟨0, h⟩ rfl]
    rw [out_A_1]
    refine (step1 m c ⟨0, h⟩ _ s 0 Ideal.ofBits_zero_f32).trans ?_
    rw [zero_add, Norm.part_one]
  | k + 1, h => by
    have hN : cfg0.N = 8 := N_0
    have hB : ¬(⟨k + 1, h⟩ : Fin cfg0.N).val % 8 = 0 := by dsimp only; omega
    rw [outsAt0_B m c ⟨k + 1, h⟩ hB]
    rw [out_B_1]
    refine (step1 m c ⟨k + 1, h⟩ _ s _ (outs1 c s k _)).trans ?_
    rw [← Norm.part_succ]

theorem flushed1 (c : Dev nD) (t : Fin cfg0.N) (hf : (cfg0.win 1).flush t = true) :
    (dats m 0 c).flushed 1 t = ((cfg0.win 1).blk t).view.read (Elt Ideal) (G1 (a0 m c)) := by
  obtain ⟨-, -, q10, q11⟩ := idx_facts t
  have h7 : t.val = 7 := by
    have := (flush0_1 t).mp hf
    have := lt_of_lt_of_eq t.isLt (show cfg0.N = 8 from N_0)
    omega
  rw [Value.flushed1]
  funext y
  obtain ⟨r, s, rfl⟩ := Mm.ex2 1 1024 y
  obtain rfl : r = 0 := Subsingleton.elim _ _
  rw [View.read_apply]
  have e : ((cfg0.win 1).blk t).view.emb (ix2 0 s) = ix2 0 s := Mm.idx2
    (by show win0_1.index t 0 * 1 + 1 * 0 = 0; rw [q10])
    (Mm.at' 1024 s.val s.val q11 (by omega))
  rw [e]
  show (outsAt0 m c t.val t.isLt) (ix2 0 s) = _
  rw [outs1 m c s t.val t.isLt, h7, Norm.part_all]
  rfl

theorem final1 (c : Dev nD) : (dats m 0 c).arrAt 1 cfg0.N = G1 (a0 m c) :=
  (dats m 0 c).arrAt_eq_of_cover 1 _ (flushed1 m c) fun i => by
    have h1 : (i 0 : Nat) < 1 := (i 0).isLt
    have h2 : (i 1 : Nat) < 1024 := (i 1).isLt
    have hN : cfg0.N = 8 := N_0
    obtain ⟨t, ht⟩ : ∃ t : Fin cfg0.N, t.val = 7 := ⟨⟨7, by omega⟩, rfl⟩
    obtain ⟨-, -, q10, q11⟩ := idx_facts t
    refine ⟨t, (flush0_1 t).mpr (by omega), ?_⟩
    show i ∈ ((View.whole main_v0).slice (win0_1.rect t)).set
    rw [View.set_slice_whole]
    exact Mm.mem2 1 1024 q10 q11 (by omega) (by omega)

/-- What every run ends with. -/
theorem run (ρ : Dev nD → PrngReg) : θ_run defs (onTc (τ := τ) (main (F := Ideal))) ⟨m, fun _ => 0, ρ⟩ fun r => ∀ c : Dev nD,
      r.2.mem (c.tc.loc main_v0) = G1 (a0 m c) ∧ Mm.kept m r.2.mem c main_arg0 :=
  (θ_run defs _ _).mono (fun _ h c => ⟨((h c).1.trans (final1 m c)), (h c).2⟩) (Value.run_blocks m ρ)

end Cert.Kernel43Ideal.Nrm

namespace Cert.Reference43Ideal.Nrm

open Reference43Ideal Reference43Ideal.Read Idealize ShloMosaic ShloMosaic.TcCoe SL.Sem

/-! ## The reference's result, entry by entry -/

theorem i2 (r : Fin 4096) (s : Fin 1024) : idx_main_v2 (ix2 r s) = ix2 0 s := Mm.idx2 rfl rfl
theorem i5 (r : Fin 1024) (k : Fin 4096) : idx_main_v5 (ix1 r) k = ix2 k r := Mm.idx2 rfl rfl
theorem i6 (r : Fin 1) (s : Fin 1024) : idx_main_v6 (ix2 r s) = ix1 s := Norm.idx1 (by show r.val * 1024 + s.val = s.val; omega)

theorem ref1 (x0 : Vec Ideal S4096x1024 .bf16) :
    val_main_v6 (F := Ideal) x0 = Kernel43Ideal.Nrm.G1 x0 := by
  funext i
  obtain ⟨r, s, rfl⟩ := Mm.ex2 1 1024 i
  simp only [val_main_v4_apply, val_main_cst_1_apply, val_main_v5_apply, val_main_v6_apply, i5, i6, Ideal.mulf_def, Ideal.addf_def, Ideal.hostDivf_def, Ideal.hostUnary_rsqrt_def, Norm.zero_bits, zero_add, Fin.sum_univ_one]
  rfl

end Cert.Reference43Ideal.Nrm

namespace Cert.Proof.K43
open Idealize ShloMosaic SL.Sem

/-- The reference ends. -/
theorem frameRef : quiescent_Reference43Ideal := fun m ρ _ =>
  (θ_run Reference43Ideal.defs _ _).mono (fun r h => ⟨fun c => (h c).2, sem_eq_zero_of_no_sems (by decide) r.2⟩)
    (Reference43Ideal.Value.run m ρ)

/-- The call's results are the reference's. -/
theorem algebraic : algebraic_Kernel43Ideal_Reference43Ideal := by
  intro m ρ m' ρ' hpre hargs
  refine ⟨_, Kernel43Ideal.Nrm.run m ρ, (θ_run Reference43Ideal.defs _ _).mono (fun r h c => ?_)
    (Reference43Ideal.Value.run m' ρ')⟩
  obtain ⟨h0, hk⟩ := h c
  have e0 := hargs c
  refine ⟨?_, hk⟩
  · refine h0.trans ((Reference43Ideal.Read.val_main_v6_eq _).trans ?_)
    rw [e0]
    exact Reference43Ideal.Nrm.ref1 _

end Cert.Proof.K43
-- ==== Proof.Norm.K44.lean ====
/-
  The gradient of a bias: the sum over the rows.
-/
module

public import proofs.«01_k».proof.Proof.Gen.Kernel44.Frame
public import proofs.«01_k».proof.Proof.Gen.Kernel44Ideal.Value
public import proofs.«01_k».proof.Proof.Gen.Reference44Ideal.Read
public import proofs.«01_k».proof.Proof.Mm.Sum
public import proofs.«01_k».proof.Proof.Norm.Row

@[expose] public section

noncomputable section

namespace Cert.Kernel44Ideal.Nrm

open Kernel44Ideal Kernel44Ideal.Gen Idealize ShloMosaic ShloMosaic.TcCoe SL.Sem

/-- The gradient of the bias. -/
def G1 (X0 : Vec Ideal S4096x2048 .bf16) : Vec Ideal S1x2048 .f32 := fun i =>
  ∑ l : Fin 4096, X0 (ix2 l ⟨(i 1).val, (i 1).isLt⟩)

/-! ## One block -/

theorem pay1_at (acc : Vec Ideal S1x1024 .f32) (x0 : Vec Ideal S512x1024 .bf16) (s : Fin 1024) :
    k0_pay2 acc x0 (ix2 0 s) = acc (ix2 0 s) + ∑ r : Fin 512, x0 (ix2 r s) := by
  simp only [k0_pay2, pointwise, Nat.reduceEqDiff, ↓reduceDIte]

section
variable (c : Dev nD) (i : grid0.Coords) (arg2 : Memref sig .tc .vmem S512x1024 .bf16) (harg2 : arg2.IsWhole) (arg3 : Memref sig .tc .vmem S1x1024 .f32) (harg3 : arg3.IsWhole) (x0 : Vec Ideal S512x1024 .bf16) (xo1 : Vec Ideal S1x1024 .f32)

theorem out_A_1 (hc0 : cond0_0 i) :
    out0_A_1 c i arg2 harg2 arg3 harg3 hc0 x0 = k0_pay2 (k0_pay1 (F := Ideal)) x0 := by
  unfold out0_A_1
  rw [View.read_writes_eq_canon _ _ _ (fun _ => cover0_A_1 ..)]
  unfold kernelRun0_A
  dsimp only
  sl_unfold_words
  rw [View.canon_cons_unit_zero (S := S1x1024) Mm.zero2, View.readCov_unit_zero (S := S1x1024) _ Mm.zero2]
  simp only [View.readAt_eq_ld, Memref.IsWhole.read_unread, View.ld_unit_zero (S := S1x1024) Mm.zero2, View.ld_unit_zero (S := S512x1024) Mm.zero2]

theorem out_B_1 (hc0 : ¬cond0_0 i) :
    out0_B_1 c i arg2 harg2 arg3 harg3 hc0 x0 xo1 = k0_pay2 xo1 x0 := by
  unfold out0_B_1
  rw [View.read_writes_eq_canon _ _ _ (fun _ => cover0_B_1 ..)]
  unfold kernelRun0_B
  dsimp only
  sl_unfold_words
  rw [View.canon_unit_zero Mm.zero2]
  simp only [View.readAt_eq_ld, Memref.IsWhole.read_unread, View.ld_unit_zero (S := S1x1024) Mm.zero2, View.ld_unit_zero (S := S512x1024) Mm.zero2]

end

/-! ## The blocks of the arguments -/

variable (m : (ℓ : Loc nD τ sig) → Buf (Elt Ideal) ℓ)

abbrev a0 (c : Dev nD) : Vec Ideal S4096x2048 .bf16 := m (c.tc.loc main_arg0)

theorem idx_facts : ∀ t : Fin grid0.N, win0_0.index t 0 = t.val % 8 ∧ win0_0.index t 1 = t.val / 8 ∧ win0_1.index t 0 = 0 ∧ win0_1.index t 1 = t.val / 8 := by decide +kernel

/-- Row `r` of the rows that grid point `t` works on. -/
def gr (t : Fin cfg0.N) (r : Fin 512) : Fin 4096 :=
  ⟨512 * (t.val % 8) + r.val, by omega⟩

/-- Column `s` of the columns that grid point `k` works on. -/
def gc (k : ℕ) (h : k < cfg0.N) (s : Fin 1024) : Fin 2048 :=
  ⟨1024 * (k / 8) + s.val, by have := lt_of_lt_of_eq h (show cfg0.N = 16 from N_0); omega⟩

theorem blk0_at (c : Dev nD) (t : Fin cfg0.N) (r : Fin 512) (s : Fin 1024) :
    (iblk m c 0 t : Vec Ideal S512x1024 .bf16) (ix2 r s) = a0 m c (ix2 (gr t r) (gc t.val t.isLt s)) := by
  obtain ⟨q00, q01, -⟩ := idx_facts t
  unfold iblk
  rw [View.read_apply]
  show V m c main_arg0 _ = m (c.tc.loc main_arg0) _
  unfold V
  congr 1
  refine Mm.idx2 ?_ ?_
  · exact Mm.at' 512 r.val (512 * (t.val % 8) + r.val) q00 (by omega)
  · exact Mm.at' 1024 s.val (1024 * (t.val / 8) + s.val) q01 (by omega)

/-! ## The results -/

/-- What row `l` adds to column `s`. -/
def term1 (c : Dev nD) (s : Fin 2048) (l : Fin 4096) : EReal := a0 m c (ix2 l s)

theorem step1 (c : Dev nD) (t : Fin cfg0.N) (acc : Vec Ideal S1x1024 .f32) (s : Fin 1024) (e : EReal) (ha : acc (ix2 0 s) = e) :
    k0_pay2 acc (iblk m c 0 t) (ix2 0 s) = e + Norm.blk (term1 m c (gc t.val t.isLt s)) (t.val % 8) := by
  rw [pay1_at acc (iblk m c 0 t) s, ha]
  exact congrArg (e + ·) (Norm.blk_eq _ _ (by omega) _ fun r => blk0_at m c t r s)

theorem outs1 (c : Dev nD) (s : Fin 1024) : ∀ (k : ℕ) (h : k < cfg0.N),
    (outsAt0 m c k h) (ix2 0 s) = Norm.part (term1 m c (gc k h s)) (k % 8 + 1)
  | 0, h => by
    rw [outsAt0_A m c ⟨0, h⟩ rfl]
    rw [out_A_1]
    refine (step1 m c ⟨0, h⟩ _ s 0 Ideal.ofBits_zero_f32).trans ?_
    rw [zero_add]
    exact (Norm.part_one _).symm
  | k + 1, h => by
    have hN : cfg0.N = 16 := N_0
    by_cases hB : (⟨k + 1, h⟩ : Fin cfg0.N).val % 8 = 0
    · rw [outsAt0_A m c ⟨k + 1, h⟩ hB, out_A_1]
      refine (step1 m c ⟨k + 1, h⟩ _ s 0 Ideal.ofBits_zero_f32).trans ?_
      rw [zero_add, show (k + 1) % 8 + 1 = 1 by dsimp only at hB; omega, Norm.part_one, hB]
    · have hk : k < cfg0.N := by omega
      have e1 : gc (k + 1) h s = gc k hk s := Fin.ext (by
        show 1024 * ((k + 1) / 8) + s.val = 1024 * (k / 8) + s.val
        dsimp only at hB; omega)
      rw [outsAt0_B m c ⟨k + 1, h⟩ hB, out_B_1]
      refine (step1 m c ⟨k + 1, h⟩ _ s _ (outs1 c s k _)).trans ?_
      show Norm.part _ _ + Norm.blk (term1 m c (gc (k + 1) h s)) ((k + 1) % 8) = _
      rw [e1, show (k + 1) % 8 = k % 8 + 1 by dsimp only at hB; omega, ← Norm.part_succ]

theorem flushed1 (c : Dev nD) (t : Fin cfg0.N) (hf : (cfg0.win 1).flush t = true) :
    (dats m 0 c).flushed 1 t = ((cfg0.win 1).blk t).view.read (Elt Ideal) (G1 (a0 m c)) := by
  obtain ⟨-, -, q10, q11⟩ := idx_facts t
  have h7 : t.val % 8 = 7 := (flush0_1 t).mp hf
  rw [Value.flushed1]
  funext y
  obtain ⟨r, s, rfl⟩ := Mm.ex2 1 1024 y
  obtain rfl : r = 0 := Subsingleton.elim _ _
  rw [View.read_apply]
  have e : ((cfg0.win 1).blk t).view.emb (ix2 0 s) = ix2 0 (gc t.val t.isLt s) := Mm.idx2
    (by show win0_1.index t 0 * 1 + 1 * 0 = 0; rw [q10])
    (Mm.at' 1024 s.val (1024 * (t.val / 8) + s.val) q11 (by omega))
  rw [e]
  show (outsAt0 m c t.val t.isLt) (ix2 0 s) = _
  rw [outs1 m c s t.val t.isLt, h7, Norm.part_all]
  rfl

theorem final1 (c : Dev nD) : (dats m 0 c).arrAt 1 cfg0.N = G1 (a0 m c) :=
  (dats m 0 c).arrAt_eq_of_cover 1 _ (flushed1 m c) fun i => by
    have h1 : (i 0 : Nat) < 1 := (i 0).isLt
    have h2 : (i 1 : Nat) < 2048 := (i 1).isLt
    have hN : cfg0.N = 16 := N_0
    obtain ⟨t, ht⟩ : ∃ t : Fin cfg0.N, t.val = 8 * ((i 1 : Nat) / 1024) + 7 := ⟨⟨8 * ((i 1 : Nat) / 1024) + 7, by omega⟩, rfl⟩
    obtain ⟨-, -, q10, q11⟩ := idx_facts t
    refine ⟨t, (flush0_1 t).mpr (by omega), ?_⟩
    show i ∈ ((View.whole main_v0).slice (win0_1.rect t)).set
    rw [View.set_slice_whole]
    exact Mm.mem2 1 1024 q10 q11 (by omega) (by omega)

/-- What every run ends with. -/
theorem run (ρ : Dev nD → PrngReg) : θ_run defs (onTc (τ := τ) (main (F := Ideal))) ⟨m, fun _ => 0, ρ⟩ fun r => ∀ c : Dev nD,
      r.2.mem (c.tc.loc main_v0) = G1 (a0 m c) ∧ Mm.kept m r.2.mem c main_arg0 :=
  (θ_run defs _ _).mono (fun _ h c => ⟨((h c).1.trans (final1 m c)), (h c).2⟩) (Value.run_blocks m ρ)

end Cert.Kernel44Ideal.Nrm

namespace Cert.Reference44Ideal.Nrm

open Reference44Ideal Reference44Ideal.Read Idealize ShloMosaic ShloMosaic.TcCoe SL.Sem

/-! ## The reference's result, entry by entry -/

theorem i2 (r : Fin 4096) (s : Fin 2048) : idx_main_v2 (ix2 r s) = ix2 0 s := Mm.idx2 rfl rfl
theorem i5 (r : Fin 2048) (k : Fin 4096) : idx_main_v5 (ix1 r) k = ix2 k r := Mm.idx2 rfl rfl
theorem i6 (r : Fin 1) (s : Fin 2048) : idx_main_v6 (ix2 r s) = ix1 s := Norm.idx1 (by show r.val * 2048 + s.val = s.val; omega)

theorem ref1 (x0 : Vec Ideal S4096x2048 .bf16) :
    val_main_v6 (F := Ideal) x0 = Kernel44Ideal.Nrm.G1 x0 := by
  funext i
  obtain ⟨r, s, rfl⟩ := Mm.ex2 1 2048 i
  simp only [val_main_v4_apply, val_main_cst_1_apply, val_main_v5_apply, val_main_v6_apply, i5, i6, Ideal.mulf_def, Ideal.addf_def, Ideal.hostDivf_def, Ideal.hostUnary_rsqrt_def, Norm.zero_bits, zero_add, Fin.sum_univ_one]
  rfl

end Cert.Reference44Ideal.Nrm

namespace Cert.Proof.K44
open Idealize ShloMosaic SL.Sem

/-- The reference ends. -/
theorem frameRef : quiescent_Reference44Ideal := fun m ρ _ =>
  (θ_run Reference44Ideal.defs _ _).mono (fun r h => ⟨fun c => (h c).2, sem_eq_zero_of_no_sems (by decide) r.2⟩)
    (Reference44Ideal.Value.run m ρ)

/-- The call's results are the reference's. -/
theorem algebraic : algebraic_Kernel44Ideal_Reference44Ideal := by
  intro m ρ m' ρ' hpre hargs
  refine ⟨_, Kernel44Ideal.Nrm.run m ρ, (θ_run Reference44Ideal.defs _ _).mono (fun r h c => ?_)
    (Reference44Ideal.Value.run m' ρ')⟩
  obtain ⟨h0, hk⟩ := h c
  have e0 := hargs c
  refine ⟨?_, hk⟩
  · refine h0.trans ((Reference44Ideal.Read.val_main_v6_eq _).trans ?_)
    rw [e0]
    exact Reference44Ideal.Nrm.ref1 _

end Cert.Proof.K44
-- ==== Proof.Conv.Row.lean ====
/-
  Causal convolutions along the rows, shared by the proofs of the convolutions.
-/
module

public import proofs.«01_k».proof.Proof.Mm.Sum
public import proofs.«01_k».proof.Proof.Norm.Row

@[expose] public section

noncomputable section

namespace Conv

open Idealize.ShloMosaic

/-- The entry `k` rows above row `r`, and zero above the first row. -/
def tap {a b : ℕ} (x : (⟨2, ![a, b]⟩ : Shape).Idx → EReal) (k : ℕ) (r : Fin a) (s : Fin b) : EReal :=
  if k ≤ r.val then x (ix2 ⟨r.val - k, by have := r.isLt; omega⟩ s) else 0

/-- Four weighted entries and a bias. -/
def conv4 (x w : Fin 4 → EReal) (b : EReal) : EReal := x 0 * w 0 + x 1 * w 1 + x 2 * w 2 + x 3 * w 3 + b

/-- Three weighted entries and a bias. -/
def conv3 (x w : Fin 3 → EReal) (b : EReal) : EReal := x 0 * w 0 + x 1 * w 1 + x 2 * w 2 + b

/-- The function SiLU. -/
def silu (x : EReal) : EReal := x * Ideal.logistic x

theorem one_bits : FloatOps.ofBits (F := Ideal) .f32 0x3F800000#32 = (1 : EReal) := by
  show Ideal.ofBits .f32 0x3F800000#32 = 1
  simp [Ideal.ofBits, Ideal.ieee]; norm_num [← EReal.coe_mul]

/-- Rows padded by zeros above, read `k` rows above row `r`. -/
theorem pad_tap {a b p lo : ℕ} (x : (⟨2, ![a, b]⟩ : Shape).Idx → EReal) {u : Shape} (v : u.Idx → EReal)
    (h : (⟨2, ![a, b]⟩ : Shape).Pads ![lo, 0] ![0, 0] ![0, 0] ⟨2, ![p, b]⟩) (hu : 0 < u.numel) (hv : ∀ i, v i = 0)
    (j : (⟨2, ![p, b]⟩ : Shape).Idx) (k : ℕ) (r : Fin a) (s : Fin b) (h0 : (j 0).val + k = lo + r.val) (h1 : (j 1).val = s.val) :
    pad ⟨2, ![p, b]⟩ ![lo, 0] ![0, 0] ![0, 0] x v h hu j = tap x k r s := by
  have hr := r.isLt
  have hs := s.isLt
  unfold pad tap
  by_cases hk : k ≤ r.val
  · have hin : ∀ a' : Fin 2, (![lo, 0] : Fin 2 → ℕ) a' ≤ (j a').val ∧ ((j a').val - (![lo, 0] : Fin 2 → ℕ) a') % ((![0, 0] : Fin 2 → ℕ) a' + 1) = 0
        ∧ ((j a').val - (![lo, 0] : Fin 2 → ℕ) a') / ((![0, 0] : Fin 2 → ℕ) a' + 1) < (![a, b] : Fin 2 → ℕ) a' := by
      intro a'
      match a' with
      | ⟨0, _⟩ =>
        show lo ≤ (j 0).val ∧ ((j 0).val - lo) % (0 + 1) = 0 ∧ ((j 0).val - lo) / (0 + 1) < a
        rw [Nat.zero_add, Nat.div_one]; omega
      | ⟨1, _⟩ =>
        show 0 ≤ (j 1).val ∧ ((j 1).val - 0) % (0 + 1) = 0 ∧ ((j 1).val - 0) / (0 + 1) < b
        rw [Nat.zero_add, Nat.div_one]; omega
    rw [if_pos hk]
    refine (dif_pos hin).trans (congrArg x (Mm.idx2 ?_ ?_))
    · show ((j 0).val - lo) / (0 + 1) = r.val - k
      rw [Nat.zero_add, Nat.div_one]; omega
    · show ((j 1).val - 0) / (0 + 1) = s.val
      rw [Nat.zero_add, Nat.div_one]; omega
  · rw [if_neg hk]
    refine (dif_neg fun hin => ?_).trans (hv _)
    have : lo ≤ (j 0).val := (hin 0).1
    omega

/-- A buffer filled with a block `A` below `H` rows `B`, read from row `o`. -/
theorem fill_at {H n d N : ℕ} {sig : RefSig} {κ : Kind} {sp : Space} (v : View sig κ sp (⟨2, ![N, d]⟩ : Shape) .f32)
    (A : Vec Ideal (⟨2, ![n, d]⟩ : Shape) .f32) (B : Vec Ideal (⟨2, ![H, d]⟩ : Shape) .f32) (o : ℕ) (ho : o ≤ H)
    (iA : ∀ a, (![H, 0] : Fin 2 → ℕ) a + (![n, d] : Fin 2 → ℕ) a ≤ (⟨2, ![N, d]⟩ : Shape).size a)
    (iB : ∀ a, (![0, 0] : Fin 2 → ℕ) a + (![H, d] : Fin 2 → ℕ) a ≤ (⟨2, ![N, d]⟩ : Shape).size a)
    (io : ∀ a, (![o, 0] : Fin 2 → ℕ) a + (![n, d] : Fin 2 → ℕ) a ≤ (⟨2, ![N, d]⟩ : Shape).size a) (r : Fin n) (s : Fin d) :
    v.readCov (Val := Elt Ideal) [⟨Rect.unit (s := ⟨2, ![N, d]⟩) ![H, 0] ![n, d] iA, A⟩, ⟨Rect.unit (s := ⟨2, ![N, d]⟩) ![0, 0] ![H, d] iB, B⟩]
        (Rect.unit (s := ⟨2, ![N, d]⟩) ![o, 0] ![n, d] io).toLoadRect (ix2 r s)
      = if h : r.val < H - o then B (ix2 ⟨o + r.val, by omega⟩ s) else A (ix2 ⟨r.val - (H - o), by have := r.isLt; omega⟩ s) := by
  have hr := r.isLt
  rw [View.readCov_eq_canon']
  by_cases h : r.val < H - o
  · rw [dif_pos h]
    have e : (Rect.unit (s := ⟨2, ![N, d]⟩) ![o, 0] ![n, d] io).toLoadRect.idx (ix2 r s)
        = (Rect.unit (s := ⟨2, ![N, d]⟩) ![0, 0] ![H, d] iB).emb (ix2 (⟨o + r.val, by omega⟩ : Fin H) s) := Mm.idx2
      (by show o + 1 * r.val = 0 + 1 * (o + r.val); omega) (by show 0 + 1 * s.val = 0 + 1 * s.val; rfl)
    have hn : (Rect.unit (s := ⟨2, ![N, d]⟩) ![o, 0] ![n, d] io).toLoadRect.idx (ix2 r s)
        ∉ (Rect.unit (s := ⟨2, ![N, d]⟩) ![H, 0] ![n, d] iA).set := fun hm => by
      have := ((Rect.mem_set_unit.mp hm) 0).1
      have : H ≤ o + 1 * r.val := this
      omega
    rw [e] at hn
    refine (congrArg (View.canon _) e).trans ?_
    refine (View.canon_cons_of_not_mem (Val := Elt Ideal) ⟨Rect.unit (s := ⟨2, ![N, d]⟩) ![H, 0] ![n, d] iA, A⟩ _ hn).trans ?_
    exact View.canon_cons_emb (Val := Elt Ideal) (Rect.unit (s := ⟨2, ![N, d]⟩) ![0, 0] ![H, d] iB) B [] _
  · rw [dif_neg h]
    have e : (Rect.unit (s := ⟨2, ![N, d]⟩) ![o, 0] ![n, d] io).toLoadRect.idx (ix2 r s)
        = (Rect.unit (s := ⟨2, ![N, d]⟩) ![H, 0] ![n, d] iA).emb (ix2 (⟨r.val - (H - o), by omega⟩ : Fin n) s) := Mm.idx2
      (by show o + 1 * r.val = H + 1 * (r.val - (H - o)); omega) (by show 0 + 1 * s.val = 0 + 1 * s.val; rfl)
    refine (congrArg (View.canon _) e).trans ?_
    exact View.canon_cons_emb (Val := Elt Ideal) (Rect.unit (s := ⟨2, ![N, d]⟩) ![H, 0] ![n, d] iA) A _ _

/-- The entry `k` rows above row `r` of a block `x0` below the rows `x1`, which the first block (`n = 0`) replaces by zeros. -/
def btap {a d : ℕ} (n : ℕ) (x0 : (⟨2, ![a, d]⟩ : Shape).Idx → EReal) (x1 : (⟨2, ![32, d]⟩ : Shape).Idx → EReal) (k : Fin 4) (r : Fin a) (s : Fin d) : EReal :=
  if h : r.val < k.val then (if n = 0 then 0 else x1 (ix2 ⟨32 - k.val + r.val, by have := k.isLt; omega⟩ s))
  else x0 (ix2 ⟨r.val - k.val, by have := r.isLt; omega⟩ s)

theorem sel_at (n : Fin 16) : Scalar.cmpi .eq (BitVec.ofNat 32 n.val) 0#32 = if n.val = 0 then 1#1 else 0#1 := by
  revert n; decide

/-- The buffer read from row `32 - k`. -/
theorem fill {a d N : ℕ} {sig : RefSig} {κ : Kind} {sp : Space} (v : View sig κ sp (⟨2, ![N, d]⟩ : Shape) .f32) (n : ℕ)
    (x0 : (⟨2, ![a, d]⟩ : Shape).Idx → EReal) (x1 : (⟨2, ![32, d]⟩ : Shape).Idx → EReal)
    {A : Vec Ideal (⟨2, ![a, d]⟩ : Shape) .f32} {B : Vec Ideal (⟨2, ![32, d]⟩ : Shape) .f32}
    (hA : ∀ i, A i = x0 i) (hB : ∀ r s, B (ix2 r s) = if n = 0 then 0 else x1 (ix2 r s)) (o : ℕ) (k : Fin 4) (ho : o + k.val = 32)
    (iA : ∀ a', (![32, 0] : Fin 2 → ℕ) a' + (![a, d] : Fin 2 → ℕ) a' ≤ (⟨2, ![N, d]⟩ : Shape).size a')
    (iB : ∀ a', (![0, 0] : Fin 2 → ℕ) a' + (![32, d] : Fin 2 → ℕ) a' ≤ (⟨2, ![N, d]⟩ : Shape).size a')
    (io : ∀ a', (![o, 0] : Fin 2 → ℕ) a' + (![a, d] : Fin 2 → ℕ) a' ≤ (⟨2, ![N, d]⟩ : Shape).size a') (r : Fin a) (s : Fin d) :
    v.readCov (Val := Elt Ideal) [⟨Rect.unit (s := ⟨2, ![N, d]⟩) ![32, 0] ![a, d] iA, A⟩, ⟨Rect.unit (s := ⟨2, ![N, d]⟩) ![0, 0] ![32, d] iB, B⟩]
        (Rect.unit (s := ⟨2, ![N, d]⟩) ![o, 0] ![a, d] io).toLoadRect (ix2 r s) = btap n x0 x1 k r s := by
  refine (fill_at v A B o (by omega) iA iB io r s).trans ?_
  unfold btap
  by_cases h : r.val < k.val
  · rw [dif_pos h, dif_pos (by omega : r.val < 32 - o), hB]
    exact if_congr Iff.rfl rfl (congrArg x1 (Mm.idx2 (by show o + r.val = 32 - k.val + r.val; omega) rfl))
  · rw [dif_neg h, dif_neg (by omega : ¬ r.val < 32 - o), hA]
    exact congrArg x0 (Mm.idx2 (by show r.val - (32 - o) = r.val - k.val; omega) rfl)

/-- The entries of a block are those of the matrix. -/
theorem btap_tap {a d p q n : ℕ} {x0 : (⟨2, ![a, d]⟩ : Shape).Idx → EReal} {x1 : (⟨2, ![32, d]⟩ : Shape).Idx → EReal}
    {X : (⟨2, ![p, q]⟩ : Shape).Idx → EReal} {s : Fin d} {z : Fin q} (ha : 3 ≤ a)
    (h0 : ∀ (r : Fin a) (R : Fin p), R.val = a * n + r.val → x0 (ix2 r s) = X (ix2 R z))
    (h1 : n ≠ 0 → ∀ (r : Fin 32) (R : Fin p), R.val + 32 = a * n + r.val → x1 (ix2 r s) = X (ix2 R z))
    (k : Fin 4) (r : Fin a) (R : Fin p) (hR : R.val = a * n + r.val) : btap n x0 x1 k r s = tap X k.val R z := by
  have hk := k.isLt
  have hp := R.isLt
  unfold btap tap
  by_cases h : r.val < k.val
  · rw [dif_pos h]
    by_cases hn : n = 0
    · subst hn
      rw [if_pos rfl, if_neg (by omega)]
    · have : a ≤ a * n := Nat.le_mul_of_pos_right a (Nat.pos_of_ne_zero hn)
      rw [if_neg hn, if_pos (by omega)]
      exact h1 hn _ _ (by show R.val - k.val + 32 = a * n + (32 - k.val + r.val); omega)
  · rw [dif_neg h, if_pos (by omega)]
    exact h0 _ _ (by show R.val - k.val = a * n + (r.val - k.val); omega)

/-- A row read by itself. -/
theorem ldrow {K d : ℕ} {e : EltTy} (x : Vec Ideal (⟨2, ![K, d]⟩ : Shape) e) (k : Fin K) (s : Fin d) (inb) :
    View.ld (Val := Elt Ideal) x (Rect.unit (s := ⟨2, ![K, d]⟩) ![k.val, 0] ![1, d] inb) (ix2 0 s) = x (ix2 k s) :=
  congrArg x (Mm.idx2 (by show k.val + 1 * 0 = k.val; omega) (by show 0 + 1 * s.val = s.val; omega))

theorem conv3_congr {x w : Fin 3 → EReal} {b e a0 a1 a2 w0 w1 w2 : EReal} (h0 : a0 = x 0) (k0 : w0 = w 0) (h1 : a1 = x 1) (k1 : w1 = w 1)
    (h2 : a2 = x 2) (k2 : w2 = w 2) (hb : e = b) : a0 * w0 + a1 * w1 + a2 * w2 + e = conv3 x w b := by
  subst h0 h1 h2 k0 k1 k2 hb; rfl

theorem conv3_eq {x w y v : Fin 3 → EReal} {b e : EReal} (h : ∀ k, x k = y k) (k : ∀ k, w k = v k) (hb : b = e) : conv3 x w b = conv3 y v e := by
  rw [funext h, funext k, hb]

theorem conv4_congr {x w : Fin 4 → EReal} {b e a0 a1 a2 a3 w0 w1 w2 w3 : EReal} (h0 : a0 = x 0) (k0 : w0 = w 0) (h1 : a1 = x 1) (k1 : w1 = w 1)
    (h2 : a2 = x 2) (k2 : w2 = w 2) (h3 : a3 = x 3) (k3 : w3 = w 3) (hb : e = b) : a0 * w0 + a1 * w1 + a2 * w2 + a3 * w3 + e = conv4 x w b := by
  subst h0 h1 h2 h3 k0 k1 k2 k3 hb; rfl

/-- Two matrices written one after the other. -/
theorem two_at {a b : ℕ} {e : EltTy} (A B : Vec Ideal (⟨3, ![1, a, b]⟩ : Shape) e)
    (iA : ∀ x, (![1, 0, 0] : Fin 3 → ℕ) x + (![1, a, b] : Fin 3 → ℕ) x ≤ (⟨3, ![2, a, b]⟩ : Shape).size x)
    (iB : ∀ x, (![0, 0, 0] : Fin 3 → ℕ) x + (![1, a, b] : Fin 3 → ℕ) x ≤ (⟨3, ![2, a, b]⟩ : Shape).size x) (h : Fin 2) (r : Fin a) (s : Fin b) :
    View.canon (Val := Elt Ideal) [⟨Rect.unit (s := ⟨3, ![2, a, b]⟩) ![1, 0, 0] ![1, a, b] iA, A⟩, ⟨Rect.unit (s := ⟨3, ![2, a, b]⟩) ![0, 0, 0] ![1, a, b] iB, B⟩]
      (ix3 h r s) = if h.val = 0 then B (ix3 0 r s) else A (ix3 0 r s) := by
  have hh := h.isLt
  by_cases h0 : h.val = 0
  · rw [if_pos h0]
    have e0 : ix3 h r s = (Rect.unit (s := ⟨3, ![2, a, b]⟩) ![0, 0, 0] ![1, a, b] iB).emb (ix3 (0 : Fin 1) r s) := Mm.idx3
      (by show h.val = 0 + 1 * 0; omega) (by show r.val = 0 + 1 * r.val; omega) (by show s.val = 0 + 1 * s.val; omega)
    have hn : ix3 h r s ∉ (Rect.unit (s := ⟨3, ![2, a, b]⟩) ![1, 0, 0] ![1, a, b] iA).set := fun hm => by
      have : 1 ≤ h.val := ((Rect.mem_set_unit.mp hm) 0).1
      omega
    rw [e0] at hn
    refine (congrArg (View.canon _) e0).trans ?_
    refine (View.canon_cons_of_not_mem (Val := Elt Ideal) ⟨Rect.unit (s := ⟨3, ![2, a, b]⟩) ![1, 0, 0] ![1, a, b] iA, A⟩ _ hn).trans ?_
    exact View.canon_cons_emb (Val := Elt Ideal) (Rect.unit (s := ⟨3, ![2, a, b]⟩) ![0, 0, 0] ![1, a, b] iB) B [] _
  · rw [if_neg h0]
    have e1 : ix3 h r s = (Rect.unit (s := ⟨3, ![2, a, b]⟩) ![1, 0, 0] ![1, a, b] iA).emb (ix3 (0 : Fin 1) r s) := Mm.idx3
      (by show h.val = 1 + 1 * 0; omega) (by show r.val = 0 + 1 * r.val; omega) (by show s.val = 0 + 1 * s.val; omega)
    exact (congrArg (View.canon _) e1).trans (View.canon_cons_emb (Val := Elt Ideal) (Rect.unit (s := ⟨3, ![2, a, b]⟩) ![1, 0, 0] ![1, a, b] iA) A _ _)

end Conv
-- ==== Proof.Conv.K45.lean ====
/-
  The forward convolution over the first 2048 columns.
-/
module

public import proofs.«01_k».proof.Proof.Gen.Kernel45.Frame
public import proofs.«01_k».proof.Proof.Gen.Kernel45Ideal.Value
public import proofs.«01_k».proof.Proof.Gen.Reference45Ideal.Read
public import proofs.«01_k».proof.Proof.Conv.Row

@[expose] public section

noncomputable section

namespace Cert.Kernel45Ideal.Cnv

open Kernel45Ideal Kernel45Ideal.Gen Idealize ShloMosaic ShloMosaic.TcCoe SL.Sem Conv

/-- The convolution of row `r`, column `z` of the weights. -/
def pre (X : Vec Ideal S4096x5120 .bf16) (W : Vec Ideal S4x3072 .f32) (B : Vec Ideal S1x3072 .f32) (r : Fin 4096) (z : Fin 3072) : EReal :=
  conv4 (fun k => tap (a := 4096) (b := 5120) X (3 - k.val) r ⟨2048 + z.val, by have := z.isLt; omega⟩) (fun k => W (ix2 k z)) (B (ix2 0 z))

/-- The call's results. -/
def G5 (X : Vec Ideal S4096x5120 .bf16) (W : Vec Ideal S4x3072 .f32) (B : Vec Ideal S1x3072 .f32) : Vec Ideal S4096x2048 .bf16 := fun i =>
  pre X W B ⟨(i 0).val, (i 0).isLt⟩ ⟨0 + (i 1).val, by have h : (i 1).val < 2048 := (i 1).isLt; omega⟩
def G4 (X : Vec Ideal S4096x5120 .bf16) (W : Vec Ideal S4x3072 .f32) (B : Vec Ideal S1x3072 .f32) : Vec Ideal S4096x2048 .f32 := fun i =>
  silu (G5 X W B i)

/-! ## One block -/

def bpre (n : ℕ) (x0 : Vec Ideal S512x1024 .bf16) (x1 : Vec Ideal S32x1024 .bf16) (x2 : Vec Ideal S4x1024 .f32) (x3 : Vec Ideal S1x1024 .f32)
    (r : Fin 512) (s : Fin 1024) : EReal :=
  conv4 (fun k => btap (a := 512) (d := 1024) n x0 x1 ⟨3 - k.val, by omega⟩ r s) (fun k => x2 (ix2 k s)) (x3 (ix2 0 s))

theorem pay4_at (i : grid0.Coords) (x : Vec Ideal S32x1024 .bf16) (r : Fin 32) (s : Fin 1024) :
    k0_pay4 i x (ix2 r s) = if (i 1).val = 0 then 0 else x (ix2 r s) := by
  have h := sel_at ⟨(i 1).val, lt_trans (i 1).isLt (by decide : 8 < 16)⟩
  unfold k0_pay4
  dsimp only at h ⊢
  rw [h]
  by_cases h0 : (i 1).val = 0
  · simp only [if_pos h0, pointwise]
  · simp only [if_neg h0, pointwise]

theorem pay1_at (a b c d : Vec Ideal S512x1024 .f32) (p q u v e : Vec Ideal S1x1024 .f32) (r : Fin 512) (s : Fin 1024) :
    k0_pay1 (k0_pay6 a p b q c u) d (k0_pay7 v) e (ix2 r s)
      = a (ix2 r s) * p (ix2 0 s) + b (ix2 r s) * q (ix2 0 s) + c (ix2 r s) * u (ix2 0 s) + d (ix2 r s) * v (ix2 0 s) + e (ix2 0 s) := by
  simp only [k0_pay1, k0_pay6, k0_pay7, pointwise, Nat.reduceEqDiff, ↓reduceDIte]

theorem pay3_at (a b d : Vec Ideal S512x1024 .f32) (e : Vec Ideal S1x1024 .f32) (r : Fin 512) (s : Fin 1024) :
    k0_pay3 a b d e (ix2 r s) = silu (k0_pay1 a b d e (ix2 r s)) := by
  simp only [k0_pay3, pointwise]
  generalize k0_pay1 a b d e (ix2 r s) = x
  rw [zero_sub]
  rfl

section
variable (c : Dev nD) (i : grid0.Coords) (arg2 : Memref sig .tc .vmem S512x1024 .bf16) (harg2 : arg2.IsWhole) (arg3 : Memref sig .tc .vmem S32x1024 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S544x1024 .f32) (harg8 : arg8.IsWhole)
    (x0 : Vec Ideal S512x1024 .bf16) (x1 : Vec Ideal S32x1024 .bf16) (x2 : Vec Ideal S4x1024 .f32) (x3 : Vec Ideal S1x1024 .f32) (r : Fin 512) (s : Fin 1024)

include harg2 harg3 harg4 harg5 in
theorem out5_at : out0_A_5 c i arg2 harg2 arg3 harg3 arg4 harg4 arg5 harg5 arg6 harg6 arg7 harg7 arg8 harg8 x0 x1 x2 x3 (ix2 r s)
    = bpre (i 1).val x0 x1 x2 x3 r s := by
  unfold out0_A_5
  rw [View.read_writes_eq_canon _ _ _ (fun _ => cover0_A_5 ..)]
  unfold kernelRun0_A
  dsimp only
  sl_unfold_words
  simp only [View.readAt_eq_ld, Memref.IsWhole.read_unread]
  rw [View.canon_unit_zero Mm.zero2]
  refine (pay1_at _ _ _ _ _ _ _ _ _ r s).trans ?_
  simp only [View.ld_unit_zero (S := S512x1024) Mm.zero2, View.ld_unit_zero (S := S32x1024) Mm.zero2, View.ld_unit_zero (S := S1x1024) Mm.zero2]
  have h := fill arg8.view (i 1).val x0 x1 (A := k0_pay5 x0) (fun j => by simp only [k0_pay5, pointwise]) (pay4_at i x1)
  exact conv4_congr (h 29 3 rfl _ _ _ r s) (ldrow x2 0 s _) (h 30 2 rfl _ _ _ r s) (ldrow x2 1 s _) (h 31 1 rfl _ _ _ r s) (ldrow x2 2 s _)
    (h 32 0 rfl _ _ _ r s) (ldrow x2 3 s _)
    (congrArg x3 (Mm.idx2 rfl (by show 0 + 1 * s.val = s.val; omega)))

include harg2 harg3 harg4 harg5 in
theorem out4_at : out0_A_4 c i arg2 harg2 arg3 harg3 arg4 harg4 arg5 harg5 arg6 harg6 arg7 harg7 arg8 harg8 x0 x1 x2 x3 (ix2 r s)
    = silu (bpre (i 1).val x0 x1 x2 x3 r s) := by
  rw [← out5_at c i arg2 harg2 arg3 harg3 arg4 harg4 arg5 harg5 arg6 harg6 arg7 harg7 arg8 harg8 x0 x1 x2 x3 r s]
  unfold out0_A_4 out0_A_5
  rw [View.read_writes_eq_canon _ _ _ (fun _ => cover0_A_4 ..),
    View.read_writes_eq_canon _ _ _ (fun _ => cover0_A_5 ..)]
  unfold kernelRun0_A
  dsimp only
  sl_unfold_words
  rw [View.canon_unit_zero Mm.zero2, View.canon_unit_zero Mm.zero2]
  exact pay3_at _ _ _ _ r s

end

/-! ## The blocks of the arguments -/

variable (m : (ℓ : Loc nD τ sig) → Buf (Elt Ideal) ℓ)

abbrev a0 (c : Dev nD) : Vec Ideal S4096x5120 .bf16 := m (c.tc.loc main_arg0)
abbrev a1 (c : Dev nD) : Vec Ideal S4x3072 .f32 := m (c.tc.loc main_arg1)
abbrev a2 (c : Dev nD) : Vec Ideal S1x3072 .f32 := m (c.tc.loc main_arg2)

theorem idx_facts : ∀ t : Fin grid0.N, (win0_0.index t 0 = t.val % 8 ∧ win0_0.index t 1 = 2 + t.val / 8 ∧ win0_1.index t 0 = 16 * (t.val % 8) - 1 ∧ win0_1.index t 1 = 2 + t.val / 8)
    ∧ (win0_2.index t 0 = 0 ∧ win0_2.index t 1 = 0 + t.val / 8 ∧ win0_3.index t 0 = 0 ∧ win0_3.index t 1 = 0 + t.val / 8) ∧ win0_4.index t 0 = t.val % 8 ∧ win0_4.index t 1 = t.val / 8 ∧ win0_5.index t 0 = t.val % 8 ∧ win0_5.index t 1 = t.val / 8 ∧ (grid0.coords t 1).val = t.val % 8 := by decide +kernel

/-- The row `r` and the column `s` that grid point `t` works on. -/
def gr (t : Fin cfg0.N) (r : Fin 512) : Fin 4096 := ⟨512 * (t.val % 8) + r.val, by omega⟩
def gc (t : Fin cfg0.N) (s : Fin 1024) : Fin 2048 :=
  ⟨1024 * (t.val / 8) + s.val, by have := lt_of_lt_of_eq t.isLt (show cfg0.N = 16 from N_0); omega⟩
def gz (t : Fin cfg0.N) (s : Fin 1024) : Fin 3072 := ⟨0 + (gc t s).val, by have := (gc t s).isLt; omega⟩

theorem btap_at (c : Dev nD) (t : Fin cfg0.N) (k : Fin 4) (r : Fin 512) (s : Fin 1024) :
    btap (a := 512) (d := 1024) (t.val % 8) (iblk m c 0 t) (iblk m c 1 t) k r s
      = tap (a := 4096) (b := 5120) (a0 m c) k.val (gr t r) ⟨2048 + (gz t s).val, by have := (gz t s).isLt; omega⟩ := by
  obtain ⟨⟨q00, q01, q10, q11⟩, -⟩ := idx_facts t
  refine btap_tap (by decide) (fun r R hR => ?_) (fun hn r R hR => ?_) k r (gr t r) rfl
  · refine (congrFun (V_main_arg0 m c) _).trans (congrArg _ (Mm.idx2 (Mm.at' 512 r.val R.val q00 (by omega)) (Mm.at' 1024 s.val (2048 + (0 + (1024 * (t.val / 8) + s.val))) q01 (by omega))))
  · refine (congrFun (V_main_arg0 m c) _).trans (congrArg _ (Mm.idx2 (Mm.at' 32 r.val R.val q10 (by omega)) (Mm.at' 1024 s.val (2048 + (0 + (1024 * (t.val / 8) + s.val))) q11 (by omega))))

theorem blk2_at (c : Dev nD) (t : Fin cfg0.N) (k : Fin 4) (s : Fin 1024) :
    (iblk m c 2 t : Vec Ideal S4x1024 .f32) (ix2 k s) = a1 m c (ix2 k (gz t s)) := by
  obtain ⟨-, ⟨q20, q21, q30, q31⟩, -⟩ := idx_facts t
  refine (congrFun (V_main_arg1 m c) _).trans (congrArg _ (Mm.idx2 (Mm.at' 4 k.val k.val q20 (by omega)) (Mm.at' 1024 s.val (0 + (1024 * (t.val / 8) + s.val)) q21 (by omega))))

theorem blk3_at (c : Dev nD) (t : Fin cfg0.N) (s : Fin 1024) :
    (iblk m c 3 t : Vec Ideal S1x1024 .f32) (ix2 0 s) = a2 m c (ix2 0 (gz t s)) := by
  obtain ⟨-, ⟨q20, q21, q30, q31⟩, -⟩ := idx_facts t
  refine (congrFun (V_main_arg2 m c) _).trans (congrArg _ (Mm.idx2 ?_ ?_))
  · show win0_3.index t 0 * 1 + 1 * 0 = 0; rw [q30]
  · exact Mm.at' 1024 s.val (0 + (1024 * (t.val / 8) + s.val)) q31 (by omega)

theorem bpre_at (c : Dev nD) (t : Fin cfg0.N) (r : Fin 512) (s : Fin 1024) :
    bpre (grid0.coords t 1).val (iblk m c 0 t) (iblk m c 1 t) (iblk m c 2 t) (iblk m c 3 t) r s
      = pre (a0 m c) (a1 m c) (a2 m c) (gr t r) (gz t s) := by
  obtain ⟨-, -, -, -, -, -, hc⟩ := idx_facts t
  unfold bpre pre
  rw [hc, blk3_at m c t s]
  refine congrArg₂ (fun x w => conv4 x w _) (funext fun k => ?_) (funext fun k => blk2_at m c t k s)
  exact btap_at m c t _ r s

/-! ## The results -/

theorem flushed4 (c : Dev nD) (t : Fin cfg0.N) :
    (dats m 0 c).flushed 4 t = ((cfg0.win 4).blk t).view.read (Elt Ideal) (G4 (a0 m c) (a1 m c) (a2 m c)) := by
  obtain ⟨-, -, q40, q41, -⟩ := idx_facts t
  rw [Value.flushed4_A]
  funext y
  obtain ⟨r, s, rfl⟩ := Mm.ex2 512 1024 y
  rw [View.read_apply]
  refine (out4_at c (grid0.coords t) _ (hs0_0 t) _ (hs0_1 t) _ (hs0_2 t) _ (hs0_3 t) _ (hs0_4 t) _ (hs0_5 t) _ (Memref.isWhole_whole _) (iblk m c 0 t) (iblk m c 1 t) (iblk m c 2 t) (iblk m c 3 t) r s).trans ?_
  have e : ((cfg0.win 4).blk t).view.emb (ix2 r s) = ix2 (gr t r) (gc t s) := Mm.idx2
    (Mm.at' 512 r.val (512 * (t.val % 8) + r.val) q40 (by omega))
    (Mm.at' 1024 s.val (1024 * (t.val / 8) + s.val) q41 (by omega))
  rw [e, bpre_at m c t r s]
  rfl

theorem final4 (c : Dev nD) : (dats m 0 c).arrAt 4 cfg0.N = G4 (a0 m c) (a1 m c) (a2 m c) :=
  (dats m 0 c).arrAt_eq_of_cover 4 _ (fun t _ => flushed4 m c t) fun i => by
    have h1 : (i 0 : Nat) < 4096 := (i 0).isLt
    have h2 : (i 1 : Nat) < 2048 := (i 1).isLt
    have hN : cfg0.N = 16 := N_0
    obtain ⟨t, ht⟩ : ∃ t : Fin cfg0.N, t.val = (i 1 : Nat) / 1024 * 8 + (i 0 : Nat) / 512 := ⟨⟨(i 1 : Nat) / 1024 * 8 + (i 0 : Nat) / 512, by omega⟩, rfl⟩
    obtain ⟨-, -, q40, q41, -⟩ := idx_facts t
    exact ⟨t, flush0_4 t, Mm.memv (Mm.mem2 512 1024 q40 q41 (by omega) (by omega))⟩

theorem flushed5 (c : Dev nD) (t : Fin cfg0.N) :
    (dats m 0 c).flushed 5 t = ((cfg0.win 5).blk t).view.read (Elt Ideal) (G5 (a0 m c) (a1 m c) (a2 m c)) := by
  obtain ⟨-, -, -, -, q50, q51, -⟩ := idx_facts t
  rw [Value.flushed5_A]
  funext y
  obtain ⟨r, s, rfl⟩ := Mm.ex2 512 1024 y
  rw [View.read_apply]
  refine (out5_at c (grid0.coords t) _ (hs0_0 t) _ (hs0_1 t) _ (hs0_2 t) _ (hs0_3 t) _ (hs0_4 t) _ (hs0_5 t) _ (Memref.isWhole_whole _) (iblk m c 0 t) (iblk m c 1 t) (iblk m c 2 t) (iblk m c 3 t) r s).trans ?_
  have e : ((cfg0.win 5).blk t).view.emb (ix2 r s) = ix2 (gr t r) (gc t s) := Mm.idx2
    (Mm.at' 512 r.val (512 * (t.val % 8) + r.val) q50 (by omega))
    (Mm.at' 1024 s.val (1024 * (t.val / 8) + s.val) q51 (by omega))
  rw [e, bpre_at m c t r s]
  rfl

theorem final5 (c : Dev nD) : (dats m 0 c).arrAt 5 cfg0.N = G5 (a0 m c) (a1 m c) (a2 m c) :=
  (dats m 0 c).arrAt_eq_of_cover 5 _ (fun t _ => flushed5 m c t) fun i => by
    have h1 : (i 0 : Nat) < 4096 := (i 0).isLt
    have h2 : (i 1 : Nat) < 2048 := (i 1).isLt
    have hN : cfg0.N = 16 := N_0
    obtain ⟨t, ht⟩ : ∃ t : Fin cfg0.N, t.val = (i 1 : Nat) / 1024 * 8 + (i 0 : Nat) / 512 := ⟨⟨(i 1 : Nat) / 1024 * 8 + (i 0 : Nat) / 512, by omega⟩, rfl⟩
    obtain ⟨-, -, -, -, q50, q51, -⟩ := idx_facts t
    exact ⟨t, flush0_5 t, Mm.memv (Mm.mem2 512 1024 q50 q51 (by omega) (by omega))⟩

/-- What every run ends with. -/
theorem run (ρ : Dev nD → PrngReg) : θ_run defs (onTc (τ := τ) (main (F := Ideal))) ⟨m, fun _ => 0, ρ⟩ fun r => ∀ c : Dev nD,
      r.2.mem (c.tc.loc main_v0_0) = G4 (a0 m c) (a1 m c) (a2 m c)
      ∧ r.2.mem (c.tc.loc main_v0_1) = G5 (a0 m c) (a1 m c) (a2 m c) ∧ Mm.kept m r.2.mem c main_arg0 ∧ Mm.kept m r.2.mem c main_arg1 ∧ Mm.kept m r.2.mem c main_arg2 :=
  (θ_run defs _ _).mono (fun _ h c => ⟨((h c).1.trans (final4 m c)), ((h c).2.1.trans (final5 m c)), (h c).2.2⟩) (Value.run_blocks m ρ)

end Cert.Kernel45Ideal.Cnv

namespace Cert.Reference45Ideal.Cnv

open Reference45Ideal Reference45Ideal.Read Idealize ShloMosaic ShloMosaic.TcCoe SL.Sem Conv

/-! ## The reference's result, entry by entry -/

theorem padded (x0 : Vec Ideal S4096x5120 .bf16) (j : S4099x3072.Idx) (k : ℕ) (r : Fin 4096) (z : Fin 3072) (h0 : (j 0).val + k = 3 + r.val) (h1 : (j 1).val = z.val) :
    val_main_v2 (F := Ideal) x0 j = tap (a := 4096) (b := 5120) x0 k r ⟨2048 + z.val, by have := z.isLt; omega⟩ := by
  unfold val_main_v2
  refine (pad_tap (a := 4096) (b := 3072) (p := 4099) (lo := 3) _ _ _ _ (fun i => ?_) j k r z h0 h1).trans ?_
  · exact (val_main_call0_v0_apply (F := Ideal) i).trans (by rw [val_main_c_apply]; show (((0#32).toInt : ℝ) : EReal) = 0; simp)
  · unfold tap
    refine if_congr Iff.rfl ?_ rfl
    rw [val_main_v1_apply, val_main_v0_apply]
    exact congrArg x0 (Mm.idx2 rfl (by show 2048 + z.val = 2048 + z.val; rfl))

theorem ref31 (x0 : Vec Ideal S4096x5120 .bf16) (x1 : Vec Ideal S4x3072 .f32) (x2 : Vec Ideal S1x3072 .f32) (r : Fin 4096) (z : Fin 3072) :
    val_main_v31 (F := Ideal) x0 x1 x2 (ix2 r z) = Kernel45Ideal.Cnv.pre x0 x1 x2 r z := by
  simp only [val_main_v3_apply, val_main_v4_apply, val_main_v5_apply, val_main_v6_apply, val_main_v7_apply, val_main_v8_apply, val_main_v9_apply, val_main_v10_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, Ideal.mulf_def, Ideal.addf_def]
  rw [padded x0 _ 3 r z (by show r.val + 3 = 3 + r.val; omega) rfl, padded x0 _ 2 r z (by show 1 + r.val + 2 = 3 + r.val; omega) rfl,
    padded x0 _ 1 r z (by show 2 + r.val + 1 = 3 + r.val; omega) rfl, padded x0 _ 0 r z (by show 3 + r.val + 0 = 3 + r.val; omega) rfl]
  refine conv4_congr rfl ?_ rfl ?_ rfl ?_ rfl ?_ (congrArg x2 (Mm.idx2 rfl rfl)) <;> exact congrArg x1 (Mm.idx2 rfl (Nat.mod_eq_of_lt z.isLt))

theorem ref32 (x0 : Vec Ideal S4096x5120 .bf16) (x1 : Vec Ideal S4x3072 .f32) (x2 : Vec Ideal S1x3072 .f32) (i : S4096x2048.Idx) :
    val_main_v32 (F := Ideal) x0 x1 x2 i = Kernel45Ideal.Cnv.G5 x0 x1 x2 i := by
  have h : (i 1).val < 2048 := (i 1).isLt
  rw [val_main_v32_apply]
  refine Eq.trans ?_ (ref31 x0 x1 x2 ⟨(i 0).val, (i 0).isLt⟩ ⟨0 + (i 1).val, by omega⟩)
  exact congrArg _ (Mm.idx2 rfl (by show (i 1).val = 0 + (i 1).val; omega))

theorem ref5 (x0 : Vec Ideal S4096x5120 .bf16) (x1 : Vec Ideal S4x3072 .f32) (x2 : Vec Ideal S1x3072 .f32) :
    val_main_v34 (F := Ideal) x0 x1 x2 = Kernel45Ideal.Cnv.G5 x0 x1 x2 :=
  funext fun i => (val_main_v34_apply (F := Ideal) x0 x1 x2 i).trans (ref32 x0 x1 x2 i)

theorem ref4 (x0 : Vec Ideal S4096x5120 .bf16) (x1 : Vec Ideal S4x3072 .f32) (x2 : Vec Ideal S1x3072 .f32) :
    val_main_v33 (F := Ideal) x0 x1 x2 = Kernel45Ideal.Cnv.G4 x0 x1 x2 := by
  funext i
  simp only [val_main_v33_apply, val_main_call1_v0_apply, val_main_call1_v1_apply, val_main_call1_v2_apply, val_main_call1_v3_apply, val_main_call1_v4_apply, val_main_call1_v5_apply, val_main_call1_cst_apply, val_main_call1_cst_0_apply, ref32, Ideal.mulf_def, Ideal.addf_def, Ideal.hostDivf_def, Ideal.hostUnary_exp_def, Ideal.hostNegf_def, Ideal.negf_def, one_bits]
  rfl

end Cert.Reference45Ideal.Cnv

namespace Cert.Proof.K45
open Idealize ShloMosaic SL.Sem

/-- The reference ends. -/
theorem frameRef : quiescent_Reference45Ideal := fun m ρ _ =>
  (θ_run Reference45Ideal.defs _ _).mono (fun r h => ⟨fun c => (h c).2.2, sem_eq_zero_of_no_sems (by decide) r.2⟩)
    (Reference45Ideal.Value.run m ρ)

/-- The call's results are the reference's. -/
theorem algebraic : algebraic_Kernel45Ideal_Reference45Ideal := by
  intro m ρ m' ρ' hpre hargs
  refine ⟨_, _, Kernel45Ideal.Cnv.run m ρ, (θ_run Reference45Ideal.defs _ _).mono (fun r h c => ?_)
    (Reference45Ideal.Value.run m' ρ')⟩
  obtain ⟨h0, h1, hk⟩ := h c
  obtain ⟨e0, e1, e2⟩ := hargs c
  refine ⟨?_, ?_, hk⟩
  · refine h0.trans ((Reference45Ideal.Read.val_main_v33_eq _ _).trans ?_)
    rw [e0, e1, e2]
    exact Reference45Ideal.Cnv.ref4 _ _ _
  · refine h1.trans ((Reference45Ideal.Read.val_main_v34_eq _ _ _).trans ?_)
    rw [e0, e1, e2]
    exact Reference45Ideal.Cnv.ref5 _ _ _

end Cert.Proof.K45
-- ==== Proof.Conv.K46.lean ====
/-
  The forward convolution over the last 1024 columns.
-/
module

public import proofs.«01_k».proof.Proof.Gen.Kernel46.Frame
public import proofs.«01_k».proof.Proof.Gen.Kernel46Ideal.Value
public import proofs.«01_k».proof.Proof.Gen.Reference46Ideal.Read
public import proofs.«01_k».proof.Proof.Conv.Row

@[expose] public section

noncomputable section

namespace Cert.Kernel46Ideal.Cnv

open Kernel46Ideal Kernel46Ideal.Gen Idealize ShloMosaic ShloMosaic.TcCoe SL.Sem Conv

/-- The convolution of row `r`, column `z` of the weights. -/
def pre (X : Vec Ideal S4096x5120 .bf16) (W : Vec Ideal S4x3072 .f32) (B : Vec Ideal S1x3072 .f32) (r : Fin 4096) (z : Fin 3072) : EReal :=
  conv4 (fun k => tap (a := 4096) (b := 5120) X (3 - k.val) r ⟨2048 + z.val, by have := z.isLt; omega⟩) (fun k => W (ix2 k z)) (B (ix2 0 z))

/-- The call's results. -/
def G5 (X : Vec Ideal S4096x5120 .bf16) (W : Vec Ideal S4x3072 .f32) (B : Vec Ideal S1x3072 .f32) : Vec Ideal S4096x1024 .bf16 := fun i =>
  pre X W B ⟨(i 0).val, (i 0).isLt⟩ ⟨2048 + (i 1).val, by have h : (i 1).val < 1024 := (i 1).isLt; omega⟩
def G4 (X : Vec Ideal S4096x5120 .bf16) (W : Vec Ideal S4x3072 .f32) (B : Vec Ideal S1x3072 .f32) : Vec Ideal S4096x1024 .bf16 := fun i =>
  silu (G5 X W B i)

/-! ## One block -/

def bpre (n : ℕ) (x0 : Vec Ideal S512x1024 .bf16) (x1 : Vec Ideal S32x1024 .bf16) (x2 : Vec Ideal S4x1024 .f32) (x3 : Vec Ideal S1x1024 .f32)
    (r : Fin 512) (s : Fin 1024) : EReal :=
  conv4 (fun k => btap (a := 512) (d := 1024) n x0 x1 ⟨3 - k.val, by omega⟩ r s) (fun k => x2 (ix2 k s)) (x3 (ix2 0 s))

theorem pay4_at (i : grid0.Coords) (x : Vec Ideal S32x1024 .bf16) (r : Fin 32) (s : Fin 1024) :
    k0_pay4 i x (ix2 r s) = if (i 1).val = 0 then 0 else x (ix2 r s) := by
  have h := sel_at ⟨(i 1).val, lt_trans (i 1).isLt (by decide : 8 < 16)⟩
  unfold k0_pay4
  dsimp only at h ⊢
  rw [h]
  by_cases h0 : (i 1).val = 0
  · simp only [if_pos h0, pointwise]
  · simp only [if_neg h0, pointwise]

theorem pay1_at (a b c d : Vec Ideal S512x1024 .f32) (p q u v e : Vec Ideal S1x1024 .f32) (r : Fin 512) (s : Fin 1024) :
    k0_pay1 (k0_pay6 a p b q c u) d (k0_pay7 v) e (ix2 r s)
      = a (ix2 r s) * p (ix2 0 s) + b (ix2 r s) * q (ix2 0 s) + c (ix2 r s) * u (ix2 0 s) + d (ix2 r s) * v (ix2 0 s) + e (ix2 0 s) := by
  simp only [k0_pay1, k0_pay6, k0_pay7, pointwise, Nat.reduceEqDiff, ↓reduceDIte]

theorem pay3_at (a b d : Vec Ideal S512x1024 .f32) (e : Vec Ideal S1x1024 .f32) (r : Fin 512) (s : Fin 1024) :
    k0_pay3 a b d e (ix2 r s) = silu (k0_pay1 a b d e (ix2 r s)) := by
  simp only [k0_pay3, pointwise]
  generalize k0_pay1 a b d e (ix2 r s) = x
  rw [zero_sub]
  rfl

section
variable (c : Dev nD) (i : grid0.Coords) (arg2 : Memref sig .tc .vmem S512x1024 .bf16) (harg2 : arg2.IsWhole) (arg3 : Memref sig .tc .vmem S32x1024 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S544x1024 .f32) (harg8 : arg8.IsWhole)
    (x0 : Vec Ideal S512x1024 .bf16) (x1 : Vec Ideal S32x1024 .bf16) (x2 : Vec Ideal S4x1024 .f32) (x3 : Vec Ideal S1x1024 .f32) (r : Fin 512) (s : Fin 1024)

include harg2 harg3 harg4 harg5 in
theorem out5_at : out0_A_5 c i arg2 harg2 arg3 harg3 arg4 harg4 arg5 harg5 arg6 harg6 arg7 harg7 arg8 harg8 x0 x1 x2 x3 (ix2 r s)
    = bpre (i 1).val x0 x1 x2 x3 r s := by
  unfold out0_A_5
  rw [View.read_writes_eq_canon _ _ _ (fun _ => cover0_A_5 ..)]
  unfold kernelRun0_A
  dsimp only
  sl_unfold_words
  simp only [View.readAt_eq_ld, Memref.IsWhole.read_unread]
  rw [View.canon_unit_zero Mm.zero2]
  refine (pay1_at _ _ _ _ _ _ _ _ _ r s).trans ?_
  simp only [View.ld_unit_zero (S := S512x1024) Mm.zero2, View.ld_unit_zero (S := S32x1024) Mm.zero2, View.ld_unit_zero (S := S1x1024) Mm.zero2]
  have h := fill arg8.view (i 1).val x0 x1 (A := k0_pay5 x0) (fun j => by simp only [k0_pay5, pointwise]) (pay4_at i x1)
  exact conv4_congr (h 29 3 rfl _ _ _ r s) (ldrow x2 0 s _) (h 30 2 rfl _ _ _ r s) (ldrow x2 1 s _) (h 31 1 rfl _ _ _ r s) (ldrow x2 2 s _)
    (h 32 0 rfl _ _ _ r s) (ldrow x2 3 s _)
    (congrArg x3 (Mm.idx2 rfl (by show 0 + 1 * s.val = s.val; omega)))

include harg2 harg3 harg4 harg5 in
theorem out4_at : out0_A_4 c i arg2 harg2 arg3 harg3 arg4 harg4 arg5 harg5 arg6 harg6 arg7 harg7 arg8 harg8 x0 x1 x2 x3 (ix2 r s)
    = silu (bpre (i 1).val x0 x1 x2 x3 r s) := by
  rw [← out5_at c i arg2 harg2 arg3 harg3 arg4 harg4 arg5 harg5 arg6 harg6 arg7 harg7 arg8 harg8 x0 x1 x2 x3 r s]
  unfold out0_A_4 out0_A_5
  rw [View.read_writes_eq_canon _ _ _ (fun _ => cover0_A_4 ..),
    View.read_writes_eq_canon _ _ _ (fun _ => cover0_A_5 ..)]
  unfold kernelRun0_A
  dsimp only
  sl_unfold_words
  rw [View.canon_unit_zero Mm.zero2, View.canon_unit_zero Mm.zero2]
  exact pay3_at _ _ _ _ r s

end

/-! ## The blocks of the arguments -/

variable (m : (ℓ : Loc nD τ sig) → Buf (Elt Ideal) ℓ)

abbrev a0 (c : Dev nD) : Vec Ideal S4096x5120 .bf16 := m (c.tc.loc main_arg0)
abbrev a1 (c : Dev nD) : Vec Ideal S4x3072 .f32 := m (c.tc.loc main_arg1)
abbrev a2 (c : Dev nD) : Vec Ideal S1x3072 .f32 := m (c.tc.loc main_arg2)

theorem idx_facts : ∀ t : Fin grid0.N, (win0_0.index t 0 = t.val % 8 ∧ win0_0.index t 1 = 4 + t.val / 8 ∧ win0_1.index t 0 = 16 * (t.val % 8) - 1 ∧ win0_1.index t 1 = 4 + t.val / 8)
    ∧ (win0_2.index t 0 = 0 ∧ win0_2.index t 1 = 2 + t.val / 8 ∧ win0_3.index t 0 = 0 ∧ win0_3.index t 1 = 2 + t.val / 8) ∧ win0_4.index t 0 = t.val % 8 ∧ win0_4.index t 1 = t.val / 8 ∧ win0_5.index t 0 = t.val % 8 ∧ win0_5.index t 1 = t.val / 8 ∧ (grid0.coords t 1).val = t.val % 8 := by decide +kernel

/-- The row `r` and the column `s` that grid point `t` works on. -/
def gr (t : Fin cfg0.N) (r : Fin 512) : Fin 4096 := ⟨512 * (t.val % 8) + r.val, by omega⟩
def gc (t : Fin cfg0.N) (s : Fin 1024) : Fin 1024 :=
  ⟨1024 * (t.val / 8) + s.val, by have := lt_of_lt_of_eq t.isLt (show cfg0.N = 8 from N_0); omega⟩
def gz (t : Fin cfg0.N) (s : Fin 1024) : Fin 3072 := ⟨2048 + (gc t s).val, by have := (gc t s).isLt; omega⟩

theorem btap_at (c : Dev nD) (t : Fin cfg0.N) (k : Fin 4) (r : Fin 512) (s : Fin 1024) :
    btap (a := 512) (d := 1024) (t.val % 8) (iblk m c 0 t) (iblk m c 1 t) k r s
      = tap (a := 4096) (b := 5120) (a0 m c) k.val (gr t r) ⟨2048 + (gz t s).val, by have := (gz t s).isLt; omega⟩ := by
  obtain ⟨⟨q00, q01, q10, q11⟩, -⟩ := idx_facts t
  refine btap_tap (by decide) (fun r R hR => ?_) (fun hn r R hR => ?_) k r (gr t r) rfl
  · refine (congrFun (V_main_arg0 m c) _).trans (congrArg _ (Mm.idx2 (Mm.at' 512 r.val R.val q00 (by omega)) (Mm.at' 1024 s.val (2048 + (2048 + (1024 * (t.val / 8) + s.val))) q01 (by omega))))
  · refine (congrFun (V_main_arg0 m c) _).trans (congrArg _ (Mm.idx2 (Mm.at' 32 r.val R.val q10 (by omega)) (Mm.at' 1024 s.val (2048 + (2048 + (1024 * (t.val / 8) + s.val))) q11 (by omega))))

theorem blk2_at (c : Dev nD) (t : Fin cfg0.N) (k : Fin 4) (s : Fin 1024) :
    (iblk m c 2 t : Vec Ideal S4x1024 .f32) (ix2 k s) = a1 m c (ix2 k (gz t s)) := by
  obtain ⟨-, ⟨q20, q21, q30, q31⟩, -⟩ := idx_facts t
  refine (congrFun (V_main_arg1 m c) _).trans (congrArg _ (Mm.idx2 (Mm.at' 4 k.val k.val q20 (by omega)) (Mm.at' 1024 s.val (2048 + (1024 * (t.val / 8) + s.val)) q21 (by omega))))

theorem blk3_at (c : Dev nD) (t : Fin cfg0.N) (s : Fin 1024) :
    (iblk m c 3 t : Vec Ideal S1x1024 .f32) (ix2 0 s) = a2 m c (ix2 0 (gz t s)) := by
  obtain ⟨-, ⟨q20, q21, q30, q31⟩, -⟩ := idx_facts t
  refine (congrFun (V_main_arg2 m c) _).trans (congrArg _ (Mm.idx2 ?_ ?_))
  · show win0_3.index t 0 * 1 + 1 * 0 = 0; rw [q30]
  · exact Mm.at' 1024 s.val (2048 + (1024 * (t.val / 8) + s.val)) q31 (by omega)

theorem bpre_at (c : Dev nD) (t : Fin cfg0.N) (r : Fin 512) (s : Fin 1024) :
    bpre (grid0.coords t 1).val (iblk m c 0 t) (iblk m c 1 t) (iblk m c 2 t) (iblk m c 3 t) r s
      = pre (a0 m c) (a1 m c) (a2 m c) (gr t r) (gz t s) := by
  obtain ⟨-, -, -, -, -, -, hc⟩ := idx_facts t
  unfold bpre pre
  rw [hc, blk3_at m c t s]
  refine congrArg₂ (fun x w => conv4 x w _) (funext fun k => ?_) (funext fun k => blk2_at m c t k s)
  exact btap_at m c t _ r s

/-! ## The results -/

theorem flushed4 (c : Dev nD) (t : Fin cfg0.N) :
    (dats m 0 c).flushed 4 t = ((cfg0.win 4).blk t).view.read (Elt Ideal) (G4 (a0 m c) (a1 m c) (a2 m c)) := by
  obtain ⟨-, -, q40, q41, -⟩ := idx_facts t
  rw [Value.flushed4_A]
  funext y
  obtain ⟨r, s, rfl⟩ := Mm.ex2 512 1024 y
  rw [View.read_apply]
  refine (out4_at c (grid0.coords t) _ (hs0_0 t) _ (hs0_1 t) _ (hs0_2 t) _ (hs0_3 t) _ (hs0_4 t) _ (hs0_5 t) _ (Memref.isWhole_whole _) (iblk m c 0 t) (iblk m c 1 t) (iblk m c 2 t) (iblk m c 3 t) r s).trans ?_
  have e : ((cfg0.win 4).blk t).view.emb (ix2 r s) = ix2 (gr t r) (gc t s) := Mm.idx2
    (Mm.at' 512 r.val (512 * (t.val % 8) + r.val) q40 (by omega))
    (Mm.at' 1024 s.val (1024 * (t.val / 8) + s.val) q41 (by omega))
  rw [e, bpre_at m c t r s]
  rfl

theorem final4 (c : Dev nD) : (dats m 0 c).arrAt 4 cfg0.N = G4 (a0 m c) (a1 m c) (a2 m c) :=
  (dats m 0 c).arrAt_eq_of_cover 4 _ (fun t _ => flushed4 m c t) fun i => by
    have h1 : (i 0 : Nat) < 4096 := (i 0).isLt
    have h2 : (i 1 : Nat) < 1024 := (i 1).isLt
    have hN : cfg0.N = 8 := N_0
    obtain ⟨t, ht⟩ : ∃ t : Fin cfg0.N, t.val = (i 1 : Nat) / 1024 * 8 + (i 0 : Nat) / 512 := ⟨⟨(i 1 : Nat) / 1024 * 8 + (i 0 : Nat) / 512, by omega⟩, rfl⟩
    obtain ⟨-, -, q40, q41, -⟩ := idx_facts t
    exact ⟨t, flush0_4 t, Mm.memv (Mm.mem2 512 1024 q40 q41 (by omega) (by omega))⟩

theorem flushed5 (c : Dev nD) (t : Fin cfg0.N) :
    (dats m 0 c).flushed 5 t = ((cfg0.win 5).blk t).view.read (Elt Ideal) (G5 (a0 m c) (a1 m c) (a2 m c)) := by
  obtain ⟨-, -, -, -, q50, q51, -⟩ := idx_facts t
  rw [Value.flushed5_A]
  funext y
  obtain ⟨r, s, rfl⟩ := Mm.ex2 512 1024 y
  rw [View.read_apply]
  refine (out5_at c (grid0.coords t) _ (hs0_0 t) _ (hs0_1 t) _ (hs0_2 t) _ (hs0_3 t) _ (hs0_4 t) _ (hs0_5 t) _ (Memref.isWhole_whole _) (iblk m c 0 t) (iblk m c 1 t) (iblk m c 2 t) (iblk m c 3 t) r s).trans ?_
  have e : ((cfg0.win 5).blk t).view.emb (ix2 r s) = ix2 (gr t r) (gc t s) := Mm.idx2
    (Mm.at' 512 r.val (512 * (t.val % 8) + r.val) q50 (by omega))
    (Mm.at' 1024 s.val (1024 * (t.val / 8) + s.val) q51 (by omega))
  rw [e, bpre_at m c t r s]
  rfl

theorem final5 (c : Dev nD) : (dats m 0 c).arrAt 5 cfg0.N = G5 (a0 m c) (a1 m c) (a2 m c) :=
  (dats m 0 c).arrAt_eq_of_cover 5 _ (fun t _ => flushed5 m c t) fun i => by
    have h1 : (i 0 : Nat) < 4096 := (i 0).isLt
    have h2 : (i 1 : Nat) < 1024 := (i 1).isLt
    have hN : cfg0.N = 8 := N_0
    obtain ⟨t, ht⟩ : ∃ t : Fin cfg0.N, t.val = (i 1 : Nat) / 1024 * 8 + (i 0 : Nat) / 512 := ⟨⟨(i 1 : Nat) / 1024 * 8 + (i 0 : Nat) / 512, by omega⟩, rfl⟩
    obtain ⟨-, -, -, -, q50, q51, -⟩ := idx_facts t
    exact ⟨t, flush0_5 t, Mm.memv (Mm.mem2 512 1024 q50 q51 (by omega) (by omega))⟩

/-- What every run ends with. -/
theorem run (ρ : Dev nD → PrngReg) : θ_run defs (onTc (τ := τ) (main (F := Ideal))) ⟨m, fun _ => 0, ρ⟩ fun r => ∀ c : Dev nD,
      r.2.mem (c.tc.loc main_v0_0) = G4 (a0 m c) (a1 m c) (a2 m c)
      ∧ r.2.mem (c.tc.loc main_v0_1) = G5 (a0 m c) (a1 m c) (a2 m c) ∧ Mm.kept m r.2.mem c main_arg0 ∧ Mm.kept m r.2.mem c main_arg1 ∧ Mm.kept m r.2.mem c main_arg2 :=
  (θ_run defs _ _).mono (fun _ h c => ⟨((h c).1.trans (final4 m c)), ((h c).2.1.trans (final5 m c)), (h c).2.2⟩) (Value.run_blocks m ρ)

end Cert.Kernel46Ideal.Cnv

namespace Cert.Reference46Ideal.Cnv

open Reference46Ideal Reference46Ideal.Read Idealize ShloMosaic ShloMosaic.TcCoe SL.Sem Conv

/-! ## The reference's result, entry by entry -/

theorem padded (x0 : Vec Ideal S4096x5120 .bf16) (j : S4099x3072.Idx) (k : ℕ) (r : Fin 4096) (z : Fin 3072) (h0 : (j 0).val + k = 3 + r.val) (h1 : (j 1).val = z.val) :
    val_main_v2 (F := Ideal) x0 j = tap (a := 4096) (b := 5120) x0 k r ⟨2048 + z.val, by have := z.isLt; omega⟩ := by
  unfold val_main_v2
  refine (pad_tap (a := 4096) (b := 3072) (p := 4099) (lo := 3) _ _ _ _ (fun i => ?_) j k r z h0 h1).trans ?_
  · exact (val_main_call0_v0_apply (F := Ideal) i).trans (by rw [val_main_c_apply]; show (((0#32).toInt : ℝ) : EReal) = 0; simp)
  · unfold tap
    refine if_congr Iff.rfl ?_ rfl
    rw [val_main_v1_apply, val_main_v0_apply]
    exact congrArg x0 (Mm.idx2 rfl (by show 2048 + z.val = 2048 + z.val; rfl))

theorem ref31 (x0 : Vec Ideal S4096x5120 .bf16) (x1 : Vec Ideal S4x3072 .f32) (x2 : Vec Ideal S1x3072 .f32) (r : Fin 4096) (z : Fin 3072) :
    val_main_v31 (F := Ideal) x0 x1 x2 (ix2 r z) = Kernel46Ideal.Cnv.pre x0 x1 x2 r z := by
  simp only [val_main_v3_apply, val_main_v4_apply, val_main_v5_apply, val_main_v6_apply, val_main_v7_apply, val_main_v8_apply, val_main_v9_apply, val_main_v10_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, Ideal.mulf_def, Ideal.addf_def]
  rw [padded x0 _ 3 r z (by show r.val + 3 = 3 + r.val; omega) rfl, padded x0 _ 2 r z (by show 1 + r.val + 2 = 3 + r.val; omega) rfl,
    padded x0 _ 1 r z (by show 2 + r.val + 1 = 3 + r.val; omega) rfl, padded x0 _ 0 r z (by show 3 + r.val + 0 = 3 + r.val; omega) rfl]
  refine conv4_congr rfl ?_ rfl ?_ rfl ?_ rfl ?_ (congrArg x2 (Mm.idx2 rfl rfl)) <;> exact congrArg x1 (Mm.idx2 rfl (Nat.mod_eq_of_lt z.isLt))

theorem ref32 (x0 : Vec Ideal S4096x5120 .bf16) (x1 : Vec Ideal S4x3072 .f32) (x2 : Vec Ideal S1x3072 .f32) (i : S4096x1024.Idx) :
    val_main_v32 (F := Ideal) x0 x1 x2 i = Kernel46Ideal.Cnv.G5 x0 x1 x2 i := by
  have h : (i 1).val < 1024 := (i 1).isLt
  rw [val_main_v32_apply]
  refine Eq.trans ?_ (ref31 x0 x1 x2 ⟨(i 0).val, (i 0).isLt⟩ ⟨2048 + (i 1).val, by omega⟩)
  exact congrArg _ (Mm.idx2 rfl (by show 2048 + (i 1).val = 2048 + (i 1).val; omega))

theorem ref5 (x0 : Vec Ideal S4096x5120 .bf16) (x1 : Vec Ideal S4x3072 .f32) (x2 : Vec Ideal S1x3072 .f32) :
    val_main_v35 (F := Ideal) x0 x1 x2 = Kernel46Ideal.Cnv.G5 x0 x1 x2 :=
  funext fun i => (val_main_v35_apply (F := Ideal) x0 x1 x2 i).trans (ref32 x0 x1 x2 i)

theorem ref4 (x0 : Vec Ideal S4096x5120 .bf16) (x1 : Vec Ideal S4x3072 .f32) (x2 : Vec Ideal S1x3072 .f32) :
    val_main_v34 (F := Ideal) x0 x1 x2 = Kernel46Ideal.Cnv.G4 x0 x1 x2 := by
  funext i
  simp only [val_main_v34_apply, val_main_v33_apply, val_main_call1_v0_apply, val_main_call1_v1_apply, val_main_call1_v2_apply, val_main_call1_v3_apply, val_main_call1_v4_apply, val_main_call1_v5_apply, val_main_call1_cst_apply, val_main_call1_cst_0_apply, ref32, Ideal.mulf_def, Ideal.addf_def, Ideal.hostDivf_def, Ideal.hostUnary_exp_def, Ideal.hostNegf_def, Ideal.negf_def, one_bits]
  rfl

end Cert.Reference46Ideal.Cnv

namespace Cert.Proof.K46
open Idealize ShloMosaic SL.Sem

/-- The reference ends. -/
theorem frameRef : quiescent_Reference46Ideal := fun m ρ _ =>
  (θ_run Reference46Ideal.defs _ _).mono (fun r h => ⟨fun c => (h c).2.2, sem_eq_zero_of_no_sems (by decide) r.2⟩)
    (Reference46Ideal.Value.run m ρ)

/-- The call's results are the reference's. -/
theorem algebraic : algebraic_Kernel46Ideal_Reference46Ideal := by
  intro m ρ m' ρ' hpre hargs
  refine ⟨_, _, Kernel46Ideal.Cnv.run m ρ, (θ_run Reference46Ideal.defs _ _).mono (fun r h c => ?_)
    (Reference46Ideal.Value.run m' ρ')⟩
  obtain ⟨h0, h1, hk⟩ := h c
  obtain ⟨e0, e1, e2⟩ := hargs c
  refine ⟨?_, ?_, hk⟩
  · refine h0.trans ((Reference46Ideal.Read.val_main_v34_eq _ _).trans ?_)
    rw [e0, e1, e2]
    exact Reference46Ideal.Cnv.ref4 _ _ _
  · refine h1.trans ((Reference46Ideal.Read.val_main_v35_eq _ _ _).trans ?_)
    rw [e0, e1, e2]
    exact Reference46Ideal.Cnv.ref5 _ _ _

end Cert.Proof.K46
-- ==== Proof.Conv.K47.lean ====
/-
  The forward activation of the ConvFFN: its convolution, and the product of one half with SiLU of the other.
-/
module

public import proofs.«01_k».proof.Proof.Gen.Kernel47.Frame
public import proofs.«01_k».proof.Proof.Gen.Kernel47Ideal.Value
public import proofs.«01_k».proof.Proof.Gen.Reference47Ideal.Read
public import proofs.«01_k».proof.Proof.Conv.Row

@[expose] public section

noncomputable section

namespace Cert.Kernel47Ideal.Cnv

open Kernel47Ideal Kernel47Ideal.Gen Idealize ShloMosaic ShloMosaic.TcCoe SL.Sem Conv

/-- The convolution of row `r`, column `z`. -/
def pre (X : Vec Ideal S4096x5632 .bf16) (W : Vec Ideal S3x5632 .f32) (B : Vec Ideal S1x5632 .f32) (r : Fin 4096) (z : Fin 5632) : EReal :=
  conv3 (fun k => tap (a := 4096) (b := 5632) X (2 - k.val) r z) (fun k => W (ix2 k z)) (B (ix2 0 z))

/-- The call's results. -/
def G8 (X : Vec Ideal S4096x5632 .bf16) (W : Vec Ideal S3x5632 .f32) (B : Vec Ideal S1x5632 .f32) : Vec Ideal S4096x2816 .bf16 := fun i =>
  silu (pre X W B ⟨(i 0).val, (i 0).isLt⟩ ⟨(i 1).val, lt_trans (i 1).isLt (by decide : 2816 < 5632)⟩)
    * pre X W B ⟨(i 0).val, (i 0).isLt⟩ ⟨2816 + (i 1).val, by have h : (i 1).val < 2816 := (i 1).isLt; omega⟩
def G9 (X : Vec Ideal S4096x5632 .bf16) (W : Vec Ideal S3x5632 .f32) (B : Vec Ideal S1x5632 .f32) : Vec Ideal S2x4096x2816 .bf16 := fun i =>
  pre X W B ⟨(i 1).val, (i 1).isLt⟩ ⟨2816 * (i 0).val + (i 2).val, by have h : (i 0).val < 2 := (i 0).isLt; have h : (i 2).val < 2816 := (i 2).isLt; omega⟩

/-! ## One block -/

def bpre (n : ℕ) (x0 : Vec Ideal S256x1408 .bf16) (x1 : Vec Ideal S32x1408 .bf16) (w : Vec Ideal S3x1408 .f32) (b : Vec Ideal S1x1408 .f32)
    (r : Fin 256) (s : Fin 1408) : EReal :=
  conv3 (fun k => btap (a := 256) (d := 1408) n x0 x1 ⟨2 - k.val, by omega⟩ r s) (fun k => w (ix2 k s)) (b (ix2 0 s))

theorem pay4_at (i : grid0.Coords) (x : Vec Ideal S32x1408 .bf16) (r : Fin 32) (s : Fin 1408) :
    k0_pay4 i x (ix2 r s) = if (i 1).val = 0 then 0 else x (ix2 r s) := by
  have h := sel_at ⟨(i 1).val, (i 1).isLt⟩
  unfold k0_pay4
  dsimp only at h ⊢
  rw [h]
  by_cases h0 : (i 1).val = 0
  · simp only [if_pos h0, pointwise]
  · simp only [if_neg h0, pointwise]

theorem pay6_at (i : grid0.Coords) (x : Vec Ideal S32x1408 .bf16) (r : Fin 32) (s : Fin 1408) :
    k0_pay6 i x (ix2 r s) = if (i 1).val = 0 then 0 else x (ix2 r s) := pay4_at i x r s

section
variable (a b c : Vec Ideal S256x1408 .f32) (p q u e : Vec Ideal S1x1408 .f32) (r : Fin 256) (s : Fin 1408)

theorem pay9_at : k0_pay9 (k0_pay8 a p) b q c u e (ix2 r s)
    = a (ix2 r s) * p (ix2 0 s) + b (ix2 r s) * q (ix2 0 s) + c (ix2 r s) * u (ix2 0 s) + e (ix2 0 s) := by
  simp only [k0_pay8, k0_pay9, pointwise, Nat.reduceEqDiff, ↓reduceDIte]

theorem pay10_at : k0_pay10 a p b q c u e (ix2 r s)
    = a (ix2 r s) * p (ix2 0 s) + b (ix2 r s) * q (ix2 0 s) + c (ix2 r s) * u (ix2 0 s) + e (ix2 0 s) := by
  simp only [k0_pay10, pointwise, Nat.reduceEqDiff, ↓reduceDIte]

theorem pay11_at : k0_pay11 (k0_pay8 a p) b q c u e (ix2 r s) = k0_pay9 (k0_pay8 a p) b q c u e (ix2 r s) := by
  simp only [k0_pay11, k0_pay9, pointwise, Nat.reduceEqDiff, ↓reduceDIte]

theorem pay3_at : k0_pay3 (F := Ideal) a b (ix2 r s) = silu (a (ix2 r s)) * b (ix2 r s) := by
  simp only [k0_pay3, pointwise]
  generalize a (ix2 r s) = x
  rw [zero_sub]
  rfl

theorem pay1_at (x : Vec Ideal S256x1408 .bf16) : k0_pay1 (F := Ideal) x (ix3 0 r s) = x (ix2 r s) := by
  simp only [k0_pay1, pointwise]

theorem pay2_at (x : Vec Ideal S256x1408 .f32) : k0_pay2 (F := Ideal) x (ix3 0 r s) = x (ix2 r s) := by
  simp only [k0_pay2, pointwise]

end

section
variable {c : Dev nD} (i : grid0.Coords) {arg2 : Memref sig .tc .vmem S256x1408 .bf16} (harg2 : arg2.IsWhole) {arg3 : Memref sig .tc .vmem S32x1408 .bf16} (harg3 : arg3.IsWhole) {arg4 : Memref sig .tc .vmem S256x1408 .bf16} (harg4 : arg4.IsWhole) {arg5 : Memref sig .tc .vmem S32x1408 .bf16} (harg5 : arg5.IsWhole) {arg6 : Memref sig .tc .vmem S3x1408 .f32} (harg6 : arg6.IsWhole) {arg7 : Memref sig .tc .vmem S3x1408 .f32} (harg7 : arg7.IsWhole) {arg8 : Memref sig .tc .vmem S1x1408 .f32} (harg8 : arg8.IsWhole) {arg9 : Memref sig .tc .vmem S1x1408 .f32} (harg9 : arg9.IsWhole) {arg10 : Memref sig .tc .vmem S256x1408 .bf16} (harg10 : arg10.IsWhole) {arg11 : Memref sig .tc .vmem S2x256x1408 .bf16} (harg11 : arg11.IsWhole) {arg12 : Memref sig .tc .vmem S288x1408 .f32} (harg12 : arg12.IsWhole) {arg13 : Memref sig .tc .vmem S288x1408 .f32} (harg13 : arg13.IsWhole)
    (x0 : Vec Ideal S256x1408 .bf16) (x1 : Vec Ideal S32x1408 .bf16) (x2 : Vec Ideal S256x1408 .bf16) (x3 : Vec Ideal S32x1408 .bf16) (x4 : Vec Ideal S3x1408 .f32) (x5 : Vec Ideal S3x1408 .f32) (x6 : Vec Ideal S1x1408 .f32) (x7 : Vec Ideal S1x1408 .f32) (r : Fin 256) (s : Fin 1408)

include harg2 harg3 harg4 harg5 harg6 harg7 harg8 harg9 harg10 harg11 harg12 harg13 in
theorem out8_at : out0_A_8 c i _ harg2 _ harg3 _ harg4 _ harg5 _ harg6 _ harg7 _ harg8 _ harg9 _ harg10 _ harg11 _ harg12 _ harg13 x0 x1 x2 x3 x4 x5 x6 x7 (ix2 r s)
    = silu (bpre (i 1).val x0 x1 x4 x6 r s) * bpre (i 1).val x2 x3 x5 x7 r s := by
  unfold out0_A_8
  rw [View.read_writes_eq_canon _ _ _ (fun _ => cover0_A_8 ..)]
  unfold kernelRun0_A
  dsimp only
  sl_unfold_words
  simp only [View.readAt_eq_ld, Memref.IsWhole.read_unread]
  rw [View.canon_unit_zero Mm.zero2]
  simp only [View.ld_unit_zero (S := S256x1408) Mm.zero2, View.ld_unit_zero (S := S32x1408) Mm.zero2, View.ld_unit_zero (S := S1x1408) Mm.zero2]
  refine (pay3_at _ _ r s).trans ?_
  refine congrArg₂ (fun x y => silu x * y) ((pay9_at _ _ _ _ _ _ _ r s).trans ?_) ((pay10_at _ _ _ _ _ _ _ r s).trans ?_)
  · have h := fill arg12.view (i 1).val x0 x1 (A := k0_pay5 x0) (fun j => by simp only [k0_pay5, pointwise]) (pay4_at i x1)
    exact conv3_congr (h 30 2 rfl _ _ _ r s) (ldrow x4 0 s _) (h 31 1 rfl _ _ _ r s) (ldrow x4 1 s _) (h 32 0 rfl _ _ _ r s) (ldrow x4 2 s _) rfl
  · have h := fill arg13.view (i 1).val x2 x3 (A := k0_pay7 x2) (fun j => by simp only [k0_pay7, pointwise]) (pay6_at i x3)
    exact conv3_congr (h 30 2 rfl _ _ _ r s) (ldrow x5 0 s _) (h 31 1 rfl _ _ _ r s) (ldrow x5 1 s _) (h 32 0 rfl _ _ _ r s) (ldrow x5 2 s _) rfl

include harg2 harg3 harg4 harg5 harg6 harg7 harg8 harg9 harg10 harg11 harg12 harg13 in
theorem out9_at (h : Fin 2) : out0_A_9 c i _ harg2 _ harg3 _ harg4 _ harg5 _ harg6 _ harg7 _ harg8 _ harg9 _ harg10 _ harg11 _ harg12 _ harg13 x0 x1 x2 x3 x4 x5 x6 x7 (ix3 h r s)
    = if h.val = 0 then bpre (i 1).val x0 x1 x4 x6 r s else bpre (i 1).val x2 x3 x5 x7 r s := by
  unfold out0_A_9
  rw [View.read_writes_eq_canon _ _ _ (fun _ => cover0_A_9 ..)]
  unfold kernelRun0_A
  dsimp only
  sl_unfold_words
  simp only [View.readAt_eq_ld, Memref.IsWhole.read_unread]
  simp only [View.ld_unit_zero (S := S256x1408) Mm.zero2, View.ld_unit_zero (S := S32x1408) Mm.zero2, View.ld_unit_zero (S := S1x1408) Mm.zero2]
  refine (two_at _ _ _ _ h r s).trans (if_congr Iff.rfl ((pay1_at r s _).trans ((pay11_at _ _ _ _ _ _ _ r s).trans ((pay9_at _ _ _ _ _ _ _ r s).trans ?_)))
    ((pay2_at r s _).trans ((pay10_at _ _ _ _ _ _ _ r s).trans ?_)))
  · have h := fill arg12.view (i 1).val x0 x1 (A := k0_pay5 x0) (fun j => by simp only [k0_pay5, pointwise]) (pay4_at i x1)
    exact conv3_congr (h 30 2 rfl _ _ _ r s) (ldrow x4 0 s _) (h 31 1 rfl _ _ _ r s) (ldrow x4 1 s _) (h 32 0 rfl _ _ _ r s) (ldrow x4 2 s _) rfl
  · have h := fill arg13.view (i 1).val x2 x3 (A := k0_pay7 x2) (fun j => by simp only [k0_pay7, pointwise]) (pay6_at i x3)
    exact conv3_congr (h 30 2 rfl _ _ _ r s) (ldrow x5 0 s _) (h 31 1 rfl _ _ _ r s) (ldrow x5 1 s _) (h 32 0 rfl _ _ _ r s) (ldrow x5 2 s _) rfl

end

/-! ## The blocks of the arguments -/

variable (m : (ℓ : Loc nD τ sig) → Buf (Elt Ideal) ℓ)

abbrev a0 (c : Dev nD) : Vec Ideal S4096x5632 .bf16 := m (c.tc.loc main_arg0)
abbrev a1 (c : Dev nD) : Vec Ideal S3x5632 .f32 := m (c.tc.loc main_arg1)
abbrev a2 (c : Dev nD) : Vec Ideal S1x5632 .f32 := m (c.tc.loc main_arg2)

theorem idx_facts : ∀ t : Fin grid0.N, (win0_0.index t 0 = t.val % 16 ∧ win0_0.index t 1 = t.val / 16 ∧ win0_1.index t 0 = 8 * (t.val % 16) - 1 ∧ win0_1.index t 1 = t.val / 16 ∧ win0_4.index t 0 = 0 ∧ win0_4.index t 1 = t.val / 16 ∧ win0_6.index t 0 = 0 ∧ win0_6.index t 1 = t.val / 16)
    ∧ (win0_2.index t 0 = t.val % 16 ∧ win0_2.index t 1 = 2 + t.val / 16 ∧ win0_3.index t 0 = 8 * (t.val % 16) - 1 ∧ win0_3.index t 1 = 2 + t.val / 16 ∧ win0_5.index t 0 = 0 ∧ win0_5.index t 1 = 2 + t.val / 16 ∧ win0_7.index t 0 = 0 ∧ win0_7.index t 1 = 2 + t.val / 16) ∧ win0_8.index t 0 = t.val % 16 ∧ win0_8.index t 1 = t.val / 16 ∧ win0_9.index t 0 = 0 ∧ win0_9.index t 1 = t.val % 16 ∧ win0_9.index t 2 = t.val / 16 ∧ (grid0.coords t 1).val = t.val % 16 := by decide +kernel

/-- The row `r` and the column `s` that grid point `t` works on. -/
def gr (t : Fin cfg0.N) (r : Fin 256) : Fin 4096 := ⟨256 * (t.val % 16) + r.val, by omega⟩
def gc (t : Fin cfg0.N) (s : Fin 1408) : Fin 2816 :=
  ⟨1408 * (t.val / 16) + s.val, by have := lt_of_lt_of_eq t.isLt (show cfg0.N = 32 from N_0); omega⟩
def gz (e : Fin 2) (t : Fin cfg0.N) (s : Fin 1408) : Fin 5632 := ⟨2816 * e.val + (gc t s).val, by have := (gc t s).isLt; have := e.isLt; omega⟩

theorem bpre_g (c : Dev nD) (t : Fin cfg0.N) (r : Fin 256) (s : Fin 1408) :
    bpre (grid0.coords t 1).val (iblk m c 0 t) (iblk m c 1 t) (iblk m c 4 t) (iblk m c 6 t) r s
      = pre (a0 m c) (a1 m c) (a2 m c) (gr t r) (gz 0 t s) := by
  obtain ⟨⟨x0, x1, h0, h1, w0, w1, b0, b1⟩, -, -, -, -, -, -, hc⟩ := idx_facts t
  unfold bpre pre
  rw [hc]
  refine conv3_eq (fun k => ?_) (fun k => ?_) ?_
  · refine btap_tap (by decide) (fun r R hR => ?_) (fun hn r R hR => ?_) _ r (gr t r) rfl
    · refine (congrFun (V_main_arg0 m c) _).trans (congrArg _ (Mm.idx2 (Mm.at' 256 r.val R.val x0 (by omega)) (Mm.at' 1408 s.val (2816 * 0 + (1408 * (t.val / 16) + s.val)) x1 (by omega))))
    · refine (congrFun (V_main_arg0 m c) _).trans (congrArg _ (Mm.idx2 (Mm.at' 32 r.val R.val h0 (by omega)) (Mm.at' 1408 s.val (2816 * 0 + (1408 * (t.val / 16) + s.val)) h1 (by omega))))
  · refine (congrFun (V_main_arg1 m c) _).trans (congrArg _ (Mm.idx2 (Mm.at' 3 k.val k.val w0 (by omega)) (Mm.at' 1408 s.val (2816 * 0 + (1408 * (t.val / 16) + s.val)) w1 (by omega))))
  · refine (congrFun (V_main_arg2 m c) _).trans (congrArg _ (Mm.idx2 ?_ ?_))
    · show win0_6.index t 0 * 1 + 1 * 0 = 0; rw [b0]
    · exact Mm.at' 1408 s.val (2816 * 0 + (1408 * (t.val / 16) + s.val)) b1 (by omega)

theorem bpre_v (c : Dev nD) (t : Fin cfg0.N) (r : Fin 256) (s : Fin 1408) :
    bpre (grid0.coords t 1).val (iblk m c 2 t) (iblk m c 3 t) (iblk m c 5 t) (iblk m c 7 t) r s
      = pre (a0 m c) (a1 m c) (a2 m c) (gr t r) (gz 1 t s) := by
  obtain ⟨-, ⟨x0, x1, h0, h1, w0, w1, b0, b1⟩, -, -, -, -, -, hc⟩ := idx_facts t
  unfold bpre pre
  rw [hc]
  refine conv3_eq (fun k => ?_) (fun k => ?_) ?_
  · refine btap_tap (by decide) (fun r R hR => ?_) (fun hn r R hR => ?_) _ r (gr t r) rfl
    · refine (congrFun (V_main_arg0 m c) _).trans (congrArg _ (Mm.idx2 (Mm.at' 256 r.val R.val x0 (by omega)) (Mm.at' 1408 s.val (2816 * 1 + (1408 * (t.val / 16) + s.val)) x1 (by omega))))
    · refine (congrFun (V_main_arg0 m c) _).trans (congrArg _ (Mm.idx2 (Mm.at' 32 r.val R.val h0 (by omega)) (Mm.at' 1408 s.val (2816 * 1 + (1408 * (t.val / 16) + s.val)) h1 (by omega))))
  · refine (congrFun (V_main_arg1 m c) _).trans (congrArg _ (Mm.idx2 (Mm.at' 3 k.val k.val w0 (by omega)) (Mm.at' 1408 s.val (2816 * 1 + (1408 * (t.val / 16) + s.val)) w1 (by omega))))
  · refine (congrFun (V_main_arg2 m c) _).trans (congrArg _ (Mm.idx2 ?_ ?_))
    · show win0_7.index t 0 * 1 + 1 * 0 = 0; rw [b0]
    · exact Mm.at' 1408 s.val (2816 * 1 + (1408 * (t.val / 16) + s.val)) b1 (by omega)

/-! ## The results -/

theorem flushed8 (c : Dev nD) (t : Fin cfg0.N) :
    (dats m 0 c).flushed 8 t = ((cfg0.win 8).blk t).view.read (Elt Ideal) (G8 (a0 m c) (a1 m c) (a2 m c)) := by
  obtain ⟨-, -, q0, q1, -⟩ := idx_facts t
  rw [Value.flushed8_A]
  funext y
  obtain ⟨r, s, rfl⟩ := Mm.ex2 256 1408 y
  rw [View.read_apply]
  refine (out8_at (grid0.coords t) (hs0_0 t) (hs0_1 t) (hs0_2 t) (hs0_3 t) (hs0_4 t) (hs0_5 t) (hs0_6 t) (hs0_7 t) (hs0_8 t) (hs0_9 t) (Memref.isWhole_whole _) (Memref.isWhole_whole _) (iblk m c 0 t) (iblk m c 1 t) (iblk m c 2 t) (iblk m c 3 t) (iblk m c 4 t) (iblk m c 5 t) (iblk m c 6 t) (iblk m c 7 t) r s).trans ?_
  have e : ((cfg0.win 8).blk t).view.emb (ix2 r s) = ix2 (gr t r) (gc t s) := Mm.idx2
    (Mm.at' 256 r.val (256 * (t.val % 16) + r.val) q0 (by omega))
    (Mm.at' 1408 s.val (1408 * (t.val / 16) + s.val) q1 (by omega))
  rw [e, bpre_g m c t r s, bpre_v m c t r s]
  unfold G8
  exact congrArg₂ (fun x y => silu (pre _ _ _ _ x) * pre _ _ _ _ y) (Fin.ext (by show 2816 * 0 + (gc t s).val = (gc t s).val; omega)) rfl

theorem final8 (c : Dev nD) : (dats m 0 c).arrAt 8 cfg0.N = G8 (a0 m c) (a1 m c) (a2 m c) :=
  (dats m 0 c).arrAt_eq_of_cover 8 _ (fun t _ => flushed8 m c t) fun i => by
    have h1 : (i 0 : Nat) < 4096 := (i 0).isLt
    have h2 : (i 1 : Nat) < 2816 := (i 1).isLt
    have hN : cfg0.N = 32 := N_0
    obtain ⟨t, ht⟩ : ∃ t : Fin cfg0.N, t.val = (i 1 : Nat) / 1408 * 16 + (i 0 : Nat) / 256 := ⟨⟨(i 1 : Nat) / 1408 * 16 + (i 0 : Nat) / 256, by omega⟩, rfl⟩
    obtain ⟨-, -, q0, q1, -⟩ := idx_facts t
    exact ⟨t, flush0_8 t, Mm.memv (Mm.mem2 256 1408 q0 q1 (by omega) (by omega))⟩

theorem flushed9 (c : Dev nD) (t : Fin cfg0.N) :
    (dats m 0 c).flushed 9 t = ((cfg0.win 9).blk t).view.read (Elt Ideal) (G9 (a0 m c) (a1 m c) (a2 m c)) := by
  obtain ⟨-, -, -, -, q0, q1, q2, -⟩ := idx_facts t
  rw [Value.flushed9_A]
  funext y
  obtain ⟨h, r, s, rfl⟩ : ∃ (h : Fin 2) (r : Fin 256) (s : Fin 1408), y = ix3 h r s := ⟨y 0, y 1, y 2, ValueIdx.eq_ix3 y⟩
  rw [View.read_apply]
  refine (out9_at (grid0.coords t) (hs0_0 t) (hs0_1 t) (hs0_2 t) (hs0_3 t) (hs0_4 t) (hs0_5 t) (hs0_6 t) (hs0_7 t) (hs0_8 t) (hs0_9 t) (Memref.isWhole_whole _) (Memref.isWhole_whole _) (iblk m c 0 t) (iblk m c 1 t) (iblk m c 2 t) (iblk m c 3 t) (iblk m c 4 t) (iblk m c 5 t) (iblk m c 6 t) (iblk m c 7 t) r s h).trans ?_
  have e : ((cfg0.win 9).blk t).view.emb (ix3 h r s) = ix3 h (gr t r) (gc t s) := Mm.idx3
    (Mm.at' 2 h.val h.val q0 (by omega))
    (Mm.at' 256 r.val (256 * (t.val % 16) + r.val) q1 (by omega))
    (Mm.at' 1408 s.val (1408 * (t.val / 16) + s.val) q2 (by omega))
  rw [e, bpre_g m c t r s, bpre_v m c t r s]
  match h with
  | 0 => rfl
  | 1 => rfl

theorem final9 (c : Dev nD) : (dats m 0 c).arrAt 9 cfg0.N = G9 (a0 m c) (a1 m c) (a2 m c) :=
  (dats m 0 c).arrAt_eq_of_cover 9 _ (fun t _ => flushed9 m c t) fun i => by
    have h0 : (i 0 : Nat) < 2 := (i 0).isLt
    have h1 : (i 1 : Nat) < 4096 := (i 1).isLt
    have h2 : (i 2 : Nat) < 2816 := (i 2).isLt
    have hN : cfg0.N = 32 := N_0
    obtain ⟨t, ht⟩ : ∃ t : Fin cfg0.N, t.val = (i 2 : Nat) / 1408 * 16 + (i 1 : Nat) / 256 := ⟨⟨(i 2 : Nat) / 1408 * 16 + (i 1 : Nat) / 256, by omega⟩, rfl⟩
    obtain ⟨-, -, -, -, q0, q1, q2, -⟩ := idx_facts t
    refine ⟨t, flush0_9 t, ?_⟩
    show i ∈ ((View.whole main_v0_1).slice (win0_9.rect t)).set
    rw [View.set_slice_whole, Rect.mem_set_unit]
    intro a
    match a with
    | ⟨0, _⟩ => show win0_9.index t 0 * 2 ≤ (i 0 : Nat) ∧ (i 0 : Nat) < win0_9.index t 0 * 2 + 2; rw [q0]; omega
    | ⟨1, _⟩ => show win0_9.index t 1 * 256 ≤ (i 1 : Nat) ∧ (i 1 : Nat) < win0_9.index t 1 * 256 + 256; rw [q1]; omega
    | ⟨2, _⟩ => show win0_9.index t 2 * 1408 ≤ (i 2 : Nat) ∧ (i 2 : Nat) < win0_9.index t 2 * 1408 + 1408; rw [q2]; omega

/-- What every run ends with. -/
theorem run (ρ : Dev nD → PrngReg) : θ_run defs (onTc (τ := τ) (main (F := Ideal))) ⟨m, fun _ => 0, ρ⟩ fun r => ∀ c : Dev nD,
      r.2.mem (c.tc.loc main_v0_0) = G8 (a0 m c) (a1 m c) (a2 m c)
      ∧ r.2.mem (c.tc.loc main_v0_1) = G9 (a0 m c) (a1 m c) (a2 m c) ∧ Mm.kept m r.2.mem c main_arg0 ∧ Mm.kept m r.2.mem c main_arg1 ∧ Mm.kept m r.2.mem c main_arg2 :=
  (θ_run defs _ _).mono (fun _ h c => ⟨((h c).1.trans (final8 m c)), ((h c).2.1.trans (final9 m c)), (h c).2.2⟩) (Value.run_blocks m ρ)

end Cert.Kernel47Ideal.Cnv

namespace Cert.Reference47Ideal.Cnv

open Reference47Ideal Reference47Ideal.Read Idealize ShloMosaic ShloMosaic.TcCoe SL.Sem Conv
open Kernel47Ideal.Cnv (pre G8 G9)

/-! ## The reference's result, entry by entry -/

theorem padded (x0 : Vec Ideal S4096x5632 .bf16) (j : S4098x5632.Idx) (k : ℕ) (r : Fin 4096) (z : Fin 5632) (h0 : (j 0).val + k = 2 + r.val) (h1 : (j 1).val = z.val) :
    val_main_v1 (F := Ideal) x0 j = tap (a := 4096) (b := 5632) x0 k r z := by
  unfold val_main_v1
  refine (pad_tap (a := 4096) (b := 5632) (p := 4098) (lo := 2) _ _ _ _ (fun i => ?_) j k r z h0 h1).trans ?_
  · exact (val_main_call0_v0_apply (F := Ideal) i).trans (by rw [val_main_c_apply]; show (((0#32).toInt : ℝ) : EReal) = 0; simp)
  · unfold tap
    exact if_congr Iff.rfl (val_main_v0_apply (F := Ideal) x0 _) rfl

section
variable (x0 : Vec Ideal S4096x5632 .bf16) (x1 : Vec Ideal S3x5632 .f32) (x2 : Vec Ideal S1x5632 .f32)

theorem ref23 (r : Fin 4096) (z : Fin 5632) : val_main_v23 (F := Ideal) x0 x1 x2 (ix2 r z) = pre x0 x1 x2 r z := by
  simp only [val_main_v2_apply, val_main_v3_apply, val_main_v4_apply, val_main_v5_apply, val_main_v6_apply, val_main_v7_apply, val_main_v8_apply, val_main_v9_apply, val_main_v10_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, Ideal.mulf_def, Ideal.addf_def]
  rw [padded x0 _ 2 r z (by show r.val + 2 = 2 + r.val; omega) rfl, padded x0 _ 1 r z (by show 1 + r.val + 1 = 2 + r.val; omega) rfl,
    padded x0 _ 0 r z (by show 2 + r.val + 0 = 2 + r.val; omega) rfl]
  refine conv3_congr rfl ?_ rfl ?_ rfl ?_ (congrArg x2 (Mm.idx2 rfl rfl)) <;> exact congrArg x1 (Mm.idx2 rfl (Nat.mod_eq_of_lt z.isLt))

theorem ref24 (i : S4096x2816.Idx) : val_main_v24 (F := Ideal) x0 x1 x2 i
    = pre x0 x1 x2 ⟨(i 0).val, (i 0).isLt⟩ ⟨(i 1).val, lt_trans (i 1).isLt (by decide : 2816 < 5632)⟩ := by
  rw [val_main_v24_apply]
  refine Eq.trans ?_ (ref23 x0 x1 x2 _ _)
  exact congrArg _ (Mm.idx2 rfl rfl)

theorem ref25 (i : S4096x2816.Idx) : val_main_v25 (F := Ideal) x0 x1 x2 i
    = pre x0 x1 x2 ⟨(i 0).val, (i 0).isLt⟩ ⟨2816 + (i 1).val, by have h : (i 1).val < 2816 := (i 1).isLt; omega⟩ := by
  rw [val_main_v25_apply]
  refine Eq.trans ?_ (ref23 x0 x1 x2 _ _)
  exact congrArg _ (Mm.idx2 rfl rfl)

theorem ref8 : val_main_v28 (F := Ideal) x0 x1 x2 = G8 x0 x1 x2 := by
  funext i
  simp only [val_main_v28_apply, val_main_v27_apply, val_main_v26_apply, val_main_call1_v0_apply, val_main_call1_v1_apply, val_main_call1_v2_apply, val_main_call1_v3_apply, val_main_call1_v4_apply, val_main_call1_v5_apply, val_main_call1_cst_apply, val_main_call1_cst_0_apply, ref24, ref25, Ideal.mulf_def, Ideal.addf_def, Ideal.hostDivf_def, Ideal.hostUnary_exp_def, Ideal.hostNegf_def, Ideal.negf_def, one_bits]
  rfl

theorem ref9 : val_main_v32 (F := Ideal) x0 x1 x2 = G9 x0 x1 x2 := by
  funext i
  obtain ⟨h, r, s, rfl⟩ : ∃ (h : Fin 2) (r : Fin 4096) (s : Fin 2816), i = ix3 h r s := ⟨i 0, i 1, i 2, ValueIdx.eq_ix3 i⟩
  refine (val_main_v32_apply (F := Ideal) x0 x1 x2 _).trans ?_
  show val_main_v31 (F := Ideal) x0 x1 x2 _ = _
  unfold val_main_v31
  match h with
  | 0 =>
    refine (concatenate_pair_apply_left (t := S2x4096x2816) (s₁ := S1x4096x2816) (s₂ := S1x4096x2816) (0 : Fin 3) _ _ _ _ rfl (ix3 0 r s) fun b => ?_).trans ?_
    · match b with
      | ⟨0, _⟩ => rfl
      | ⟨1, _⟩ => rfl
      | ⟨2, _⟩ => rfl
    · refine (val_main_v29_apply (F := Ideal) x0 x1 x2 _).trans ((ref24 x0 x1 x2 _).trans ?_)
      exact congrArg (pre x0 x1 x2 r) (Fin.ext (by show s.val = 2816 * 0 + s.val; omega))
  | 1 =>
    refine (concatenate_pair_apply_right (t := S2x4096x2816) (s₁ := S1x4096x2816) (s₂ := S1x4096x2816) (0 : Fin 3) _ _ _ _ rfl rfl (ix3 0 r s) (fun b hb => ?_) ?_).trans ?_
    · match b with
      | ⟨0, _⟩ => exact absurd rfl hb
      | ⟨1, _⟩ => rfl
      | ⟨2, _⟩ => rfl
    · rfl
    · exact (val_main_v30_apply (F := Ideal) x0 x1 x2 _).trans (ref25 x0 x1 x2 _)

end

end Cert.Reference47Ideal.Cnv

namespace Cert.Proof.K47
open Idealize ShloMosaic SL.Sem

/-- The reference ends. -/
theorem frameRef : quiescent_Reference47Ideal := fun m ρ _ =>
  (θ_run Reference47Ideal.defs _ _).mono (fun r h => ⟨fun c => (h c).2.2, sem_eq_zero_of_no_sems (by decide) r.2⟩)
    (Reference47Ideal.Value.run m ρ)

/-- The call's results are the reference's. -/
theorem algebraic : algebraic_Kernel47Ideal_Reference47Ideal := by
  intro m ρ m' ρ' hpre hargs
  refine ⟨_, _, Kernel47Ideal.Cnv.run m ρ, (θ_run Reference47Ideal.defs _ _).mono (fun r h c => ?_)
    (Reference47Ideal.Value.run m' ρ')⟩
  obtain ⟨h0, h1, hk⟩ := h c
  obtain ⟨e0, e1, e2⟩ := hargs c
  refine ⟨?_, ?_, hk⟩
  · refine h0.trans ((Reference47Ideal.Read.val_main_v28_eq _ _).trans ?_)
    rw [e0, e1, e2]
    exact Reference47Ideal.Cnv.ref8 _ _ _
  · refine h1.trans ((Reference47Ideal.Read.val_main_v32_eq _ _ _).trans ?_)
    rw [e0, e1, e2]
    exact Reference47Ideal.Cnv.ref9 _ _ _

end Cert.Proof.K47
-- ==== Proof.lean ====
/-
  The claim of this certificate: the frames of the programs, the idealization of the kernels, and the equality of the
  kernels' results with the references' on the extended reals. The mathematics is in the modules below `Proof/`.
-/
module

public import proofs.«01_k».proof.Defs
public import proofs.«01_k».proof.Proof.Gen.Kernel
public import proofs.«01_k».proof.Proof.Gen.Kernel.Frame
public import proofs.«01_k».proof.Proof.Gen.KernelIdeal.Frame
public import proofs.«01_k».proof.Proof.Gen.ReferenceIdeal.Run
public import proofs.«01_k».proof.Proof.Attn.Claim
public import proofs.«01_k».proof.Proof.Mm.P2
public import proofs.«01_k».proof.Proof.Mm.P3
public import proofs.«01_k».proof.Proof.Mm.P4
public import proofs.«01_k».proof.Proof.Mm.P5
public import proofs.«01_k».proof.Proof.Mm.P6
public import proofs.«01_k».proof.Proof.Mm.P7
public import proofs.«01_k».proof.Proof.Mm.P8
public import proofs.«01_k».proof.Proof.Mm.P9
public import proofs.«01_k».proof.Proof.Mm.P10
public import proofs.«01_k».proof.Proof.Mm.P11
public import proofs.«01_k».proof.Proof.Mm.P12
public import proofs.«01_k».proof.Proof.Mm.P13
public import proofs.«01_k».proof.Proof.Mm.P14
public import proofs.«01_k».proof.Proof.Mm.P15
public import proofs.«01_k».proof.Proof.Mm.P16
public import proofs.«01_k».proof.Proof.Mm.P17
public import proofs.«01_k».proof.Proof.Mm.P18
public import proofs.«01_k».proof.Proof.Mm.P19
public import proofs.«01_k».proof.Proof.Mm.P20
public import proofs.«01_k».proof.Proof.Mm.P21
public import proofs.«01_k».proof.Proof.Mm.P22
public import proofs.«01_k».proof.Proof.Mm.P23
public import proofs.«01_k».proof.Proof.Mm.P24
public import proofs.«01_k».proof.Proof.Mm.P25
public import proofs.«01_k».proof.Proof.Mm.P26
public import proofs.«01_k».proof.Proof.Mm.P27
public import proofs.«01_k».proof.Proof.Mm.P28
public import proofs.«01_k».proof.Proof.Mm.P29
public import proofs.«01_k».proof.Proof.Mm.P30
public import proofs.«01_k».proof.Proof.Mm.P31
public import proofs.«01_k».proof.Proof.Mm.P32
public import proofs.«01_k».proof.Proof.Mm.P33
public import proofs.«01_k».proof.Proof.Attn.Forward
public import proofs.«01_k».proof.Proof.Norm.K35
public import proofs.«01_k».proof.Proof.Norm.K36
public import proofs.«01_k».proof.Proof.Norm.K37
public import proofs.«01_k».proof.Proof.Norm.K38
public import proofs.«01_k».proof.Proof.Norm.K39
public import proofs.«01_k».proof.Proof.Norm.K40
public import proofs.«01_k».proof.Proof.Norm.K41
public import proofs.«01_k».proof.Proof.Norm.K42
public import proofs.«01_k».proof.Proof.Norm.K43
public import proofs.«01_k».proof.Proof.Norm.K44
public import proofs.«01_k».proof.Proof.Conv.K45
public import proofs.«01_k».proof.Proof.Conv.K46
public import proofs.«01_k».proof.Proof.Conv.K47

@[expose] public section

noncomputable section

namespace Cert.Proof

open Idealize.ShloMosaic Idealize.SL.Sem

theorem claim : Cert.Claim :=
  ⟨Kernel.Gen.facts, KernelIdeal.Gen.facts, ReferenceIdeal.Gen.facts,
    Kernel2.Gen.facts, Kernel2Ideal.Gen.facts, Reference2Ideal.Gen.facts,
    Kernel3.Gen.facts, Kernel3Ideal.Gen.facts, Reference3Ideal.Gen.facts,
    Kernel4.Gen.facts, Kernel4Ideal.Gen.facts, Reference4Ideal.Gen.facts,
    Kernel5.Gen.facts, Kernel5Ideal.Gen.facts, Reference5Ideal.Gen.facts,
    Kernel6.Gen.facts, Kernel6Ideal.Gen.facts, Reference6Ideal.Gen.facts,
    Kernel7.Gen.facts, Kernel7Ideal.Gen.facts, Reference7Ideal.Gen.facts,
    Kernel8.Gen.facts, Kernel8Ideal.Gen.facts, Reference8Ideal.Gen.facts,
    Kernel9.Gen.facts, Kernel9Ideal.Gen.facts, Reference9Ideal.Gen.facts,
    Kernel10.Gen.facts, Kernel10Ideal.Gen.facts, Reference10Ideal.Gen.facts,
    Kernel11.Gen.facts, Kernel11Ideal.Gen.facts, Reference11Ideal.Gen.facts,
    Kernel12.Gen.facts, Kernel12Ideal.Gen.facts, Reference12Ideal.Gen.facts,
    Kernel13.Gen.facts, Kernel13Ideal.Gen.facts, Reference13Ideal.Gen.facts,
    Kernel14.Gen.facts, Kernel14Ideal.Gen.facts, Reference14Ideal.Gen.facts,
    Kernel15.Gen.facts, Kernel15Ideal.Gen.facts, Reference15Ideal.Gen.facts,
    Kernel16.Gen.facts, Kernel16Ideal.Gen.facts, Reference16Ideal.Gen.facts,
    Kernel17.Gen.facts, Kernel17Ideal.Gen.facts, Reference17Ideal.Gen.facts,
    Kernel18.Gen.facts, Kernel18Ideal.Gen.facts, Reference18Ideal.Gen.facts,
    Kernel19.Gen.facts, Kernel19Ideal.Gen.facts, Reference19Ideal.Gen.facts,
    Kernel20.Gen.facts, Kernel20Ideal.Gen.facts, Reference20Ideal.Gen.facts,
    Kernel21.Gen.facts, Kernel21Ideal.Gen.facts, Reference21Ideal.Gen.facts,
    Kernel22.Gen.facts, Kernel22Ideal.Gen.facts, Reference22Ideal.Gen.facts,
    Kernel23.Gen.facts, Kernel23Ideal.Gen.facts, Reference23Ideal.Gen.facts,
    Kernel24.Gen.facts, Kernel24Ideal.Gen.facts, Reference24Ideal.Gen.facts,
    Kernel25.Gen.facts, Kernel25Ideal.Gen.facts, Reference25Ideal.Gen.facts,
    Kernel26.Gen.facts, Kernel26Ideal.Gen.facts, Reference26Ideal.Gen.facts,
    Kernel27.Gen.facts, Kernel27Ideal.Gen.facts, Reference27Ideal.Gen.facts,
    Kernel28.Gen.facts, Kernel28Ideal.Gen.facts, Reference28Ideal.Gen.facts,
    Kernel29.Gen.facts, Kernel29Ideal.Gen.facts, Reference29Ideal.Gen.facts,
    Kernel30.Gen.facts, Kernel30Ideal.Gen.facts, Reference30Ideal.Gen.facts,
    Kernel31.Gen.facts, Kernel31Ideal.Gen.facts, Reference31Ideal.Gen.facts,
    Kernel32.Gen.facts, Kernel32Ideal.Gen.facts, Reference32Ideal.Gen.facts,
    Kernel33.Gen.facts, Kernel33Ideal.Gen.facts, Reference33Ideal.Gen.facts,
    Kernel34.Gen.facts, Kernel34Ideal.Gen.facts, Reference34Ideal.Gen.facts,
    Kernel35.Gen.facts, Kernel35Ideal.Gen.facts, Reference35Ideal.Gen.facts,
    Kernel36.Gen.facts, Kernel36Ideal.Gen.facts, Reference36Ideal.Gen.facts,
    Kernel37.Gen.facts, Kernel37Ideal.Gen.facts, Reference37Ideal.Gen.facts,
    Kernel38.Gen.facts, Kernel38Ideal.Gen.facts, Reference38Ideal.Gen.facts,
    Kernel39.Gen.facts, Kernel39Ideal.Gen.facts, Reference39Ideal.Gen.facts,
    Kernel40.Gen.facts, Kernel40Ideal.Gen.facts, Reference40Ideal.Gen.facts,
    Kernel41.Gen.facts, Kernel41Ideal.Gen.facts, Reference41Ideal.Gen.facts,
    Kernel42.Gen.facts, Kernel42Ideal.Gen.facts, Reference42Ideal.Gen.facts,
    Kernel43.Gen.facts, Kernel43Ideal.Gen.facts, Reference43Ideal.Gen.facts,
    Kernel44.Gen.facts, Kernel44Ideal.Gen.facts, Reference44Ideal.Gen.facts,
    Kernel45.Gen.facts, Kernel45Ideal.Gen.facts, Reference45Ideal.Gen.facts,
    Kernel46.Gen.facts, Kernel46Ideal.Gen.facts, Reference46Ideal.Gen.facts,
    Kernel47.Gen.facts, Kernel47Ideal.Gen.facts, Reference47Ideal.Gen.facts,
    Attn.preFacts,
    fun m ρ _ => Kernel.Gen.frame m ρ,
    fun m ρ _ => KernelIdeal.Gen.frame m ρ,
    fun m ρ _ => KernelIdeal.Gen.frame m ρ,
    fun m ρ _ => Attn.frameRef m ρ,
    fun m ρ _ => Attn.frameRef m ρ,
    fun m ρ _ => Kernel2.Gen.frame m ρ, fun m ρ _ => Kernel2Ideal.Gen.frame m ρ, K2.frameRef,
    fun m ρ _ => Kernel3.Gen.frame m ρ, fun m ρ _ => Kernel3Ideal.Gen.frame m ρ, K3.frameRef,
    fun m ρ _ => Kernel4.Gen.frame m ρ, fun m ρ _ => Kernel4Ideal.Gen.frame m ρ, K4.frameRef,
    fun m ρ _ => Kernel5.Gen.frame m ρ, fun m ρ _ => Kernel5Ideal.Gen.frame m ρ, K5.frameRef,
    fun m ρ _ => Kernel6.Gen.frame m ρ, fun m ρ _ => Kernel6Ideal.Gen.frame m ρ, K6.frameRef,
    fun m ρ _ => Kernel7.Gen.frame m ρ, fun m ρ _ => Kernel7Ideal.Gen.frame m ρ, K7.frameRef,
    fun m ρ _ => Kernel8.Gen.frame m ρ, fun m ρ _ => Kernel8Ideal.Gen.frame m ρ, K8.frameRef,
    fun m ρ _ => Kernel9.Gen.frame m ρ, fun m ρ _ => Kernel9Ideal.Gen.frame m ρ, K9.frameRef,
    fun m ρ _ => Kernel10.Gen.frame m ρ, fun m ρ _ => Kernel10Ideal.Gen.frame m ρ, K10.frameRef,
    fun m ρ _ => Kernel11.Gen.frame m ρ, fun m ρ _ => Kernel11Ideal.Gen.frame m ρ, K11.frameRef,
    fun m ρ _ => Kernel12.Gen.frame m ρ, fun m ρ _ => Kernel12Ideal.Gen.frame m ρ, K12.frameRef,
    fun m ρ _ => Kernel13.Gen.frame m ρ, fun m ρ _ => Kernel13Ideal.Gen.frame m ρ, K13.frameRef,
    fun m ρ _ => Kernel14.Gen.frame m ρ, fun m ρ _ => Kernel14Ideal.Gen.frame m ρ, K14.frameRef,
    fun m ρ _ => Kernel15.Gen.frame m ρ, fun m ρ _ => Kernel15Ideal.Gen.frame m ρ, K15.frameRef,
    fun m ρ _ => Kernel16.Gen.frame m ρ, fun m ρ _ => Kernel16Ideal.Gen.frame m ρ, K16.frameRef,
    fun m ρ _ => Kernel17.Gen.frame m ρ, fun m ρ _ => Kernel17Ideal.Gen.frame m ρ, K17.frameRef,
    fun m ρ _ => Kernel18.Gen.frame m ρ, fun m ρ _ => Kernel18Ideal.Gen.frame m ρ, K18.frameRef,
    fun m ρ _ => Kernel19.Gen.frame m ρ, fun m ρ _ => Kernel19Ideal.Gen.frame m ρ, K19.frameRef,
    fun m ρ _ => Kernel20.Gen.frame m ρ, fun m ρ _ => Kernel20Ideal.Gen.frame m ρ, K20.frameRef,
    fun m ρ _ => Kernel21.Gen.frame m ρ, fun m ρ _ => Kernel21Ideal.Gen.frame m ρ, K21.frameRef,
    fun m ρ _ => Kernel22.Gen.frame m ρ, fun m ρ _ => Kernel22Ideal.Gen.frame m ρ, K22.frameRef,
    fun m ρ _ => Kernel23.Gen.frame m ρ, fun m ρ _ => Kernel23Ideal.Gen.frame m ρ, K23.frameRef,
    fun m ρ _ => Kernel24.Gen.frame m ρ, fun m ρ _ => Kernel24Ideal.Gen.frame m ρ, K24.frameRef,
    fun m ρ _ => Kernel25.Gen.frame m ρ, fun m ρ _ => Kernel25Ideal.Gen.frame m ρ, K25.frameRef,
    fun m ρ _ => Kernel26.Gen.frame m ρ, fun m ρ _ => Kernel26Ideal.Gen.frame m ρ, K26.frameRef,
    fun m ρ _ => Kernel27.Gen.frame m ρ, fun m ρ _ => Kernel27Ideal.Gen.frame m ρ, K27.frameRef,
    fun m ρ _ => Kernel28.Gen.frame m ρ, fun m ρ _ => Kernel28Ideal.Gen.frame m ρ, K28.frameRef,
    fun m ρ _ => Kernel29.Gen.frame m ρ, fun m ρ _ => Kernel29Ideal.Gen.frame m ρ, K29.frameRef,
    fun m ρ _ => Kernel30.Gen.frame m ρ, fun m ρ _ => Kernel30Ideal.Gen.frame m ρ, K30.frameRef,
    fun m ρ _ => Kernel31.Gen.frame m ρ, fun m ρ _ => Kernel31Ideal.Gen.frame m ρ, K31.frameRef,
    fun m ρ _ => Kernel32.Gen.frame m ρ, fun m ρ _ => Kernel32Ideal.Gen.frame m ρ, K32.frameRef,
    fun m ρ _ => Kernel33.Gen.frame m ρ, fun m ρ _ => Kernel33Ideal.Gen.frame m ρ, K33.frameRef,
    fun m ρ _ => Kernel34.Gen.frame m ρ, fun m ρ _ => Kernel34Ideal.Gen.frame m ρ, K34.frameRef,
    fun m ρ _ => Kernel35.Gen.frame m ρ, fun m ρ _ => Kernel35Ideal.Gen.frame m ρ, K35.frameRef,
    fun m ρ _ => Kernel36.Gen.frame m ρ, fun m ρ _ => Kernel36Ideal.Gen.frame m ρ, K36.frameRef,
    fun m ρ _ => Kernel37.Gen.frame m ρ, fun m ρ _ => Kernel37Ideal.Gen.frame m ρ, K37.frameRef,
    fun m ρ _ => Kernel38.Gen.frame m ρ, fun m ρ _ => Kernel38Ideal.Gen.frame m ρ, K38.frameRef,
    fun m ρ _ => Kernel39.Gen.frame m ρ, fun m ρ _ => Kernel39Ideal.Gen.frame m ρ, K39.frameRef,
    fun m ρ _ => Kernel40.Gen.frame m ρ, fun m ρ _ => Kernel40Ideal.Gen.frame m ρ, K40.frameRef,
    fun m ρ _ => Kernel41.Gen.frame m ρ, fun m ρ _ => Kernel41Ideal.Gen.frame m ρ, K41.frameRef,
    fun m ρ _ => Kernel42.Gen.frame m ρ, fun m ρ _ => Kernel42Ideal.Gen.frame m ρ, K42.frameRef,
    fun m ρ _ => Kernel43.Gen.frame m ρ, fun m ρ _ => Kernel43Ideal.Gen.frame m ρ, K43.frameRef,
    fun m ρ _ => Kernel44.Gen.frame m ρ, fun m ρ _ => Kernel44Ideal.Gen.frame m ρ, K44.frameRef,
    fun m ρ _ => Kernel45.Gen.frame m ρ, fun m ρ _ => Kernel45Ideal.Gen.frame m ρ, K45.frameRef,
    fun m ρ _ => Kernel46.Gen.frame m ρ, fun m ρ _ => Kernel46Ideal.Gen.frame m ρ, K46.frameRef,
    fun m ρ _ => Kernel47.Gen.frame m ρ, fun m ρ _ => Kernel47Ideal.Gen.frame m ρ, K47.frameRef,
    trivial, Attn.algebraic,
    trivial, K2.algebraic,
    trivial, K3.algebraic,
    trivial, K4.algebraic,
    trivial, K5.algebraic,
    trivial, K6.algebraic,
    trivial, K7.algebraic,
    trivial, K8.algebraic,
    trivial, K9.algebraic,
    trivial, K10.algebraic,
    trivial, K11.algebraic,
    trivial, K12.algebraic,
    trivial, K13.algebraic,
    trivial, K14.algebraic,
    trivial, K15.algebraic,
    trivial, K16.algebraic,
    trivial, K17.algebraic,
    trivial, K18.algebraic,
    trivial, K19.algebraic,
    trivial, K20.algebraic,
    trivial, K21.algebraic,
    trivial, K22.algebraic,
    trivial, K23.algebraic,
    trivial, K24.algebraic,
    trivial, K25.algebraic,
    trivial, K26.algebraic,
    trivial, K27.algebraic,
    trivial, K28.algebraic,
    trivial, K29.algebraic,
    trivial, K30.algebraic,
    trivial, K31.algebraic,
    trivial, K32.algebraic,
    trivial, K33.algebraic,
    trivial, K34.algebraic,
    trivial, K35.algebraic,
    trivial, K36.algebraic,
    trivial, K37.algebraic,
    trivial, K38.algebraic,
    trivial, K39.algebraic,
    trivial, K40.algebraic,
    trivial, K41.algebraic,
    trivial, K42.algebraic,
    trivial, K43.algebraic,
    trivial, K44.algebraic,
    trivial, K45.algebraic,
    trivial, K46.algebraic,
    trivial, K47.algebraic⟩

end Cert.Proof

end
